-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonzero [hPre_scales_nonzero : Cert.Pre_scales_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonzero [hPre_scales_nonzero : Cert.Pre_scales_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_scales_nonzero [hKernelIdeal : Cert.KernelIdeal.Facts] [hPre_scales_nonzero : Cert.Pre_scales_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_scales_nonzero [hReferenceIdeal : Cert.ReferenceIdeal.Facts] [hPre_scales_nonzero : Cert.Pre_scales_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.sign_bit.Statement Cert.KernelIdeal.S256x256 .f32
  ∧ IdealRules.sign_bit.Statement Cert.KernelIdeal.S256x512 .f32

def algebraic_KernelIdeal_ReferenceIdeal_pre_scales_nonzero [hKernelIdeal : Cert.KernelIdeal.Facts] [hReferenceIdeal : Cert.ReferenceIdeal.Facts] [hPre_scales_nonzero : Cert.Pre_scales_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v10_0)) (v3 : (c : Dev Cert.KernelIdeal.nD) → Buf (Elt Ideal) ((c.tc : Thread Cert.KernelIdeal.nD Cert.KernelIdeal.τ).loc Cert.KernelIdeal.main_v10_1)) (v4 : (c : Dev Cert.KernelIdeal.nD) → Buf (Elt Ideal) ((c.tc : Thread Cert.KernelIdeal.nD Cert.KernelIdeal.τ).loc Cert.KernelIdeal.main_v10_2)) (v5 : (c : Dev Cert.KernelIdeal.nD) → Buf (Elt Ideal) ((c.tc : Thread Cert.KernelIdeal.nD Cert.KernelIdeal.τ).loc Cert.KernelIdeal.main_v14)) (v6 : (c : Dev Cert.KernelIdeal.nD) → Buf (Elt Ideal) ((c.tc : Thread Cert.KernelIdeal.nD Cert.KernelIdeal.τ).loc Cert.KernelIdeal.main_v15)) (v7 : (c : Dev Cert.KernelIdeal.nD) → Buf (Elt Ideal) ((c.tc : Thread Cert.KernelIdeal.nD Cert.KernelIdeal.τ).loc Cert.KernelIdeal.main_v16)) (v8 : (c : Dev Cert.KernelIdeal.nD) → Buf (Elt Ideal) ((c.tc : Thread Cert.KernelIdeal.nD Cert.KernelIdeal.τ).loc Cert.KernelIdeal.main_v17)) (v9 : (c : Dev Cert.KernelIdeal.nD) → Buf (Elt Ideal) ((c.tc : Thread Cert.KernelIdeal.nD Cert.KernelIdeal.τ).loc Cert.KernelIdeal.main_v18)) (v10 : (c : Dev Cert.KernelIdeal.nD) → Buf (Elt Ideal) ((c.tc : Thread Cert.KernelIdeal.nD Cert.KernelIdeal.τ).loc Cert.KernelIdeal.main_v19)) (v11 : (c : Dev Cert.KernelIdeal.nD) → Buf (Elt Ideal) ((c.tc : Thread Cert.KernelIdeal.nD Cert.KernelIdeal.τ).loc Cert.KernelIdeal.main_v20)) (v12 : (c : Dev Cert.KernelIdeal.nD) → Buf (Elt Ideal) ((c.tc : Thread Cert.KernelIdeal.nD Cert.KernelIdeal.τ).loc Cert.KernelIdeal.main_v21)) (v13 : (c : Dev Cert.KernelIdeal.nD) → Buf (Elt Ideal) ((c.tc : Thread Cert.KernelIdeal.nD Cert.KernelIdeal.τ).loc Cert.KernelIdeal.main_v22)) (v14 : (c : Dev Cert.KernelIdeal.nD) → Buf (Elt Ideal) ((c.tc : Thread Cert.KernelIdeal.nD Cert.KernelIdeal.τ).loc Cert.KernelIdeal.main_v23)) (v15 : (c : Dev Cert.KernelIdeal.nD) → Buf (Elt Ideal) ((c.tc : Thread Cert.KernelIdeal.nD Cert.KernelIdeal.τ).loc Cert.KernelIdeal.main_v24)) (v16 : (c : Dev Cert.KernelIdeal.nD) → Buf (Elt Ideal) ((c.tc : Thread Cert.KernelIdeal.nD Cert.KernelIdeal.τ).loc Cert.KernelIdeal.main_v25)) (v17 : (c : Dev Cert.KernelIdeal.nD) → Buf (Elt Ideal) ((c.tc : Thread Cert.KernelIdeal.nD Cert.KernelIdeal.τ).loc Cert.KernelIdeal.main_v10_3)) (v18 : (c : Dev Cert.KernelIdeal.nD) → Buf (Elt Ideal) ((c.tc : Thread Cert.KernelIdeal.nD Cert.KernelIdeal.τ).loc Cert.KernelIdeal.main_v10_4)) (v19 : (c : Dev Cert.KernelIdeal.nD) → Buf (Elt Ideal) ((c.tc : Thread Cert.KernelIdeal.nD Cert.KernelIdeal.τ).loc Cert.KernelIdeal.main_v26)) (v20 : (c : Dev Cert.KernelIdeal.nD) → Buf (Elt Ideal) ((c.tc : Thread Cert.KernelIdeal.nD Cert.KernelIdeal.τ).loc Cert.KernelIdeal.main_v10_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v10_0) = v2 c
          ∧ r.2.mem ((c.tc : Thread Cert.KernelIdeal.nD Cert.KernelIdeal.τ).loc Cert.KernelIdeal.main_v10_1) = v3 c
          ∧ r.2.mem ((c.tc : Thread Cert.KernelIdeal.nD Cert.KernelIdeal.τ).loc Cert.KernelIdeal.main_v10_2) = v4 c
          ∧ r.2.mem ((c.tc : Thread Cert.KernelIdeal.nD Cert.KernelIdeal.τ).loc Cert.KernelIdeal.main_v14) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_v16) = v7 c
          ∧ r.2.mem ((c.tc : Thread Cert.KernelIdeal.nD Cert.KernelIdeal.τ).loc Cert.KernelIdeal.main_v17) = v8 c
          ∧ r.2.mem ((c.tc : Thread Cert.KernelIdeal.nD Cert.KernelIdeal.τ).loc Cert.KernelIdeal.main_v18) = v9 c
          ∧ r.2.mem ((c.tc : Thread Cert.KernelIdeal.nD Cert.KernelIdeal.τ).loc Cert.KernelIdeal.main_v19) = v10 c
          ∧ r.2.mem ((c.tc : Thread Cert.KernelIdeal.nD Cert.KernelIdeal.τ).loc Cert.KernelIdeal.main_v20) = v11 c
          ∧ r.2.mem ((c.tc : Thread Cert.KernelIdeal.nD Cert.KernelIdeal.τ).loc Cert.KernelIdeal.main_v21) = v12 c
          ∧ r.2.mem ((c.tc : Thread Cert.KernelIdeal.nD Cert.KernelIdeal.τ).loc Cert.KernelIdeal.main_v22) = v13 c
          ∧ r.2.mem ((c.tc : Thread Cert.KernelIdeal.nD Cert.KernelIdeal.τ).loc Cert.KernelIdeal.main_v23) = v14 c
          ∧ r.2.mem ((c.tc : Thread Cert.KernelIdeal.nD Cert.KernelIdeal.τ).loc Cert.KernelIdeal.main_v24) = v15 c
          ∧ r.2.mem ((c.tc : Thread Cert.KernelIdeal.nD Cert.KernelIdeal.τ).loc Cert.KernelIdeal.main_v25) = v16 c
          ∧ r.2.mem ((c.tc : Thread Cert.KernelIdeal.nD Cert.KernelIdeal.τ).loc Cert.KernelIdeal.main_v10_3) = v17 c
          ∧ r.2.mem ((c.tc : Thread Cert.KernelIdeal.nD Cert.KernelIdeal.τ).loc Cert.KernelIdeal.main_v10_4) = v18 c
          ∧ r.2.mem ((c.tc : Thread Cert.KernelIdeal.nD Cert.KernelIdeal.τ).loc Cert.KernelIdeal.main_v26) = v19 c
          ∧ r.2.mem ((c.tc : Thread Cert.KernelIdeal.nD Cert.KernelIdeal.τ).loc Cert.KernelIdeal.main_v10_5) = v20 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_v8_4) = v4 c
          ∧ r.2.mem ((c.tc : Thread Cert.ReferenceIdeal.nD Cert.ReferenceIdeal.τ).loc Cert.ReferenceIdeal.main_v11) = v5 c
          ∧ r.2.mem ((c.tc : Thread Cert.ReferenceIdeal.nD Cert.ReferenceIdeal.τ).loc Cert.ReferenceIdeal.main_v12) = v6 c
          ∧ r.2.mem ((c.tc : Thread Cert.ReferenceIdeal.nD Cert.ReferenceIdeal.τ).loc Cert.ReferenceIdeal.main_v13) = v7 c
          ∧ r.2.mem ((c.tc : Thread Cert.ReferenceIdeal.nD Cert.ReferenceIdeal.τ).loc Cert.ReferenceIdeal.main_v14) = v8 c
          ∧ r.2.mem ((c.tc : Thread Cert.ReferenceIdeal.nD Cert.ReferenceIdeal.τ).loc Cert.ReferenceIdeal.main_v15) = v9 c
          ∧ r.2.mem ((c.tc : Thread Cert.ReferenceIdeal.nD Cert.ReferenceIdeal.τ).loc Cert.ReferenceIdeal.main_v16) = v10 c
          ∧ r.2.mem ((c.tc : Thread Cert.ReferenceIdeal.nD Cert.ReferenceIdeal.τ).loc Cert.ReferenceIdeal.main_v17) = v11 c
          ∧ r.2.mem ((c.tc : Thread Cert.ReferenceIdeal.nD Cert.ReferenceIdeal.τ).loc Cert.ReferenceIdeal.main_v18) = v12 c
          ∧ r.2.mem ((c.tc : Thread Cert.ReferenceIdeal.nD Cert.ReferenceIdeal.τ).loc Cert.ReferenceIdeal.main_v19) = v13 c
          ∧ r.2.mem ((c.tc : Thread Cert.ReferenceIdeal.nD Cert.ReferenceIdeal.τ).loc Cert.ReferenceIdeal.main_v20) = v14 c
          ∧ r.2.mem ((c.tc : Thread Cert.ReferenceIdeal.nD Cert.ReferenceIdeal.τ).loc Cert.ReferenceIdeal.main_v21) = v15 c
          ∧ r.2.mem ((c.tc : Thread Cert.ReferenceIdeal.nD Cert.ReferenceIdeal.τ).loc Cert.ReferenceIdeal.main_v22) = v16 c
          ∧ r.2.mem ((c.tc : Thread Cert.ReferenceIdeal.nD Cert.ReferenceIdeal.τ).loc Cert.ReferenceIdeal.main_v8_17) = v17 c
          ∧ r.2.mem ((c.tc : Thread Cert.ReferenceIdeal.nD Cert.ReferenceIdeal.τ).loc Cert.ReferenceIdeal.main_v8_18) = v18 c
          ∧ r.2.mem ((c.tc : Thread Cert.ReferenceIdeal.nD Cert.ReferenceIdeal.τ).loc Cert.ReferenceIdeal.main_v23) = v19 c
          ∧ r.2.mem ((c.tc : Thread Cert.ReferenceIdeal.nD Cert.ReferenceIdeal.τ).loc Cert.ReferenceIdeal.main_v8_20) = v20 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_scales_nonzero : Cert.Pre_scales_nonzero.Facts),
    quiescent_Kernel (hKernel := hKernel)
    ∧ quiescent_KernelIdeal (hKernelIdeal := hKernelIdeal)
    ∧ quiescent_KernelIdeal_pre_scales_nonzero (hKernelIdeal := hKernelIdeal) (hPre_scales_nonzero := hPre_scales_nonzero)
    ∧ quiescent_ReferenceIdeal (hReferenceIdeal := hReferenceIdeal)
    ∧ quiescent_ReferenceIdeal_pre_scales_nonzero (hReferenceIdeal := hReferenceIdeal) (hPre_scales_nonzero := hPre_scales_nonzero)
    ∧ preserves_Kernel_KernelIdeal
    ∧ algebraic_KernelIdeal_ReferenceIdeal_pre_scales_nonzero (hKernelIdeal := hKernelIdeal) (hReferenceIdeal := hReferenceIdeal) (hPre_scales_nonzero := hPre_scales_nonzero)
-- ==== Pre_scales_nonzero.lean ====
abbrev S2x128x4096 : Shape := ⟨3, ![2, 128, 4096]⟩
abbrev S4096 : Shape := ⟨1, ![4096]⟩
abbrev S4096x14336 : Shape := ⟨2, ![4096, 14336]⟩
abbrev S14336x4096 : Shape := ⟨2, ![14336, 4096]⟩
abbrev S14336 : Shape := ⟨1, ![14336]⟩
abbrev S_ : Shape := ⟨0, ![]⟩
abbrev S32768 : Shape := ⟨1, ![32768]⟩

class Facts : Prop where
  concatenates_S14336_S14336_S4096_S32768_d0 : Shape.Concatenates [S14336, S14336, S4096] S32768 0
  bcast_S_S32768 : S_.BroadcastsInDim S32768 (![] : Fin 0 → Fin S32768.rank)

variable [Facts]

def fn {F : FTy → Type} [FloatOps F] (main_arg0 : FVec F S2x128x4096 .bf16) (main_arg1 : FVec F S2x128x4096 .bf16) (main_arg2 : FVec F S4096 .f32) (main_arg3 : FVec F S4096x14336 .bf16) (main_arg4 : FVec F S4096x14336 .bf16) (main_arg5 : FVec F S14336x4096 .bf16) (main_arg6 : FVec F S14336 .f32) (main_arg7 : FVec F S14336 .f32) (main_arg8 : FVec F S4096 .f32) (main_arg9 : FVec F S_ .f32) (main_arg10 : FVec F S_ .f32) : IVec S32768 1 :=
  let main_v0 : FVec F S32768 .f32 := concatenate S32768 0 [⟨S14336, main_arg6⟩, ⟨S14336, main_arg7⟩, ⟨S4096, main_arg8⟩] concatenates_S14336_S14336_S4096_S32768_d0
  let main_cst : FVec F S_ .f32 := constant S_ .f32 0x00000000#32
  let main_v1 : FVec F S32768 .f32 := broadcastInDim S32768 ![] bcast_S_S32768 main_cst
  let main_v2 : IVec S32768 1 := cmpf .une main_v0 main_v1
  main_v2
-- ==== Kernel.lean ====
abbrev S2x128x4096 : Shape := ⟨3, ![2, 128, 4096]⟩
abbrev S4096 : Shape := ⟨1, ![4096]⟩
abbrev S4096x14336 : Shape := ⟨2, ![4096, 14336]⟩
abbrev S14336x4096 : Shape := ⟨2, ![14336, 4096]⟩
abbrev S14336 : Shape := ⟨1, ![14336]⟩
abbrev S_ : Shape := ⟨0, ![]⟩
abbrev S256x4096 : Shape := ⟨2, ![256, 4096]⟩
abbrev S1x4096 : Shape := ⟨2, ![1, 4096]⟩
abbrev S1 : Shape := ⟨1, ![1]⟩
abbrev S2 : Shape := ⟨1, ![2]⟩
abbrev S1x14336 : Shape := ⟨2, ![1, 14336]⟩
abbrev S4096x256 : Shape := ⟨2, ![4096, 256]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S512x256 : Shape := ⟨2, ![512, 256]⟩
abbrev S256x14336 : Shape := ⟨2, ![256, 14336]⟩
abbrev S8x4096 : Shape := ⟨2, ![8, 4096]⟩
abbrev S1x256 : Shape := ⟨2, ![1, 256]⟩
abbrev S256x256 : Shape := ⟨2, ![256, 256]⟩
abbrev S4096x512 : Shape := ⟨2, ![4096, 512]⟩
abbrev S4096x128 : Shape := ⟨2, ![4096, 128]⟩
abbrev S8x512 : Shape := ⟨2, ![8, 512]⟩
abbrev S32x8x512 : Shape := ⟨3, ![32, 8, 512]⟩
abbrev S8x256 : Shape := ⟨2, ![8, 256]⟩
abbrev S64x8x256 : Shape := ⟨3, ![64, 8, 256]⟩
abbrev S512x512 : Shape := ⟨2, ![512, 512]⟩
abbrev S1x1 : Shape := ⟨2, ![1, 1]⟩
abbrev S512 : Shape := ⟨1, ![512]⟩
abbrev S2x128 : Shape := ⟨2, ![2, 128]⟩
abbrev S2x128x14336 : Shape := ⟨3, ![2, 128, 14336]⟩

abbrev nBuf : Space → Nat
  | .hbm => 63
  | .vmem => 69
  | .smem => 3
  | _ => 0

abbrev bufTy : (tb : Table) → Fin (tcTables nBuf tb) → BufTy
  | .hbm, ⟨0, _⟩ => ⟨S2x128x4096, .bf16⟩
  | .hbm, ⟨1, _⟩ => ⟨S2x128x4096, .bf16⟩
  | .hbm, ⟨2, _⟩ => ⟨S4096, .f32⟩
  | .hbm, ⟨3, _⟩ => ⟨S4096x14336, .bf16⟩
  | .hbm, ⟨4, _⟩ => ⟨S4096x14336, .bf16⟩
  | .hbm, ⟨5, _⟩ => ⟨S14336x4096, .bf16⟩
  | .hbm, ⟨6, _⟩ => ⟨S14336, .f32⟩
  | .hbm, ⟨7, _⟩ => ⟨S14336, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S256x4096, .bf16⟩
  | .hbm, ⟨12, _⟩ => ⟨S256x4096, .bf16⟩
  | .hbm, ⟨13, _⟩ => ⟨S1x4096, .f32⟩
  | .hbm, ⟨14, _⟩ => ⟨S1, .f32⟩
  | .hbm, ⟨15, _⟩ => ⟨S1, .f32⟩
  | .hbm, ⟨16, _⟩ => ⟨S2, .f32⟩
  | .hbm, ⟨17, _⟩ => ⟨S1x14336, .f32⟩
  | .hbm, ⟨18, _⟩ => ⟨S1x14336, .f32⟩
  | .hbm, ⟨19, _⟩ => ⟨S1x4096, .f32⟩
  | .hbm, ⟨20, _⟩ => ⟨S256x4096, .fp8e4m3⟩
  | .hbm, ⟨21, _⟩ => ⟨S4096x256, .bf16⟩
  | .hbm, ⟨22, _⟩ => ⟨S4096x14336, .bf16⟩
  | .hbm, ⟨23, _⟩ => ⟨S4096x14336, .bf16⟩
  | .hbm, ⟨24, _⟩ => ⟨S14336x4096, .bf16⟩
  | .hbm, ⟨25, _⟩ => ⟨S4096x14336, .i8⟩
  | .hbm, ⟨26, _⟩ => ⟨S4096x14336, .i8⟩
  | .hbm, ⟨27, _⟩ => ⟨S14336x4096, .i8⟩
  | .hbm, ⟨28, _⟩ => ⟨S256x14336, .fp8e4m3⟩
  | .hbm, ⟨29, _⟩ => ⟨S1x14336, .f32⟩
  | .hbm, ⟨30, _⟩ => ⟨S1x14336, .f32⟩
  | .hbm, ⟨31, _⟩ => ⟨S256x4096, .f32⟩
  | .hbm, ⟨32, _⟩ => ⟨S4096x256, .f32⟩
  | .hbm, ⟨33, _⟩ => ⟨S8x4096, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S256x4096, .bf16⟩
  | .hbm, ⟨38, _⟩ => ⟨S256x4096, .bf16⟩
  | .hbm, ⟨39, _⟩ => ⟨S1x4096, .f32⟩
  | .hbm, ⟨40, _⟩ => ⟨S1x1, .f32⟩
  | .hbm, ⟨41, _⟩ => ⟨S256x1, .f32⟩
  | .hbm, ⟨42, _⟩ => ⟨S256x1, .f32⟩
  | .hbm, ⟨43, _⟩ => ⟨S1x1, .f32⟩
  | .hbm, ⟨44, _⟩ => ⟨S256x1, .f32⟩
  | .hbm, ⟨45, _⟩ => ⟨S256x1, .f32⟩
  | .hbm, ⟨46, _⟩ => ⟨S1x4096, .f32⟩
  | .hbm, ⟨47, _⟩ => ⟨S256x1, .f32⟩
  | .hbm, ⟨48, _⟩ => ⟨S2x128x4096, .bf16⟩
  | .hbm, ⟨49, _⟩ => ⟨S2x128x4096, .bf16⟩
  | .hbm, ⟨50, _⟩ => ⟨S14336, .f32⟩
  | .hbm, ⟨51, _⟩ => ⟨S14336, .f32⟩
  | .hbm, ⟨52, _⟩ => ⟨S4096, .f32⟩
  | .hbm, ⟨53, _⟩ => ⟨S_, .f32⟩
  | .hbm, ⟨54, _⟩ => ⟨S2x128, .f32⟩
  | .hbm, ⟨55, _⟩ => ⟨S2x128, .f32⟩
  | .hbm, ⟨56, _⟩ => ⟨S_, .f32⟩
  | .hbm, ⟨57, _⟩ => ⟨S2x128, .f32⟩
  | .hbm, ⟨58, _⟩ => ⟨S2x128, .f32⟩
  | .hbm, ⟨59, _⟩ => ⟨S4096, .f32⟩
  | .hbm, ⟨60, _⟩ => ⟨S2x128, .f32⟩
  | .hbm, ⟨61, _⟩ => ⟨S2x128x4096, .fp8e4m3⟩
  | .hbm, ⟨62, _⟩ => ⟨S2x128x14336, .fp8e4m3⟩
  | .local _ .vmem, ⟨0, _⟩ => ⟨S256x4096, .bf16⟩
  | .local _ .vmem, ⟨1, _⟩ => ⟨S1x4096, .f32⟩
  | .local _ .vmem, ⟨2, _⟩ => ⟨S256x4096, .fp8e4m3⟩
  | .local _ .vmem, ⟨3, _⟩ => ⟨S4096x256, .bf16⟩
  | .local _ .vmem, ⟨4, _⟩ => ⟨S256x4096, .fp8e4m3⟩
  | .local _ .vmem, ⟨5, _⟩ => ⟨S4096x256, .bf16⟩
  | .local _ .vmem, ⟨6, _⟩ => ⟨S256x4096, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S256x4096, .bf16⟩
  | .local _ .vmem, ⟨12, _⟩ => ⟨S256x4096, .bf16⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x4096, .f32⟩
  | .local _ .vmem, ⟨18, _⟩ => ⟨S4096x256, .bf16⟩
  | .local _ .vmem, ⟨19, _⟩ => ⟨S4096x256, .bf16⟩
  | .local _ .vmem, ⟨20, _⟩ => ⟨S4096x256, .bf16⟩
  | .local _ .vmem, ⟨21, _⟩ => ⟨S4096x256, .bf16⟩
  | .local _ .vmem, ⟨22, _⟩ => ⟨S256x4096, .bf16⟩
  | .local _ .vmem, ⟨23, _⟩ => ⟨S256x4096, .bf16⟩
  | .local _ .vmem, ⟨24, _⟩ => ⟨S4096x256, .i8⟩
  | .local _ .vmem, ⟨25, _⟩ => ⟨S4096x256, .i8⟩
  | .local _ .vmem, ⟨26, _⟩ => ⟨S4096x256, .i8⟩
  | .local _ .vmem, ⟨27, _⟩ => ⟨S4096x256, .i8⟩
  | .local _ .vmem, ⟨28, _⟩ => ⟨S256x4096, .i8⟩
  | .local _ .vmem, ⟨29, _⟩ => ⟨S256x4096, .i8⟩
  | .local _ .vmem, ⟨30, _⟩ => ⟨S256x256, .fp8e4m3⟩
  | .local _ .vmem, ⟨31, _⟩ => ⟨S256x256, .fp8e4m3⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S256x4096, .f32⟩
  | .local _ .vmem, ⟨37, _⟩ => ⟨S4096x256, .f32⟩
  | .local _ .vmem, ⟨38, _⟩ => ⟨S8x4096, .f32⟩
  | .local _ .vmem, ⟨39, _⟩ => ⟨S256x128, .f32⟩
  | .local _ .vmem, ⟨40, _⟩ => ⟨S256x128, .f32⟩
  | .local _ .vmem, ⟨41, _⟩ => ⟨S256x128, .f32⟩
  | .local _ .vmem, ⟨42, _⟩ => ⟨S4096x512, .bf16⟩
  | .local _ .vmem, ⟨43, _⟩ => ⟨S4096x512, .f32⟩
  | .local _ .vmem, ⟨44, _⟩ => ⟨S4096x512, .fp8e4m3⟩
  | .local _ .vmem, ⟨45, _⟩ => ⟨S256x256, .f32⟩
  | .local _ .vmem, ⟨46, _⟩ => ⟨S256x4096, .f32⟩
  | .local _ .vmem, ⟨47, _⟩ => ⟨S4096x256, .f32⟩
  | .local _ .vmem, ⟨48, _⟩ => ⟨S256x4096, .bf16⟩
  | .local _ .vmem, ⟨49, _⟩ => ⟨S256x4096, .bf16⟩
  | .local _ .vmem, ⟨50, _⟩ => ⟨S1x4096, .f32⟩
  | .local _ .vmem, ⟨51, _⟩ => ⟨S256x4096, .fp8e4m3⟩
  | .local _ .vmem, ⟨52, _⟩ => ⟨S1x4096, .f32⟩
  | .local _ .vmem, ⟨53, _⟩ => ⟨S8x4096, .f32⟩
  | .local _ .vmem, ⟨54, _⟩ => ⟨S256x128, .f32⟩
  | .local _ .vmem, ⟨55, _⟩ => ⟨S256x128, .f32⟩
  | .local _ .vmem, ⟨56, _⟩ => ⟨S256x128, .f32⟩
  | .local _ .vmem, ⟨57, _⟩ => ⟨S256x4096, .bf16⟩
  | .local _ .vmem, ⟨58, _⟩ => ⟨S256x4096, .bf16⟩
  | .local _ .vmem, ⟨59, _⟩ => ⟨S1x4096, .f32⟩
  | .local _ .vmem, ⟨60, _⟩ => ⟨S1x1, .f32⟩
  | .local _ .vmem, ⟨61, _⟩ => ⟨S256x1, .f32⟩
  | .local _ .vmem, ⟨62, _⟩ => ⟨S256x1, .f32⟩
  | .local _ .vmem, ⟨63, _⟩ => ⟨S1x1, .f32⟩
  | .local _ .vmem, ⟨64, _⟩ => ⟨S256x1, .f32⟩
  | .local _ .vmem, ⟨65, _⟩ => ⟨S256x1, .f32⟩
  | .local _ .vmem, ⟨66, _⟩ => ⟨S1x4096, .f32⟩
  | .local _ .vmem, ⟨67, _⟩ => ⟨S256x1, .f32⟩
  | .local _ .vmem, ⟨68, _⟩ => ⟨S256x4096, .f32⟩
  | .local _ .smem, ⟨0, _⟩ => ⟨S2, .f32⟩
  | .local _ .smem, ⟨1, _⟩ => ⟨S2, .f32⟩
  | .local _ .smem, ⟨2, _⟩ => ⟨S2, .f32⟩
  | _, _ => ⟨S2x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev main_v10_5 : Ref sig .tc := ⟨.hbm, 27, rfl⟩
abbrev main_v10_6 : Ref sig .tc := ⟨.hbm, 28, rfl⟩
abbrev main_v10_7 : Ref sig .tc := ⟨.hbm, 29, rfl⟩
abbrev main_v10_8 : Ref sig .tc := ⟨.hbm, 30, rfl⟩
abbrev main_v10_9 : Ref sig .tc := ⟨.hbm, 31, rfl⟩
abbrev main_v10_10 : Ref sig .tc := ⟨.hbm, 32, rfl⟩
abbrev main_v10_11 : Ref sig .tc := ⟨.hbm, 33, rfl⟩
abbrev main_v10_12 : Ref sig .tc := ⟨.hbm, 34, rfl⟩
abbrev main_v10_13 : Ref sig .tc := ⟨.hbm, 35, rfl⟩
abbrev main_v10_14 : Ref sig .tc := ⟨.hbm, 36, rfl⟩
abbrev main_v11_0 : Ref sig .tc := ⟨.hbm, 37, rfl⟩
abbrev main_v11_1 : Ref sig .tc := ⟨.hbm, 38, rfl⟩
abbrev main_v11_2 : Ref sig .tc := ⟨.hbm, 39, rfl⟩
abbrev main_v11_3 : Ref sig .tc := ⟨.hbm, 40, rfl⟩
abbrev main_v11_4 : Ref sig .tc := ⟨.hbm, 41, rfl⟩
abbrev main_v11_5 : Ref sig .tc := ⟨.hbm, 42, rfl⟩
abbrev main_v11_6 : Ref sig .tc := ⟨.hbm, 43, rfl⟩
abbrev main_v11_7 : Ref sig .tc := ⟨.hbm, 44, rfl⟩
abbrev main_v11_8 : Ref sig .tc := ⟨.hbm, 45, rfl⟩
abbrev main_v11_9 : Ref sig .tc := ⟨.hbm, 46, rfl⟩
abbrev main_v11_10 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc1_stg11_0 : Ref sig .tc := ⟨.vmem, 20, rfl⟩
abbrev cc1_stg11_1 : Ref sig .tc := ⟨.vmem, 21, rfl⟩
abbrev cc1_stg12_0 : Ref sig .tc := ⟨.vmem, 22, rfl⟩
abbrev cc1_stg12_1 : Ref sig .tc := ⟨.vmem, 23, rfl⟩
abbrev cc1_stg13_0 : Ref sig .tc := ⟨.vmem, 24, rfl⟩
abbrev cc1_stg13_1 : Ref sig .tc := ⟨.vmem, 25, rfl⟩
abbrev cc1_stg14_0 : Ref sig .tc := ⟨.vmem, 26, rfl⟩
abbrev cc1_stg14_1 : Ref sig .tc := ⟨.vmem, 27, rfl⟩
abbrev cc1_stg15_0 : Ref sig .tc := ⟨.vmem, 28, rfl⟩
abbrev cc1_stg15_1 : Ref sig .tc := ⟨.vmem, 29, rfl⟩
abbrev cc1_stg16_0 : Ref sig .tc := ⟨.vmem, 30, rfl⟩
abbrev cc1_stg16_1 : Ref sig .tc := ⟨.vmem, 31, rfl⟩
abbrev cc1_stg17_0 : Ref sig .tc := ⟨.vmem, 32, rfl⟩
abbrev cc1_stg17_1 : Ref sig .tc := ⟨.vmem, 33, rfl⟩
abbrev cc1_stg18_0 : Ref sig .tc := ⟨.vmem, 34, rfl⟩
abbrev cc1_stg18_1 : Ref sig .tc := ⟨.vmem, 35, rfl⟩
abbrev cc1_stg19_0 : Ref sig .tc := ⟨.vmem, 36, rfl⟩
abbrev cc1_stg20_0 : Ref sig .tc := ⟨.vmem, 37, rfl⟩
abbrev cc1_stg21_0 : Ref sig .tc := ⟨.vmem, 38, rfl⟩
abbrev cc1_stg22_0 : Ref sig .tc := ⟨.vmem, 39, rfl⟩
abbrev cc1_stg23_0 : Ref sig .tc := ⟨.vmem, 40, rfl⟩
abbrev cc1_stg24_0 : Ref sig .tc := ⟨.vmem, 41, rfl⟩
abbrev cc1_scratch0 : Ref sig .tc := ⟨.vmem, 42, rfl⟩
abbrev cc1_scratch1 : Ref sig .tc := ⟨.vmem, 43, rfl⟩
abbrev cc1_scratch2 : Ref sig .tc := ⟨.vmem, 44, rfl⟩
abbrev cc1_scratch3 : Ref sig .tc := ⟨.vmem, 45, rfl⟩
abbrev cc2_stg1_0 : Ref sig .tc := ⟨.vmem, 46, rfl⟩
abbrev cc2_stg2_0 : Ref sig .tc := ⟨.vmem, 47, rfl⟩
abbrev cc2_stg3_0 : Ref sig .tc := ⟨.vmem, 48, rfl⟩
abbrev cc2_stg4_0 : Ref sig .tc := ⟨.vmem, 49, rfl⟩
abbrev cc2_stg5_0 : Ref sig .tc := ⟨.vmem, 50, rfl⟩
abbrev cc2_stg6_0 : Ref sig .tc := ⟨.vmem, 51, rfl⟩
abbrev cc2_stg7_0 : Ref sig .tc := ⟨.vmem, 52, rfl⟩
abbrev cc2_stg8_0 : Ref sig .tc := ⟨.vmem, 53, rfl⟩
abbrev cc2_stg9_0 : Ref sig .tc := ⟨.vmem, 54, rfl⟩
abbrev cc2_stg10_0 : Ref sig .tc := ⟨.vmem, 55, rfl⟩
abbrev cc2_stg11_0 : Ref sig .tc := ⟨.vmem, 56, rfl⟩
abbrev cc2_stg12_0 : Ref sig .tc := ⟨.vmem, 57, rfl⟩
abbrev cc2_stg13_0 : Ref sig .tc := ⟨.vmem, 58, rfl⟩
abbrev cc2_stg14_0 : Ref sig .tc := ⟨.vmem, 59, rfl⟩
abbrev cc2_stg15_0 : Ref sig .tc := ⟨.vmem, 60, rfl⟩
abbrev cc2_stg16_0 : Ref sig .tc := ⟨.vmem, 61, rfl⟩
abbrev cc2_stg17_0 : Ref sig .tc := ⟨.vmem, 62, rfl⟩
abbrev cc2_stg18_0 : Ref sig .tc := ⟨.vmem, 63, rfl⟩
abbrev cc2_stg19_0 : Ref sig .tc := ⟨.vmem, 64, rfl⟩
abbrev cc2_stg20_0 : Ref sig .tc := ⟨.vmem, 65, rfl⟩
abbrev cc2_stg21_0 : Ref sig .tc := ⟨.vmem, 66, rfl⟩
abbrev cc2_stg22_0 : Ref sig .tc := ⟨.vmem, 67, rfl⟩
abbrev cc2_scratch0 : Ref sig .tc := ⟨.vmem, 68, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18
abbrev cc1_sem9_0 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem12_1 : DmaSem sig := 25
abbrev cc1_sem13_0 : DmaSem sig := 26
abbrev cc1_sem13_1 : DmaSem sig := 27
abbrev cc1_sem14_0 : DmaSem sig := 28
abbrev cc1_sem14_1 : DmaSem sig := 29
abbrev cc1_sem15_0 : DmaSem sig := 30
abbrev cc1_sem15_1 : DmaSem sig := 31
abbrev cc1_sem16_0 : DmaSem sig := 32
abbrev cc1_sem16_1 : DmaSem sig := 33
abbrev cc1_sem17_0 : DmaSem sig := 34
abbrev cc1_sem17_1 : DmaSem sig := 35
abbrev cc1_sem18_0 : DmaSem sig := 36
abbrev cc1_sem18_1 : DmaSem sig := 37
abbrev cc1_sem19_0 : DmaSem sig := 38
abbrev cc1_sem20_0 : DmaSem sig := 39
abbrev cc1_sem21_0 : DmaSem sig := 40
abbrev cc1_sem22_0 : DmaSem sig := 41
abbrev cc1_sem23_0 : DmaSem sig := 42
abbrev cc1_sem24_0 : DmaSem sig := 43
abbrev cc2_sem0_0 : DmaSem sig := 44
abbrev cc2_sem1_0 : DmaSem sig := 45
abbrev cc2_sem2_0 : DmaSem sig := 46
abbrev cc2_sem3_0 : DmaSem sig := 47
abbrev cc2_sem4_0 : DmaSem sig := 48
abbrev cc2_sem5_0 : DmaSem sig := 49
abbrev cc2_sem6_0 : DmaSem sig := 50
abbrev cc2_sem7_0 : DmaSem sig := 51
abbrev cc2_sem8_0 : DmaSem sig := 52
abbrev cc2_sem9_0 : DmaSem sig := 53
abbrev cc2_sem10_0 : DmaSem sig := 54
abbrev cc2_sem11_0 : DmaSem sig := 55
abbrev cc2_sem12_0 : DmaSem sig := 56
abbrev cc2_sem13_0 : DmaSem sig := 57
abbrev cc2_sem14_0 : DmaSem sig := 58
abbrev cc2_sem15_0 : DmaSem sig := 59
abbrev cc2_sem16_0 : DmaSem sig := 60
abbrev cc2_sem17_0 : DmaSem sig := 61
abbrev cc2_sem18_0 : DmaSem sig := 62
abbrev cc2_sem19_0 : DmaSem sig := 63
abbrev cc2_sem20_0 : DmaSem sig := 64
abbrev cc2_sem21_0 : DmaSem sig := 65
abbrev cc2_sem22_0 : DmaSem sig := 66

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v14 : BitVec 32 := Scalar.muli arg5 c512_i32
  v14
def k0_off1 (k0_t1 : Fin k0_t1_loop.trips) : Fin 2 → Nat :=
  let c0_9 : Index := 0#32
  let c0_i32 : BitVec 32 := 0#32
  let c1_i32 : BitVec 32 := 1#32
  let arg5 : BitVec 32 := Scf.iv c0_i32 c1_i32 k0_t1
  let c512_i32 : BitVec 32 := 512#32
  let v14 : BitVec 32 := Scalar.muli arg5 c512_i32
  let v15 : BitVec 32 := v14
  let v16 : Index := Scalar.indexCast v15
  ![0, v16.toNat]
@[reducible] def k0_t2_loop : Scf.Loop 32 :=
  let c0_i32_5 : BitVec 32 := 0#32
  let c8_i32_6 : BitVec 32 := 8#32
  let v13 : BitVec 32 := Scalar.addi c0_i32_5 c8_i32_6
  let c1_i32_7 : BitVec 32 := 1#32
  ⟨c0_i32_5, v13, c1_i32_7⟩
def k0_mult2 (k0_t2 : Fin k0_t2_loop.trips) : BitVec 32 :=
  let c0_i32_5 : BitVec 32 := 0#32
  let c1_i32_7 : BitVec 32 := 1#32
  let arg5 : BitVec 32 := Scf.iv c0_i32_5 c1_i32_7 k0_t2
  let c512_i32 : BitVec 32 := 512#32
  let v14 : BitVec 32 := Scalar.muli arg5 c512_i32
  v14
def k0_off2 (k0_t2 : Fin k0_t2_loop.trips) : Fin 2 → Nat :=
  let c0_9 : Index := 0#32
  let c0_i32_5 : BitVec 32 := 0#32
  let c1_i32_7 : BitVec 32 := 1#32
  let arg5 : BitVec 32 := Scf.iv c0_i32_5 c1_i32_7 k0_t2
  let c512_i32 : BitVec 32 := 512#32
  let v14 : BitVec 32 := Scalar.muli arg5 c512_i32
  let v15 : BitVec 32 := v14
  let v16 : Index := Scalar.indexCast v15
  ![0, v16.toNat]
def k0_off3 (k0_t2 : Fin k0_t2_loop.trips) : Fin 2 → Nat :=
  let c0_10 : Index := 0#32
  let c0_i32_5 : BitVec 32 := 0#32
  let c1_i32_7 : BitVec 32 := 1#32
  let arg5 : BitVec 32 := Scf.iv c0_i32_5 c1_i32_7 k0_t2
  let c512_i32 : BitVec 32 := 512#32
  let v14 : BitVec 32 := Scalar.muli arg5 c512_i32
  let v15 : BitVec 32 := v14
  let v22 : Index := Scalar.indexCast v15
  ![0, v22.toNat]
def k0_off4 (k0_t2 : Fin k0_t2_loop.trips) : Fin 2 → Nat :=
  let c0_i32_5 : BitVec 32 := 0#32
  let c1_i32_7 : BitVec 32 := 1#32
  let arg5 : BitVec 32 := Scf.iv c0_i32_5 c1_i32_7 k0_t2
  let c512_i32 : BitVec 32 := 512#32
  let v14 : BitVec 32 := Scalar.muli arg5 c512_i32
  let v15 : BitVec 32 := v14
  let v38 : Index := Scalar.indexCast v15
  let c0_14 : Index := 0#32
  ![v38.toNat, 0]
abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![56], ![false]⟩

@[reducible] def k1_t1_loop : Scf.Loop 32 :=
  let c0_i32_7 : BitVec 32 := 0#32
  let c8_i32 : BitVec 32 := 8#32
  let v14 : BitVec 32 := Scalar.addi c0_i32_7 c8_i32
  let c1_i32 : BitVec 32 := 1#32
  ⟨c0_i32_7, v14, c1_i32⟩
def k1_mult1 (k1_t1 : Fin k1_t1_loop.trips) : BitVec 32 :=
  let c0_i32_7 : BitVec 32 := 0#32
  let c1_i32 : BitVec 32 := 1#32
  let arg30 : BitVec 32 := Scf.iv c0_i32_7 c1_i32 k1_t1
  let c512_i32 : BitVec 32 := 512#32
  let v135 : BitVec 32 := Scalar.muli arg30 c512_i32
  v135
def k1_off1 (k1_t1 : Fin k1_t1_loop.trips) : Fin 2 → Nat :=
  let c0_i32_7 : BitVec 32 := 0#32
  let c1_i32 : BitVec 32 := 1#32
  let arg30 : BitVec 32 := Scf.iv c0_i32_7 c1_i32 k1_t1
  let c512_i32 : BitVec 32 := 512#32
  let v135 : BitVec 32 := Scalar.muli arg30 c512_i32
  let v136 : BitVec 32 := v135
  let v137 : Index := Scalar.indexCast v136
  let c0_67 : Index := 0#32
  ![v137.toNat, 0]
def k1_off2 (k1_t1 : Fin k1_t1_loop.trips) : Fin 2 → Nat :=
  let c0_i32_7 : BitVec 32 := 0#32
  let c1_i32 : BitVec 32 := 1#32
  let arg30 : BitVec 32 := Scf.iv c0_i32_7 c1_i32 k1_t1
  let c512_i32 : BitVec 32 := 512#32
  let v135 : BitVec 32 := Scalar.muli arg30 c512_i32
  let v136 : BitVec 32 := v135
  let v151 : Index := Scalar.indexCast v136
  let c0_71 : Index := 0#32
  ![v151.toNat, 0]
def k1_off3 (k1_t1 : Fin k1_t1_loop.trips) : Fin 2 → Nat :=
  let c0_i32_7 : BitVec 32 := 0#32
  let c1_i32 : BitVec 32 := 1#32
  let arg30 : BitVec 32 := Scf.iv c0_i32_7 c1_i32 k1_t1
  let c512_i32 : BitVec 32 := 512#32
  let v135 : BitVec 32 := Scalar.muli arg30 c512_i32
  let v136 : BitVec 32 := v135
  let v185 : Index := Scalar.indexCast v136
  let c256 : Index := 256#32
  ![v185.toNat, 256]
@[reducible] def k1_t2_loop : Scf.Loop 32 :=
  let c0_i32_29 : BitVec 32 := 0#32
  let c8_i32_30 : BitVec 32 := 8#32
  let v58 : BitVec 32 := Scalar.addi c0_i32_29 c8_i32_30
  let c1_i32_31 : BitVec 32 := 1#32
  ⟨c0_i32_29, v58, c1_i32_31⟩
def k1_mult2 (k1_t2 : Fin k1_t2_loop.trips) : BitVec 32 :=
  let c0_i32_29 : BitVec 32 := 0#32
  let c1_i32_31 : BitVec 32 := 1#32
  let arg30 : BitVec 32 := Scf.iv c0_i32_29 c1_i32_31 k1_t2
  let c512_i32 : BitVec 32 := 512#32
  let v135 : BitVec 32 := Scalar.muli arg30 c512_i32
  v135
def k1_off4 (k1_t2 : Fin k1_t2_loop.trips) : Fin 2 → Nat :=
  let c0_67 : Index := 0#32
  let c0_i32_29 : BitVec 32 := 0#32
  let c1_i32_31 : BitVec 32 := 1#32
  let arg30 : BitVec 32 := Scf.iv c0_i32_29 c1_i32_31 k1_t2
  let c512_i32 : BitVec 32 := 512#32
  let v135 : BitVec 32 := Scalar.muli arg30 c512_i32
  let v136 : BitVec 32 := v135
  let v137 : Index := Scalar.indexCast v136
  ![0, v137.toNat]
def k1_off5 (k1_t2 : Fin k1_t2_loop.trips) : Fin 2 → Nat :=
  let c0_68 : Index := 0#32
  let c0_i32_29 : BitVec 32 := 0#32
  let c1_i32_31 : BitVec 32 := 1#32
  let arg30 : BitVec 32 := Scf.iv c0_i32_29 c1_i32_31 k1_t2
  let c512_i32 : BitVec 32 := 512#32
  let v135 : BitVec 32 := Scalar.muli arg30 c512_i32
  let v136 : BitVec 32 := v135
  let v140 : Index := Scalar.indexCast v136
  ![0, v140.toNat]
def k1_off6 (k1_t2 : Fin k1_t2_loop.trips) : Fin 2 → Nat :=
  let c0_81 : Index := 0#32
  let c0_i32_29 : BitVec 32 := 0#32
  let c1_i32_31 : BitVec 32 := 1#32
  let arg30 : BitVec 32 := Scf.iv c0_i32_29 c1_i32_31 k1_t2
  let c512_i32 : BitVec 32 := 512#32
  let v135 : BitVec 32 := Scalar.muli arg30 c512_i32
  let v136 : BitVec 32 := v135
  let v179 : Index := Scalar.indexCast v136
  ![0, v179.toNat]
@[reducible] def k1_t3_loop : Scf.Loop 32 :=
  let c0_i32_55 : BitVec 32 := 0#32
  let c8_i32_56 : BitVec 32 := 8#32
  let v123 : BitVec 32 := Scalar.addi c0_i32_55 c8_i32_56
  let c1_i32_57 : BitVec 32 := 1#32
  ⟨c0_i32_55, v123, c1_i32_57⟩
def k1_mult3 (k1_t3 : Fin k1_t3_loop.trips) : BitVec 32 :=
  let c0_i32_55 : BitVec 32 := 0#32
  let c1_i32_57 : BitVec 32 := 1#32
  let arg30 : BitVec 32 := Scf.iv c0_i32_55 c1_i32_57 k1_t3
  let c512_i32 : BitVec 32 := 512#32
  let v135 : BitVec 32 := Scalar.muli arg30 c512_i32
  v135
def k1_off7 (k1_t3 : Fin k1_t3_loop.trips) : Fin 2 → Nat :=
  let c0_i32_55 : BitVec 32 := 0#32
  let c1_i32_57 : BitVec 32 := 1#32
  let arg30 : BitVec 32 := Scf.iv c0_i32_55 c1_i32_57 k1_t3
  let c512_i32 : BitVec 32 := 512#32
  let v135 : BitVec 32 := Scalar.muli arg30 c512_i32
  let v136 : BitVec 32 := v135
  let v137 : Index := Scalar.indexCast v136
  let c0_67 : Index := 0#32
  ![v137.toNat, 0]
def k1_off8 (k1_t3 : Fin k1_t3_loop.trips) : Fin 2 → Nat :=
  let c0_i32_55 : BitVec 32 := 0#32
  let c1_i32_57 : BitVec 32 := 1#32
  let arg30 : BitVec 32 := Scf.iv c0_i32_55 c1_i32_57 k1_t3
  let c512_i32 : BitVec 32 := 512#32
  let v135 : BitVec 32 := Scalar.muli arg30 c512_i32
  let v136 : BitVec 32 := v135
  let v143 : Index := Scalar.indexCast v136
  let c0_69 : Index := 0#32
  ![v143.toNat, 0]
def k1_off9 (k1_t3 : Fin k1_t3_loop.trips) : Fin 2 → Nat :=
  let c0_i32_55 : BitVec 32 := 0#32
  let c1_i32_57 : BitVec 32 := 1#32
  let arg30 : BitVec 32 := Scf.iv c0_i32_55 c1_i32_57 k1_t3
  let c512_i32 : BitVec 32 := 512#32
  let v135 : BitVec 32 := Scalar.muli arg30 c512_i32
  let v136 : BitVec 32 := v135
  let v160 : Index := Scalar.indexCast v136
  let c256 : Index := 256#32
  ![v160.toNat, 256]
def k1_off10 (k1_t3 : Fin k1_t3_loop.trips) : Fin 2 → Nat :=
  let c0_i32_55 : BitVec 32 := 0#32
  let c1_i32_57 : BitVec 32 := 1#32
  let arg30 : BitVec 32 := Scf.iv c0_i32_55 c1_i32_57 k1_t3
  let c512_i32 : BitVec 32 := 512#32
  let v135 : BitVec 32 := Scalar.muli arg30 c512_i32
  let v136 : BitVec 32 := v135
  let v177 : Index := Scalar.indexCast v136
  let c0_80 : Index := 0#32
  ![v177.toNat, 0]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x4096 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x4096 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4096x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4096x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x4096 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S4096x256 .i8 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S4096x256 .i8 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x4096 .i8 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S256x256 .fp8e4m3 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1x256 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1x256 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 1 → Memref sig .tc .vmem S256x4096 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S4096x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S8x4096 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S256x128 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S256x128 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S256x128 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev grid2 : Pipeline.Grid := .none

@[reducible] def k2_t1_loop : Scf.Loop 32 :=
  let c0_i32 : BitVec 32 := 0#32
  let c8_i32 : BitVec 32 := 8#32
  let v34 : BitVec 32 := Scalar.addi c0_i32 c8_i32
  let c1_i32 : BitVec 32 := 1#32
  ⟨c0_i32, v34, c1_i32⟩
def k2_mult1 (k2_t1 : Fin k2_t1_loop.trips) : BitVec 32 :=
  let c0_i32 : BitVec 32 := 0#32
  let c1_i32 : BitVec 32 := 1#32
  let arg24 : BitVec 32 := Scf.iv c0_i32 c1_i32 k2_t1
  let c512_i32 : BitVec 32 := 512#32
  let v69 : BitVec 32 := Scalar.muli arg24 c512_i32
  v69
def k2_off1 (k2_t1 : Fin k2_t1_loop.trips) : Fin 2 → Nat :=
  let c0_54 : Index := 0#32
  let c0_i32 : BitVec 32 := 0#32
  let c1_i32 : BitVec 32 := 1#32
  let arg24 : BitVec 32 := Scf.iv c0_i32 c1_i32 k2_t1
  let c512_i32 : BitVec 32 := 512#32
  let v69 : BitVec 32 := Scalar.muli arg24 c512_i32
  let v70 : BitVec 32 := v69
  let v71 : Index := Scalar.indexCast v70
  ![0, v71.toNat]
@[reducible] def k2_t2_loop : Scf.Loop 32 :=
  let c0_i32_31 : BitVec 32 := 0#32
  let c8_i32_32 : BitVec 32 := 8#32
  let v46 : BitVec 32 := Scalar.addi c0_i32_31 c8_i32_32
  let c1_i32_33 : BitVec 32 := 1#32
  ⟨c0_i32_31, v46, c1_i32_33⟩
def k2_mult2 (k2_t2 : Fin k2_t2_loop.trips) : BitVec 32 :=
  let c0_i32_31 : BitVec 32 := 0#32
  let c1_i32_33 : BitVec 32 := 1#32
  let arg24 : BitVec 32 := Scf.iv c0_i32_31 c1_i32_33 k2_t2
  let c512_i32 : BitVec 32 := 512#32
  let v69 : BitVec 32 := Scalar.muli arg24 c512_i32
  v69
def k2_off2 (k2_t2 : Fin k2_t2_loop.trips) : Fin 2 → Nat :=
  let c0_54 : Index := 0#32
  let c0_i32_31 : BitVec 32 := 0#32
  let c1_i32_33 : BitVec 32 := 1#32
  let arg24 : BitVec 32 := Scf.iv c0_i32_31 c1_i32_33 k2_t2
  let c512_i32 : BitVec 32 := 512#32
  let v69 : BitVec 32 := Scalar.muli arg24 c512_i32
  let v70 : BitVec 32 := v69
  let v71 : Index := Scalar.indexCast v70
  ![0, v71.toNat]
def k2_off3 (k2_t2 : Fin k2_t2_loop.trips) : Fin 2 → Nat :=
  let c0_55 : Index := 0#32
  let c0_i32_31 : BitVec 32 := 0#32
  let c1_i32_33 : BitVec 32 := 1#32
  let arg24 : BitVec 32 := Scf.iv c0_i32_31 c1_i32_33 k2_t2
  let c512_i32 : BitVec 32 := 512#32
  let v69 : BitVec 32 := Scalar.muli arg24 c512_i32
  let v70 : BitVec 32 := v69
  let v75 : Index := Scalar.indexCast v70
  ![0, v75.toNat]
def k2_off4 (k2_t2 : Fin k2_t2_loop.trips) : Fin 2 → Nat :=
  let c0_i32_31 : BitVec 32 := 0#32
  let c1_i32_33 : BitVec 32 := 1#32
  let arg24 : BitVec 32 := Scf.iv c0_i32_31 c1_i32_33 k2_t2
  let c512_i32 : BitVec 32 := 512#32
  let v69 : BitVec 32 := Scalar.muli arg24 c512_i32
  let v70 : BitVec 32 := v69
  let v92 : Index := Scalar.indexCast v70
  let c0_59 : Index := 0#32
  ![v92.toNat, 0]
@[reducible] def k2_t3_loop : Scf.Loop 32 :=
  let c0_i32_50 : BitVec 32 := 0#32
  let c8_i32_51 : BitVec 32 := 8#32
  let v68 : BitVec 32 := Scalar.addi c0_i32_50 c8_i32_51
  let c1_i32_52 : BitVec 32 := 1#32
  ⟨c0_i32_50, v68, c1_i32_52⟩
def k2_mult3 (k2_t3 : Fin k2_t3_loop.trips) : BitVec 32 :=
  let c0_i32_50 : BitVec 32 := 0#32
  let c1_i32_52 : BitVec 32 := 1#32
  let arg24 : BitVec 32 := Scf.iv c0_i32_50 c1_i32_52 k2_t3
  let c512_i32 : BitVec 32 := 512#32
  let v69 : BitVec 32 := Scalar.muli arg24 c512_i32
  v69
def k2_off5 (k2_t3 : Fin k2_t3_loop.trips) : Fin 2 → Nat :=
  let c0_54 : Index := 0#32
  let c0_i32_50 : BitVec 32 := 0#32
  let c1_i32_52 : BitVec 32 := 1#32
  let arg24 : BitVec 32 := Scf.iv c0_i32_50 c1_i32_52 k2_t3
  let c512_i32 : BitVec 32 := 512#32
  let v69 : BitVec 32 := Scalar.muli arg24 c512_i32
  let v70 : BitVec 32 := v69
  let v71 : Index := Scalar.indexCast v70
  ![0, v71.toNat]
abbrev stage2_0 : Fin 1 → Memref sig .tc .smem S2 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4096x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x4096 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256x4096 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S256x4096 .fp8e4m3 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x4096 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S8x4096 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S256x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S256x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S256x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S256x4096 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S256x4096 .bf16 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S1x4096 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))

abbrev stage2_15 : Fin 1 → Memref sig .tc .vmem S1x1 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))

abbrev stage2_16 : Fin 1 → Memref sig .tc .vmem S256x1 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))

abbrev stage2_17 : Fin 1 → Memref sig .tc .vmem S256x1 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))

abbrev stage2_18 : Fin 1 → Memref sig .tc .vmem S1x1 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))

abbrev stage2_19 : Fin 1 → Memref sig .tc .vmem S256x1 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))

abbrev stage2_20 : Fin 1 → Memref sig .tc .vmem S256x1 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))

abbrev stage2_21 : Fin 1 → Memref sig .tc .vmem S1x4096 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))

abbrev stage2_22 : Fin 1 → Memref sig .tc .vmem S256x1 .f32 := fun | 0 => Memref.whole cc2_stg22_0 | ⟨_ + 1, h⟩ => absurd h (Nat.not_lt.2 (Nat.le_add_left _ _))
abbrev sem2_22 : Fin 1 → DmaSem sig := fun | 0 => cc2_sem22_0 | ⟨_ + 1, h⟩ => absurd h (Nat.not_lt.2 (Nat.le_add_left _ _))
-- ==== KernelIdeal.lean ====
variable {F : FTy → Type} [FloatOps F]
-- ==== ReferenceIdeal.lean ====
abbrev S2x128x4096 : Shape := ⟨3, ![2, 128, 4096]⟩
abbrev S4096 : Shape := ⟨1, ![4096]⟩
abbrev S4096x14336 : Shape := ⟨2, ![4096, 14336]⟩
abbrev S14336x4096 : Shape := ⟨2, ![14336, 4096]⟩
abbrev S14336 : Shape := ⟨1, ![14336]⟩
abbrev S_ : Shape := ⟨0, ![]⟩
abbrev S1x1 : Shape := ⟨2, ![1, 1]⟩
abbrev S256x4096 : Shape := ⟨2, ![256, 4096]⟩
abbrev S1x4096 : Shape := ⟨2, ![1, 4096]⟩
abbrev S1x14336 : Shape := ⟨2, ![1, 14336]⟩
abbrev S256x1 : Shape := ⟨2, ![256, 1]⟩
abbrev S256x14336 : Shape := ⟨2, ![256, 14336]⟩
abbrev S256 : Shape := ⟨1, ![256]⟩
abbrev S14336x256 : Shape := ⟨2, ![14336, 256]⟩
abbrev S1 : Shape := ⟨1, ![1]⟩
abbrev S4096x256 : Shape := ⟨2, ![4096, 256]⟩
abbrev S2x128 : Shape := ⟨2, ![2, 128]⟩
abbrev S2x128x14336 : Shape := ⟨3, ![2, 128, 14336]⟩

abbrev nBuf : Space → Nat
  | .hbm => 55
  | .vmem => 32
  | .smem => 0
  | _ => 0

abbrev bufTy : (tb : Table) → Fin (tcTables nBuf tb) → BufTy
  | .hbm, ⟨0, _⟩ => ⟨S2x128x4096, .bf16⟩
  | .hbm, ⟨1, _⟩ => ⟨S2x128x4096, .bf16⟩
  | .hbm, ⟨2, _⟩ => ⟨S4096, .f32⟩
  | .hbm, ⟨3, _⟩ => ⟨S4096x14336, .bf16⟩
  | .hbm, ⟨4, _⟩ => ⟨S4096x14336, .bf16⟩
  | .hbm, ⟨5, _⟩ => ⟨S14336x4096, .bf16⟩
  | .hbm, ⟨6, _⟩ => ⟨S14336, .f32⟩
  | .hbm, ⟨7, _⟩ => ⟨S14336, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S1x1, .f32⟩
  | .hbm, ⟨13, _⟩ => ⟨S256x4096, .bf16⟩
  | .hbm, ⟨14, _⟩ => ⟨S256x4096, .bf16⟩
  | .hbm, ⟨15, _⟩ => ⟨S1x4096, .f32⟩
  | .hbm, ⟨16, _⟩ => ⟨S1x14336, .f32⟩
  | .hbm, ⟨17, _⟩ => ⟨S1x14336, .f32⟩
  | .hbm, ⟨18, _⟩ => ⟨S1x4096, .f32⟩
  | .hbm, ⟨19, _⟩ => ⟨S256x4096, .bf16⟩
  | .hbm, ⟨20, _⟩ => ⟨S256x4096, .bf16⟩
  | .hbm, ⟨21, _⟩ => ⟨S4096x14336, .bf16⟩
  | .hbm, ⟨22, _⟩ => ⟨S4096x14336, .bf16⟩
  | .hbm, ⟨23, _⟩ => ⟨S14336x4096, .bf16⟩
  | .hbm, ⟨24, _⟩ => ⟨S1x14336, .f32⟩
  | .hbm, ⟨25, _⟩ => ⟨S1x14336, .f32⟩
  | .hbm, ⟨26, _⟩ => ⟨S1x4096, .f32⟩
  | .hbm, ⟨27, _⟩ => ⟨S1x1, .f32⟩
  | .hbm, ⟨28, _⟩ => ⟨S256x1, .f32⟩
  | .hbm, ⟨29, _⟩ => ⟨S256x1, .f32⟩
  | .hbm, ⟨30, _⟩ => ⟨S1x1, .f32⟩
  | .hbm, ⟨31, _⟩ => ⟨S256x1, .f32⟩
  | .hbm, ⟨32, _⟩ => ⟨S256x1, .f32⟩
  | .hbm, ⟨33, _⟩ => ⟨S1x4096, .f32⟩
  | .hbm, ⟨34, _⟩ => ⟨S256x1, .f32⟩
  | .hbm, ⟨35, _⟩ => ⟨S256x4096, .fp8e4m3⟩
  | .hbm, ⟨36, _⟩ => ⟨S4096x14336, .i8⟩
  | .hbm, ⟨37, _⟩ => ⟨S4096x14336, .i8⟩
  | .hbm, ⟨38, _⟩ => ⟨S256x14336, .fp8e4m3⟩
  | .hbm, ⟨39, _⟩ => ⟨S14336x4096, .i8⟩
  | .hbm, ⟨40, _⟩ => ⟨S2x128x4096, .bf16⟩
  | .hbm, ⟨41, _⟩ => ⟨S2x128x4096, .bf16⟩
  | .hbm, ⟨42, _⟩ => ⟨S14336, .f32⟩
  | .hbm, ⟨43, _⟩ => ⟨S14336, .f32⟩
  | .hbm, ⟨44, _⟩ => ⟨S4096, .f32⟩
  | .hbm, ⟨45, _⟩ => ⟨S_, .f32⟩
  | .hbm, ⟨46, _⟩ => ⟨S2x128, .f32⟩
  | .hbm, ⟨47, _⟩ => ⟨S2x128, .f32⟩
  | .hbm, ⟨48, _⟩ => ⟨S_, .f32⟩
  | .hbm, ⟨49, _⟩ => ⟨S2x128, .f32⟩
  | .hbm, ⟨50, _⟩ => ⟨S2x128, .f32⟩
  | .hbm, ⟨51, _⟩ => ⟨S4096, .f32⟩
  | .hbm, ⟨52, _⟩ => ⟨S2x128, .f32⟩
  | .hbm, ⟨53, _⟩ => ⟨S2x128x4096, .fp8e4m3⟩
  | .hbm, ⟨54, _⟩ => ⟨S2x128x14336, .fp8e4m3⟩
  | .local _ .vmem, ⟨0, _⟩ => ⟨S1x1, .f32⟩
  | .local _ .vmem, ⟨1, _⟩ => ⟨S1x1, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S4096x14336, .bf16⟩
  | .local _ .vmem, ⟨6, _⟩ => ⟨S4096x14336, .bf16⟩
  | .local _ .vmem, ⟨7, _⟩ => ⟨S14336x4096, .bf16⟩
  | .local _ .vmem, ⟨8, _⟩ => ⟨S1x14336, .f32⟩
  | .local _ .vmem, ⟨9, _⟩ => ⟨S1x14336, .f32⟩
  | .local _ .vmem, ⟨10, _⟩ => ⟨S1x4096, .f32⟩
  | .local _ .vmem, ⟨11, _⟩ => ⟨S256x4096, .bf16⟩
  | .local _ .vmem, ⟨12, _⟩ => ⟨S256x4096, .bf16⟩
  | .local _ .vmem, ⟨13, _⟩ => ⟨S4096x14336, .bf16⟩
  | .local _ .vmem, ⟨14, _⟩ => ⟨S4096x14336, .bf16⟩
  | .local _ .vmem, ⟨15, _⟩ => ⟨S14336x4096, .bf16⟩
  | .local _ .vmem, ⟨16, _⟩ => ⟨S1x14336, .f32⟩
  | .local _ .vmem, ⟨17, _⟩ => ⟨S1x14336, .f32⟩
  | .local _ .vmem, ⟨18, _⟩ => ⟨S1x4096, .f32⟩
  | .local _ .vmem, ⟨19, _⟩ => ⟨S1x1, .f32⟩
  | .local _ .vmem, ⟨20, _⟩ => ⟨S256x1, .f32⟩
  | .local _ .vmem, ⟨21, _⟩ => ⟨S256x1, .f32⟩
  | .local _ .vmem, ⟨22, _⟩ => ⟨S1x1, .f32⟩
  | .local _ .vmem, ⟨23, _⟩ => ⟨S256x1, .f32⟩
  | .local _ .vmem, ⟨24, _⟩ => ⟨S256x1, .f32⟩
  | .local _ .vmem, ⟨25, _⟩ => ⟨S1x4096, .f32⟩
  | .local _ .vmem, ⟨26, _⟩ => ⟨S256x1, .f32⟩
  | .local _ .vmem, ⟨27, _⟩ => ⟨S256x4096, .fp8e4m3⟩
  | .local _ .vmem, ⟨28, _⟩ => ⟨S4096x14336, .i8⟩
  | .local _ .vmem, ⟨29, _⟩ => ⟨S4096x14336, .i8⟩
  | .local _ .vmem, ⟨30, _⟩ => ⟨S256x14336, .fp8e4m3⟩
  | .local _ .vmem, ⟨31, _⟩ => ⟨S14336x4096, .i8⟩
  | _, _ => ⟨S2x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev main_v8_7 : Ref sig .tc := ⟨.hbm, 26, rfl⟩
abbrev main_v8_8 : Ref sig .tc := ⟨.hbm, 27, rfl⟩
abbrev main_v8_9 : Ref sig .tc := ⟨.hbm, 28, rfl⟩
abbrev main_v8_10 : Ref sig .tc := ⟨.hbm, 29, rfl⟩
abbrev main_v8_11 : Ref sig .tc := ⟨.hbm, 30, rfl⟩
abbrev main_v8_12 : Ref sig .tc := ⟨.hbm, 31, rfl⟩
abbrev main_v8_13 : Ref sig .tc := ⟨.hbm, 32, rfl⟩
abbrev main_v8_14 : Ref sig .tc := ⟨.hbm, 33, rfl⟩
abbrev main_v8_15 : Ref sig .tc := ⟨.hbm, 34, rfl⟩
abbrev main_v8_16 : Ref sig .tc := ⟨.hbm, 35, rfl⟩
abbrev main_v8_17 : Ref sig .tc := ⟨.hbm, 36, rfl⟩
abbrev main_v8_18 : Ref sig .tc := ⟨.hbm, 37, rfl⟩
abbrev main_v8_19 : Ref sig .tc := ⟨.hbm, 38, rfl⟩
abbrev main_v8_20 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x14336 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x14336 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14336x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x14336 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x14336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4096x14336 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x14336 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S14336x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x14336 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x14336 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x4096 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S256x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x4096 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S256x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S256x4096 .fp8e4m3 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S4096x14336 .i8 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S4096x14336 .i8 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S256x14336 .fp8e4m3 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S14336x4096 .i8 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
-- ==== Proof.Tiles.lean ====
module

public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pointwise.Index

/-! Matrices cut into eight blocks of 512 rows or columns, as the kernel's loops walk them: the block of a
matrix, the matrix of a family of blocks, and the contents of a buffer of which the first blocks have been
overwritten. -/

@[expose] public section

set_option maxRecDepth 16384

noncomputable section

namespace Cert.Tiles

open Idealize.ShloMosaic

variable {α : Type}

/-- The shape of an `r` by `c` matrix. -/
abbrev Sh (r c : ℕ) : Shape := ⟨2, ![r, c]⟩

/-- Columns `512 k … 512 k + 511` of a matrix. -/
def colBlk {r c : ℕ} [NeZero c] (x : (Sh r c).Idx → α) (k : ℕ) : (Sh r 512).Idx → α :=
  fun j => x (ix2 (j 0) (Fin.ofNat c (512 * k + (j 1).val)))

/-- Rows `512 k … 512 k + 511` of a matrix, from column `o` on, `w` columns wide. -/
def rowBlk {r c : ℕ} [NeZero r] [NeZero c] (w o : ℕ) (x : (Sh r c).Idx → α) (k : ℕ) : (Sh 512 w).Idx → α :=
  fun j => x (ix2 (Fin.ofNat r (512 * k + (j 0).val)) (Fin.ofNat c (o + (j 1).val)))

/-- The matrix whose columns `512 k … 512 k + 511` are the block `P k`. -/
def colTiles {r c : ℕ} (P : ℕ → (Sh r 512).Idx → α) : (Sh r c).Idx → α :=
  fun y => P ((y 1).val / 512) (ix2 (y 0) (Fin.ofNat 512 (y 1).val))

/-- The matrix whose rows `512 k … 512 k + 511` are the block `P k`. -/
def rowTiles {r c : ℕ} (P : ℕ → (Sh 512 c).Idx → α) : (Sh r c).Idx → α :=
  fun y => P ((y 0).val / 512) (ix2 (Fin.ofNat 512 (y 0).val) (y 1))

/-- The matrix whose rows `512 k … 512 k + 511` are the block `P k` followed by the block `Q k`, each 256 columns wide. -/
def rowTiles2 {r : ℕ} (P Q : ℕ → (Sh 512 256).Idx → α) : (Sh r 512).Idx → α :=
  fun y => if (y 1).val < 256 then P ((y 0).val / 512) (ix2 (Fin.ofNat 512 (y 0).val) (Fin.ofNat 256 (y 1).val))
    else Q ((y 0).val / 512) (ix2 (Fin.ofNat 512 (y 0).val) (Fin.ofNat 256 ((y 1).val - 256)))

/-- A buffer that held `O`, after the first `k` blocks of 512 along axis `a` have been overwritten by those of `N`. -/
def mix {S : Shape} (a : Fin S.rank) : ℕ → (S.Idx → α) → (S.Idx → α) → S.Idx → α
  | 0, _, O => O
  | k + 1, N, O => fun y => if 512 * k ≤ (y a).val ∧ (y a).val < 512 * (k + 1) then N y else mix a k N O y

/-- Below the boundary a mixed array is the new one. -/
theorem mix_of_lt {S : Shape} (a : Fin S.rank) (N O : S.Idx → α) (y : S.Idx) :
    ∀ k, (y a).val < 512 * k → mix a k N O y = N y
  | 0, h => by omega
  | k + 1, h => by
    unfold mix
    split
    · rfl
    · exact mix_of_lt a N O y k (by omega)

/-- From the boundary on a mixed array is the old one. -/
theorem mix_of_ge {S : Shape} (a : Fin S.rank) (N O : S.Idx → α) (y : S.Idx) :
    ∀ k, 512 * k ≤ (y a).val → mix a k N O y = O y
  | 0, _ => rfl
  | k + 1, h => by
    unfold mix
    split
    · omega
    · exact mix_of_ge a N O y k (by omega)

/-- Once every block is overwritten nothing of the old contents is left. -/
theorem mix_full {S : Shape} (a : Fin S.rank) (k : ℕ) (N O : S.Idx → α) (h : S.size a ≤ 512 * k) : mix a k N O = N :=
  funext fun y => mix_of_lt a N O y k (lt_of_lt_of_le (y a).isLt h)

/-- Reading the block about to be overwritten finds the old contents. -/
theorem ld_mix {S : Shape} (a : Fin S.rank) (k : ℕ) (N O : S.Idx → α) (r : Rect S) (h : 512 * k ≤ r.off a) :
    (fun j => mix a k N O (r.emb j)) = fun j => O (r.emb j) :=
  funext fun j => mix_of_ge a N O _ k (by rw [Rect.emb_apply]; exact le_trans h (Nat.le_add_right _ _))

section Writes

variable {sig : RefSig} {κ : Kind} {sp : Space} {S : Shape} {e : EltTy} {Val : EltTy → Type}

/-- Storing the next block: the pieces agree with `N`, lie in block `k` and fill it. -/
theorem writes_mix {m : Memref sig κ sp S e} (hm : m.IsWhole) (a : Fin S.rank) (k : ℕ) (N O : S.Idx → Val e)
    (L : List (View.Piece Val S e))
    (hN : ∀ p ∈ L, ∀ x : p.1.shape.Idx, p.2 x = N (p.1.emb x))
    (hin : ∀ p ∈ L, ∀ y, y ∈ p.1.set → 512 * k ≤ (y a).val ∧ (y a).val < 512 * (k + 1))
    (hcov : ∀ y : S.Idx, 512 * k ≤ (y a).val → (y a).val < 512 * (k + 1) → ∃ p ∈ L, y ∈ p.1.set) :
    m.view.read Val (m.view.writes Val (hm.unread (mix a k N O)) L) = mix a (k + 1) N O := by
  refine funext fun y => ?_
  show _ = if _ then _ else _
  split
  · next h => exact View.read_writes_apply_of_pieces _ _ N L hN y (hcov y h.1 h.2)
  · next h =>
    rw [View.read_writes_apply_of_forall_not_mem _ _ y L fun p hp hy => h (hin p hp y hy), hm.read_unread]

end Writes

section Blocks

variable {e : EltTy} {Val : EltTy → Type}

/-- A load of columns `512 k …` reads the block. -/
theorem ld_col {r c : ℕ} [NeZero c] (x : (Sh r c).Idx → Val e) (k : ℕ) (off : Fin 2 → ℕ) (h : off = ![0, 512 * k])
    (inb : ∀ a, off a + (Sh r 512).size a ≤ (Sh r c).size a) :
    View.ld x (Rect.unit (s := Sh r c) off (Sh r 512).size inb) = colBlk x k := by
  subst h
  funext j
  refine congrArg x (funext fun a => Fin.ext ?_)
  have h1 := inb 1
  simp at h1
  have hj := (j 1).isLt
  simp at hj
  fin_cases a
  · simp [LoadRect.idx_apply, ix2]
  · simp [LoadRect.idx_apply, ix2]
    rw [Nat.mod_eq_of_lt (by omega)]

/-- A load of rows `512 k …`, columns `o …`, reads the block. -/
theorem ld_row {r c w : ℕ} [NeZero r] [NeZero c] (x : (Sh r c).Idx → Val e) (k o : ℕ) (off : Fin 2 → ℕ) (h : off = ![512 * k, o])
    (inb : ∀ a, off a + (Sh 512 w).size a ≤ (Sh r c).size a) :
    View.ld x (Rect.unit (s := Sh r c) off (Sh 512 w).size inb) = rowBlk w o x k := by
  subst h
  funext j
  refine congrArg x (funext fun a => Fin.ext ?_)
  have h0 := inb 0
  have h1 := inb 1
  simp at h0 h1
  have hj0 := (j 0).isLt
  have hj1 := (j 1).isLt
  simp at hj0 hj1
  fin_cases a
  · simp [LoadRect.idx_apply, ix2]
    rw [Nat.mod_eq_of_lt (by omega)]
  · simp [LoadRect.idx_apply, ix2]
    rw [Nat.mod_eq_of_lt (by omega)]

/-- The block of a matrix of column blocks. -/
theorem colBlk_colTiles {r c : ℕ} [NeZero c] (P : ℕ → (Sh r 512).Idx → α) (k : ℕ) (h : 512 * (k + 1) ≤ c) :
    colBlk (colTiles (c := c) P) k = P k := by
  funext j
  have hj := (j 1).isLt
  simp at hj
  show P ((512 * k + (j 1).val) % c / 512) (ix2 (j 0) (Fin.ofNat 512 ((512 * k + (j 1).val) % c))) = P k j
  rw [Nat.mod_eq_of_lt (a := 512 * k + (j 1).val) (b := c) (by omega)]
  have h1 : (512 * k + (j 1).val) / 512 = k := by omega
  rw [h1]
  refine congrArg (P k) (funext fun a => Fin.ext ?_)
  fin_cases a
  · rfl
  · show (512 * k + (j 1).val) % 512 = (j 1).val
    omega

/-- The block of a matrix of row blocks. -/
theorem rowBlk_rowTiles {r c : ℕ} [NeZero r] [NeZero c] (P : ℕ → (Sh 512 c).Idx → α) (k : ℕ) (h : 512 * (k + 1) ≤ r) :
    rowBlk c 0 (rowTiles (r := r) P) k = P k := by
  funext j
  have hj := (j 0).isLt
  have hj1 := (j 1).isLt
  simp at hj hj1
  show P ((512 * k + (j 0).val) % r / 512) (ix2 (Fin.ofNat 512 ((512 * k + (j 0).val) % r)) (Fin.ofNat c (0 + (j 1).val))) = P k j
  rw [Nat.mod_eq_of_lt (a := 512 * k + (j 0).val) (b := r) (by omega)]
  have h1 : (512 * k + (j 0).val) / 512 = k := by omega
  rw [h1]
  refine congrArg (P k) (funext fun a => Fin.ext ?_)
  fin_cases a
  · show (512 * k + (j 0).val) % 512 = (j 0).val
    omega
  · show (0 + (j 1).val) % c = (j 1).val
    rw [Nat.zero_add]; exact Nat.mod_eq_of_lt hj1

variable {sig : RefSig} {κ : Kind} {sp : Space}

/-- Storing the next block of columns. -/
theorem writes_col {r c : ℕ} [NeZero c] {m : Memref sig κ sp (Sh r c) e} (hm : m.IsWhole) (k : ℕ)
    (P : ℕ → (Sh r 512).Idx → Val e) (O : (Sh r c).Idx → Val e) (off : Fin 2 → ℕ) (h : off = ![0, 512 * k])
    (inb : ∀ a, off a + (Sh r 512).size a ≤ (Sh r c).size a) (w : (Sh r 512).Idx → Val e) (hw : w = P k) :
    m.view.read Val (m.view.writes Val (hm.unread (mix 1 k (colTiles P) O)) [⟨Rect.unit (s := Sh r c) off (Sh r 512).size inb, w⟩])
      = mix 1 (k + 1) (colTiles P) O := by
  subst hw
  refine writes_mix hm 1 k _ _ _ ?_ ?_ ?_
  · rintro p hp x
    obtain rfl := List.mem_singleton.1 hp
    have h1 := ld_col (Val := Val) (colTiles P) k off h inb
    rw [colBlk_colTiles P k (by have := inb 1; subst h; simp at this; omega)] at h1
    exact (congrFun h1 x).symm
  · rintro p hp y hy
    obtain rfl := List.mem_singleton.1 hp
    have this := (Rect.mem_set_unit (inb := by assumption)).1 hy
    have this := this 1
    subst h; simp at this; omega
  · intro y h1 h2
    refine ⟨_, List.mem_singleton.2 rfl, (Rect.mem_set_unit (inb := inb)).2 fun a => ?_⟩
    have h0 := (y 0).isLt
    subst h
    fin_cases a
    · simpa using h0
    · simp; omega

/-- Storing the next block of rows. -/
theorem writes_row {r c : ℕ} [NeZero r] [NeZero c] {m : Memref sig κ sp (Sh r c) e} (hm : m.IsWhole) (k : ℕ)
    (P : ℕ → (Sh 512 c).Idx → Val e) (O : (Sh r c).Idx → Val e) (off : Fin 2 → ℕ) (h : off = ![512 * k, 0])
    (inb : ∀ a, off a + (Sh 512 c).size a ≤ (Sh r c).size a) (w : (Sh 512 c).Idx → Val e) (hw : w = P k) :
    m.view.read Val (m.view.writes Val (hm.unread (mix 0 k (rowTiles P) O)) [⟨Rect.unit (s := Sh r c) off (Sh 512 c).size inb, w⟩])
      = mix 0 (k + 1) (rowTiles P) O := by
  subst hw
  refine writes_mix hm 0 k _ _ _ ?_ ?_ ?_
  · rintro p hp x
    obtain rfl := List.mem_singleton.1 hp
    have h1 := ld_row (Val := Val) (w := c) (rowTiles P) k 0 off h inb
    rw [rowBlk_rowTiles P k (by have := inb 0; subst h; simp at this; omega)] at h1
    exact (congrFun h1 x).symm
  · rintro p hp y hy
    obtain rfl := List.mem_singleton.1 hp
    have this := (Rect.mem_set_unit (inb := by assumption)).1 hy
    have this := this 0
    subst h; simp at this; omega
  · intro y h1 h2
    refine ⟨_, List.mem_singleton.2 rfl, (Rect.mem_set_unit (inb := inb)).2 fun a => ?_⟩
    have h0 := (y 1).isLt
    subst h
    fin_cases a
    · simp; omega
    · simpa using h0

/-- Storing the next block of rows as a left half and then a right half. -/
theorem writes_row2 {r : ℕ} [NeZero r] {m : Memref sig κ sp (Sh r 512) e} (hm : m.IsWhole) (k : ℕ)
    (P Q : ℕ → (Sh 512 256).Idx → Val e) (O : (Sh r 512).Idx → Val e) (off off' : Fin 2 → ℕ) (h : off = ![512 * k, 0])
    (h' : off' = ![512 * k, 256])
    (inb : ∀ a, off a + (Sh 512 256).size a ≤ (Sh r 512).size a) (inb' : ∀ a, off' a + (Sh 512 256).size a ≤ (Sh r 512).size a)
    (w w' : (Sh 512 256).Idx → Val e) (hw : w = P k) (hw' : w' = Q k) :
    m.view.read Val (m.view.writes Val (hm.unread (mix 0 k (rowTiles2 P Q) O))
        [⟨Rect.unit (s := Sh r 512) off' (Sh 512 256).size inb', w'⟩, ⟨Rect.unit (s := Sh r 512) off (Sh 512 256).size inb, w⟩])
      = mix 0 (k + 1) (rowTiles2 P Q) O := by
  subst hw; subst hw'; subst h; subst h'
  refine writes_mix hm 0 k _ _ _ ?_ ?_ ?_
  · rintro p hp x
    rcases List.mem_cons.1 hp with rfl | hp
    · have hx0 := (x 0).isLt
      have hx1 := (x 1).isLt
      simp at hx0 hx1
      unfold rowTiles2
      rw [if_neg (by simp)]
      simp
      have h1 : (512 * k + (x 0).val) / 512 = k := by omega
      rw [h1]
      refine congrArg (Q k) (funext fun a => Fin.ext ?_)
      fin_cases a
      · show (x 0).val = (512 * k + (x 0).val) % 512
        omega
      · show (x 1).val = (x 1).val % 256
        omega
    · obtain rfl := List.mem_singleton.1 hp
      have hx0 := (x 0).isLt
      have hx1 := (x 1).isLt
      simp at hx0 hx1
      unfold rowTiles2
      rw [if_pos (by simp; omega)]
      simp
      have h1 : (512 * k + (x 0).val) / 512 = k := by omega
      rw [h1]
      refine congrArg (P k) (funext fun a => Fin.ext ?_)
      fin_cases a
      · show (x 0).val = (512 * k + (x 0).val) % 512
        omega
      · show (x 1).val = (x 1).val % 256
        omega
  · rintro p hp y hy
    rcases List.mem_cons.1 hp with rfl | hp
    · have this := (Rect.mem_set_unit (inb := by assumption)).1 hy
      have this := this 0
      simp at this; omega
    · obtain rfl := List.mem_singleton.1 hp
      have this := (Rect.mem_set_unit (inb := by assumption)).1 hy
      have this := this 0
      simp at this; omega
  · intro y h1 h2
    have h0 := (y 1).isLt
    simp at h0
    by_cases hlt : (y 1).val < 256
    · refine ⟨_, List.mem_cons_of_mem _ (List.mem_singleton.2 rfl), (Rect.mem_set_unit (inb := inb)).2 fun a => ?_⟩
      fin_cases a
      · simp; omega
      · simpa using hlt
    · refine ⟨_, List.mem_cons_self, (Rect.mem_set_unit (inb := inb')).2 fun a => ?_⟩
      fin_cases a
      · simp; omega
      · simp; omega

/-- Reading the next block of columns of a buffer whose first blocks have been overwritten. -/
theorem colBlk_mix {r c : ℕ} [NeZero c] (N O : (Sh r c).Idx → α) (k : ℕ) (h : 512 * (k + 1) ≤ c) :
    colBlk (mix 1 k N O) k = colBlk O k := by
  funext j
  have hj := (j 1).isLt
  simp at hj
  refine mix_of_ge 1 N O _ k ?_
  show 512 * k ≤ (512 * k + (j 1).val) % c
  rw [Nat.mod_eq_of_lt (by omega)]; omega

/-- Reading the next block of rows of a buffer whose first blocks have been overwritten. -/
theorem rowBlk_mix {r c : ℕ} [NeZero r] [NeZero c] (w o : ℕ) (N O : (Sh r c).Idx → α) (k : ℕ) (h : 512 * (k + 1) ≤ r) :
    rowBlk w o (mix 0 k N O) k = rowBlk w o O k := by
  funext j
  have hj := (j 0).isLt
  simp at hj
  refine mix_of_ge 0 N O _ k ?_
  show 512 * k ≤ (512 * k + (j 0).val) % r
  rw [Nat.mod_eq_of_lt (by omega)]; omega

/-- A load of the next block of columns from a buffer, -/
theorem readAt_col {r c : ℕ} [NeZero c] {m : Memref sig κ sp (Sh r c) e} (hm : m.IsWhole) (x : (Sh r c).Idx → Val e) (k : ℕ)
    (off : Fin 2 → ℕ) (h : off = ![0, 512 * k]) (inb : ∀ a, off a + (Sh r 512).size a ≤ (Sh r c).size a) :
    View.readAt Val m.view (Rect.unit (s := Sh r c) off (Sh r 512).size inb) (hm.unread x) = colBlk x k := by
  rw [View.readAt_eq_ld, hm.read_unread]; exact ld_col x k off h inb

/-- of rows, -/
theorem readAt_row {r c w : ℕ} [NeZero r] [NeZero c] {m : Memref sig κ sp (Sh r c) e} (hm : m.IsWhole) (x : (Sh r c).Idx → Val e)
    (k o : ℕ) (off : Fin 2 → ℕ) (h : off = ![512 * k, o]) (inb : ∀ a, off a + (Sh 512 w).size a ≤ (Sh r c).size a) :
    View.readAt Val m.view (Rect.unit (s := Sh r c) off (Sh 512 w).size inb) (hm.unread x) = rowBlk w o x k := by
  rw [View.readAt_eq_ld, hm.read_unread]; exact ld_row x k o off h inb

/-- and of the whole buffer. -/
theorem readAt_whole {r c : ℕ} {m : Memref sig κ sp (Sh r c) e} (hm : m.IsWhole) (x : (Sh r c).Idx → Val e)
    (inb : ∀ a, (![0, 0] : Fin 2 → ℕ) a + (Sh r c).size a ≤ (Sh r c).size a) :
    View.readAt Val m.view (Rect.unit (s := Sh r c) ![0, 0] (Sh r c).size inb) (hm.unread x) = x := by
  rw [View.readAt_eq_ld, hm.read_unread]
  exact View.ld_unit_zero (S := Sh r c) (off := ![0, 0]) (funext fun a => by fin_cases a <;> rfl) inb x

/-- A store over the whole buffer leaves its payload. -/
theorem writes_whole {r c : ℕ} {m : Memref sig κ sp (Sh r c) e} (f : m.view.ty.Contents Val) (w : (Sh r c).Idx → Val e)
    (inb : ∀ a, (![0, 0] : Fin 2 → ℕ) a + (Sh r c).size a ≤ (Sh r c).size a) (L : List (View.Piece Val (Sh r c) e)) :
    m.view.read Val (m.view.writes Val f (⟨Rect.unit (s := Sh r c) ![0, 0] (Sh r c).size inb, w⟩ :: L)) = w := by
  funext y
  have hz : (![0, 0] : Fin 2 → ℕ) = fun _ => 0 := funext fun a => by fin_cases a <;> rfl
  have he : (Rect.unit (s := Sh r c) ![0, 0] (Sh r c).size inb).emb y = y :=
    congrFun (View.ld_unit_zero (Val := fun _ => (Sh r c).Idx) (e := e) (S := Sh r c) hz inb fun y => y) y
  conv_lhs => rw [← he]
  exact View.read_writes_cons_emb _ _ (Rect.unit (s := Sh r c) ![0, 0] (Sh r c).size inb) w L y

/-- A matrix with 128 of its columns, from column `o` on, replaced. -/
def putCols {r c : ℕ} (o : ℕ) (w : (Sh r 128).Idx → α) (x : (Sh r c).Idx → α) : (Sh r c).Idx → α :=
  fun y => if o ≤ (y 1).val ∧ (y 1).val < o + 128 then w (ix2 (y 0) (Fin.ofNat 128 ((y 1).val - o))) else x y

/-- A store of 128 columns. -/
theorem writes_cols {r c : ℕ} {m : Memref sig κ sp (Sh r c) e} (hm : m.IsWhole) (o : ℕ) (w : (Sh r 128).Idx → Val e)
    (x : (Sh r c).Idx → Val e) (inb : ∀ a, (![0, o] : Fin 2 → ℕ) a + (Sh r 128).size a ≤ (Sh r c).size a) :
    m.view.read Val (m.view.writes Val (hm.unread x) [⟨Rect.unit (s := Sh r c) ![0, o] (Sh r 128).size inb, w⟩])
      = putCols o w x := by
  funext y
  have hmem : y ∈ (Rect.unit (s := Sh r c) ![0, o] (Sh r 128).size inb).set ↔ o ≤ (y 1).val ∧ (y 1).val < o + 128 := by
    rw [Rect.mem_set_unit]
    have h0 := (y 0).isLt
    constructor
    · intro h; simpa using h 1
    · intro h a; fin_cases a
      · simpa using h0
      · simpa using h
  unfold putCols
  split
  · next h =>
    obtain ⟨j, rfl⟩ := LoadRect.exists_idx_of_mem _ (hmem.2 h)
    refine (View.read_writes_cons_emb _ _ (Rect.unit (s := Sh r c) ![0, o] (Sh r 128).size inb) w [] j).trans (congrArg w (funext fun a => Fin.ext ?_))
    have hj := (j 1).isLt
    simp at hj
    fin_cases a
    · show (j 0).val = 0 + 1 * (j 0).val
      omega
    · show (j 1).val = (o + 1 * (j 1).val - o) % 128
      omega
  · next h =>
    rw [View.read_writes_apply_of_forall_not_mem _ _ y _ (fun p hp hy => h (hmem.1 (by obtain rfl := List.mem_singleton.1 hp; exact hy))), hm.read_unread]

end Blocks

section Owns

open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type} [FloatOps F] {U : Type} [URA U]

local notation "𝕄" => MT nD τ sig Unit (Elt F) ℕ U ℕ

/-- A whole buffer at its contents. -/
theorem owns_open {c : Thread nD τ} {sp : Space} {sh : Shape} {e : EltTy} {m : Memref sig c.2.kind sp sh e} (hm : m.IsWhole)
    (X : sh.Idx → Elt F e) :
    (owns c m fullShare X : sProp 𝕄) ⊢ (m.view.loc c ↦[m.view.set]{fullShare} hm.unread X) := by
  unfold owns
  iintro ⟨%f, %hf, H⟩
  obtain rfl := hm.eq_unread hf
  iexact H

/-- A whole buffer back from its contents, however spelt. -/
theorem owns_close {c : Thread nD τ} {sp : Space} {sh : Shape} {e : EltTy} {m : Memref sig c.2.kind sp sh e}
    (X : sh.Idx → Elt F e) (f : m.view.ty.Contents (Elt F)) (h : m.view.read (Elt F) f = X) :
    (m.view.loc c ↦[m.view.set]{fullShare} f) ⊢ (owns c m fullShare X : sProp 𝕄) := by
  unfold owns
  iintro H
  iexists f
  isplitr
  · ipureintro; exact h
  iexact H

/-- A part of a body run by what it is known to return and to leave. -/
theorem cut {Mask : Type} {E : Type → Type} {Fr : Mask → sProp 𝕄} {w : Mask → ∀ ⦃β : Type⦄, E β → sWPT 𝕄 β} {Es : Mask}
    [∀ ⦃β : Type⦄ (e : E β), sWPT.Frameable (w Es e)] {α β : Type} {A : Prog E α} {kk : α → Prog E β} {Q : β → sProp 𝕄}
    {P R : sProp 𝕄} {v : α} (h : P ⊢ wp Fr w Es A (fun r => iprop(⌜r = v⌝ ∗ R))) :
    P ⊢ iprop((R -∗ wp Fr w Es (kk v) Q) -∗ wp Fr w Es (A >>= kk) Q) := by
  rw [wp_bind]
  iintro HP HK
  iapply (wp_wand_r Fr w Es)
  isplitl [HP]
  · iapply h $$ HP
  iintro %r ⟨%hr, HR⟩
  subst hr
  iapply HK $$ HR

end Owns

end Cert.Tiles
-- ==== Proof.Body0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Tiles
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The first call's body. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

/-- The running sum of squares before block `k`. -/
def ssq (x : Vec F S256x4096 .bf16) : ℕ → FVec F S256x128 .f32
  | 0 => k0_pay1
  | k + 1 => k0_pay2 (ssq x k) (colBlk x k)

/-- One trip of the sum of squares adds a block. -/
theorem trip_ssq (c : Dev nD) (arg0 : Memref sig .tc .smem S2 .f32) (harg0 : arg0.IsWhole) (arg1 : Memref sig .tc .vmem S256x4096 .bf16) (harg1 : arg1.IsWhole) (arg2 : Memref sig .tc .vmem S1x4096 .f32) (harg2 : arg2.IsWhole) (arg3 : Memref sig .tc .vmem S256x4096 .fp8e4m3) (harg3 : arg3.IsWhole) (arg4 : Memref sig .tc .vmem S4096x256 .bf16) (harg4 : arg4.IsWhole)
    (x : Vec F S256x4096 .bf16) (k : Fin k0_t1_loop.trips) (acc : FVec F S256x128 .f32) (E : Set ℕ) :
    (iprop(owns (c : Thread nD τ) arg1 fullShare x ∗ ⌜acc = ssq x k.val⌝) : sProp 𝕄)
      ⊢ wp frame (wpE (defs₀ (F := F)) Variants.none c none) E (k0_t1_body arg0 harg0 arg1 harg1 arg2 harg2 arg3 harg3 arg4 harg4 k acc)
          (fun r => iprop(owns (c : Thread nD τ) arg1 fullShare x ∗ ⌜r = ssq x (k.val + 1)⌝)) := by
  have hk : k.val < 8 := Nat.lt_of_lt_of_le k.isLt k0_t1_abs.2.1
  unfold k0_t1_body owns
  iintro ⟨⟨%f1, %hf1, H1⟩, %h⟩
  subst h
  obtain rfl := harg1.eq_unread hf1
  sl_exec
  sl_step
  isplitl [H1]
  · iexists _; isplitr; · ipureintro; exact harg1.read_unread _
    iexact H1
  ipureintro
  show _ = k0_pay2 (ssq x k.val) (colBlk x k.val)
  rw [← ld_col x k.val _ (k0_off1_eq k) (k0_off1_inb k)]
  simp only [View.readAt_eq_ld, harg1.read_unread]

/-- The blocks of quantised values and of their transposed copy. -/
abbrev qBlk (v0 : Elt F .f32) (v3 : FVec F S256x128 .f32) (x : Vec F S256x4096 .bf16) (g : Vec F S1x4096 .f32) (k : ℕ) : Vec F S256x512 .fp8e4m3 :=
  k0_pay3 v0 v3 (colBlk x k) (colBlk g k)
abbrev qtBlk (v0 : Elt F .f32) (v3 : FVec F S256x128 .f32) (x : Vec F S256x4096 .bf16) (g : Vec F S1x4096 .f32) (k : ℕ) : Vec F S512x256 .bf16 :=
  k0_pay4 v0 v3 (colBlk x k) (colBlk g k)

/-- One trip of the quantising loop overwrites one block of each output. -/
theorem trip_quant (c : Dev nD) (arg0 : Memref sig .tc .smem S2 .f32) (harg0 : arg0.IsWhole) (arg1 : Memref sig .tc .vmem S256x4096 .bf16) (harg1 : arg1.IsWhole) (arg2 : Memref sig .tc .vmem S1x4096 .f32) (harg2 : arg2.IsWhole) (arg3 : Memref sig .tc .vmem S256x4096 .fp8e4m3) (harg3 : arg3.IsWhole) (arg4 : Memref sig .tc .vmem S4096x256 .bf16) (harg4 : arg4.IsWhole) (v0 : Elt F .f32) (v3 : FVec F S256x128 .f32)
    (x : Vec F S256x4096 .bf16) (g : Vec F S1x4096 .f32) (O3 : Vec F S256x4096 .fp8e4m3) (O4 : Vec F S4096x256 .bf16)
    (k : Fin k0_t2_loop.trips) (E : Set ℕ) :
    (iprop(owns (c : Thread nD τ) arg1 fullShare x ∗ owns (c : Thread nD τ) arg2 fullShare g
        ∗ owns (c : Thread nD τ) arg3 fullShare (mix 1 k.val (colTiles (qBlk v0 v3 x g)) O3)
        ∗ owns (c : Thread nD τ) arg4 fullShare (mix 0 k.val (rowTiles (qtBlk v0 v3 x g)) O4)) : sProp 𝕄)
      ⊢ wp frame (wpE (defs₀ (F := F)) Variants.none c none) E (k0_t2_body arg0 harg0 arg1 harg1 arg2 harg2 arg3 harg3 arg4 harg4 v0 v3 k ⟨⟩)
          (fun _ => iprop(owns (c : Thread nD τ) arg1 fullShare x ∗ owns (c : Thread nD τ) arg2 fullShare g
        ∗ owns (c : Thread nD τ) arg3 fullShare (mix 1 (k.val + 1) (colTiles (qBlk v0 v3 x g)) O3)
        ∗ owns (c : Thread nD τ) arg4 fullShare (mix 0 (k.val + 1) (rowTiles (qtBlk v0 v3 x g)) O4))) := by
  have hk : k.val < 8 := Nat.lt_of_lt_of_le k.isLt k0_t2_abs.2.1
  unfold k0_t2_body owns
  iintro ⟨⟨%f1, %hf1, H1⟩, ⟨%f2, %hf2, H2⟩, ⟨%f3, %hf3, H3⟩, ⟨%f4, %hf4, H4⟩⟩
  obtain rfl := harg1.eq_unread hf1
  obtain rfl := harg2.eq_unread hf2
  obtain rfl := harg3.eq_unread hf3
  obtain rfl := harg4.eq_unread hf4
  sl_exec
  sl_step
  have e1 : View.readAt (Elt F) arg1.view (Rect.unit (s := S256x4096) (k0_off2 k) S256x512.size (k0_off2_inb k)) (harg1.unread x) = colBlk x k.val := by
    rw [View.readAt_eq_ld, harg1.read_unread]; exact ld_col x k.val _ (k0_off2_eq k) (k0_off2_inb k)
  have e2 : View.readAt (Elt F) arg2.view (Rect.unit (s := S1x4096) (k0_off3 k) S1x512.size (k0_off3_inb k)) (harg2.unread g) = colBlk g k.val := by
    rw [View.readAt_eq_ld, harg2.read_unread]; exact ld_col g k.val _ (k0_off3_eq k) (k0_off3_inb k)
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [e1, e2]
    exact writes_col harg3 k.val (qBlk v0 v3 x g) O3 _ (k0_off2_eq k) (k0_off2_inb k) _ rfl
  · iexists _; isplitr
    swap; · iexact H4
    ipureintro
    rw [e1, e2]
    exact writes_row harg4 k.val (qtBlk v0 v3 x g) O4 _ (k0_off4_eq k) (k0_off4_inb k) _ rfl

/-- The scale that the call reads. -/
abbrev sc0 (s : Vec F S2 .f32) : Elt F .f32 := s (ix1 0)

/-- The whole body: both outputs in closed form. -/
theorem body0 (c : Dev nD) (arg0 : Memref sig .tc .smem S2 .f32) (harg0 : arg0.IsWhole) (arg1 : Memref sig .tc .vmem S256x4096 .bf16) (harg1 : arg1.IsWhole) (arg2 : Memref sig .tc .vmem S1x4096 .f32) (harg2 : arg2.IsWhole) (arg3 : Memref sig .tc .vmem S256x4096 .fp8e4m3) (harg3 : arg3.IsWhole) (arg4 : Memref sig .tc .vmem S4096x256 .bf16) (harg4 : arg4.IsWhole)
    (s : Vec F S2 .f32) (x : Vec F S256x4096 .bf16) (g : Vec F S1x4096 .f32) (E : Set ℕ) (K : PUnit → sProp 𝕄) :
    (iprop(owns (c : Thread nD τ) arg0 fullShare s ∗ owns (c : Thread nD τ) arg1 fullShare x ∗ owns (c : Thread nD τ) arg2 fullShare g
        ∗ (∃ d, owns (c : Thread nD τ) arg3 fullShare d) ∗ (∃ d, owns (c : Thread nD τ) arg4 fullShare d)
        ∗ (iprop(owns (c : Thread nD τ) arg0 fullShare s ∗ owns (c : Thread nD τ) arg1 fullShare x ∗ owns (c : Thread nD τ) arg2 fullShare g
          ∗ owns (c : Thread nD τ) arg3 fullShare (colTiles (qBlk (sc0 s) (ssq x 8) x g))
          ∗ owns (c : Thread nD τ) arg4 fullShare (rowTiles (qtBlk (sc0 s) (ssq x 8) x g))) -∗ K ⟨⟩)) : sProp 𝕄)
      ⊢ wp frame (wpE (defs₀ (F := F)) Variants.none c none) E (cc0_norm_quant arg0 harg0 arg1 harg1 arg2 harg2 arg3 harg3 arg4 harg4 ) K := by
  simp only [cc0_norm_quant_eq_skeleton]; unfold cc0_norm_quant_skel
  have ht1 : k0_t1_loop.trips = 8 := by decide
  have ht2 : k0_t2_loop.trips = 8 := by decide
  iintro ⟨H0, H1, H2, ⟨%d3, H3⟩, ⟨%d4, H4⟩, Hk⟩
  ihave H0 := (owns_open harg0 s) $$ H0
  sl_exec
  sl_for (fun k acc => iprop(owns (c : Thread nD τ) arg1 fullShare x ∗ ⌜acc = ssq x k⌝)) $$ [H1]
  · intro k acc
    exact trip_ssq c arg0 harg0 arg1 harg1 arg2 harg2 arg3 harg3 arg4 harg4  x k acc E
  · isplitl [H1]; · iexact H1
    ipureintro; rfl
  iintro %acc ⟨H1, %hacc⟩
  obtain rfl : acc = ssq x 8 := hacc.trans (congrArg (ssq x) ht1)
  sl_exec
  have hr : body0.sl.r c arg0 harg0 s = sc0 s := by
    unfold body0.sl.r
    rw [View.readAt_eq_ld, harg0.read_unread]
    exact congrArg s (funext fun a => by fin_cases a; rfl)
  rw [hr]
  sl_for (fun k _ => iprop(owns (c : Thread nD τ) arg1 fullShare x ∗ owns (c : Thread nD τ) arg2 fullShare g
        ∗ owns (c : Thread nD τ) arg3 fullShare (mix 1 k (colTiles (qBlk (sc0 s) (ssq x 8) x g)) d3)
        ∗ owns (c : Thread nD τ) arg4 fullShare (mix 0 k (rowTiles (qtBlk (sc0 s) (ssq x 8) x g)) d4))) $$ [H1 H2 H3 H4]
  · intro k acc
    exact trip_quant c arg0 harg0 arg1 harg1 arg2 harg2 arg3 harg3 arg4 harg4  _ _ x g d3 d4 k E
  · isplitl [H1]; · iexact H1
    isplitl [H2]; · iexact H2
    isplitl [H3]; · iexact H3
    iexact H4
  iintro %acc ⟨H1, H2, H3, H4⟩
  rw [mix_full 1 _ _ d3 (by decide), mix_full 0 _ _ d4 (by decide)]
  sl_exec
  sl_step
  iapply Hk
  isplitl [H0]; · iapply (owns_close s _ (harg0.read_unread _)) $$ H0
  isplitl [H1]; · iexact H1
  isplitl [H2]; · iexact H2
  isplitl [H3]; · iexact H3
  iexact H4

end Cert.KernelIdeal.Body
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Body0
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The first call: what its pipeline holds at each step, and that its body keeps it. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Body Cert.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

/-- The block of window `w` at step `t`. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every step. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 holds its block at every step. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 holds its block at every step. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .smem S2 .f32 := win0_0.stage (cfg0.slots t 0)
abbrev hs0_0 (t : Fin cfg0.N) : (ms0_0 t).IsWhole := hstage0_0 0
abbrev ms0_1 (t : Fin cfg0.N) : Memref sig .tc .vmem S256x4096 .bf16 := win0_1.stage (cfg0.slots t 1)
abbrev hs0_1 (t : Fin cfg0.N) : (ms0_1 t).IsWhole := hstage0_1 0
abbrev ms0_2 (t : Fin cfg0.N) : Memref sig .tc .vmem S1x4096 .f32 := win0_2.stage (cfg0.slots t 2)
abbrev hs0_2 (t : Fin cfg0.N) : (ms0_2 t).IsWhole := hstage0_2 0
abbrev ms0_3 (t : Fin cfg0.N) : Memref sig .tc .vmem S256x4096 .fp8e4m3 := win0_3.stage (cfg0.slots t 3)
abbrev hs0_3 (t : Fin cfg0.N) : (ms0_3 t).IsWhole := hstage0_3 0
abbrev ms0_4 (t : Fin cfg0.N) : Memref sig .tc .vmem S4096x256 .bf16 := win0_4.stage (cfg0.slots t 4)
abbrev hs0_4 (t : Fin cfg0.N) : (ms0_4 t).IsWhole := hstage0_4 0

/-- The proof data: every window after each step. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => colTiles (qBlk (sc0 (iblk0 V c 0 t)) (ssq (iblk0 V c 1 t) 8) (iblk0 V c 1 t) (iblk0 V c 2 t))
    | ⟨4, _⟩ => rowTiles (qtBlk (sc0 (iblk0 V c 0 t)) (ssq (iblk0 V c 1 t) 8) (iblk0 V c 1 t) (iblk0 V c 2 t))
    | ⟨_ + 5, h⟩ => absurd h (Nat.not_lt.2 (Nat.le_add_left _ _))
  Φ _ := Pipeline.ΦA spec0 c
  q _ := fullShare
  owed _ := 0

/-- Each window's array begins as the memory's array. -/
theorem A_eq0 (c : Dev nD) (w : Fin cfg0.W) : (dat0 V c).A w = V c (Pipeline.arrRef spec0 w) := by
  dsimp only [dat0]

/-- What window 0 of the norm call holds when a grid step ends. -/
theorem after0_0 (c : Dev nD) (t : Fin cfg0.N) : (dat0 V c).after 0 t = iblk0 V c 0 t := by dsimp only [dat0]
/-- What window 1 of the norm call holds when a grid step ends. -/
theorem after0_1 (c : Dev nD) (t : Fin cfg0.N) : (dat0 V c).after 1 t = iblk0 V c 1 t := by dsimp only [dat0]
/-- What window 2 of the norm call holds when a grid step ends. -/
theorem after0_2 (c : Dev nD) (t : Fin cfg0.N) : (dat0 V c).after 2 t = iblk0 V c 2 t := by dsimp only [dat0]
/-- What window 3 of the norm call holds when a grid step ends. -/
theorem after0_3 (c : Dev nD) (t : Fin cfg0.N) : (dat0 V c).after 3 t = colTiles (qBlk (sc0 (iblk0 V c 0 t)) (ssq (iblk0 V c 1 t) 8) (iblk0 V c 1 t) (iblk0 V c 2 t)) := by dsimp only [dat0]
/-- What window 4 of the norm call holds when a grid step ends. -/
theorem after0_4 (c : Dev nD) (t : Fin cfg0.N) : (dat0 V c).after 4 t = rowTiles (qtBlk (sc0 (iblk0 V c 0 t)) (ssq (iblk0 V c 1 t) 8) (iblk0 V c 1 t) (iblk0 V c 2 t)) := by dsimp only [dat0]

/-- Window 0 of the norm call holds its array's block when a grid step begins. -/
theorem before0_0 (c : Dev nD) (t : Fin cfg0.N) (d) : (dat0 V c).before 0 t d = iblk0 V c 0 t :=
  before0_0_of V (dat0 V c) (A_eq0 V c 0) (after0_0 V c) t d
/-- Window 1 of the norm call holds its array's block when a grid step begins. -/
theorem before0_1 (c : Dev nD) (t : Fin cfg0.N) (d) : (dat0 V c).before 1 t d = iblk0 V c 1 t :=
  before0_1_of V (dat0 V c) (A_eq0 V c 1) (after0_1 V c) t d
/-- Window 2 of the norm call holds its array's block when a grid step begins. -/
theorem before0_2 (c : Dev nD) (t : Fin cfg0.N) (d) : (dat0 V c).before 2 t d = iblk0 V c 2 t :=
  before0_2_of V (dat0 V c) (A_eq0 V c 2) (after0_2 V c) t d

/-- What the body is entered with and what it leaves. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1000000 in
/-- The body at step `t`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body0 c _ _ _ _ _ _ _ _ _ _ (iblk0 V c 0 t) (iblk0 V c 1 t) (iblk0 V c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxHeartbeats 1000000 in
/-- The body that a grid step runs, with its buffers put in. -/
theorem defs₀_row0 (t : Fin cfg0.N) :
    defs₀ (F := F) .tc cfg0.body (cfg0.bodyArgs t (cfg0.slots t)) = bodyAt0 t := by
  unfold defs₀; rw [Defs.onTc_tc]

set_option maxHeartbeats 1000000 in
/-- The body's obligation to the pipeline. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.Values1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Tiles
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! What one step of the main call computes, in closed form: functions of the blocks that it reads and of the accumulators. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

/-- What the main call reads: the two activation scales, the quantised activations and their transpose, the incoming
gradient, the three blocks of weights and the three rows of scales. -/
structure In (F : FTy → Type) [FloatOps F] where
  s : Vec F S2 .f32
  c1 : Vec F S256x4096 .fp8e4m3
  ct : Vec F S4096x256 .bf16
  dy : Vec F S256x4096 .bf16
  wg : Vec F S4096x256 .bf16
  wu : Vec F S4096x256 .bf16
  wd : Vec F S256x4096 .bf16
  sg : Vec F S1x256 .f32
  su : Vec F S1x256 .f32
  sd : Vec F S1x4096 .f32

namespace In

variable (X : In F)

/-- The scales of the two activations. -/
abbrev s1 : Elt F .f32 := X.s (ix1 0)
abbrev s2 : Elt F .f32 := X.s (ix1 1)
/-- Block `k` of the gate's and of the up projection's weights. -/
abbrev bg (k : ℕ) : Vec F S512x256 .bf16 := rowBlk 256 0 X.wg k
abbrev bu (k : ℕ) : Vec F S512x256 .bf16 := rowBlk 256 0 X.wu k
abbrev cst : F .f32 := Scalar.ofBits .f32 0x40E00000#32
/-- The clipping masks of both weights, side by side, -/
def m27 : Vec F S4096x512 .f32 :=
  rowTiles2 (fun k => k1_pay10 (k1_pay43 X.sg) (X.bg k)) (fun k => k1_pay48 (k1_pay14 (k1_pay44 X.su) (X.bu k)) cst (k1_pay15 (k1_pay44 X.su) (X.bu k)))
/-- the dequantised weights, -/
def w26 : Vec F S4096x512 .bf16 :=
  rowTiles2 (fun k => k1_pay11 (k1_pay41 X.sg) (k1_pay43 X.sg) (X.bg k)) (fun k => k1_pay49 X.su cst (k1_pay15 (k1_pay44 X.su) (X.bu k)))
/-- their integer codes in the narrow float format, -/
def q28 : Vec F S4096x512 .fp8e4m3 :=
  rowTiles2 (fun k => k1_pay13 (k1_pay43 X.sg) (X.bg k)) (fun k => k1_pay51 cst (k1_pay15 (k1_pay44 X.su) (X.bu k)))
/-- and as integers. -/
def cg : Vec F S4096x256 .i8 := rowTiles (fun k => k1_pay12 (k1_pay43 X.sg) (X.bg k))
def cu : Vec F S4096x256 .i8 := rowTiles (fun k => k1_pay50 cst (k1_pay15 (k1_pay44 X.su) (X.bu k)))

/-- The row scales as the products use them. -/
abbrev v6 : FVec F S1x256 .f32 := k1_pay41 X.sg
abbrev v8 : FVec F S1x256 .f32 := k1_pay42 X.su
/-- The gate's and the up projection's products. -/
def raw0 : Vec F S256x256 .f32 := k1_pay53 X.c1 X.q28
def v23 : FVec F S256x256 .f32 := k1_pay54 X.c1 X.q28

/-- The step's three conditions: the first step, and whether the left or the right half is computed again. -/
abbrev first (i : grid1.Coords) : Prop :=
  Scalar.cmpi .ne (Scalar.extui (Scalar.cmpi .eq (BitVec.ofNat 32 (i 0).val) 0#32) : BitVec 32) 0#32 = 1#1
abbrev left (i : grid1.Coords) : Prop :=
  Scalar.cmpi .ne (Scalar.extui (Scalar.cmpi .eq (Scalar.remsi (Scalar.addi (Scalar.muli (BitVec.ofNat 32 (i 0).val) 2#32) 0#32) 19#32) 18#32) : BitVec 32) 0#32 = 1#1
abbrev right (i : grid1.Coords) : Prop :=
  Scalar.cmpi .ne (Scalar.extui (Scalar.cmpi .eq (Scalar.remsi (Scalar.addi (Scalar.muli (BitVec.ofNat 32 (i 0).val) 2#32) 1#32) 19#32) 18#32) : BitVec 32) 0#32 = 1#1

/-- The accumulators as a step finds them: zero at the first step. -/
def z20 (i : grid1.Coords) (O : Vec F S256x4096 .f32) : Vec F S256x4096 .f32 := if first i then k1_pay35 else O
def z21 (i : grid1.Coords) (O : Vec F S4096x256 .f32) : Vec F S4096x256 .f32 := if first i then k1_pay36 else O
def z22 (i : grid1.Coords) (O : Vec F S8x4096 .f32) : Vec F S8x4096 .f32 := if first i then k1_pay37 else O
def z23 (i : grid1.Coords) (O : Vec F S256x128 .f32) : Vec F S256x128 .f32 := if first i then k1_pay38 else O
def z24 (i : grid1.Coords) (O : Vec F S256x128 .f32) : Vec F S256x128 .f32 := if first i then k1_pay39 else O
def z25 (i : grid1.Coords) (O : Vec F S256x128 .f32) : Vec F S256x128 .f32 := if first i then k1_pay40 else O

/-- A half of the codes. -/
abbrev half (o : ℕ) (inb : ∀ a, (![0, o] : Fin 2 → ℕ) a + S4096x128.size a ≤ S4096x512.size a) : Vec F S4096x128 .fp8e4m3 :=
  View.ld X.q28 (Rect.unit (s := S4096x512) ![0, o] S4096x128.size inb)

/-- The gate's product after the left half, -/
def rawL (i : grid1.Coords) : Vec F S256x256 .f32 :=
  if left i then putCols 0 (k1_pay55 X.c1 (X.half 0 inb_S4096x512_S4096x128_0_0)) X.raw0 else X.raw0
/-- and after both halves. -/
def raw (i : grid1.Coords) : Vec F S256x256 .f32 :=
  if right i then putCols 128 (k1_pay56 X.c1 (X.half 128 inb_S4096x512_S4096x128_0_128)) (X.rawL i) else X.rawL i

/-- The codes of the second activation. -/
def c2 (i : grid1.Coords) : Vec F S256x256 .fp8e4m3 := k1_pay61 X.s1 X.s2 X.v6 X.v8 X.v23 (X.raw i)
/-- The second activation dequantised. -/
def a2 (i : grid1.Coords) : Vec F S256x256 .bf16 := k1_pay62 X.s1 X.s2 X.v6 X.v8 X.v23 (X.raw i)
abbrev bsd (k : ℕ) : Vec F S1x512 .f32 := colBlk X.sd k
abbrev bwd (k : ℕ) : Vec F S256x512 .bf16 := colBlk X.wd k
abbrev bdy (k : ℕ) : Vec F S256x512 .bf16 := colBlk X.dy k
/-- The gradient of the second activation before block `k`. -/
def acc59 : ℕ → FVec F S256x256 .f32
  | 0 => k1_pay45
  | k + 1 => k1_pay64 (acc59 k) (k1_pay16 (X.bsd k)) (k1_pay19 (X.bsd k) (X.bwd k)) (k1_pay24 (X.bdy k))
/-- The down projection's integer codes, -/
def cd : Vec F S256x4096 .i8 := colTiles (fun k => k1_pay22 (X.bsd k) (X.bwd k))
/-- its weights' gradient, -/
def dwd (i : grid1.Coords) : Vec F S256x4096 .bf16 := colTiles (fun k => k1_pay26 X.s2 (X.a2 i) (X.bsd k) (X.bwd k) (X.bdy k))
/-- the output's accumulator, -/
def o20 (i : grid1.Coords) (O : Vec F S256x4096 .f32) : Vec F S256x4096 .f32 :=
  colTiles (fun k => k1_pay23 (X.c2 i) (X.bsd k) (X.bwd k) (colBlk O k))
/-- and the accumulator of its scales' gradient. -/
def d22 (i : grid1.Coords) (O : Vec F S8x4096 .f32) : Vec F S8x4096 .f32 :=
  colTiles (fun k => k1_pay63 (k1_pay21 (X.bsd k) (X.bwd k)) (k1_pay25 X.s2 (X.a2 i) (X.bdy k)) (colBlk O k))

abbrev v40 (i : grid1.Coords) : FVec F S256x256 .f32 := k1_pay57 X.s1 X.v6 (X.raw i)
abbrev v44 : FVec F S256x256 .f32 := k1_pay58 X.s1 X.v8 X.v23
abbrev v45 (i : grid1.Coords) : FVec F S256x256 .f32 := k1_pay59 X.s1 X.v6 (X.raw i)
abbrev v49 (i : grid1.Coords) : FVec F S256x256 .f32 := k1_pay60 X.s1 X.s2 X.v6 X.v8 X.v23 (X.raw i)
abbrev v59 : FVec F S256x256 .f32 := X.acc59 8
abbrev v60 (i : grid1.Coords) : FVec F S256x256 .f32 := k1_pay65 X.s1 X.s2 X.v6 X.v8 X.v23 (X.raw i)
abbrev v62 (i : grid1.Coords) : IVec S256x256 1 := k1_pay66 X.s1 X.s2 X.v6 X.v8 X.v23 (X.raw i)
abbrev v64 (i : grid1.Coords) : FVec F S256x256 .f32 := k1_pay67 X.s1 X.s2 X.v6 X.v8 X.v23 (X.raw i) X.v59
abbrev v66 (i : grid1.Coords) : FVec F S256x256 .f32 := k1_pay68 X.s1 X.s2 X.v6 X.v8 X.v23 (X.raw i)
abbrev v67 : FVec F S256x256 .f32 := k1_pay69
abbrev v109 (i : grid1.Coords) : FVec F S256x256 .f32 := k1_pay74 (X.v44) (X.v64 i)
/-- The three partial sums of the activation scale's gradient. -/
def p25 (i : grid1.Coords) (O : Vec F S256x128 .f32) : Vec F S256x128 .f32 := k1_pay71 X.v59 (X.v62 i) (X.v66 i) v67 O
def p23 (i : grid1.Coords) (O : Vec F S256x128 .f32) : Vec F S256x128 .f32 := k1_pay72 X.v59 (X.v62 i) (X.v66 i) v67 O
def p24 (i : grid1.Coords) (O : Vec F S256x128 .f32) : Vec F S256x128 .f32 := k1_pay73 (X.v49 i) X.v59 (X.v60 i) O

abbrev bct (k : ℕ) : Vec F S512x256 .bf16 := rowBlk 256 0 X.ct k
abbrev dg (i : grid1.Coords) : FVec F S256x256 .bf16 := k1_pay1 (X.v40 i) (X.v45 i) (X.v109 i)
abbrev du (i : grid1.Coords) : FVec F S256x256 .bf16 := k1_pay2 (X.v40 i) (X.v45 i) (X.v64 i)
/-- The gradients of the gate's and the up projection's weights, -/
def dwg (i : grid1.Coords) : Vec F S4096x256 .bf16 := rowTiles (fun k => k1_pay29 X.s1 (X.dg i) (X.bct k) (rowBlk 256 0 X.m27 k))
def dwu (i : grid1.Coords) : Vec F S4096x256 .bf16 := rowTiles (fun k => k1_pay32 X.s1 (X.du i) (X.bct k) (rowBlk 256 256 X.m27 k))
/-- the accumulator of the first activation's gradient, -/
def d21 (i : grid1.Coords) (O : Vec F S4096x256 .f32) : Vec F S4096x256 .f32 :=
  rowTiles (fun k => k1_pay4 (X.v40 i) (X.v45 i) (X.v64 i) (X.v109 i) (k1_pay34 (rowBlk 256 0 O k)) (rowBlk 512 0 X.w26 k))
/-- and the partial sums of both scales' gradients before block `k`. -/
def accg (i : grid1.Coords) : ℕ → FVec F S8x256 .f32
  | 0 => k1_pay3
  | k + 1 => k1_pay30 X.s1 (X.dg i) (accg i k) (X.bct k) (rowBlk 256 0 X.m27 k)
def accu (i : grid1.Coords) : ℕ → FVec F S8x256 .f32
  | 0 => k1_pay3
  | k + 1 => k1_pay33 X.s1 (X.du i) (accu i k) (X.bct k) (rowBlk 256 256 X.m27 k)
def dsg (i : grid1.Coords) : Vec F S1x256 .f32 := k1_pay5 (X.accg i 8)
def dsu (i : grid1.Coords) : Vec F S1x256 .f32 := k1_pay6 (X.accu i 8)

end In

end Cert.KernelIdeal.Body
-- ==== Proof.Trip1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Values1
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! One trip of the main call's first loop. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

/-- One trip of the first loop quantises one block of rows of the gate's and the up projection's weights. -/
theorem trip1 (O14 : Vec F S4096x256 .i8) (O15 : Vec F S4096x256 .i8) (O26 : Vec F S4096x512 .bf16) (O27 : Vec F S4096x512 .f32) (O28 : Vec F S4096x512 .fp8e4m3) (k : Fin k1_t1_loop.trips) (E : Set ℕ) :
    (iprop(owns (c : Thread nD τ) arg5 fullShare X.wg
        ∗ owns (c : Thread nD τ) arg6 fullShare X.wu
        ∗ owns (c : Thread nD τ) arg14 fullShare (mix 0 k.val X.cg O14)
        ∗ owns (c : Thread nD τ) arg15 fullShare (mix 0 k.val X.cu O15)
        ∗ owns (c : Thread nD τ) arg26 fullShare (mix 0 k.val X.w26 O26)
        ∗ owns (c : Thread nD τ) arg27 fullShare (mix 0 k.val X.m27 O27)
        ∗ owns (c : Thread nD τ) arg28 fullShare (mix 0 k.val X.q28 O28)) : sProp 𝕄)
      ⊢ wp frame (wpE (defs₀ (F := F)) Variants.none c none) E (k1_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X.sg X.su k ⟨⟩)
          (fun _ => iprop(owns (c : Thread nD τ) arg5 fullShare X.wg
        ∗ owns (c : Thread nD τ) arg6 fullShare X.wu
        ∗ owns (c : Thread nD τ) arg14 fullShare (mix 0 (k.val + 1) X.cg O14)
        ∗ owns (c : Thread nD τ) arg15 fullShare (mix 0 (k.val + 1) X.cu O15)
        ∗ owns (c : Thread nD τ) arg26 fullShare (mix 0 (k.val + 1) X.w26 O26)
        ∗ owns (c : Thread nD τ) arg27 fullShare (mix 0 (k.val + 1) X.m27 O27)
        ∗ owns (c : Thread nD τ) arg28 fullShare (mix 0 (k.val + 1) X.q28 O28))) := by
  have hk : k.val < 8 := Nat.lt_of_lt_of_le k.isLt k1_t1_abs.2.1
  unfold k1_t1_body
  simp only [k1_part1_eq_skeleton]
  iintro ⟨H5, H6, H14, H15, H26, H27, H28⟩
  ihave H5 := (owns_open harg5 _) $$ H5
  ihave H6 := (owns_open harg6 _) $$ H6
  ihave H14 := (owns_open harg14 _) $$ H14
  ihave H15 := (owns_open harg15 _) $$ H15
  ihave H26 := (owns_open harg26 _) $$ H26
  ihave H27 := (owns_open harg27 _) $$ H27
  ihave H28 := (owns_open harg28 _) $$ H28
  sl_exec
  sl_step
  have e5 : ∀ inb, View.readAt (Elt F) arg5.view (Rect.unit (s := S4096x256) (k1_off1 k) S512x256.size inb).toLoadRect (harg5.unread X.wg) = X.bg k.val := fun inb => readAt_row (w := 256) harg5 X.wg k.val 0 _ (k1_off1_eq k) inb
  have e6 : ∀ inb, View.readAt (Elt F) arg6.view (Rect.unit (s := S4096x256) (k1_off1 k) S512x256.size inb).toLoadRect (harg6.unread X.wu) = X.bu k.val := fun inb => readAt_row (w := 256) harg6 X.wu k.val 0 _ (k1_off1_eq k) inb
  isplitl [H5]; · iapply (owns_close _ _ (harg5.read_unread _)) $$ H5
  isplitl [H6]; · iapply (owns_close _ _ (harg6.read_unread _)) $$ H6
  isplitl [H14]; · iapply (owns_close _ _ (by rw [e5]; exact writes_row harg14 k.val _ O14 _ (k1_off1_eq k) (k1_off1_inb k) _ rfl)) $$ H14
  isplitl [H15]; · iapply (owns_close _ _ (by (try unfold trip1.sl.r); (try unfold trip1.sl.r_1); (try unfold trip1.sl.cst_77); rw [e6]; exact writes_row harg15 k.val _ O15 _ (k1_off1_eq k) (k1_off1_inb k) _ rfl)) $$ H15
  isplitl [H26]; · iapply (owns_close _ _ (by (try unfold trip1.sl.r); (try unfold trip1.sl.r_1); (try unfold trip1.sl.cst_77); rw [e5, e6]; exact writes_row2 harg26 k.val _ _ O26 _ _ (k1_off2_eq k) (k1_off3_eq k) (k1_off2_inb k) (k1_off3_inb k) _ _ rfl rfl)) $$ H26
  isplitl [H27]; · iapply (owns_close _ _ (by (try unfold trip1.sl.r); (try unfold trip1.sl.r_1); (try unfold trip1.sl.cst_77); rw [e5, e6]; exact writes_row2 harg27 k.val _ _ O27 _ _ (k1_off2_eq k) (k1_off3_eq k) (k1_off2_inb k) (k1_off3_inb k) _ _ rfl rfl)) $$ H27
  iapply (owns_close _ _ (by (try unfold trip1.sl.r); (try unfold trip1.sl.r_1); (try unfold trip1.sl.cst_77); rw [e5, e6]; exact writes_row2 harg28 k.val _ _ O28 _ _ (k1_off2_eq k) (k1_off3_eq k) (k1_off2_inb k) (k1_off3_inb k) _ _ rfl rfl)) $$ H28

end Run

end Cert.KernelIdeal.Body
-- ==== Proof.Part4.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Trip1
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The first part of the main call's body. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

set_option maxHeartbeats 1000000 in
/-- The first part: the accumulators set to zero at the first step, the weights quantised, and the first product. -/
theorem part4 (O14 : Vec F S4096x256 .i8) (O15 : Vec F S4096x256 .i8) (O26 : Vec F S4096x512 .bf16) (O27 : Vec F S4096x512 .f32) (O28 : Vec F S4096x512 .fp8e4m3) (O29 : Vec F S256x256 .f32) (O20 : Vec F S256x4096 .f32) (O21 : Vec F S4096x256 .f32) (O22 : Vec F S8x4096 .f32) (O23 : Vec F S256x128 .f32) (O24 : Vec F S256x128 .f32) (O25 : Vec F S256x128 .f32) (E : Set ℕ) :
    (iprop(owns (c : Thread nD τ) arg1 fullShare X.s
        ∗ owns (c : Thread nD τ) arg2 fullShare X.c1
        ∗ owns (c : Thread nD τ) arg5 fullShare X.wg
        ∗ owns (c : Thread nD τ) arg6 fullShare X.wu
        ∗ owns (c : Thread nD τ) arg8 fullShare X.sg
        ∗ owns (c : Thread nD τ) arg9 fullShare X.su
        ∗ owns (c : Thread nD τ) arg14 fullShare O14
        ∗ owns (c : Thread nD τ) arg15 fullShare O15
        ∗ owns (c : Thread nD τ) arg26 fullShare O26
        ∗ owns (c : Thread nD τ) arg27 fullShare O27
        ∗ owns (c : Thread nD τ) arg28 fullShare O28
        ∗ owns (c : Thread nD τ) arg29 fullShare O29
        ∗ owns (c : Thread nD τ) arg20 fullShare O20
        ∗ owns (c : Thread nD τ) arg21 fullShare O21
        ∗ owns (c : Thread nD τ) arg22 fullShare O22
        ∗ owns (c : Thread nD τ) arg23 fullShare O23
        ∗ owns (c : Thread nD τ) arg24 fullShare O24
        ∗ owns (c : Thread nD τ) arg25 fullShare O25) : sProp 𝕄)
      ⊢ wp frame (wpE (defs₀ (F := F)) Variants.none c none) E (k1_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29)
          (fun r => iprop(⌜r = ⟨BitVec.ofNat 32 (i 0).val, X.s1, X.s2, X.v6, X.v8, k1_pay45, X.v23, (Scalar.extui (Scalar.cmpi .eq (Scalar.remsi (Scalar.addi (Scalar.muli (BitVec.ofNat 32 (i 0).val) 2#32) 0#32) 19#32) 18#32) : BitVec 32), 0#32⟩⌝
        ∗ owns (c : Thread nD τ) arg1 fullShare X.s
        ∗ owns (c : Thread nD τ) arg2 fullShare X.c1
        ∗ owns (c : Thread nD τ) arg5 fullShare X.wg
        ∗ owns (c : Thread nD τ) arg6 fullShare X.wu
        ∗ owns (c : Thread nD τ) arg8 fullShare X.sg
        ∗ owns (c : Thread nD τ) arg9 fullShare X.su
        ∗ owns (c : Thread nD τ) arg14 fullShare X.cg
        ∗ owns (c : Thread nD τ) arg15 fullShare X.cu
        ∗ owns (c : Thread nD τ) arg26 fullShare X.w26
        ∗ owns (c : Thread nD τ) arg27 fullShare X.m27
        ∗ owns (c : Thread nD τ) arg28 fullShare X.q28
        ∗ owns (c : Thread nD τ) arg29 fullShare X.raw0
        ∗ owns (c : Thread nD τ) arg20 fullShare (In.z20 i O20)
        ∗ owns (c : Thread nD τ) arg21 fullShare (In.z21 i O21)
        ∗ owns (c : Thread nD τ) arg22 fullShare (In.z22 i O22)
        ∗ owns (c : Thread nD τ) arg23 fullShare (In.z23 i O23)
        ∗ owns (c : Thread nD τ) arg24 fullShare (In.z24 i O24)
        ∗ owns (c : Thread nD τ) arg25 fullShare (In.z25 i O25))) := by
  rw [k1_part4_eq_skeleton]; unfold k1_part4_skel
  have ht : k1_t1_loop.trips = 8 := by decide
  iintro ⟨H1, H2, H5, H6, H8, H9, H14, H15, H26, H27, H28, H29, H20, H21, H22, H23, H24, H25⟩
  by_cases h : In.first i
  · ihave H1 := (owns_open harg1 _) $$ H1
    ihave H2 := (owns_open harg2 _) $$ H2
    ihave H8 := (owns_open harg8 _) $$ H8
    ihave H9 := (owns_open harg9 _) $$ H9
    ihave H29 := (owns_open harg29 _) $$ H29
    ihave H20 := (owns_open harg20 _) $$ H20
    ihave H21 := (owns_open harg21 _) $$ H21
    ihave H22 := (owns_open harg22 _) $$ H22
    ihave H23 := (owns_open harg23 _) $$ H23
    ihave H24 := (owns_open harg24 _) $$ H24
    ihave H25 := (owns_open harg25 _) $$ H25
    sl_exec (disch := sl_exact h)
    have e8 : ∀ inb, View.readAt (Elt F) arg8.view (Rect.unit (s := S1x256) ![0, 0] S1x256.size inb).toLoadRect (harg8.unread X.sg) = X.sg := fun inb => readAt_whole harg8 X.sg inb
    have e9 : ∀ inb, View.readAt (Elt F) arg9.view (Rect.unit (s := S1x256) ![0, 0] S1x256.size inb).toLoadRect (harg9.unread X.su) = X.su := fun inb => readAt_whole harg9 X.su inb
    have q1 : part4.sl.r c arg1 harg1 X = X.s1 := by
      unfold part4.sl.r
      rw [View.readAt_eq_ld, harg1.read_unread]
      exact congrArg X.s (funext fun a => by fin_cases a; rfl)
    have q2 : part4.sl.r_1 c arg1 harg1 X = X.s2 := by
      unfold part4.sl.r_1
      rw [View.readAt_eq_ld, harg1.read_unread]
      exact congrArg X.s (funext fun a => by fin_cases a; rfl)
    rw [e8, e9, q1, q2]
    sl_for (fun k _ => iprop(owns (c : Thread nD τ) arg5 fullShare X.wg
        ∗ owns (c : Thread nD τ) arg6 fullShare X.wu
        ∗ owns (c : Thread nD τ) arg14 fullShare (mix 0 k X.cg O14)
        ∗ owns (c : Thread nD τ) arg15 fullShare (mix 0 k X.cu O15)
        ∗ owns (c : Thread nD τ) arg26 fullShare (mix 0 k X.w26 O26)
        ∗ owns (c : Thread nD τ) arg27 fullShare (mix 0 k X.m27 O27)
        ∗ owns (c : Thread nD τ) arg28 fullShare (mix 0 k X.q28 O28))) $$ [H5 H6 H14 H15 H26 H27 H28]
    · intro k acc; exact trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X O14 O15 O26 O27 O28 k E
    · isplitl [H5]; · iexact H5
      isplitl [H6]; · iexact H6
      isplitl [H14]; · iexact H14
      isplitl [H15]; · iexact H15
      isplitl [H26]; · iexact H26
      isplitl [H27]; · iexact H27
      iexact H28
    iintro %acc ⟨H5, H6, H14, H15, H26, H27, H28⟩
    rw [mix_full 0 _ _ O14 (by decide), mix_full 0 _ _ O15 (by decide), mix_full 0 _ _ O26 (by decide), mix_full 0 _ _ O27 (by decide), mix_full 0 _ _ O28 (by decide)]
    ihave H28 := (owns_open harg28 _) $$ H28
    sl_exec
    sl_step
    have e2 : ∀ inb, View.readAt (Elt F) arg2.view (Rect.unit (s := S256x4096) ![0, 0] S256x4096.size inb).toLoadRect (harg2.unread X.c1) = X.c1 := fun inb => readAt_whole harg2 X.c1 inb
    have e28 : ∀ inb, View.readAt (Elt F) arg28.view (Rect.unit (s := S4096x512) ![0, 0] S4096x512.size inb).toLoadRect (harg28.unread X.q28) = X.q28 := fun inb => readAt_whole harg28 X.q28 inb
    isplitr
    · ipureintro; rw [e2, e28]; rfl
    isplitl [H1]; · iapply (owns_close _ _ (harg1.read_unread _)) $$ H1
    isplitl [H2]; · iapply (owns_close _ _ (harg2.read_unread _)) $$ H2
    isplitl [H5]; · iexact H5
    isplitl [H6]; · iexact H6
    isplitl [H8]; · iapply (owns_close _ _ (harg8.read_unread _)) $$ H8
    isplitl [H9]; · iapply (owns_close _ _ (harg9.read_unread _)) $$ H9
    isplitl [H14]; · iexact H14
    isplitl [H15]; · iexact H15
    isplitl [H26]; · iexact H26
    isplitl [H27]; · iexact H27
    isplitl [H28]; · iapply (owns_close _ _ (harg28.read_unread _)) $$ H28
    isplitl [H29]; · iapply (owns_close _ _ (by rw [e2, e28]; exact writes_whole _ _ _ _)) $$ H29
    rw [show In.z20 i O20 = k1_pay35 from if_pos h, show In.z21 i O21 = k1_pay36 from if_pos h, show In.z22 i O22 = k1_pay37 from if_pos h, show In.z23 i O23 = k1_pay38 from if_pos h, show In.z24 i O24 = k1_pay39 from if_pos h, show In.z25 i O25 = k1_pay40 from if_pos h]
    isplitl [H20]; · iapply (owns_close _ _ (by exact writes_whole _ _ _ _)) $$ H20
    isplitl [H21]; · iapply (owns_close _ _ (by exact writes_whole _ _ _ _)) $$ H21
    isplitl [H22]; · iapply (owns_close _ _ (by exact writes_whole _ _ _ _)) $$ H22
    isplitl [H23]; · iapply (owns_close _ _ (by exact writes_whole _ _ _ _)) $$ H23
    isplitl [H24]; · iapply (owns_close _ _ (by exact writes_whole _ _ _ _)) $$ H24
    iapply (owns_close _ _ (by exact writes_whole _ _ _ _)) $$ H25
  · ihave H1 := (owns_open harg1 _) $$ H1
    ihave H2 := (owns_open harg2 _) $$ H2
    ihave H8 := (owns_open harg8 _) $$ H8
    ihave H9 := (owns_open harg9 _) $$ H9
    ihave H29 := (owns_open harg29 _) $$ H29
    sl_exec (disch := sl_exact h)
    have e8 : ∀ inb, View.readAt (Elt F) arg8.view (Rect.unit (s := S1x256) ![0, 0] S1x256.size inb).toLoadRect (harg8.unread X.sg) = X.sg := fun inb => readAt_whole harg8 X.sg inb
    have e9 : ∀ inb, View.readAt (Elt F) arg9.view (Rect.unit (s := S1x256) ![0, 0] S1x256.size inb).toLoadRect (harg9.unread X.su) = X.su := fun inb => readAt_whole harg9 X.su inb
    have q1 : part4.sl.r_2 c arg1 harg1 X = X.s1 := by
      unfold part4.sl.r_2
      rw [View.readAt_eq_ld, harg1.read_unread]
      exact congrArg X.s (funext fun a => by fin_cases a; rfl)
    have q2 : part4.sl.r_3 c arg1 harg1 X = X.s2 := by
      unfold part4.sl.r_3
      rw [View.readAt_eq_ld, harg1.read_unread]
      exact congrArg X.s (funext fun a => by fin_cases a; rfl)
    rw [e8, e9, q1, q2]
    sl_for (fun k _ => iprop(owns (c : Thread nD τ) arg5 fullShare X.wg
        ∗ owns (c : Thread nD τ) arg6 fullShare X.wu
        ∗ owns (c : Thread nD τ) arg14 fullShare (mix 0 k X.cg O14)
        ∗ owns (c : Thread nD τ) arg15 fullShare (mix 0 k X.cu O15)
        ∗ owns (c : Thread nD τ) arg26 fullShare (mix 0 k X.w26 O26)
        ∗ owns (c : Thread nD τ) arg27 fullShare (mix 0 k X.m27 O27)
        ∗ owns (c : Thread nD τ) arg28 fullShare (mix 0 k X.q28 O28))) $$ [H5 H6 H14 H15 H26 H27 H28]
    · intro k acc; exact trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X O14 O15 O26 O27 O28 k E
    · isplitl [H5]; · iexact H5
      isplitl [H6]; · iexact H6
      isplitl [H14]; · iexact H14
      isplitl [H15]; · iexact H15
      isplitl [H26]; · iexact H26
      isplitl [H27]; · iexact H27
      iexact H28
    iintro %acc ⟨H5, H6, H14, H15, H26, H27, H28⟩
    rw [mix_full 0 _ _ O14 (by decide), mix_full 0 _ _ O15 (by decide), mix_full 0 _ _ O26 (by decide), mix_full 0 _ _ O27 (by decide), mix_full 0 _ _ O28 (by decide)]
    ihave H28 := (owns_open harg28 _) $$ H28
    sl_exec
    sl_step
    have e2 : ∀ inb, View.readAt (Elt F) arg2.view (Rect.unit (s := S256x4096) ![0, 0] S256x4096.size inb).toLoadRect (harg2.unread X.c1) = X.c1 := fun inb => readAt_whole harg2 X.c1 inb
    have e28 : ∀ inb, View.readAt (Elt F) arg28.view (Rect.unit (s := S4096x512) ![0, 0] S4096x512.size inb).toLoadRect (harg28.unread X.q28) = X.q28 := fun inb => readAt_whole harg28 X.q28 inb
    isplitr
    · ipureintro; rw [e2, e28]; rfl
    isplitl [H1]; · iapply (owns_close _ _ (harg1.read_unread _)) $$ H1
    isplitl [H2]; · iapply (owns_close _ _ (harg2.read_unread _)) $$ H2
    isplitl [H5]; · iexact H5
    isplitl [H6]; · iexact H6
    isplitl [H8]; · iapply (owns_close _ _ (harg8.read_unread _)) $$ H8
    isplitl [H9]; · iapply (owns_close _ _ (harg9.read_unread _)) $$ H9
    isplitl [H14]; · iexact H14
    isplitl [H15]; · iexact H15
    isplitl [H26]; · iexact H26
    isplitl [H27]; · iexact H27
    isplitl [H28]; · iapply (owns_close _ _ (harg28.read_unread _)) $$ H28
    isplitl [H29]; · iapply (owns_close _ _ (by rw [e2, e28]; exact writes_whole _ _ _ _)) $$ H29
    rw [show In.z20 i O20 = O20 from if_neg h, show In.z21 i O21 = O21 from if_neg h, show In.z22 i O22 = O22 from if_neg h, show In.z23 i O23 = O23 from if_neg h, show In.z24 i O24 = O24 from if_neg h, show In.z25 i O25 = O25 from if_neg h]
    isplitl [H20]; · iexact H20
    isplitl [H21]; · iexact H21
    isplitl [H22]; · iexact H22
    isplitl [H23]; · iexact H23
    isplitl [H24]; · iexact H24
    iexact H25

end Run

end Cert.KernelIdeal.Body
-- ==== Proof.Trip2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Values1
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The main call's second loop. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

/-- One trip of the second loop: one block of columns of the down projection, forward and backward. -/
theorem trip2 (a0 c0 v28 : BitVec 32) (O13 : Vec F S256x4096 .bf16) (O16 : Vec F S256x4096 .i8) (O20 : Vec F S256x4096 .f32) (O22 : Vec F S8x4096 .f32) (k : Fin k1_t2_loop.trips) (acc : FVec F S256x256 .f32) (E : Set ℕ) :
    (iprop(⌜acc = X.acc59 k.val⌝ ∗ owns (c : Thread nD τ) arg10 fullShare X.sd
        ∗ owns (c : Thread nD τ) arg7 fullShare X.wd
        ∗ owns (c : Thread nD τ) arg4 fullShare X.dy
        ∗ owns (c : Thread nD τ) arg16 fullShare (mix 1 k.val X.cd O16)
        ∗ owns (c : Thread nD τ) arg20 fullShare (mix 1 k.val (X.o20 i O20) O20)
        ∗ owns (c : Thread nD τ) arg13 fullShare (mix 1 k.val (X.dwd i) O13)
        ∗ owns (c : Thread nD τ) arg22 fullShare (mix 1 k.val (X.d22 i O22) O22)) : sProp 𝕄)
      ⊢ wp frame (wpE (defs₀ (F := F)) Variants.none c none) E (k1_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 a0 X.s1 X.s2 X.v6 X.v8 k1_pay45 X.v23 v28 c0 (X.raw i) k acc)
          (fun r => iprop(⌜r = X.acc59 (k.val + 1)⌝ ∗ owns (c : Thread nD τ) arg10 fullShare X.sd
        ∗ owns (c : Thread nD τ) arg7 fullShare X.wd
        ∗ owns (c : Thread nD τ) arg4 fullShare X.dy
        ∗ owns (c : Thread nD τ) arg16 fullShare (mix 1 (k.val + 1) X.cd O16)
        ∗ owns (c : Thread nD τ) arg20 fullShare (mix 1 (k.val + 1) (X.o20 i O20) O20)
        ∗ owns (c : Thread nD τ) arg13 fullShare (mix 1 (k.val + 1) (X.dwd i) O13)
        ∗ owns (c : Thread nD τ) arg22 fullShare (mix 1 (k.val + 1) (X.d22 i O22) O22))) := by
  have hk : k.val < 8 := Nat.lt_of_lt_of_le k.isLt k1_t2_abs.2.1
  unfold k1_t2_body
  simp only [k1_part2_eq_skeleton]
  iintro ⟨%hacc, H10, H7, H4, H16, H20, H13, H22⟩
  subst hacc
  ihave H10 := (owns_open harg10 _) $$ H10
  ihave H7 := (owns_open harg7 _) $$ H7
  ihave H4 := (owns_open harg4 _) $$ H4
  ihave H16 := (owns_open harg16 _) $$ H16
  ihave H20 := (owns_open harg20 _) $$ H20
  ihave H13 := (owns_open harg13 _) $$ H13
  ihave H22 := (owns_open harg22 _) $$ H22
  sl_exec
  sl_step
  have e10 : ∀ inb, View.readAt (Elt F) arg10.view (Rect.unit (s := S1x4096) (k1_off4 k) S1x512.size inb).toLoadRect (harg10.unread X.sd) = X.bsd k.val := fun inb => readAt_col harg10 X.sd k.val _ (k1_off4_eq k) inb
  have e7 : ∀ inb, View.readAt (Elt F) arg7.view (Rect.unit (s := S256x4096) (k1_off5 k) S256x512.size inb).toLoadRect (harg7.unread X.wd) = X.bwd k.val := fun inb => readAt_col harg7 X.wd k.val _ (k1_off5_eq k) inb
  have e4 : ∀ inb, View.readAt (Elt F) arg4.view (Rect.unit (s := S256x4096) (k1_off5 k) S256x512.size inb).toLoadRect (harg4.unread X.dy) = X.bdy k.val := fun inb => readAt_col harg4 X.dy k.val _ (k1_off5_eq k) inb
  have e20 : ∀ inb, View.readAt (Elt F) arg20.view (Rect.unit (s := S256x4096) (k1_off5 k) S256x512.size inb).toLoadRect (harg20.unread (mix 1 k.val (X.o20 i O20) O20)) = colBlk O20 k.val := fun inb => (readAt_col harg20 _ k.val _ (k1_off5_eq k) inb).trans (colBlk_mix _ _ _ (by omega))
  have e22 : ∀ inb, View.readAt (Elt F) arg22.view (Rect.unit (s := S8x4096) (k1_off6 k) S8x512.size inb).toLoadRect (harg22.unread (mix 1 k.val (X.d22 i O22) O22)) = colBlk O22 k.val := fun inb => (readAt_col harg22 _ k.val _ (k1_off6_eq k) inb).trans (colBlk_mix _ _ _ (by omega))
  isplitr
  · ipureintro
    (try unfold trip2.sl.r); (try unfold trip2.sl.r_1); (try unfold trip2.sl.r_2); (try unfold trip2.sl.r_3); (try unfold trip2.sl.r_4); (try unfold trip2.sl.r_5)
    rw [e10, e7, e4]; rfl
  isplitl [H10]; · iapply (owns_close _ _ (harg10.read_unread _)) $$ H10
  isplitl [H7]; · iapply (owns_close _ _ (harg7.read_unread _)) $$ H7
  isplitl [H4]; · iapply (owns_close _ _ (harg4.read_unread _)) $$ H4
  isplitl [H16]; · iapply (owns_close _ _ (by rw [e10, e7]; exact writes_col harg16 k.val _ O16 _ (k1_off5_eq k) (k1_off5_inb k) _ rfl)) $$ H16
  isplitl [H20]; · iapply (owns_close _ _ (by rw [e10, e7, e20]; exact writes_col harg20 k.val _ O20 _ (k1_off5_eq k) (k1_off5_inb k) _ rfl)) $$ H20
  isplitl [H13]; · iapply (owns_close _ _ (by (try unfold trip2.sl.r); (try unfold trip2.sl.r_1); (try unfold trip2.sl.r_2); (try unfold trip2.sl.r_3); (try unfold trip2.sl.r_4); (try unfold trip2.sl.r_5); rw [e10, e7, e4]; exact writes_col harg13 k.val _ O13 _ (k1_off5_eq k) (k1_off5_inb k) _ rfl)) $$ H13
  iapply (owns_close _ _ (by (try unfold trip2.sl.r); (try unfold trip2.sl.r_1); (try unfold trip2.sl.r_2); (try unfold trip2.sl.r_3); (try unfold trip2.sl.r_4); (try unfold trip2.sl.r_5); rw [e10, e7, e4, e22]; exact writes_col harg22 k.val _ O22 _ (k1_off6_eq k) (k1_off6_inb k) _ rfl)) $$ H22

/-- The second loop. -/
theorem loop2 (a0 c0 v28 : BitVec 32) (O13 : Vec F S256x4096 .bf16) (O16 : Vec F S256x4096 .i8) (O20 : Vec F S256x4096 .f32) (O22 : Vec F S8x4096 .f32) (E : Set ℕ) :
    (iprop(owns (c : Thread nD τ) arg10 fullShare X.sd
        ∗ owns (c : Thread nD τ) arg7 fullShare X.wd
        ∗ owns (c : Thread nD τ) arg4 fullShare X.dy
        ∗ owns (c : Thread nD τ) arg16 fullShare O16
        ∗ owns (c : Thread nD τ) arg20 fullShare O20
        ∗ owns (c : Thread nD τ) arg13 fullShare O13
        ∗ owns (c : Thread nD τ) arg22 fullShare O22) : sProp 𝕄)
      ⊢ wp frame (wpE (defs₀ (F := F)) Variants.none c none) E (Scf.Loop.for k1_t2_loop k1_t2_ok k1_pay45 (k1_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 a0 X.s1 X.s2 X.v6 X.v8 k1_pay45 X.v23 v28 c0 (X.raw i)))
          (fun r => iprop(⌜r = X.v59⌝ ∗ owns (c : Thread nD τ) arg10 fullShare X.sd
        ∗ owns (c : Thread nD τ) arg7 fullShare X.wd
        ∗ owns (c : Thread nD τ) arg4 fullShare X.dy
        ∗ owns (c : Thread nD τ) arg16 fullShare X.cd
        ∗ owns (c : Thread nD τ) arg20 fullShare (X.o20 i O20)
        ∗ owns (c : Thread nD τ) arg13 fullShare (X.dwd i)
        ∗ owns (c : Thread nD τ) arg22 fullShare (X.d22 i O22))) := by
  have ht : k1_t2_loop.trips = 8 := by decide
  iintro ⟨H10, H7, H4, H16, H20, H13, H22⟩
  sl_for (fun k acc => iprop(⌜acc = X.acc59 k⌝ ∗ owns (c : Thread nD τ) arg10 fullShare X.sd
        ∗ owns (c : Thread nD τ) arg7 fullShare X.wd
        ∗ owns (c : Thread nD τ) arg4 fullShare X.dy
        ∗ owns (c : Thread nD τ) arg16 fullShare (mix 1 k X.cd O16)
        ∗ owns (c : Thread nD τ) arg20 fullShare (mix 1 k (X.o20 i O20) O20)
        ∗ owns (c : Thread nD τ) arg13 fullShare (mix 1 k (X.dwd i) O13)
        ∗ owns (c : Thread nD τ) arg22 fullShare (mix 1 k (X.d22 i O22) O22))) $$ [H10 H7 H4 H16 H20 H13 H22]
  · intro k acc; exact trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X a0 c0 v28 O13 O16 O20 O22 k acc E
  isplitl [H10 H7 H4 H16 H20 H13 H22]
  · isplitr
    · ipureintro; rfl
    isplitl [H10]; · iexact H10
    isplitl [H7]; · iexact H7
    isplitl [H4]; · iexact H4
    isplitl [H16]; · iexact H16
    isplitl [H20]; · iexact H20
    isplitl [H13]; · iexact H13
    iexact H22
  iintro %acc ⟨%h, H10, H7, H4, H16, H20, H13, H22⟩
  rw [mix_full 1 _ _ O16 (by decide), mix_full 1 _ _ O20 (by decide), mix_full 1 _ _ O13 (by decide), mix_full 1 _ _ O22 (by decide)]
  isplitr
  · ipureintro; exact h.trans (congrArg X.acc59 ht)
  isplitl [H10]; · iexact H10
  isplitl [H7]; · iexact H7
  isplitl [H4]; · iexact H4
  isplitl [H16]; · iexact H16
  isplitl [H20]; · iexact H20
  isplitl [H13]; · iexact H13
  iexact H22

end Run

end Cert.KernelIdeal.Body
-- ==== Proof.Cols.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Values1
public import Idealize.ShloMosaic.Lib.WritesUnit
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Stores of column halves. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

variable {F : FTy → Type} [FloatOps F]

/-- Two stores of 128 columns side by side cover a buffer of 256 columns. -/
theorem writes_two {r : ℕ} {κ : Kind} {sp : Space} {e : EltTy} (m : Memref sig κ sp (Sh r 256) e) (f : m.view.ty.Contents (Elt F))
    (w₁ w₂ : (Sh r 128).Idx → Elt F e) (x : (Sh r 256).Idx → Elt F e)
    (inb₁ : ∀ a, (![0, 0] : Fin 2 → ℕ) a + (Sh r 128).size a ≤ (Sh r 256).size a)
    (inb₂ : ∀ a, (![0, 128] : Fin 2 → ℕ) a + (Sh r 128).size a ≤ (Sh r 256).size a) :
    m.view.read (Elt F) (m.view.writes (Elt F) f [⟨Rect.unit (s := Sh r 256) ![0, 128] (Sh r 128).size inb₂, w₂⟩,
      ⟨Rect.unit (s := Sh r 256) ![0, 0] (Sh r 128).size inb₁, w₁⟩]) = putCols 128 w₂ (putCols 0 w₁ x) := by
  funext y
  have h1 : (y 1).val < 256 := (y 1).isLt
  unfold putCols
  by_cases h : 128 ≤ (y 1).val
  · rw [if_pos ⟨h, by omega⟩]
    refine View.read_writes_cons_unit_of_mem _ _ inb₂ w₂ _ y (ix2 (y 0) (Fin.ofNat 128 ((y 1).val - 128))) rfl (fun a => ?_)
    fin_cases a
    · show (y 0).val = 0 + (y 0).val; omega
    · show (y 1).val = 128 + ((y 1).val - 128) % 128; omega
  · rw [if_neg (by omega), if_pos ⟨Nat.zero_le _, by omega⟩]
    refine (View.read_writes_cons_unit_of_not_mem _ _ inb₂ w₂ _ y rfl 1 (.inl ?_)).trans ?_
    · show (y 1).val < 128; omega
    refine View.read_writes_cons_unit_of_mem _ _ inb₁ w₁ _ y (ix2 (y 0) (Fin.ofNat 128 ((y 1).val - 0))) rfl (fun a => ?_)
    fin_cases a
    · show (y 0).val = 0 + (y 0).val; omega
    · show (y 1).val = 0 + ((y 1).val - 0) % 128; omega

/-- A load of a whole buffer reads its contents. -/
theorem readAt_all {r c : ℕ} {κ : Kind} {sp : Space} {e : EltTy} (m : Memref sig κ sp (Sh r c) e) (f : m.view.ty.Contents (Elt F))
    (inb : ∀ a, (![0, 0] : Fin 2 → ℕ) a + (Sh r c).size a ≤ (Sh r c).size a) :
    View.readAt (Elt F) m.view (Rect.unit (s := Sh r c) ![0, 0] (Sh r c).size inb).toLoadRect f = m.view.read (Elt F) f := by
  rw [View.readAt_eq_ld]
  exact View.ld_unit_zero (S := Sh r c) (off := ![0, 0]) (funext fun a => by fin_cases a <;> rfl) inb _

end Cert.KernelIdeal.Body
-- ==== Proof.Part5tt.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Trip2
public import proofs.«01_k».proof.Proof.Cols
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second part of the main call's body, in one of its four cases. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

set_option maxHeartbeats 2000000 in
/-- The second part: the halves computed again, the second activation and its codes, and the second loop: both halves computed again. -/
theorem part5_tt (hl : In.left i) (hr : In.right i) (O13 : Vec F S256x4096 .bf16) (O16 : Vec F S256x4096 .i8) (O17 : Vec F S256x256 .fp8e4m3) (O20 : Vec F S256x4096 .f32) (O22 : Vec F S8x4096 .f32) (E : Set ℕ) :
    (iprop(owns (c : Thread nD τ) arg2 fullShare X.c1
        ∗ owns (c : Thread nD τ) arg28 fullShare X.q28
        ∗ owns (c : Thread nD τ) arg29 fullShare X.raw0
        ∗ owns (c : Thread nD τ) arg17 fullShare O17
        ∗ owns (c : Thread nD τ) arg10 fullShare X.sd
        ∗ owns (c : Thread nD τ) arg7 fullShare X.wd
        ∗ owns (c : Thread nD τ) arg4 fullShare X.dy
        ∗ owns (c : Thread nD τ) arg16 fullShare O16
        ∗ owns (c : Thread nD τ) arg20 fullShare O20
        ∗ owns (c : Thread nD τ) arg13 fullShare O13
        ∗ owns (c : Thread nD τ) arg22 fullShare O22) : sProp 𝕄)
      ⊢ wp frame (wpE (defs₀ (F := F)) Variants.none c none) E (k1_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 0).val) X.s1 X.s2 X.v6 X.v8 k1_pay45 X.v23 (Scalar.extui (Scalar.cmpi .eq (Scalar.remsi (Scalar.addi (Scalar.muli (BitVec.ofNat 32 (i 0).val) 2#32) 0#32) 19#32) 18#32) : BitVec 32) 0#32)
          (fun r => iprop(⌜r = ⟨X.v40 i, X.v44, X.v45 i, X.v49 i, X.v59, X.v60 i, X.v62 i, X.v64 i, X.v66 i, In.v67⟩⌝
        ∗ owns (c : Thread nD τ) arg2 fullShare X.c1
        ∗ owns (c : Thread nD τ) arg28 fullShare X.q28
        ∗ owns (c : Thread nD τ) arg29 fullShare (X.raw i)
        ∗ owns (c : Thread nD τ) arg17 fullShare (X.c2 i)
        ∗ owns (c : Thread nD τ) arg10 fullShare X.sd
        ∗ owns (c : Thread nD τ) arg7 fullShare X.wd
        ∗ owns (c : Thread nD τ) arg4 fullShare X.dy
        ∗ owns (c : Thread nD τ) arg16 fullShare X.cd
        ∗ owns (c : Thread nD τ) arg20 fullShare (X.o20 i O20)
        ∗ owns (c : Thread nD τ) arg13 fullShare (X.dwd i)
        ∗ owns (c : Thread nD τ) arg22 fullShare (X.d22 i O22))) := by
  rw [k1_part5_eq_skeleton]; unfold k1_part5_skel
  iintro ⟨H2, H28, H29, H17, H10, H7, H4, H16, H20, H13, H22⟩
  ihave H2 := (owns_open harg2 _) $$ H2
  ihave H28 := (owns_open harg28 _) $$ H28
  ihave H29 := (owns_open harg29 _) $$ H29
  ihave H17 := (owns_open harg17 _) $$ H17
  have e2 : ∀ inb, View.readAt (Elt F) arg2.view (Rect.unit (s := S256x4096) ![0, 0] S256x4096.size inb).toLoadRect (harg2.unread X.c1) = X.c1 := fun inb => readAt_whole harg2 X.c1 inb
  sl_exec (disch := first | sl_exact hl | sl_exact hr)
  have e36 : part5_tt.sl.v36 c arg28 harg28 arg29 X = X.raw i := by
    unfold part5_tt.sl.v36 part5_tt.sl.H29_2 View.readCov
    rw [readAt_all, writes_two arg29 _ _ _ X.raw0]
    unfold In.raw In.rawL; rw [if_pos hr, if_pos hl]
    simp only [View.readAt_eq_ld, Memref.IsWhole.read_unread]
  have e29 : arg29.view.read (Elt F) (arg29.view.writes (Elt F) arg29.view.junk (part5_tt.sl.H29_2 c arg28 harg28 X)) = X.raw i := by
    unfold part5_tt.sl.H29_2
    rw [writes_two arg29 _ _ _ X.raw0]
    unfold In.raw In.rawL; rw [if_pos hr, if_pos hl]
    simp only [View.readAt_eq_ld, Memref.IsWhole.read_unread]
  rw [e36]
  ihave H29 := (owns_close _ _ e29) $$ H29
  ihave H17 := (owns_close (X.c2 i) _ (by unfold part5_tt.sl.H17_1; rw [e36]; exact writes_whole _ _ _ _)) $$ H17
  ihave H2 := (owns_close _ _ (harg2.read_unread _)) $$ H2
  ihave H28 := (owns_close _ _ (harg28.read_unread _)) $$ H28
  iapply (cut (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X _ _ _ O13 O16 O20 O22 E)) $$ [H10 H7 H4 H16 H20 H13 H22]
  · isplitl [H10]; · iexact H10
    isplitl [H7]; · iexact H7
    isplitl [H4]; · iexact H4
    isplitl [H16]; · iexact H16
    isplitl [H20]; · iexact H20
    isplitl [H13]; · iexact H13
    iexact H22
  iintro ⟨H10, H7, H4, H16, H20, H13, H22⟩
  sl_step
  isplitr
  · ipureintro; rfl
  isplitl [H2]; · iexact H2
  isplitl [H28]; · iexact H28
  isplitl [H29]; · iexact H29
  isplitl [H17]; · iexact H17
  isplitl [H10]; · iexact H10
  isplitl [H7]; · iexact H7
  isplitl [H4]; · iexact H4
  isplitl [H16]; · iexact H16
  isplitl [H20]; · iexact H20
  isplitl [H13]; · iexact H13
  iexact H22

end Run

end Cert.KernelIdeal.Body
-- ==== Proof.Part5tf.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Trip2
public import proofs.«01_k».proof.Proof.Cols
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second part of the main call's body, in one of its four cases. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

set_option maxHeartbeats 2000000 in
/-- The second part: the halves computed again, the second activation and its codes, and the second loop: the left half alone computed again. -/
theorem part5_tf (hl : In.left i) (hr : ¬ In.right i) (O13 : Vec F S256x4096 .bf16) (O16 : Vec F S256x4096 .i8) (O17 : Vec F S256x256 .fp8e4m3) (O20 : Vec F S256x4096 .f32) (O22 : Vec F S8x4096 .f32) (E : Set ℕ) :
    (iprop(owns (c : Thread nD τ) arg2 fullShare X.c1
        ∗ owns (c : Thread nD τ) arg28 fullShare X.q28
        ∗ owns (c : Thread nD τ) arg29 fullShare X.raw0
        ∗ owns (c : Thread nD τ) arg17 fullShare O17
        ∗ owns (c : Thread nD τ) arg10 fullShare X.sd
        ∗ owns (c : Thread nD τ) arg7 fullShare X.wd
        ∗ owns (c : Thread nD τ) arg4 fullShare X.dy
        ∗ owns (c : Thread nD τ) arg16 fullShare O16
        ∗ owns (c : Thread nD τ) arg20 fullShare O20
        ∗ owns (c : Thread nD τ) arg13 fullShare O13
        ∗ owns (c : Thread nD τ) arg22 fullShare O22) : sProp 𝕄)
      ⊢ wp frame (wpE (defs₀ (F := F)) Variants.none c none) E (k1_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 0).val) X.s1 X.s2 X.v6 X.v8 k1_pay45 X.v23 (Scalar.extui (Scalar.cmpi .eq (Scalar.remsi (Scalar.addi (Scalar.muli (BitVec.ofNat 32 (i 0).val) 2#32) 0#32) 19#32) 18#32) : BitVec 32) 0#32)
          (fun r => iprop(⌜r = ⟨X.v40 i, X.v44, X.v45 i, X.v49 i, X.v59, X.v60 i, X.v62 i, X.v64 i, X.v66 i, In.v67⟩⌝
        ∗ owns (c : Thread nD τ) arg2 fullShare X.c1
        ∗ owns (c : Thread nD τ) arg28 fullShare X.q28
        ∗ owns (c : Thread nD τ) arg29 fullShare (X.raw i)
        ∗ owns (c : Thread nD τ) arg17 fullShare (X.c2 i)
        ∗ owns (c : Thread nD τ) arg10 fullShare X.sd
        ∗ owns (c : Thread nD τ) arg7 fullShare X.wd
        ∗ owns (c : Thread nD τ) arg4 fullShare X.dy
        ∗ owns (c : Thread nD τ) arg16 fullShare X.cd
        ∗ owns (c : Thread nD τ) arg20 fullShare (X.o20 i O20)
        ∗ owns (c : Thread nD τ) arg13 fullShare (X.dwd i)
        ∗ owns (c : Thread nD τ) arg22 fullShare (X.d22 i O22))) := by
  rw [k1_part5_eq_skeleton]; unfold k1_part5_skel
  iintro ⟨H2, H28, H29, H17, H10, H7, H4, H16, H20, H13, H22⟩
  ihave H2 := (owns_open harg2 _) $$ H2
  ihave H28 := (owns_open harg28 _) $$ H28
  ihave H29 := (owns_open harg29 _) $$ H29
  ihave H17 := (owns_open harg17 _) $$ H17
  have e2 : ∀ inb, View.readAt (Elt F) arg2.view (Rect.unit (s := S256x4096) ![0, 0] S256x4096.size inb).toLoadRect (harg2.unread X.c1) = X.c1 := fun inb => readAt_whole harg2 X.c1 inb
  sl_exec (disch := first | sl_exact hl | sl_exact hr)
  have e29 : arg29.view.read (Elt F) (arg29.view.writes (Elt F) (harg29.unread X.raw0) (part5_tf.sl.H29_1 c arg28 harg28 X)) = X.raw i := by
    unfold part5_tf.sl.H29_1
    rw [writes_cols harg29 0]
    unfold In.raw In.rawL; rw [if_neg hr, if_pos hl]
    simp only [View.readAt_eq_ld, Memref.IsWhole.read_unread]
  have e36 : part5_tf.sl.v36 c arg28 harg28 arg29 harg29 X = X.raw i := by
    unfold part5_tf.sl.v36
    rw [readAt_all, e29]
  rw [e36]
  ihave H29 := (owns_close _ _ e29) $$ H29
  ihave H17 := (owns_close (X.c2 i) _ (by unfold part5_tf.sl.H17_1; rw [e36]; exact writes_whole _ _ _ _)) $$ H17
  ihave H2 := (owns_close _ _ (harg2.read_unread _)) $$ H2
  ihave H28 := (owns_close _ _ (harg28.read_unread _)) $$ H28
  iapply (cut (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X _ _ _ O13 O16 O20 O22 E)) $$ [H10 H7 H4 H16 H20 H13 H22]
  · isplitl [H10]; · iexact H10
    isplitl [H7]; · iexact H7
    isplitl [H4]; · iexact H4
    isplitl [H16]; · iexact H16
    isplitl [H20]; · iexact H20
    isplitl [H13]; · iexact H13
    iexact H22
  iintro ⟨H10, H7, H4, H16, H20, H13, H22⟩
  sl_step
  isplitr
  · ipureintro; rfl
  isplitl [H2]; · iexact H2
  isplitl [H28]; · iexact H28
  isplitl [H29]; · iexact H29
  isplitl [H17]; · iexact H17
  isplitl [H10]; · iexact H10
  isplitl [H7]; · iexact H7
  isplitl [H4]; · iexact H4
  isplitl [H16]; · iexact H16
  isplitl [H20]; · iexact H20
  isplitl [H13]; · iexact H13
  iexact H22

end Run

end Cert.KernelIdeal.Body
-- ==== Proof.Part5ft.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Trip2
public import proofs.«01_k».proof.Proof.Cols
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second part of the main call's body, in one of its four cases. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

set_option maxHeartbeats 2000000 in
/-- The second part: the halves computed again, the second activation and its codes, and the second loop: the right half alone computed again. -/
theorem part5_ft (hl : ¬ In.left i) (hr : In.right i) (O13 : Vec F S256x4096 .bf16) (O16 : Vec F S256x4096 .i8) (O17 : Vec F S256x256 .fp8e4m3) (O20 : Vec F S256x4096 .f32) (O22 : Vec F S8x4096 .f32) (E : Set ℕ) :
    (iprop(owns (c : Thread nD τ) arg2 fullShare X.c1
        ∗ owns (c : Thread nD τ) arg28 fullShare X.q28
        ∗ owns (c : Thread nD τ) arg29 fullShare X.raw0
        ∗ owns (c : Thread nD τ) arg17 fullShare O17
        ∗ owns (c : Thread nD τ) arg10 fullShare X.sd
        ∗ owns (c : Thread nD τ) arg7 fullShare X.wd
        ∗ owns (c : Thread nD τ) arg4 fullShare X.dy
        ∗ owns (c : Thread nD τ) arg16 fullShare O16
        ∗ owns (c : Thread nD τ) arg20 fullShare O20
        ∗ owns (c : Thread nD τ) arg13 fullShare O13
        ∗ owns (c : Thread nD τ) arg22 fullShare O22) : sProp 𝕄)
      ⊢ wp frame (wpE (defs₀ (F := F)) Variants.none c none) E (k1_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 0).val) X.s1 X.s2 X.v6 X.v8 k1_pay45 X.v23 (Scalar.extui (Scalar.cmpi .eq (Scalar.remsi (Scalar.addi (Scalar.muli (BitVec.ofNat 32 (i 0).val) 2#32) 0#32) 19#32) 18#32) : BitVec 32) 0#32)
          (fun r => iprop(⌜r = ⟨X.v40 i, X.v44, X.v45 i, X.v49 i, X.v59, X.v60 i, X.v62 i, X.v64 i, X.v66 i, In.v67⟩⌝
        ∗ owns (c : Thread nD τ) arg2 fullShare X.c1
        ∗ owns (c : Thread nD τ) arg28 fullShare X.q28
        ∗ owns (c : Thread nD τ) arg29 fullShare (X.raw i)
        ∗ owns (c : Thread nD τ) arg17 fullShare (X.c2 i)
        ∗ owns (c : Thread nD τ) arg10 fullShare X.sd
        ∗ owns (c : Thread nD τ) arg7 fullShare X.wd
        ∗ owns (c : Thread nD τ) arg4 fullShare X.dy
        ∗ owns (c : Thread nD τ) arg16 fullShare X.cd
        ∗ owns (c : Thread nD τ) arg20 fullShare (X.o20 i O20)
        ∗ owns (c : Thread nD τ) arg13 fullShare (X.dwd i)
        ∗ owns (c : Thread nD τ) arg22 fullShare (X.d22 i O22))) := by
  rw [k1_part5_eq_skeleton]; unfold k1_part5_skel
  iintro ⟨H2, H28, H29, H17, H10, H7, H4, H16, H20, H13, H22⟩
  ihave H2 := (owns_open harg2 _) $$ H2
  ihave H28 := (owns_open harg28 _) $$ H28
  ihave H29 := (owns_open harg29 _) $$ H29
  ihave H17 := (owns_open harg17 _) $$ H17
  have e2 : ∀ inb, View.readAt (Elt F) arg2.view (Rect.unit (s := S256x4096) ![0, 0] S256x4096.size inb).toLoadRect (harg2.unread X.c1) = X.c1 := fun inb => readAt_whole harg2 X.c1 inb
  sl_exec (disch := first | sl_exact hl | sl_exact hr)
  have e29 : arg29.view.read (Elt F) (arg29.view.writes (Elt F) (harg29.unread X.raw0) (part5_ft.sl.H29_1 c arg28 harg28 X)) = X.raw i := by
    unfold part5_ft.sl.H29_1
    rw [writes_cols harg29 128]
    unfold In.raw In.rawL; rw [if_pos hr, if_neg hl]
    simp only [View.readAt_eq_ld, Memref.IsWhole.read_unread]
  have e36 : part5_ft.sl.v36 c arg28 harg28 arg29 harg29 X = X.raw i := by
    unfold part5_ft.sl.v36
    rw [readAt_all, e29]
  rw [e36]
  ihave H29 := (owns_close _ _ e29) $$ H29
  ihave H17 := (owns_close (X.c2 i) _ (by unfold part5_ft.sl.H17_1; rw [e36]; exact writes_whole _ _ _ _)) $$ H17
  ihave H2 := (owns_close _ _ (harg2.read_unread _)) $$ H2
  ihave H28 := (owns_close _ _ (harg28.read_unread _)) $$ H28
  iapply (cut (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X _ _ _ O13 O16 O20 O22 E)) $$ [H10 H7 H4 H16 H20 H13 H22]
  · isplitl [H10]; · iexact H10
    isplitl [H7]; · iexact H7
    isplitl [H4]; · iexact H4
    isplitl [H16]; · iexact H16
    isplitl [H20]; · iexact H20
    isplitl [H13]; · iexact H13
    iexact H22
  iintro ⟨H10, H7, H4, H16, H20, H13, H22⟩
  sl_step
  isplitr
  · ipureintro; rfl
  isplitl [H2]; · iexact H2
  isplitl [H28]; · iexact H28
  isplitl [H29]; · iexact H29
  isplitl [H17]; · iexact H17
  isplitl [H10]; · iexact H10
  isplitl [H7]; · iexact H7
  isplitl [H4]; · iexact H4
  isplitl [H16]; · iexact H16
  isplitl [H20]; · iexact H20
  isplitl [H13]; · iexact H13
  iexact H22

end Run

end Cert.KernelIdeal.Body
-- ==== Proof.Part5ff.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Trip2
public import proofs.«01_k».proof.Proof.Cols
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second part of the main call's body, in one of its four cases. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

set_option maxHeartbeats 2000000 in
/-- The second part: the halves computed again, the second activation and its codes, and the second loop: neither half computed again. -/
theorem part5_ff (hl : ¬ In.left i) (hr : ¬ In.right i) (O13 : Vec F S256x4096 .bf16) (O16 : Vec F S256x4096 .i8) (O17 : Vec F S256x256 .fp8e4m3) (O20 : Vec F S256x4096 .f32) (O22 : Vec F S8x4096 .f32) (E : Set ℕ) :
    (iprop(owns (c : Thread nD τ) arg2 fullShare X.c1
        ∗ owns (c : Thread nD τ) arg28 fullShare X.q28
        ∗ owns (c : Thread nD τ) arg29 fullShare X.raw0
        ∗ owns (c : Thread nD τ) arg17 fullShare O17
        ∗ owns (c : Thread nD τ) arg10 fullShare X.sd
        ∗ owns (c : Thread nD τ) arg7 fullShare X.wd
        ∗ owns (c : Thread nD τ) arg4 fullShare X.dy
        ∗ owns (c : Thread nD τ) arg16 fullShare O16
        ∗ owns (c : Thread nD τ) arg20 fullShare O20
        ∗ owns (c : Thread nD τ) arg13 fullShare O13
        ∗ owns (c : Thread nD τ) arg22 fullShare O22) : sProp 𝕄)
      ⊢ wp frame (wpE (defs₀ (F := F)) Variants.none c none) E (k1_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 0).val) X.s1 X.s2 X.v6 X.v8 k1_pay45 X.v23 (Scalar.extui (Scalar.cmpi .eq (Scalar.remsi (Scalar.addi (Scalar.muli (BitVec.ofNat 32 (i 0).val) 2#32) 0#32) 19#32) 18#32) : BitVec 32) 0#32)
          (fun r => iprop(⌜r = ⟨X.v40 i, X.v44, X.v45 i, X.v49 i, X.v59, X.v60 i, X.v62 i, X.v64 i, X.v66 i, In.v67⟩⌝
        ∗ owns (c : Thread nD τ) arg2 fullShare X.c1
        ∗ owns (c : Thread nD τ) arg28 fullShare X.q28
        ∗ owns (c : Thread nD τ) arg29 fullShare (X.raw i)
        ∗ owns (c : Thread nD τ) arg17 fullShare (X.c2 i)
        ∗ owns (c : Thread nD τ) arg10 fullShare X.sd
        ∗ owns (c : Thread nD τ) arg7 fullShare X.wd
        ∗ owns (c : Thread nD τ) arg4 fullShare X.dy
        ∗ owns (c : Thread nD τ) arg16 fullShare X.cd
        ∗ owns (c : Thread nD τ) arg20 fullShare (X.o20 i O20)
        ∗ owns (c : Thread nD τ) arg13 fullShare (X.dwd i)
        ∗ owns (c : Thread nD τ) arg22 fullShare (X.d22 i O22))) := by
  rw [k1_part5_eq_skeleton]; unfold k1_part5_skel
  iintro ⟨H2, H28, H29, H17, H10, H7, H4, H16, H20, H13, H22⟩
  ihave H2 := (owns_open harg2 _) $$ H2
  ihave H28 := (owns_open harg28 _) $$ H28
  ihave H29 := (owns_open harg29 _) $$ H29
  ihave H17 := (owns_open harg17 _) $$ H17
  have e2 : ∀ inb, View.readAt (Elt F) arg2.view (Rect.unit (s := S256x4096) ![0, 0] S256x4096.size inb).toLoadRect (harg2.unread X.c1) = X.c1 := fun inb => readAt_whole harg2 X.c1 inb
  sl_exec (disch := first | sl_exact hl | sl_exact hr)
  have e29 : arg29.view.read (Elt F) (harg29.unread X.raw0) = X.raw i := by
    unfold In.raw In.rawL; rw [if_neg hr, if_neg hl, harg29.read_unread]
  have e36 : ∀ inb, View.readAt (Elt F) arg29.view (Rect.unit (s := S256x256) ![0, 0] S256x256.size inb).toLoadRect (harg29.unread X.raw0) = X.raw i := fun inb => by
    rw [readAt_all, e29]
  rw [e36]
  ihave H29 := (owns_close _ _ e29) $$ H29
  ihave H17 := (owns_close (X.c2 i) _ (by unfold part5_ff.sl.H17_1; rw [e36]; exact writes_whole _ _ _ _)) $$ H17
  ihave H2 := (owns_close _ _ (harg2.read_unread _)) $$ H2
  ihave H28 := (owns_close _ _ (harg28.read_unread _)) $$ H28
  iapply (cut (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X _ _ _ O13 O16 O20 O22 E)) $$ [H10 H7 H4 H16 H20 H13 H22]
  · isplitl [H10]; · iexact H10
    isplitl [H7]; · iexact H7
    isplitl [H4]; · iexact H4
    isplitl [H16]; · iexact H16
    isplitl [H20]; · iexact H20
    isplitl [H13]; · iexact H13
    iexact H22
  iintro ⟨H10, H7, H4, H16, H20, H13, H22⟩
  sl_step
  isplitr
  · ipureintro; rfl
  isplitl [H2]; · iexact H2
  isplitl [H28]; · iexact H28
  isplitl [H29]; · iexact H29
  isplitl [H17]; · iexact H17
  isplitl [H10]; · iexact H10
  isplitl [H7]; · iexact H7
  isplitl [H4]; · iexact H4
  isplitl [H16]; · iexact H16
  isplitl [H20]; · iexact H20
  isplitl [H13]; · iexact H13
  iexact H22

end Run

end Cert.KernelIdeal.Body
-- ==== Proof.Part6.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Cols
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The third part of the main call's body. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

set_option maxHeartbeats 1000000 in
/-- The third part: the partial sums of the second activation scale's gradient. -/
theorem part6 (O23 O24 O25 : Vec F S256x128 .f32) (E : Set ℕ) :
    (iprop(owns (c : Thread nD τ) arg25 fullShare O25
        ∗ owns (c : Thread nD τ) arg23 fullShare O23
        ∗ owns (c : Thread nD τ) arg24 fullShare O24) : sProp 𝕄)
      ⊢ wp frame (wpE (defs₀ (F := F)) Variants.none c none) E (k1_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X.v44 (X.v49 i) X.v59 (X.v60 i) (X.v62 i) (X.v64 i) (X.v66 i) In.v67)
          (fun r => iprop(⌜r = X.v109 i⌝ ∗ owns (c : Thread nD τ) arg25 fullShare (X.p25 i O25)
        ∗ owns (c : Thread nD τ) arg23 fullShare (X.p23 i O23)
        ∗ owns (c : Thread nD τ) arg24 fullShare (X.p24 i O24))) := by
  rw [k1_part6_eq_skeleton]; unfold k1_part6_skel
  iintro ⟨H25, H23, H24⟩
  ihave H25 := (owns_open harg25 _) $$ H25
  ihave H23 := (owns_open harg23 _) $$ H23
  ihave H24 := (owns_open harg24 _) $$ H24
  have e25 : ∀ inb, View.readAt (Elt F) arg25.view (Rect.unit (s := S256x128) ![0, 0] S256x128.size inb).toLoadRect (harg25.unread O25) = O25 := fun inb => readAt_whole harg25 O25 inb
  have e23 : ∀ inb, View.readAt (Elt F) arg23.view (Rect.unit (s := S256x128) ![0, 0] S256x128.size inb).toLoadRect (harg23.unread O23) = O23 := fun inb => readAt_whole harg23 O23 inb
  have e24 : ∀ inb, View.readAt (Elt F) arg24.view (Rect.unit (s := S256x128) ![0, 0] S256x128.size inb).toLoadRect (harg24.unread O24) = O24 := fun inb => readAt_whole harg24 O24 inb
  sl_exec
  (try rw [e25]); (try rw [e23]); (try rw [e24])
  sl_step
  isplitr
  · ipureintro; rfl
  isplitl [H25]
  · iapply (owns_close (X.p25 i O25) _ (by (try unfold part6.sl.H25_1); (try rw [e25]); exact writes_whole _ _ _ _)) $$ H25
  isplitl [H23]
  · iapply (owns_close (X.p23 i O23) _ (by (try unfold part6.sl.H23_1); (try rw [e23]); exact writes_whole _ _ _ _)) $$ H23
  iapply (owns_close (X.p24 i O24) _ (by (try unfold part6.sl.H24_1); (try rw [e24]); exact writes_whole _ _ _ _)) $$ H24

end Run

end Cert.KernelIdeal.Body
-- ==== Proof.Trip3.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Values1
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The main call's third loop. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

/-- One trip of the third loop: one block of rows of the gate's and the up projection's gradients. -/
theorem trip3 (O11 : Vec F S4096x256 .bf16) (O12 : Vec F S4096x256 .bf16) (O21 : Vec F S4096x256 .f32) (k : Fin k1_t3_loop.trips) (acc : FVec F S8x256 .f32 × FVec F S8x256 .f32) (E : Set ℕ) :
    (iprop(⌜acc = (X.accg i k.val, X.accu i k.val)⌝ ∗ owns (c : Thread nD τ) arg3 fullShare X.ct
        ∗ owns (c : Thread nD τ) arg26 fullShare X.w26
        ∗ owns (c : Thread nD τ) arg27 fullShare X.m27
        ∗ owns (c : Thread nD τ) arg11 fullShare (mix 0 k.val (X.dwg i) O11)
        ∗ owns (c : Thread nD τ) arg12 fullShare (mix 0 k.val (X.dwu i) O12)
        ∗ owns (c : Thread nD τ) arg21 fullShare (mix 0 k.val (X.d21 i O21) O21)) : sProp 𝕄)
      ⊢ wp frame (wpE (defs₀ (F := F)) Variants.none c none) E (k1_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X.s1 (X.v40 i) (X.v45 i) (X.v64 i) (X.v109 i) k acc)
          (fun r => iprop(⌜r = (X.accg i (k.val + 1), X.accu i (k.val + 1))⌝ ∗ owns (c : Thread nD τ) arg3 fullShare X.ct
        ∗ owns (c : Thread nD τ) arg26 fullShare X.w26
        ∗ owns (c : Thread nD τ) arg27 fullShare X.m27
        ∗ owns (c : Thread nD τ) arg11 fullShare (mix 0 (k.val + 1) (X.dwg i) O11)
        ∗ owns (c : Thread nD τ) arg12 fullShare (mix 0 (k.val + 1) (X.dwu i) O12)
        ∗ owns (c : Thread nD τ) arg21 fullShare (mix 0 (k.val + 1) (X.d21 i O21) O21))) := by
  have hk : k.val < 8 := Nat.lt_of_lt_of_le k.isLt k1_t3_abs.2.1
  unfold k1_t3_body
  simp only [k1_part3_eq_skeleton]
  iintro ⟨%hacc, H3, H26, H27, H11, H12, H21⟩
  subst hacc
  ihave H3 := (owns_open harg3 _) $$ H3
  ihave H26 := (owns_open harg26 _) $$ H26
  ihave H27 := (owns_open harg27 _) $$ H27
  ihave H11 := (owns_open harg11 _) $$ H11
  ihave H12 := (owns_open harg12 _) $$ H12
  ihave H21 := (owns_open harg21 _) $$ H21
  sl_exec
  sl_step
  have e3 : ∀ inb, View.readAt (Elt F) arg3.view (Rect.unit (s := S4096x256) (k1_off7 k) S512x256.size inb).toLoadRect (harg3.unread X.ct) = X.bct k.val := fun inb => readAt_row (w := 256) harg3 X.ct k.val 0 _ (k1_off7_eq k) inb
  have e26 : ∀ inb, View.readAt (Elt F) arg26.view (Rect.unit (s := S4096x512) (k1_off10 k) S512x512.size inb).toLoadRect (harg26.unread X.w26) = rowBlk 512 0 X.w26 k.val := fun inb => readAt_row (w := 512) harg26 X.w26 k.val 0 _ (k1_off10_eq k) inb
  have e27 : ∀ inb, View.readAt (Elt F) arg27.view (Rect.unit (s := S4096x512) (k1_off8 k) S512x256.size inb).toLoadRect (harg27.unread X.m27) = rowBlk 256 0 X.m27 k.val := fun inb => readAt_row (w := 256) harg27 X.m27 k.val 0 _ (k1_off8_eq k) inb
  have e28 : ∀ inb, View.readAt (Elt F) arg27.view (Rect.unit (s := S4096x512) (k1_off9 k) S512x256.size inb).toLoadRect (harg27.unread X.m27) = rowBlk 256 256 X.m27 k.val := fun inb => readAt_row (w := 256) harg27 X.m27 k.val 256 _ (k1_off9_eq k) inb
  have e21 : ∀ inb, View.readAt (Elt F) arg21.view (Rect.unit (s := S4096x256) (k1_off7 k) S512x256.size inb).toLoadRect (harg21.unread (mix 0 k.val (X.d21 i O21) O21)) = rowBlk 256 0 O21 k.val := fun inb => (readAt_row (w := 256) harg21 _ k.val 0 _ (k1_off7_eq k) inb).trans (rowBlk_mix _ _ _ _ _ (by omega))
  isplitr
  · ipureintro
    unfold trip3.sl.r trip3.sl.r_1
    rw [e3, e27, e28]; rfl
  isplitl [H3]; · iapply (owns_close _ _ (harg3.read_unread _)) $$ H3
  isplitl [H26]; · iapply (owns_close _ _ (harg26.read_unread _)) $$ H26
  isplitl [H27]; · iapply (owns_close _ _ (harg27.read_unread _)) $$ H27
  isplitl [H11]; · iapply (owns_close _ _ (by rw [e3, e27]; exact writes_row harg11 k.val _ O11 _ (k1_off7_eq k) (k1_off7_inb k) _ rfl)) $$ H11
  isplitl [H12]; · iapply (owns_close _ _ (by rw [e3, e28]; exact writes_row harg12 k.val _ O12 _ (k1_off7_eq k) (k1_off7_inb k) _ rfl)) $$ H12
  iapply (owns_close _ _ (by unfold trip3.sl.r_2; rw [e26, e21]; exact writes_row harg21 k.val _ O21 _ (k1_off7_eq k) (k1_off7_inb k) _ rfl)) $$ H21

/-- The third loop. -/
theorem loop3 (O11 : Vec F S4096x256 .bf16) (O12 : Vec F S4096x256 .bf16) (O21 : Vec F S4096x256 .f32) (E : Set ℕ) :
    (iprop(owns (c : Thread nD τ) arg3 fullShare X.ct
        ∗ owns (c : Thread nD τ) arg26 fullShare X.w26
        ∗ owns (c : Thread nD τ) arg27 fullShare X.m27
        ∗ owns (c : Thread nD τ) arg11 fullShare O11
        ∗ owns (c : Thread nD τ) arg12 fullShare O12
        ∗ owns (c : Thread nD τ) arg21 fullShare O21) : sProp 𝕄)
      ⊢ wp frame (wpE (defs₀ (F := F)) Variants.none c none) E (Scf.Loop.for k1_t3_loop k1_t3_ok (k1_pay3, k1_pay3) (k1_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X.s1 (X.v40 i) (X.v45 i) (X.v64 i) (X.v109 i)))
          (fun r => iprop(⌜r = (X.accg i 8, X.accu i 8)⌝ ∗ owns (c : Thread nD τ) arg3 fullShare X.ct
        ∗ owns (c : Thread nD τ) arg26 fullShare X.w26
        ∗ owns (c : Thread nD τ) arg27 fullShare X.m27
        ∗ owns (c : Thread nD τ) arg11 fullShare (X.dwg i)
        ∗ owns (c : Thread nD τ) arg12 fullShare (X.dwu i)
        ∗ owns (c : Thread nD τ) arg21 fullShare (X.d21 i O21))) := by
  have ht : k1_t3_loop.trips = 8 := by decide
  iintro ⟨H3, H26, H27, H11, H12, H21⟩
  sl_for (fun k acc => iprop(⌜acc = (X.accg i k, X.accu i k)⌝ ∗ owns (c : Thread nD τ) arg3 fullShare X.ct
        ∗ owns (c : Thread nD τ) arg26 fullShare X.w26
        ∗ owns (c : Thread nD τ) arg27 fullShare X.m27
        ∗ owns (c : Thread nD τ) arg11 fullShare (mix 0 k (X.dwg i) O11)
        ∗ owns (c : Thread nD τ) arg12 fullShare (mix 0 k (X.dwu i) O12)
        ∗ owns (c : Thread nD τ) arg21 fullShare (mix 0 k (X.d21 i O21) O21))) $$ [H3 H26 H27 H11 H12 H21]
  · intro k acc; exact trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X O11 O12 O21 k acc E
  isplitl [H3 H26 H27 H11 H12 H21]
  · isplitr
    · ipureintro; rfl
    isplitl [H3]; · iexact H3
    isplitl [H26]; · iexact H26
    isplitl [H27]; · iexact H27
    isplitl [H11]; · iexact H11
    isplitl [H12]; · iexact H12
    iexact H21
  iintro %acc ⟨%h, H3, H26, H27, H11, H12, H21⟩
  rw [mix_full 0 _ _ O11 (by decide), mix_full 0 _ _ O12 (by decide), mix_full 0 _ _ O21 (by decide)]
  isplitr
  · ipureintro; exact h.trans (congrArg (fun k => (X.accg i k, X.accu i k)) ht)
  isplitl [H3]; · iexact H3
  isplitl [H26]; · iexact H26
  isplitl [H27]; · iexact H27
  isplitl [H11]; · iexact H11
  isplitl [H12]; · iexact H12
  iexact H21

end Run

end Cert.KernelIdeal.Body
-- ==== Proof.Body1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Part4
public import proofs.«01_k».proof.Proof.Part5tt
public import proofs.«01_k».proof.Proof.Part5tf
public import proofs.«01_k».proof.Proof.Part5ft
public import proofs.«01_k».proof.Proof.Part5ff
public import proofs.«01_k».proof.Proof.Part6
public import proofs.«01_k».proof.Proof.Trip3
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The main call's body at one step. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

/-- The second part: the halves computed again, the second activation and its codes, and the second loop. -/
theorem part5 (O13 : Vec F S256x4096 .bf16) (O16 : Vec F S256x4096 .i8) (O17 : Vec F S256x256 .fp8e4m3) (O20 : Vec F S256x4096 .f32) (O22 : Vec F S8x4096 .f32) (E : Set ℕ) :
    (iprop(owns (c : Thread nD τ) arg2 fullShare X.c1
        ∗ owns (c : Thread nD τ) arg28 fullShare X.q28
        ∗ owns (c : Thread nD τ) arg29 fullShare X.raw0
        ∗ owns (c : Thread nD τ) arg17 fullShare O17
        ∗ owns (c : Thread nD τ) arg10 fullShare X.sd
        ∗ owns (c : Thread nD τ) arg7 fullShare X.wd
        ∗ owns (c : Thread nD τ) arg4 fullShare X.dy
        ∗ owns (c : Thread nD τ) arg16 fullShare O16
        ∗ owns (c : Thread nD τ) arg20 fullShare O20
        ∗ owns (c : Thread nD τ) arg13 fullShare O13
        ∗ owns (c : Thread nD τ) arg22 fullShare O22) : sProp 𝕄)
      ⊢ wp frame (wpE (defs₀ (F := F)) Variants.none c none) E (k1_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 0).val) X.s1 X.s2 X.v6 X.v8 k1_pay45 X.v23 (Scalar.extui (Scalar.cmpi .eq (Scalar.remsi (Scalar.addi (Scalar.muli (BitVec.ofNat 32 (i 0).val) 2#32) 0#32) 19#32) 18#32) : BitVec 32) 0#32)
          (fun r => iprop(⌜r = ⟨X.v40 i, X.v44, X.v45 i, X.v49 i, X.v59, X.v60 i, X.v62 i, X.v64 i, X.v66 i, In.v67⟩⌝
        ∗ owns (c : Thread nD τ) arg2 fullShare X.c1
        ∗ owns (c : Thread nD τ) arg28 fullShare X.q28
        ∗ owns (c : Thread nD τ) arg29 fullShare (X.raw i)
        ∗ owns (c : Thread nD τ) arg17 fullShare (X.c2 i)
        ∗ owns (c : Thread nD τ) arg10 fullShare X.sd
        ∗ owns (c : Thread nD τ) arg7 fullShare X.wd
        ∗ owns (c : Thread nD τ) arg4 fullShare X.dy
        ∗ owns (c : Thread nD τ) arg16 fullShare X.cd
        ∗ owns (c : Thread nD τ) arg20 fullShare (X.o20 i O20)
        ∗ owns (c : Thread nD τ) arg13 fullShare (X.dwd i)
        ∗ owns (c : Thread nD τ) arg22 fullShare (X.d22 i O22))) := by
  by_cases hl : In.left i
  · by_cases hr : In.right i
    · exact part5_tt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X hl hr O13 O16 O17 O20 O22 E
    · exact part5_tf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X hl hr O13 O16 O17 O20 O22 E
  · by_cases hr : In.right i
    · exact part5_ft c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X hl hr O13 O16 O17 O20 O22 E
    · exact part5_ff c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X hl hr O13 O16 O17 O20 O22 E

set_option maxHeartbeats 2000000 in
/-- **The main call's body at one step**: what each of its outputs, accumulators and scratch buffers holds after it. -/
theorem body1 (O11 : Vec F S4096x256 .bf16) (O12 : Vec F S4096x256 .bf16) (O13 : Vec F S256x4096 .bf16) (O14 : Vec F S4096x256 .i8) (O15 : Vec F S4096x256 .i8) (O16 : Vec F S256x4096 .i8) (O17 : Vec F S256x256 .fp8e4m3) (O18 : Vec F S1x256 .f32) (O19 : Vec F S1x256 .f32) (O20 : Vec F S256x4096 .f32) (O21 : Vec F S4096x256 .f32) (O22 : Vec F S8x4096 .f32) (O23 : Vec F S256x128 .f32) (O24 : Vec F S256x128 .f32) (O25 : Vec F S256x128 .f32) (O26 : Vec F S4096x512 .bf16) (O27 : Vec F S4096x512 .f32) (O28 : Vec F S4096x512 .fp8e4m3) (O29 : Vec F S256x256 .f32) (E : Set ℕ) (K : PUnit → sProp 𝕄) :
    (iprop(owns (c : Thread nD τ) arg1 fullShare X.s
        ∗ owns (c : Thread nD τ) arg2 fullShare X.c1
        ∗ owns (c : Thread nD τ) arg3 fullShare X.ct
        ∗ owns (c : Thread nD τ) arg4 fullShare X.dy
        ∗ owns (c : Thread nD τ) arg5 fullShare X.wg
        ∗ owns (c : Thread nD τ) arg6 fullShare X.wu
        ∗ owns (c : Thread nD τ) arg7 fullShare X.wd
        ∗ owns (c : Thread nD τ) arg8 fullShare X.sg
        ∗ owns (c : Thread nD τ) arg9 fullShare X.su
        ∗ owns (c : Thread nD τ) arg10 fullShare X.sd
        ∗ owns (c : Thread nD τ) arg11 fullShare O11
        ∗ owns (c : Thread nD τ) arg12 fullShare O12
        ∗ owns (c : Thread nD τ) arg13 fullShare O13
        ∗ owns (c : Thread nD τ) arg14 fullShare O14
        ∗ owns (c : Thread nD τ) arg15 fullShare O15
        ∗ owns (c : Thread nD τ) arg16 fullShare O16
        ∗ owns (c : Thread nD τ) arg17 fullShare O17
        ∗ owns (c : Thread nD τ) arg18 fullShare O18
        ∗ owns (c : Thread nD τ) arg19 fullShare O19
        ∗ owns (c : Thread nD τ) arg20 fullShare O20
        ∗ owns (c : Thread nD τ) arg21 fullShare O21
        ∗ owns (c : Thread nD τ) arg22 fullShare O22
        ∗ owns (c : Thread nD τ) arg23 fullShare O23
        ∗ owns (c : Thread nD τ) arg24 fullShare O24
        ∗ owns (c : Thread nD τ) arg25 fullShare O25
        ∗ owns (c : Thread nD τ) arg26 fullShare O26
        ∗ owns (c : Thread nD τ) arg27 fullShare O27
        ∗ owns (c : Thread nD τ) arg28 fullShare O28
        ∗ owns (c : Thread nD τ) arg29 fullShare O29
      ∗ (iprop(owns (c : Thread nD τ) arg1 fullShare X.s
        ∗ owns (c : Thread nD τ) arg2 fullShare X.c1
        ∗ owns (c : Thread nD τ) arg3 fullShare X.ct
        ∗ owns (c : Thread nD τ) arg4 fullShare X.dy
        ∗ owns (c : Thread nD τ) arg5 fullShare X.wg
        ∗ owns (c : Thread nD τ) arg6 fullShare X.wu
        ∗ owns (c : Thread nD τ) arg7 fullShare X.wd
        ∗ owns (c : Thread nD τ) arg8 fullShare X.sg
        ∗ owns (c : Thread nD τ) arg9 fullShare X.su
        ∗ owns (c : Thread nD τ) arg10 fullShare X.sd
        ∗ owns (c : Thread nD τ) arg11 fullShare (X.dwg i)
        ∗ owns (c : Thread nD τ) arg12 fullShare (X.dwu i)
        ∗ owns (c : Thread nD τ) arg13 fullShare (X.dwd i)
        ∗ owns (c : Thread nD τ) arg14 fullShare X.cg
        ∗ owns (c : Thread nD τ) arg15 fullShare X.cu
        ∗ owns (c : Thread nD τ) arg16 fullShare X.cd
        ∗ owns (c : Thread nD τ) arg17 fullShare (X.c2 i)
        ∗ owns (c : Thread nD τ) arg18 fullShare (X.dsg i)
        ∗ owns (c : Thread nD τ) arg19 fullShare (X.dsu i)
        ∗ owns (c : Thread nD τ) arg20 fullShare (X.o20 i (In.z20 i O20))
        ∗ owns (c : Thread nD τ) arg21 fullShare (X.d21 i (In.z21 i O21))
        ∗ owns (c : Thread nD τ) arg22 fullShare (X.d22 i (In.z22 i O22))
        ∗ owns (c : Thread nD τ) arg23 fullShare (X.p23 i (In.z23 i O23))
        ∗ owns (c : Thread nD τ) arg24 fullShare (X.p24 i (In.z24 i O24))
        ∗ owns (c : Thread nD τ) arg25 fullShare (X.p25 i (In.z25 i O25))
        ∗ owns (c : Thread nD τ) arg26 fullShare X.w26
        ∗ owns (c : Thread nD τ) arg27 fullShare X.m27
        ∗ owns (c : Thread nD τ) arg28 fullShare X.q28
        ∗ owns (c : Thread nD τ) arg29 fullShare (X.raw i)) -∗ K ⟨⟩)) : sProp 𝕄)
      ⊢ wp frame (wpE (defs₀ (F := F)) Variants.none c none) E (cc1_mlp_fwd_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  rw [cc1_mlp_fwd_bwd_eq_skeleton]; unfold cc1_mlp_fwd_bwd_skel
  iintro ⟨H1, H2, H3, H4, H5, H6, H7, H8, H9, H10, H11, H12, H13, H14, H15, H16, H17, H18, H19, H20, H21, H22, H23, H24, H25, H26, H27, H28, H29, HK⟩
  iapply (cut (part4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X O14 O15 O26 O27 O28 O29 O20 O21 O22 O23 O24 O25 E)) $$ [H1 H2 H5 H6 H8 H9 H14 H15 H26 H27 H28 H29 H20 H21 H22 H23 H24 H25]
  · isplitl [H1]; · iexact H1
    isplitl [H2]; · iexact H2
    isplitl [H5]; · iexact H5
    isplitl [H6]; · iexact H6
    isplitl [H8]; · iexact H8
    isplitl [H9]; · iexact H9
    isplitl [H14]; · iexact H14
    isplitl [H15]; · iexact H15
    isplitl [H26]; · iexact H26
    isplitl [H27]; · iexact H27
    isplitl [H28]; · iexact H28
    isplitl [H29]; · iexact H29
    isplitl [H20]; · iexact H20
    isplitl [H21]; · iexact H21
    isplitl [H22]; · iexact H22
    isplitl [H23]; · iexact H23
    isplitl [H24]; · iexact H24
    iexact H25
  iintro ⟨H1, H2, H5, H6, H8, H9, H14, H15, H26, H27, H28, H29, H20, H21, H22, H23, H24, H25⟩
  iapply (cut (part5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X O13 O16 O17 (In.z20 i O20) (In.z22 i O22) E)) $$ [H2 H28 H29 H17 H10 H7 H4 H16 H20 H13 H22]
  · isplitl [H2]; · iexact H2
    isplitl [H28]; · iexact H28
    isplitl [H29]; · iexact H29
    isplitl [H17]; · iexact H17
    isplitl [H10]; · iexact H10
    isplitl [H7]; · iexact H7
    isplitl [H4]; · iexact H4
    isplitl [H16]; · iexact H16
    isplitl [H20]; · iexact H20
    isplitl [H13]; · iexact H13
    iexact H22
  iintro ⟨H2, H28, H29, H17, H10, H7, H4, H16, H20, H13, H22⟩
  iapply (cut (part6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X (In.z23 i O23) (In.z24 i O24) (In.z25 i O25) E)) $$ [H25 H23 H24]
  · isplitl [H25]; · iexact H25
    isplitl [H23]; · iexact H23
    iexact H24
  iintro ⟨H25, H23, H24⟩
  iapply (cut (loop3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X O11 O12 (In.z21 i O21) E)) $$ [H3 H26 H27 H11 H12 H21]
  · isplitl [H3]; · iexact H3
    isplitl [H26]; · iexact H26
    isplitl [H27]; · iexact H27
    isplitl [H11]; · iexact H11
    isplitl [H12]; · iexact H12
    iexact H21
  iintro ⟨H3, H26, H27, H11, H12, H21⟩
  ihave H18 := (owns_open harg18 _) $$ H18
  ihave H19 := (owns_open harg19 _) $$ H19
  sl_exec
  sl_step
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · iapply (owns_close (X.dsg i) _ (by (try unfold body1.sl.H18_1); exact writes_whole _ _ _ _)) $$ H18
  isplitl [H19]
  · iapply (owns_close (X.dsu i) _ (by (try unfold body1.sl.H19_1); exact writes_whole _ _ _ _)) $$ H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

end Run

end Cert.KernelIdeal.Body
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Body1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The main call: what its pipeline holds at each step, and that its body keeps it. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Body Cert.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

/-- The block of window `w` at step `t`. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first step. -/
abbrev cond1_0 (i : grid1.Coords) : Prop := (Scalar.cmpi .ne (Scalar.extui (Scalar.cmpi .eq (BitVec.ofNat 32 (i 0).val) 0#32)) 0#32) = 1#1
/-- The branch that clears the accumulators is taken at the first grid step only. -/
theorem hcond1_0 : ∀ t : Fin cfg1.N, cond1_0 (grid1.coords t) ↔ t.val % 56 = 0 :=
  (fun t => by
    have ht : t.val < 56 := Nat.lt_of_lt_of_eq t.isLt N_1
    have e0 : (grid1.coords t 0).val = t.val / 1 % 56 := Pipeline.Grid.coords_val t 0 (by decide) rfl
    simp only [cond1_0, e0]
    word_cmp
   : ∀ t : Fin grid1.N, cond1_0 (grid1.coords t) ↔ t.val % 56 = 0)

/-- Input window 0 holds its block at every step. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every step. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every step. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block at every step. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block at every step. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 holds its block at every step. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6 holds its block at every step. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7 holds its block at every step. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8 holds its block at every step. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9 holds its block at every step. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .smem S2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x4096 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x4096 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S4096x256 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4096x256 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x4096 .bf16 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S4096x256 .i8 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S4096x256 .i8 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S256x4096 .i8 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S256x256 .fp8e4m3 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x256 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1x256 .f32 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S256x4096 .f32 := win1_19.stage (cfg1.slots t 19)
abbrev hs1_19 (t : Fin cfg1.N) : (ms1_19 t).IsWhole := hstage1_19 ((cfg1.slots t 19).cast nbuf1_19)
abbrev ms1_20 (t : Fin cfg1.N) : Memref sig .tc .vmem S4096x256 .f32 := win1_20.stage (cfg1.slots t 20)
abbrev hs1_20 (t : Fin cfg1.N) : (ms1_20 t).IsWhole := hstage1_20 ((cfg1.slots t 20).cast nbuf1_20)
abbrev ms1_21 (t : Fin cfg1.N) : Memref sig .tc .vmem S8x4096 .f32 := win1_21.stage (cfg1.slots t 21)
abbrev hs1_21 (t : Fin cfg1.N) : (ms1_21 t).IsWhole := hstage1_21 ((cfg1.slots t 21).cast nbuf1_21)
abbrev ms1_22 (t : Fin cfg1.N) : Memref sig .tc .vmem S256x128 .f32 := win1_22.stage (cfg1.slots t 22)
abbrev hs1_22 (t : Fin cfg1.N) : (ms1_22 t).IsWhole := hstage1_22 ((cfg1.slots t 22).cast nbuf1_22)
abbrev ms1_23 (t : Fin cfg1.N) : Memref sig .tc .vmem S256x128 .f32 := win1_23.stage (cfg1.slots t 23)
abbrev hs1_23 (t : Fin cfg1.N) : (ms1_23 t).IsWhole := hstage1_23 ((cfg1.slots t 23).cast nbuf1_23)
abbrev ms1_24 (t : Fin cfg1.N) : Memref sig .tc .vmem S256x128 .f32 := win1_24.stage (cfg1.slots t 24)
abbrev hs1_24 (t : Fin cfg1.N) : (ms1_24 t).IsWhole := hstage1_24 ((cfg1.slots t 24).cast nbuf1_24)
abbrev scM1_0 : Memref sig .tc .vmem S4096x512 .bf16 := Memref.whole cc1_scratch0
abbrev scM1_1 : Memref sig .tc .vmem S4096x512 .f32 := Memref.whole cc1_scratch1
abbrev scM1_2 : Memref sig .tc .vmem S4096x512 .fp8e4m3 := Memref.whole cc1_scratch2
abbrev scM1_3 : Memref sig .tc .vmem S256x256 .f32 := Memref.whole cc1_scratch3

/-- The scoped buffers as the scratch buffers and the rest. -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ Pipeline.scopedRestBut spec1 c [cc1_scratch0, cc1_scratch1, cc1_scratch2, cc1_scratch3]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest1_split, assoc, assoc, assoc]

/-- The invariant with the scratch buffers owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ Pipeline.scopedRestBut spec1 c [cc1_scratch0, cc1_scratch1, cc1_scratch2, cc1_scratch3]) ∗ (∃ r, prngReg c r)) := by
  unfold Pipeline.ΦA; rw [scopedRest1_flat]; simp only [scM1_0, scM1_1, scM1_2, scM1_3, owns_whole]; try rfl

/-- The main call's operands at step `t`. -/
def in1 (c : Dev nD) (t : Fin cfg1.N) : In F where
  s := iblk1 V c 0 t
  c1 := iblk1 V c 1 t
  ct := iblk1 V c 2 t
  dy := iblk1 V c 3 t
  wg := iblk1 V c 4 t
  wu := iblk1 V c 5 t
  wd := iblk1 V c 6 t
  sg := iblk1 V c 7 t
  su := iblk1 V c 8 t
  sd := iblk1 V c 9 t

/-- The six outputs that are added up over the steps. -/
structure Acc (F : FTy → Type) [FloatOps F] where
  a20 : Vec F S256x4096 .f32
  a21 : Vec F S4096x256 .f32
  a22 : Vec F S8x4096 .f32
  a23 : Vec F S256x128 .f32
  a24 : Vec F S256x128 .f32
  a25 : Vec F S256x128 .f32

/-- One step of the sums. -/
def stepAcc (X : In F) (i : grid1.Coords) (A : Acc F) : Acc F where
  a20 := X.o20 i (In.z20 i A.a20)
  a21 := X.d21 i (In.z21 i A.a21)
  a22 := X.d22 i (In.z22 i A.a22)
  a23 := X.p23 i (In.z23 i A.a23)
  a24 := X.p24 i (In.z24 i A.a24)
  a25 := X.p25 i (In.z25 i A.a25)

/-- The sums before the first step. -/
def acc0 : Acc F := ⟨k1_pay35, k1_pay36, k1_pay37, k1_pay38, k1_pay39, k1_pay40⟩

/-- The sums after step `n`. -/
def accAt (c : Dev nD) : (n : ℕ) → n < cfg1.N → Acc F
  | 0, h => stepAcc (in1 V c ⟨0, h⟩) (grid1.coords ⟨0, h⟩) acc0
  | n + 1, h => stepAcc (in1 V c ⟨n + 1, h⟩) (grid1.coords ⟨n + 1, h⟩) (accAt c n (Nat.lt_of_succ_lt h))

/-- At the first step the sums do not depend on what the buffers hold. -/
theorem acc_first (c : Dev nD) (t : Fin cfg1.N) (h0 : t.val % 56 = 0) (O20 : Vec F S256x4096 .f32) (O21 : Vec F S4096x256 .f32)
    (O22 : Vec F S8x4096 .f32) (O23 O24 O25 : Vec F S256x128 .f32) :
    accAt V c t.val t.isLt = stepAcc (in1 V c t) (grid1.coords t) ⟨O20, O21, O22, O23, O24, O25⟩ := by
  have hN : t.val < 56 := lt_of_lt_of_eq t.isLt (show cfg1.N = 56 from N_1)
  obtain ⟨n, hn⟩ := t
  obtain rfl : n = 0 := by dsimp only at h0 hN; omega
  have hf : In.first (grid1.coords ⟨0, hn⟩) := (hcond1_0 ⟨0, hn⟩).mpr h0
  simp only [accAt, stepAcc, In.z20, In.z21, In.z22, In.z23, In.z24, In.z25, if_pos hf]

/-- At a later step the sums continue from the step before. -/
theorem acc_next (c : Dev nD) (t : Fin cfg1.N) (h0 : ¬t.val % 56 = 0) :
    accAt V c t.val t.isLt = stepAcc (in1 V c t) (grid1.coords t) (accAt V c (t.val - 1) (Nat.lt_of_le_of_lt (Nat.sub_le _ _) t.isLt)) := by
  obtain ⟨n, hn⟩ := t
  match n, hn, h0 with
  | 0, _, h0 => exact absurd rfl h0
  | n + 1, _, _ => rfl

/-- The proof data: every window after each step. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (in1 V c t).dwg (grid1.coords t)
    | ⟨11, _⟩ => (in1 V c t).dwu (grid1.coords t)
    | ⟨12, _⟩ => (in1 V c t).dwd (grid1.coords t)
    | ⟨13, _⟩ => (in1 V c t).cg
    | ⟨14, _⟩ => (in1 V c t).cu
    | ⟨15, _⟩ => (in1 V c t).cd
    | ⟨16, _⟩ => (in1 V c t).c2 (grid1.coords t)
    | ⟨17, _⟩ => (in1 V c t).dsg (grid1.coords t)
    | ⟨18, _⟩ => (in1 V c t).dsu (grid1.coords t)
    | ⟨19, _⟩ => (accAt V c t.val t.isLt).a20
    | ⟨20, _⟩ => (accAt V c t.val t.isLt).a21
    | ⟨21, _⟩ => (accAt V c t.val t.isLt).a22
    | ⟨22, _⟩ => (accAt V c t.val t.isLt).a23
    | ⟨23, _⟩ => (accAt V c t.val t.isLt).a24
    | ⟨24, _⟩ => (accAt V c t.val t.isLt).a25
    | ⟨_ + 25, h⟩ => absurd h (Nat.not_lt.2 (Nat.le_add_left _ _))
  Φ _ := Pipeline.ΦA spec1 c
  q _ := fullShare
  owed _ := 0

/-- Each window's array begins as the memory's array. -/
theorem A_eq1 (c : Dev nD) (w : Fin cfg1.W) : (dat1 V c).A w = V c (Pipeline.arrRef spec1 w) := by
  dsimp only [dat1]

/-- What window 0 of the main call holds when a grid step ends. -/
theorem after1_0 (c : Dev nD) (t : Fin cfg1.N) : (dat1 V c).after 0 t = iblk1 V c 0 t := by dsimp only [dat1]
/-- What window 1 of the main call holds when a grid step ends. -/
theorem after1_1 (c : Dev nD) (t : Fin cfg1.N) : (dat1 V c).after 1 t = iblk1 V c 1 t := by dsimp only [dat1]
/-- What window 2 of the main call holds when a grid step ends. -/
theorem after1_2 (c : Dev nD) (t : Fin cfg1.N) : (dat1 V c).after 2 t = iblk1 V c 2 t := by dsimp only [dat1]
/-- What window 3 of the main call holds when a grid step ends. -/
theorem after1_3 (c : Dev nD) (t : Fin cfg1.N) : (dat1 V c).after 3 t = iblk1 V c 3 t := by dsimp only [dat1]
/-- What window 4 of the main call holds when a grid step ends. -/
theorem after1_4 (c : Dev nD) (t : Fin cfg1.N) : (dat1 V c).after 4 t = iblk1 V c 4 t := by dsimp only [dat1]
/-- What window 5 of the main call holds when a grid step ends. -/
theorem after1_5 (c : Dev nD) (t : Fin cfg1.N) : (dat1 V c).after 5 t = iblk1 V c 5 t := by dsimp only [dat1]
/-- What window 6 of the main call holds when a grid step ends. -/
theorem after1_6 (c : Dev nD) (t : Fin cfg1.N) : (dat1 V c).after 6 t = iblk1 V c 6 t := by dsimp only [dat1]
/-- What window 7 of the main call holds when a grid step ends. -/
theorem after1_7 (c : Dev nD) (t : Fin cfg1.N) : (dat1 V c).after 7 t = iblk1 V c 7 t := by dsimp only [dat1]
/-- What window 8 of the main call holds when a grid step ends. -/
theorem after1_8 (c : Dev nD) (t : Fin cfg1.N) : (dat1 V c).after 8 t = iblk1 V c 8 t := by dsimp only [dat1]
/-- What window 9 of the main call holds when a grid step ends. -/
theorem after1_9 (c : Dev nD) (t : Fin cfg1.N) : (dat1 V c).after 9 t = iblk1 V c 9 t := by dsimp only [dat1]
/-- What window 10 of the main call holds when a grid step ends. -/
theorem after1_10 (c : Dev nD) (t : Fin cfg1.N) : (dat1 V c).after 10 t = (in1 V c t).dwg (grid1.coords t) := by dsimp only [dat1]
/-- What window 11 of the main call holds when a grid step ends. -/
theorem after1_11 (c : Dev nD) (t : Fin cfg1.N) : (dat1 V c).after 11 t = (in1 V c t).dwu (grid1.coords t) := by dsimp only [dat1]
/-- What window 12 of the main call holds when a grid step ends. -/
theorem after1_12 (c : Dev nD) (t : Fin cfg1.N) : (dat1 V c).after 12 t = (in1 V c t).dwd (grid1.coords t) := by dsimp only [dat1]
/-- What window 13 of the main call holds when a grid step ends. -/
theorem after1_13 (c : Dev nD) (t : Fin cfg1.N) : (dat1 V c).after 13 t = (in1 V c t).cg := by dsimp only [dat1]
/-- What window 14 of the main call holds when a grid step ends. -/
theorem after1_14 (c : Dev nD) (t : Fin cfg1.N) : (dat1 V c).after 14 t = (in1 V c t).cu := by dsimp only [dat1]
/-- What window 15 of the main call holds when a grid step ends. -/
theorem after1_15 (c : Dev nD) (t : Fin cfg1.N) : (dat1 V c).after 15 t = (in1 V c t).cd := by dsimp only [dat1]
/-- What window 16 of the main call holds when a grid step ends. -/
theorem after1_16 (c : Dev nD) (t : Fin cfg1.N) : (dat1 V c).after 16 t = (in1 V c t).c2 (grid1.coords t) := by dsimp only [dat1]
/-- What window 17 of the main call holds when a grid step ends. -/
theorem after1_17 (c : Dev nD) (t : Fin cfg1.N) : (dat1 V c).after 17 t = (in1 V c t).dsg (grid1.coords t) := by dsimp only [dat1]
/-- What window 18 of the main call holds when a grid step ends. -/
theorem after1_18 (c : Dev nD) (t : Fin cfg1.N) : (dat1 V c).after 18 t = (in1 V c t).dsu (grid1.coords t) := by dsimp only [dat1]
/-- What window 19 of the main call holds when a grid step ends. -/
theorem after1_19 (c : Dev nD) (t : Fin cfg1.N) : (dat1 V c).after 19 t = (accAt V c t.val t.isLt).a20 := by dsimp only [dat1]
/-- What window 20 of the main call holds when a grid step ends. -/
theorem after1_20 (c : Dev nD) (t : Fin cfg1.N) : (dat1 V c).after 20 t = (accAt V c t.val t.isLt).a21 := by dsimp only [dat1]
/-- What window 21 of the main call holds when a grid step ends. -/
theorem after1_21 (c : Dev nD) (t : Fin cfg1.N) : (dat1 V c).after 21 t = (accAt V c t.val t.isLt).a22 := by dsimp only [dat1]
/-- What window 22 of the main call holds when a grid step ends. -/
theorem after1_22 (c : Dev nD) (t : Fin cfg1.N) : (dat1 V c).after 22 t = (accAt V c t.val t.isLt).a23 := by dsimp only [dat1]
/-- What window 23 of the main call holds when a grid step ends. -/
theorem after1_23 (c : Dev nD) (t : Fin cfg1.N) : (dat1 V c).after 23 t = (accAt V c t.val t.isLt).a24 := by dsimp only [dat1]
/-- What window 24 of the main call holds when a grid step ends. -/
theorem after1_24 (c : Dev nD) (t : Fin cfg1.N) : (dat1 V c).after 24 t = (accAt V c t.val t.isLt).a25 := by dsimp only [dat1]

/-- Window 0 of the main call holds its array's block when a grid step begins. -/
theorem before1_0 (c : Dev nD) (t : Fin cfg1.N) (d) : (dat1 V c).before 0 t d = iblk1 V c 0 t :=
  before1_0_of V (dat1 V c) (A_eq1 V c 0) (after1_0 V c) t d
/-- Window 1 of the main call holds its array's block when a grid step begins. -/
theorem before1_1 (c : Dev nD) (t : Fin cfg1.N) (d) : (dat1 V c).before 1 t d = iblk1 V c 1 t :=
  before1_1_of V (dat1 V c) (A_eq1 V c 1) (after1_1 V c) t d
/-- Window 2 of the main call holds its array's block when a grid step begins. -/
theorem before1_2 (c : Dev nD) (t : Fin cfg1.N) (d) : (dat1 V c).before 2 t d = iblk1 V c 2 t :=
  before1_2_of V (dat1 V c) (A_eq1 V c 2) (after1_2 V c) t d
/-- Window 3 of the main call holds its array's block when a grid step begins. -/
theorem before1_3 (c : Dev nD) (t : Fin cfg1.N) (d) : (dat1 V c).before 3 t d = iblk1 V c 3 t :=
  before1_3_of V (dat1 V c) (A_eq1 V c 3) (after1_3 V c) t d
/-- Window 4 of the main call holds its array's block when a grid step begins. -/
theorem before1_4 (c : Dev nD) (t : Fin cfg1.N) (d) : (dat1 V c).before 4 t d = iblk1 V c 4 t :=
  before1_4_of V (dat1 V c) (A_eq1 V c 4) (after1_4 V c) t d
/-- Window 5 of the main call holds its array's block when a grid step begins. -/
theorem before1_5 (c : Dev nD) (t : Fin cfg1.N) (d) : (dat1 V c).before 5 t d = iblk1 V c 5 t :=
  before1_5_of V (dat1 V c) (A_eq1 V c 5) (after1_5 V c) t d
/-- Window 6 of the main call holds its array's block when a grid step begins. -/
theorem before1_6 (c : Dev nD) (t : Fin cfg1.N) (d) : (dat1 V c).before 6 t d = iblk1 V c 6 t :=
  before1_6_of V (dat1 V c) (A_eq1 V c 6) (after1_6 V c) t d
/-- Window 7 of the main call holds its array's block when a grid step begins. -/
theorem before1_7 (c : Dev nD) (t : Fin cfg1.N) (d) : (dat1 V c).before 7 t d = iblk1 V c 7 t :=
  before1_7_of V (dat1 V c) (A_eq1 V c 7) (after1_7 V c) t d
/-- Window 8 of the main call holds its array's block when a grid step begins. -/
theorem before1_8 (c : Dev nD) (t : Fin cfg1.N) (d) : (dat1 V c).before 8 t d = iblk1 V c 8 t :=
  before1_8_of V (dat1 V c) (A_eq1 V c 8) (after1_8 V c) t d
/-- Window 9 of the main call holds its array's block when a grid step begins. -/
theorem before1_9 (c : Dev nD) (t : Fin cfg1.N) (d) : (dat1 V c).before 9 t d = iblk1 V c 9 t :=
  before1_9_of V (dat1 V c) (A_eq1 V c 9) (after1_9 V c) t d

/-- Past the first step window 19 holds what the step before left. -/
theorem kept1_19 (c : Dev nD) (t : Fin cfg1.N) (h0 : ¬t.val % 56 = 0) (d) :
    (dat1 V c).before 19 t d = (accAt V c (t.val - 1) (Nat.lt_of_le_of_lt (Nat.sub_le _ _) t.isLt)).a20 := by
  have hN : t.val < 56 := lt_of_lt_of_eq t.isLt (show cfg1.N = 56 from N_1)
  rw [Dat.before_out_kept _ 19 rfl t (by omega) (Bool.eq_false_iff.mpr fun h => by have := (flush1_19 _).mp h; dsimp only at this; omega)
    (fun _ => rfl) (fun _ _ => rfl)]
  dsimp only [dat1]
/-- Past the first step window 20 holds what the step before left. -/
theorem kept1_20 (c : Dev nD) (t : Fin cfg1.N) (h0 : ¬t.val % 56 = 0) (d) :
    (dat1 V c).before 20 t d = (accAt V c (t.val - 1) (Nat.lt_of_le_of_lt (Nat.sub_le _ _) t.isLt)).a21 := by
  have hN : t.val < 56 := lt_of_lt_of_eq t.isLt (show cfg1.N = 56 from N_1)
  rw [Dat.before_out_kept _ 20 rfl t (by omega) (Bool.eq_false_iff.mpr fun h => by have := (flush1_20 _).mp h; dsimp only at this; omega)
    (fun _ => rfl) (fun _ _ => rfl)]
  dsimp only [dat1]
/-- Past the first step window 21 holds what the step before left. -/
theorem kept1_21 (c : Dev nD) (t : Fin cfg1.N) (h0 : ¬t.val % 56 = 0) (d) :
    (dat1 V c).before 21 t d = (accAt V c (t.val - 1) (Nat.lt_of_le_of_lt (Nat.sub_le _ _) t.isLt)).a22 := by
  have hN : t.val < 56 := lt_of_lt_of_eq t.isLt (show cfg1.N = 56 from N_1)
  rw [Dat.before_out_kept _ 21 rfl t (by omega) (Bool.eq_false_iff.mpr fun h => by have := (flush1_21 _).mp h; dsimp only at this; omega)
    (fun _ => rfl) (fun _ _ => rfl)]
  dsimp only [dat1]
/-- Past the first step window 22 holds what the step before left. -/
theorem kept1_22 (c : Dev nD) (t : Fin cfg1.N) (h0 : ¬t.val % 56 = 0) (d) :
    (dat1 V c).before 22 t d = (accAt V c (t.val - 1) (Nat.lt_of_le_of_lt (Nat.sub_le _ _) t.isLt)).a23 := by
  have hN : t.val < 56 := lt_of_lt_of_eq t.isLt (show cfg1.N = 56 from N_1)
  rw [Dat.before_out_kept _ 22 rfl t (by omega) (Bool.eq_false_iff.mpr fun h => by have := (flush1_22 _).mp h; dsimp only at this; omega)
    (fun _ => rfl) (fun _ _ => rfl)]
  dsimp only [dat1]
/-- Past the first step window 23 holds what the step before left. -/
theorem kept1_23 (c : Dev nD) (t : Fin cfg1.N) (h0 : ¬t.val % 56 = 0) (d) :
    (dat1 V c).before 23 t d = (accAt V c (t.val - 1) (Nat.lt_of_le_of_lt (Nat.sub_le _ _) t.isLt)).a24 := by
  have hN : t.val < 56 := lt_of_lt_of_eq t.isLt (show cfg1.N = 56 from N_1)
  rw [Dat.before_out_kept _ 23 rfl t (by omega) (Bool.eq_false_iff.mpr fun h => by have := (flush1_23 _).mp h; dsimp only at this; omega)
    (fun _ => rfl) (fun _ _ => rfl)]
  dsimp only [dat1]
/-- Past the first step window 24 holds what the step before left. -/
theorem kept1_24 (c : Dev nD) (t : Fin cfg1.N) (h0 : ¬t.val % 56 = 0) (d) :
    (dat1 V c).before 24 t d = (accAt V c (t.val - 1) (Nat.lt_of_le_of_lt (Nat.sub_le _ _) t.isLt)).a25 := by
  have hN : t.val < 56 := lt_of_lt_of_eq t.isLt (show cfg1.N = 56 from N_1)
  rw [Dat.before_out_kept _ 24 rfl t (by omega) (Bool.eq_false_iff.mpr fun h => by have := (flush1_24 _).mp h; dsimp only at this; omega)
    (fun _ => rfl) (fun _ _ => rfl)]
  dsimp only [dat1]

/-- What the body is entered with and what it leaves. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d))
    ∗ (∃ d, owns (c : Thread nD τ) (ms1_21 t) fullShare ((dat1 V c).before 21 t d))
    ∗ (∃ d, owns (c : Thread nD τ) (ms1_22 t) fullShare ((dat1 V c).before 22 t d))
    ∗ (∃ d, owns (c : Thread nD τ) (ms1_23 t) fullShare ((dat1 V c).before 23 t d))
    ∗ (∃ d, owns (c : Thread nD τ) (ms1_24 t) fullShare ((dat1 V c).before 24 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t)
    ∗ owns (c : Thread nD τ) (ms1_20 t) fullShare ((dat1 V c).after 20 t)
    ∗ owns (c : Thread nD τ) (ms1_21 t) fullShare ((dat1 V c).after 21 t)
    ∗ owns (c : Thread nD τ) (ms1_22 t) fullShare ((dat1 V c).after 22 t)
    ∗ owns (c : Thread nD τ) (ms1_23 t) fullShare ((dat1 V c).after 23 t)
    ∗ owns (c : Thread nD τ) (ms1_24 t) fullShare ((dat1 V c).after 24 t))

set_option maxHeartbeats 1000000 in
/-- The body at step `t`. -/
theorem sound_first (c : Dev nD) (t : Fin cfg1.N) (h0 : t.val % 56 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24]
  rw [show (dat1 V c).Φ t.castSucc = Pipeline.ΦA spec1 c from rfl, PhiA1_eq]
  iintro ⟨⟨⟨⟨%e0, S0⟩, ⟨%e1, S1⟩, ⟨%e2, S2⟩, ⟨%e3, S3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  rw [acc_first V c t h0 ((dat1 V c).before 19 t d19) ((dat1 V c).before 20 t d20) ((dat1 V c).before 21 t d21) ((dat1 V c).before 22 t d22) ((dat1 V c).before 23 t d23) ((dat1 V c).before 24 t d24)]
  iapply (body1 c _ _ _ _ _ _ _ _ _ _ _ _ _ _ _ _ _ _ _ _ _ _ _ _ _ _ _ _ _ _ _ _ _ _ _ _ _ _ _ _ _ _ _ _ _ _ _ _ _ _ _ _ _ _ _ _ _ _ _ (in1 V c t) _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, H16, H17, H18, H19, H20, H21, H22, H23, H24, S0, S1, S2, S3⟩
  isplitl [S0 S1 S2 S3 HR Hg]
  · isplitl [S0 S1 S2 S3 HR]
    · isplitl [S0]; · iexists _; iexact S0
      isplitl [S1]; · iexists _; iexact S1
      isplitl [S2]; · iexists _; iexact S2
      isplitl [S3]; · iexists _; iexact S3
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

set_option maxHeartbeats 1000000 in
/-- The body at step `t`. -/
theorem sound_next (c : Dev nD) (t : Fin cfg1.N) (h0 : ¬t.val % 56 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  simp only [kept1_19 V c t h0, kept1_20 V c t h0, kept1_21 V c t h0, kept1_22 V c t h0, kept1_23 V c t h0, kept1_24 V c t h0]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24]
  rw [show (dat1 V c).Φ t.castSucc = Pipeline.ΦA spec1 c from rfl, PhiA1_eq]
  rw [acc_next V c t h0]
  iintro ⟨⟨⟨⟨%e0, S0⟩, ⟨%e1, S1⟩, ⟨%e2, S2⟩, ⟨%e3, S3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (body1 c _ _ _ _ _ _ _ _ _ _ _ _ _ _ _ _ _ _ _ _ _ _ _ _ _ _ _ _ _ _ _ _ _ _ _ _ _ _ _ _ _ _ _ _ _ _ _ _ _ _ _ _ _ _ _ _ _ _ _ (in1 V c t) _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, H16, H17, H18, H19, H20, H21, H22, H23, H24, S0, S1, S2, S3⟩
  isplitl [S0 S1 S2 S3 HR Hg]
  · isplitl [S0 S1 S2 S3 HR]
    · isplitl [S0]; · iexists _; iexact S0
      isplitl [S1]; · iexists _; iexact S1
      isplitl [S2]; · iexists _; iexact S2
      isplitl [S3]; · iexists _; iexact S3
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body at every step. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 56 = 0
  · exact sound_first V c t h0
  · exact sound_next V c t h0

set_option maxHeartbeats 1000000 in
/-- The body that a grid step runs, with its buffers put in. -/
theorem defs₀_row1 (t : Fin cfg1.N) :
    defs₀ (F := F) .tc cfg1.body (cfg1.bodyArgs t (cfg1.slots t)) = bodyAt1 t := by
  unfold defs₀; rw [Defs.onTc_tc]

set_option maxHeartbeats 1000000 in
/-- The body's obligation to the pipeline. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.Values2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Tiles
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! What the last call computes, in closed form. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

/-- What the last call reads. -/
structure In2 (F : FTy → Type) [FloatOps F] where
  s : Vec F S2 .f32
  o : Vec F S256x4096 .f32
  t : Vec F S4096x256 .f32
  x : Vec F S256x4096 .bf16
  dy : Vec F S256x4096 .bf16
  g : Vec F S1x4096 .f32
  c1 : Vec F S256x4096 .fp8e4m3
  sd : Vec F S1x4096 .f32
  d8 : Vec F S8x4096 .f32
  p9 : Vec F S256x128 .f32
  p10 : Vec F S256x128 .f32
  p11 : Vec F S256x128 .f32

namespace In2

variable (X : In2 F)

/-- The scales of the two activations. -/
abbrev s1 : Elt F .f32 := X.s (ix1 0)
abbrev s2 : Elt F .f32 := X.s (ix1 1)
/-- Block `k` of what it reads. -/
abbrev bx (k : ℕ) : Vec F S256x512 .bf16 := colBlk X.x k
abbrev bg (k : ℕ) : Vec F S1x512 .f32 := colBlk X.g k
abbrev bo (k : ℕ) : Vec F S256x512 .f32 := colBlk X.o k
abbrev bsd (k : ℕ) : Vec F S1x512 .f32 := colBlk X.sd k
abbrev bt (k : ℕ) : Vec F S512x256 .f32 := rowBlk 256 0 X.t k
abbrev bc (k : ℕ) : Vec F S256x512 .fp8e4m3 := colBlk X.c1 k
abbrev bdy (k : ℕ) : Vec F S256x512 .bf16 := colBlk X.dy k
/-- The partial sums of the squares before block `k`. -/
def sq : ℕ → FVec F S256x128 .f32
  | 0 => k2_pay25
  | k + 1 => k2_pay26 (sq k) (X.bx k)
/-- The reciprocal root of the mean square. -/
def v44 : FVec F S256x1 .f32 := k2_pay27 (X.sq 8)
/-- The first activation's gradient inside its range. -/
def v106 (k : ℕ) : FVec F S256x512 .f32 := k2_pay10 X.s1 X.v44 (X.bx k) (X.bg k) (X.bt k)
/-- The output, -/
def y : Vec F S256x4096 .bf16 := colTiles (fun k => k2_pay5 X.s2 (X.bx k) (X.bo k) (X.bsd k))
/-- the norm weight's gradient, -/
def dg : Vec F S1x4096 .f32 := colTiles (fun k => k2_pay15 X.v44 (k2_pay3 (X.bx k)) (X.v106 k))
/-- and the gradient before the norm. -/
def dh : Vec F S256x4096 .f32 := colTiles (fun k => k2_pay17 (k2_pay4 (X.bg k)) (X.v106 k))
/-- The three partial sums before block `k`. -/
def acc : ℕ → FVec F S256x128 .f32 × FVec F S256x128 .f32 × FVec F S256x128 .f32
  | 0 => (k2_pay28, k2_pay28, k2_pay28)
  | k + 1 => (k2_pay13 (acc k).1 (k2_pay11 X.s1 X.v44 (X.bx k) (X.bg k) (X.bt k) (X.bc k)) (k2_pay12 X.s1 X.v44 (X.bx k) (X.bg k) (X.bt k) (X.bc k)),
      k2_pay14 (acc k).2.1 (k2_pay6 (X.bt k)) (k2_pay7 X.s1 X.v44 (X.bx k) (X.bg k)) (k2_pay8 X.s1 X.v44 (X.bx k) (X.bg k)),
      k2_pay29 (acc k).2.2 (k2_pay19 (k2_pay3 (X.bx k)) (k2_pay4 (X.bg k)) (X.v106 k)) (k2_pay20 (k2_pay3 (X.bx k)) (k2_pay4 (X.bg k)) (X.v106 k)))
def v31 : FVec F S1x1 .f32 := k2_pay24 X.p11 X.p10
def ds : FVec F S1x1 .f32 := k2_pay32 (X.acc 8).1 (X.acc 8).2.1
def o14 : Vec F S1x4096 .f32 := k2_pay21 X.d8
def o16 : Vec F S256x1 .f32 := k2_pay30 (X.acc 8).1
def o17 : Vec F S256x1 .f32 := k2_pay31 (X.acc 8).2.1
def o19 : Vec F S256x1 .f32 := k2_pay23 X.p9
def o20 : Vec F S256x1 .f32 := k2_pay22 X.p10
def o22 : Vec F S256x1 .f32 := k2_pay1 X.v44 (X.acc 8).2.2
/-- The gradient of the input. -/
def dx : Vec F S256x4096 .bf16 := colTiles (fun k => k2_pay2 X.v44 (X.acc 8).2.2 (X.bx k) (colBlk X.dh k) (X.bdy k))

end In2

end Cert.KernelIdeal.Body
-- ==== Proof.Loops2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Values2
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The last call's loops. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

section Run

variable (c : Dev nD) (arg0 : Memref sig .tc .smem S2 .f32) (harg0 : arg0.IsWhole) (arg1 : Memref sig .tc .vmem S256x4096 .f32) (harg1 : arg1.IsWhole) (arg2 : Memref sig .tc .vmem S4096x256 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S256x4096 .fp8e4m3) (harg6 : arg6.IsWhole) (arg7 : Memref sig .tc .vmem S1x4096 .f32) (harg7 : arg7.IsWhole) (arg8 : Memref sig .tc .vmem S8x4096 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S1x4096 .f32) (harg14 : arg14.IsWhole) (arg15 : Memref sig .tc .vmem S1x1 .f32) (harg15 : arg15.IsWhole) (arg16 : Memref sig .tc .vmem S256x1 .f32) (harg16 : arg16.IsWhole) (arg17 : Memref sig .tc .vmem S256x1 .f32) (harg17 : arg17.IsWhole) (arg18 : Memref sig .tc .vmem S1x1 .f32) (harg18 : arg18.IsWhole) (arg19 : Memref sig .tc .vmem S256x1 .f32) (harg19 : arg19.IsWhole) (arg20 : Memref sig .tc .vmem S256x1 .f32) (harg20 : arg20.IsWhole) (arg21 : Memref sig .tc .vmem S1x4096 .f32) (harg21 : arg21.IsWhole) (arg22 : Memref sig .tc .vmem S256x1 .f32) (harg22 : arg22.IsWhole) (arg23 : Memref sig .tc .vmem S256x4096 .f32) (harg23 : arg23.IsWhole)
variable (X : In2 F)
include c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
/-- One trip of the loop over the squares. -/
theorem trip1b (v0 v1 : Elt F .f32) (v31 : FVec F S1x1 .f32) (k : Fin k2_t1_loop.trips) (acc : FVec F S256x128 .f32) (E : Set ℕ) :
    (iprop(⌜acc = X.sq k.val⌝ ∗ owns (c : Thread nD τ) arg3 fullShare X.x) : sProp 𝕄)
      ⊢ wp frame (wpE (defs₀ (F := F)) Variants.none c none) E (k2_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v1 v31 k acc)
          (fun r => iprop(⌜r = X.sq (k.val + 1)⌝ ∗ owns (c : Thread nD τ) arg3 fullShare X.x)) := by
  have hk : k.val < 8 := Nat.lt_of_lt_of_le k.isLt (by decide)
  unfold k2_t1_body
  iintro ⟨%hacc, H3⟩
  subst hacc
  ihave H3 := (owns_open harg3 _) $$ H3
  sl_exec
  sl_step
  have e3 : ∀ inb, View.readAt (Elt F) arg3.view (Rect.unit (s := S256x4096) (k2_off1 k) S256x512.size inb).toLoadRect (harg3.unread X.x) = X.bx k.val := fun inb => readAt_col harg3 X.x k.val _ (k2_off1_eq k) inb
  isplitr
  · ipureintro
    rw [e3]; rfl
  iapply (owns_close _ _ (harg3.read_unread _)) $$ H3

/-- The loop over the squares. -/
theorem sqs (v0 v1 : Elt F .f32) (v31 : FVec F S1x1 .f32) (E : Set ℕ) :
    (iprop(owns (c : Thread nD τ) arg3 fullShare X.x) : sProp 𝕄)
      ⊢ wp frame (wpE (defs₀ (F := F)) Variants.none c none) E (Scf.Loop.for k2_t1_loop k2_t1_ok k2_pay25 (k2_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v1 v31))
          (fun r => iprop(⌜r = X.sq 8⌝ ∗ owns (c : Thread nD τ) arg3 fullShare X.x)) := by
  have ht : k2_t1_loop.trips = 8 := by decide
  iintro H3
  sl_for (fun k acc => iprop(⌜acc = X.sq k⌝ ∗ owns (c : Thread nD τ) arg3 fullShare X.x)) $$ [H3]
  · intro k acc
    exact trip1b c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X v0 v1 v31 k acc E
  · isplitl [H3]
    · isplitr
      · ipureintro; rfl
      iexact H3
    iintro %acc ⟨%h, H3⟩
    isplitr
    · ipureintro; exact h.trans (congrArg X.sq ht)
    iexact H3

set_option maxHeartbeats 1000000 in
/-- One trip of the second loop: one block of columns of the output and of the first activation's gradient. -/
theorem trip2b (v31 : FVec F S1x1 .f32) (O12 : Vec F S256x4096 .bf16) (O21 : Vec F S1x4096 .f32) (O23 : Vec F S256x4096 .f32) (k : Fin k2_t2_loop.trips) (acc : FVec F S256x128 .f32 × FVec F S256x128 .f32 × FVec F S256x128 .f32) (E : Set ℕ) :
    (iprop(⌜acc = X.acc k.val⌝ ∗ owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare (mix 1 k.val X.y O12)
        ∗ owns (c : Thread nD τ) arg21 fullShare (mix 1 k.val X.dg O21)
        ∗ owns (c : Thread nD τ) arg23 fullShare (mix 1 k.val X.dh O23)) : sProp 𝕄)
      ⊢ wp frame (wpE (defs₀ (F := F)) Variants.none c none) E (k2_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X.s1 X.s2 v31 (X.sq 8) k acc)
          (fun r => iprop(⌜r = X.acc (k.val + 1)⌝ ∗ owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare (mix 1 (k.val + 1) X.y O12)
        ∗ owns (c : Thread nD τ) arg21 fullShare (mix 1 (k.val + 1) X.dg O21)
        ∗ owns (c : Thread nD τ) arg23 fullShare (mix 1 (k.val + 1) X.dh O23))) := by
  have hk : k.val < 8 := Nat.lt_of_lt_of_le k.isLt (by decide)
  unfold k2_t2_body
  simp only [k2_part1_eq_skeleton, k2_part2_eq_skeleton]
  iintro ⟨%hacc, H3, H5, H1, H7, H2, H6, H12, H21, H23⟩
  subst hacc
  ihave H3 := (owns_open harg3 _) $$ H3
  ihave H5 := (owns_open harg5 _) $$ H5
  ihave H1 := (owns_open harg1 _) $$ H1
  ihave H7 := (owns_open harg7 _) $$ H7
  ihave H2 := (owns_open harg2 _) $$ H2
  ihave H6 := (owns_open harg6 _) $$ H6
  ihave H12 := (owns_open harg12 _) $$ H12
  ihave H21 := (owns_open harg21 _) $$ H21
  ihave H23 := (owns_open harg23 _) $$ H23
  sl_exec
  sl_step
  have e3 : ∀ inb, View.readAt (Elt F) arg3.view (Rect.unit (s := S256x4096) (k2_off2 k) S256x512.size inb).toLoadRect (harg3.unread X.x) = X.bx k.val := fun inb => readAt_col harg3 X.x k.val _ (k2_off2_eq k) inb
  have e5 : ∀ inb, View.readAt (Elt F) arg5.view (Rect.unit (s := S1x4096) (k2_off3 k) S1x512.size inb).toLoadRect (harg5.unread X.g) = X.bg k.val := fun inb => readAt_col harg5 X.g k.val _ (k2_off3_eq k) inb
  have e1 : ∀ inb, View.readAt (Elt F) arg1.view (Rect.unit (s := S256x4096) (k2_off2 k) S256x512.size inb).toLoadRect (harg1.unread X.o) = X.bo k.val := fun inb => readAt_col harg1 X.o k.val _ (k2_off2_eq k) inb
  have e7 : ∀ inb, View.readAt (Elt F) arg7.view (Rect.unit (s := S1x4096) (k2_off3 k) S1x512.size inb).toLoadRect (harg7.unread X.sd) = X.bsd k.val := fun inb => readAt_col harg7 X.sd k.val _ (k2_off3_eq k) inb
  have e2 : ∀ inb, View.readAt (Elt F) arg2.view (Rect.unit (s := S4096x256) (k2_off4 k) S512x256.size inb).toLoadRect (harg2.unread X.t) = X.bt k.val := fun inb => readAt_row (w := 256) harg2 X.t k.val 0 _ (k2_off4_eq k) inb
  have e6 : ∀ inb, View.readAt (Elt F) arg6.view (Rect.unit (s := S256x4096) (k2_off2 k) S256x512.size inb).toLoadRect (harg6.unread X.c1) = X.bc k.val := fun inb => readAt_col harg6 X.c1 k.val _ (k2_off2_eq k) inb
  isplitr
  · ipureintro
    (try unfold trip2b.sl.r_13); (try unfold trip2b.sl.r_12); (try unfold trip2b.sl.r_11); (try unfold trip2b.sl.r_10); (try unfold trip2b.sl.r_9); (try unfold trip2b.sl.r_8); (try unfold trip2b.sl.r_7); (try unfold trip2b.sl.r_6); (try unfold trip2b.sl.r_5); (try unfold trip2b.sl.r_4); (try unfold trip2b.sl.r_3); (try unfold trip2b.sl.r_2); (try unfold trip2b.sl.r_1); (try unfold trip2b.sl.r);
    rw [e3, e5, e2, e6]; rfl
  isplitl [H3]; · iapply (owns_close _ _ (harg3.read_unread _)) $$ H3
  isplitl [H5]; · iapply (owns_close _ _ (harg5.read_unread _)) $$ H5
  isplitl [H1]; · iapply (owns_close _ _ (harg1.read_unread _)) $$ H1
  isplitl [H7]; · iapply (owns_close _ _ (harg7.read_unread _)) $$ H7
  isplitl [H2]; · iapply (owns_close _ _ (harg2.read_unread _)) $$ H2
  isplitl [H6]; · iapply (owns_close _ _ (harg6.read_unread _)) $$ H6
  isplitl [H12]; · iapply (owns_close _ _ (by (try unfold trip2b.sl.r_13); (try unfold trip2b.sl.r_12); (try unfold trip2b.sl.r_11); (try unfold trip2b.sl.r_10); (try unfold trip2b.sl.r_9); (try unfold trip2b.sl.r_8); (try unfold trip2b.sl.r_7); (try unfold trip2b.sl.r_6); (try unfold trip2b.sl.r_5); (try unfold trip2b.sl.r_4); (try unfold trip2b.sl.r_3); (try unfold trip2b.sl.r_2); (try unfold trip2b.sl.r_1); (try unfold trip2b.sl.r); rw [e3, e1, e7]; exact writes_col harg12 k.val _ O12 _ (k2_off2_eq k) (k2_off2_inb k) _ rfl)) $$ H12
  isplitl [H21]; · iapply (owns_close _ _ (by (try unfold trip2b.sl.r_13); (try unfold trip2b.sl.r_12); (try unfold trip2b.sl.r_11); (try unfold trip2b.sl.r_10); (try unfold trip2b.sl.r_9); (try unfold trip2b.sl.r_8); (try unfold trip2b.sl.r_7); (try unfold trip2b.sl.r_6); (try unfold trip2b.sl.r_5); (try unfold trip2b.sl.r_4); (try unfold trip2b.sl.r_3); (try unfold trip2b.sl.r_2); (try unfold trip2b.sl.r_1); (try unfold trip2b.sl.r); rw [e3, e5, e2]; exact writes_col harg21 k.val _ O21 _ (k2_off3_eq k) (k2_off3_inb k) _ rfl)) $$ H21
  iapply (owns_close _ _ (by (try unfold trip2b.sl.r_13); (try unfold trip2b.sl.r_12); (try unfold trip2b.sl.r_11); (try unfold trip2b.sl.r_10); (try unfold trip2b.sl.r_9); (try unfold trip2b.sl.r_8); (try unfold trip2b.sl.r_7); (try unfold trip2b.sl.r_6); (try unfold trip2b.sl.r_5); (try unfold trip2b.sl.r_4); (try unfold trip2b.sl.r_3); (try unfold trip2b.sl.r_2); (try unfold trip2b.sl.r_1); (try unfold trip2b.sl.r); rw [e3, e5, e2]; exact writes_col harg23 k.val _ O23 _ (k2_off2_eq k) (k2_off2_inb k) _ rfl)) $$ H23

/-- The second loop. -/
theorem loop2b (v31 : FVec F S1x1 .f32) (O12 : Vec F S256x4096 .bf16) (O21 : Vec F S1x4096 .f32) (O23 : Vec F S256x4096 .f32) (E : Set ℕ) :
    (iprop(owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare O12
        ∗ owns (c : Thread nD τ) arg21 fullShare O21
        ∗ owns (c : Thread nD τ) arg23 fullShare O23) : sProp 𝕄)
      ⊢ wp frame (wpE (defs₀ (F := F)) Variants.none c none) E (Scf.Loop.for k2_t2_loop k2_t2_ok (k2_pay28, k2_pay28, k2_pay28) (k2_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X.s1 X.s2 v31 (X.sq 8)))
          (fun r => iprop(⌜r = X.acc 8⌝ ∗ owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare X.y
        ∗ owns (c : Thread nD τ) arg21 fullShare X.dg
        ∗ owns (c : Thread nD τ) arg23 fullShare X.dh)) := by
  have ht : k2_t2_loop.trips = 8 := by decide
  iintro ⟨H3, H5, H1, H7, H2, H6, H12, H21, H23⟩
  sl_for (fun k acc => iprop(⌜acc = X.acc k⌝ ∗ owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare (mix 1 k X.y O12)
        ∗ owns (c : Thread nD τ) arg21 fullShare (mix 1 k X.dg O21)
        ∗ owns (c : Thread nD τ) arg23 fullShare (mix 1 k X.dh O23))) $$ [H3 H5 H1 H7 H2 H6 H12 H21 H23]
  · intro k acc; exact trip2b c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X v31 O12 O21 O23 k acc E
  · isplitl [H3 H5 H1 H7 H2 H6 H12 H21 H23]
    · isplitr
      · ipureintro; rfl
      isplitl [H3]; · iexact H3
      isplitl [H5]; · iexact H5
      isplitl [H1]; · iexact H1
      isplitl [H7]; · iexact H7
      isplitl [H2]; · iexact H2
      isplitl [H6]; · iexact H6
      isplitl [H12]; · iexact H12
      isplitl [H21]; · iexact H21
      iexact H23
    iintro %acc ⟨%h, H3, H5, H1, H7, H2, H6, H12, H21, H23⟩
    rw [mix_full 1 _ _ O12 (by decide), mix_full 1 _ _ O21 (by decide), mix_full 1 _ _ O23 (by decide)]
    isplitr
    · ipureintro; exact h.trans (congrArg X.acc ht)
    isplitl [H3]; · iexact H3
    isplitl [H5]; · iexact H5
    isplitl [H1]; · iexact H1
    isplitl [H7]; · iexact H7
    isplitl [H2]; · iexact H2
    isplitl [H6]; · iexact H6
    isplitl [H12]; · iexact H12
    isplitl [H21]; · iexact H21
    iexact H23

/-- One trip of the third loop: one block of columns of the gradient of the input. -/
theorem trip3b (O13 : Vec F S256x4096 .bf16) (k : Fin k2_t3_loop.trips) (u : Unit) (E : Set ℕ) :
    (iprop(owns (c : Thread nD τ) arg3 fullShare X.x
        ∗ owns (c : Thread nD τ) arg23 fullShare X.dh
        ∗ owns (c : Thread nD τ) arg4 fullShare X.dy
        ∗ owns (c : Thread nD τ) arg13 fullShare (mix 1 k.val X.dx O13)) : sProp 𝕄)
      ⊢ wp frame (wpE (defs₀ (F := F)) Variants.none c none) E (k2_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X.v44 (X.acc 8).2.2 k u)
          (fun _ => iprop(owns (c : Thread nD τ) arg3 fullShare X.x
        ∗ owns (c : Thread nD τ) arg23 fullShare X.dh
        ∗ owns (c : Thread nD τ) arg4 fullShare X.dy
        ∗ owns (c : Thread nD τ) arg13 fullShare (mix 1 (k.val + 1) X.dx O13))) := by
  have hk : k.val < 8 := Nat.lt_of_lt_of_le k.isLt (by decide)
  unfold k2_t3_body
  iintro ⟨H3, H23, H4, H13⟩
  ihave H3 := (owns_open harg3 _) $$ H3
  ihave H23 := (owns_open harg23 _) $$ H23
  ihave H4 := (owns_open harg4 _) $$ H4
  ihave H13 := (owns_open harg13 _) $$ H13
  sl_exec
  sl_step
  have e3 : ∀ inb, View.readAt (Elt F) arg3.view (Rect.unit (s := S256x4096) (k2_off5 k) S256x512.size inb).toLoadRect (harg3.unread X.x) = X.bx k.val := fun inb => readAt_col harg3 X.x k.val _ (k2_off5_eq k) inb
  have e23 : ∀ inb, View.readAt (Elt F) arg23.view (Rect.unit (s := S256x4096) (k2_off5 k) S256x512.size inb).toLoadRect (harg23.unread X.dh) = colBlk X.dh k.val := fun inb => readAt_col harg23 X.dh k.val _ (k2_off5_eq k) inb
  have e4 : ∀ inb, View.readAt (Elt F) arg4.view (Rect.unit (s := S256x4096) (k2_off5 k) S256x512.size inb).toLoadRect (harg4.unread X.dy) = X.bdy k.val := fun inb => readAt_col harg4 X.dy k.val _ (k2_off5_eq k) inb
  isplitl [H3]; · iapply (owns_close _ _ (harg3.read_unread _)) $$ H3
  isplitl [H23]; · iapply (owns_close _ _ (harg23.read_unread _)) $$ H23
  isplitl [H4]; · iapply (owns_close _ _ (harg4.read_unread _)) $$ H4
  iapply (owns_close _ _ (by rw [e3, e23, e4]; exact writes_col harg13 k.val _ O13 _ (k2_off5_eq k) (k2_off5_inb k) _ rfl)) $$ H13

/-- The third loop: the gradient of the input. -/
theorem loop3b (O13 : Vec F S256x4096 .bf16) (E : Set ℕ) :
    (iprop(owns (c : Thread nD τ) arg3 fullShare X.x
        ∗ owns (c : Thread nD τ) arg23 fullShare X.dh
        ∗ owns (c : Thread nD τ) arg4 fullShare X.dy
        ∗ owns (c : Thread nD τ) arg13 fullShare O13) : sProp 𝕄)
      ⊢ wp frame (wpE (defs₀ (F := F)) Variants.none c none) E (Scf.Loop.for k2_t3_loop k2_t3_ok ⟨⟩ (k2_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X.v44 (X.acc 8).2.2))
          (fun r => iprop(⌜r = ⟨⟩⌝ ∗ owns (c : Thread nD τ) arg3 fullShare X.x
        ∗ owns (c : Thread nD τ) arg23 fullShare X.dh
        ∗ owns (c : Thread nD τ) arg4 fullShare X.dy
        ∗ owns (c : Thread nD τ) arg13 fullShare X.dx)) := by
  have ht : k2_t3_loop.trips = 8 := by decide
  iintro ⟨H3, H23, H4, H13⟩
  sl_for (fun k _ => iprop(owns (c : Thread nD τ) arg3 fullShare X.x
        ∗ owns (c : Thread nD τ) arg23 fullShare X.dh
        ∗ owns (c : Thread nD τ) arg4 fullShare X.dy
        ∗ owns (c : Thread nD τ) arg13 fullShare (mix 1 k X.dx O13))) $$ [H3 H23 H4 H13]
  · intro k acc
    exact trip3b c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X O13 k acc E
  · isplitl [H3 H23 H4 H13]
    · isplitl [H3]; · iexact H3
      isplitl [H23]; · iexact H23
      isplitl [H4]; · iexact H4
      iexact H13
    iintro %acc ⟨H3, H23, H4, H13⟩
    rw [mix_full 1 _ _ O13 (by decide)]
    isplitr
    · ipureintro; rfl
    isplitl [H3]; · iexact H3
    isplitl [H23]; · iexact H23
    isplitl [H4]; · iexact H4
    iexact H13

end Run

end Cert.KernelIdeal.Body
-- ==== Proof.Body2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Loops2
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The last call's body. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Tiles

variable {F : FTy → Type} [FloatOps F]

local notation "𝕄" => MT nD τ sig Unit (Elt F) ℕ (UR sig nD τ) ℕ

section Run

variable (c : Dev nD) (arg0 : Memref sig .tc .smem S2 .f32) (harg0 : arg0.IsWhole) (arg1 : Memref sig .tc .vmem S256x4096 .f32) (harg1 : arg1.IsWhole) (arg2 : Memref sig .tc .vmem S4096x256 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S256x4096 .fp8e4m3) (harg6 : arg6.IsWhole) (arg7 : Memref sig .tc .vmem S1x4096 .f32) (harg7 : arg7.IsWhole) (arg8 : Memref sig .tc .vmem S8x4096 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S1x4096 .f32) (harg14 : arg14.IsWhole) (arg15 : Memref sig .tc .vmem S1x1 .f32) (harg15 : arg15.IsWhole) (arg16 : Memref sig .tc .vmem S256x1 .f32) (harg16 : arg16.IsWhole) (arg17 : Memref sig .tc .vmem S256x1 .f32) (harg17 : arg17.IsWhole) (arg18 : Memref sig .tc .vmem S1x1 .f32) (harg18 : arg18.IsWhole) (arg19 : Memref sig .tc .vmem S256x1 .f32) (harg19 : arg19.IsWhole) (arg20 : Memref sig .tc .vmem S256x1 .f32) (harg20 : arg20.IsWhole) (arg21 : Memref sig .tc .vmem S1x4096 .f32) (harg21 : arg21.IsWhole) (arg22 : Memref sig .tc .vmem S256x1 .f32) (harg22 : arg22.IsWhole) (arg23 : Memref sig .tc .vmem S256x4096 .f32) (harg23 : arg23.IsWhole)
variable (X : In2 F)
include c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
set_option maxHeartbeats 1000000 in
/-- The first part: the sums over the eight rows and over the lanes of what the main call accumulated. -/
theorem head2 (O14 : Vec F S1x4096 .f32) (O19 : Vec F S256x1 .f32) (O20 : Vec F S256x1 .f32) (E : Set ℕ) :
    (iprop(owns (c : Thread nD τ) arg0 fullShare X.s
        ∗ owns (c : Thread nD τ) arg8 fullShare X.d8
        ∗ owns (c : Thread nD τ) arg9 fullShare X.p9
        ∗ owns (c : Thread nD τ) arg10 fullShare X.p10
        ∗ owns (c : Thread nD τ) arg11 fullShare X.p11
        ∗ owns (c : Thread nD τ) arg14 fullShare O14
        ∗ owns (c : Thread nD τ) arg19 fullShare O19
        ∗ owns (c : Thread nD τ) arg20 fullShare O20) : sProp 𝕄)
      ⊢ wp frame (wpE (defs₀ (F := F)) Variants.none c none) E (k2_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun r => iprop(⌜r = ⟨X.s1, X.s2, X.v31⟩⌝ ∗ owns (c : Thread nD τ) arg0 fullShare X.s
        ∗ owns (c : Thread nD τ) arg8 fullShare X.d8
        ∗ owns (c : Thread nD τ) arg9 fullShare X.p9
        ∗ owns (c : Thread nD τ) arg10 fullShare X.p10
        ∗ owns (c : Thread nD τ) arg11 fullShare X.p11
        ∗ owns (c : Thread nD τ) arg14 fullShare X.o14
        ∗ owns (c : Thread nD τ) arg19 fullShare X.o19
        ∗ owns (c : Thread nD τ) arg20 fullShare X.o20)) := by
  rw [k2_part3_eq_skeleton]; unfold k2_part3_skel
  iintro ⟨H0, H8, H9, H10, H11, H14, H19, H20⟩
  ihave H0 := (owns_open harg0 _) $$ H0
  ihave H8 := (owns_open harg8 _) $$ H8
  ihave H9 := (owns_open harg9 _) $$ H9
  ihave H10 := (owns_open harg10 _) $$ H10
  ihave H11 := (owns_open harg11 _) $$ H11
  ihave H14 := (owns_open harg14 _) $$ H14
  ihave H19 := (owns_open harg19 _) $$ H19
  ihave H20 := (owns_open harg20 _) $$ H20
  sl_exec
  have q1 : head2.sl.r c arg0 harg0 X = X.s1 := by
    unfold head2.sl.r
    rw [View.readAt_eq_ld, harg0.read_unread]
    exact congrArg X.s (funext fun a => by fin_cases a; rfl)
  have q2 : head2.sl.r_1 c arg0 harg0 X = X.s2 := by
    unfold head2.sl.r_1
    rw [View.readAt_eq_ld, harg0.read_unread]
    exact congrArg X.s (funext fun a => by fin_cases a; rfl)
  have e8 : ∀ inb, View.readAt (Elt F) arg8.view (Rect.unit (s := S8x4096) ![0, 0] S8x4096.size inb).toLoadRect (harg8.unread X.d8) = X.d8 := fun inb => readAt_whole harg8 X.d8 inb
  have e9 : ∀ inb, View.readAt (Elt F) arg9.view (Rect.unit (s := S256x128) ![0, 0] S256x128.size inb).toLoadRect (harg9.unread X.p9) = X.p9 := fun inb => readAt_whole harg9 X.p9 inb
  have e10 : ∀ inb, View.readAt (Elt F) arg10.view (Rect.unit (s := S256x128) ![0, 0] S256x128.size inb).toLoadRect (harg10.unread X.p10) = X.p10 := fun inb => readAt_whole harg10 X.p10 inb
  have e11 : ∀ inb, View.readAt (Elt F) arg11.view (Rect.unit (s := S256x128) ![0, 0] S256x128.size inb).toLoadRect (harg11.unread X.p11) = X.p11 := fun inb => readAt_whole harg11 X.p11 inb
  rw [q1, q2]
  sl_step
  isplitr
  · ipureintro; rw [e10, e11]; rfl
  isplitl [H0]; · iapply (owns_close _ _ (harg0.read_unread _)) $$ H0
  isplitl [H8]; · iapply (owns_close _ _ (harg8.read_unread _)) $$ H8
  isplitl [H9]; · iapply (owns_close _ _ (harg9.read_unread _)) $$ H9
  isplitl [H10]; · iapply (owns_close _ _ (harg10.read_unread _)) $$ H10
  isplitl [H11]; · iapply (owns_close _ _ (harg11.read_unread _)) $$ H11
  isplitl [H14]; · iapply (owns_close X.o14 _ (by (try rw [e8]); (try rw [e9]); (try rw [e10]); (try rw [e11]); exact writes_whole _ _ _ _)) $$ H14
  isplitl [H19]; · iapply (owns_close X.o19 _ (by (try rw [e8]); (try rw [e9]); (try rw [e10]); (try rw [e11]); exact writes_whole _ _ _ _)) $$ H19
  iapply (owns_close X.o20 _ (by (try rw [e8]); (try rw [e9]); (try rw [e10]); (try rw [e11]); exact writes_whole _ _ _ _)) $$ H20

set_option maxHeartbeats 1000000 in
/-- The second part: the first two loops and the sums over lanes. -/
theorem mid2 (O12 : Vec F S256x4096 .bf16) (O21 : Vec F S1x4096 .f32) (O23 : Vec F S256x4096 .f32) (O18 : Vec F S1x1 .f32) (O16 : Vec F S256x1 .f32) (O17 : Vec F S256x1 .f32) (O15 : Vec F S1x1 .f32) (E : Set ℕ) :
    (iprop(owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare O12
        ∗ owns (c : Thread nD τ) arg21 fullShare O21
        ∗ owns (c : Thread nD τ) arg23 fullShare O23
        ∗ owns (c : Thread nD τ) arg18 fullShare O18
        ∗ owns (c : Thread nD τ) arg16 fullShare O16
        ∗ owns (c : Thread nD τ) arg17 fullShare O17
        ∗ owns (c : Thread nD τ) arg15 fullShare O15) : sProp 𝕄)
      ⊢ wp frame (wpE (defs₀ (F := F)) Variants.none c none) E (k2_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X.s1 X.s2 X.v31)
          (fun r => iprop(⌜r = ⟨X.v44, (X.acc 8).2.2, X.ds⟩⌝ ∗ owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare X.y
        ∗ owns (c : Thread nD τ) arg21 fullShare X.dg
        ∗ owns (c : Thread nD τ) arg23 fullShare X.dh
        ∗ owns (c : Thread nD τ) arg18 fullShare X.v31
        ∗ owns (c : Thread nD τ) arg16 fullShare X.o16
        ∗ owns (c : Thread nD τ) arg17 fullShare X.o17
        ∗ owns (c : Thread nD τ) arg15 fullShare O15)) := by
  rw [k2_part4_eq_skeleton]; unfold k2_part4_skel
  iintro ⟨H3, H5, H1, H7, H2, H6, H12, H21, H23, H18, H16, H17, H15⟩
  ihave H18 := (owns_open harg18 _) $$ H18
  ihave H16 := (owns_open harg16 _) $$ H16
  ihave H17 := (owns_open harg17 _) $$ H17
  ihave H15 := (owns_open harg15 _) $$ H15
  sl_exec
  ihave H18 := (owns_close X.v31 _ (by exact writes_whole _ _ _ _)) $$ H18
  iapply (cut (sqs c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X X.s1 X.s2 X.v31 E)) $$ H3
  iintro H3
  iapply (cut (loop2b c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X X.v31 O12 O21 O23 E)) $$ [H3 H5 H1 H7 H2 H6 H12 H21 H23]
  · isplitl [H3]; · iexact H3
    isplitl [H5]; · iexact H5
    isplitl [H1]; · iexact H1
    isplitl [H7]; · iexact H7
    isplitl [H2]; · iexact H2
    isplitl [H6]; · iexact H6
    isplitl [H12]; · iexact H12
    isplitl [H21]; · iexact H21
    iexact H23
  iintro ⟨H3, H5, H1, H7, H2, H6, H12, H21, H23⟩
  sl_exec
  sl_step
  isplitr
  · ipureintro; rfl
  isplitl [H3]; · iexact H3
  isplitl [H5]; · iexact H5
  isplitl [H1]; · iexact H1
  isplitl [H7]; · iexact H7
  isplitl [H2]; · iexact H2
  isplitl [H6]; · iexact H6
  isplitl [H12]; · iexact H12
  isplitl [H21]; · iexact H21
  isplitl [H23]; · iexact H23
  isplitl [H18]; · iexact H18
  isplitl [H16]; · iapply (owns_close X.o16 _ (by exact writes_whole _ _ _ _)) $$ H16
  isplitl [H17]; · iapply (owns_close X.o17 _ (by exact writes_whole _ _ _ _)) $$ H17
  iapply (owns_close _ _ (harg15.read_unread _)) $$ H15

set_option maxHeartbeats 1000000 in
/-- **The last call's body**: what each of its outputs and its scratch buffer holds after it. -/
theorem body2 (O12 : Vec F S256x4096 .bf16) (O13 : Vec F S256x4096 .bf16) (O14 : Vec F S1x4096 .f32) (O15 : Vec F S1x1 .f32) (O16 : Vec F S256x1 .f32) (O17 : Vec F S256x1 .f32) (O18 : Vec F S1x1 .f32) (O19 : Vec F S256x1 .f32) (O20 : Vec F S256x1 .f32) (O21 : Vec F S1x4096 .f32) (O22 : Vec F S256x1 .f32) (O23 : Vec F S256x4096 .f32) (E : Set ℕ) (K : PUnit → sProp 𝕄) :
    (iprop(owns (c : Thread nD τ) arg0 fullShare X.s
        ∗ owns (c : Thread nD τ) arg1 fullShare X.o
        ∗ owns (c : Thread nD τ) arg2 fullShare X.t
        ∗ owns (c : Thread nD τ) arg3 fullShare X.x
        ∗ owns (c : Thread nD τ) arg4 fullShare X.dy
        ∗ owns (c : Thread nD τ) arg5 fullShare X.g
        ∗ owns (c : Thread nD τ) arg6 fullShare X.c1
        ∗ owns (c : Thread nD τ) arg7 fullShare X.sd
        ∗ owns (c : Thread nD τ) arg8 fullShare X.d8
        ∗ owns (c : Thread nD τ) arg9 fullShare X.p9
        ∗ owns (c : Thread nD τ) arg10 fullShare X.p10
        ∗ owns (c : Thread nD τ) arg11 fullShare X.p11
        ∗ owns (c : Thread nD τ) arg12 fullShare O12
        ∗ owns (c : Thread nD τ) arg13 fullShare O13
        ∗ owns (c : Thread nD τ) arg14 fullShare O14
        ∗ owns (c : Thread nD τ) arg15 fullShare O15
        ∗ owns (c : Thread nD τ) arg16 fullShare O16
        ∗ owns (c : Thread nD τ) arg17 fullShare O17
        ∗ owns (c : Thread nD τ) arg18 fullShare O18
        ∗ owns (c : Thread nD τ) arg19 fullShare O19
        ∗ owns (c : Thread nD τ) arg20 fullShare O20
        ∗ owns (c : Thread nD τ) arg21 fullShare O21
        ∗ owns (c : Thread nD τ) arg22 fullShare O22
        ∗ owns (c : Thread nD τ) arg23 fullShare O23
      ∗ (iprop(owns (c : Thread nD τ) arg0 fullShare X.s
        ∗ owns (c : Thread nD τ) arg1 fullShare X.o
        ∗ owns (c : Thread nD τ) arg2 fullShare X.t
        ∗ owns (c : Thread nD τ) arg3 fullShare X.x
        ∗ owns (c : Thread nD τ) arg4 fullShare X.dy
        ∗ owns (c : Thread nD τ) arg5 fullShare X.g
        ∗ owns (c : Thread nD τ) arg6 fullShare X.c1
        ∗ owns (c : Thread nD τ) arg7 fullShare X.sd
        ∗ owns (c : Thread nD τ) arg8 fullShare X.d8
        ∗ owns (c : Thread nD τ) arg9 fullShare X.p9
        ∗ owns (c : Thread nD τ) arg10 fullShare X.p10
        ∗ owns (c : Thread nD τ) arg11 fullShare X.p11
        ∗ owns (c : Thread nD τ) arg12 fullShare X.y
        ∗ owns (c : Thread nD τ) arg13 fullShare X.dx
        ∗ owns (c : Thread nD τ) arg14 fullShare X.o14
        ∗ owns (c : Thread nD τ) arg15 fullShare X.ds
        ∗ owns (c : Thread nD τ) arg16 fullShare X.o16
        ∗ owns (c : Thread nD τ) arg17 fullShare X.o17
        ∗ owns (c : Thread nD τ) arg18 fullShare X.v31
        ∗ owns (c : Thread nD τ) arg19 fullShare X.o19
        ∗ owns (c : Thread nD τ) arg20 fullShare X.o20
        ∗ owns (c : Thread nD τ) arg21 fullShare X.dg
        ∗ owns (c : Thread nD τ) arg22 fullShare X.o22
        ∗ owns (c : Thread nD τ) arg23 fullShare X.dh) -∗ K ⟨⟩)) : sProp 𝕄)
      ⊢ wp frame (wpE (defs₀ (F := F)) Variants.none c none) E (cc2_norm_bwd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  rw [cc2_norm_bwd_eq_skeleton]; unfold cc2_norm_bwd_skel
  iintro ⟨H0, H1, H2, H3, H4, H5, H6, H7, H8, H9, H10, H11, H12, H13, H14, H15, H16, H17, H18, H19, H20, H21, H22, H23, HK⟩
  iapply (cut (head2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X O14 O19 O20 E)) $$ [H0 H8 H9 H10 H11 H14 H19 H20]
  · isplitl [H0]; · iexact H0
    isplitl [H8]; · iexact H8
    isplitl [H9]; · iexact H9
    isplitl [H10]; · iexact H10
    isplitl [H11]; · iexact H11
    isplitl [H14]; · iexact H14
    isplitl [H19]; · iexact H19
    iexact H20
  iintro ⟨H0, H8, H9, H10, H11, H14, H19, H20⟩
  iapply (cut (mid2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X O12 O21 O23 O18 O16 O17 O15 E)) $$ [H3 H5 H1 H7 H2 H6 H12 H21 H23 H18 H16 H17 H15]
  · isplitl [H3]; · iexact H3
    isplitl [H5]; · iexact H5
    isplitl [H1]; · iexact H1
    isplitl [H7]; · iexact H7
    isplitl [H2]; · iexact H2
    isplitl [H6]; · iexact H6
    isplitl [H12]; · iexact H12
    isplitl [H21]; · iexact H21
    isplitl [H23]; · iexact H23
    isplitl [H18]; · iexact H18
    isplitl [H16]; · iexact H16
    isplitl [H17]; · iexact H17
    iexact H15
  iintro ⟨H3, H5, H1, H7, H2, H6, H12, H21, H23, H18, H16, H17, H15⟩
  ihave H15 := (owns_open harg15 _) $$ H15
  ihave H22 := (owns_open harg22 _) $$ H22
  sl_exec
  ihave H15 := (owns_close X.ds _ (by exact writes_whole _ _ _ _)) $$ H15
  ihave H22 := (owns_close X.o22 _ (by exact writes_whole _ _ _ _)) $$ H22
  iapply (cut (loop3b c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X O13 E)) $$ [H3 H23 H4 H13]
  · isplitl [H3]; · iexact H3
    isplitl [H23]; · iexact H23
    isplitl [H4]; · iexact H4
    iexact H13
  iintro ⟨H3, H23, H4, H13⟩
  sl_exec
  sl_step
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

end Run

end Cert.KernelIdeal.Body
-- ==== Proof.Region2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Body2
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The last call: what its pipeline holds at each step, and that its body keeps it. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Body Cert.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

/-- The block of window `w` at step `t`. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every step. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 holds its block at every step. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 holds its block at every step. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 holds its block at every step. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 holds its block at every step. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5 holds its block at every step. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6 holds its block at every step. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7 holds its block at every step. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8 holds its block at every step. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9 holds its block at every step. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10 holds its block at every step. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11 holds its block at every step. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

abbrev ms2_0 (t : Fin cfg2.N) : Memref sig .tc .smem S2 .f32 := win2_0.stage (cfg2.slots t 0)
abbrev hs2_0 (t : Fin cfg2.N) : (ms2_0 t).IsWhole := hstage2_0 0
abbrev ms2_1 (t : Fin cfg2.N) : Memref sig .tc .vmem S256x4096 .f32 := win2_1.stage (cfg2.slots t 1)
abbrev hs2_1 (t : Fin cfg2.N) : (ms2_1 t).IsWhole := hstage2_1 0
abbrev ms2_2 (t : Fin cfg2.N) : Memref sig .tc .vmem S4096x256 .f32 := win2_2.stage (cfg2.slots t 2)
abbrev hs2_2 (t : Fin cfg2.N) : (ms2_2 t).IsWhole := hstage2_2 0
abbrev ms2_3 (t : Fin cfg2.N) : Memref sig .tc .vmem S256x4096 .bf16 := win2_3.stage (cfg2.slots t 3)
abbrev hs2_3 (t : Fin cfg2.N) : (ms2_3 t).IsWhole := hstage2_3 0
abbrev ms2_4 (t : Fin cfg2.N) : Memref sig .tc .vmem S256x4096 .bf16 := win2_4.stage (cfg2.slots t 4)
abbrev hs2_4 (t : Fin cfg2.N) : (ms2_4 t).IsWhole := hstage2_4 0
abbrev ms2_5 (t : Fin cfg2.N) : Memref sig .tc .vmem S1x4096 .f32 := win2_5.stage (cfg2.slots t 5)
abbrev hs2_5 (t : Fin cfg2.N) : (ms2_5 t).IsWhole := hstage2_5 0
abbrev ms2_6 (t : Fin cfg2.N) : Memref sig .tc .vmem S256x4096 .fp8e4m3 := win2_6.stage (cfg2.slots t 6)
abbrev hs2_6 (t : Fin cfg2.N) : (ms2_6 t).IsWhole := hstage2_6 0
abbrev ms2_7 (t : Fin cfg2.N) : Memref sig .tc .vmem S1x4096 .f32 := win2_7.stage (cfg2.slots t 7)
abbrev hs2_7 (t : Fin cfg2.N) : (ms2_7 t).IsWhole := hstage2_7 0
abbrev ms2_8 (t : Fin cfg2.N) : Memref sig .tc .vmem S8x4096 .f32 := win2_8.stage (cfg2.slots t 8)
abbrev hs2_8 (t : Fin cfg2.N) : (ms2_8 t).IsWhole := hstage2_8 0
abbrev ms2_9 (t : Fin cfg2.N) : Memref sig .tc .vmem S256x128 .f32 := win2_9.stage (cfg2.slots t 9)
abbrev hs2_9 (t : Fin cfg2.N) : (ms2_9 t).IsWhole := hstage2_9 0
abbrev ms2_10 (t : Fin cfg2.N) : Memref sig .tc .vmem S256x128 .f32 := win2_10.stage (cfg2.slots t 10)
abbrev hs2_10 (t : Fin cfg2.N) : (ms2_10 t).IsWhole := hstage2_10 0
abbrev ms2_11 (t : Fin cfg2.N) : Memref sig .tc .vmem S256x128 .f32 := win2_11.stage (cfg2.slots t 11)
abbrev hs2_11 (t : Fin cfg2.N) : (ms2_11 t).IsWhole := hstage2_11 0
abbrev ms2_12 (t : Fin cfg2.N) : Memref sig .tc .vmem S256x4096 .bf16 := win2_12.stage (cfg2.slots t 12)
abbrev hs2_12 (t : Fin cfg2.N) : (ms2_12 t).IsWhole := hstage2_12 0
abbrev ms2_13 (t : Fin cfg2.N) : Memref sig .tc .vmem S256x4096 .bf16 := win2_13.stage (cfg2.slots t 13)
abbrev hs2_13 (t : Fin cfg2.N) : (ms2_13 t).IsWhole := hstage2_13 0
abbrev ms2_14 (t : Fin cfg2.N) : Memref sig .tc .vmem S1x4096 .f32 := win2_14.stage (cfg2.slots t 14)
abbrev hs2_14 (t : Fin cfg2.N) : (ms2_14 t).IsWhole := hstage2_14 0
abbrev ms2_15 (t : Fin cfg2.N) : Memref sig .tc .vmem S1x1 .f32 := win2_15.stage (cfg2.slots t 15)
abbrev hs2_15 (t : Fin cfg2.N) : (ms2_15 t).IsWhole := hstage2_15 0
abbrev ms2_16 (t : Fin cfg2.N) : Memref sig .tc .vmem S256x1 .f32 := win2_16.stage (cfg2.slots t 16)
abbrev hs2_16 (t : Fin cfg2.N) : (ms2_16 t).IsWhole := hstage2_16 0
abbrev ms2_17 (t : Fin cfg2.N) : Memref sig .tc .vmem S256x1 .f32 := win2_17.stage (cfg2.slots t 17)
abbrev hs2_17 (t : Fin cfg2.N) : (ms2_17 t).IsWhole := hstage2_17 0
abbrev ms2_18 (t : Fin cfg2.N) : Memref sig .tc .vmem S1x1 .f32 := win2_18.stage (cfg2.slots t 18)
abbrev hs2_18 (t : Fin cfg2.N) : (ms2_18 t).IsWhole := hstage2_18 0
abbrev ms2_19 (t : Fin cfg2.N) : Memref sig .tc .vmem S256x1 .f32 := win2_19.stage (cfg2.slots t 19)
abbrev hs2_19 (t : Fin cfg2.N) : (ms2_19 t).IsWhole := hstage2_19 0
abbrev ms2_20 (t : Fin cfg2.N) : Memref sig .tc .vmem S256x1 .f32 := win2_20.stage (cfg2.slots t 20)
abbrev hs2_20 (t : Fin cfg2.N) : (ms2_20 t).IsWhole := hstage2_20 0
abbrev ms2_21 (t : Fin cfg2.N) : Memref sig .tc .vmem S1x4096 .f32 := win2_21.stage (cfg2.slots t 21)
abbrev hs2_21 (t : Fin cfg2.N) : (ms2_21 t).IsWhole := hstage2_21 0
abbrev ms2_22 (t : Fin cfg2.N) : Memref sig .tc .vmem S256x1 .f32 := win2_22.stage (cfg2.slots t 22)
abbrev hs2_22 (t : Fin cfg2.N) : (ms2_22 t).IsWhole := hstage2_22 0
abbrev scM2_0 : Memref sig .tc .vmem S256x4096 .f32 := Memref.whole cc2_scratch0

/-- The scoped buffers as the scratch buffers and the rest. -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

/-- The invariant with the scratch buffers owned at some contents. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

/-- The last call's operands. -/
def in2 (c : Dev nD) (t : Fin cfg2.N) : In2 F where
  s := iblk2 V c 0 t
  o := iblk2 V c 1 t
  t := iblk2 V c 2 t
  x := iblk2 V c 3 t
  dy := iblk2 V c 4 t
  g := iblk2 V c 5 t
  c1 := iblk2 V c 6 t
  sd := iblk2 V c 7 t
  d8 := iblk2 V c 8 t
  p9 := iblk2 V c 9 t
  p10 := iblk2 V c 10 t
  p11 := iblk2 V c 11 t

/-- The proof data: every window after each step. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => (in2 V c t).y
    | ⟨13, _⟩ => (in2 V c t).dx
    | ⟨14, _⟩ => (in2 V c t).o14
    | ⟨15, _⟩ => (in2 V c t).ds
    | ⟨16, _⟩ => (in2 V c t).o16
    | ⟨17, _⟩ => (in2 V c t).o17
    | ⟨18, _⟩ => (in2 V c t).v31
    | ⟨19, _⟩ => (in2 V c t).o19
    | ⟨20, _⟩ => (in2 V c t).o20
    | ⟨21, _⟩ => (in2 V c t).dg
    | ⟨22, _⟩ => (in2 V c t).o22
    | ⟨_ + 23, h⟩ => absurd h (Nat.not_lt.2 (Nat.le_add_left _ _))
  Φ _ := Pipeline.ΦA spec2 c
  q _ := fullShare
  owed _ := 0

/-- Each window's array begins as the memory's array. -/
theorem A_eq2 (c : Dev nD) (w : Fin cfg2.W) : (dat2 V c).A w = V c (Pipeline.arrRef spec2 w) := by
  dsimp only [dat2]

/-- What window 0 of the last call holds when a grid step ends. -/
theorem after2_0 (c : Dev nD) (t : Fin cfg2.N) : (dat2 V c).after 0 t = iblk2 V c 0 t := by dsimp only [dat2]
/-- What window 1 of the last call holds when a grid step ends. -/
theorem after2_1 (c : Dev nD) (t : Fin cfg2.N) : (dat2 V c).after 1 t = iblk2 V c 1 t := by dsimp only [dat2]
/-- What window 2 of the last call holds when a grid step ends. -/
theorem after2_2 (c : Dev nD) (t : Fin cfg2.N) : (dat2 V c).after 2 t = iblk2 V c 2 t := by dsimp only [dat2]
/-- What window 3 of the last call holds when a grid step ends. -/
theorem after2_3 (c : Dev nD) (t : Fin cfg2.N) : (dat2 V c).after 3 t = iblk2 V c 3 t := by dsimp only [dat2]
/-- What window 4 of the last call holds when a grid step ends. -/
theorem after2_4 (c : Dev nD) (t : Fin cfg2.N) : (dat2 V c).after 4 t = iblk2 V c 4 t := by dsimp only [dat2]
/-- What window 5 of the last call holds when a grid step ends. -/
theorem after2_5 (c : Dev nD) (t : Fin cfg2.N) : (dat2 V c).after 5 t = iblk2 V c 5 t := by dsimp only [dat2]
/-- What window 6 of the last call holds when a grid step ends. -/
theorem after2_6 (c : Dev nD) (t : Fin cfg2.N) : (dat2 V c).after 6 t = iblk2 V c 6 t := by dsimp only [dat2]
/-- What window 7 of the last call holds when a grid step ends. -/
theorem after2_7 (c : Dev nD) (t : Fin cfg2.N) : (dat2 V c).after 7 t = iblk2 V c 7 t := by dsimp only [dat2]
/-- What window 8 of the last call holds when a grid step ends. -/
theorem after2_8 (c : Dev nD) (t : Fin cfg2.N) : (dat2 V c).after 8 t = iblk2 V c 8 t := by dsimp only [dat2]
/-- What window 9 of the last call holds when a grid step ends. -/
theorem after2_9 (c : Dev nD) (t : Fin cfg2.N) : (dat2 V c).after 9 t = iblk2 V c 9 t := by dsimp only [dat2]
/-- What window 10 of the last call holds when a grid step ends. -/
theorem after2_10 (c : Dev nD) (t : Fin cfg2.N) : (dat2 V c).after 10 t = iblk2 V c 10 t := by dsimp only [dat2]
/-- What window 11 of the last call holds when a grid step ends. -/
theorem after2_11 (c : Dev nD) (t : Fin cfg2.N) : (dat2 V c).after 11 t = iblk2 V c 11 t := by dsimp only [dat2]
/-- What window 12 of the last call holds when a grid step ends. -/
theorem after2_12 (c : Dev nD) (t : Fin cfg2.N) : (dat2 V c).after 12 t = (in2 V c t).y := by dsimp only [dat2]
/-- What window 13 of the last call holds when a grid step ends. -/
theorem after2_13 (c : Dev nD) (t : Fin cfg2.N) : (dat2 V c).after 13 t = (in2 V c t).dx := by dsimp only [dat2]
/-- What window 14 of the last call holds when a grid step ends. -/
theorem after2_14 (c : Dev nD) (t : Fin cfg2.N) : (dat2 V c).after 14 t = (in2 V c t).o14 := by dsimp only [dat2]
/-- What window 15 of the last call holds when a grid step ends. -/
theorem after2_15 (c : Dev nD) (t : Fin cfg2.N) : (dat2 V c).after 15 t = (in2 V c t).ds := by dsimp only [dat2]
/-- What window 16 of the last call holds when a grid step ends. -/
theorem after2_16 (c : Dev nD) (t : Fin cfg2.N) : (dat2 V c).after 16 t = (in2 V c t).o16 := by dsimp only [dat2]
/-- What window 17 of the last call holds when a grid step ends. -/
theorem after2_17 (c : Dev nD) (t : Fin cfg2.N) : (dat2 V c).after 17 t = (in2 V c t).o17 := by dsimp only [dat2]
/-- What window 18 of the last call holds when a grid step ends. -/
theorem after2_18 (c : Dev nD) (t : Fin cfg2.N) : (dat2 V c).after 18 t = (in2 V c t).v31 := by dsimp only [dat2]
/-- What window 19 of the last call holds when a grid step ends. -/
theorem after2_19 (c : Dev nD) (t : Fin cfg2.N) : (dat2 V c).after 19 t = (in2 V c t).o19 := by dsimp only [dat2]
/-- What window 20 of the last call holds when a grid step ends. -/
theorem after2_20 (c : Dev nD) (t : Fin cfg2.N) : (dat2 V c).after 20 t = (in2 V c t).o20 := by dsimp only [dat2]
/-- What window 21 of the last call holds when a grid step ends. -/
theorem after2_21 (c : Dev nD) (t : Fin cfg2.N) : (dat2 V c).after 21 t = (in2 V c t).dg := by dsimp only [dat2]
/-- What window 22 of the last call holds when a grid step ends. -/
theorem after2_22 (c : Dev nD) (t : Fin cfg2.N) : (dat2 V c).after 22 t = (in2 V c t).o22 := by dsimp only [dat2]

/-- Window 0 of the last call holds its array's block when a grid step begins. -/
theorem before2_0 (c : Dev nD) (t : Fin cfg2.N) (d) : (dat2 V c).before 0 t d = iblk2 V c 0 t :=
  before2_0_of V (dat2 V c) (A_eq2 V c 0) (after2_0 V c) t d
/-- Window 1 of the last call holds its array's block when a grid step begins. -/
theorem before2_1 (c : Dev nD) (t : Fin cfg2.N) (d) : (dat2 V c).before 1 t d = iblk2 V c 1 t :=
  before2_1_of V (dat2 V c) (A_eq2 V c 1) (after2_1 V c) t d
/-- Window 2 of the last call holds its array's block when a grid step begins. -/
theorem before2_2 (c : Dev nD) (t : Fin cfg2.N) (d) : (dat2 V c).before 2 t d = iblk2 V c 2 t :=
  before2_2_of V (dat2 V c) (A_eq2 V c 2) (after2_2 V c) t d
/-- Window 3 of the last call holds its array's block when a grid step begins. -/
theorem before2_3 (c : Dev nD) (t : Fin cfg2.N) (d) : (dat2 V c).before 3 t d = iblk2 V c 3 t :=
  before2_3_of V (dat2 V c) (A_eq2 V c 3) (after2_3 V c) t d
/-- Window 4 of the last call holds its array's block when a grid step begins. -/
theorem before2_4 (c : Dev nD) (t : Fin cfg2.N) (d) : (dat2 V c).before 4 t d = iblk2 V c 4 t :=
  before2_4_of V (dat2 V c) (A_eq2 V c 4) (after2_4 V c) t d
/-- Window 5 of the last call holds its array's block when a grid step begins. -/
theorem before2_5 (c : Dev nD) (t : Fin cfg2.N) (d) : (dat2 V c).before 5 t d = iblk2 V c 5 t :=
  before2_5_of V (dat2 V c) (A_eq2 V c 5) (after2_5 V c) t d
/-- Window 6 of the last call holds its array's block when a grid step begins. -/
theorem before2_6 (c : Dev nD) (t : Fin cfg2.N) (d) : (dat2 V c).before 6 t d = iblk2 V c 6 t :=
  before2_6_of V (dat2 V c) (A_eq2 V c 6) (after2_6 V c) t d
/-- Window 7 of the last call holds its array's block when a grid step begins. -/
theorem before2_7 (c : Dev nD) (t : Fin cfg2.N) (d) : (dat2 V c).before 7 t d = iblk2 V c 7 t :=
  before2_7_of V (dat2 V c) (A_eq2 V c 7) (after2_7 V c) t d
/-- Window 8 of the last call holds its array's block when a grid step begins. -/
theorem before2_8 (c : Dev nD) (t : Fin cfg2.N) (d) : (dat2 V c).before 8 t d = iblk2 V c 8 t :=
  before2_8_of V (dat2 V c) (A_eq2 V c 8) (after2_8 V c) t d
/-- Window 9 of the last call holds its array's block when a grid step begins. -/
theorem before2_9 (c : Dev nD) (t : Fin cfg2.N) (d) : (dat2 V c).before 9 t d = iblk2 V c 9 t :=
  before2_9_of V (dat2 V c) (A_eq2 V c 9) (after2_9 V c) t d
/-- Window 10 of the last call holds its array's block when a grid step begins. -/
theorem before2_10 (c : Dev nD) (t : Fin cfg2.N) (d) : (dat2 V c).before 10 t d = iblk2 V c 10 t :=
  before2_10_of V (dat2 V c) (A_eq2 V c 10) (after2_10 V c) t d
/-- Window 11 of the last call holds its array's block when a grid step begins. -/
theorem before2_11 (c : Dev nD) (t : Fin cfg2.N) (d) : (dat2 V c).before 11 t d = iblk2 V c 11 t :=
  before2_11_of V (dat2 V c) (A_eq2 V c 11) (after2_11 V c) t d

/-- What the body is entered with and what it leaves. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d))
    ∗ (∃ d, owns (c : Thread nD τ) (ms2_15 t) fullShare ((dat2 V c).before 15 t d))
    ∗ (∃ d, owns (c : Thread nD τ) (ms2_16 t) fullShare ((dat2 V c).before 16 t d))
    ∗ (∃ d, owns (c : Thread nD τ) (ms2_17 t) fullShare ((dat2 V c).before 17 t d))
    ∗ (∃ d, owns (c : Thread nD τ) (ms2_18 t) fullShare ((dat2 V c).before 18 t d))
    ∗ (∃ d, owns (c : Thread nD τ) (ms2_19 t) fullShare ((dat2 V c).before 19 t d))
    ∗ (∃ d, owns (c : Thread nD τ) (ms2_20 t) fullShare ((dat2 V c).before 20 t d))
    ∗ (∃ d, owns (c : Thread nD τ) (ms2_21 t) fullShare ((dat2 V c).before 21 t d))
    ∗ (∃ d, owns (c : Thread nD τ) (ms2_22 t) fullShare ((dat2 V c).before 22 t d)))
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t)
    ∗ owns (c : Thread nD τ) (ms2_12 t) fullShare ((dat2 V c).after 12 t)
    ∗ owns (c : Thread nD τ) (ms2_13 t) fullShare ((dat2 V c).after 13 t)
    ∗ owns (c : Thread nD τ) (ms2_14 t) fullShare ((dat2 V c).after 14 t)
    ∗ owns (c : Thread nD τ) (ms2_15 t) fullShare ((dat2 V c).after 15 t)
    ∗ owns (c : Thread nD τ) (ms2_16 t) fullShare ((dat2 V c).after 16 t)
    ∗ owns (c : Thread nD τ) (ms2_17 t) fullShare ((dat2 V c).after 17 t)
    ∗ owns (c : Thread nD τ) (ms2_18 t) fullShare ((dat2 V c).after 18 t)
    ∗ owns (c : Thread nD τ) (ms2_19 t) fullShare ((dat2 V c).after 19 t)
    ∗ owns (c : Thread nD τ) (ms2_20 t) fullShare ((dat2 V c).after 20 t)
    ∗ owns (c : Thread nD τ) (ms2_21 t) fullShare ((dat2 V c).after 21 t)
    ∗ owns (c : Thread nD τ) (ms2_22 t) fullShare ((dat2 V c).after 22 t))

set_option maxHeartbeats 1000000 in
/-- The body at step `t`. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22]
  rw [show (dat2 V c).Φ t.castSucc = Pipeline.ΦA spec2 c from rfl, PhiA2_eq]
  iintro ⟨⟨⟨⟨%e0, S0⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (body2 c _ _ _ _ _ _ _ _ _ _ _ _ _ _ _ _ _ _ _ _ _ _ _ _ _ _ _ _ _ _ _ _ _ _ _ _ _ _ _ _ _ _ _ _ _ _ _ _ (in2 V c t) _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [S0]; · iexact S0
  iintro ⟨H0, H1, H2, H3, H4, H5, H6, H7, H8, H9, H10, H11, H12, H13, H14, H15, H16, H17, H18, H19, H20, H21, H22, S0⟩
  isplitl [S0 HR Hg]
  · isplitl [S0 HR]
    · isplitl [S0]; · iexists _; iexact S0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

set_option maxHeartbeats 1000000 in
/-- The body that a grid step runs, with its buffers put in. -/
theorem defs₀_row2 (t : Fin cfg2.N) :
    defs₀ (F := F) .tc cfg2.body (cfg2.bodyArgs t (cfg2.slots t)) = bodyAt2 t := by
  unfold defs₀; rw [Defs.onTc_tc]

set_option maxHeartbeats 1000000 in
/-- The body's obligation to the pipeline. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.Hosts.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The host operations before and after the calls: what they write. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8]
/-- The host operations before the calls write only their own results. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v12, main_v13, main_v14, main_v15, main_v16, main_v17, main_v18, main_v19, main_v20, main_v21, main_v22, main_v23, main_v24, main_v25, main_v26]
/-- The host operations after the calls write only their own results. -/
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.KernelIdeal.Run

end
-- ==== Proof.Fold.lean ====
module

public import proofs.«01_k».proof.Proof.Region0
public import proofs.«01_k».proof.Proof.Region1
public import proofs.«01_k».proof.Proof.Region2
public import proofs.«01_k».proof.Proof.Hosts

/-! The buffers between the calls. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
/-- Stage 0 of the program leaves the arguments as they were. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Stage 1 of the program leaves the arguments as they were. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- After stage 2, a window's array holds what the call left there. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Stage 2 changes no buffer but its windows' arrays. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- Stage 2 of the program leaves the arguments as they were. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The call leaves every buffer that is no window's array as it was. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
/-- After stage 3, a window's array holds what the call left there. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- Stage 3 changes no buffer but its windows' arrays. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- Stage 3 of the program leaves the arguments as they were. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- The call leaves every buffer that is no window's array as it was. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
/-- After stage 4, a window's array holds what the call left there. -/
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
/-- Stage 4 changes no buffer but its windows' arrays. -/
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- Stage 4 of the program leaves the arguments as they were. -/
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
/-- The call leaves every buffer that is no window's array as it was. -/
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
/-- Stage 5 of the program leaves the arguments as they were. -/
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

/-- At the end argument 0 is as at the start. -/
theorem W5_main_arg0 (c : Dev nD) : W5 m ρ c (Proc.devRef .tc main_arg0) = m ((c : Thread nD τ).loc main_arg0) :=
  W5_args m ρ c main_arg0 (by decide)
/-- At the end argument 1 is as at the start. -/
theorem W5_main_arg1 (c : Dev nD) : W5 m ρ c (Proc.devRef .tc main_arg1) = m ((c : Thread nD τ).loc main_arg1) :=
  W5_args m ρ c main_arg1 (by decide)
/-- At the end argument 2 is as at the start. -/
theorem W5_main_arg2 (c : Dev nD) : W5 m ρ c (Proc.devRef .tc main_arg2) = m ((c : Thread nD τ).loc main_arg2) :=
  W5_args m ρ c main_arg2 (by decide)
/-- At the end argument 3 is as at the start. -/
theorem W5_main_arg3 (c : Dev nD) : W5 m ρ c (Proc.devRef .tc main_arg3) = m ((c : Thread nD τ).loc main_arg3) :=
  W5_args m ρ c main_arg3 (by decide)
/-- At the end argument 4 is as at the start. -/
theorem W5_main_arg4 (c : Dev nD) : W5 m ρ c (Proc.devRef .tc main_arg4) = m ((c : Thread nD τ).loc main_arg4) :=
  W5_args m ρ c main_arg4 (by decide)
/-- At the end argument 5 is as at the start. -/
theorem W5_main_arg5 (c : Dev nD) : W5 m ρ c (Proc.devRef .tc main_arg5) = m ((c : Thread nD τ).loc main_arg5) :=
  W5_args m ρ c main_arg5 (by decide)
/-- At the end argument 6 is as at the start. -/
theorem W5_main_arg6 (c : Dev nD) : W5 m ρ c (Proc.devRef .tc main_arg6) = m ((c : Thread nD τ).loc main_arg6) :=
  W5_args m ρ c main_arg6 (by decide)
/-- At the end argument 7 is as at the start. -/
theorem W5_main_arg7 (c : Dev nD) : W5 m ρ c (Proc.devRef .tc main_arg7) = m ((c : Thread nD τ).loc main_arg7) :=
  W5_args m ρ c main_arg7 (by decide)
/-- At the end argument 8 is as at the start. -/
theorem W5_main_arg8 (c : Dev nD) : W5 m ρ c (Proc.devRef .tc main_arg8) = m ((c : Thread nD τ).loc main_arg8) :=
  W5_args m ρ c main_arg8 (by decide)
/-- At the end argument 9 is as at the start. -/
theorem W5_main_arg9 (c : Dev nD) : W5 m ρ c (Proc.devRef .tc main_arg9) = m ((c : Thread nD τ).loc main_arg9) :=
  W5_args m ρ c main_arg9 (by decide)
/-- At the end argument 10 is as at the start. -/
theorem W5_main_arg10 (c : Dev nD) : W5 m ρ c (Proc.devRef .tc main_arg10) = m ((c : Thread nD τ).loc main_arg10) :=
  W5_args m ρ c main_arg10 (by decide)
end Cert.KernelIdeal.Run

end
-- ==== Proof.State.lean ====
module

public import proofs.«01_k».proof.Proof.Fold

/-! The proof data of the three calls and the state carried from one to the next. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

end Cert.KernelIdeal.Run

end
-- ==== Proof.Record0.lean ====
module

public import proofs.«01_k».proof.Proof.State

/-! Call 0 as a step of the whole run. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Record1.lean ====
module

public import proofs.«01_k».proof.Proof.State

/-! Call 1 as a step of the whole run. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Record2.lean ====
module

public import proofs.«01_k».proof.Proof.State

/-! Call 2 as a step of the whole run. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Frame.lean ====
module

public import proofs.«01_k».proof.Proof.Record0
public import proofs.«01_k».proof.Proof.Record1
public import proofs.«01_k».proof.Proof.Record2

/-! The whole run. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of @main on the TensorCores from zero counters terminates, nothing faulting, and every final
    state has each unscoped buffer at the contents followed through the segments (`W5`) and every counter at zero. -/
theorem final : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: from any memory with zero counters every weakly fair execution of @main on the TensorCores terminates, nothing
    faulting, and every final state has the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨(fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c),
       (h.1 c _ (mem_uc main_arg7 (by decide))).trans (W5_main_arg7 m ρ c),
       (h.1 c _ (mem_uc main_arg8 (by decide))).trans (W5_main_arg8 m ρ c),
       (h.1 c _ (mem_uc main_arg9 (by decide))).trans (W5_main_arg9 m ρ c),
       (h.1 c _ (mem_uc main_arg10 (by decide))).trans (W5_main_arg10 m ρ c)⟩), h.2⟩) (final m ρ)

end Cert.KernelIdeal.Run

end
-- ==== Proof.K.Body0.lean ====
module

public import proofs.«01_k».proof.Proof.Gen.Kernel.Launch
public import proofs.«01_k».proof.Proof.Gen.Kernel.Skeleton
public import proofs.«01_k».proof.Proof.Gen.Kernel.Points
public import proofs.«01_k».proof.Proof.Tiles
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The first call's body. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

/-- The running sum of squares before block `k`. -/
def ssq (x : Vec F S256x4096 .bf16) : ℕ → FVec F S256x128 .f32
  | 0 => k0_pay1
  | k + 1 => k0_pay2 (ssq x k) (colBlk x k)

/-- One trip of the sum of squares adds a block. -/
theorem trip_ssq (c : Dev nD) (arg0 : Memref sig .tc .smem S2 .f32) (harg0 : arg0.IsWhole) (arg1 : Memref sig .tc .vmem S256x4096 .bf16) (harg1 : arg1.IsWhole) (arg2 : Memref sig .tc .vmem S1x4096 .f32) (harg2 : arg2.IsWhole) (arg3 : Memref sig .tc .vmem S256x4096 .fp8e4m3) (harg3 : arg3.IsWhole) (arg4 : Memref sig .tc .vmem S4096x256 .bf16) (harg4 : arg4.IsWhole)
    (x : Vec F S256x4096 .bf16) (k : Fin k0_t1_loop.trips) (acc : FVec F S256x128 .f32) (E : Set ℕ) :
    (iprop(owns (c : Thread nD τ) arg1 fullShare x ∗ ⌜acc = ssq x k.val⌝) : sProp 𝕄)
      ⊢ wp frame (wpE (defs₀ (F := F)) Variants.none c none) E (k0_t1_body arg0 harg0 arg1 harg1 arg2 harg2 arg3 harg3 arg4 harg4 k acc)
          (fun r => iprop(owns (c : Thread nD τ) arg1 fullShare x ∗ ⌜r = ssq x (k.val + 1)⌝)) := by
  have hk : k.val < 8 := Nat.lt_of_lt_of_le k.isLt k0_t1_abs.2.1
  unfold k0_t1_body owns
  iintro ⟨⟨%f1, %hf1, H1⟩, %h⟩
  subst h
  obtain rfl := harg1.eq_unread hf1
  sl_exec
  sl_step
  isplitl [H1]
  · iexists _; isplitr; · ipureintro; exact harg1.read_unread _
    iexact H1
  ipureintro
  show _ = k0_pay2 (ssq x k.val) (colBlk x k.val)
  rw [← ld_col x k.val _ (k0_off1_eq k) (k0_off1_inb k)]
  simp only [View.readAt_eq_ld, harg1.read_unread]

/-- The blocks of quantised values and of their transposed copy. -/
abbrev qBlk (v0 : Elt F .f32) (v3 : FVec F S256x128 .f32) (x : Vec F S256x4096 .bf16) (g : Vec F S1x4096 .f32) (k : ℕ) : Vec F S256x512 .fp8e4m3 :=
  k0_pay3 v0 v3 (colBlk x k) (colBlk g k)
abbrev qtBlk (v0 : Elt F .f32) (v3 : FVec F S256x128 .f32) (x : Vec F S256x4096 .bf16) (g : Vec F S1x4096 .f32) (k : ℕ) : Vec F S512x256 .bf16 :=
  k0_pay4 v0 v3 (colBlk x k) (colBlk g k)

/-- One trip of the quantising loop overwrites one block of each output. -/
theorem trip_quant (c : Dev nD) (arg0 : Memref sig .tc .smem S2 .f32) (harg0 : arg0.IsWhole) (arg1 : Memref sig .tc .vmem S256x4096 .bf16) (harg1 : arg1.IsWhole) (arg2 : Memref sig .tc .vmem S1x4096 .f32) (harg2 : arg2.IsWhole) (arg3 : Memref sig .tc .vmem S256x4096 .fp8e4m3) (harg3 : arg3.IsWhole) (arg4 : Memref sig .tc .vmem S4096x256 .bf16) (harg4 : arg4.IsWhole) (v0 : Elt F .f32) (v3 : FVec F S256x128 .f32)
    (x : Vec F S256x4096 .bf16) (g : Vec F S1x4096 .f32) (O3 : Vec F S256x4096 .fp8e4m3) (O4 : Vec F S4096x256 .bf16)
    (k : Fin k0_t2_loop.trips) (E : Set ℕ) :
    (iprop(owns (c : Thread nD τ) arg1 fullShare x ∗ owns (c : Thread nD τ) arg2 fullShare g
        ∗ owns (c : Thread nD τ) arg3 fullShare (mix 1 k.val (colTiles (qBlk v0 v3 x g)) O3)
        ∗ owns (c : Thread nD τ) arg4 fullShare (mix 0 k.val (rowTiles (qtBlk v0 v3 x g)) O4)) : sProp 𝕄)
      ⊢ wp frame (wpE (defs₀ (F := F)) Variants.none c none) E (k0_t2_body arg0 harg0 arg1 harg1 arg2 harg2 arg3 harg3 arg4 harg4 v0 v3 k ⟨⟩)
          (fun _ => iprop(owns (c : Thread nD τ) arg1 fullShare x ∗ owns (c : Thread nD τ) arg2 fullShare g
        ∗ owns (c : Thread nD τ) arg3 fullShare (mix 1 (k.val + 1) (colTiles (qBlk v0 v3 x g)) O3)
        ∗ owns (c : Thread nD τ) arg4 fullShare (mix 0 (k.val + 1) (rowTiles (qtBlk v0 v3 x g)) O4))) := by
  have hk : k.val < 8 := Nat.lt_of_lt_of_le k.isLt k0_t2_abs.2.1
  unfold k0_t2_body owns
  iintro ⟨⟨%f1, %hf1, H1⟩, ⟨%f2, %hf2, H2⟩, ⟨%f3, %hf3, H3⟩, ⟨%f4, %hf4, H4⟩⟩
  obtain rfl := harg1.eq_unread hf1
  obtain rfl := harg2.eq_unread hf2
  obtain rfl := harg3.eq_unread hf3
  obtain rfl := harg4.eq_unread hf4
  sl_exec
  sl_step
  have e1 : View.readAt (Elt F) arg1.view (Rect.unit (s := S256x4096) (k0_off2 k) S256x512.size (k0_off2_inb k)) (harg1.unread x) = colBlk x k.val := by
    rw [View.readAt_eq_ld, harg1.read_unread]; exact ld_col x k.val _ (k0_off2_eq k) (k0_off2_inb k)
  have e2 : View.readAt (Elt F) arg2.view (Rect.unit (s := S1x4096) (k0_off3 k) S1x512.size (k0_off3_inb k)) (harg2.unread g) = colBlk g k.val := by
    rw [View.readAt_eq_ld, harg2.read_unread]; exact ld_col g k.val _ (k0_off3_eq k) (k0_off3_inb k)
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [e1, e2]
    exact writes_col harg3 k.val (qBlk v0 v3 x g) O3 _ (k0_off2_eq k) (k0_off2_inb k) _ rfl
  · iexists _; isplitr
    swap; · iexact H4
    ipureintro
    rw [e1, e2]
    exact writes_row harg4 k.val (qtBlk v0 v3 x g) O4 _ (k0_off4_eq k) (k0_off4_inb k) _ rfl

/-- The scale that the call reads. -/
abbrev sc0 (s : Vec F S2 .f32) : Elt F .f32 := s (ix1 0)

/-- The whole body: both outputs in closed form. -/
theorem body0 (c : Dev nD) (arg0 : Memref sig .tc .smem S2 .f32) (harg0 : arg0.IsWhole) (arg1 : Memref sig .tc .vmem S256x4096 .bf16) (harg1 : arg1.IsWhole) (arg2 : Memref sig .tc .vmem S1x4096 .f32) (harg2 : arg2.IsWhole) (arg3 : Memref sig .tc .vmem S256x4096 .fp8e4m3) (harg3 : arg3.IsWhole) (arg4 : Memref sig .tc .vmem S4096x256 .bf16) (harg4 : arg4.IsWhole)
    (s : Vec F S2 .f32) (x : Vec F S256x4096 .bf16) (g : Vec F S1x4096 .f32) (E : Set ℕ) (K : PUnit → sProp 𝕄) :
    (iprop(owns (c : Thread nD τ) arg0 fullShare s ∗ owns (c : Thread nD τ) arg1 fullShare x ∗ owns (c : Thread nD τ) arg2 fullShare g
        ∗ (∃ d, owns (c : Thread nD τ) arg3 fullShare d) ∗ (∃ d, owns (c : Thread nD τ) arg4 fullShare d)
        ∗ (iprop(owns (c : Thread nD τ) arg0 fullShare s ∗ owns (c : Thread nD τ) arg1 fullShare x ∗ owns (c : Thread nD τ) arg2 fullShare g
          ∗ owns (c : Thread nD τ) arg3 fullShare (colTiles (qBlk (sc0 s) (ssq x 8) x g))
          ∗ owns (c : Thread nD τ) arg4 fullShare (rowTiles (qtBlk (sc0 s) (ssq x 8) x g))) -∗ K ⟨⟩)) : sProp 𝕄)
      ⊢ wp frame (wpE (defs₀ (F := F)) Variants.none c none) E (cc0_norm_quant arg0 harg0 arg1 harg1 arg2 harg2 arg3 harg3 arg4 harg4 ) K := by
  simp only [cc0_norm_quant_eq_skeleton]; unfold cc0_norm_quant_skel
  have ht1 : k0_t1_loop.trips = 8 := by decide
  have ht2 : k0_t2_loop.trips = 8 := by decide
  iintro ⟨H0, H1, H2, ⟨%d3, H3⟩, ⟨%d4, H4⟩, Hk⟩
  ihave H0 := (owns_open harg0 s) $$ H0
  sl_exec
  sl_for (fun k acc => iprop(owns (c : Thread nD τ) arg1 fullShare x ∗ ⌜acc = ssq x k⌝)) $$ [H1]
  · intro k acc
    exact trip_ssq c arg0 harg0 arg1 harg1 arg2 harg2 arg3 harg3 arg4 harg4  x k acc E
  · isplitl [H1]; · iexact H1
    ipureintro; rfl
  iintro %acc ⟨H1, %hacc⟩
  obtain rfl : acc = ssq x 8 := hacc.trans (congrArg (ssq x) ht1)
  sl_exec
  have hr : body0.sl.r c arg0 harg0 s = sc0 s := by
    unfold body0.sl.r
    rw [View.readAt_eq_ld, harg0.read_unread]
    exact congrArg s (funext fun a => by fin_cases a; rfl)
  rw [hr]
  sl_for (fun k _ => iprop(owns (c : Thread nD τ) arg1 fullShare x ∗ owns (c : Thread nD τ) arg2 fullShare g
        ∗ owns (c : Thread nD τ) arg3 fullShare (mix 1 k (colTiles (qBlk (sc0 s) (ssq x 8) x g)) d3)
        ∗ owns (c : Thread nD τ) arg4 fullShare (mix 0 k (rowTiles (qtBlk (sc0 s) (ssq x 8) x g)) d4))) $$ [H1 H2 H3 H4]
  · intro k acc
    exact trip_quant c arg0 harg0 arg1 harg1 arg2 harg2 arg3 harg3 arg4 harg4  _ _ x g d3 d4 k E
  · isplitl [H1]; · iexact H1
    isplitl [H2]; · iexact H2
    isplitl [H3]; · iexact H3
    iexact H4
  iintro %acc ⟨H1, H2, H3, H4⟩
  rw [mix_full 1 _ _ d3 (by decide), mix_full 0 _ _ d4 (by decide)]
  sl_exec
  sl_step
  iapply Hk
  isplitl [H0]; · iapply (owns_close s _ (harg0.read_unread _)) $$ H0
  isplitl [H1]; · iexact H1
  isplitl [H2]; · iexact H2
  isplitl [H3]; · iexact H3
  iexact H4

end Cert.Kernel.Body
-- ==== Proof.K.Region0.lean ====
module

public import proofs.«01_k».proof.Proof.Gen.Kernel.Launch
public import proofs.«01_k».proof.Proof.Gen.Kernel.Skeleton
public import proofs.«01_k».proof.Proof.Gen.Kernel.Points
public import proofs.«01_k».proof.Proof.K.Body0
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The first call: what its pipeline holds at each step, and that its body keeps it. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Body Cert.Tiles

variable {F : FTy → Type} [BitOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

/-- The block of window `w` at step `t`. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every step. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 holds its block at every step. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 holds its block at every step. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .smem S2 .f32 := win0_0.stage (cfg0.slots t 0)
abbrev hs0_0 (t : Fin cfg0.N) : (ms0_0 t).IsWhole := hstage0_0 0
abbrev ms0_1 (t : Fin cfg0.N) : Memref sig .tc .vmem S256x4096 .bf16 := win0_1.stage (cfg0.slots t 1)
abbrev hs0_1 (t : Fin cfg0.N) : (ms0_1 t).IsWhole := hstage0_1 0
abbrev ms0_2 (t : Fin cfg0.N) : Memref sig .tc .vmem S1x4096 .f32 := win0_2.stage (cfg0.slots t 2)
abbrev hs0_2 (t : Fin cfg0.N) : (ms0_2 t).IsWhole := hstage0_2 0
abbrev ms0_3 (t : Fin cfg0.N) : Memref sig .tc .vmem S256x4096 .fp8e4m3 := win0_3.stage (cfg0.slots t 3)
abbrev hs0_3 (t : Fin cfg0.N) : (ms0_3 t).IsWhole := hstage0_3 0
abbrev ms0_4 (t : Fin cfg0.N) : Memref sig .tc .vmem S4096x256 .bf16 := win0_4.stage (cfg0.slots t 4)
abbrev hs0_4 (t : Fin cfg0.N) : (ms0_4 t).IsWhole := hstage0_4 0

/-- The proof data: every window after each step. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => colTiles (qBlk (sc0 (iblk0 V c 0 t)) (ssq (iblk0 V c 1 t) 8) (iblk0 V c 1 t) (iblk0 V c 2 t))
    | ⟨4, _⟩ => rowTiles (qtBlk (sc0 (iblk0 V c 0 t)) (ssq (iblk0 V c 1 t) 8) (iblk0 V c 1 t) (iblk0 V c 2 t))
    | ⟨_ + 5, h⟩ => absurd h (Nat.not_lt.2 (Nat.le_add_left _ _))
  Φ _ := Pipeline.ΦA spec0 c
  q _ := fullShare
  owed _ := 0

/-- Each window's array begins as the memory's array. -/
theorem A_eq0 (c : Dev nD) (w : Fin cfg0.W) : (dat0 V c).A w = V c (Pipeline.arrRef spec0 w) := by
  dsimp only [dat0]

/-- What window 0 of the norm call holds when a grid step ends. -/
theorem after0_0 (c : Dev nD) (t : Fin cfg0.N) : (dat0 V c).after 0 t = iblk0 V c 0 t := by dsimp only [dat0]
/-- What window 1 of the norm call holds when a grid step ends. -/
theorem after0_1 (c : Dev nD) (t : Fin cfg0.N) : (dat0 V c).after 1 t = iblk0 V c 1 t := by dsimp only [dat0]
/-- What window 2 of the norm call holds when a grid step ends. -/
theorem after0_2 (c : Dev nD) (t : Fin cfg0.N) : (dat0 V c).after 2 t = iblk0 V c 2 t := by dsimp only [dat0]
/-- What window 3 of the norm call holds when a grid step ends. -/
theorem after0_3 (c : Dev nD) (t : Fin cfg0.N) : (dat0 V c).after 3 t = colTiles (qBlk (sc0 (iblk0 V c 0 t)) (ssq (iblk0 V c 1 t) 8) (iblk0 V c 1 t) (iblk0 V c 2 t)) := by dsimp only [dat0]
/-- What window 4 of the norm call holds when a grid step ends. -/
theorem after0_4 (c : Dev nD) (t : Fin cfg0.N) : (dat0 V c).after 4 t = rowTiles (qtBlk (sc0 (iblk0 V c 0 t)) (ssq (iblk0 V c 1 t) 8) (iblk0 V c 1 t) (iblk0 V c 2 t)) := by dsimp only [dat0]

/-- Window 0 of the norm call holds its array's block when a grid step begins. -/
theorem before0_0 (c : Dev nD) (t : Fin cfg0.N) (d) : (dat0 V c).before 0 t d = iblk0 V c 0 t :=
  before0_0_of V (dat0 V c) (A_eq0 V c 0) (after0_0 V c) t d
/-- Window 1 of the norm call holds its array's block when a grid step begins. -/
theorem before0_1 (c : Dev nD) (t : Fin cfg0.N) (d) : (dat0 V c).before 1 t d = iblk0 V c 1 t :=
  before0_1_of V (dat0 V c) (A_eq0 V c 1) (after0_1 V c) t d
/-- Window 2 of the norm call holds its array's block when a grid step begins. -/
theorem before0_2 (c : Dev nD) (t : Fin cfg0.N) (d) : (dat0 V c).before 2 t d = iblk0 V c 2 t :=
  before0_2_of V (dat0 V c) (A_eq0 V c 2) (after0_2 V c) t d

/-- What the body is entered with and what it leaves. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1000000 in
/-- The body at step `t`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body0 c _ _ _ _ _ _ _ _ _ _ (iblk0 V c 0 t) (iblk0 V c 1 t) (iblk0 V c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxHeartbeats 1000000 in
/-- The body that a grid step runs, with its buffers put in. -/
theorem defs₀_row0 (t : Fin cfg0.N) :
    defs₀ (F := F) .tc cfg0.body (cfg0.bodyArgs t (cfg0.slots t)) = bodyAt0 t := by
  unfold defs₀; rw [Defs.onTc_tc]

set_option maxHeartbeats 1000000 in
/-- The body's obligation to the pipeline. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Run

end
-- ==== Proof.K.Values1.lean ====
module

public import proofs.«01_k».proof.Proof.Gen.Kernel.Launch
public import proofs.«01_k».proof.Proof.Gen.Kernel.Skeleton
public import proofs.«01_k».proof.Proof.Gen.Kernel.Points
public import proofs.«01_k».proof.Proof.Tiles
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! What one step of the main call computes, in closed form: functions of the blocks that it reads and of the accumulators. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

/-- What the main call reads: the two activation scales, the quantised activations and their transpose, the incoming
gradient, the three blocks of weights and the three rows of scales. -/
structure In (F : FTy → Type) [BitOps F] where
  s : Vec F S2 .f32
  c1 : Vec F S256x4096 .fp8e4m3
  ct : Vec F S4096x256 .bf16
  dy : Vec F S256x4096 .bf16
  wg : Vec F S4096x256 .bf16
  wu : Vec F S4096x256 .bf16
  wd : Vec F S256x4096 .bf16
  sg : Vec F S1x256 .f32
  su : Vec F S1x256 .f32
  sd : Vec F S1x4096 .f32

namespace In

variable (X : In F)

/-- The scales of the two activations. -/
abbrev s1 : Elt F .f32 := X.s (ix1 0)
abbrev s2 : Elt F .f32 := X.s (ix1 1)
/-- Block `k` of the gate's and of the up projection's weights. -/
abbrev bg (k : ℕ) : Vec F S512x256 .bf16 := rowBlk 256 0 X.wg k
abbrev bu (k : ℕ) : Vec F S512x256 .bf16 := rowBlk 256 0 X.wu k
abbrev cst : F .f32 := Scalar.ofBits .f32 0x40E00000#32
/-- The clipping masks of both weights, side by side, -/
def m27 : Vec F S4096x512 .f32 :=
  rowTiles2 (fun k => k1_pay10 (k1_pay43 X.sg) (X.bg k)) (fun k => k1_pay48 (k1_pay14 (k1_pay44 X.su) (X.bu k)) cst (k1_pay15 (k1_pay44 X.su) (X.bu k)))
/-- the dequantised weights, -/
def w26 : Vec F S4096x512 .bf16 :=
  rowTiles2 (fun k => k1_pay11 (k1_pay41 X.sg) (k1_pay43 X.sg) (X.bg k)) (fun k => k1_pay49 X.su cst (k1_pay15 (k1_pay44 X.su) (X.bu k)))
/-- their integer codes in the narrow float format, -/
def q28 : Vec F S4096x512 .fp8e4m3 :=
  rowTiles2 (fun k => k1_pay13 (k1_pay43 X.sg) (X.bg k)) (fun k => k1_pay51 cst (k1_pay15 (k1_pay44 X.su) (X.bu k)))
/-- and as integers. -/
def cg : Vec F S4096x256 .i8 := rowTiles (fun k => k1_pay12 (k1_pay43 X.sg) (X.bg k))
def cu : Vec F S4096x256 .i8 := rowTiles (fun k => k1_pay50 cst (k1_pay15 (k1_pay44 X.su) (X.bu k)))

/-- The row scales as the products use them. -/
abbrev v6 : FVec F S1x256 .f32 := k1_pay41 X.sg
abbrev v8 : FVec F S1x256 .f32 := k1_pay42 X.su
/-- The gate's and the up projection's products. -/
def raw0 : Vec F S256x256 .f32 := k1_pay53 X.c1 X.q28
def v23 : FVec F S256x256 .f32 := k1_pay54 X.c1 X.q28

/-- The step's three conditions: the first step, and whether the left or the right half is computed again. -/
abbrev first (i : grid1.Coords) : Prop :=
  Scalar.cmpi .ne (Scalar.extui (Scalar.cmpi .eq (BitVec.ofNat 32 (i 0).val) 0#32) : BitVec 32) 0#32 = 1#1
abbrev left (i : grid1.Coords) : Prop :=
  Scalar.cmpi .ne (Scalar.extui (Scalar.cmpi .eq (Scalar.remsi (Scalar.addi (Scalar.muli (BitVec.ofNat 32 (i 0).val) 2#32) 0#32) 19#32) 18#32) : BitVec 32) 0#32 = 1#1
abbrev right (i : grid1.Coords) : Prop :=
  Scalar.cmpi .ne (Scalar.extui (Scalar.cmpi .eq (Scalar.remsi (Scalar.addi (Scalar.muli (BitVec.ofNat 32 (i 0).val) 2#32) 1#32) 19#32) 18#32) : BitVec 32) 0#32 = 1#1

/-- The accumulators as a step finds them: zero at the first step. -/
def z20 (i : grid1.Coords) (O : Vec F S256x4096 .f32) : Vec F S256x4096 .f32 := if first i then k1_pay35 else O
def z21 (i : grid1.Coords) (O : Vec F S4096x256 .f32) : Vec F S4096x256 .f32 := if first i then k1_pay36 else O
def z22 (i : grid1.Coords) (O : Vec F S8x4096 .f32) : Vec F S8x4096 .f32 := if first i then k1_pay37 else O
def z23 (i : grid1.Coords) (O : Vec F S256x128 .f32) : Vec F S256x128 .f32 := if first i then k1_pay38 else O
def z24 (i : grid1.Coords) (O : Vec F S256x128 .f32) : Vec F S256x128 .f32 := if first i then k1_pay39 else O
def z25 (i : grid1.Coords) (O : Vec F S256x128 .f32) : Vec F S256x128 .f32 := if first i then k1_pay40 else O

/-- A half of the codes. -/
abbrev half (o : ℕ) (inb : ∀ a, (![0, o] : Fin 2 → ℕ) a + S4096x128.size a ≤ S4096x512.size a) : Vec F S4096x128 .fp8e4m3 :=
  View.ld X.q28 (Rect.unit (s := S4096x512) ![0, o] S4096x128.size inb)

/-- The gate's product after the left half, -/
def rawL (i : grid1.Coords) : Vec F S256x256 .f32 :=
  if left i then putCols 0 (k1_pay55 X.c1 (X.half 0 inb_S4096x512_S4096x128_0_0)) X.raw0 else X.raw0
/-- and after both halves. -/
def raw (i : grid1.Coords) : Vec F S256x256 .f32 :=
  if right i then putCols 128 (k1_pay56 X.c1 (X.half 128 inb_S4096x512_S4096x128_0_128)) (X.rawL i) else X.rawL i

/-- The codes of the second activation. -/
def c2 (i : grid1.Coords) : Vec F S256x256 .fp8e4m3 := k1_pay61 X.s1 X.s2 X.v6 X.v8 X.v23 (X.raw i)
/-- The second activation dequantised. -/
def a2 (i : grid1.Coords) : Vec F S256x256 .bf16 := k1_pay62 X.s1 X.s2 X.v6 X.v8 X.v23 (X.raw i)
abbrev bsd (k : ℕ) : Vec F S1x512 .f32 := colBlk X.sd k
abbrev bwd (k : ℕ) : Vec F S256x512 .bf16 := colBlk X.wd k
abbrev bdy (k : ℕ) : Vec F S256x512 .bf16 := colBlk X.dy k
/-- The gradient of the second activation before block `k`. -/
def acc59 : ℕ → FVec F S256x256 .f32
  | 0 => k1_pay45
  | k + 1 => k1_pay64 (acc59 k) (k1_pay16 (X.bsd k)) (k1_pay19 (X.bsd k) (X.bwd k)) (k1_pay24 (X.bdy k))
/-- The down projection's integer codes, -/
def cd : Vec F S256x4096 .i8 := colTiles (fun k => k1_pay22 (X.bsd k) (X.bwd k))
/-- its weights' gradient, -/
def dwd (i : grid1.Coords) : Vec F S256x4096 .bf16 := colTiles (fun k => k1_pay26 X.s2 (X.a2 i) (X.bsd k) (X.bwd k) (X.bdy k))
/-- the output's accumulator, -/
def o20 (i : grid1.Coords) (O : Vec F S256x4096 .f32) : Vec F S256x4096 .f32 :=
  colTiles (fun k => k1_pay23 (X.c2 i) (X.bsd k) (X.bwd k) (colBlk O k))
/-- and the accumulator of its scales' gradient. -/
def d22 (i : grid1.Coords) (O : Vec F S8x4096 .f32) : Vec F S8x4096 .f32 :=
  colTiles (fun k => k1_pay63 (k1_pay21 (X.bsd k) (X.bwd k)) (k1_pay25 X.s2 (X.a2 i) (X.bdy k)) (colBlk O k))

abbrev v40 (i : grid1.Coords) : FVec F S256x256 .f32 := k1_pay57 X.s1 X.v6 (X.raw i)
abbrev v44 : FVec F S256x256 .f32 := k1_pay58 X.s1 X.v8 X.v23
abbrev v45 (i : grid1.Coords) : FVec F S256x256 .f32 := k1_pay59 X.s1 X.v6 (X.raw i)
abbrev v49 (i : grid1.Coords) : FVec F S256x256 .f32 := k1_pay60 X.s1 X.s2 X.v6 X.v8 X.v23 (X.raw i)
abbrev v59 : FVec F S256x256 .f32 := X.acc59 8
abbrev v60 (i : grid1.Coords) : FVec F S256x256 .f32 := k1_pay65 X.s1 X.s2 X.v6 X.v8 X.v23 (X.raw i)
abbrev v62 (i : grid1.Coords) : IVec S256x256 1 := k1_pay66 X.s1 X.s2 X.v6 X.v8 X.v23 (X.raw i)
abbrev v64 (i : grid1.Coords) : FVec F S256x256 .f32 := k1_pay67 X.s1 X.s2 X.v6 X.v8 X.v23 (X.raw i) X.v59
abbrev v66 (i : grid1.Coords) : FVec F S256x256 .f32 := k1_pay68 X.s1 X.s2 X.v6 X.v8 X.v23 (X.raw i)
abbrev v67 : FVec F S256x256 .f32 := k1_pay69
/-- The three partial sums of the activation scale's gradient. -/
def p25 (i : grid1.Coords) (O : Vec F S256x128 .f32) : Vec F S256x128 .f32 := k1_pay71 X.v59 (X.v62 i) (X.v66 i) v67 O
def p23 (i : grid1.Coords) (O : Vec F S256x128 .f32) : Vec F S256x128 .f32 := k1_pay72 X.v59 (X.v62 i) (X.v66 i) v67 O
def p24 (i : grid1.Coords) (O : Vec F S256x128 .f32) : Vec F S256x128 .f32 := k1_pay73 (X.v49 i) X.v59 (X.v60 i) O

abbrev bct (k : ℕ) : Vec F S512x256 .bf16 := rowBlk 256 0 X.ct k
abbrev dg (i : grid1.Coords) : FVec F S256x256 .bf16 := k1_pay1 (X.v40 i) X.v44 (X.v45 i) (X.v64 i)
abbrev du (i : grid1.Coords) : FVec F S256x256 .bf16 := k1_pay2 (X.v40 i) (X.v45 i) (X.v64 i)
/-- The gradients of the gate's and the up projection's weights, -/
def dwg (i : grid1.Coords) : Vec F S4096x256 .bf16 := rowTiles (fun k => k1_pay29 X.s1 (X.dg i) (X.bct k) (rowBlk 256 0 X.m27 k))
def dwu (i : grid1.Coords) : Vec F S4096x256 .bf16 := rowTiles (fun k => k1_pay32 X.s1 (X.du i) (X.bct k) (rowBlk 256 256 X.m27 k))
/-- the accumulator of the first activation's gradient, -/
def d21 (i : grid1.Coords) (O : Vec F S4096x256 .f32) : Vec F S4096x256 .f32 :=
  rowTiles (fun k => k1_pay4 (X.v40 i) X.v44 (X.v45 i) (X.v64 i) (k1_pay34 (rowBlk 256 0 O k)) (rowBlk 512 0 X.w26 k))
/-- and the partial sums of both scales' gradients before block `k`. -/
def accg (i : grid1.Coords) : ℕ → FVec F S8x256 .f32
  | 0 => k1_pay3
  | k + 1 => k1_pay30 X.s1 (X.dg i) (accg i k) (X.bct k) (rowBlk 256 0 X.m27 k)
def accu (i : grid1.Coords) : ℕ → FVec F S8x256 .f32
  | 0 => k1_pay3
  | k + 1 => k1_pay33 X.s1 (X.du i) (accu i k) (X.bct k) (rowBlk 256 256 X.m27 k)
def dsg (i : grid1.Coords) : Vec F S1x256 .f32 := k1_pay5 (X.accg i 8)
def dsu (i : grid1.Coords) : Vec F S1x256 .f32 := k1_pay6 (X.accu i 8)

end In

end Cert.Kernel.Body
-- ==== Proof.K.Trip1.lean ====
module

public import proofs.«01_k».proof.Proof.Gen.Kernel.Launch
public import proofs.«01_k».proof.Proof.Gen.Kernel.Skeleton
public import proofs.«01_k».proof.Proof.Gen.Kernel.Points
public import proofs.«01_k».proof.Proof.K.Values1
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! One trip of the main call's first loop. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

/-- One trip of the first loop quantises one block of rows of the gate's and the up projection's weights. -/
theorem trip1 (O14 : Vec F S4096x256 .i8) (O15 : Vec F S4096x256 .i8) (O26 : Vec F S4096x512 .bf16) (O27 : Vec F S4096x512 .f32) (O28 : Vec F S4096x512 .fp8e4m3) (k : Fin k1_t1_loop.trips) (E : Set ℕ) :
    (iprop(owns (c : Thread nD τ) arg5 fullShare X.wg
        ∗ owns (c : Thread nD τ) arg6 fullShare X.wu
        ∗ owns (c : Thread nD τ) arg14 fullShare (mix 0 k.val X.cg O14)
        ∗ owns (c : Thread nD τ) arg15 fullShare (mix 0 k.val X.cu O15)
        ∗ owns (c : Thread nD τ) arg26 fullShare (mix 0 k.val X.w26 O26)
        ∗ owns (c : Thread nD τ) arg27 fullShare (mix 0 k.val X.m27 O27)
        ∗ owns (c : Thread nD τ) arg28 fullShare (mix 0 k.val X.q28 O28)) : sProp 𝕄)
      ⊢ wp frame (wpE (defs₀ (F := F)) Variants.none c none) E (k1_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X.sg X.su k ⟨⟩)
          (fun _ => iprop(owns (c : Thread nD τ) arg5 fullShare X.wg
        ∗ owns (c : Thread nD τ) arg6 fullShare X.wu
        ∗ owns (c : Thread nD τ) arg14 fullShare (mix 0 (k.val + 1) X.cg O14)
        ∗ owns (c : Thread nD τ) arg15 fullShare (mix 0 (k.val + 1) X.cu O15)
        ∗ owns (c : Thread nD τ) arg26 fullShare (mix 0 (k.val + 1) X.w26 O26)
        ∗ owns (c : Thread nD τ) arg27 fullShare (mix 0 (k.val + 1) X.m27 O27)
        ∗ owns (c : Thread nD τ) arg28 fullShare (mix 0 (k.val + 1) X.q28 O28))) := by
  have hk : k.val < 8 := Nat.lt_of_lt_of_le k.isLt k1_t1_abs.2.1
  unfold k1_t1_body
  simp only [k1_part1_eq_skeleton]
  iintro ⟨H5, H6, H14, H15, H26, H27, H28⟩
  ihave H5 := (owns_open harg5 _) $$ H5
  ihave H6 := (owns_open harg6 _) $$ H6
  ihave H14 := (owns_open harg14 _) $$ H14
  ihave H15 := (owns_open harg15 _) $$ H15
  ihave H26 := (owns_open harg26 _) $$ H26
  ihave H27 := (owns_open harg27 _) $$ H27
  ihave H28 := (owns_open harg28 _) $$ H28
  sl_exec
  sl_step
  have e5 : ∀ inb, View.readAt (Elt F) arg5.view (Rect.unit (s := S4096x256) (k1_off1 k) S512x256.size inb).toLoadRect (harg5.unread X.wg) = X.bg k.val := fun inb => readAt_row (w := 256) harg5 X.wg k.val 0 _ (k1_off1_eq k) inb
  have e6 : ∀ inb, View.readAt (Elt F) arg6.view (Rect.unit (s := S4096x256) (k1_off1 k) S512x256.size inb).toLoadRect (harg6.unread X.wu) = X.bu k.val := fun inb => readAt_row (w := 256) harg6 X.wu k.val 0 _ (k1_off1_eq k) inb
  isplitl [H5]; · iapply (owns_close _ _ (harg5.read_unread _)) $$ H5
  isplitl [H6]; · iapply (owns_close _ _ (harg6.read_unread _)) $$ H6
  isplitl [H14]; · iapply (owns_close _ _ (by rw [e5]; exact writes_row harg14 k.val _ O14 _ (k1_off1_eq k) (k1_off1_inb k) _ rfl)) $$ H14
  isplitl [H15]; · iapply (owns_close _ _ (by (try unfold trip1.sl.r); (try unfold trip1.sl.r_1); (try unfold trip1.sl.cst_77); rw [e6]; exact writes_row harg15 k.val _ O15 _ (k1_off1_eq k) (k1_off1_inb k) _ rfl)) $$ H15
  isplitl [H26]; · iapply (owns_close _ _ (by (try unfold trip1.sl.r); (try unfold trip1.sl.r_1); (try unfold trip1.sl.cst_77); rw [e5, e6]; exact writes_row2 harg26 k.val _ _ O26 _ _ (k1_off2_eq k) (k1_off3_eq k) (k1_off2_inb k) (k1_off3_inb k) _ _ rfl rfl)) $$ H26
  isplitl [H27]; · iapply (owns_close _ _ (by (try unfold trip1.sl.r); (try unfold trip1.sl.r_1); (try unfold trip1.sl.cst_77); rw [e5, e6]; exact writes_row2 harg27 k.val _ _ O27 _ _ (k1_off2_eq k) (k1_off3_eq k) (k1_off2_inb k) (k1_off3_inb k) _ _ rfl rfl)) $$ H27
  iapply (owns_close _ _ (by (try unfold trip1.sl.r); (try unfold trip1.sl.r_1); (try unfold trip1.sl.cst_77); rw [e5, e6]; exact writes_row2 harg28 k.val _ _ O28 _ _ (k1_off2_eq k) (k1_off3_eq k) (k1_off2_inb k) (k1_off3_inb k) _ _ rfl rfl)) $$ H28

end Run

end Cert.Kernel.Body
-- ==== Proof.K.Part4.lean ====
module

public import proofs.«01_k».proof.Proof.Gen.Kernel.Launch
public import proofs.«01_k».proof.Proof.Gen.Kernel.Skeleton
public import proofs.«01_k».proof.Proof.Gen.Kernel.Points
public import proofs.«01_k».proof.Proof.K.Trip1
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The first part of the main call's body. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

set_option maxHeartbeats 1000000 in
/-- The first part: the accumulators set to zero at the first step, the weights quantised, and the first product. -/
theorem part4 (O14 : Vec F S4096x256 .i8) (O15 : Vec F S4096x256 .i8) (O26 : Vec F S4096x512 .bf16) (O27 : Vec F S4096x512 .f32) (O28 : Vec F S4096x512 .fp8e4m3) (O29 : Vec F S256x256 .f32) (O20 : Vec F S256x4096 .f32) (O21 : Vec F S4096x256 .f32) (O22 : Vec F S8x4096 .f32) (O23 : Vec F S256x128 .f32) (O24 : Vec F S256x128 .f32) (O25 : Vec F S256x128 .f32) (E : Set ℕ) :
    (iprop(owns (c : Thread nD τ) arg1 fullShare X.s
        ∗ owns (c : Thread nD τ) arg2 fullShare X.c1
        ∗ owns (c : Thread nD τ) arg5 fullShare X.wg
        ∗ owns (c : Thread nD τ) arg6 fullShare X.wu
        ∗ owns (c : Thread nD τ) arg8 fullShare X.sg
        ∗ owns (c : Thread nD τ) arg9 fullShare X.su
        ∗ owns (c : Thread nD τ) arg14 fullShare O14
        ∗ owns (c : Thread nD τ) arg15 fullShare O15
        ∗ owns (c : Thread nD τ) arg26 fullShare O26
        ∗ owns (c : Thread nD τ) arg27 fullShare O27
        ∗ owns (c : Thread nD τ) arg28 fullShare O28
        ∗ owns (c : Thread nD τ) arg29 fullShare O29
        ∗ owns (c : Thread nD τ) arg20 fullShare O20
        ∗ owns (c : Thread nD τ) arg21 fullShare O21
        ∗ owns (c : Thread nD τ) arg22 fullShare O22
        ∗ owns (c : Thread nD τ) arg23 fullShare O23
        ∗ owns (c : Thread nD τ) arg24 fullShare O24
        ∗ owns (c : Thread nD τ) arg25 fullShare O25) : sProp 𝕄)
      ⊢ wp frame (wpE (defs₀ (F := F)) Variants.none c none) E (k1_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29)
          (fun r => iprop(⌜r = ⟨BitVec.ofNat 32 (i 0).val, X.s1, X.s2, X.v6, X.v8, k1_pay45, X.v23, (Scalar.extui (Scalar.cmpi .eq (Scalar.remsi (Scalar.addi (Scalar.muli (BitVec.ofNat 32 (i 0).val) 2#32) 0#32) 19#32) 18#32) : BitVec 32), 0#32⟩⌝
        ∗ owns (c : Thread nD τ) arg1 fullShare X.s
        ∗ owns (c : Thread nD τ) arg2 fullShare X.c1
        ∗ owns (c : Thread nD τ) arg5 fullShare X.wg
        ∗ owns (c : Thread nD τ) arg6 fullShare X.wu
        ∗ owns (c : Thread nD τ) arg8 fullShare X.sg
        ∗ owns (c : Thread nD τ) arg9 fullShare X.su
        ∗ owns (c : Thread nD τ) arg14 fullShare X.cg
        ∗ owns (c : Thread nD τ) arg15 fullShare X.cu
        ∗ owns (c : Thread nD τ) arg26 fullShare X.w26
        ∗ owns (c : Thread nD τ) arg27 fullShare X.m27
        ∗ owns (c : Thread nD τ) arg28 fullShare X.q28
        ∗ owns (c : Thread nD τ) arg29 fullShare X.raw0
        ∗ owns (c : Thread nD τ) arg20 fullShare (In.z20 i O20)
        ∗ owns (c : Thread nD τ) arg21 fullShare (In.z21 i O21)
        ∗ owns (c : Thread nD τ) arg22 fullShare (In.z22 i O22)
        ∗ owns (c : Thread nD τ) arg23 fullShare (In.z23 i O23)
        ∗ owns (c : Thread nD τ) arg24 fullShare (In.z24 i O24)
        ∗ owns (c : Thread nD τ) arg25 fullShare (In.z25 i O25))) := by
  rw [k1_part4_eq_skeleton]; unfold k1_part4_skel
  have ht : k1_t1_loop.trips = 8 := by decide
  iintro ⟨H1, H2, H5, H6, H8, H9, H14, H15, H26, H27, H28, H29, H20, H21, H22, H23, H24, H25⟩
  by_cases h : In.first i
  · ihave H1 := (owns_open harg1 _) $$ H1
    ihave H2 := (owns_open harg2 _) $$ H2
    ihave H8 := (owns_open harg8 _) $$ H8
    ihave H9 := (owns_open harg9 _) $$ H9
    ihave H29 := (owns_open harg29 _) $$ H29
    ihave H20 := (owns_open harg20 _) $$ H20
    ihave H21 := (owns_open harg21 _) $$ H21
    ihave H22 := (owns_open harg22 _) $$ H22
    ihave H23 := (owns_open harg23 _) $$ H23
    ihave H24 := (owns_open harg24 _) $$ H24
    ihave H25 := (owns_open harg25 _) $$ H25
    sl_exec (disch := sl_exact h)
    have e8 : ∀ inb, View.readAt (Elt F) arg8.view (Rect.unit (s := S1x256) ![0, 0] S1x256.size inb).toLoadRect (harg8.unread X.sg) = X.sg := fun inb => readAt_whole harg8 X.sg inb
    have e9 : ∀ inb, View.readAt (Elt F) arg9.view (Rect.unit (s := S1x256) ![0, 0] S1x256.size inb).toLoadRect (harg9.unread X.su) = X.su := fun inb => readAt_whole harg9 X.su inb
    have q1 : part4.sl.r c arg1 harg1 X = X.s1 := by
      unfold part4.sl.r
      rw [View.readAt_eq_ld, harg1.read_unread]
      exact congrArg X.s (funext fun a => by fin_cases a; rfl)
    have q2 : part4.sl.r_1 c arg1 harg1 X = X.s2 := by
      unfold part4.sl.r_1
      rw [View.readAt_eq_ld, harg1.read_unread]
      exact congrArg X.s (funext fun a => by fin_cases a; rfl)
    rw [e8, e9, q1, q2]
    sl_for (fun k _ => iprop(owns (c : Thread nD τ) arg5 fullShare X.wg
        ∗ owns (c : Thread nD τ) arg6 fullShare X.wu
        ∗ owns (c : Thread nD τ) arg14 fullShare (mix 0 k X.cg O14)
        ∗ owns (c : Thread nD τ) arg15 fullShare (mix 0 k X.cu O15)
        ∗ owns (c : Thread nD τ) arg26 fullShare (mix 0 k X.w26 O26)
        ∗ owns (c : Thread nD τ) arg27 fullShare (mix 0 k X.m27 O27)
        ∗ owns (c : Thread nD τ) arg28 fullShare (mix 0 k X.q28 O28))) $$ [H5 H6 H14 H15 H26 H27 H28]
    · intro k acc; exact trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X O14 O15 O26 O27 O28 k E
    · isplitl [H5]; · iexact H5
      isplitl [H6]; · iexact H6
      isplitl [H14]; · iexact H14
      isplitl [H15]; · iexact H15
      isplitl [H26]; · iexact H26
      isplitl [H27]; · iexact H27
      iexact H28
    iintro %acc ⟨H5, H6, H14, H15, H26, H27, H28⟩
    rw [mix_full 0 _ _ O14 (by decide), mix_full 0 _ _ O15 (by decide), mix_full 0 _ _ O26 (by decide), mix_full 0 _ _ O27 (by decide), mix_full 0 _ _ O28 (by decide)]
    ihave H28 := (owns_open harg28 _) $$ H28
    sl_exec
    sl_step
    have e2 : ∀ inb, View.readAt (Elt F) arg2.view (Rect.unit (s := S256x4096) ![0, 0] S256x4096.size inb).toLoadRect (harg2.unread X.c1) = X.c1 := fun inb => readAt_whole harg2 X.c1 inb
    have e28 : ∀ inb, View.readAt (Elt F) arg28.view (Rect.unit (s := S4096x512) ![0, 0] S4096x512.size inb).toLoadRect (harg28.unread X.q28) = X.q28 := fun inb => readAt_whole harg28 X.q28 inb
    isplitr
    · ipureintro; rw [e2, e28]; rfl
    isplitl [H1]; · iapply (owns_close _ _ (harg1.read_unread _)) $$ H1
    isplitl [H2]; · iapply (owns_close _ _ (harg2.read_unread _)) $$ H2
    isplitl [H5]; · iexact H5
    isplitl [H6]; · iexact H6
    isplitl [H8]; · iapply (owns_close _ _ (harg8.read_unread _)) $$ H8
    isplitl [H9]; · iapply (owns_close _ _ (harg9.read_unread _)) $$ H9
    isplitl [H14]; · iexact H14
    isplitl [H15]; · iexact H15
    isplitl [H26]; · iexact H26
    isplitl [H27]; · iexact H27
    isplitl [H28]; · iapply (owns_close _ _ (harg28.read_unread _)) $$ H28
    isplitl [H29]; · iapply (owns_close _ _ (by rw [e2, e28]; exact writes_whole _ _ _ _)) $$ H29
    rw [show In.z20 i O20 = k1_pay35 from if_pos h, show In.z21 i O21 = k1_pay36 from if_pos h, show In.z22 i O22 = k1_pay37 from if_pos h, show In.z23 i O23 = k1_pay38 from if_pos h, show In.z24 i O24 = k1_pay39 from if_pos h, show In.z25 i O25 = k1_pay40 from if_pos h]
    isplitl [H20]; · iapply (owns_close _ _ (by exact writes_whole _ _ _ _)) $$ H20
    isplitl [H21]; · iapply (owns_close _ _ (by exact writes_whole _ _ _ _)) $$ H21
    isplitl [H22]; · iapply (owns_close _ _ (by exact writes_whole _ _ _ _)) $$ H22
    isplitl [H23]; · iapply (owns_close _ _ (by exact writes_whole _ _ _ _)) $$ H23
    isplitl [H24]; · iapply (owns_close _ _ (by exact writes_whole _ _ _ _)) $$ H24
    iapply (owns_close _ _ (by exact writes_whole _ _ _ _)) $$ H25
  · ihave H1 := (owns_open harg1 _) $$ H1
    ihave H2 := (owns_open harg2 _) $$ H2
    ihave H8 := (owns_open harg8 _) $$ H8
    ihave H9 := (owns_open harg9 _) $$ H9
    ihave H29 := (owns_open harg29 _) $$ H29
    sl_exec (disch := sl_exact h)
    have e8 : ∀ inb, View.readAt (Elt F) arg8.view (Rect.unit (s := S1x256) ![0, 0] S1x256.size inb).toLoadRect (harg8.unread X.sg) = X.sg := fun inb => readAt_whole harg8 X.sg inb
    have e9 : ∀ inb, View.readAt (Elt F) arg9.view (Rect.unit (s := S1x256) ![0, 0] S1x256.size inb).toLoadRect (harg9.unread X.su) = X.su := fun inb => readAt_whole harg9 X.su inb
    have q1 : part4.sl.r_2 c arg1 harg1 X = X.s1 := by
      unfold part4.sl.r_2
      rw [View.readAt_eq_ld, harg1.read_unread]
      exact congrArg X.s (funext fun a => by fin_cases a; rfl)
    have q2 : part4.sl.r_3 c arg1 harg1 X = X.s2 := by
      unfold part4.sl.r_3
      rw [View.readAt_eq_ld, harg1.read_unread]
      exact congrArg X.s (funext fun a => by fin_cases a; rfl)
    rw [e8, e9, q1, q2]
    sl_for (fun k _ => iprop(owns (c : Thread nD τ) arg5 fullShare X.wg
        ∗ owns (c : Thread nD τ) arg6 fullShare X.wu
        ∗ owns (c : Thread nD τ) arg14 fullShare (mix 0 k X.cg O14)
        ∗ owns (c : Thread nD τ) arg15 fullShare (mix 0 k X.cu O15)
        ∗ owns (c : Thread nD τ) arg26 fullShare (mix 0 k X.w26 O26)
        ∗ owns (c : Thread nD τ) arg27 fullShare (mix 0 k X.m27 O27)
        ∗ owns (c : Thread nD τ) arg28 fullShare (mix 0 k X.q28 O28))) $$ [H5 H6 H14 H15 H26 H27 H28]
    · intro k acc; exact trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X O14 O15 O26 O27 O28 k E
    · isplitl [H5]; · iexact H5
      isplitl [H6]; · iexact H6
      isplitl [H14]; · iexact H14
      isplitl [H15]; · iexact H15
      isplitl [H26]; · iexact H26
      isplitl [H27]; · iexact H27
      iexact H28
    iintro %acc ⟨H5, H6, H14, H15, H26, H27, H28⟩
    rw [mix_full 0 _ _ O14 (by decide), mix_full 0 _ _ O15 (by decide), mix_full 0 _ _ O26 (by decide), mix_full 0 _ _ O27 (by decide), mix_full 0 _ _ O28 (by decide)]
    ihave H28 := (owns_open harg28 _) $$ H28
    sl_exec
    sl_step
    have e2 : ∀ inb, View.readAt (Elt F) arg2.view (Rect.unit (s := S256x4096) ![0, 0] S256x4096.size inb).toLoadRect (harg2.unread X.c1) = X.c1 := fun inb => readAt_whole harg2 X.c1 inb
    have e28 : ∀ inb, View.readAt (Elt F) arg28.view (Rect.unit (s := S4096x512) ![0, 0] S4096x512.size inb).toLoadRect (harg28.unread X.q28) = X.q28 := fun inb => readAt_whole harg28 X.q28 inb
    isplitr
    · ipureintro; rw [e2, e28]; rfl
    isplitl [H1]; · iapply (owns_close _ _ (harg1.read_unread _)) $$ H1
    isplitl [H2]; · iapply (owns_close _ _ (harg2.read_unread _)) $$ H2
    isplitl [H5]; · iexact H5
    isplitl [H6]; · iexact H6
    isplitl [H8]; · iapply (owns_close _ _ (harg8.read_unread _)) $$ H8
    isplitl [H9]; · iapply (owns_close _ _ (harg9.read_unread _)) $$ H9
    isplitl [H14]; · iexact H14
    isplitl [H15]; · iexact H15
    isplitl [H26]; · iexact H26
    isplitl [H27]; · iexact H27
    isplitl [H28]; · iapply (owns_close _ _ (harg28.read_unread _)) $$ H28
    isplitl [H29]; · iapply (owns_close _ _ (by rw [e2, e28]; exact writes_whole _ _ _ _)) $$ H29
    rw [show In.z20 i O20 = O20 from if_neg h, show In.z21 i O21 = O21 from if_neg h, show In.z22 i O22 = O22 from if_neg h, show In.z23 i O23 = O23 from if_neg h, show In.z24 i O24 = O24 from if_neg h, show In.z25 i O25 = O25 from if_neg h]
    isplitl [H20]; · iexact H20
    isplitl [H21]; · iexact H21
    isplitl [H22]; · iexact H22
    isplitl [H23]; · iexact H23
    isplitl [H24]; · iexact H24
    iexact H25

end Run

end Cert.Kernel.Body
-- ==== Proof.K.Trip2.lean ====
module

public import proofs.«01_k».proof.Proof.Gen.Kernel.Launch
public import proofs.«01_k».proof.Proof.Gen.Kernel.Skeleton
public import proofs.«01_k».proof.Proof.Gen.Kernel.Points
public import proofs.«01_k».proof.Proof.K.Values1
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The main call's second loop. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

/-- One trip of the second loop: one block of columns of the down projection, forward and backward. -/
theorem trip2 (a0 c0 v28 : BitVec 32) (O13 : Vec F S256x4096 .bf16) (O16 : Vec F S256x4096 .i8) (O20 : Vec F S256x4096 .f32) (O22 : Vec F S8x4096 .f32) (k : Fin k1_t2_loop.trips) (acc : FVec F S256x256 .f32) (E : Set ℕ) :
    (iprop(⌜acc = X.acc59 k.val⌝ ∗ owns (c : Thread nD τ) arg10 fullShare X.sd
        ∗ owns (c : Thread nD τ) arg7 fullShare X.wd
        ∗ owns (c : Thread nD τ) arg4 fullShare X.dy
        ∗ owns (c : Thread nD τ) arg16 fullShare (mix 1 k.val X.cd O16)
        ∗ owns (c : Thread nD τ) arg20 fullShare (mix 1 k.val (X.o20 i O20) O20)
        ∗ owns (c : Thread nD τ) arg13 fullShare (mix 1 k.val (X.dwd i) O13)
        ∗ owns (c : Thread nD τ) arg22 fullShare (mix 1 k.val (X.d22 i O22) O22)) : sProp 𝕄)
      ⊢ wp frame (wpE (defs₀ (F := F)) Variants.none c none) E (k1_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 a0 X.s1 X.s2 X.v6 X.v8 k1_pay45 X.v23 v28 c0 (X.raw i) k acc)
          (fun r => iprop(⌜r = X.acc59 (k.val + 1)⌝ ∗ owns (c : Thread nD τ) arg10 fullShare X.sd
        ∗ owns (c : Thread nD τ) arg7 fullShare X.wd
        ∗ owns (c : Thread nD τ) arg4 fullShare X.dy
        ∗ owns (c : Thread nD τ) arg16 fullShare (mix 1 (k.val + 1) X.cd O16)
        ∗ owns (c : Thread nD τ) arg20 fullShare (mix 1 (k.val + 1) (X.o20 i O20) O20)
        ∗ owns (c : Thread nD τ) arg13 fullShare (mix 1 (k.val + 1) (X.dwd i) O13)
        ∗ owns (c : Thread nD τ) arg22 fullShare (mix 1 (k.val + 1) (X.d22 i O22) O22))) := by
  have hk : k.val < 8 := Nat.lt_of_lt_of_le k.isLt k1_t2_abs.2.1
  unfold k1_t2_body
  simp only [k1_part2_eq_skeleton]
  iintro ⟨%hacc, H10, H7, H4, H16, H20, H13, H22⟩
  subst hacc
  ihave H10 := (owns_open harg10 _) $$ H10
  ihave H7 := (owns_open harg7 _) $$ H7
  ihave H4 := (owns_open harg4 _) $$ H4
  ihave H16 := (owns_open harg16 _) $$ H16
  ihave H20 := (owns_open harg20 _) $$ H20
  ihave H13 := (owns_open harg13 _) $$ H13
  ihave H22 := (owns_open harg22 _) $$ H22
  sl_exec
  sl_step
  have e10 : ∀ inb, View.readAt (Elt F) arg10.view (Rect.unit (s := S1x4096) (k1_off4 k) S1x512.size inb).toLoadRect (harg10.unread X.sd) = X.bsd k.val := fun inb => readAt_col harg10 X.sd k.val _ (k1_off4_eq k) inb
  have e7 : ∀ inb, View.readAt (Elt F) arg7.view (Rect.unit (s := S256x4096) (k1_off5 k) S256x512.size inb).toLoadRect (harg7.unread X.wd) = X.bwd k.val := fun inb => readAt_col harg7 X.wd k.val _ (k1_off5_eq k) inb
  have e4 : ∀ inb, View.readAt (Elt F) arg4.view (Rect.unit (s := S256x4096) (k1_off5 k) S256x512.size inb).toLoadRect (harg4.unread X.dy) = X.bdy k.val := fun inb => readAt_col harg4 X.dy k.val _ (k1_off5_eq k) inb
  have e20 : ∀ inb, View.readAt (Elt F) arg20.view (Rect.unit (s := S256x4096) (k1_off5 k) S256x512.size inb).toLoadRect (harg20.unread (mix 1 k.val (X.o20 i O20) O20)) = colBlk O20 k.val := fun inb => (readAt_col harg20 _ k.val _ (k1_off5_eq k) inb).trans (colBlk_mix _ _ _ (by omega))
  have e22 : ∀ inb, View.readAt (Elt F) arg22.view (Rect.unit (s := S8x4096) (k1_off6 k) S8x512.size inb).toLoadRect (harg22.unread (mix 1 k.val (X.d22 i O22) O22)) = colBlk O22 k.val := fun inb => (readAt_col harg22 _ k.val _ (k1_off6_eq k) inb).trans (colBlk_mix _ _ _ (by omega))
  isplitr
  · ipureintro
    (try unfold trip2.sl.r); (try unfold trip2.sl.r_1); (try unfold trip2.sl.r_2); (try unfold trip2.sl.r_3); (try unfold trip2.sl.r_4); (try unfold trip2.sl.r_5)
    rw [e10, e7, e4]; rfl
  isplitl [H10]; · iapply (owns_close _ _ (harg10.read_unread _)) $$ H10
  isplitl [H7]; · iapply (owns_close _ _ (harg7.read_unread _)) $$ H7
  isplitl [H4]; · iapply (owns_close _ _ (harg4.read_unread _)) $$ H4
  isplitl [H16]; · iapply (owns_close _ _ (by rw [e10, e7]; exact writes_col harg16 k.val _ O16 _ (k1_off5_eq k) (k1_off5_inb k) _ rfl)) $$ H16
  isplitl [H20]; · iapply (owns_close _ _ (by rw [e10, e7, e20]; exact writes_col harg20 k.val _ O20 _ (k1_off5_eq k) (k1_off5_inb k) _ rfl)) $$ H20
  isplitl [H13]; · iapply (owns_close _ _ (by (try unfold trip2.sl.r); (try unfold trip2.sl.r_1); (try unfold trip2.sl.r_2); (try unfold trip2.sl.r_3); (try unfold trip2.sl.r_4); (try unfold trip2.sl.r_5); rw [e10, e7, e4]; exact writes_col harg13 k.val _ O13 _ (k1_off5_eq k) (k1_off5_inb k) _ rfl)) $$ H13
  iapply (owns_close _ _ (by (try unfold trip2.sl.r); (try unfold trip2.sl.r_1); (try unfold trip2.sl.r_2); (try unfold trip2.sl.r_3); (try unfold trip2.sl.r_4); (try unfold trip2.sl.r_5); rw [e10, e7, e4, e22]; exact writes_col harg22 k.val _ O22 _ (k1_off6_eq k) (k1_off6_inb k) _ rfl)) $$ H22

/-- The second loop. -/
theorem loop2 (a0 c0 v28 : BitVec 32) (O13 : Vec F S256x4096 .bf16) (O16 : Vec F S256x4096 .i8) (O20 : Vec F S256x4096 .f32) (O22 : Vec F S8x4096 .f32) (E : Set ℕ) :
    (iprop(owns (c : Thread nD τ) arg10 fullShare X.sd
        ∗ owns (c : Thread nD τ) arg7 fullShare X.wd
        ∗ owns (c : Thread nD τ) arg4 fullShare X.dy
        ∗ owns (c : Thread nD τ) arg16 fullShare O16
        ∗ owns (c : Thread nD τ) arg20 fullShare O20
        ∗ owns (c : Thread nD τ) arg13 fullShare O13
        ∗ owns (c : Thread nD τ) arg22 fullShare O22) : sProp 𝕄)
      ⊢ wp frame (wpE (defs₀ (F := F)) Variants.none c none) E (Scf.Loop.for k1_t2_loop k1_t2_ok k1_pay45 (k1_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 a0 X.s1 X.s2 X.v6 X.v8 k1_pay45 X.v23 v28 c0 (X.raw i)))
          (fun r => iprop(⌜r = X.v59⌝ ∗ owns (c : Thread nD τ) arg10 fullShare X.sd
        ∗ owns (c : Thread nD τ) arg7 fullShare X.wd
        ∗ owns (c : Thread nD τ) arg4 fullShare X.dy
        ∗ owns (c : Thread nD τ) arg16 fullShare X.cd
        ∗ owns (c : Thread nD τ) arg20 fullShare (X.o20 i O20)
        ∗ owns (c : Thread nD τ) arg13 fullShare (X.dwd i)
        ∗ owns (c : Thread nD τ) arg22 fullShare (X.d22 i O22))) := by
  have ht : k1_t2_loop.trips = 8 := by decide
  iintro ⟨H10, H7, H4, H16, H20, H13, H22⟩
  sl_for (fun k acc => iprop(⌜acc = X.acc59 k⌝ ∗ owns (c : Thread nD τ) arg10 fullShare X.sd
        ∗ owns (c : Thread nD τ) arg7 fullShare X.wd
        ∗ owns (c : Thread nD τ) arg4 fullShare X.dy
        ∗ owns (c : Thread nD τ) arg16 fullShare (mix 1 k X.cd O16)
        ∗ owns (c : Thread nD τ) arg20 fullShare (mix 1 k (X.o20 i O20) O20)
        ∗ owns (c : Thread nD τ) arg13 fullShare (mix 1 k (X.dwd i) O13)
        ∗ owns (c : Thread nD τ) arg22 fullShare (mix 1 k (X.d22 i O22) O22))) $$ [H10 H7 H4 H16 H20 H13 H22]
  · intro k acc; exact trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X a0 c0 v28 O13 O16 O20 O22 k acc E
  isplitl [H10 H7 H4 H16 H20 H13 H22]
  · isplitr
    · ipureintro; rfl
    isplitl [H10]; · iexact H10
    isplitl [H7]; · iexact H7
    isplitl [H4]; · iexact H4
    isplitl [H16]; · iexact H16
    isplitl [H20]; · iexact H20
    isplitl [H13]; · iexact H13
    iexact H22
  iintro %acc ⟨%h, H10, H7, H4, H16, H20, H13, H22⟩
  rw [mix_full 1 _ _ O16 (by decide), mix_full 1 _ _ O20 (by decide), mix_full 1 _ _ O13 (by decide), mix_full 1 _ _ O22 (by decide)]
  isplitr
  · ipureintro; exact h.trans (congrArg X.acc59 ht)
  isplitl [H10]; · iexact H10
  isplitl [H7]; · iexact H7
  isplitl [H4]; · iexact H4
  isplitl [H16]; · iexact H16
  isplitl [H20]; · iexact H20
  isplitl [H13]; · iexact H13
  iexact H22

end Run

end Cert.Kernel.Body
-- ==== Proof.K.Cols.lean ====
module

public import proofs.«01_k».proof.Proof.Gen.Kernel.Launch
public import proofs.«01_k».proof.Proof.Gen.Kernel.Skeleton
public import proofs.«01_k».proof.Proof.Gen.Kernel.Points
public import proofs.«01_k».proof.Proof.K.Values1
public import Idealize.ShloMosaic.Lib.WritesUnit
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Stores of column halves. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

variable {F : FTy → Type} [BitOps F]

/-- Two stores of 128 columns side by side cover a buffer of 256 columns. -/
theorem writes_two {r : ℕ} {κ : Kind} {sp : Space} {e : EltTy} (m : Memref sig κ sp (Sh r 256) e) (f : m.view.ty.Contents (Elt F))
    (w₁ w₂ : (Sh r 128).Idx → Elt F e) (x : (Sh r 256).Idx → Elt F e)
    (inb₁ : ∀ a, (![0, 0] : Fin 2 → ℕ) a + (Sh r 128).size a ≤ (Sh r 256).size a)
    (inb₂ : ∀ a, (![0, 128] : Fin 2 → ℕ) a + (Sh r 128).size a ≤ (Sh r 256).size a) :
    m.view.read (Elt F) (m.view.writes (Elt F) f [⟨Rect.unit (s := Sh r 256) ![0, 128] (Sh r 128).size inb₂, w₂⟩,
      ⟨Rect.unit (s := Sh r 256) ![0, 0] (Sh r 128).size inb₁, w₁⟩]) = putCols 128 w₂ (putCols 0 w₁ x) := by
  funext y
  have h1 : (y 1).val < 256 := (y 1).isLt
  unfold putCols
  by_cases h : 128 ≤ (y 1).val
  · rw [if_pos ⟨h, by omega⟩]
    refine View.read_writes_cons_unit_of_mem _ _ inb₂ w₂ _ y (ix2 (y 0) (Fin.ofNat 128 ((y 1).val - 128))) rfl (fun a => ?_)
    fin_cases a
    · show (y 0).val = 0 + (y 0).val; omega
    · show (y 1).val = 128 + ((y 1).val - 128) % 128; omega
  · rw [if_neg (by omega), if_pos ⟨Nat.zero_le _, by omega⟩]
    refine (View.read_writes_cons_unit_of_not_mem _ _ inb₂ w₂ _ y rfl 1 (.inl ?_)).trans ?_
    · show (y 1).val < 128; omega
    refine View.read_writes_cons_unit_of_mem _ _ inb₁ w₁ _ y (ix2 (y 0) (Fin.ofNat 128 ((y 1).val - 0))) rfl (fun a => ?_)
    fin_cases a
    · show (y 0).val = 0 + (y 0).val; omega
    · show (y 1).val = 0 + ((y 1).val - 0) % 128; omega

/-- A load of a whole buffer reads its contents. -/
theorem readAt_all {r c : ℕ} {κ : Kind} {sp : Space} {e : EltTy} (m : Memref sig κ sp (Sh r c) e) (f : m.view.ty.Contents (Elt F))
    (inb : ∀ a, (![0, 0] : Fin 2 → ℕ) a + (Sh r c).size a ≤ (Sh r c).size a) :
    View.readAt (Elt F) m.view (Rect.unit (s := Sh r c) ![0, 0] (Sh r c).size inb).toLoadRect f = m.view.read (Elt F) f := by
  rw [View.readAt_eq_ld]
  exact View.ld_unit_zero (S := Sh r c) (off := ![0, 0]) (funext fun a => by fin_cases a <;> rfl) inb _

end Cert.Kernel.Body
-- ==== Proof.K.Part5tt.lean ====
module

public import proofs.«01_k».proof.Proof.Gen.Kernel.Launch
public import proofs.«01_k».proof.Proof.Gen.Kernel.Skeleton
public import proofs.«01_k».proof.Proof.Gen.Kernel.Points
public import proofs.«01_k».proof.Proof.K.Trip2
public import proofs.«01_k».proof.Proof.K.Cols
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second part of the main call's body, in one of its four cases. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

set_option maxHeartbeats 2000000 in
/-- The second part: the halves computed again, the second activation and its codes, and the second loop: both halves computed again. -/
theorem part5_tt (hl : In.left i) (hr : In.right i) (O13 : Vec F S256x4096 .bf16) (O16 : Vec F S256x4096 .i8) (O17 : Vec F S256x256 .fp8e4m3) (O20 : Vec F S256x4096 .f32) (O22 : Vec F S8x4096 .f32) (E : Set ℕ) :
    (iprop(owns (c : Thread nD τ) arg2 fullShare X.c1
        ∗ owns (c : Thread nD τ) arg28 fullShare X.q28
        ∗ owns (c : Thread nD τ) arg29 fullShare X.raw0
        ∗ owns (c : Thread nD τ) arg17 fullShare O17
        ∗ owns (c : Thread nD τ) arg10 fullShare X.sd
        ∗ owns (c : Thread nD τ) arg7 fullShare X.wd
        ∗ owns (c : Thread nD τ) arg4 fullShare X.dy
        ∗ owns (c : Thread nD τ) arg16 fullShare O16
        ∗ owns (c : Thread nD τ) arg20 fullShare O20
        ∗ owns (c : Thread nD τ) arg13 fullShare O13
        ∗ owns (c : Thread nD τ) arg22 fullShare O22) : sProp 𝕄)
      ⊢ wp frame (wpE (defs₀ (F := F)) Variants.none c none) E (k1_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 0).val) X.s1 X.s2 X.v6 X.v8 k1_pay45 X.v23 (Scalar.extui (Scalar.cmpi .eq (Scalar.remsi (Scalar.addi (Scalar.muli (BitVec.ofNat 32 (i 0).val) 2#32) 0#32) 19#32) 18#32) : BitVec 32) 0#32)
          (fun r => iprop(⌜r = ⟨X.v40 i, X.v44, X.v45 i, X.v49 i, X.v59, X.v60 i, X.v62 i, X.v64 i, X.v66 i, In.v67⟩⌝
        ∗ owns (c : Thread nD τ) arg2 fullShare X.c1
        ∗ owns (c : Thread nD τ) arg28 fullShare X.q28
        ∗ owns (c : Thread nD τ) arg29 fullShare (X.raw i)
        ∗ owns (c : Thread nD τ) arg17 fullShare (X.c2 i)
        ∗ owns (c : Thread nD τ) arg10 fullShare X.sd
        ∗ owns (c : Thread nD τ) arg7 fullShare X.wd
        ∗ owns (c : Thread nD τ) arg4 fullShare X.dy
        ∗ owns (c : Thread nD τ) arg16 fullShare X.cd
        ∗ owns (c : Thread nD τ) arg20 fullShare (X.o20 i O20)
        ∗ owns (c : Thread nD τ) arg13 fullShare (X.dwd i)
        ∗ owns (c : Thread nD τ) arg22 fullShare (X.d22 i O22))) := by
  rw [k1_part5_eq_skeleton]; unfold k1_part5_skel
  iintro ⟨H2, H28, H29, H17, H10, H7, H4, H16, H20, H13, H22⟩
  ihave H2 := (owns_open harg2 _) $$ H2
  ihave H28 := (owns_open harg28 _) $$ H28
  ihave H29 := (owns_open harg29 _) $$ H29
  ihave H17 := (owns_open harg17 _) $$ H17
  have e2 : ∀ inb, View.readAt (Elt F) arg2.view (Rect.unit (s := S256x4096) ![0, 0] S256x4096.size inb).toLoadRect (harg2.unread X.c1) = X.c1 := fun inb => readAt_whole harg2 X.c1 inb
  sl_exec (disch := first | sl_exact hl | sl_exact hr)
  have e36 : part5_tt.sl.v36 c arg28 harg28 arg29 X = X.raw i := by
    unfold part5_tt.sl.v36 part5_tt.sl.H29_2 View.readCov
    rw [readAt_all, writes_two arg29 _ _ _ X.raw0]
    unfold In.raw In.rawL; rw [if_pos hr, if_pos hl]
    simp only [View.readAt_eq_ld, Memref.IsWhole.read_unread]
  have e29 : arg29.view.read (Elt F) (arg29.view.writes (Elt F) arg29.view.junk (part5_tt.sl.H29_2 c arg28 harg28 X)) = X.raw i := by
    unfold part5_tt.sl.H29_2
    rw [writes_two arg29 _ _ _ X.raw0]
    unfold In.raw In.rawL; rw [if_pos hr, if_pos hl]
    simp only [View.readAt_eq_ld, Memref.IsWhole.read_unread]
  rw [e36]
  ihave H29 := (owns_close _ _ e29) $$ H29
  ihave H17 := (owns_close (X.c2 i) _ (by unfold part5_tt.sl.H17_1; rw [e36]; exact writes_whole _ _ _ _)) $$ H17
  ihave H2 := (owns_close _ _ (harg2.read_unread _)) $$ H2
  ihave H28 := (owns_close _ _ (harg28.read_unread _)) $$ H28
  iapply (cut (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X _ _ _ O13 O16 O20 O22 E)) $$ [H10 H7 H4 H16 H20 H13 H22]
  · isplitl [H10]; · iexact H10
    isplitl [H7]; · iexact H7
    isplitl [H4]; · iexact H4
    isplitl [H16]; · iexact H16
    isplitl [H20]; · iexact H20
    isplitl [H13]; · iexact H13
    iexact H22
  iintro ⟨H10, H7, H4, H16, H20, H13, H22⟩
  sl_step
  isplitr
  · ipureintro; rfl
  isplitl [H2]; · iexact H2
  isplitl [H28]; · iexact H28
  isplitl [H29]; · iexact H29
  isplitl [H17]; · iexact H17
  isplitl [H10]; · iexact H10
  isplitl [H7]; · iexact H7
  isplitl [H4]; · iexact H4
  isplitl [H16]; · iexact H16
  isplitl [H20]; · iexact H20
  isplitl [H13]; · iexact H13
  iexact H22

end Run

end Cert.Kernel.Body
-- ==== Proof.K.Part5tf.lean ====
module

public import proofs.«01_k».proof.Proof.Gen.Kernel.Launch
public import proofs.«01_k».proof.Proof.Gen.Kernel.Skeleton
public import proofs.«01_k».proof.Proof.Gen.Kernel.Points
public import proofs.«01_k».proof.Proof.K.Trip2
public import proofs.«01_k».proof.Proof.K.Cols
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second part of the main call's body, in one of its four cases. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

set_option maxHeartbeats 2000000 in
/-- The second part: the halves computed again, the second activation and its codes, and the second loop: the left half alone computed again. -/
theorem part5_tf (hl : In.left i) (hr : ¬ In.right i) (O13 : Vec F S256x4096 .bf16) (O16 : Vec F S256x4096 .i8) (O17 : Vec F S256x256 .fp8e4m3) (O20 : Vec F S256x4096 .f32) (O22 : Vec F S8x4096 .f32) (E : Set ℕ) :
    (iprop(owns (c : Thread nD τ) arg2 fullShare X.c1
        ∗ owns (c : Thread nD τ) arg28 fullShare X.q28
        ∗ owns (c : Thread nD τ) arg29 fullShare X.raw0
        ∗ owns (c : Thread nD τ) arg17 fullShare O17
        ∗ owns (c : Thread nD τ) arg10 fullShare X.sd
        ∗ owns (c : Thread nD τ) arg7 fullShare X.wd
        ∗ owns (c : Thread nD τ) arg4 fullShare X.dy
        ∗ owns (c : Thread nD τ) arg16 fullShare O16
        ∗ owns (c : Thread nD τ) arg20 fullShare O20
        ∗ owns (c : Thread nD τ) arg13 fullShare O13
        ∗ owns (c : Thread nD τ) arg22 fullShare O22) : sProp 𝕄)
      ⊢ wp frame (wpE (defs₀ (F := F)) Variants.none c none) E (k1_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 0).val) X.s1 X.s2 X.v6 X.v8 k1_pay45 X.v23 (Scalar.extui (Scalar.cmpi .eq (Scalar.remsi (Scalar.addi (Scalar.muli (BitVec.ofNat 32 (i 0).val) 2#32) 0#32) 19#32) 18#32) : BitVec 32) 0#32)
          (fun r => iprop(⌜r = ⟨X.v40 i, X.v44, X.v45 i, X.v49 i, X.v59, X.v60 i, X.v62 i, X.v64 i, X.v66 i, In.v67⟩⌝
        ∗ owns (c : Thread nD τ) arg2 fullShare X.c1
        ∗ owns (c : Thread nD τ) arg28 fullShare X.q28
        ∗ owns (c : Thread nD τ) arg29 fullShare (X.raw i)
        ∗ owns (c : Thread nD τ) arg17 fullShare (X.c2 i)
        ∗ owns (c : Thread nD τ) arg10 fullShare X.sd
        ∗ owns (c : Thread nD τ) arg7 fullShare X.wd
        ∗ owns (c : Thread nD τ) arg4 fullShare X.dy
        ∗ owns (c : Thread nD τ) arg16 fullShare X.cd
        ∗ owns (c : Thread nD τ) arg20 fullShare (X.o20 i O20)
        ∗ owns (c : Thread nD τ) arg13 fullShare (X.dwd i)
        ∗ owns (c : Thread nD τ) arg22 fullShare (X.d22 i O22))) := by
  rw [k1_part5_eq_skeleton]; unfold k1_part5_skel
  iintro ⟨H2, H28, H29, H17, H10, H7, H4, H16, H20, H13, H22⟩
  ihave H2 := (owns_open harg2 _) $$ H2
  ihave H28 := (owns_open harg28 _) $$ H28
  ihave H29 := (owns_open harg29 _) $$ H29
  ihave H17 := (owns_open harg17 _) $$ H17
  have e2 : ∀ inb, View.readAt (Elt F) arg2.view (Rect.unit (s := S256x4096) ![0, 0] S256x4096.size inb).toLoadRect (harg2.unread X.c1) = X.c1 := fun inb => readAt_whole harg2 X.c1 inb
  sl_exec (disch := first | sl_exact hl | sl_exact hr)
  have e29 : arg29.view.read (Elt F) (arg29.view.writes (Elt F) (harg29.unread X.raw0) (part5_tf.sl.H29_1 c arg28 harg28 X)) = X.raw i := by
    unfold part5_tf.sl.H29_1
    rw [writes_cols harg29 0]
    unfold In.raw In.rawL; rw [if_neg hr, if_pos hl]
    simp only [View.readAt_eq_ld, Memref.IsWhole.read_unread]
  have e36 : part5_tf.sl.v36 c arg28 harg28 arg29 harg29 X = X.raw i := by
    unfold part5_tf.sl.v36
    rw [readAt_all, e29]
  rw [e36]
  ihave H29 := (owns_close _ _ e29) $$ H29
  ihave H17 := (owns_close (X.c2 i) _ (by unfold part5_tf.sl.H17_1; rw [e36]; exact writes_whole _ _ _ _)) $$ H17
  ihave H2 := (owns_close _ _ (harg2.read_unread _)) $$ H2
  ihave H28 := (owns_close _ _ (harg28.read_unread _)) $$ H28
  iapply (cut (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X _ _ _ O13 O16 O20 O22 E)) $$ [H10 H7 H4 H16 H20 H13 H22]
  · isplitl [H10]; · iexact H10
    isplitl [H7]; · iexact H7
    isplitl [H4]; · iexact H4
    isplitl [H16]; · iexact H16
    isplitl [H20]; · iexact H20
    isplitl [H13]; · iexact H13
    iexact H22
  iintro ⟨H10, H7, H4, H16, H20, H13, H22⟩
  sl_step
  isplitr
  · ipureintro; rfl
  isplitl [H2]; · iexact H2
  isplitl [H28]; · iexact H28
  isplitl [H29]; · iexact H29
  isplitl [H17]; · iexact H17
  isplitl [H10]; · iexact H10
  isplitl [H7]; · iexact H7
  isplitl [H4]; · iexact H4
  isplitl [H16]; · iexact H16
  isplitl [H20]; · iexact H20
  isplitl [H13]; · iexact H13
  iexact H22

end Run

end Cert.Kernel.Body
-- ==== Proof.K.Part5ft.lean ====
module

public import proofs.«01_k».proof.Proof.Gen.Kernel.Launch
public import proofs.«01_k».proof.Proof.Gen.Kernel.Skeleton
public import proofs.«01_k».proof.Proof.Gen.Kernel.Points
public import proofs.«01_k».proof.Proof.K.Trip2
public import proofs.«01_k».proof.Proof.K.Cols
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second part of the main call's body, in one of its four cases. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

set_option maxHeartbeats 2000000 in
/-- The second part: the halves computed again, the second activation and its codes, and the second loop: the right half alone computed again. -/
theorem part5_ft (hl : ¬ In.left i) (hr : In.right i) (O13 : Vec F S256x4096 .bf16) (O16 : Vec F S256x4096 .i8) (O17 : Vec F S256x256 .fp8e4m3) (O20 : Vec F S256x4096 .f32) (O22 : Vec F S8x4096 .f32) (E : Set ℕ) :
    (iprop(owns (c : Thread nD τ) arg2 fullShare X.c1
        ∗ owns (c : Thread nD τ) arg28 fullShare X.q28
        ∗ owns (c : Thread nD τ) arg29 fullShare X.raw0
        ∗ owns (c : Thread nD τ) arg17 fullShare O17
        ∗ owns (c : Thread nD τ) arg10 fullShare X.sd
        ∗ owns (c : Thread nD τ) arg7 fullShare X.wd
        ∗ owns (c : Thread nD τ) arg4 fullShare X.dy
        ∗ owns (c : Thread nD τ) arg16 fullShare O16
        ∗ owns (c : Thread nD τ) arg20 fullShare O20
        ∗ owns (c : Thread nD τ) arg13 fullShare O13
        ∗ owns (c : Thread nD τ) arg22 fullShare O22) : sProp 𝕄)
      ⊢ wp frame (wpE (defs₀ (F := F)) Variants.none c none) E (k1_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 0).val) X.s1 X.s2 X.v6 X.v8 k1_pay45 X.v23 (Scalar.extui (Scalar.cmpi .eq (Scalar.remsi (Scalar.addi (Scalar.muli (BitVec.ofNat 32 (i 0).val) 2#32) 0#32) 19#32) 18#32) : BitVec 32) 0#32)
          (fun r => iprop(⌜r = ⟨X.v40 i, X.v44, X.v45 i, X.v49 i, X.v59, X.v60 i, X.v62 i, X.v64 i, X.v66 i, In.v67⟩⌝
        ∗ owns (c : Thread nD τ) arg2 fullShare X.c1
        ∗ owns (c : Thread nD τ) arg28 fullShare X.q28
        ∗ owns (c : Thread nD τ) arg29 fullShare (X.raw i)
        ∗ owns (c : Thread nD τ) arg17 fullShare (X.c2 i)
        ∗ owns (c : Thread nD τ) arg10 fullShare X.sd
        ∗ owns (c : Thread nD τ) arg7 fullShare X.wd
        ∗ owns (c : Thread nD τ) arg4 fullShare X.dy
        ∗ owns (c : Thread nD τ) arg16 fullShare X.cd
        ∗ owns (c : Thread nD τ) arg20 fullShare (X.o20 i O20)
        ∗ owns (c : Thread nD τ) arg13 fullShare (X.dwd i)
        ∗ owns (c : Thread nD τ) arg22 fullShare (X.d22 i O22))) := by
  rw [k1_part5_eq_skeleton]; unfold k1_part5_skel
  iintro ⟨H2, H28, H29, H17, H10, H7, H4, H16, H20, H13, H22⟩
  ihave H2 := (owns_open harg2 _) $$ H2
  ihave H28 := (owns_open harg28 _) $$ H28
  ihave H29 := (owns_open harg29 _) $$ H29
  ihave H17 := (owns_open harg17 _) $$ H17
  have e2 : ∀ inb, View.readAt (Elt F) arg2.view (Rect.unit (s := S256x4096) ![0, 0] S256x4096.size inb).toLoadRect (harg2.unread X.c1) = X.c1 := fun inb => readAt_whole harg2 X.c1 inb
  sl_exec (disch := first | sl_exact hl | sl_exact hr)
  have e29 : arg29.view.read (Elt F) (arg29.view.writes (Elt F) (harg29.unread X.raw0) (part5_ft.sl.H29_1 c arg28 harg28 X)) = X.raw i := by
    unfold part5_ft.sl.H29_1
    rw [writes_cols harg29 128]
    unfold In.raw In.rawL; rw [if_pos hr, if_neg hl]
    simp only [View.readAt_eq_ld, Memref.IsWhole.read_unread]
  have e36 : part5_ft.sl.v36 c arg28 harg28 arg29 harg29 X = X.raw i := by
    unfold part5_ft.sl.v36
    rw [readAt_all, e29]
  rw [e36]
  ihave H29 := (owns_close _ _ e29) $$ H29
  ihave H17 := (owns_close (X.c2 i) _ (by unfold part5_ft.sl.H17_1; rw [e36]; exact writes_whole _ _ _ _)) $$ H17
  ihave H2 := (owns_close _ _ (harg2.read_unread _)) $$ H2
  ihave H28 := (owns_close _ _ (harg28.read_unread _)) $$ H28
  iapply (cut (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X _ _ _ O13 O16 O20 O22 E)) $$ [H10 H7 H4 H16 H20 H13 H22]
  · isplitl [H10]; · iexact H10
    isplitl [H7]; · iexact H7
    isplitl [H4]; · iexact H4
    isplitl [H16]; · iexact H16
    isplitl [H20]; · iexact H20
    isplitl [H13]; · iexact H13
    iexact H22
  iintro ⟨H10, H7, H4, H16, H20, H13, H22⟩
  sl_step
  isplitr
  · ipureintro; rfl
  isplitl [H2]; · iexact H2
  isplitl [H28]; · iexact H28
  isplitl [H29]; · iexact H29
  isplitl [H17]; · iexact H17
  isplitl [H10]; · iexact H10
  isplitl [H7]; · iexact H7
  isplitl [H4]; · iexact H4
  isplitl [H16]; · iexact H16
  isplitl [H20]; · iexact H20
  isplitl [H13]; · iexact H13
  iexact H22

end Run

end Cert.Kernel.Body
-- ==== Proof.K.Part5ff.lean ====
module

public import proofs.«01_k».proof.Proof.Gen.Kernel.Launch
public import proofs.«01_k».proof.Proof.Gen.Kernel.Skeleton
public import proofs.«01_k».proof.Proof.Gen.Kernel.Points
public import proofs.«01_k».proof.Proof.K.Trip2
public import proofs.«01_k».proof.Proof.K.Cols
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second part of the main call's body, in one of its four cases. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

set_option maxHeartbeats 2000000 in
/-- The second part: the halves computed again, the second activation and its codes, and the second loop: neither half computed again. -/
theorem part5_ff (hl : ¬ In.left i) (hr : ¬ In.right i) (O13 : Vec F S256x4096 .bf16) (O16 : Vec F S256x4096 .i8) (O17 : Vec F S256x256 .fp8e4m3) (O20 : Vec F S256x4096 .f32) (O22 : Vec F S8x4096 .f32) (E : Set ℕ) :
    (iprop(owns (c : Thread nD τ) arg2 fullShare X.c1
        ∗ owns (c : Thread nD τ) arg28 fullShare X.q28
        ∗ owns (c : Thread nD τ) arg29 fullShare X.raw0
        ∗ owns (c : Thread nD τ) arg17 fullShare O17
        ∗ owns (c : Thread nD τ) arg10 fullShare X.sd
        ∗ owns (c : Thread nD τ) arg7 fullShare X.wd
        ∗ owns (c : Thread nD τ) arg4 fullShare X.dy
        ∗ owns (c : Thread nD τ) arg16 fullShare O16
        ∗ owns (c : Thread nD τ) arg20 fullShare O20
        ∗ owns (c : Thread nD τ) arg13 fullShare O13
        ∗ owns (c : Thread nD τ) arg22 fullShare O22) : sProp 𝕄)
      ⊢ wp frame (wpE (defs₀ (F := F)) Variants.none c none) E (k1_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 0).val) X.s1 X.s2 X.v6 X.v8 k1_pay45 X.v23 (Scalar.extui (Scalar.cmpi .eq (Scalar.remsi (Scalar.addi (Scalar.muli (BitVec.ofNat 32 (i 0).val) 2#32) 0#32) 19#32) 18#32) : BitVec 32) 0#32)
          (fun r => iprop(⌜r = ⟨X.v40 i, X.v44, X.v45 i, X.v49 i, X.v59, X.v60 i, X.v62 i, X.v64 i, X.v66 i, In.v67⟩⌝
        ∗ owns (c : Thread nD τ) arg2 fullShare X.c1
        ∗ owns (c : Thread nD τ) arg28 fullShare X.q28
        ∗ owns (c : Thread nD τ) arg29 fullShare (X.raw i)
        ∗ owns (c : Thread nD τ) arg17 fullShare (X.c2 i)
        ∗ owns (c : Thread nD τ) arg10 fullShare X.sd
        ∗ owns (c : Thread nD τ) arg7 fullShare X.wd
        ∗ owns (c : Thread nD τ) arg4 fullShare X.dy
        ∗ owns (c : Thread nD τ) arg16 fullShare X.cd
        ∗ owns (c : Thread nD τ) arg20 fullShare (X.o20 i O20)
        ∗ owns (c : Thread nD τ) arg13 fullShare (X.dwd i)
        ∗ owns (c : Thread nD τ) arg22 fullShare (X.d22 i O22))) := by
  rw [k1_part5_eq_skeleton]; unfold k1_part5_skel
  iintro ⟨H2, H28, H29, H17, H10, H7, H4, H16, H20, H13, H22⟩
  ihave H2 := (owns_open harg2 _) $$ H2
  ihave H28 := (owns_open harg28 _) $$ H28
  ihave H29 := (owns_open harg29 _) $$ H29
  ihave H17 := (owns_open harg17 _) $$ H17
  have e2 : ∀ inb, View.readAt (Elt F) arg2.view (Rect.unit (s := S256x4096) ![0, 0] S256x4096.size inb).toLoadRect (harg2.unread X.c1) = X.c1 := fun inb => readAt_whole harg2 X.c1 inb
  sl_exec (disch := first | sl_exact hl | sl_exact hr)
  have e29 : arg29.view.read (Elt F) (harg29.unread X.raw0) = X.raw i := by
    unfold In.raw In.rawL; rw [if_neg hr, if_neg hl, harg29.read_unread]
  have e36 : ∀ inb, View.readAt (Elt F) arg29.view (Rect.unit (s := S256x256) ![0, 0] S256x256.size inb).toLoadRect (harg29.unread X.raw0) = X.raw i := fun inb => by
    rw [readAt_all, e29]
  rw [e36]
  ihave H29 := (owns_close _ _ e29) $$ H29
  ihave H17 := (owns_close (X.c2 i) _ (by unfold part5_ff.sl.H17_1; rw [e36]; exact writes_whole _ _ _ _)) $$ H17
  ihave H2 := (owns_close _ _ (harg2.read_unread _)) $$ H2
  ihave H28 := (owns_close _ _ (harg28.read_unread _)) $$ H28
  iapply (cut (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X _ _ _ O13 O16 O20 O22 E)) $$ [H10 H7 H4 H16 H20 H13 H22]
  · isplitl [H10]; · iexact H10
    isplitl [H7]; · iexact H7
    isplitl [H4]; · iexact H4
    isplitl [H16]; · iexact H16
    isplitl [H20]; · iexact H20
    isplitl [H13]; · iexact H13
    iexact H22
  iintro ⟨H10, H7, H4, H16, H20, H13, H22⟩
  sl_step
  isplitr
  · ipureintro; rfl
  isplitl [H2]; · iexact H2
  isplitl [H28]; · iexact H28
  isplitl [H29]; · iexact H29
  isplitl [H17]; · iexact H17
  isplitl [H10]; · iexact H10
  isplitl [H7]; · iexact H7
  isplitl [H4]; · iexact H4
  isplitl [H16]; · iexact H16
  isplitl [H20]; · iexact H20
  isplitl [H13]; · iexact H13
  iexact H22

end Run

end Cert.Kernel.Body
-- ==== Proof.K.Part6.lean ====
module

public import proofs.«01_k».proof.Proof.Gen.Kernel.Launch
public import proofs.«01_k».proof.Proof.Gen.Kernel.Skeleton
public import proofs.«01_k».proof.Proof.Gen.Kernel.Points
public import proofs.«01_k».proof.Proof.K.Cols
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The third part of the main call's body. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

set_option maxHeartbeats 1000000 in
/-- The third part: the partial sums of the second activation scale's gradient. -/
theorem part6 (O23 O24 O25 : Vec F S256x128 .f32) (E : Set ℕ) :
    (iprop(owns (c : Thread nD τ) arg25 fullShare O25
        ∗ owns (c : Thread nD τ) arg23 fullShare O23
        ∗ owns (c : Thread nD τ) arg24 fullShare O24) : sProp 𝕄)
      ⊢ wp frame (wpE (defs₀ (F := F)) Variants.none c none) E (k1_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (X.v49 i) X.v59 (X.v60 i) (X.v62 i) (X.v66 i) In.v67)
          (fun r => iprop(⌜r = X.p24 i O24⌝ ∗ owns (c : Thread nD τ) arg25 fullShare (X.p25 i O25)
        ∗ owns (c : Thread nD τ) arg23 fullShare (X.p23 i O23)
        ∗ owns (c : Thread nD τ) arg24 fullShare O24)) := by
  rw [k1_part6_eq_skeleton]; unfold k1_part6_skel
  iintro ⟨H25, H23, H24⟩
  ihave H25 := (owns_open harg25 _) $$ H25
  ihave H23 := (owns_open harg23 _) $$ H23
  ihave H24 := (owns_open harg24 _) $$ H24
  have e25 : ∀ inb, View.readAt (Elt F) arg25.view (Rect.unit (s := S256x128) ![0, 0] S256x128.size inb).toLoadRect (harg25.unread O25) = O25 := fun inb => readAt_whole harg25 O25 inb
  have e23 : ∀ inb, View.readAt (Elt F) arg23.view (Rect.unit (s := S256x128) ![0, 0] S256x128.size inb).toLoadRect (harg23.unread O23) = O23 := fun inb => readAt_whole harg23 O23 inb
  have e24 : ∀ inb, View.readAt (Elt F) arg24.view (Rect.unit (s := S256x128) ![0, 0] S256x128.size inb).toLoadRect (harg24.unread O24) = O24 := fun inb => readAt_whole harg24 O24 inb
  sl_exec
  (try rw [e25]); (try rw [e23]); (try rw [e24])
  sl_step
  isplitr
  · ipureintro; rfl
  isplitl [H25]
  · iapply (owns_close (X.p25 i O25) _ (by (try unfold part6.sl.H25_1); (try rw [e25]); exact writes_whole _ _ _ _)) $$ H25
  isplitl [H23]
  · iapply (owns_close (X.p23 i O23) _ (by (try unfold part6.sl.H23_1); (try rw [e23]); exact writes_whole _ _ _ _)) $$ H23
  iapply (owns_close O24 _ (harg24.read_unread _)) $$ H24

end Run

end Cert.Kernel.Body
-- ==== Proof.K.Trip3.lean ====
module

public import proofs.«01_k».proof.Proof.Gen.Kernel.Launch
public import proofs.«01_k».proof.Proof.Gen.Kernel.Skeleton
public import proofs.«01_k».proof.Proof.Gen.Kernel.Points
public import proofs.«01_k».proof.Proof.K.Values1
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The main call's third loop. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

/-- One trip of the third loop: one block of rows of the gate's and the up projection's gradients. -/
theorem trip3 (O11 : Vec F S4096x256 .bf16) (O12 : Vec F S4096x256 .bf16) (O21 : Vec F S4096x256 .f32) (k : Fin k1_t3_loop.trips) (acc : FVec F S8x256 .f32 × FVec F S8x256 .f32) (E : Set ℕ) :
    (iprop(⌜acc = (X.accg i k.val, X.accu i k.val)⌝ ∗ owns (c : Thread nD τ) arg3 fullShare X.ct
        ∗ owns (c : Thread nD τ) arg26 fullShare X.w26
        ∗ owns (c : Thread nD τ) arg27 fullShare X.m27
        ∗ owns (c : Thread nD τ) arg11 fullShare (mix 0 k.val (X.dwg i) O11)
        ∗ owns (c : Thread nD τ) arg12 fullShare (mix 0 k.val (X.dwu i) O12)
        ∗ owns (c : Thread nD τ) arg21 fullShare (mix 0 k.val (X.d21 i O21) O21)) : sProp 𝕄)
      ⊢ wp frame (wpE (defs₀ (F := F)) Variants.none c none) E (k1_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X.s1 (X.v40 i) X.v44 (X.v45 i) (X.v64 i) k acc)
          (fun r => iprop(⌜r = (X.accg i (k.val + 1), X.accu i (k.val + 1))⌝ ∗ owns (c : Thread nD τ) arg3 fullShare X.ct
        ∗ owns (c : Thread nD τ) arg26 fullShare X.w26
        ∗ owns (c : Thread nD τ) arg27 fullShare X.m27
        ∗ owns (c : Thread nD τ) arg11 fullShare (mix 0 (k.val + 1) (X.dwg i) O11)
        ∗ owns (c : Thread nD τ) arg12 fullShare (mix 0 (k.val + 1) (X.dwu i) O12)
        ∗ owns (c : Thread nD τ) arg21 fullShare (mix 0 (k.val + 1) (X.d21 i O21) O21))) := by
  have hk : k.val < 8 := Nat.lt_of_lt_of_le k.isLt k1_t3_abs.2.1
  unfold k1_t3_body
  simp only [k1_part3_eq_skeleton]
  iintro ⟨%hacc, H3, H26, H27, H11, H12, H21⟩
  subst hacc
  ihave H3 := (owns_open harg3 _) $$ H3
  ihave H26 := (owns_open harg26 _) $$ H26
  ihave H27 := (owns_open harg27 _) $$ H27
  ihave H11 := (owns_open harg11 _) $$ H11
  ihave H12 := (owns_open harg12 _) $$ H12
  ihave H21 := (owns_open harg21 _) $$ H21
  sl_exec
  sl_step
  have e3 : ∀ inb, View.readAt (Elt F) arg3.view (Rect.unit (s := S4096x256) (k1_off7 k) S512x256.size inb).toLoadRect (harg3.unread X.ct) = X.bct k.val := fun inb => readAt_row (w := 256) harg3 X.ct k.val 0 _ (k1_off7_eq k) inb
  have e26 : ∀ inb, View.readAt (Elt F) arg26.view (Rect.unit (s := S4096x512) (k1_off10 k) S512x512.size inb).toLoadRect (harg26.unread X.w26) = rowBlk 512 0 X.w26 k.val := fun inb => readAt_row (w := 512) harg26 X.w26 k.val 0 _ (k1_off10_eq k) inb
  have e27 : ∀ inb, View.readAt (Elt F) arg27.view (Rect.unit (s := S4096x512) (k1_off8 k) S512x256.size inb).toLoadRect (harg27.unread X.m27) = rowBlk 256 0 X.m27 k.val := fun inb => readAt_row (w := 256) harg27 X.m27 k.val 0 _ (k1_off8_eq k) inb
  have e28 : ∀ inb, View.readAt (Elt F) arg27.view (Rect.unit (s := S4096x512) (k1_off9 k) S512x256.size inb).toLoadRect (harg27.unread X.m27) = rowBlk 256 256 X.m27 k.val := fun inb => readAt_row (w := 256) harg27 X.m27 k.val 256 _ (k1_off9_eq k) inb
  have e21 : ∀ inb, View.readAt (Elt F) arg21.view (Rect.unit (s := S4096x256) (k1_off7 k) S512x256.size inb).toLoadRect (harg21.unread (mix 0 k.val (X.d21 i O21) O21)) = rowBlk 256 0 O21 k.val := fun inb => (readAt_row (w := 256) harg21 _ k.val 0 _ (k1_off7_eq k) inb).trans (rowBlk_mix _ _ _ _ _ (by omega))
  isplitr
  · ipureintro
    unfold trip3.sl.r trip3.sl.r_1
    rw [e3, e27, e28]; rfl
  isplitl [H3]; · iapply (owns_close _ _ (harg3.read_unread _)) $$ H3
  isplitl [H26]; · iapply (owns_close _ _ (harg26.read_unread _)) $$ H26
  isplitl [H27]; · iapply (owns_close _ _ (harg27.read_unread _)) $$ H27
  isplitl [H11]; · iapply (owns_close _ _ (by rw [e3, e27]; exact writes_row harg11 k.val _ O11 _ (k1_off7_eq k) (k1_off7_inb k) _ rfl)) $$ H11
  isplitl [H12]; · iapply (owns_close _ _ (by rw [e3, e28]; exact writes_row harg12 k.val _ O12 _ (k1_off7_eq k) (k1_off7_inb k) _ rfl)) $$ H12
  iapply (owns_close _ _ (by unfold trip3.sl.r_2; rw [e26, e21]; exact writes_row harg21 k.val _ O21 _ (k1_off7_eq k) (k1_off7_inb k) _ rfl)) $$ H21

/-- The third loop. -/
theorem loop3 (O11 : Vec F S4096x256 .bf16) (O12 : Vec F S4096x256 .bf16) (O21 : Vec F S4096x256 .f32) (E : Set ℕ) :
    (iprop(owns (c : Thread nD τ) arg3 fullShare X.ct
        ∗ owns (c : Thread nD τ) arg26 fullShare X.w26
        ∗ owns (c : Thread nD τ) arg27 fullShare X.m27
        ∗ owns (c : Thread nD τ) arg11 fullShare O11
        ∗ owns (c : Thread nD τ) arg12 fullShare O12
        ∗ owns (c : Thread nD τ) arg21 fullShare O21) : sProp 𝕄)
      ⊢ wp frame (wpE (defs₀ (F := F)) Variants.none c none) E (Scf.Loop.for k1_t3_loop k1_t3_ok (k1_pay3, k1_pay3) (k1_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X.s1 (X.v40 i) X.v44 (X.v45 i) (X.v64 i)))
          (fun r => iprop(⌜r = (X.accg i 8, X.accu i 8)⌝ ∗ owns (c : Thread nD τ) arg3 fullShare X.ct
        ∗ owns (c : Thread nD τ) arg26 fullShare X.w26
        ∗ owns (c : Thread nD τ) arg27 fullShare X.m27
        ∗ owns (c : Thread nD τ) arg11 fullShare (X.dwg i)
        ∗ owns (c : Thread nD τ) arg12 fullShare (X.dwu i)
        ∗ owns (c : Thread nD τ) arg21 fullShare (X.d21 i O21))) := by
  have ht : k1_t3_loop.trips = 8 := by decide
  iintro ⟨H3, H26, H27, H11, H12, H21⟩
  sl_for (fun k acc => iprop(⌜acc = (X.accg i k, X.accu i k)⌝ ∗ owns (c : Thread nD τ) arg3 fullShare X.ct
        ∗ owns (c : Thread nD τ) arg26 fullShare X.w26
        ∗ owns (c : Thread nD τ) arg27 fullShare X.m27
        ∗ owns (c : Thread nD τ) arg11 fullShare (mix 0 k (X.dwg i) O11)
        ∗ owns (c : Thread nD τ) arg12 fullShare (mix 0 k (X.dwu i) O12)
        ∗ owns (c : Thread nD τ) arg21 fullShare (mix 0 k (X.d21 i O21) O21))) $$ [H3 H26 H27 H11 H12 H21]
  · intro k acc; exact trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X O11 O12 O21 k acc E
  isplitl [H3 H26 H27 H11 H12 H21]
  · isplitr
    · ipureintro; rfl
    isplitl [H3]; · iexact H3
    isplitl [H26]; · iexact H26
    isplitl [H27]; · iexact H27
    isplitl [H11]; · iexact H11
    isplitl [H12]; · iexact H12
    iexact H21
  iintro %acc ⟨%h, H3, H26, H27, H11, H12, H21⟩
  rw [mix_full 0 _ _ O11 (by decide), mix_full 0 _ _ O12 (by decide), mix_full 0 _ _ O21 (by decide)]
  isplitr
  · ipureintro; exact h.trans (congrArg (fun k => (X.accg i k, X.accu i k)) ht)
  isplitl [H3]; · iexact H3
  isplitl [H26]; · iexact H26
  isplitl [H27]; · iexact H27
  isplitl [H11]; · iexact H11
  isplitl [H12]; · iexact H12
  iexact H21

end Run

end Cert.Kernel.Body
-- ==== Proof.K.Body1.lean ====
module

public import proofs.«01_k».proof.Proof.Gen.Kernel.Launch
public import proofs.«01_k».proof.Proof.Gen.Kernel.Skeleton
public import proofs.«01_k».proof.Proof.Gen.Kernel.Points
public import proofs.«01_k».proof.Proof.K.Part4
public import proofs.«01_k».proof.Proof.K.Part5tt
public import proofs.«01_k».proof.Proof.K.Part5tf
public import proofs.«01_k».proof.Proof.K.Part5ft
public import proofs.«01_k».proof.Proof.K.Part5ff
public import proofs.«01_k».proof.Proof.K.Part6
public import proofs.«01_k».proof.Proof.K.Trip3
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The main call's body at one step. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

section Run

variable (c : Dev nD) (i : grid1.Coords) (arg1 : Memref sig .tc .smem S2 .f32) (harg1 : arg1.IsWhole) (arg2 : Memref sig .tc .vmem S256x4096 .fp8e4m3) (harg2 : arg2.IsWhole) (arg3 : Memref sig .tc .vmem S4096x256 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S256x4096 .bf16) (harg13 : arg13.IsWhole) (arg14 : Memref sig .tc .vmem S4096x256 .i8) (harg14 : arg14.IsWhole) (arg15 : Memref sig .tc .vmem S4096x256 .i8) (harg15 : arg15.IsWhole) (arg16 : Memref sig .tc .vmem S256x4096 .i8) (harg16 : arg16.IsWhole) (arg17 : Memref sig .tc .vmem S256x256 .fp8e4m3) (harg17 : arg17.IsWhole) (arg18 : Memref sig .tc .vmem S1x256 .f32) (harg18 : arg18.IsWhole) (arg19 : Memref sig .tc .vmem S1x256 .f32) (harg19 : arg19.IsWhole) (arg20 : Memref sig .tc .vmem S256x4096 .f32) (harg20 : arg20.IsWhole) (arg21 : Memref sig .tc .vmem S4096x256 .f32) (harg21 : arg21.IsWhole) (arg22 : Memref sig .tc .vmem S8x4096 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S4096x512 .bf16) (harg26 : arg26.IsWhole) (arg27 : Memref sig .tc .vmem S4096x512 .f32) (harg27 : arg27.IsWhole) (arg28 : Memref sig .tc .vmem S4096x512 .fp8e4m3) (harg28 : arg28.IsWhole) (arg29 : Memref sig .tc .vmem S256x256 .f32) (harg29 : arg29.IsWhole)
variable (X : In F)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29

/-- The second part: the halves computed again, the second activation and its codes, and the second loop. -/
theorem part5 (O13 : Vec F S256x4096 .bf16) (O16 : Vec F S256x4096 .i8) (O17 : Vec F S256x256 .fp8e4m3) (O20 : Vec F S256x4096 .f32) (O22 : Vec F S8x4096 .f32) (E : Set ℕ) :
    (iprop(owns (c : Thread nD τ) arg2 fullShare X.c1
        ∗ owns (c : Thread nD τ) arg28 fullShare X.q28
        ∗ owns (c : Thread nD τ) arg29 fullShare X.raw0
        ∗ owns (c : Thread nD τ) arg17 fullShare O17
        ∗ owns (c : Thread nD τ) arg10 fullShare X.sd
        ∗ owns (c : Thread nD τ) arg7 fullShare X.wd
        ∗ owns (c : Thread nD τ) arg4 fullShare X.dy
        ∗ owns (c : Thread nD τ) arg16 fullShare O16
        ∗ owns (c : Thread nD τ) arg20 fullShare O20
        ∗ owns (c : Thread nD τ) arg13 fullShare O13
        ∗ owns (c : Thread nD τ) arg22 fullShare O22) : sProp 𝕄)
      ⊢ wp frame (wpE (defs₀ (F := F)) Variants.none c none) E (k1_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 0).val) X.s1 X.s2 X.v6 X.v8 k1_pay45 X.v23 (Scalar.extui (Scalar.cmpi .eq (Scalar.remsi (Scalar.addi (Scalar.muli (BitVec.ofNat 32 (i 0).val) 2#32) 0#32) 19#32) 18#32) : BitVec 32) 0#32)
          (fun r => iprop(⌜r = ⟨X.v40 i, X.v44, X.v45 i, X.v49 i, X.v59, X.v60 i, X.v62 i, X.v64 i, X.v66 i, In.v67⟩⌝
        ∗ owns (c : Thread nD τ) arg2 fullShare X.c1
        ∗ owns (c : Thread nD τ) arg28 fullShare X.q28
        ∗ owns (c : Thread nD τ) arg29 fullShare (X.raw i)
        ∗ owns (c : Thread nD τ) arg17 fullShare (X.c2 i)
        ∗ owns (c : Thread nD τ) arg10 fullShare X.sd
        ∗ owns (c : Thread nD τ) arg7 fullShare X.wd
        ∗ owns (c : Thread nD τ) arg4 fullShare X.dy
        ∗ owns (c : Thread nD τ) arg16 fullShare X.cd
        ∗ owns (c : Thread nD τ) arg20 fullShare (X.o20 i O20)
        ∗ owns (c : Thread nD τ) arg13 fullShare (X.dwd i)
        ∗ owns (c : Thread nD τ) arg22 fullShare (X.d22 i O22))) := by
  by_cases hl : In.left i
  · by_cases hr : In.right i
    · exact part5_tt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X hl hr O13 O16 O17 O20 O22 E
    · exact part5_tf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X hl hr O13 O16 O17 O20 O22 E
  · by_cases hr : In.right i
    · exact part5_ft c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X hl hr O13 O16 O17 O20 O22 E
    · exact part5_ff c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X hl hr O13 O16 O17 O20 O22 E

set_option maxHeartbeats 2000000 in
/-- **The main call's body at one step**: what each of its outputs, accumulators and scratch buffers holds after it. -/
theorem body1 (O11 : Vec F S4096x256 .bf16) (O12 : Vec F S4096x256 .bf16) (O13 : Vec F S256x4096 .bf16) (O14 : Vec F S4096x256 .i8) (O15 : Vec F S4096x256 .i8) (O16 : Vec F S256x4096 .i8) (O17 : Vec F S256x256 .fp8e4m3) (O18 : Vec F S1x256 .f32) (O19 : Vec F S1x256 .f32) (O20 : Vec F S256x4096 .f32) (O21 : Vec F S4096x256 .f32) (O22 : Vec F S8x4096 .f32) (O23 : Vec F S256x128 .f32) (O24 : Vec F S256x128 .f32) (O25 : Vec F S256x128 .f32) (O26 : Vec F S4096x512 .bf16) (O27 : Vec F S4096x512 .f32) (O28 : Vec F S4096x512 .fp8e4m3) (O29 : Vec F S256x256 .f32) (E : Set ℕ) (K : PUnit → sProp 𝕄) :
    (iprop(owns (c : Thread nD τ) arg1 fullShare X.s
        ∗ owns (c : Thread nD τ) arg2 fullShare X.c1
        ∗ owns (c : Thread nD τ) arg3 fullShare X.ct
        ∗ owns (c : Thread nD τ) arg4 fullShare X.dy
        ∗ owns (c : Thread nD τ) arg5 fullShare X.wg
        ∗ owns (c : Thread nD τ) arg6 fullShare X.wu
        ∗ owns (c : Thread nD τ) arg7 fullShare X.wd
        ∗ owns (c : Thread nD τ) arg8 fullShare X.sg
        ∗ owns (c : Thread nD τ) arg9 fullShare X.su
        ∗ owns (c : Thread nD τ) arg10 fullShare X.sd
        ∗ owns (c : Thread nD τ) arg11 fullShare O11
        ∗ owns (c : Thread nD τ) arg12 fullShare O12
        ∗ owns (c : Thread nD τ) arg13 fullShare O13
        ∗ owns (c : Thread nD τ) arg14 fullShare O14
        ∗ owns (c : Thread nD τ) arg15 fullShare O15
        ∗ owns (c : Thread nD τ) arg16 fullShare O16
        ∗ owns (c : Thread nD τ) arg17 fullShare O17
        ∗ owns (c : Thread nD τ) arg18 fullShare O18
        ∗ owns (c : Thread nD τ) arg19 fullShare O19
        ∗ owns (c : Thread nD τ) arg20 fullShare O20
        ∗ owns (c : Thread nD τ) arg21 fullShare O21
        ∗ owns (c : Thread nD τ) arg22 fullShare O22
        ∗ owns (c : Thread nD τ) arg23 fullShare O23
        ∗ owns (c : Thread nD τ) arg24 fullShare O24
        ∗ owns (c : Thread nD τ) arg25 fullShare O25
        ∗ owns (c : Thread nD τ) arg26 fullShare O26
        ∗ owns (c : Thread nD τ) arg27 fullShare O27
        ∗ owns (c : Thread nD τ) arg28 fullShare O28
        ∗ owns (c : Thread nD τ) arg29 fullShare O29
      ∗ (iprop(owns (c : Thread nD τ) arg1 fullShare X.s
        ∗ owns (c : Thread nD τ) arg2 fullShare X.c1
        ∗ owns (c : Thread nD τ) arg3 fullShare X.ct
        ∗ owns (c : Thread nD τ) arg4 fullShare X.dy
        ∗ owns (c : Thread nD τ) arg5 fullShare X.wg
        ∗ owns (c : Thread nD τ) arg6 fullShare X.wu
        ∗ owns (c : Thread nD τ) arg7 fullShare X.wd
        ∗ owns (c : Thread nD τ) arg8 fullShare X.sg
        ∗ owns (c : Thread nD τ) arg9 fullShare X.su
        ∗ owns (c : Thread nD τ) arg10 fullShare X.sd
        ∗ owns (c : Thread nD τ) arg11 fullShare (X.dwg i)
        ∗ owns (c : Thread nD τ) arg12 fullShare (X.dwu i)
        ∗ owns (c : Thread nD τ) arg13 fullShare (X.dwd i)
        ∗ owns (c : Thread nD τ) arg14 fullShare X.cg
        ∗ owns (c : Thread nD τ) arg15 fullShare X.cu
        ∗ owns (c : Thread nD τ) arg16 fullShare X.cd
        ∗ owns (c : Thread nD τ) arg17 fullShare (X.c2 i)
        ∗ owns (c : Thread nD τ) arg18 fullShare (X.dsg i)
        ∗ owns (c : Thread nD τ) arg19 fullShare (X.dsu i)
        ∗ owns (c : Thread nD τ) arg20 fullShare (X.o20 i (In.z20 i O20))
        ∗ owns (c : Thread nD τ) arg21 fullShare (X.d21 i (In.z21 i O21))
        ∗ owns (c : Thread nD τ) arg22 fullShare (X.d22 i (In.z22 i O22))
        ∗ owns (c : Thread nD τ) arg23 fullShare (X.p23 i (In.z23 i O23))
        ∗ owns (c : Thread nD τ) arg24 fullShare (X.p24 i (In.z24 i O24))
        ∗ owns (c : Thread nD τ) arg25 fullShare (X.p25 i (In.z25 i O25))
        ∗ owns (c : Thread nD τ) arg26 fullShare X.w26
        ∗ owns (c : Thread nD τ) arg27 fullShare X.m27
        ∗ owns (c : Thread nD τ) arg28 fullShare X.q28
        ∗ owns (c : Thread nD τ) arg29 fullShare (X.raw i)) -∗ K ⟨⟩)) : sProp 𝕄)
      ⊢ wp frame (wpE (defs₀ (F := F)) Variants.none c none) E (cc1_mlp_fwd_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  rw [cc1_mlp_fwd_bwd_eq_skeleton]; unfold cc1_mlp_fwd_bwd_skel
  iintro ⟨H1, H2, H3, H4, H5, H6, H7, H8, H9, H10, H11, H12, H13, H14, H15, H16, H17, H18, H19, H20, H21, H22, H23, H24, H25, H26, H27, H28, H29, HK⟩
  iapply (cut (part4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X O14 O15 O26 O27 O28 O29 O20 O21 O22 O23 O24 O25 E)) $$ [H1 H2 H5 H6 H8 H9 H14 H15 H26 H27 H28 H29 H20 H21 H22 H23 H24 H25]
  · isplitl [H1]; · iexact H1
    isplitl [H2]; · iexact H2
    isplitl [H5]; · iexact H5
    isplitl [H6]; · iexact H6
    isplitl [H8]; · iexact H8
    isplitl [H9]; · iexact H9
    isplitl [H14]; · iexact H14
    isplitl [H15]; · iexact H15
    isplitl [H26]; · iexact H26
    isplitl [H27]; · iexact H27
    isplitl [H28]; · iexact H28
    isplitl [H29]; · iexact H29
    isplitl [H20]; · iexact H20
    isplitl [H21]; · iexact H21
    isplitl [H22]; · iexact H22
    isplitl [H23]; · iexact H23
    isplitl [H24]; · iexact H24
    iexact H25
  iintro ⟨H1, H2, H5, H6, H8, H9, H14, H15, H26, H27, H28, H29, H20, H21, H22, H23, H24, H25⟩
  iapply (cut (part5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X O13 O16 O17 (In.z20 i O20) (In.z22 i O22) E)) $$ [H2 H28 H29 H17 H10 H7 H4 H16 H20 H13 H22]
  · isplitl [H2]; · iexact H2
    isplitl [H28]; · iexact H28
    isplitl [H29]; · iexact H29
    isplitl [H17]; · iexact H17
    isplitl [H10]; · iexact H10
    isplitl [H7]; · iexact H7
    isplitl [H4]; · iexact H4
    isplitl [H16]; · iexact H16
    isplitl [H20]; · iexact H20
    isplitl [H13]; · iexact H13
    iexact H22
  iintro ⟨H2, H28, H29, H17, H10, H7, H4, H16, H20, H13, H22⟩
  iapply (cut (part6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X (In.z23 i O23) (In.z24 i O24) (In.z25 i O25) E)) $$ [H25 H23 H24]
  · isplitl [H25]; · iexact H25
    isplitl [H23]; · iexact H23
    iexact H24
  iintro ⟨H25, H23, H24⟩
  ihave H24 := (owns_open harg24 _) $$ H24
  sl_exec
  iapply (cut (loop3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X O11 O12 (In.z21 i O21) E)) $$ [H3 H26 H27 H11 H12 H21]
  · isplitl [H3]; · iexact H3
    isplitl [H26]; · iexact H26
    isplitl [H27]; · iexact H27
    isplitl [H11]; · iexact H11
    isplitl [H12]; · iexact H12
    iexact H21
  iintro ⟨H3, H26, H27, H11, H12, H21⟩
  ihave H18 := (owns_open harg18 _) $$ H18
  ihave H19 := (owns_open harg19 _) $$ H19
  sl_exec
  sl_step
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · iapply (owns_close (X.dsg i) _ (by (try unfold body1.sl.H18_1); exact writes_whole _ _ _ _)) $$ H18
  isplitl [H19]
  · iapply (owns_close (X.dsu i) _ (by (try unfold body1.sl.H19_1); exact writes_whole _ _ _ _)) $$ H19
  isplitl [H20]; · iexact H20
  isplitl [H21]; · iexact H21
  isplitl [H22]; · iexact H22
  isplitl [H23]; · iexact H23
  isplitl [H24]
  · iapply (owns_close (X.p24 i (In.z24 i O24)) _ (by (try unfold body1.sl.H24_1); exact writes_whole _ _ _ _)) $$ H24
  isplitl [H25]; · iexact H25
  isplitl [H26]; · iexact H26
  isplitl [H27]; · iexact H27
  isplitl [H28]; · iexact H28
  iexact H29

end Run

end Cert.Kernel.Body
-- ==== Proof.K.Region1.lean ====
module

public import proofs.«01_k».proof.Proof.Gen.Kernel.Launch
public import proofs.«01_k».proof.Proof.Gen.Kernel.Skeleton
public import proofs.«01_k».proof.Proof.Gen.Kernel.Points
public import proofs.«01_k».proof.Proof.K.Body1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The main call: what its pipeline holds at each step, and that its body keeps it. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Body Cert.Tiles

variable {F : FTy → Type} [BitOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

/-- The block of window `w` at step `t`. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first step. -/
abbrev cond1_0 (i : grid1.Coords) : Prop := (Scalar.cmpi .ne (Scalar.extui (Scalar.cmpi .eq (BitVec.ofNat 32 (i 0).val) 0#32)) 0#32) = 1#1
/-- The branch that clears the accumulators is taken at the first grid step only. -/
theorem hcond1_0 : ∀ t : Fin cfg1.N, cond1_0 (grid1.coords t) ↔ t.val % 56 = 0 :=
  (fun t => by
    have ht : t.val < 56 := Nat.lt_of_lt_of_eq t.isLt N_1
    have e0 : (grid1.coords t 0).val = t.val / 1 % 56 := Pipeline.Grid.coords_val t 0 (by decide) rfl
    simp only [cond1_0, e0]
    word_cmp
   : ∀ t : Fin grid1.N, cond1_0 (grid1.coords t) ↔ t.val % 56 = 0)

/-- Input window 0 holds its block at every step. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every step. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every step. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block at every step. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block at every step. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 holds its block at every step. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6 holds its block at every step. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7 holds its block at every step. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8 holds its block at every step. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9 holds its block at every step. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .smem S2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x4096 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x4096 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S4096x256 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4096x256 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x4096 .bf16 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S4096x256 .i8 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S4096x256 .i8 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S256x4096 .i8 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S256x256 .fp8e4m3 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x256 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1x256 .f32 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S256x4096 .f32 := win1_19.stage (cfg1.slots t 19)
abbrev hs1_19 (t : Fin cfg1.N) : (ms1_19 t).IsWhole := hstage1_19 ((cfg1.slots t 19).cast nbuf1_19)
abbrev ms1_20 (t : Fin cfg1.N) : Memref sig .tc .vmem S4096x256 .f32 := win1_20.stage (cfg1.slots t 20)
abbrev hs1_20 (t : Fin cfg1.N) : (ms1_20 t).IsWhole := hstage1_20 ((cfg1.slots t 20).cast nbuf1_20)
abbrev ms1_21 (t : Fin cfg1.N) : Memref sig .tc .vmem S8x4096 .f32 := win1_21.stage (cfg1.slots t 21)
abbrev hs1_21 (t : Fin cfg1.N) : (ms1_21 t).IsWhole := hstage1_21 ((cfg1.slots t 21).cast nbuf1_21)
abbrev ms1_22 (t : Fin cfg1.N) : Memref sig .tc .vmem S256x128 .f32 := win1_22.stage (cfg1.slots t 22)
abbrev hs1_22 (t : Fin cfg1.N) : (ms1_22 t).IsWhole := hstage1_22 ((cfg1.slots t 22).cast nbuf1_22)
abbrev ms1_23 (t : Fin cfg1.N) : Memref sig .tc .vmem S256x128 .f32 := win1_23.stage (cfg1.slots t 23)
abbrev hs1_23 (t : Fin cfg1.N) : (ms1_23 t).IsWhole := hstage1_23 ((cfg1.slots t 23).cast nbuf1_23)
abbrev ms1_24 (t : Fin cfg1.N) : Memref sig .tc .vmem S256x128 .f32 := win1_24.stage (cfg1.slots t 24)
abbrev hs1_24 (t : Fin cfg1.N) : (ms1_24 t).IsWhole := hstage1_24 ((cfg1.slots t 24).cast nbuf1_24)
abbrev scM1_0 : Memref sig .tc .vmem S4096x512 .bf16 := Memref.whole cc1_scratch0
abbrev scM1_1 : Memref sig .tc .vmem S4096x512 .f32 := Memref.whole cc1_scratch1
abbrev scM1_2 : Memref sig .tc .vmem S4096x512 .fp8e4m3 := Memref.whole cc1_scratch2
abbrev scM1_3 : Memref sig .tc .vmem S256x256 .f32 := Memref.whole cc1_scratch3

/-- The scoped buffers as the scratch buffers and the rest. -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ Pipeline.scopedRestBut spec1 c [cc1_scratch0, cc1_scratch1, cc1_scratch2, cc1_scratch3]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest1_split, assoc, assoc, assoc]

/-- The invariant with the scratch buffers owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ Pipeline.scopedRestBut spec1 c [cc1_scratch0, cc1_scratch1, cc1_scratch2, cc1_scratch3]) ∗ (∃ r, prngReg c r)) := by
  unfold Pipeline.ΦA; rw [scopedRest1_flat]; simp only [scM1_0, scM1_1, scM1_2, scM1_3, owns_whole]; try rfl

/-- The main call's operands at step `t`. -/
def in1 (c : Dev nD) (t : Fin cfg1.N) : In F where
  s := iblk1 V c 0 t
  c1 := iblk1 V c 1 t
  ct := iblk1 V c 2 t
  dy := iblk1 V c 3 t
  wg := iblk1 V c 4 t
  wu := iblk1 V c 5 t
  wd := iblk1 V c 6 t
  sg := iblk1 V c 7 t
  su := iblk1 V c 8 t
  sd := iblk1 V c 9 t

/-- The six outputs that are added up over the steps. -/
structure Acc (F : FTy → Type) [BitOps F] where
  a20 : Vec F S256x4096 .f32
  a21 : Vec F S4096x256 .f32
  a22 : Vec F S8x4096 .f32
  a23 : Vec F S256x128 .f32
  a24 : Vec F S256x128 .f32
  a25 : Vec F S256x128 .f32

/-- One step of the sums. -/
def stepAcc (X : In F) (i : grid1.Coords) (A : Acc F) : Acc F where
  a20 := X.o20 i (In.z20 i A.a20)
  a21 := X.d21 i (In.z21 i A.a21)
  a22 := X.d22 i (In.z22 i A.a22)
  a23 := X.p23 i (In.z23 i A.a23)
  a24 := X.p24 i (In.z24 i A.a24)
  a25 := X.p25 i (In.z25 i A.a25)

/-- The sums before the first step. -/
def acc0 : Acc F := ⟨k1_pay35, k1_pay36, k1_pay37, k1_pay38, k1_pay39, k1_pay40⟩

/-- The sums after step `n`. -/
def accAt (c : Dev nD) : (n : ℕ) → n < cfg1.N → Acc F
  | 0, h => stepAcc (in1 V c ⟨0, h⟩) (grid1.coords ⟨0, h⟩) acc0
  | n + 1, h => stepAcc (in1 V c ⟨n + 1, h⟩) (grid1.coords ⟨n + 1, h⟩) (accAt c n (Nat.lt_of_succ_lt h))

/-- At the first step the sums do not depend on what the buffers hold. -/
theorem acc_first (c : Dev nD) (t : Fin cfg1.N) (h0 : t.val % 56 = 0) (O20 : Vec F S256x4096 .f32) (O21 : Vec F S4096x256 .f32)
    (O22 : Vec F S8x4096 .f32) (O23 O24 O25 : Vec F S256x128 .f32) :
    accAt V c t.val t.isLt = stepAcc (in1 V c t) (grid1.coords t) ⟨O20, O21, O22, O23, O24, O25⟩ := by
  have hN : t.val < 56 := lt_of_lt_of_eq t.isLt (show cfg1.N = 56 from N_1)
  obtain ⟨n, hn⟩ := t
  obtain rfl : n = 0 := by dsimp only at h0 hN; omega
  have hf : In.first (grid1.coords ⟨0, hn⟩) := (hcond1_0 ⟨0, hn⟩).mpr h0
  simp only [accAt, stepAcc, In.z20, In.z21, In.z22, In.z23, In.z24, In.z25, if_pos hf]

/-- At a later step the sums continue from the step before. -/
theorem acc_next (c : Dev nD) (t : Fin cfg1.N) (h0 : ¬t.val % 56 = 0) :
    accAt V c t.val t.isLt = stepAcc (in1 V c t) (grid1.coords t) (accAt V c (t.val - 1) (Nat.lt_of_le_of_lt (Nat.sub_le _ _) t.isLt)) := by
  obtain ⟨n, hn⟩ := t
  match n, hn, h0 with
  | 0, _, h0 => exact absurd rfl h0
  | n + 1, _, _ => rfl

/-- The proof data: every window after each step. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (in1 V c t).dwg (grid1.coords t)
    | ⟨11, _⟩ => (in1 V c t).dwu (grid1.coords t)
    | ⟨12, _⟩ => (in1 V c t).dwd (grid1.coords t)
    | ⟨13, _⟩ => (in1 V c t).cg
    | ⟨14, _⟩ => (in1 V c t).cu
    | ⟨15, _⟩ => (in1 V c t).cd
    | ⟨16, _⟩ => (in1 V c t).c2 (grid1.coords t)
    | ⟨17, _⟩ => (in1 V c t).dsg (grid1.coords t)
    | ⟨18, _⟩ => (in1 V c t).dsu (grid1.coords t)
    | ⟨19, _⟩ => (accAt V c t.val t.isLt).a20
    | ⟨20, _⟩ => (accAt V c t.val t.isLt).a21
    | ⟨21, _⟩ => (accAt V c t.val t.isLt).a22
    | ⟨22, _⟩ => (accAt V c t.val t.isLt).a23
    | ⟨23, _⟩ => (accAt V c t.val t.isLt).a24
    | ⟨24, _⟩ => (accAt V c t.val t.isLt).a25
    | ⟨_ + 25, h⟩ => absurd h (Nat.not_lt.2 (Nat.le_add_left _ _))
  Φ _ := Pipeline.ΦA spec1 c
  q _ := fullShare
  owed _ := 0

/-- Each window's array begins as the memory's array. -/
theorem A_eq1 (c : Dev nD) (w : Fin cfg1.W) : (dat1 V c).A w = V c (Pipeline.arrRef spec1 w) := by
  dsimp only [dat1]

/-- What window 0 of the main call holds when a grid step ends. -/
theorem after1_0 (c : Dev nD) (t : Fin cfg1.N) : (dat1 V c).after 0 t = iblk1 V c 0 t := by dsimp only [dat1]
/-- What window 1 of the main call holds when a grid step ends. -/
theorem after1_1 (c : Dev nD) (t : Fin cfg1.N) : (dat1 V c).after 1 t = iblk1 V c 1 t := by dsimp only [dat1]
/-- What window 2 of the main call holds when a grid step ends. -/
theorem after1_2 (c : Dev nD) (t : Fin cfg1.N) : (dat1 V c).after 2 t = iblk1 V c 2 t := by dsimp only [dat1]
/-- What window 3 of the main call holds when a grid step ends. -/
theorem after1_3 (c : Dev nD) (t : Fin cfg1.N) : (dat1 V c).after 3 t = iblk1 V c 3 t := by dsimp only [dat1]
/-- What window 4 of the main call holds when a grid step ends. -/
theorem after1_4 (c : Dev nD) (t : Fin cfg1.N) : (dat1 V c).after 4 t = iblk1 V c 4 t := by dsimp only [dat1]
/-- What window 5 of the main call holds when a grid step ends. -/
theorem after1_5 (c : Dev nD) (t : Fin cfg1.N) : (dat1 V c).after 5 t = iblk1 V c 5 t := by dsimp only [dat1]
/-- What window 6 of the main call holds when a grid step ends. -/
theorem after1_6 (c : Dev nD) (t : Fin cfg1.N) : (dat1 V c).after 6 t = iblk1 V c 6 t := by dsimp only [dat1]
/-- What window 7 of the main call holds when a grid step ends. -/
theorem after1_7 (c : Dev nD) (t : Fin cfg1.N) : (dat1 V c).after 7 t = iblk1 V c 7 t := by dsimp only [dat1]
/-- What window 8 of the main call holds when a grid step ends. -/
theorem after1_8 (c : Dev nD) (t : Fin cfg1.N) : (dat1 V c).after 8 t = iblk1 V c 8 t := by dsimp only [dat1]
/-- What window 9 of the main call holds when a grid step ends. -/
theorem after1_9 (c : Dev nD) (t : Fin cfg1.N) : (dat1 V c).after 9 t = iblk1 V c 9 t := by dsimp only [dat1]
/-- What window 10 of the main call holds when a grid step ends. -/
theorem after1_10 (c : Dev nD) (t : Fin cfg1.N) : (dat1 V c).after 10 t = (in1 V c t).dwg (grid1.coords t) := by dsimp only [dat1]
/-- What window 11 of the main call holds when a grid step ends. -/
theorem after1_11 (c : Dev nD) (t : Fin cfg1.N) : (dat1 V c).after 11 t = (in1 V c t).dwu (grid1.coords t) := by dsimp only [dat1]
/-- What window 12 of the main call holds when a grid step ends. -/
theorem after1_12 (c : Dev nD) (t : Fin cfg1.N) : (dat1 V c).after 12 t = (in1 V c t).dwd (grid1.coords t) := by dsimp only [dat1]
/-- What window 13 of the main call holds when a grid step ends. -/
theorem after1_13 (c : Dev nD) (t : Fin cfg1.N) : (dat1 V c).after 13 t = (in1 V c t).cg := by dsimp only [dat1]
/-- What window 14 of the main call holds when a grid step ends. -/
theorem after1_14 (c : Dev nD) (t : Fin cfg1.N) : (dat1 V c).after 14 t = (in1 V c t).cu := by dsimp only [dat1]
/-- What window 15 of the main call holds when a grid step ends. -/
theorem after1_15 (c : Dev nD) (t : Fin cfg1.N) : (dat1 V c).after 15 t = (in1 V c t).cd := by dsimp only [dat1]
/-- What window 16 of the main call holds when a grid step ends. -/
theorem after1_16 (c : Dev nD) (t : Fin cfg1.N) : (dat1 V c).after 16 t = (in1 V c t).c2 (grid1.coords t) := by dsimp only [dat1]
/-- What window 17 of the main call holds when a grid step ends. -/
theorem after1_17 (c : Dev nD) (t : Fin cfg1.N) : (dat1 V c).after 17 t = (in1 V c t).dsg (grid1.coords t) := by dsimp only [dat1]
/-- What window 18 of the main call holds when a grid step ends. -/
theorem after1_18 (c : Dev nD) (t : Fin cfg1.N) : (dat1 V c).after 18 t = (in1 V c t).dsu (grid1.coords t) := by dsimp only [dat1]
/-- What window 19 of the main call holds when a grid step ends. -/
theorem after1_19 (c : Dev nD) (t : Fin cfg1.N) : (dat1 V c).after 19 t = (accAt V c t.val t.isLt).a20 := by dsimp only [dat1]
/-- What window 20 of the main call holds when a grid step ends. -/
theorem after1_20 (c : Dev nD) (t : Fin cfg1.N) : (dat1 V c).after 20 t = (accAt V c t.val t.isLt).a21 := by dsimp only [dat1]
/-- What window 21 of the main call holds when a grid step ends. -/
theorem after1_21 (c : Dev nD) (t : Fin cfg1.N) : (dat1 V c).after 21 t = (accAt V c t.val t.isLt).a22 := by dsimp only [dat1]
/-- What window 22 of the main call holds when a grid step ends. -/
theorem after1_22 (c : Dev nD) (t : Fin cfg1.N) : (dat1 V c).after 22 t = (accAt V c t.val t.isLt).a23 := by dsimp only [dat1]
/-- What window 23 of the main call holds when a grid step ends. -/
theorem after1_23 (c : Dev nD) (t : Fin cfg1.N) : (dat1 V c).after 23 t = (accAt V c t.val t.isLt).a24 := by dsimp only [dat1]
/-- What window 24 of the main call holds when a grid step ends. -/
theorem after1_24 (c : Dev nD) (t : Fin cfg1.N) : (dat1 V c).after 24 t = (accAt V c t.val t.isLt).a25 := by dsimp only [dat1]

/-- Window 0 of the main call holds its array's block when a grid step begins. -/
theorem before1_0 (c : Dev nD) (t : Fin cfg1.N) (d) : (dat1 V c).before 0 t d = iblk1 V c 0 t :=
  before1_0_of V (dat1 V c) (A_eq1 V c 0) (after1_0 V c) t d
/-- Window 1 of the main call holds its array's block when a grid step begins. -/
theorem before1_1 (c : Dev nD) (t : Fin cfg1.N) (d) : (dat1 V c).before 1 t d = iblk1 V c 1 t :=
  before1_1_of V (dat1 V c) (A_eq1 V c 1) (after1_1 V c) t d
/-- Window 2 of the main call holds its array's block when a grid step begins. -/
theorem before1_2 (c : Dev nD) (t : Fin cfg1.N) (d) : (dat1 V c).before 2 t d = iblk1 V c 2 t :=
  before1_2_of V (dat1 V c) (A_eq1 V c 2) (after1_2 V c) t d
/-- Window 3 of the main call holds its array's block when a grid step begins. -/
theorem before1_3 (c : Dev nD) (t : Fin cfg1.N) (d) : (dat1 V c).before 3 t d = iblk1 V c 3 t :=
  before1_3_of V (dat1 V c) (A_eq1 V c 3) (after1_3 V c) t d
/-- Window 4 of the main call holds its array's block when a grid step begins. -/
theorem before1_4 (c : Dev nD) (t : Fin cfg1.N) (d) : (dat1 V c).before 4 t d = iblk1 V c 4 t :=
  before1_4_of V (dat1 V c) (A_eq1 V c 4) (after1_4 V c) t d
/-- Window 5 of the main call holds its array's block when a grid step begins. -/
theorem before1_5 (c : Dev nD) (t : Fin cfg1.N) (d) : (dat1 V c).before 5 t d = iblk1 V c 5 t :=
  before1_5_of V (dat1 V c) (A_eq1 V c 5) (after1_5 V c) t d
/-- Window 6 of the main call holds its array's block when a grid step begins. -/
theorem before1_6 (c : Dev nD) (t : Fin cfg1.N) (d) : (dat1 V c).before 6 t d = iblk1 V c 6 t :=
  before1_6_of V (dat1 V c) (A_eq1 V c 6) (after1_6 V c) t d
/-- Window 7 of the main call holds its array's block when a grid step begins. -/
theorem before1_7 (c : Dev nD) (t : Fin cfg1.N) (d) : (dat1 V c).before 7 t d = iblk1 V c 7 t :=
  before1_7_of V (dat1 V c) (A_eq1 V c 7) (after1_7 V c) t d
/-- Window 8 of the main call holds its array's block when a grid step begins. -/
theorem before1_8 (c : Dev nD) (t : Fin cfg1.N) (d) : (dat1 V c).before 8 t d = iblk1 V c 8 t :=
  before1_8_of V (dat1 V c) (A_eq1 V c 8) (after1_8 V c) t d
/-- Window 9 of the main call holds its array's block when a grid step begins. -/
theorem before1_9 (c : Dev nD) (t : Fin cfg1.N) (d) : (dat1 V c).before 9 t d = iblk1 V c 9 t :=
  before1_9_of V (dat1 V c) (A_eq1 V c 9) (after1_9 V c) t d

/-- Past the first step window 19 holds what the step before left. -/
theorem kept1_19 (c : Dev nD) (t : Fin cfg1.N) (h0 : ¬t.val % 56 = 0) (d) :
    (dat1 V c).before 19 t d = (accAt V c (t.val - 1) (Nat.lt_of_le_of_lt (Nat.sub_le _ _) t.isLt)).a20 := by
  have hN : t.val < 56 := lt_of_lt_of_eq t.isLt (show cfg1.N = 56 from N_1)
  rw [Dat.before_out_kept _ 19 rfl t (by omega) (Bool.eq_false_iff.mpr fun h => by have := (flush1_19 _).mp h; dsimp only at this; omega)
    (fun _ => rfl) (fun _ _ => rfl)]
  dsimp only [dat1]
/-- Past the first step window 20 holds what the step before left. -/
theorem kept1_20 (c : Dev nD) (t : Fin cfg1.N) (h0 : ¬t.val % 56 = 0) (d) :
    (dat1 V c).before 20 t d = (accAt V c (t.val - 1) (Nat.lt_of_le_of_lt (Nat.sub_le _ _) t.isLt)).a21 := by
  have hN : t.val < 56 := lt_of_lt_of_eq t.isLt (show cfg1.N = 56 from N_1)
  rw [Dat.before_out_kept _ 20 rfl t (by omega) (Bool.eq_false_iff.mpr fun h => by have := (flush1_20 _).mp h; dsimp only at this; omega)
    (fun _ => rfl) (fun _ _ => rfl)]
  dsimp only [dat1]
/-- Past the first step window 21 holds what the step before left. -/
theorem kept1_21 (c : Dev nD) (t : Fin cfg1.N) (h0 : ¬t.val % 56 = 0) (d) :
    (dat1 V c).before 21 t d = (accAt V c (t.val - 1) (Nat.lt_of_le_of_lt (Nat.sub_le _ _) t.isLt)).a22 := by
  have hN : t.val < 56 := lt_of_lt_of_eq t.isLt (show cfg1.N = 56 from N_1)
  rw [Dat.before_out_kept _ 21 rfl t (by omega) (Bool.eq_false_iff.mpr fun h => by have := (flush1_21 _).mp h; dsimp only at this; omega)
    (fun _ => rfl) (fun _ _ => rfl)]
  dsimp only [dat1]
/-- Past the first step window 22 holds what the step before left. -/
theorem kept1_22 (c : Dev nD) (t : Fin cfg1.N) (h0 : ¬t.val % 56 = 0) (d) :
    (dat1 V c).before 22 t d = (accAt V c (t.val - 1) (Nat.lt_of_le_of_lt (Nat.sub_le _ _) t.isLt)).a23 := by
  have hN : t.val < 56 := lt_of_lt_of_eq t.isLt (show cfg1.N = 56 from N_1)
  rw [Dat.before_out_kept _ 22 rfl t (by omega) (Bool.eq_false_iff.mpr fun h => by have := (flush1_22 _).mp h; dsimp only at this; omega)
    (fun _ => rfl) (fun _ _ => rfl)]
  dsimp only [dat1]
/-- Past the first step window 23 holds what the step before left. -/
theorem kept1_23 (c : Dev nD) (t : Fin cfg1.N) (h0 : ¬t.val % 56 = 0) (d) :
    (dat1 V c).before 23 t d = (accAt V c (t.val - 1) (Nat.lt_of_le_of_lt (Nat.sub_le _ _) t.isLt)).a24 := by
  have hN : t.val < 56 := lt_of_lt_of_eq t.isLt (show cfg1.N = 56 from N_1)
  rw [Dat.before_out_kept _ 23 rfl t (by omega) (Bool.eq_false_iff.mpr fun h => by have := (flush1_23 _).mp h; dsimp only at this; omega)
    (fun _ => rfl) (fun _ _ => rfl)]
  dsimp only [dat1]
/-- Past the first step window 24 holds what the step before left. -/
theorem kept1_24 (c : Dev nD) (t : Fin cfg1.N) (h0 : ¬t.val % 56 = 0) (d) :
    (dat1 V c).before 24 t d = (accAt V c (t.val - 1) (Nat.lt_of_le_of_lt (Nat.sub_le _ _) t.isLt)).a25 := by
  have hN : t.val < 56 := lt_of_lt_of_eq t.isLt (show cfg1.N = 56 from N_1)
  rw [Dat.before_out_kept _ 24 rfl t (by omega) (Bool.eq_false_iff.mpr fun h => by have := (flush1_24 _).mp h; dsimp only at this; omega)
    (fun _ => rfl) (fun _ _ => rfl)]
  dsimp only [dat1]

/-- What the body is entered with and what it leaves. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d))
    ∗ (∃ d, owns (c : Thread nD τ) (ms1_21 t) fullShare ((dat1 V c).before 21 t d))
    ∗ (∃ d, owns (c : Thread nD τ) (ms1_22 t) fullShare ((dat1 V c).before 22 t d))
    ∗ (∃ d, owns (c : Thread nD τ) (ms1_23 t) fullShare ((dat1 V c).before 23 t d))
    ∗ (∃ d, owns (c : Thread nD τ) (ms1_24 t) fullShare ((dat1 V c).before 24 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t)
    ∗ owns (c : Thread nD τ) (ms1_20 t) fullShare ((dat1 V c).after 20 t)
    ∗ owns (c : Thread nD τ) (ms1_21 t) fullShare ((dat1 V c).after 21 t)
    ∗ owns (c : Thread nD τ) (ms1_22 t) fullShare ((dat1 V c).after 22 t)
    ∗ owns (c : Thread nD τ) (ms1_23 t) fullShare ((dat1 V c).after 23 t)
    ∗ owns (c : Thread nD τ) (ms1_24 t) fullShare ((dat1 V c).after 24 t))

set_option maxHeartbeats 1000000 in
/-- The body at step `t`. -/
theorem sound_first (c : Dev nD) (t : Fin cfg1.N) (h0 : t.val % 56 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24]
  rw [show (dat1 V c).Φ t.castSucc = Pipeline.ΦA spec1 c from rfl, PhiA1_eq]
  iintro ⟨⟨⟨⟨%e0, S0⟩, ⟨%e1, S1⟩, ⟨%e2, S2⟩, ⟨%e3, S3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  rw [acc_first V c t h0 ((dat1 V c).before 19 t d19) ((dat1 V c).before 20 t d20) ((dat1 V c).before 21 t d21) ((dat1 V c).before 22 t d22) ((dat1 V c).before 23 t d23) ((dat1 V c).before 24 t d24)]
  iapply (body1 c _ _ _ _ _ _ _ _ _ _ _ _ _ _ _ _ _ _ _ _ _ _ _ _ _ _ _ _ _ _ _ _ _ _ _ _ _ _ _ _ _ _ _ _ _ _ _ _ _ _ _ _ _ _ _ _ _ _ _ (in1 V c t) _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, H16, H17, H18, H19, H20, H21, H22, H23, H24, S0, S1, S2, S3⟩
  isplitl [S0 S1 S2 S3 HR Hg]
  · isplitl [S0 S1 S2 S3 HR]
    · isplitl [S0]; · iexists _; iexact S0
      isplitl [S1]; · iexists _; iexact S1
      isplitl [S2]; · iexists _; iexact S2
      isplitl [S3]; · iexists _; iexact S3
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

set_option maxHeartbeats 1000000 in
/-- The body at step `t`. -/
theorem sound_next (c : Dev nD) (t : Fin cfg1.N) (h0 : ¬t.val % 56 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  simp only [kept1_19 V c t h0, kept1_20 V c t h0, kept1_21 V c t h0, kept1_22 V c t h0, kept1_23 V c t h0, kept1_24 V c t h0]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24]
  rw [show (dat1 V c).Φ t.castSucc = Pipeline.ΦA spec1 c from rfl, PhiA1_eq]
  rw [acc_next V c t h0]
  iintro ⟨⟨⟨⟨%e0, S0⟩, ⟨%e1, S1⟩, ⟨%e2, S2⟩, ⟨%e3, S3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (body1 c _ _ _ _ _ _ _ _ _ _ _ _ _ _ _ _ _ _ _ _ _ _ _ _ _ _ _ _ _ _ _ _ _ _ _ _ _ _ _ _ _ _ _ _ _ _ _ _ _ _ _ _ _ _ _ _ _ _ _ (in1 V c t) _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, H16, H17, H18, H19, H20, H21, H22, H23, H24, S0, S1, S2, S3⟩
  isplitl [S0 S1 S2 S3 HR Hg]
  · isplitl [S0 S1 S2 S3 HR]
    · isplitl [S0]; · iexists _; iexact S0
      isplitl [S1]; · iexists _; iexact S1
      isplitl [S2]; · iexists _; iexact S2
      isplitl [S3]; · iexists _; iexact S3
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body at every step. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 56 = 0
  · exact sound_first V c t h0
  · exact sound_next V c t h0

set_option maxHeartbeats 1000000 in
/-- The body that a grid step runs, with its buffers put in. -/
theorem defs₀_row1 (t : Fin cfg1.N) :
    defs₀ (F := F) .tc cfg1.body (cfg1.bodyArgs t (cfg1.slots t)) = bodyAt1 t := by
  unfold defs₀; rw [Defs.onTc_tc]

set_option maxHeartbeats 1000000 in
/-- The body's obligation to the pipeline. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Run

end
-- ==== Proof.K.Values2.lean ====
module

public import proofs.«01_k».proof.Proof.Gen.Kernel.Launch
public import proofs.«01_k».proof.Proof.Gen.Kernel.Skeleton
public import proofs.«01_k».proof.Proof.Gen.Kernel.Points
public import proofs.«01_k».proof.Proof.Tiles
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! What the last call computes, in closed form. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

/-- What the last call reads. -/
structure In2 (F : FTy → Type) [BitOps F] where
  s : Vec F S2 .f32
  o : Vec F S256x4096 .f32
  t : Vec F S4096x256 .f32
  x : Vec F S256x4096 .bf16
  dy : Vec F S256x4096 .bf16
  g : Vec F S1x4096 .f32
  c1 : Vec F S256x4096 .fp8e4m3
  sd : Vec F S1x4096 .f32
  d8 : Vec F S8x4096 .f32
  p9 : Vec F S256x128 .f32
  p10 : Vec F S256x128 .f32
  p11 : Vec F S256x128 .f32

namespace In2

variable (X : In2 F)

/-- The scales of the two activations. -/
abbrev s1 : Elt F .f32 := X.s (ix1 0)
abbrev s2 : Elt F .f32 := X.s (ix1 1)
/-- Block `k` of what it reads. -/
abbrev bx (k : ℕ) : Vec F S256x512 .bf16 := colBlk X.x k
abbrev bg (k : ℕ) : Vec F S1x512 .f32 := colBlk X.g k
abbrev bo (k : ℕ) : Vec F S256x512 .f32 := colBlk X.o k
abbrev bsd (k : ℕ) : Vec F S1x512 .f32 := colBlk X.sd k
abbrev bt (k : ℕ) : Vec F S512x256 .f32 := rowBlk 256 0 X.t k
abbrev bc (k : ℕ) : Vec F S256x512 .fp8e4m3 := colBlk X.c1 k
abbrev bdy (k : ℕ) : Vec F S256x512 .bf16 := colBlk X.dy k
/-- The partial sums of the squares before block `k`. -/
def sq : ℕ → FVec F S256x128 .f32
  | 0 => k2_pay24
  | k + 1 => k2_pay25 (sq k) (X.bx k)
/-- The reciprocal root of the mean square. -/
def v44 : FVec F S256x1 .f32 := k2_pay26 (X.sq 8)
/-- The first activation's gradient inside its range. -/
def v106 (k : ℕ) : FVec F S256x512 .f32 := k2_pay10 X.s1 X.v44 (X.bx k) (X.bg k) (X.bt k)
/-- The output, -/
def y : Vec F S256x4096 .bf16 := colTiles (fun k => k2_pay5 X.s2 (X.bx k) (X.bo k) (X.bsd k))
/-- the norm weight's gradient, -/
def dg : Vec F S1x4096 .f32 := colTiles (fun k => k2_pay15 X.v44 (k2_pay3 (X.bx k)) (X.v106 k))
/-- and the gradient before the norm. -/
def dh : Vec F S256x4096 .f32 := colTiles (fun k => k2_pay17 (k2_pay4 (X.bg k)) (X.v106 k))
/-- The three partial sums before block `k`. -/
def acc : ℕ → FVec F S256x128 .f32 × FVec F S256x128 .f32 × FVec F S256x128 .f32
  | 0 => (k2_pay27, k2_pay27, k2_pay27)
  | k + 1 => (k2_pay13 (acc k).1 (k2_pay11 X.s1 X.v44 (X.bx k) (X.bg k) (X.bt k) (X.bc k)) (k2_pay12 X.s1 X.v44 (X.bx k) (X.bg k) (X.bt k) (X.bc k)),
      k2_pay14 (acc k).2.1 (k2_pay6 (X.bt k)) (k2_pay7 X.s1 X.v44 (X.bx k) (X.bg k)) (k2_pay8 X.s1 X.v44 (X.bx k) (X.bg k)),
      k2_pay28 (acc k).2.2 (k2_pay18 (k2_pay3 (X.bx k)) (k2_pay4 (X.bg k)) (X.v106 k)) (k2_pay19 (k2_pay3 (X.bx k)) (k2_pay4 (X.bg k)) (X.v106 k)))
def v31 : FVec F S1x1 .f32 := k2_pay23 X.p11 X.p10
def ds : FVec F S1x1 .f32 := k2_pay31 (X.acc 8).1 (X.acc 8).2.1
def o14 : Vec F S1x4096 .f32 := k2_pay20 X.d8
def o16 : Vec F S256x1 .f32 := k2_pay29 (X.acc 8).1
def o17 : Vec F S256x1 .f32 := k2_pay30 (X.acc 8).2.1
def o19 : Vec F S256x1 .f32 := k2_pay22 X.p9
def o20 : Vec F S256x1 .f32 := k2_pay21 X.p10
def o22 : Vec F S256x1 .f32 := k2_pay1 X.v44 (X.acc 8).2.2
/-- The gradient of the input. -/
def dx : Vec F S256x4096 .bf16 := colTiles (fun k => k2_pay2 X.v44 (X.acc 8).2.2 (X.bx k) (colBlk X.dh k) (X.bdy k))

end In2

end Cert.Kernel.Body
-- ==== Proof.K.Loops2.lean ====
module

public import proofs.«01_k».proof.Proof.Gen.Kernel.Launch
public import proofs.«01_k».proof.Proof.Gen.Kernel.Skeleton
public import proofs.«01_k».proof.Proof.Gen.Kernel.Points
public import proofs.«01_k».proof.Proof.K.Values2
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The last call's loops. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

section Run

variable (c : Dev nD) (arg0 : Memref sig .tc .smem S2 .f32) (harg0 : arg0.IsWhole) (arg1 : Memref sig .tc .vmem S256x4096 .f32) (harg1 : arg1.IsWhole) (arg2 : Memref sig .tc .vmem S4096x256 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S256x4096 .fp8e4m3) (harg6 : arg6.IsWhole) (arg7 : Memref sig .tc .vmem S1x4096 .f32) (harg7 : arg7.IsWhole) (arg8 : Memref sig .tc .vmem S8x4096 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S1x4096 .f32) (harg14 : arg14.IsWhole) (arg15 : Memref sig .tc .vmem S1x1 .f32) (harg15 : arg15.IsWhole) (arg16 : Memref sig .tc .vmem S256x1 .f32) (harg16 : arg16.IsWhole) (arg17 : Memref sig .tc .vmem S256x1 .f32) (harg17 : arg17.IsWhole) (arg18 : Memref sig .tc .vmem S1x1 .f32) (harg18 : arg18.IsWhole) (arg19 : Memref sig .tc .vmem S256x1 .f32) (harg19 : arg19.IsWhole) (arg20 : Memref sig .tc .vmem S256x1 .f32) (harg20 : arg20.IsWhole) (arg21 : Memref sig .tc .vmem S1x4096 .f32) (harg21 : arg21.IsWhole) (arg22 : Memref sig .tc .vmem S256x1 .f32) (harg22 : arg22.IsWhole) (arg23 : Memref sig .tc .vmem S256x4096 .f32) (harg23 : arg23.IsWhole)
variable (X : In2 F)
include c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
/-- One trip of the loop over the squares. -/
theorem trip1b (v0 v1 : Elt F .f32) (v31 : FVec F S1x1 .f32) (k : Fin k2_t1_loop.trips) (acc : FVec F S256x128 .f32) (E : Set ℕ) :
    (iprop(⌜acc = X.sq k.val⌝ ∗ owns (c : Thread nD τ) arg3 fullShare X.x) : sProp 𝕄)
      ⊢ wp frame (wpE (defs₀ (F := F)) Variants.none c none) E (k2_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v1 v31 k acc)
          (fun r => iprop(⌜r = X.sq (k.val + 1)⌝ ∗ owns (c : Thread nD τ) arg3 fullShare X.x)) := by
  have hk : k.val < 8 := Nat.lt_of_lt_of_le k.isLt (by decide)
  unfold k2_t1_body
  iintro ⟨%hacc, H3⟩
  subst hacc
  ihave H3 := (owns_open harg3 _) $$ H3
  sl_exec
  sl_step
  have e3 : ∀ inb, View.readAt (Elt F) arg3.view (Rect.unit (s := S256x4096) (k2_off1 k) S256x512.size inb).toLoadRect (harg3.unread X.x) = X.bx k.val := fun inb => readAt_col harg3 X.x k.val _ (k2_off1_eq k) inb
  isplitr
  · ipureintro
    rw [e3]; rfl
  iapply (owns_close _ _ (harg3.read_unread _)) $$ H3

/-- The loop over the squares. -/
theorem sqs (v0 v1 : Elt F .f32) (v31 : FVec F S1x1 .f32) (E : Set ℕ) :
    (iprop(owns (c : Thread nD τ) arg3 fullShare X.x) : sProp 𝕄)
      ⊢ wp frame (wpE (defs₀ (F := F)) Variants.none c none) E (Scf.Loop.for k2_t1_loop k2_t1_ok k2_pay24 (k2_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v1 v31))
          (fun r => iprop(⌜r = X.sq 8⌝ ∗ owns (c : Thread nD τ) arg3 fullShare X.x)) := by
  have ht : k2_t1_loop.trips = 8 := by decide
  iintro H3
  sl_for (fun k acc => iprop(⌜acc = X.sq k⌝ ∗ owns (c : Thread nD τ) arg3 fullShare X.x)) $$ [H3]
  · intro k acc
    exact trip1b c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X v0 v1 v31 k acc E
  · isplitl [H3]
    · isplitr
      · ipureintro; rfl
      iexact H3
    iintro %acc ⟨%h, H3⟩
    isplitr
    · ipureintro; exact h.trans (congrArg X.sq ht)
    iexact H3

set_option maxHeartbeats 1000000 in
/-- One trip of the second loop: one block of columns of the output and of the first activation's gradient. -/
theorem trip2b (v31 : FVec F S1x1 .f32) (O12 : Vec F S256x4096 .bf16) (O21 : Vec F S1x4096 .f32) (O23 : Vec F S256x4096 .f32) (k : Fin k2_t2_loop.trips) (acc : FVec F S256x128 .f32 × FVec F S256x128 .f32 × FVec F S256x128 .f32) (E : Set ℕ) :
    (iprop(⌜acc = X.acc k.val⌝ ∗ owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare (mix 1 k.val X.y O12)
        ∗ owns (c : Thread nD τ) arg21 fullShare (mix 1 k.val X.dg O21)
        ∗ owns (c : Thread nD τ) arg23 fullShare (mix 1 k.val X.dh O23)) : sProp 𝕄)
      ⊢ wp frame (wpE (defs₀ (F := F)) Variants.none c none) E (k2_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X.s1 X.s2 v31 (X.sq 8) k acc)
          (fun r => iprop(⌜r = X.acc (k.val + 1)⌝ ∗ owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare (mix 1 (k.val + 1) X.y O12)
        ∗ owns (c : Thread nD τ) arg21 fullShare (mix 1 (k.val + 1) X.dg O21)
        ∗ owns (c : Thread nD τ) arg23 fullShare (mix 1 (k.val + 1) X.dh O23))) := by
  have hk : k.val < 8 := Nat.lt_of_lt_of_le k.isLt (by decide)
  unfold k2_t2_body
  simp only [k2_part1_eq_skeleton, k2_part2_eq_skeleton]
  iintro ⟨%hacc, H3, H5, H1, H7, H2, H6, H12, H21, H23⟩
  subst hacc
  ihave H3 := (owns_open harg3 _) $$ H3
  ihave H5 := (owns_open harg5 _) $$ H5
  ihave H1 := (owns_open harg1 _) $$ H1
  ihave H7 := (owns_open harg7 _) $$ H7
  ihave H2 := (owns_open harg2 _) $$ H2
  ihave H6 := (owns_open harg6 _) $$ H6
  ihave H12 := (owns_open harg12 _) $$ H12
  ihave H21 := (owns_open harg21 _) $$ H21
  ihave H23 := (owns_open harg23 _) $$ H23
  sl_exec
  sl_step
  have e3 : ∀ inb, View.readAt (Elt F) arg3.view (Rect.unit (s := S256x4096) (k2_off2 k) S256x512.size inb).toLoadRect (harg3.unread X.x) = X.bx k.val := fun inb => readAt_col harg3 X.x k.val _ (k2_off2_eq k) inb
  have e5 : ∀ inb, View.readAt (Elt F) arg5.view (Rect.unit (s := S1x4096) (k2_off3 k) S1x512.size inb).toLoadRect (harg5.unread X.g) = X.bg k.val := fun inb => readAt_col harg5 X.g k.val _ (k2_off3_eq k) inb
  have e1 : ∀ inb, View.readAt (Elt F) arg1.view (Rect.unit (s := S256x4096) (k2_off2 k) S256x512.size inb).toLoadRect (harg1.unread X.o) = X.bo k.val := fun inb => readAt_col harg1 X.o k.val _ (k2_off2_eq k) inb
  have e7 : ∀ inb, View.readAt (Elt F) arg7.view (Rect.unit (s := S1x4096) (k2_off3 k) S1x512.size inb).toLoadRect (harg7.unread X.sd) = X.bsd k.val := fun inb => readAt_col harg7 X.sd k.val _ (k2_off3_eq k) inb
  have e2 : ∀ inb, View.readAt (Elt F) arg2.view (Rect.unit (s := S4096x256) (k2_off4 k) S512x256.size inb).toLoadRect (harg2.unread X.t) = X.bt k.val := fun inb => readAt_row (w := 256) harg2 X.t k.val 0 _ (k2_off4_eq k) inb
  have e6 : ∀ inb, View.readAt (Elt F) arg6.view (Rect.unit (s := S256x4096) (k2_off2 k) S256x512.size inb).toLoadRect (harg6.unread X.c1) = X.bc k.val := fun inb => readAt_col harg6 X.c1 k.val _ (k2_off2_eq k) inb
  isplitr
  · ipureintro
    (try unfold trip2b.sl.r_13); (try unfold trip2b.sl.r_12); (try unfold trip2b.sl.r_11); (try unfold trip2b.sl.r_10); (try unfold trip2b.sl.r_9); (try unfold trip2b.sl.r_8); (try unfold trip2b.sl.r_7); (try unfold trip2b.sl.r_6); (try unfold trip2b.sl.r_5); (try unfold trip2b.sl.r_4); (try unfold trip2b.sl.r_3); (try unfold trip2b.sl.r_2); (try unfold trip2b.sl.r_1); (try unfold trip2b.sl.r);
    rw [e3, e5, e2, e6]; rfl
  isplitl [H3]; · iapply (owns_close _ _ (harg3.read_unread _)) $$ H3
  isplitl [H5]; · iapply (owns_close _ _ (harg5.read_unread _)) $$ H5
  isplitl [H1]; · iapply (owns_close _ _ (harg1.read_unread _)) $$ H1
  isplitl [H7]; · iapply (owns_close _ _ (harg7.read_unread _)) $$ H7
  isplitl [H2]; · iapply (owns_close _ _ (harg2.read_unread _)) $$ H2
  isplitl [H6]; · iapply (owns_close _ _ (harg6.read_unread _)) $$ H6
  isplitl [H12]; · iapply (owns_close _ _ (by (try unfold trip2b.sl.r_13); (try unfold trip2b.sl.r_12); (try unfold trip2b.sl.r_11); (try unfold trip2b.sl.r_10); (try unfold trip2b.sl.r_9); (try unfold trip2b.sl.r_8); (try unfold trip2b.sl.r_7); (try unfold trip2b.sl.r_6); (try unfold trip2b.sl.r_5); (try unfold trip2b.sl.r_4); (try unfold trip2b.sl.r_3); (try unfold trip2b.sl.r_2); (try unfold trip2b.sl.r_1); (try unfold trip2b.sl.r); rw [e3, e1, e7]; exact writes_col harg12 k.val _ O12 _ (k2_off2_eq k) (k2_off2_inb k) _ rfl)) $$ H12
  isplitl [H21]; · iapply (owns_close _ _ (by (try unfold trip2b.sl.r_13); (try unfold trip2b.sl.r_12); (try unfold trip2b.sl.r_11); (try unfold trip2b.sl.r_10); (try unfold trip2b.sl.r_9); (try unfold trip2b.sl.r_8); (try unfold trip2b.sl.r_7); (try unfold trip2b.sl.r_6); (try unfold trip2b.sl.r_5); (try unfold trip2b.sl.r_4); (try unfold trip2b.sl.r_3); (try unfold trip2b.sl.r_2); (try unfold trip2b.sl.r_1); (try unfold trip2b.sl.r); rw [e3, e5, e2]; exact writes_col harg21 k.val _ O21 _ (k2_off3_eq k) (k2_off3_inb k) _ rfl)) $$ H21
  iapply (owns_close _ _ (by (try unfold trip2b.sl.r_13); (try unfold trip2b.sl.r_12); (try unfold trip2b.sl.r_11); (try unfold trip2b.sl.r_10); (try unfold trip2b.sl.r_9); (try unfold trip2b.sl.r_8); (try unfold trip2b.sl.r_7); (try unfold trip2b.sl.r_6); (try unfold trip2b.sl.r_5); (try unfold trip2b.sl.r_4); (try unfold trip2b.sl.r_3); (try unfold trip2b.sl.r_2); (try unfold trip2b.sl.r_1); (try unfold trip2b.sl.r); rw [e3, e5, e2]; exact writes_col harg23 k.val _ O23 _ (k2_off2_eq k) (k2_off2_inb k) _ rfl)) $$ H23

/-- The second loop. -/
theorem loop2b (v31 : FVec F S1x1 .f32) (O12 : Vec F S256x4096 .bf16) (O21 : Vec F S1x4096 .f32) (O23 : Vec F S256x4096 .f32) (E : Set ℕ) :
    (iprop(owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare O12
        ∗ owns (c : Thread nD τ) arg21 fullShare O21
        ∗ owns (c : Thread nD τ) arg23 fullShare O23) : sProp 𝕄)
      ⊢ wp frame (wpE (defs₀ (F := F)) Variants.none c none) E (Scf.Loop.for k2_t2_loop k2_t2_ok (k2_pay27, k2_pay27, k2_pay27) (k2_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X.s1 X.s2 v31 (X.sq 8)))
          (fun r => iprop(⌜r = X.acc 8⌝ ∗ owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare X.y
        ∗ owns (c : Thread nD τ) arg21 fullShare X.dg
        ∗ owns (c : Thread nD τ) arg23 fullShare X.dh)) := by
  have ht : k2_t2_loop.trips = 8 := by decide
  iintro ⟨H3, H5, H1, H7, H2, H6, H12, H21, H23⟩
  sl_for (fun k acc => iprop(⌜acc = X.acc k⌝ ∗ owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare (mix 1 k X.y O12)
        ∗ owns (c : Thread nD τ) arg21 fullShare (mix 1 k X.dg O21)
        ∗ owns (c : Thread nD τ) arg23 fullShare (mix 1 k X.dh O23))) $$ [H3 H5 H1 H7 H2 H6 H12 H21 H23]
  · intro k acc; exact trip2b c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X v31 O12 O21 O23 k acc E
  · isplitl [H3 H5 H1 H7 H2 H6 H12 H21 H23]
    · isplitr
      · ipureintro; rfl
      isplitl [H3]; · iexact H3
      isplitl [H5]; · iexact H5
      isplitl [H1]; · iexact H1
      isplitl [H7]; · iexact H7
      isplitl [H2]; · iexact H2
      isplitl [H6]; · iexact H6
      isplitl [H12]; · iexact H12
      isplitl [H21]; · iexact H21
      iexact H23
    iintro %acc ⟨%h, H3, H5, H1, H7, H2, H6, H12, H21, H23⟩
    rw [mix_full 1 _ _ O12 (by decide), mix_full 1 _ _ O21 (by decide), mix_full 1 _ _ O23 (by decide)]
    isplitr
    · ipureintro; exact h.trans (congrArg X.acc ht)
    isplitl [H3]; · iexact H3
    isplitl [H5]; · iexact H5
    isplitl [H1]; · iexact H1
    isplitl [H7]; · iexact H7
    isplitl [H2]; · iexact H2
    isplitl [H6]; · iexact H6
    isplitl [H12]; · iexact H12
    isplitl [H21]; · iexact H21
    iexact H23

/-- One trip of the third loop: one block of columns of the gradient of the input. -/
theorem trip3b (O13 : Vec F S256x4096 .bf16) (k : Fin k2_t3_loop.trips) (u : Unit) (E : Set ℕ) :
    (iprop(owns (c : Thread nD τ) arg3 fullShare X.x
        ∗ owns (c : Thread nD τ) arg23 fullShare X.dh
        ∗ owns (c : Thread nD τ) arg4 fullShare X.dy
        ∗ owns (c : Thread nD τ) arg13 fullShare (mix 1 k.val X.dx O13)) : sProp 𝕄)
      ⊢ wp frame (wpE (defs₀ (F := F)) Variants.none c none) E (k2_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X.v44 (X.acc 8).2.2 k u)
          (fun _ => iprop(owns (c : Thread nD τ) arg3 fullShare X.x
        ∗ owns (c : Thread nD τ) arg23 fullShare X.dh
        ∗ owns (c : Thread nD τ) arg4 fullShare X.dy
        ∗ owns (c : Thread nD τ) arg13 fullShare (mix 1 (k.val + 1) X.dx O13))) := by
  have hk : k.val < 8 := Nat.lt_of_lt_of_le k.isLt (by decide)
  unfold k2_t3_body
  iintro ⟨H3, H23, H4, H13⟩
  ihave H3 := (owns_open harg3 _) $$ H3
  ihave H23 := (owns_open harg23 _) $$ H23
  ihave H4 := (owns_open harg4 _) $$ H4
  ihave H13 := (owns_open harg13 _) $$ H13
  sl_exec
  sl_step
  have e3 : ∀ inb, View.readAt (Elt F) arg3.view (Rect.unit (s := S256x4096) (k2_off5 k) S256x512.size inb).toLoadRect (harg3.unread X.x) = X.bx k.val := fun inb => readAt_col harg3 X.x k.val _ (k2_off5_eq k) inb
  have e23 : ∀ inb, View.readAt (Elt F) arg23.view (Rect.unit (s := S256x4096) (k2_off5 k) S256x512.size inb).toLoadRect (harg23.unread X.dh) = colBlk X.dh k.val := fun inb => readAt_col harg23 X.dh k.val _ (k2_off5_eq k) inb
  have e4 : ∀ inb, View.readAt (Elt F) arg4.view (Rect.unit (s := S256x4096) (k2_off5 k) S256x512.size inb).toLoadRect (harg4.unread X.dy) = X.bdy k.val := fun inb => readAt_col harg4 X.dy k.val _ (k2_off5_eq k) inb
  isplitl [H3]; · iapply (owns_close _ _ (harg3.read_unread _)) $$ H3
  isplitl [H23]; · iapply (owns_close _ _ (harg23.read_unread _)) $$ H23
  isplitl [H4]; · iapply (owns_close _ _ (harg4.read_unread _)) $$ H4
  iapply (owns_close _ _ (by rw [e3, e23, e4]; exact writes_col harg13 k.val _ O13 _ (k2_off5_eq k) (k2_off5_inb k) _ rfl)) $$ H13

/-- The third loop: the gradient of the input. -/
theorem loop3b (O13 : Vec F S256x4096 .bf16) (E : Set ℕ) :
    (iprop(owns (c : Thread nD τ) arg3 fullShare X.x
        ∗ owns (c : Thread nD τ) arg23 fullShare X.dh
        ∗ owns (c : Thread nD τ) arg4 fullShare X.dy
        ∗ owns (c : Thread nD τ) arg13 fullShare O13) : sProp 𝕄)
      ⊢ wp frame (wpE (defs₀ (F := F)) Variants.none c none) E (Scf.Loop.for k2_t3_loop k2_t3_ok ⟨⟩ (k2_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X.v44 (X.acc 8).2.2))
          (fun r => iprop(⌜r = ⟨⟩⌝ ∗ owns (c : Thread nD τ) arg3 fullShare X.x
        ∗ owns (c : Thread nD τ) arg23 fullShare X.dh
        ∗ owns (c : Thread nD τ) arg4 fullShare X.dy
        ∗ owns (c : Thread nD τ) arg13 fullShare X.dx)) := by
  have ht : k2_t3_loop.trips = 8 := by decide
  iintro ⟨H3, H23, H4, H13⟩
  sl_for (fun k _ => iprop(owns (c : Thread nD τ) arg3 fullShare X.x
        ∗ owns (c : Thread nD τ) arg23 fullShare X.dh
        ∗ owns (c : Thread nD τ) arg4 fullShare X.dy
        ∗ owns (c : Thread nD τ) arg13 fullShare (mix 1 k X.dx O13))) $$ [H3 H23 H4 H13]
  · intro k acc
    exact trip3b c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X O13 k acc E
  · isplitl [H3 H23 H4 H13]
    · isplitl [H3]; · iexact H3
      isplitl [H23]; · iexact H23
      isplitl [H4]; · iexact H4
      iexact H13
    iintro %acc ⟨H3, H23, H4, H13⟩
    rw [mix_full 1 _ _ O13 (by decide)]
    isplitr
    · ipureintro; rfl
    isplitl [H3]; · iexact H3
    isplitl [H23]; · iexact H23
    isplitl [H4]; · iexact H4
    iexact H13

end Run

end Cert.Kernel.Body
-- ==== Proof.K.Body2.lean ====
module

public import proofs.«01_k».proof.Proof.Gen.Kernel.Launch
public import proofs.«01_k».proof.Proof.Gen.Kernel.Skeleton
public import proofs.«01_k».proof.Proof.Gen.Kernel.Points
public import proofs.«01_k».proof.Proof.K.Loops2
public import Idealize.ShloMosaic.Lib.Pipeline.FrameBody
public import Idealize.ShloMosaic.Lib.Exec
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The last call's body. -/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.Tiles

variable {F : FTy → Type} [BitOps F]

local notation "𝕄" => MT nD τ sig Unit (Elt F) ℕ (UR sig nD τ) ℕ

section Run

variable (c : Dev nD) (arg0 : Memref sig .tc .smem S2 .f32) (harg0 : arg0.IsWhole) (arg1 : Memref sig .tc .vmem S256x4096 .f32) (harg1 : arg1.IsWhole) (arg2 : Memref sig .tc .vmem S4096x256 .f32) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S256x4096 .fp8e4m3) (harg6 : arg6.IsWhole) (arg7 : Memref sig .tc .vmem S1x4096 .f32) (harg7 : arg7.IsWhole) (arg8 : Memref sig .tc .vmem S8x4096 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x4096 .bf16) (harg12 : arg12.IsWhole) (arg13 : Memref sig .tc .vmem S256x4096 .bf16) (harg13 : arg13.IsWhole) (arg14 : Memref sig .tc .vmem S1x4096 .f32) (harg14 : arg14.IsWhole) (arg15 : Memref sig .tc .vmem S1x1 .f32) (harg15 : arg15.IsWhole) (arg16 : Memref sig .tc .vmem S256x1 .f32) (harg16 : arg16.IsWhole) (arg17 : Memref sig .tc .vmem S256x1 .f32) (harg17 : arg17.IsWhole) (arg18 : Memref sig .tc .vmem S1x1 .f32) (harg18 : arg18.IsWhole) (arg19 : Memref sig .tc .vmem S256x1 .f32) (harg19 : arg19.IsWhole) (arg20 : Memref sig .tc .vmem S256x1 .f32) (harg20 : arg20.IsWhole) (arg21 : Memref sig .tc .vmem S1x4096 .f32) (harg21 : arg21.IsWhole) (arg22 : Memref sig .tc .vmem S256x1 .f32) (harg22 : arg22.IsWhole) (arg23 : Memref sig .tc .vmem S256x4096 .f32) (harg23 : arg23.IsWhole)
variable (X : In2 F)
include c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
set_option maxHeartbeats 1000000 in
/-- The first part: the sums over the eight rows and over the lanes of what the main call accumulated. -/
theorem head2 (O14 : Vec F S1x4096 .f32) (O19 : Vec F S256x1 .f32) (O20 : Vec F S256x1 .f32) (E : Set ℕ) :
    (iprop(owns (c : Thread nD τ) arg0 fullShare X.s
        ∗ owns (c : Thread nD τ) arg8 fullShare X.d8
        ∗ owns (c : Thread nD τ) arg9 fullShare X.p9
        ∗ owns (c : Thread nD τ) arg10 fullShare X.p10
        ∗ owns (c : Thread nD τ) arg11 fullShare X.p11
        ∗ owns (c : Thread nD τ) arg14 fullShare O14
        ∗ owns (c : Thread nD τ) arg19 fullShare O19
        ∗ owns (c : Thread nD τ) arg20 fullShare O20) : sProp 𝕄)
      ⊢ wp frame (wpE (defs₀ (F := F)) Variants.none c none) E (k2_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun r => iprop(⌜r = ⟨X.s1, X.s2, X.v31⟩⌝ ∗ owns (c : Thread nD τ) arg0 fullShare X.s
        ∗ owns (c : Thread nD τ) arg8 fullShare X.d8
        ∗ owns (c : Thread nD τ) arg9 fullShare X.p9
        ∗ owns (c : Thread nD τ) arg10 fullShare X.p10
        ∗ owns (c : Thread nD τ) arg11 fullShare X.p11
        ∗ owns (c : Thread nD τ) arg14 fullShare X.o14
        ∗ owns (c : Thread nD τ) arg19 fullShare X.o19
        ∗ owns (c : Thread nD τ) arg20 fullShare X.o20)) := by
  rw [k2_part3_eq_skeleton]; unfold k2_part3_skel
  iintro ⟨H0, H8, H9, H10, H11, H14, H19, H20⟩
  ihave H0 := (owns_open harg0 _) $$ H0
  ihave H8 := (owns_open harg8 _) $$ H8
  ihave H9 := (owns_open harg9 _) $$ H9
  ihave H10 := (owns_open harg10 _) $$ H10
  ihave H11 := (owns_open harg11 _) $$ H11
  ihave H14 := (owns_open harg14 _) $$ H14
  ihave H19 := (owns_open harg19 _) $$ H19
  ihave H20 := (owns_open harg20 _) $$ H20
  sl_exec
  have q1 : head2.sl.r c arg0 harg0 X = X.s1 := by
    unfold head2.sl.r
    rw [View.readAt_eq_ld, harg0.read_unread]
    exact congrArg X.s (funext fun a => by fin_cases a; rfl)
  have q2 : head2.sl.r_1 c arg0 harg0 X = X.s2 := by
    unfold head2.sl.r_1
    rw [View.readAt_eq_ld, harg0.read_unread]
    exact congrArg X.s (funext fun a => by fin_cases a; rfl)
  have e8 : ∀ inb, View.readAt (Elt F) arg8.view (Rect.unit (s := S8x4096) ![0, 0] S8x4096.size inb).toLoadRect (harg8.unread X.d8) = X.d8 := fun inb => readAt_whole harg8 X.d8 inb
  have e9 : ∀ inb, View.readAt (Elt F) arg9.view (Rect.unit (s := S256x128) ![0, 0] S256x128.size inb).toLoadRect (harg9.unread X.p9) = X.p9 := fun inb => readAt_whole harg9 X.p9 inb
  have e10 : ∀ inb, View.readAt (Elt F) arg10.view (Rect.unit (s := S256x128) ![0, 0] S256x128.size inb).toLoadRect (harg10.unread X.p10) = X.p10 := fun inb => readAt_whole harg10 X.p10 inb
  have e11 : ∀ inb, View.readAt (Elt F) arg11.view (Rect.unit (s := S256x128) ![0, 0] S256x128.size inb).toLoadRect (harg11.unread X.p11) = X.p11 := fun inb => readAt_whole harg11 X.p11 inb
  rw [q1, q2]
  sl_step
  isplitr
  · ipureintro; rw [e10, e11]; rfl
  isplitl [H0]; · iapply (owns_close _ _ (harg0.read_unread _)) $$ H0
  isplitl [H8]; · iapply (owns_close _ _ (harg8.read_unread _)) $$ H8
  isplitl [H9]; · iapply (owns_close _ _ (harg9.read_unread _)) $$ H9
  isplitl [H10]; · iapply (owns_close _ _ (harg10.read_unread _)) $$ H10
  isplitl [H11]; · iapply (owns_close _ _ (harg11.read_unread _)) $$ H11
  isplitl [H14]; · iapply (owns_close X.o14 _ (by (try rw [e8]); (try rw [e9]); (try rw [e10]); (try rw [e11]); exact writes_whole _ _ _ _)) $$ H14
  isplitl [H19]; · iapply (owns_close X.o19 _ (by (try rw [e8]); (try rw [e9]); (try rw [e10]); (try rw [e11]); exact writes_whole _ _ _ _)) $$ H19
  iapply (owns_close X.o20 _ (by (try rw [e8]); (try rw [e9]); (try rw [e10]); (try rw [e11]); exact writes_whole _ _ _ _)) $$ H20

set_option maxHeartbeats 1000000 in
/-- The second part: the first two loops and the sums over lanes. -/
theorem mid2 (O12 : Vec F S256x4096 .bf16) (O21 : Vec F S1x4096 .f32) (O23 : Vec F S256x4096 .f32) (O18 : Vec F S1x1 .f32) (O16 : Vec F S256x1 .f32) (O17 : Vec F S256x1 .f32) (O15 : Vec F S1x1 .f32) (E : Set ℕ) :
    (iprop(owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare O12
        ∗ owns (c : Thread nD τ) arg21 fullShare O21
        ∗ owns (c : Thread nD τ) arg23 fullShare O23
        ∗ owns (c : Thread nD τ) arg18 fullShare O18
        ∗ owns (c : Thread nD τ) arg16 fullShare O16
        ∗ owns (c : Thread nD τ) arg17 fullShare O17
        ∗ owns (c : Thread nD τ) arg15 fullShare O15) : sProp 𝕄)
      ⊢ wp frame (wpE (defs₀ (F := F)) Variants.none c none) E (k2_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X.s1 X.s2 X.v31)
          (fun r => iprop(⌜r = ⟨X.v44, (X.acc 8).2.2, X.ds⟩⌝ ∗ owns (c : Thread nD τ) arg3 fullShare X.x
        ∗ owns (c : Thread nD τ) arg5 fullShare X.g
        ∗ owns (c : Thread nD τ) arg1 fullShare X.o
        ∗ owns (c : Thread nD τ) arg7 fullShare X.sd
        ∗ owns (c : Thread nD τ) arg2 fullShare X.t
        ∗ owns (c : Thread nD τ) arg6 fullShare X.c1
        ∗ owns (c : Thread nD τ) arg12 fullShare X.y
        ∗ owns (c : Thread nD τ) arg21 fullShare X.dg
        ∗ owns (c : Thread nD τ) arg23 fullShare X.dh
        ∗ owns (c : Thread nD τ) arg18 fullShare X.v31
        ∗ owns (c : Thread nD τ) arg16 fullShare X.o16
        ∗ owns (c : Thread nD τ) arg17 fullShare X.o17
        ∗ owns (c : Thread nD τ) arg15 fullShare O15)) := by
  rw [k2_part4_eq_skeleton]; unfold k2_part4_skel
  iintro ⟨H3, H5, H1, H7, H2, H6, H12, H21, H23, H18, H16, H17, H15⟩
  ihave H18 := (owns_open harg18 _) $$ H18
  ihave H16 := (owns_open harg16 _) $$ H16
  ihave H17 := (owns_open harg17 _) $$ H17
  ihave H15 := (owns_open harg15 _) $$ H15
  sl_exec
  ihave H18 := (owns_close X.v31 _ (by exact writes_whole _ _ _ _)) $$ H18
  iapply (cut (sqs c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X X.s1 X.s2 X.v31 E)) $$ H3
  iintro H3
  iapply (cut (loop2b c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X X.v31 O12 O21 O23 E)) $$ [H3 H5 H1 H7 H2 H6 H12 H21 H23]
  · isplitl [H3]; · iexact H3
    isplitl [H5]; · iexact H5
    isplitl [H1]; · iexact H1
    isplitl [H7]; · iexact H7
    isplitl [H2]; · iexact H2
    isplitl [H6]; · iexact H6
    isplitl [H12]; · iexact H12
    isplitl [H21]; · iexact H21
    iexact H23
  iintro ⟨H3, H5, H1, H7, H2, H6, H12, H21, H23⟩
  sl_exec
  sl_step
  isplitr
  · ipureintro; rfl
  isplitl [H3]; · iexact H3
  isplitl [H5]; · iexact H5
  isplitl [H1]; · iexact H1
  isplitl [H7]; · iexact H7
  isplitl [H2]; · iexact H2
  isplitl [H6]; · iexact H6
  isplitl [H12]; · iexact H12
  isplitl [H21]; · iexact H21
  isplitl [H23]; · iexact H23
  isplitl [H18]; · iexact H18
  isplitl [H16]; · iapply (owns_close X.o16 _ (by exact writes_whole _ _ _ _)) $$ H16
  isplitl [H17]; · iapply (owns_close X.o17 _ (by exact writes_whole _ _ _ _)) $$ H17
  iapply (owns_close _ _ (harg15.read_unread _)) $$ H15

set_option maxHeartbeats 1000000 in
/-- **The last call's body**: what each of its outputs and its scratch buffer holds after it. -/
theorem body2 (O12 : Vec F S256x4096 .bf16) (O13 : Vec F S256x4096 .bf16) (O14 : Vec F S1x4096 .f32) (O15 : Vec F S1x1 .f32) (O16 : Vec F S256x1 .f32) (O17 : Vec F S256x1 .f32) (O18 : Vec F S1x1 .f32) (O19 : Vec F S256x1 .f32) (O20 : Vec F S256x1 .f32) (O21 : Vec F S1x4096 .f32) (O22 : Vec F S256x1 .f32) (O23 : Vec F S256x4096 .f32) (E : Set ℕ) (K : PUnit → sProp 𝕄) :
    (iprop(owns (c : Thread nD τ) arg0 fullShare X.s
        ∗ owns (c : Thread nD τ) arg1 fullShare X.o
        ∗ owns (c : Thread nD τ) arg2 fullShare X.t
        ∗ owns (c : Thread nD τ) arg3 fullShare X.x
        ∗ owns (c : Thread nD τ) arg4 fullShare X.dy
        ∗ owns (c : Thread nD τ) arg5 fullShare X.g
        ∗ owns (c : Thread nD τ) arg6 fullShare X.c1
        ∗ owns (c : Thread nD τ) arg7 fullShare X.sd
        ∗ owns (c : Thread nD τ) arg8 fullShare X.d8
        ∗ owns (c : Thread nD τ) arg9 fullShare X.p9
        ∗ owns (c : Thread nD τ) arg10 fullShare X.p10
        ∗ owns (c : Thread nD τ) arg11 fullShare X.p11
        ∗ owns (c : Thread nD τ) arg12 fullShare O12
        ∗ owns (c : Thread nD τ) arg13 fullShare O13
        ∗ owns (c : Thread nD τ) arg14 fullShare O14
        ∗ owns (c : Thread nD τ) arg15 fullShare O15
        ∗ owns (c : Thread nD τ) arg16 fullShare O16
        ∗ owns (c : Thread nD τ) arg17 fullShare O17
        ∗ owns (c : Thread nD τ) arg18 fullShare O18
        ∗ owns (c : Thread nD τ) arg19 fullShare O19
        ∗ owns (c : Thread nD τ) arg20 fullShare O20
        ∗ owns (c : Thread nD τ) arg21 fullShare O21
        ∗ owns (c : Thread nD τ) arg22 fullShare O22
        ∗ owns (c : Thread nD τ) arg23 fullShare O23
      ∗ (iprop(owns (c : Thread nD τ) arg0 fullShare X.s
        ∗ owns (c : Thread nD τ) arg1 fullShare X.o
        ∗ owns (c : Thread nD τ) arg2 fullShare X.t
        ∗ owns (c : Thread nD τ) arg3 fullShare X.x
        ∗ owns (c : Thread nD τ) arg4 fullShare X.dy
        ∗ owns (c : Thread nD τ) arg5 fullShare X.g
        ∗ owns (c : Thread nD τ) arg6 fullShare X.c1
        ∗ owns (c : Thread nD τ) arg7 fullShare X.sd
        ∗ owns (c : Thread nD τ) arg8 fullShare X.d8
        ∗ owns (c : Thread nD τ) arg9 fullShare X.p9
        ∗ owns (c : Thread nD τ) arg10 fullShare X.p10
        ∗ owns (c : Thread nD τ) arg11 fullShare X.p11
        ∗ owns (c : Thread nD τ) arg12 fullShare X.y
        ∗ owns (c : Thread nD τ) arg13 fullShare X.dx
        ∗ owns (c : Thread nD τ) arg14 fullShare X.o14
        ∗ owns (c : Thread nD τ) arg15 fullShare X.ds
        ∗ owns (c : Thread nD τ) arg16 fullShare X.o16
        ∗ owns (c : Thread nD τ) arg17 fullShare X.o17
        ∗ owns (c : Thread nD τ) arg18 fullShare X.v31
        ∗ owns (c : Thread nD τ) arg19 fullShare X.o19
        ∗ owns (c : Thread nD τ) arg20 fullShare X.o20
        ∗ owns (c : Thread nD τ) arg21 fullShare X.dg
        ∗ owns (c : Thread nD τ) arg22 fullShare X.o22
        ∗ owns (c : Thread nD τ) arg23 fullShare X.dh) -∗ K ⟨⟩)) : sProp 𝕄)
      ⊢ wp frame (wpE (defs₀ (F := F)) Variants.none c none) E (cc2_norm_bwd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  rw [cc2_norm_bwd_eq_skeleton]; unfold cc2_norm_bwd_skel
  iintro ⟨H0, H1, H2, H3, H4, H5, H6, H7, H8, H9, H10, H11, H12, H13, H14, H15, H16, H17, H18, H19, H20, H21, H22, H23, HK⟩
  iapply (cut (head2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X O14 O19 O20 E)) $$ [H0 H8 H9 H10 H11 H14 H19 H20]
  · isplitl [H0]; · iexact H0
    isplitl [H8]; · iexact H8
    isplitl [H9]; · iexact H9
    isplitl [H10]; · iexact H10
    isplitl [H11]; · iexact H11
    isplitl [H14]; · iexact H14
    isplitl [H19]; · iexact H19
    iexact H20
  iintro ⟨H0, H8, H9, H10, H11, H14, H19, H20⟩
  iapply (cut (mid2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X O12 O21 O23 O18 O16 O17 O15 E)) $$ [H3 H5 H1 H7 H2 H6 H12 H21 H23 H18 H16 H17 H15]
  · isplitl [H3]; · iexact H3
    isplitl [H5]; · iexact H5
    isplitl [H1]; · iexact H1
    isplitl [H7]; · iexact H7
    isplitl [H2]; · iexact H2
    isplitl [H6]; · iexact H6
    isplitl [H12]; · iexact H12
    isplitl [H21]; · iexact H21
    isplitl [H23]; · iexact H23
    isplitl [H18]; · iexact H18
    isplitl [H16]; · iexact H16
    isplitl [H17]; · iexact H17
    iexact H15
  iintro ⟨H3, H5, H1, H7, H2, H6, H12, H21, H23, H18, H16, H17, H15⟩
  ihave H15 := (owns_open harg15 _) $$ H15
  ihave H22 := (owns_open harg22 _) $$ H22
  sl_exec
  ihave H15 := (owns_close X.ds _ (by exact writes_whole _ _ _ _)) $$ H15
  ihave H22 := (owns_close X.o22 _ (by exact writes_whole _ _ _ _)) $$ H22
  iapply (cut (loop3b c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X O13 E)) $$ [H3 H23 H4 H13]
  · isplitl [H3]; · iexact H3
    isplitl [H23]; · iexact H23
    isplitl [H4]; · iexact H4
    iexact H13
  iintro ⟨H3, H23, H4, H13⟩
  sl_exec
  sl_step
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

end Run

end Cert.Kernel.Body
-- ==== Proof.K.Region2.lean ====
module

public import proofs.«01_k».proof.Proof.Gen.Kernel.Launch
public import proofs.«01_k».proof.Proof.Gen.Kernel.Skeleton
public import proofs.«01_k».proof.Proof.Gen.Kernel.Points
public import proofs.«01_k».proof.Proof.K.Body2
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The last call: what its pipeline holds at each step, and that its body keeps it. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Body Cert.Tiles

variable {F : FTy → Type} [BitOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

/-- The block of window `w` at step `t`. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every step. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 holds its block at every step. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 holds its block at every step. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 holds its block at every step. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 holds its block at every step. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5 holds its block at every step. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6 holds its block at every step. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7 holds its block at every step. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8 holds its block at every step. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9 holds its block at every step. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10 holds its block at every step. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11 holds its block at every step. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

abbrev ms2_0 (t : Fin cfg2.N) : Memref sig .tc .smem S2 .f32 := win2_0.stage (cfg2.slots t 0)
abbrev hs2_0 (t : Fin cfg2.N) : (ms2_0 t).IsWhole := hstage2_0 0
abbrev ms2_1 (t : Fin cfg2.N) : Memref sig .tc .vmem S256x4096 .f32 := win2_1.stage (cfg2.slots t 1)
abbrev hs2_1 (t : Fin cfg2.N) : (ms2_1 t).IsWhole := hstage2_1 0
abbrev ms2_2 (t : Fin cfg2.N) : Memref sig .tc .vmem S4096x256 .f32 := win2_2.stage (cfg2.slots t 2)
abbrev hs2_2 (t : Fin cfg2.N) : (ms2_2 t).IsWhole := hstage2_2 0
abbrev ms2_3 (t : Fin cfg2.N) : Memref sig .tc .vmem S256x4096 .bf16 := win2_3.stage (cfg2.slots t 3)
abbrev hs2_3 (t : Fin cfg2.N) : (ms2_3 t).IsWhole := hstage2_3 0
abbrev ms2_4 (t : Fin cfg2.N) : Memref sig .tc .vmem S256x4096 .bf16 := win2_4.stage (cfg2.slots t 4)
abbrev hs2_4 (t : Fin cfg2.N) : (ms2_4 t).IsWhole := hstage2_4 0
abbrev ms2_5 (t : Fin cfg2.N) : Memref sig .tc .vmem S1x4096 .f32 := win2_5.stage (cfg2.slots t 5)
abbrev hs2_5 (t : Fin cfg2.N) : (ms2_5 t).IsWhole := hstage2_5 0
abbrev ms2_6 (t : Fin cfg2.N) : Memref sig .tc .vmem S256x4096 .fp8e4m3 := win2_6.stage (cfg2.slots t 6)
abbrev hs2_6 (t : Fin cfg2.N) : (ms2_6 t).IsWhole := hstage2_6 0
abbrev ms2_7 (t : Fin cfg2.N) : Memref sig .tc .vmem S1x4096 .f32 := win2_7.stage (cfg2.slots t 7)
abbrev hs2_7 (t : Fin cfg2.N) : (ms2_7 t).IsWhole := hstage2_7 0
abbrev ms2_8 (t : Fin cfg2.N) : Memref sig .tc .vmem S8x4096 .f32 := win2_8.stage (cfg2.slots t 8)
abbrev hs2_8 (t : Fin cfg2.N) : (ms2_8 t).IsWhole := hstage2_8 0
abbrev ms2_9 (t : Fin cfg2.N) : Memref sig .tc .vmem S256x128 .f32 := win2_9.stage (cfg2.slots t 9)
abbrev hs2_9 (t : Fin cfg2.N) : (ms2_9 t).IsWhole := hstage2_9 0
abbrev ms2_10 (t : Fin cfg2.N) : Memref sig .tc .vmem S256x128 .f32 := win2_10.stage (cfg2.slots t 10)
abbrev hs2_10 (t : Fin cfg2.N) : (ms2_10 t).IsWhole := hstage2_10 0
abbrev ms2_11 (t : Fin cfg2.N) : Memref sig .tc .vmem S256x128 .f32 := win2_11.stage (cfg2.slots t 11)
abbrev hs2_11 (t : Fin cfg2.N) : (ms2_11 t).IsWhole := hstage2_11 0
abbrev ms2_12 (t : Fin cfg2.N) : Memref sig .tc .vmem S256x4096 .bf16 := win2_12.stage (cfg2.slots t 12)
abbrev hs2_12 (t : Fin cfg2.N) : (ms2_12 t).IsWhole := hstage2_12 0
abbrev ms2_13 (t : Fin cfg2.N) : Memref sig .tc .vmem S256x4096 .bf16 := win2_13.stage (cfg2.slots t 13)
abbrev hs2_13 (t : Fin cfg2.N) : (ms2_13 t).IsWhole := hstage2_13 0
abbrev ms2_14 (t : Fin cfg2.N) : Memref sig .tc .vmem S1x4096 .f32 := win2_14.stage (cfg2.slots t 14)
abbrev hs2_14 (t : Fin cfg2.N) : (ms2_14 t).IsWhole := hstage2_14 0
abbrev ms2_15 (t : Fin cfg2.N) : Memref sig .tc .vmem S1x1 .f32 := win2_15.stage (cfg2.slots t 15)
abbrev hs2_15 (t : Fin cfg2.N) : (ms2_15 t).IsWhole := hstage2_15 0
abbrev ms2_16 (t : Fin cfg2.N) : Memref sig .tc .vmem S256x1 .f32 := win2_16.stage (cfg2.slots t 16)
abbrev hs2_16 (t : Fin cfg2.N) : (ms2_16 t).IsWhole := hstage2_16 0
abbrev ms2_17 (t : Fin cfg2.N) : Memref sig .tc .vmem S256x1 .f32 := win2_17.stage (cfg2.slots t 17)
abbrev hs2_17 (t : Fin cfg2.N) : (ms2_17 t).IsWhole := hstage2_17 0
abbrev ms2_18 (t : Fin cfg2.N) : Memref sig .tc .vmem S1x1 .f32 := win2_18.stage (cfg2.slots t 18)
abbrev hs2_18 (t : Fin cfg2.N) : (ms2_18 t).IsWhole := hstage2_18 0
abbrev ms2_19 (t : Fin cfg2.N) : Memref sig .tc .vmem S256x1 .f32 := win2_19.stage (cfg2.slots t 19)
abbrev hs2_19 (t : Fin cfg2.N) : (ms2_19 t).IsWhole := hstage2_19 0
abbrev ms2_20 (t : Fin cfg2.N) : Memref sig .tc .vmem S256x1 .f32 := win2_20.stage (cfg2.slots t 20)
abbrev hs2_20 (t : Fin cfg2.N) : (ms2_20 t).IsWhole := hstage2_20 0
abbrev ms2_21 (t : Fin cfg2.N) : Memref sig .tc .vmem S1x4096 .f32 := win2_21.stage (cfg2.slots t 21)
abbrev hs2_21 (t : Fin cfg2.N) : (ms2_21 t).IsWhole := hstage2_21 0
abbrev ms2_22 (t : Fin cfg2.N) : Memref sig .tc .vmem S256x1 .f32 := win2_22.stage (cfg2.slots t 22)
abbrev hs2_22 (t : Fin cfg2.N) : (ms2_22 t).IsWhole := hstage2_22 0
abbrev scM2_0 : Memref sig .tc .vmem S256x4096 .f32 := Memref.whole cc2_scratch0

/-- The scoped buffers as the scratch buffers and the rest. -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

/-- The invariant with the scratch buffers owned at some contents. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

/-- The last call's operands. -/
def in2 (c : Dev nD) (t : Fin cfg2.N) : In2 F where
  s := iblk2 V c 0 t
  o := iblk2 V c 1 t
  t := iblk2 V c 2 t
  x := iblk2 V c 3 t
  dy := iblk2 V c 4 t
  g := iblk2 V c 5 t
  c1 := iblk2 V c 6 t
  sd := iblk2 V c 7 t
  d8 := iblk2 V c 8 t
  p9 := iblk2 V c 9 t
  p10 := iblk2 V c 10 t
  p11 := iblk2 V c 11 t

/-- The proof data: every window after each step. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => (in2 V c t).y
    | ⟨13, _⟩ => (in2 V c t).dx
    | ⟨14, _⟩ => (in2 V c t).o14
    | ⟨15, _⟩ => (in2 V c t).ds
    | ⟨16, _⟩ => (in2 V c t).o16
    | ⟨17, _⟩ => (in2 V c t).o17
    | ⟨18, _⟩ => (in2 V c t).v31
    | ⟨19, _⟩ => (in2 V c t).o19
    | ⟨20, _⟩ => (in2 V c t).o20
    | ⟨21, _⟩ => (in2 V c t).dg
    | ⟨22, _⟩ => (in2 V c t).o22
    | ⟨_ + 23, h⟩ => absurd h (Nat.not_lt.2 (Nat.le_add_left _ _))
  Φ _ := Pipeline.ΦA spec2 c
  q _ := fullShare
  owed _ := 0

/-- Each window's array begins as the memory's array. -/
theorem A_eq2 (c : Dev nD) (w : Fin cfg2.W) : (dat2 V c).A w = V c (Pipeline.arrRef spec2 w) := by
  dsimp only [dat2]

/-- What window 0 of the last call holds when a grid step ends. -/
theorem after2_0 (c : Dev nD) (t : Fin cfg2.N) : (dat2 V c).after 0 t = iblk2 V c 0 t := by dsimp only [dat2]
/-- What window 1 of the last call holds when a grid step ends. -/
theorem after2_1 (c : Dev nD) (t : Fin cfg2.N) : (dat2 V c).after 1 t = iblk2 V c 1 t := by dsimp only [dat2]
/-- What window 2 of the last call holds when a grid step ends. -/
theorem after2_2 (c : Dev nD) (t : Fin cfg2.N) : (dat2 V c).after 2 t = iblk2 V c 2 t := by dsimp only [dat2]
/-- What window 3 of the last call holds when a grid step ends. -/
theorem after2_3 (c : Dev nD) (t : Fin cfg2.N) : (dat2 V c).after 3 t = iblk2 V c 3 t := by dsimp only [dat2]
/-- What window 4 of the last call holds when a grid step ends. -/
theorem after2_4 (c : Dev nD) (t : Fin cfg2.N) : (dat2 V c).after 4 t = iblk2 V c 4 t := by dsimp only [dat2]
/-- What window 5 of the last call holds when a grid step ends. -/
theorem after2_5 (c : Dev nD) (t : Fin cfg2.N) : (dat2 V c).after 5 t = iblk2 V c 5 t := by dsimp only [dat2]
/-- What window 6 of the last call holds when a grid step ends. -/
theorem after2_6 (c : Dev nD) (t : Fin cfg2.N) : (dat2 V c).after 6 t = iblk2 V c 6 t := by dsimp only [dat2]
/-- What window 7 of the last call holds when a grid step ends. -/
theorem after2_7 (c : Dev nD) (t : Fin cfg2.N) : (dat2 V c).after 7 t = iblk2 V c 7 t := by dsimp only [dat2]
/-- What window 8 of the last call holds when a grid step ends. -/
theorem after2_8 (c : Dev nD) (t : Fin cfg2.N) : (dat2 V c).after 8 t = iblk2 V c 8 t := by dsimp only [dat2]
/-- What window 9 of the last call holds when a grid step ends. -/
theorem after2_9 (c : Dev nD) (t : Fin cfg2.N) : (dat2 V c).after 9 t = iblk2 V c 9 t := by dsimp only [dat2]
/-- What window 10 of the last call holds when a grid step ends. -/
theorem after2_10 (c : Dev nD) (t : Fin cfg2.N) : (dat2 V c).after 10 t = iblk2 V c 10 t := by dsimp only [dat2]
/-- What window 11 of the last call holds when a grid step ends. -/
theorem after2_11 (c : Dev nD) (t : Fin cfg2.N) : (dat2 V c).after 11 t = iblk2 V c 11 t := by dsimp only [dat2]
/-- What window 12 of the last call holds when a grid step ends. -/
theorem after2_12 (c : Dev nD) (t : Fin cfg2.N) : (dat2 V c).after 12 t = (in2 V c t).y := by dsimp only [dat2]
/-- What window 13 of the last call holds when a grid step ends. -/
theorem after2_13 (c : Dev nD) (t : Fin cfg2.N) : (dat2 V c).after 13 t = (in2 V c t).dx := by dsimp only [dat2]
/-- What window 14 of the last call holds when a grid step ends. -/
theorem after2_14 (c : Dev nD) (t : Fin cfg2.N) : (dat2 V c).after 14 t = (in2 V c t).o14 := by dsimp only [dat2]
/-- What window 15 of the last call holds when a grid step ends. -/
theorem after2_15 (c : Dev nD) (t : Fin cfg2.N) : (dat2 V c).after 15 t = (in2 V c t).ds := by dsimp only [dat2]
/-- What window 16 of the last call holds when a grid step ends. -/
theorem after2_16 (c : Dev nD) (t : Fin cfg2.N) : (dat2 V c).after 16 t = (in2 V c t).o16 := by dsimp only [dat2]
/-- What window 17 of the last call holds when a grid step ends. -/
theorem after2_17 (c : Dev nD) (t : Fin cfg2.N) : (dat2 V c).after 17 t = (in2 V c t).o17 := by dsimp only [dat2]
/-- What window 18 of the last call holds when a grid step ends. -/
theorem after2_18 (c : Dev nD) (t : Fin cfg2.N) : (dat2 V c).after 18 t = (in2 V c t).v31 := by dsimp only [dat2]
/-- What window 19 of the last call holds when a grid step ends. -/
theorem after2_19 (c : Dev nD) (t : Fin cfg2.N) : (dat2 V c).after 19 t = (in2 V c t).o19 := by dsimp only [dat2]
/-- What window 20 of the last call holds when a grid step ends. -/
theorem after2_20 (c : Dev nD) (t : Fin cfg2.N) : (dat2 V c).after 20 t = (in2 V c t).o20 := by dsimp only [dat2]
/-- What window 21 of the last call holds when a grid step ends. -/
theorem after2_21 (c : Dev nD) (t : Fin cfg2.N) : (dat2 V c).after 21 t = (in2 V c t).dg := by dsimp only [dat2]
/-- What window 22 of the last call holds when a grid step ends. -/
theorem after2_22 (c : Dev nD) (t : Fin cfg2.N) : (dat2 V c).after 22 t = (in2 V c t).o22 := by dsimp only [dat2]

/-- Window 0 of the last call holds its array's block when a grid step begins. -/
theorem before2_0 (c : Dev nD) (t : Fin cfg2.N) (d) : (dat2 V c).before 0 t d = iblk2 V c 0 t :=
  before2_0_of V (dat2 V c) (A_eq2 V c 0) (after2_0 V c) t d
/-- Window 1 of the last call holds its array's block when a grid step begins. -/
theorem before2_1 (c : Dev nD) (t : Fin cfg2.N) (d) : (dat2 V c).before 1 t d = iblk2 V c 1 t :=
  before2_1_of V (dat2 V c) (A_eq2 V c 1) (after2_1 V c) t d
/-- Window 2 of the last call holds its array's block when a grid step begins. -/
theorem before2_2 (c : Dev nD) (t : Fin cfg2.N) (d) : (dat2 V c).before 2 t d = iblk2 V c 2 t :=
  before2_2_of V (dat2 V c) (A_eq2 V c 2) (after2_2 V c) t d
/-- Window 3 of the last call holds its array's block when a grid step begins. -/
theorem before2_3 (c : Dev nD) (t : Fin cfg2.N) (d) : (dat2 V c).before 3 t d = iblk2 V c 3 t :=
  before2_3_of V (dat2 V c) (A_eq2 V c 3) (after2_3 V c) t d
/-- Window 4 of the last call holds its array's block when a grid step begins. -/
theorem before2_4 (c : Dev nD) (t : Fin cfg2.N) (d) : (dat2 V c).before 4 t d = iblk2 V c 4 t :=
  before2_4_of V (dat2 V c) (A_eq2 V c 4) (after2_4 V c) t d
/-- Window 5 of the last call holds its array's block when a grid step begins. -/
theorem before2_5 (c : Dev nD) (t : Fin cfg2.N) (d) : (dat2 V c).before 5 t d = iblk2 V c 5 t :=
  before2_5_of V (dat2 V c) (A_eq2 V c 5) (after2_5 V c) t d
/-- Window 6 of the last call holds its array's block when a grid step begins. -/
theorem before2_6 (c : Dev nD) (t : Fin cfg2.N) (d) : (dat2 V c).before 6 t d = iblk2 V c 6 t :=
  before2_6_of V (dat2 V c) (A_eq2 V c 6) (after2_6 V c) t d
/-- Window 7 of the last call holds its array's block when a grid step begins. -/
theorem before2_7 (c : Dev nD) (t : Fin cfg2.N) (d) : (dat2 V c).before 7 t d = iblk2 V c 7 t :=
  before2_7_of V (dat2 V c) (A_eq2 V c 7) (after2_7 V c) t d
/-- Window 8 of the last call holds its array's block when a grid step begins. -/
theorem before2_8 (c : Dev nD) (t : Fin cfg2.N) (d) : (dat2 V c).before 8 t d = iblk2 V c 8 t :=
  before2_8_of V (dat2 V c) (A_eq2 V c 8) (after2_8 V c) t d
/-- Window 9 of the last call holds its array's block when a grid step begins. -/
theorem before2_9 (c : Dev nD) (t : Fin cfg2.N) (d) : (dat2 V c).before 9 t d = iblk2 V c 9 t :=
  before2_9_of V (dat2 V c) (A_eq2 V c 9) (after2_9 V c) t d
/-- Window 10 of the last call holds its array's block when a grid step begins. -/
theorem before2_10 (c : Dev nD) (t : Fin cfg2.N) (d) : (dat2 V c).before 10 t d = iblk2 V c 10 t :=
  before2_10_of V (dat2 V c) (A_eq2 V c 10) (after2_10 V c) t d
/-- Window 11 of the last call holds its array's block when a grid step begins. -/
theorem before2_11 (c : Dev nD) (t : Fin cfg2.N) (d) : (dat2 V c).before 11 t d = iblk2 V c 11 t :=
  before2_11_of V (dat2 V c) (A_eq2 V c 11) (after2_11 V c) t d

/-- What the body is entered with and what it leaves. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d))
    ∗ (∃ d, owns (c : Thread nD τ) (ms2_15 t) fullShare ((dat2 V c).before 15 t d))
    ∗ (∃ d, owns (c : Thread nD τ) (ms2_16 t) fullShare ((dat2 V c).before 16 t d))
    ∗ (∃ d, owns (c : Thread nD τ) (ms2_17 t) fullShare ((dat2 V c).before 17 t d))
    ∗ (∃ d, owns (c : Thread nD τ) (ms2_18 t) fullShare ((dat2 V c).before 18 t d))
    ∗ (∃ d, owns (c : Thread nD τ) (ms2_19 t) fullShare ((dat2 V c).before 19 t d))
    ∗ (∃ d, owns (c : Thread nD τ) (ms2_20 t) fullShare ((dat2 V c).before 20 t d))
    ∗ (∃ d, owns (c : Thread nD τ) (ms2_21 t) fullShare ((dat2 V c).before 21 t d))
    ∗ (∃ d, owns (c : Thread nD τ) (ms2_22 t) fullShare ((dat2 V c).before 22 t d)))
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t)
    ∗ owns (c : Thread nD τ) (ms2_12 t) fullShare ((dat2 V c).after 12 t)
    ∗ owns (c : Thread nD τ) (ms2_13 t) fullShare ((dat2 V c).after 13 t)
    ∗ owns (c : Thread nD τ) (ms2_14 t) fullShare ((dat2 V c).after 14 t)
    ∗ owns (c : Thread nD τ) (ms2_15 t) fullShare ((dat2 V c).after 15 t)
    ∗ owns (c : Thread nD τ) (ms2_16 t) fullShare ((dat2 V c).after 16 t)
    ∗ owns (c : Thread nD τ) (ms2_17 t) fullShare ((dat2 V c).after 17 t)
    ∗ owns (c : Thread nD τ) (ms2_18 t) fullShare ((dat2 V c).after 18 t)
    ∗ owns (c : Thread nD τ) (ms2_19 t) fullShare ((dat2 V c).after 19 t)
    ∗ owns (c : Thread nD τ) (ms2_20 t) fullShare ((dat2 V c).after 20 t)
    ∗ owns (c : Thread nD τ) (ms2_21 t) fullShare ((dat2 V c).after 21 t)
    ∗ owns (c : Thread nD τ) (ms2_22 t) fullShare ((dat2 V c).after 22 t))

set_option maxHeartbeats 1000000 in
/-- The body at step `t`. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22]
  rw [show (dat2 V c).Φ t.castSucc = Pipeline.ΦA spec2 c from rfl, PhiA2_eq]
  iintro ⟨⟨⟨⟨%e0, S0⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (body2 c _ _ _ _ _ _ _ _ _ _ _ _ _ _ _ _ _ _ _ _ _ _ _ _ _ _ _ _ _ _ _ _ _ _ _ _ _ _ _ _ _ _ _ _ _ _ _ _ (in2 V c t) _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [S0]; · iexact S0
  iintro ⟨H0, H1, H2, H3, H4, H5, H6, H7, H8, H9, H10, H11, H12, H13, H14, H15, H16, H17, H18, H19, H20, H21, H22, S0⟩
  isplitl [S0 HR Hg]
  · isplitl [S0 HR]
    · isplitl [S0]; · iexists _; iexact S0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

set_option maxHeartbeats 1000000 in
/-- The body that a grid step runs, with its buffers put in. -/
theorem defs₀_row2 (t : Fin cfg2.N) :
    defs₀ (F := F) .tc cfg2.body (cfg2.bodyArgs t (cfg2.slots t)) = bodyAt2 t := by
  unfold defs₀; rw [Defs.onTc_tc]

set_option maxHeartbeats 1000000 in
/-- The body's obligation to the pipeline. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Run

end
-- ==== Proof.K.Hosts.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The host operations before and after the calls: what they write. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8]
/-- The host operations before the calls write only their own results. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v12, main_v13, main_v14, main_v15, main_v16, main_v17, main_v18, main_v19, main_v20, main_v21, main_v22, main_v23, main_v24, main_v25, main_v26]
/-- The host operations after the calls write only their own results. -/
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.Kernel.Run

end
-- ==== Proof.K.Fold.lean ====
module

public import proofs.«01_k».proof.Proof.K.Region0
public import proofs.«01_k».proof.Proof.K.Region1
public import proofs.«01_k».proof.Proof.K.Region2
public import proofs.«01_k».proof.Proof.K.Hosts

/-! The buffers between the calls. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
/-- Stage 0 of the program leaves the arguments as they were. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Stage 1 of the program leaves the arguments as they were. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- After stage 2, a window's array holds what the call left there. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Stage 2 changes no buffer but its windows' arrays. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- Stage 2 of the program leaves the arguments as they were. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The call leaves every buffer that is no window's array as it was. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
/-- After stage 3, a window's array holds what the call left there. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- Stage 3 changes no buffer but its windows' arrays. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- Stage 3 of the program leaves the arguments as they were. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- The call leaves every buffer that is no window's array as it was. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
/-- After stage 4, a window's array holds what the call left there. -/
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
/-- Stage 4 changes no buffer but its windows' arrays. -/
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- Stage 4 of the program leaves the arguments as they were. -/
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
/-- The call leaves every buffer that is no window's array as it was. -/
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
/-- Stage 5 of the program leaves the arguments as they were. -/
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

/-- At the end argument 0 is as at the start. -/
theorem W5_main_arg0 (c : Dev nD) : W5 m ρ c (Proc.devRef .tc main_arg0) = m ((c : Thread nD τ).loc main_arg0) :=
  W5_args m ρ c main_arg0 (by decide)
/-- At the end argument 1 is as at the start. -/
theorem W5_main_arg1 (c : Dev nD) : W5 m ρ c (Proc.devRef .tc main_arg1) = m ((c : Thread nD τ).loc main_arg1) :=
  W5_args m ρ c main_arg1 (by decide)
/-- At the end argument 2 is as at the start. -/
theorem W5_main_arg2 (c : Dev nD) : W5 m ρ c (Proc.devRef .tc main_arg2) = m ((c : Thread nD τ).loc main_arg2) :=
  W5_args m ρ c main_arg2 (by decide)
/-- At the end argument 3 is as at the start. -/
theorem W5_main_arg3 (c : Dev nD) : W5 m ρ c (Proc.devRef .tc main_arg3) = m ((c : Thread nD τ).loc main_arg3) :=
  W5_args m ρ c main_arg3 (by decide)
/-- At the end argument 4 is as at the start. -/
theorem W5_main_arg4 (c : Dev nD) : W5 m ρ c (Proc.devRef .tc main_arg4) = m ((c : Thread nD τ).loc main_arg4) :=
  W5_args m ρ c main_arg4 (by decide)
/-- At the end argument 5 is as at the start. -/
theorem W5_main_arg5 (c : Dev nD) : W5 m ρ c (Proc.devRef .tc main_arg5) = m ((c : Thread nD τ).loc main_arg5) :=
  W5_args m ρ c main_arg5 (by decide)
/-- At the end argument 6 is as at the start. -/
theorem W5_main_arg6 (c : Dev nD) : W5 m ρ c (Proc.devRef .tc main_arg6) = m ((c : Thread nD τ).loc main_arg6) :=
  W5_args m ρ c main_arg6 (by decide)
/-- At the end argument 7 is as at the start. -/
theorem W5_main_arg7 (c : Dev nD) : W5 m ρ c (Proc.devRef .tc main_arg7) = m ((c : Thread nD τ).loc main_arg7) :=
  W5_args m ρ c main_arg7 (by decide)
/-- At the end argument 8 is as at the start. -/
theorem W5_main_arg8 (c : Dev nD) : W5 m ρ c (Proc.devRef .tc main_arg8) = m ((c : Thread nD τ).loc main_arg8) :=
  W5_args m ρ c main_arg8 (by decide)
/-- At the end argument 9 is as at the start. -/
theorem W5_main_arg9 (c : Dev nD) : W5 m ρ c (Proc.devRef .tc main_arg9) = m ((c : Thread nD τ).loc main_arg9) :=
  W5_args m ρ c main_arg9 (by decide)
/-- At the end argument 10 is as at the start. -/
theorem W5_main_arg10 (c : Dev nD) : W5 m ρ c (Proc.devRef .tc main_arg10) = m ((c : Thread nD τ).loc main_arg10) :=
  W5_args m ρ c main_arg10 (by decide)
end Cert.Kernel.Run

end
-- ==== Proof.K.State.lean ====
module

public import proofs.«01_k».proof.Proof.K.Fold

/-! The proof data of the three calls and the state carried from one to the next. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

end Cert.Kernel.Run

end
-- ==== Proof.K.Record0.lean ====
module

public import proofs.«01_k».proof.Proof.K.State

/-! Call 0 as a step of the whole run. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Record1.lean ====
module

public import proofs.«01_k».proof.Proof.K.State

/-! Call 1 as a step of the whole run. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Record2.lean ====
module

public import proofs.«01_k».proof.Proof.K.State

/-! Call 2 as a step of the whole run. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Frame.lean ====
module

public import proofs.«01_k».proof.Proof.K.Record0
public import proofs.«01_k».proof.Proof.K.Record1
public import proofs.«01_k».proof.Proof.K.Record2

/-! The whole run. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W5_<arg>`;
    the kit shows every counter at zero except the TensorCores' unscoped ones, of which there are none. Proof.lean cites it at `Bits`:
    `theorem Cert.Proof.claim : Cert.Claim := ⟨Cert.Kernel.Gen.facts, fun m ρ _ => frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩), funext fun g => hz g (.inr (no_unscoped g.2))⟩)

end Cert.Kernel.Run

end
-- ==== Proof.Ref.lean ====
module

public import proofs.«01_k».proof.Proof.Gen.ReferenceIdeal.Launch
public import proofs.«01_k».proof.Proof.Gen.ReferenceIdeal.Skeleton
public import proofs.«01_k».proof.Proof.Gen.ReferenceIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The reference: its frame, and what its body leaves in every output. -/

@[expose] public section

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations before the call allocate nothing. -/
theorem hostOps0_fresh : (hostOps0 : List (HloOp τ sig (Elt F))).Forall fun op => op.fresh = ∅ := by
  simp only [List.Forall]; repeat' constructor
/-- The host operations after the call allocate nothing. -/
theorem hostOps1_fresh : (hostOps1 : List (HloOp τ sig (Elt F))).Forall fun op => op.fresh = ∅ := by
  simp only [List.Forall]; repeat' constructor

set_option maxHeartbeats 800000 in
/-- @main around the region, at the certificate's variants `𝒱₀`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are unscoped TensorCore references, and with nothing prefetched every such reference is one or the other: `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 960000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof data whose array is `V`'s. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof data whose array is `V`'s. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof data whose array is `V`'s. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof data whose array is `V`'s. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof data whose array is `V`'s. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof data whose array is `V`'s. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1920000 in
/-- The frame from a frame run: for any proof data whose arrays are the region-entry contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      ((h c).1 5).trans (((dats 0 c).arrAt_in 5 rfl _).trans ((hA c 5).trans (V_main_arg3 m c))),
      ((h c).1 6).trans (((dats 0 c).arrAt_in 6 rfl _).trans ((hA c 6).trans (V_main_arg4 m c))),
      ((h c).1 7).trans (((dats 0 c).arrAt_in 7 rfl _).trans ((hA c 7).trans (V_main_arg5 m c))),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c))⟩) h

/-! ## The body's accesses -/

abbrev r0_0 : Rect S1x1 := Rect.unit (s := S1x1) ![0, 0] S1x1.size inb_S1x1_S1x1_0_0
abbrev r0_1 : Rect S1x4096 := Rect.unit (s := S1x4096) ![0, 0] S1x4096.size inb_S1x4096_S1x4096_0_0
abbrev r0_2 : Rect S1x14336 := Rect.unit (s := S1x14336) ![0, 0] S1x14336.size inb_S1x14336_S1x14336_0_0
abbrev r0_3 : Rect S256x4096 := Rect.unit (s := S256x4096) ![0, 0] S256x4096.size inb_S256x4096_S256x4096_0_0
abbrev r0_4 : Rect S4096x14336 := Rect.unit (s := S4096x14336) ![0, 0] S4096x14336.size inb_S4096x14336_S4096x14336_0_0
abbrev r0_5 : Rect S14336x4096 := Rect.unit (s := S14336x4096) ![0, 0] S14336x4096.size inb_S14336x4096_S14336x4096_0_0
abbrev r0_6 : Rect S256x14336 := Rect.unit (s := S256x14336) ![0, 0] S256x14336.size inb_S256x14336_S256x14336_0_0
abbrev r0_7 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay68` …, after `k0_pay67`), so that
    `out0_W` and the values after it name it instead of spelling it out; the comment after each is the printed function's
    name for the value (a count appended where that name is bound again). -/

def k0_pay68 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S1x1 .f32 :=
  k0_pay5 (View.ld x0 r0_0) -- `v1`
def k0_pay69 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S1x1 .f32 :=
  k0_pay6 (View.ld x1 r0_0) -- `v3`
def k0_pay70 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S1x4096 .f32 :=
  k0_pay7 (View.ld x4 r0_1) -- `v5`
def k0_pay71 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S1x14336 .f32 :=
  k0_pay8 (View.ld x8 r0_2) -- `v7`
def k0_pay72 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S1x14336 .f32 :=
  k0_pay9 (View.ld x9 r0_2) -- `v9`
def k0_pay73 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S1x4096 .f32 :=
  k0_pay10 (View.ld x10 r0_1) -- `v11`
def k0_pay74 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x4096 .f32 :=
  k0_pay11 (View.ld x2 r0_3) -- `v14`
def k0_pay75 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x1 .f32 :=
  k0_pay12 (View.ld x2 r0_3) -- `v24`
def k0_pay76 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x4096 .f32 :=
  k0_pay13 (View.ld x0 r0_0) (View.ld x4 r0_1) (View.ld x2 r0_3) -- `v30`
def k0_pay77 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x4096 .fp8e4m3 :=
  k0_pay14 (View.ld x0 r0_0) (View.ld x4 r0_1) (View.ld x2 r0_3) -- `v35`
def k0_pay78 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S4096x14336 .f32 :=
  k0_pay15 (View.ld x5 r0_4) -- `v37`
def k0_pay79 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S4096x14336 .f32 :=
  k0_pay16 (k0_pay71 x0 x1 x2 x3 x4 x5 x6 x7 x8 x9 x10) (k0_pay78 x0 x1 x2 x3 x4 x5 x6 x7 x8 x9 x10) -- `v39`
def k0_pay80 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S4096x14336 .f32 :=
  k0_pay18 (k0_pay72 x0 x1 x2 x3 x4 x5 x6 x7 x8 x9 x10) (View.ld x6 r0_4) -- `v49`
def k0_pay81 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x14336 .f32 :=
  k0_pay20 (k0_pay68 x0 x1 x2 x3 x4 x5 x6 x7 x8 x9 x10) (k0_pay71 x0 x1 x2 x3 x4 x5 x6 x7 x8 x9 x10) (k0_pay77 x0 x1 x2 x3 x4 x5 x6 x7 x8 x9 x10) (k0_pay78 x0 x1 x2 x3 x4 x5 x6 x7 x8 x9 x10) -- `v65`
def k0_pay82 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x14336 .f32 :=
  k0_pay22 (k0_pay68 x0 x1 x2 x3 x4 x5 x6 x7 x8 x9 x10) (k0_pay71 x0 x1 x2 x3 x4 x5 x6 x7 x8 x9 x10) (k0_pay77 x0 x1 x2 x3 x4 x5 x6 x7 x8 x9 x10) (k0_pay78 x0 x1 x2 x3 x4 x5 x6 x7 x8 x9 x10) -- `v73`
def k0_pay83 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x14336 .f32 :=
  k0_pay23 (k0_pay68 x0 x1 x2 x3 x4 x5 x6 x7 x8 x9 x10) (k0_pay69 x0 x1 x2 x3 x4 x5 x6 x7 x8 x9 x10) (k0_pay71 x0 x1 x2 x3 x4 x5 x6 x7 x8 x9 x10) (k0_pay72 x0 x1 x2 x3 x4 x5 x6 x7 x8 x9 x10) (k0_pay77 x0 x1 x2 x3 x4 x5 x6 x7 x8 x9 x10) (k0_pay78 x0 x1 x2 x3 x4 x5 x6 x7 x8 x9 x10) (View.ld x6 r0_4) -- `v77`
def k0_pay84 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x14336 .f32 :=
  k0_pay24 (F := F) -- `v78`
def k0_pay85 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S14336x4096 .f32 :=
  k0_pay26 (k0_pay73 x0 x1 x2 x3 x4 x5 x6 x7 x8 x9 x10) (View.ld x7 r0_5) -- `v86`
def k0_pay86 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x4096 .bf16 :=
  k0_pay29 (View.ld x3 r0_3) -- `v106`
def k0_pay87 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x14336 .f32 :=
  k0_pay33 (k0_pay73 x0 x1 x2 x3 x4 x5 x6 x7 x8 x9 x10) (View.ld x7 r0_5) (View.ld x3 r0_3) -- `v120`
def k0_pay88 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x14336 .bf16 :=
  k0_pay34 (k0_pay83 x0 x1 x2 x3 x4 x5 x6 x7 x8 x9 x10) (Scalar.ofBits .f32 0x43E00000#32) (k0_pay84 x0 x1 x2 x3 x4 x5 x6 x7 x8 x9 x10) -- `v121`
def k0_pay89 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x14336 .f32 :=
  k0_pay39 (k0_pay83 x0 x1 x2 x3 x4 x5 x6 x7 x8 x9 x10) -- `v155`
def k0_pay90 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : IVec S256x14336 1 :=
  k0_pay40 (k0_pay83 x0 x1 x2 x3 x4 x5 x6 x7 x8 x9 x10) -- `v157`
def k0_pay91 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x14336 .f32 :=
  k0_pay41 (k0_pay83 x0 x1 x2 x3 x4 x5 x6 x7 x8 x9 x10) (k0_pay25 (k0_pay83 x0 x1 x2 x3 x4 x5 x6 x7 x8 x9 x10) (Scalar.ofBits .f32 0x43E00000#32) (k0_pay84 x0 x1 x2 x3 x4 x5 x6 x7 x8 x9 x10)) -- `v161`
def k0_pay92 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x14336 .f32 :=
  k0_pay42 (k0_pay87 x0 x1 x2 x3 x4 x5 x6 x7 x8 x9 x10) (k0_pay90 x0 x1 x2 x3 x4 x5 x6 x7 x8 x9 x10) -- `v179`
def k0_pay93 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x14336 .f32 :=
  k0_pay47 (k0_pay21 (k0_pay68 x0 x1 x2 x3 x4 x5 x6 x7 x8 x9 x10) (k0_pay72 x0 x1 x2 x3 x4 x5 x6 x7 x8 x9 x10) (k0_pay77 x0 x1 x2 x3 x4 x5 x6 x7 x8 x9 x10) (View.ld x6 r0_4)) (k0_pay87 x0 x1 x2 x3 x4 x5 x6 x7 x8 x9 x10) (k0_pay90 x0 x1 x2 x3 x4 x5 x6 x7 x8 x9 x10) -- `v201`
def k0_pay94 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x4096 .f32 :=
  k0_pay50 (k0_pay81 x0 x1 x2 x3 x4 x5 x6 x7 x8 x9 x10) (k0_pay82 x0 x1 x2 x3 x4 x5 x6 x7 x8 x9 x10) (k0_pay31 (k0_pay71 x0 x1 x2 x3 x4 x5 x6 x7 x8 x9 x10) (k0_pay17 (k0_pay71 x0 x1 x2 x3 x4 x5 x6 x7 x8 x9 x10) (k0_pay78 x0 x1 x2 x3 x4 x5 x6 x7 x8 x9 x10))) (k0_pay32 (k0_pay72 x0 x1 x2 x3 x4 x5 x6 x7 x8 x9 x10) (k0_pay19 (k0_pay72 x0 x1 x2 x3 x4 x5 x6 x7 x8 x9 x10) (View.ld x6 r0_4))) (k0_pay92 x0 x1 x2 x3 x4 x5 x6 x7 x8 x9 x10) (k0_pay93 x0 x1 x2 x3 x4 x5 x6 x7 x8 x9 x10) -- `v215`
def k0_pay95 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S4096x14336 .f32 :=
  k0_pay53 (k0_pay68 x0 x1 x2 x3 x4 x5 x6 x7 x8 x9 x10) (k0_pay77 x0 x1 x2 x3 x4 x5 x6 x7 x8 x9 x10) (k0_pay81 x0 x1 x2 x3 x4 x5 x6 x7 x8 x9 x10) (k0_pay82 x0 x1 x2 x3 x4 x5 x6 x7 x8 x9 x10) (k0_pay92 x0 x1 x2 x3 x4 x5 x6 x7 x8 x9 x10) -- `v224`
def k0_pay96 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : FVec F S256x4096 .f32 :=
  k0_pay64 (k0_pay76 x0 x1 x2 x3 x4 x5 x6 x7 x8 x9 x10) (k0_pay94 x0 x1 x2 x3 x4 x5 x6 x7 x8 x9 x10) -- `v307`

/-- Window 11's staging buffer after the body, from the input windows' blocks: its 1 store as pieces, LAST FIRST. -/
def out0_11 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S256x4096 .bf16 :=
  View.canon [⟨r0_3, k0_pay28 (k0_pay69 x0 x1 x2 x3 x4 x5 x6 x7 x8 x9 x10) (k0_pay73 x0 x1 x2 x3 x4 x5 x6 x7 x8 x9 x10) (k0_pay74 x0 x1 x2 x3 x4 x5 x6 x7 x8 x9 x10) (k0_pay83 x0 x1 x2 x3 x4 x5 x6 x7 x8 x9 x10) (Scalar.ofBits .f32 0x43E00000#32) (k0_pay84 x0 x1 x2 x3 x4 x5 x6 x7 x8 x9 x10) (View.ld x7 r0_5)⟩]

/-- Its stores tile the buffer (checked by evaluation), so they cover it. -/
theorem cover0_11 (p0 : Vec F S256x4096 .bf16) (y : S256x4096.Idx) :
    ∃ pc ∈ ([⟨r0_3, p0⟩] : List (View.Piece (Elt F) S256x4096 .bf16)), y ∈ pc.1.set :=
  View.cover_of_tiled [⟨r0_3, p0⟩] S256x4096.size (by rfl) y

/-- Window 12's staging buffer after the body, from the input windows' blocks: its 1 store as pieces, LAST FIRST. -/
def out0_12 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S256x4096 .bf16 :=
  View.canon [⟨r0_3, k0_pay4 (k0_pay70 x0 x1 x2 x3 x4 x5 x6 x7 x8 x9 x10) (k0_pay74 x0 x1 x2 x3 x4 x5 x6 x7 x8 x9 x10) (k0_pay75 x0 x1 x2 x3 x4 x5 x6 x7 x8 x9 x10) (k0_pay30 (View.ld x3 r0_3)) (k0_pay96 x0 x1 x2 x3 x4 x5 x6 x7 x8 x9 x10)⟩]

/-- Its stores tile the buffer (checked by evaluation), so they cover it. -/
theorem cover0_12 (p0 : Vec F S256x4096 .bf16) (y : S256x4096.Idx) :
    ∃ pc ∈ ([⟨r0_3, p0⟩] : List (View.Piece (Elt F) S256x4096 .bf16)), y ∈ pc.1.set :=
  View.cover_of_tiled [⟨r0_3, p0⟩] S256x4096.size (by rfl) y

/-- Window 13's staging buffer after the body, from the input windows' blocks: its 1 store as pieces, LAST FIRST. -/
def out0_13 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S4096x14336 .bf16 :=
  View.canon [⟨r0_4, k0_pay60 (k0_pay55 (k0_pay68 x0 x1 x2 x3 x4 x5 x6 x7 x8 x9 x10) (k0_pay77 x0 x1 x2 x3 x4 x5 x6 x7 x8 x9 x10) (k0_pay79 x0 x1 x2 x3 x4 x5 x6 x7 x8 x9 x10) (k0_pay81 x0 x1 x2 x3 x4 x5 x6 x7 x8 x9 x10) (k0_pay82 x0 x1 x2 x3 x4 x5 x6 x7 x8 x9 x10) (k0_pay93 x0 x1 x2 x3 x4 x5 x6 x7 x8 x9 x10))⟩]

/-- Its stores tile the buffer (checked by evaluation), so they cover it. -/
theorem cover0_13 (p0 : Vec F S4096x14336 .bf16) (y : S4096x14336.Idx) :
    ∃ pc ∈ ([⟨r0_4, p0⟩] : List (View.Piece (Elt F) S4096x14336 .bf16)), y ∈ pc.1.set :=
  View.cover_of_tiled [⟨r0_4, p0⟩] S4096x14336.size (by rfl) y

/-- Window 14's staging buffer after the body, from the input windows' blocks: its 1 store as pieces, LAST FIRST. -/
def out0_14 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S4096x14336 .bf16 :=
  View.canon [⟨r0_4, k0_pay61 (k0_pay80 x0 x1 x2 x3 x4 x5 x6 x7 x8 x9 x10) (k0_pay95 x0 x1 x2 x3 x4 x5 x6 x7 x8 x9 x10)⟩]

/-- Its stores tile the buffer (checked by evaluation), so they cover it. -/
theorem cover0_14 (p0 : Vec F S4096x14336 .bf16) (y : S4096x14336.Idx) :
    ∃ pc ∈ ([⟨r0_4, p0⟩] : List (View.Piece (Elt F) S4096x14336 .bf16)), y ∈ pc.1.set :=
  View.cover_of_tiled [⟨r0_4, p0⟩] S4096x14336.size (by rfl) y

/-- Window 15's staging buffer after the body, from the input windows' blocks: its 1 store as pieces, LAST FIRST. -/
def out0_15 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S14336x4096 .bf16 :=
  View.canon [⟨r0_5, k0_pay38 (k0_pay69 x0 x1 x2 x3 x4 x5 x6 x7 x8 x9 x10) (k0_pay85 x0 x1 x2 x3 x4 x5 x6 x7 x8 x9 x10) (k0_pay86 x0 x1 x2 x3 x4 x5 x6 x7 x8 x9 x10) (k0_pay88 x0 x1 x2 x3 x4 x5 x6 x7 x8 x9 x10)⟩]

/-- Its stores tile the buffer (checked by evaluation), so they cover it. -/
theorem cover0_15 (p0 : Vec F S14336x4096 .bf16) (y : S14336x4096.Idx) :
    ∃ pc ∈ ([⟨r0_5, p0⟩] : List (View.Piece (Elt F) S14336x4096 .bf16)), y ∈ pc.1.set :=
  View.cover_of_tiled [⟨r0_5, p0⟩] S14336x4096.size (by rfl) y

/-- Window 16's staging buffer after the body, from the input windows' blocks: its 1 store as pieces, LAST FIRST. -/
def out0_16 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S1x14336 .f32 :=
  View.canon [⟨r0_2, k0_pay57 (k0_pay56 (k0_pay68 x0 x1 x2 x3 x4 x5 x6 x7 x8 x9 x10) (k0_pay77 x0 x1 x2 x3 x4 x5 x6 x7 x8 x9 x10) (k0_pay79 x0 x1 x2 x3 x4 x5 x6 x7 x8 x9 x10) (k0_pay81 x0 x1 x2 x3 x4 x5 x6 x7 x8 x9 x10) (k0_pay82 x0 x1 x2 x3 x4 x5 x6 x7 x8 x9 x10) (k0_pay93 x0 x1 x2 x3 x4 x5 x6 x7 x8 x9 x10))⟩]

/-- Its stores tile the buffer (checked by evaluation), so they cover it. -/
theorem cover0_16 (p0 : Vec F S1x14336 .f32) (y : S1x14336.Idx) :
    ∃ pc ∈ ([⟨r0_2, p0⟩] : List (View.Piece (Elt F) S1x14336 .f32)), y ∈ pc.1.set :=
  View.cover_of_tiled [⟨r0_2, p0⟩] S1x14336.size (by rfl) y

/-- Window 17's staging buffer after the body, from the input windows' blocks: its 1 store as pieces, LAST FIRST. -/
def out0_17 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S1x14336 .f32 :=
  View.canon [⟨r0_2, k0_pay59 (k0_pay80 x0 x1 x2 x3 x4 x5 x6 x7 x8 x9 x10) (k0_pay95 x0 x1 x2 x3 x4 x5 x6 x7 x8 x9 x10)⟩]

/-- Its stores tile the buffer (checked by evaluation), so they cover it. -/
theorem cover0_17 (p0 : Vec F S1x14336 .f32) (y : S1x14336.Idx) :
    ∃ pc ∈ ([⟨r0_2, p0⟩] : List (View.Piece (Elt F) S1x14336 .f32)), y ∈ pc.1.set :=
  View.cover_of_tiled [⟨r0_2, p0⟩] S1x14336.size (by rfl) y

/-- Window 18's staging buffer after the body, from the input windows' blocks: its 1 store as pieces, LAST FIRST. -/
def out0_18 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S1x4096 .f32 :=
  View.canon [⟨r0_1, k0_pay37 (k0_pay69 x0 x1 x2 x3 x4 x5 x6 x7 x8 x9 x10) (k0_pay85 x0 x1 x2 x3 x4 x5 x6 x7 x8 x9 x10) (k0_pay86 x0 x1 x2 x3 x4 x5 x6 x7 x8 x9 x10) (k0_pay88 x0 x1 x2 x3 x4 x5 x6 x7 x8 x9 x10)⟩]

/-- Its stores tile the buffer (checked by evaluation), so they cover it. -/
theorem cover0_18 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 19's staging buffer after the body, from the input windows' blocks: its 1 store as pieces, LAST FIRST. -/
def out0_19 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S1x1 .f32 :=
  View.canon [⟨r0_0, k0_pay67 (k0_pay76 x0 x1 x2 x3 x4 x5 x6 x7 x8 x9 x10) (k0_pay77 x0 x1 x2 x3 x4 x5 x6 x7 x8 x9 x10) (k0_pay94 x0 x1 x2 x3 x4 x5 x6 x7 x8 x9 x10)⟩]

/-- Its stores tile the buffer (checked by evaluation), so they cover it. -/
theorem cover0_19 (p0 : Vec F S1x1 .f32) (y : S1x1.Idx) :
    ∃ pc ∈ ([⟨r0_0, p0⟩] : List (View.Piece (Elt F) S1x1 .f32)), y ∈ pc.1.set :=
  View.cover_of_tiled [⟨r0_0, p0⟩] S1x1.size (by rfl) y

/-- Window 20's staging buffer after the body, from the input windows' blocks: its 1 store as pieces, LAST FIRST. -/
def out0_20 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S256x1 .f32 :=
  View.canon [⟨r0_7, k0_pay66 (k0_pay76 x0 x1 x2 x3 x4 x5 x6 x7 x8 x9 x10) (k0_pay77 x0 x1 x2 x3 x4 x5 x6 x7 x8 x9 x10) (k0_pay94 x0 x1 x2 x3 x4 x5 x6 x7 x8 x9 x10)⟩]

/-- Its stores tile the buffer (checked by evaluation), so they cover it. -/
theorem cover0_20 (p0 : Vec F S256x1 .f32) (y : S256x1.Idx) :
    ∃ pc ∈ ([⟨r0_7, p0⟩] : List (View.Piece (Elt F) S256x1 .f32)), y ∈ pc.1.set :=
  View.cover_of_tiled [⟨r0_7, p0⟩] S256x1.size (by rfl) y

/-- Window 21's staging buffer after the body, from the input windows' blocks: its 1 store as pieces, LAST FIRST. -/
def out0_21 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S256x1 .f32 :=
  View.canon [⟨r0_7, k0_pay65 (k0_pay76 x0 x1 x2 x3 x4 x5 x6 x7 x8 x9 x10) (k0_pay94 x0 x1 x2 x3 x4 x5 x6 x7 x8 x9 x10)⟩]

/-- Its stores tile the buffer (checked by evaluation), so they cover it. -/
theorem cover0_21 (p0 : Vec F S256x1 .f32) (y : S256x1.Idx) :
    ∃ pc ∈ ([⟨r0_7, p0⟩] : List (View.Piece (Elt F) S256x1 .f32)), y ∈ pc.1.set :=
  View.cover_of_tiled [⟨r0_7, p0⟩] S256x1.size (by rfl) y

/-- Window 22's staging buffer after the body, from the input windows' blocks: its 1 store as pieces, LAST FIRST. -/
def out0_22 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S1x1 .f32 :=
  View.canon [⟨r0_0, k0_pay46 (k0_pay83 x0 x1 x2 x3 x4 x5 x6 x7 x8 x9 x10) (k0_pay87 x0 x1 x2 x3 x4 x5 x6 x7 x8 x9 x10) (k0_pay89 x0 x1 x2 x3 x4 x5 x6 x7 x8 x9 x10) (k0_pay91 x0 x1 x2 x3 x4 x5 x6 x7 x8 x9 x10)⟩]

/-- Its stores tile the buffer (checked by evaluation), so they cover it. -/
theorem cover0_22 (p0 : Vec F S1x1 .f32) (y : S1x1.Idx) :
    ∃ pc ∈ ([⟨r0_0, p0⟩] : List (View.Piece (Elt F) S1x1 .f32)), y ∈ pc.1.set :=
  View.cover_of_tiled [⟨r0_0, p0⟩] S1x1.size (by rfl) y

/-- Window 23's staging buffer after the body, from the input windows' blocks: its 1 store as pieces, LAST FIRST. -/
def out0_23 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S256x1 .f32 :=
  View.canon [⟨r0_7, k0_pay45 (k0_pay87 x0 x1 x2 x3 x4 x5 x6 x7 x8 x9 x10) (k0_pay91 x0 x1 x2 x3 x4 x5 x6 x7 x8 x9 x10)⟩]

/-- Its stores tile the buffer (checked by evaluation), so they cover it. -/
theorem cover0_23 (p0 : Vec F S256x1 .f32) (y : S256x1.Idx) :
    ∃ pc ∈ ([⟨r0_7, p0⟩] : List (View.Piece (Elt F) S256x1 .f32)), y ∈ pc.1.set :=
  View.cover_of_tiled [⟨r0_7, p0⟩] S256x1.size (by rfl) y

/-- Window 24's staging buffer after the body, from the input windows' blocks: its 1 store as pieces, LAST FIRST. -/
def out0_24 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S256x1 .f32 :=
  View.canon [⟨r0_7, k0_pay43 (k0_pay83 x0 x1 x2 x3 x4 x5 x6 x7 x8 x9 x10) (k0_pay87 x0 x1 x2 x3 x4 x5 x6 x7 x8 x9 x10) (k0_pay89 x0 x1 x2 x3 x4 x5 x6 x7 x8 x9 x10)⟩]

/-- Its stores tile the buffer (checked by evaluation), so they cover it. -/
theorem cover0_24 (p0 : Vec F S256x1 .f32) (y : S256x1.Idx) :
    ∃ pc ∈ ([⟨r0_7, p0⟩] : List (View.Piece (Elt F) S256x1 .f32)), y ∈ pc.1.set :=
  View.cover_of_tiled [⟨r0_7, p0⟩] S256x1.size (by rfl) y

/-- Window 25's staging buffer after the body, from the input windows' blocks: its 1 store as pieces, LAST FIRST. -/
def out0_25 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S1x4096 .f32 :=
  View.canon [⟨r0_1, k0_pay1 (k0_pay74 x0 x1 x2 x3 x4 x5 x6 x7 x8 x9 x10) (k0_pay75 x0 x1 x2 x3 x4 x5 x6 x7 x8 x9 x10) (k0_pay96 x0 x1 x2 x3 x4 x5 x6 x7 x8 x9 x10)⟩]

/-- Its stores tile the buffer (checked by evaluation), so they cover it. -/
theorem cover0_25 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 26's staging buffer after the body, from the input windows' blocks: its 1 store as pieces, LAST FIRST. -/
def out0_26 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S256x1 .f32 :=
  View.canon [⟨r0_7, k0_pay3 (k0_pay70 x0 x1 x2 x3 x4 x5 x6 x7 x8 x9 x10) (k0_pay74 x0 x1 x2 x3 x4 x5 x6 x7 x8 x9 x10) (k0_pay75 x0 x1 x2 x3 x4 x5 x6 x7 x8 x9 x10) (k0_pay96 x0 x1 x2 x3 x4 x5 x6 x7 x8 x9 x10)⟩]

/-- Its stores tile the buffer (checked by evaluation), so they cover it. -/
theorem cover0_26 (p0 : Vec F S256x1 .f32) (y : S256x1.Idx) :
    ∃ pc ∈ ([⟨r0_7, p0⟩] : List (View.Piece (Elt F) S256x1 .f32)), y ∈ pc.1.set :=
  View.cover_of_tiled [⟨r0_7, p0⟩] S256x1.size (by rfl) y

/-- Window 27's staging buffer after the body, from the input windows' blocks: its 1 store as pieces, LAST FIRST. -/
def out0_27 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S256x4096 .fp8e4m3 :=
  View.canon [⟨r0_3, k0_pay77 x0 x1 x2 x3 x4 x5 x6 x7 x8 x9 x10⟩]

/-- Its stores tile the buffer (checked by evaluation), so they cover it. -/
theorem cover0_27 (p0 : Vec F S256x4096 .fp8e4m3) (y : S256x4096.Idx) :
    ∃ pc ∈ ([⟨r0_3, p0⟩] : List (View.Piece (Elt F) S256x4096 .fp8e4m3)), y ∈ pc.1.set :=
  View.cover_of_tiled [⟨r0_3, p0⟩] S256x4096.size (by rfl) y

/-- Window 28's staging buffer after the body, from the input windows' blocks: its 1 store as pieces, LAST FIRST. -/
def out0_28 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S4096x14336 .i8 :=
  View.canon [⟨r0_4, k0_pay17 (k0_pay71 x0 x1 x2 x3 x4 x5 x6 x7 x8 x9 x10) (k0_pay78 x0 x1 x2 x3 x4 x5 x6 x7 x8 x9 x10)⟩]

/-- Its stores tile the buffer (checked by evaluation), so they cover it. -/
theorem cover0_28 (p0 : Vec F S4096x14336 .i8) (y : S4096x14336.Idx) :
    ∃ pc ∈ ([⟨r0_4, p0⟩] : List (View.Piece (Elt F) S4096x14336 .i8)), y ∈ pc.1.set :=
  View.cover_of_tiled [⟨r0_4, p0⟩] S4096x14336.size (by rfl) y

/-- Window 29's staging buffer after the body, from the input windows' blocks: its 1 store as pieces, LAST FIRST. -/
def out0_29 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S4096x14336 .i8 :=
  View.canon [⟨r0_4, k0_pay19 (k0_pay72 x0 x1 x2 x3 x4 x5 x6 x7 x8 x9 x10) (View.ld x6 r0_4)⟩]

/-- Its stores tile the buffer (checked by evaluation), so they cover it. -/
theorem cover0_29 (p0 : Vec F S4096x14336 .i8) (y : S4096x14336.Idx) :
    ∃ pc ∈ ([⟨r0_4, p0⟩] : List (View.Piece (Elt F) S4096x14336 .i8)), y ∈ pc.1.set :=
  View.cover_of_tiled [⟨r0_4, p0⟩] S4096x14336.size (by rfl) y

/-- Window 30's staging buffer after the body, from the input windows' blocks: its 1 store as pieces, LAST FIRST. -/
def out0_30 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S256x14336 .fp8e4m3 :=
  View.canon [⟨r0_6, k0_pay25 (k0_pay83 x0 x1 x2 x3 x4 x5 x6 x7 x8 x9 x10) (Scalar.ofBits .f32 0x43E00000#32) (k0_pay84 x0 x1 x2 x3 x4 x5 x6 x7 x8 x9 x10)⟩]

/-- Its stores tile the buffer (checked by evaluation), so they cover it. -/
theorem cover0_30 (p0 : Vec F S256x14336 .fp8e4m3) (y : S256x14336.Idx) :
    ∃ pc ∈ ([⟨r0_6, p0⟩] : List (View.Piece (Elt F) S256x14336 .fp8e4m3)), y ∈ pc.1.set :=
  View.cover_of_tiled [⟨r0_6, p0⟩] S256x14336.size (by rfl) y

/-- Window 31's staging buffer after the body, from the input windows' blocks: its 1 store as pieces, LAST FIRST. -/
def out0_31 (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) : Vec F S14336x4096 .i8 :=
  View.canon [⟨r0_5, k0_pay27 (k0_pay73 x0 x1 x2 x3 x4 x5 x6 x7 x8 x9 x10) (View.ld x7 r0_5)⟩]

/-- Its stores tile the buffer (checked by evaluation), so they cover it. -/
theorem cover0_31 (p0 : Vec F S14336x4096 .i8) (y : S14336x4096.Idx) :
    ∃ pc ∈ ([⟨r0_5, p0⟩] : List (View.Piece (Elt F) S14336x4096 .i8)), y ∈ pc.1.set :=
  View.cover_of_tiled [⟨r0_5, p0⟩] S14336x4096.size (by rfl) y

/-! ## The body's triple -/

set_option maxHeartbeats 1000000 in
/-- The kernel body on whole staging memrefs, the inputs' at read contents `xW` and the outputs' at anything, runs to the continuation holding the inputs' as they were and each output's at `out0_W` of the inputs'. -/
theorem sound_kernel (c : Dev nD) (E : Set ℕ) (arg0 : Memref sig .tc .vmem S1x1 .f32) (harg0 : arg0.IsWhole) (arg1 : Memref sig .tc .vmem S1x1 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x14336 .bf16) (harg5 : arg5.IsWhole) (arg6 : Memref sig .tc .vmem S4096x14336 .bf16) (harg6 : arg6.IsWhole) (arg7 : Memref sig .tc .vmem S14336x4096 .bf16) (harg7 : arg7.IsWhole) (arg8 : Memref sig .tc .vmem S1x14336 .f32) (harg8 : arg8.IsWhole) (arg9 : Memref sig .tc .vmem S1x14336 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x14336 .bf16) (harg13 : arg13.IsWhole) (arg14 : Memref sig .tc .vmem S4096x14336 .bf16) (harg14 : arg14.IsWhole) (arg15 : Memref sig .tc .vmem S14336x4096 .bf16) (harg15 : arg15.IsWhole) (arg16 : Memref sig .tc .vmem S1x14336 .f32) (harg16 : arg16.IsWhole) (arg17 : Memref sig .tc .vmem S1x14336 .f32) (harg17 : arg17.IsWhole) (arg18 : Memref sig .tc .vmem S1x4096 .f32) (harg18 : arg18.IsWhole) (arg19 : Memref sig .tc .vmem S1x1 .f32) (harg19 : arg19.IsWhole) (arg20 : Memref sig .tc .vmem S256x1 .f32) (harg20 : arg20.IsWhole) (arg21 : Memref sig .tc .vmem S256x1 .f32) (harg21 : arg21.IsWhole) (arg22 : Memref sig .tc .vmem S1x1 .f32) (harg22 : arg22.IsWhole) (arg23 : Memref sig .tc .vmem S256x1 .f32) (harg23 : arg23.IsWhole) (arg24 : Memref sig .tc .vmem S256x1 .f32) (harg24 : arg24.IsWhole) (arg25 : Memref sig .tc .vmem S1x4096 .f32) (harg25 : arg25.IsWhole) (arg26 : Memref sig .tc .vmem S256x1 .f32) (harg26 : arg26.IsWhole) (arg27 : Memref sig .tc .vmem S256x4096 .fp8e4m3) (harg27 : arg27.IsWhole) (arg28 : Memref sig .tc .vmem S4096x14336 .i8) (harg28 : arg28.IsWhole) (arg29 : Memref sig .tc .vmem S4096x14336 .i8) (harg29 : arg29.IsWhole) (arg30 : Memref sig .tc .vmem S256x14336 .fp8e4m3) (harg30 : arg30.IsWhole) (arg31 : Memref sig .tc .vmem S14336x4096 .i8) (harg31 : arg31.IsWhole)
    (x0 : Vec F S1x1 .f32) (x1 : Vec F S1x1 .f32) (x2 : Vec F S256x4096 .bf16) (x3 : Vec F S256x4096 .bf16) (x4 : Vec F S1x4096 .f32) (x5 : Vec F S4096x14336 .bf16) (x6 : Vec F S4096x14336 .bf16) (x7 : Vec F S14336x4096 .bf16) (x8 : Vec F S1x14336 .f32) (x9 : Vec F S1x14336 .f32) (x10 : Vec F S1x4096 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out0_11 x0 x1 x2 x3 x4 x5 x6 x7 x8 x9 x10) ∗ owns (c : Thread nD τ) arg12 fullShare (out0_12 x0 x1 x2 x3 x4 x5 x6 x7 x8 x9 x10) ∗ owns (c : Thread nD τ) arg13 fullShare (out0_13 x0 x1 x2 x3 x4 x5 x6 x7 x8 x9 x10) ∗ owns (c : Thread nD τ) arg14 fullShare (out0_14 x0 x1 x2 x3 x4 x5 x6 x7 x8 x9 x10) ∗ owns (c : Thread nD τ) arg15 fullShare (out0_15 x0 x1 x2 x3 x4 x5 x6 x7 x8 x9 x10) ∗ owns (c : Thread nD τ) arg16 fullShare (out0_16 x0 x1 x2 x3 x4 x5 x6 x7 x8 x9 x10) ∗ owns (c : Thread nD τ) arg17 fullShare (out0_17 x0 x1 x2 x3 x4 x5 x6 x7 x8 x9 x10) ∗ owns (c : Thread nD τ) arg18 fullShare (out0_18 x0 x1 x2 x3 x4 x5 x6 x7 x8 x9 x10) ∗ owns (c : Thread nD τ) arg19 fullShare (out0_19 x0 x1 x2 x3 x4 x5 x6 x7 x8 x9 x10) ∗ owns (c : Thread nD τ) arg20 fullShare (out0_20 x0 x1 x2 x3 x4 x5 x6 x7 x8 x9 x10) ∗ owns (c : Thread nD τ) arg21 fullShare (out0_21 x0 x1 x2 x3 x4 x5 x6 x7 x8 x9 x10) ∗ owns (c : Thread nD τ) arg22 fullShare (out0_22 x0 x1 x2 x3 x4 x5 x6 x7 x8 x9 x10) ∗ owns (c : Thread nD τ) arg23 fullShare (out0_23 x0 x1 x2 x3 x4 x5 x6 x7 x8 x9 x10) ∗ owns (c : Thread nD τ) arg24 fullShare (out0_24 x0 x1 x2 x3 x4 x5 x6 x7 x8 x9 x10) ∗ owns (c : Thread nD τ) arg25 fullShare (out0_25 x0 x1 x2 x3 x4 x5 x6 x7 x8 x9 x10) ∗ owns (c : Thread nD τ) arg26 fullShare (out0_26 x0 x1 x2 x3 x4 x5 x6 x7 x8 x9 x10) ∗ owns (c : Thread nD τ) arg27 fullShare (out0_27 x0 x1 x2 x3 x4 x5 x6 x7 x8 x9 x10) ∗ owns (c : Thread nD τ) arg28 fullShare (out0_28 x0 x1 x2 x3 x4 x5 x6 x7 x8 x9 x10) ∗ owns (c : Thread nD τ) arg29 fullShare (out0_29 x0 x1 x2 x3 x4 x5 x6 x7 x8 x9 x10) ∗ owns (c : Thread nD τ) arg30 fullShare (out0_30 x0 x1 x2 x3 x4 x5 x6 x7 x8 x9 x10) ∗ owns (c : Thread nD τ) arg31 fullShare (out0_31 x0 x1 x2 x3 x4 x5 x6 x7 x8 x9 x10)) -∗ K ⟨⟩))
      ⊢ wp frame (wpE (defs₀ (F := F)) Variants.none c none) E (cc0__reference_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0__reference_body_eq_skeleton]; unfold cc0__reference_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  iexists _; isplitr
  swap; · iexact H31
  ipureintro
  refine (View.read_writes_eq_canon _ _ _ (cover0_31 _)).trans ?_
  rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 32, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
/-- What window 1 of the call holds when a grid step ends. -/
theorem after0_1 (c : Dev nD) (t : Fin cfg0.N) : (dats m 0 c).after 1 t = iblk m c 1 t := by dsimp only [dats]
/-- What window 2 of the call holds when a grid step ends. -/
theorem after0_2 (c : Dev nD) (t : Fin cfg0.N) : (dats m 0 c).after 2 t = iblk m c 2 t := by dsimp only [dats]
/-- What window 3 of the call holds when a grid step ends. -/
theorem after0_3 (c : Dev nD) (t : Fin cfg0.N) : (dats m 0 c).after 3 t = iblk m c 3 t := by dsimp only [dats]
/-- What window 4 of the call holds when a grid step ends. -/
theorem after0_4 (c : Dev nD) (t : Fin cfg0.N) : (dats m 0 c).after 4 t = iblk m c 4 t := by dsimp only [dats]
/-- What window 5 of the call holds when a grid step ends. -/
theorem after0_5 (c : Dev nD) (t : Fin cfg0.N) : (dats m 0 c).after 5 t = iblk m c 5 t := by dsimp only [dats]
/-- What window 6 of the call holds when a grid step ends. -/
theorem after0_6 (c : Dev nD) (t : Fin cfg0.N) : (dats m 0 c).after 6 t = iblk m c 6 t := by dsimp only [dats]
/-- What window 7 of the call holds when a grid step ends. -/
theorem after0_7 (c : Dev nD) (t : Fin cfg0.N) : (dats m 0 c).after 7 t = iblk m c 7 t := by dsimp only [dats]
/-- What window 8 of the call holds when a grid step ends. -/
theorem after0_8 (c : Dev nD) (t : Fin cfg0.N) : (dats m 0 c).after 8 t = iblk m c 8 t := by dsimp only [dats]
/-- What window 9 of the call holds when a grid step ends. -/
theorem after0_9 (c : Dev nD) (t : Fin cfg0.N) : (dats m 0 c).after 9 t = iblk m c 9 t := by dsimp only [dats]
/-- What window 10 of the call holds when a grid step ends. -/
theorem after0_10 (c : Dev nD) (t : Fin cfg0.N) : (dats m 0 c).after 10 t = iblk m c 10 t := by dsimp only [dats]
/-- What window 11 of the call holds when a grid step ends. -/
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 12 of the call holds when a grid step ends. -/
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 13 of the call holds when a grid step ends. -/
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 14 of the call holds when a grid step ends. -/
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 15 of the call holds when a grid step ends. -/
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 16 of the call holds when a grid step ends. -/
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 17 of the call holds when a grid step ends. -/
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 18 of the call holds when a grid step ends. -/
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 19 of the call holds when a grid step ends. -/
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 20 of the call holds when a grid step ends. -/
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 21 of the call holds when a grid step ends. -/
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 22 of the call holds when a grid step ends. -/
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 23 of the call holds when a grid step ends. -/
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 24 of the call holds when a grid step ends. -/
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 25 of the call holds when a grid step ends. -/
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 26 of the call holds when a grid step ends. -/
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 27 of the call holds when a grid step ends. -/
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 28 of the call holds when a grid step ends. -/
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 29 of the call holds when a grid step ends. -/
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 30 of the call holds when a grid step ends. -/
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- What window 31 of the call holds when a grid step ends. -/
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
/-- Window 1 of the call holds its array's block when a grid step begins. -/
theorem before0_1 (c : Dev nD) (t : Fin cfg0.N) (d) : (dats m 0 c).before 1 t d = iblk m c 1 t :=
  before0_1_of m (dats m 0 c) (A_eq m c 1) (after0_1 m c) t d
/-- Window 2 of the call holds its array's block when a grid step begins. -/
theorem before0_2 (c : Dev nD) (t : Fin cfg0.N) (d) : (dats m 0 c).before 2 t d = iblk m c 2 t :=
  before0_2_of m (dats m 0 c) (A_eq m c 2) (after0_2 m c) t d
/-- Window 3 of the call holds its array's block when a grid step begins. -/
theorem before0_3 (c : Dev nD) (t : Fin cfg0.N) (d) : (dats m 0 c).before 3 t d = iblk m c 3 t :=
  before0_3_of m (dats m 0 c) (A_eq m c 3) (after0_3 m c) t d
/-- Window 4 of the call holds its array's block when a grid step begins. -/
theorem before0_4 (c : Dev nD) (t : Fin cfg0.N) (d) : (dats m 0 c).before 4 t d = iblk m c 4 t :=
  before0_4_of m (dats m 0 c) (A_eq m c 4) (after0_4 m c) t d
/-- Window 5 of the call holds its array's block when a grid step begins. -/
theorem before0_5 (c : Dev nD) (t : Fin cfg0.N) (d) : (dats m 0 c).before 5 t d = iblk m c 5 t :=
  before0_5_of m (dats m 0 c) (A_eq m c 5) (after0_5 m c) t d
/-- Window 6 of the call holds its array's block when a grid step begins. -/
theorem before0_6 (c : Dev nD) (t : Fin cfg0.N) (d) : (dats m 0 c).before 6 t d = iblk m c 6 t :=
  before0_6_of m (dats m 0 c) (A_eq m c 6) (after0_6 m c) t d
/-- Window 7 of the call holds its array's block when a grid step begins. -/
theorem before0_7 (c : Dev nD) (t : Fin cfg0.N) (d) : (dats m 0 c).before 7 t d = iblk m c 7 t :=
  before0_7_of m (dats m 0 c) (A_eq m c 7) (after0_7 m c) t d
/-- Window 8 of the call holds its array's block when a grid step begins. -/
theorem before0_8 (c : Dev nD) (t : Fin cfg0.N) (d) : (dats m 0 c).before 8 t d = iblk m c 8 t :=
  before0_8_of m (dats m 0 c) (A_eq m c 8) (after0_8 m c) t d
/-- Window 9 of the call holds its array's block when a grid step begins. -/
theorem before0_9 (c : Dev nD) (t : Fin cfg0.N) (d) : (dats m 0 c).before 9 t d = iblk m c 9 t :=
  before0_9_of m (dats m 0 c) (A_eq m c 9) (after0_9 m c) t d
/-- Window 10 of the call holds its array's block when a grid step begins. -/
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

set_option maxHeartbeats 2000000 in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the TensorCores terminates, and every final state has every array of the pipeline at what the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: `Cert.quiescent_ReferenceIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.ReferenceIdeal.Run

end
-- ==== Proof.Spec.lean ====
module

public import Idealize.ShloMosaic.Lib.Pointwise
public import Idealize.ShloMosaic.PureOps.Ideal.Laws
public import Idealize.ShloMosaic.Lib.IdealHost

/-! The layer's mathematics over the extended reals, index by index, and what its quantisers do to one number. -/

@[expose] public section

set_option maxRecDepth 16384

noncomputable section

namespace Cert.Spec

open Idealize.ShloMosaic

/-- The number that a 32-bit pattern denotes. -/
abbrev K (b : BitVec 32) : EReal := Ideal.ofBits .f32 b
/-- The magnitude. -/
abbrev mag (v : EReal) : EReal := FloatOps.absf (F := Ideal) (φ := .f32) v

/-- The least and the greatest integer code. -/
theorem k_lo : K 3238002688#32 = ((-8 : ℝ) : EReal) := by
  simp [Ideal.ofBits, Ideal.ieee, -EReal.coe_mul, -EReal.coe_neg]; norm_num
/-- The constant 7. -/
theorem k_hi : K 1088421888#32 = ((7 : ℝ) : EReal) := by
  simp [Ideal.ofBits, Ideal.ieee, -EReal.coe_mul]; norm_num

/-- A number clipped to the integer codes' range, -/
def clip (v : EReal) : EReal := min (K 1088421888#32) (max (K 3238002688#32) v)
/-- its code, -/
def code (v : EReal) : EReal := Ideal.liftRound Ideal.roundHalfEven (clip v)
/-- the code as an integer, -/
def codeI (v : EReal) : BitVec 8 := Ideal.fptosi 8 (code v)
/-- and the factor of the gradient of the quantiser's step: the rounding error inside the range, the range's end outside. -/
def res (v : EReal) : EReal := code v - if v = clip v then v else 0

/-- Rounding leaves an integer as it is. -/
theorem round_int (n : ℤ) : Ideal.roundHalfEven (n : ℝ) = n := by
  simp [Ideal.roundHalfEven]

/-- Rounding is monotone. -/
theorem round_mono {a b : ℝ} (h : a ≤ b) : Ideal.roundHalfEven a ≤ Ideal.roundHalfEven b := by
  have hf : ⌊a⌋ ≤ ⌊b⌋ := Int.floor_le_floor h
  have ha := Int.floor_le a
  have hb := Int.floor_le b
  rcases hf.lt_or_eq with hlt | heq
  · have h1 : Ideal.roundHalfEven a ≤ ⌊a⌋ + 1 := by
      unfold Ideal.roundHalfEven; dsimp only; split_ifs <;> omega
    have h2 : ⌊b⌋ ≤ Ideal.roundHalfEven b := by
      unfold Ideal.roundHalfEven; dsimp only; split_ifs <;> omega
    omega
  · unfold Ideal.roundHalfEven
    dsimp only
    rw [heq]
    split_ifs <;> first | omega | (exfalso; linarith)

/-- Rounding moves a number by at most one half. -/
theorem round_close (a : ℝ) : |((Ideal.roundHalfEven a : ℤ) : ℝ) - a| ≤ 1 / 2 := by
  have h1 := Int.floor_le a
  have h2 := Int.lt_floor_add_one a
  unfold Ideal.roundHalfEven
  dsimp only
  rw [abs_le]
  split_ifs <;> push_cast <;> constructor <;> linarith

/-- The clip of a real number. -/
theorem clip_coe (r : ℝ) : clip (r : EReal) = ((min 7 (max (-8) r) : ℝ) : EReal) := by
  unfold clip; rw [k_lo, k_hi, EReal.coe_strictMono.monotone.map_min, EReal.coe_strictMono.monotone.map_max]
/-- The clip of plus infinity is 7. -/
theorem clip_top : clip ⊤ = ((7 : ℝ) : EReal) := by
  unfold clip; rw [k_lo, k_hi]; simp
/-- The clip of minus infinity is -8. -/
theorem clip_bot : clip ⊥ = ((-8 : ℝ) : EReal) := by
  unfold clip; rw [k_lo, k_hi]
  rw [max_eq_left bot_le, min_eq_right]; exact_mod_cast (by norm_num : (-8 : ℝ) ≤ 7)

/-- The code of a real number. -/
theorem code_coe (r : ℝ) : code (r : EReal) = ((Ideal.roundHalfEven (min 7 (max (-8) r)) : ℤ) : ℝ) := by
  unfold code; rw [clip_coe]; rfl
/-- The code of plus infinity is 7. -/
theorem code_top : code ⊤ = ((7 : ℝ) : EReal) := by
  unfold code; rw [clip_top, Ideal.liftRound_coe]
  have := round_int 7; push_cast at this; rw [this]; norm_num
/-- The code of minus infinity is -8. -/
theorem code_bot : code ⊥ = ((-8 : ℝ) : EReal) := by
  unfold code; rw [clip_bot, Ideal.liftRound_coe]
  have := round_int (-8); push_cast at this; rw [this]; norm_num

/-- Rounding and clipping commute, over the reals. -/
theorem round_clip (r : ℝ) : Ideal.roundHalfEven (min 7 (max (-8) r)) = min 7 (max (-8) (Ideal.roundHalfEven r)) := by
  have m : Monotone Ideal.roundHalfEven := fun a b h => round_mono h
  rw [m.map_min, m.map_max]
  have h7 := round_int 7
  have h8 := round_int (-8)
  push_cast at h7 h8
  rw [h7, h8]

/-- Rounding first and clipping afterwards gives the same code. -/
theorem clip_round (v : EReal) :
    min (K 1088421888#32) (max (K 3238002688#32) (Ideal.liftRound Ideal.roundHalfEven v)) = code v := by
  induction v with
  | bot => rw [code_bot]; exact clip_bot
  | top => rw [code_top]; exact clip_top
  | coe r =>
    rw [code_coe, Ideal.liftRound_coe, round_clip]
    exact (clip_coe _).trans (by push_cast; rfl)

/-- A code is an integer from -8 to 7. -/
theorem code_int (v : EReal) : ∃ n : ℤ, -8 ≤ n ∧ n ≤ 7 ∧ code v = ((n : ℝ) : EReal) := by
  induction v with
  | bot => exact ⟨-8, by norm_num, by norm_num, by rw [code_bot]; norm_num⟩
  | top => exact ⟨7, by norm_num, by norm_num, by rw [code_top]; norm_num⟩
  | coe r => exact ⟨_, by rw [round_clip]; omega, by rw [round_clip]; omega, code_coe r⟩

/-- So its integer form denotes it. -/
theorem codeI_toInt (v : EReal) : (((codeI v).toInt : ℝ) : EReal) = code v := by
  obtain ⟨n, h1, h2, h⟩ := code_int v
  unfold codeI Ideal.fptosi
  rw [h, Ideal.toIntClamped_coe]
  have e : (if (0 : ℝ) ≤ (n : ℝ) then ⌊(n : ℝ)⌋ else ⌈(n : ℝ)⌉) = n := by simp
  rw [e, show max (-((2 ^ (8 - 1) : ℕ) : ℤ)) (min (((2 ^ (8 - 1) : ℕ) : ℤ) - 1) n) = n by norm_num; omega, BitVec.toInt_ofInt]
  have e2 : n.bmod (2 ^ 8) = n := by
    rw [Int.bmod_def]; split_ifs <;> omega
  rw [e2]
/-- A code sent to an integer and back is itself. -/
theorem sitofp_code (φ : FTy) (v : EReal) : (FloatOps.sitofp (F := Ideal) φ (FloatOps.fptosi (F := Ideal) (φ := .f32) 8 (code v)) : EReal) = code v :=
  codeI_toInt v

/-- A number is its own clip exactly inside the range. -/
theorem eq_clip (v : EReal) : v = clip v ↔ K 3238002688#32 ≤ v ∧ v ≤ K 1088421888#32 := by
  unfold clip
  constructor
  · intro h
    have h7 : K 3238002688#32 ≤ K 1088421888#32 := by rw [k_lo, k_hi]; exact_mod_cast (by norm_num : (-8 : ℝ) ≤ 7)
    rw [h]
    exact ⟨le_min h7 (le_max_left _ _), min_le_left _ _⟩
  · rintro ⟨h1, h2⟩
    rw [max_eq_right h1, min_eq_right h2]

/-- The two comparisons that select inside the range. -/
theorem sel (v a : EReal) :
    Scalar.select (IntOp.andi (BitVec.ofBool (decide (K 3238002688#32 ≤ v))) (BitVec.ofBool (decide (v ≤ K 1088421888#32)))) a 0
      = if v = clip v then a else 0 := by
  by_cases h1 : K 3238002688#32 ≤ v <;> by_cases h2 : v ≤ K 1088421888#32 <;>
    simp [Scalar.select, IntOp.andi, h1, h2, eq_clip v]

/-- Inside the range the step's factor is the rounding error. -/
theorem res_in (v : EReal) (h : v = clip v) : ∃ r : ℝ, v = r ∧ res v = (((Ideal.roundHalfEven r : ℤ) : ℝ) - r : ℝ) := by
  induction v with
  | bot => rw [clip_bot] at h; exact absurd h (EReal.bot_ne_coe _)
  | top => rw [clip_top] at h; exact absurd h (EReal.top_ne_coe _)
  | coe r =>
    refine ⟨r, rfl, ?_⟩
    unfold res code
    rw [if_pos h, ← h, Ideal.liftRound_coe, EReal.coe_sub]
/-- Outside the range the step's factor is an end of the range. -/
theorem res_out (v : EReal) (h : ¬ v = clip v) :
    (v < K 3238002688#32 ∧ res v = K 3238002688#32) ∨ (K 1088421888#32 < v ∧ ¬ v < K 3238002688#32 ∧ res v = K 1088421888#32) := by
  have h7 : K 3238002688#32 ≤ K 1088421888#32 := by rw [k_lo, k_hi]; exact_mod_cast (by norm_num : (-8 : ℝ) ≤ 7)
  have e : res v = code v := by unfold res; rw [if_neg h, sub_zero]
  rw [e, code]
  rcases lt_or_ge v (K 3238002688#32) with a | a
  · refine Or.inl ⟨a, ?_⟩
    have := round_int (-8)
    push_cast at this
    rw [clip, max_eq_left a.le, min_eq_right h7, k_lo, Ideal.liftRound_coe, this]; norm_num
  · have b : K 1088421888#32 < v := by
      by_contra b
      exact h ((eq_clip v).2 ⟨a, not_lt.1 b⟩)
    refine Or.inr ⟨b, not_lt.2 a, ?_⟩
    have := round_int 7
    push_cast at this
    rw [clip, max_eq_right a, min_eq_left b.le, k_hi, Ideal.liftRound_coe, this]; norm_num

/-- The step's factor, written with both comparisons. -/
theorem res_eq (v : EReal) :
    Scalar.select (IntOp.andi (BitVec.ofBool (decide (K 3238002688#32 ≤ v))) (BitVec.ofBool (decide (v ≤ K 1088421888#32))))
        (Ideal.liftRound Ideal.roundHalfEven v - v) 0
      + (if v < K 3238002688#32 then K 3238002688#32 else if K 1088421888#32 < v then K 1088421888#32 else 0) = res v := by
  rw [sel]
  by_cases h : v = clip v
  · have hr := (eq_clip v).1 h
    rw [if_pos h, if_neg (not_lt.2 hr.1), if_neg (not_lt.2 hr.2), add_zero]
    unfold res code
    rw [if_pos h, ← h]
  · rw [if_neg h, zero_add]
    rcases res_out v h with ⟨a, e⟩ | ⟨a, b, e⟩
    · rw [if_pos a, e]
    · rw [if_neg b, if_pos a, e]

/-- The factor is less than one in magnitude exactly inside the range. -/
theorem res_lt (v : EReal) : mag (res v) < 1 ↔ v = clip v := by
  show max (res v) (-res v) < 1 ↔ _
  constructor
  · intro hl
    by_contra h
    rcases res_out v h with ⟨_, e⟩ | ⟨_, _, e⟩ <;> rw [e] at hl
    · rw [k_lo] at hl
      have := lt_of_le_of_lt (le_max_right _ _) hl
      rw [← EReal.coe_neg, ← EReal.coe_one, EReal.coe_lt_coe_iff] at this
      norm_num at this
    · rw [k_hi] at hl
      have := lt_of_le_of_lt (le_max_left _ _) hl
      rw [← EReal.coe_one, EReal.coe_lt_coe_iff] at this
      norm_num at this
  · intro h
    obtain ⟨r, _, e⟩ := res_in v h
    have hc := abs_le.1 (round_close r)
    rw [e, ← EReal.coe_neg, ← EReal.coe_strictMono.monotone.map_max, ← EReal.coe_one, EReal.coe_lt_coe_iff, max_lt_iff]
    constructor <;> linarith [hc.1, hc.2]
/-- Selecting by the factor's magnitude is selecting inside the range. -/
theorem ite_res (v a : EReal) : (if mag (res v) < 1 then a else 0) = if v = clip v then a else 0 := by
  simp only [res_lt]

/-- Multiplying by the reciprocal of a step that is not zero is dividing by it. -/
theorem mul_recip (w s : EReal) (h : s ≠ 0) : w * Ideal.div 1 s = Ideal.div w s := by
  simp [Ideal.div, h]

/-- What the layer is given: tokens `x`, gradient `dy`, the norm's weight, the three weights, their steps, the two activations' steps. -/
structure P where
  x : Fin 256 → Fin 4096 → EReal
  dy : Fin 256 → Fin 4096 → EReal
  nw : Fin 4096 → EReal
  wg : Fin 4096 → Fin 14336 → EReal
  wu : Fin 4096 → Fin 14336 → EReal
  wd : Fin 14336 → Fin 4096 → EReal
  sg : Fin 14336 → EReal
  su : Fin 14336 → EReal
  sd : Fin 4096 → EReal
  s1 : EReal
  s2 : EReal

/-- The part of an activation's gradient that its rounding error carries, -/
def pr (v c : EReal) : EReal := if mag v ≤ K 1138753536#32 then c - v else 0
/-- the part that clipping carries, -/
def pc (v : EReal) : EReal :=
  if K 1138753536#32 < mag v then (if 0 < mag v then if v < 0 then K 3212836864#32 else 1 else v) * K 1138753536#32 else 0
/-- and the gradient let through inside the range. -/
def inA (v a : EReal) : EReal := if mag v ≤ K 1138753536#32 then a else 0
/-- An activation's code. -/
def clipA (v : EReal) : EReal := min (K 1138753536#32) (max (K 3286237184#32) v)

namespace P
variable (p : P)

/-- The reciprocal root of the mean square. -/
def r (t : Fin 256) : EReal := Ideal.div 1 (Ideal.sqrt (Ideal.div (∑ d, p.x t d * p.x t d) (K 1166016512#32) + K 925353388#32))
/-- The normed tokens over their step, and their codes. -/
def v1 (t : Fin 256) (d : Fin 4096) : EReal := Ideal.div (p.x t d * p.r t * p.nw d) p.s1
def c1 (t : Fin 256) (d : Fin 4096) : EReal := clipA (p.v1 t d)
/-- The weights over their steps. -/
def vg (d : Fin 4096) (f : Fin 14336) : EReal := Ideal.div (p.wg d f) (p.sg f)
def vu (d : Fin 4096) (f : Fin 14336) : EReal := Ideal.div (p.wu d f) (p.su f)
def vd (f : Fin 14336) (d : Fin 4096) : EReal := Ideal.div (p.wd f d) (p.sd d)
/-- The gate and the up projection. -/
def gr (t : Fin 256) (f : Fin 14336) : EReal := ∑ d, p.c1 t d * code (p.vg d f)
def ur (t : Fin 256) (f : Fin 14336) : EReal := ∑ d, p.c1 t d * code (p.vu d f)
def g (t : Fin 256) (f : Fin 14336) : EReal := p.gr t f * p.s1 * p.sg f
def u (t : Fin 256) (f : Fin 14336) : EReal := p.ur t f * p.s1 * p.su f
def σ (t : Fin 256) (f : Fin 14336) : EReal := Ideal.logistic (p.g t f)
/-- The hidden activation over its step, and its codes. -/
def v2 (t : Fin 256) (f : Fin 14336) : EReal := Ideal.div (p.g t f * p.σ t f * p.u t f) p.s2
def c2 (t : Fin 256) (f : Fin 14336) : EReal := clipA (p.v2 t f)
/-- The down projection and the output. -/
def o (t : Fin 256) (d : Fin 4096) : EReal := ∑ f, p.c2 t f * code (p.vd f d)
def y (t : Fin 256) (d : Fin 4096) : EReal := p.x t d + p.o t d * p.s2 * p.sd d
/-- The hidden activation's gradient, and what the quantiser's step takes of it. -/
def da2 (t : Fin 256) (f : Fin 14336) : EReal := ∑ d, p.dy t d * (p.sd d * code (p.vd f d))
def rnd2 (t : Fin 256) : EReal := K 936304918#32 * ∑ f, p.da2 t f * pr (p.v2 t f) (p.c2 t f)
def abs2 (t : Fin 256) : EReal := K 936304918#32 * ∑ f, mag (p.da2 t f * pr (p.v2 t f) (p.c2 t f))
def clp2 (t : Fin 256) : EReal := K 936304918#32 * ∑ f, p.da2 t f * pc (p.v2 t f)
def dsa2 : EReal := ∑ t, (p.rnd2 t + p.clp2 t)
/-- The gradients of the down projection's weights and steps. -/
def gwd (f : Fin 14336) (d : Fin 4096) : EReal := (∑ t, p.c2 t f * p.dy t d) * p.s2
def dwd (f : Fin 14336) (d : Fin 4096) : EReal := if p.vd f d = clip (p.vd f d) then p.gwd f d else 0
def dsd (d : Fin 4096) : EReal := K 995025174#32 * ∑ f, p.gwd f d * res (p.vd f d)
/-- Back through the gate. -/
def da (t : Fin 256) (f : Fin 14336) : EReal := inA (p.v2 t f) (p.da2 t f)
def dau (t : Fin 256) (f : Fin 14336) : EReal := inA (p.v2 t f) (p.da2 t f * p.u t f)
def dg (t : Fin 256) (f : Fin 14336) : EReal := p.dau t f * p.σ t f * (1 + p.g t f * (1 - p.σ t f))
def du (t : Fin 256) (f : Fin 14336) : EReal := p.da t f * p.g t f * p.σ t f
/-- The gradients of the gate's and the up projection's weights and steps. -/
def gwg (d : Fin 4096) (f : Fin 14336) : EReal := (∑ t, p.c1 t d * p.dg t f) * p.s1
def gwu (d : Fin 4096) (f : Fin 14336) : EReal := (∑ t, p.c1 t d * p.du t f) * p.s1
def dwg (d : Fin 4096) (f : Fin 14336) : EReal := if p.vg d f = clip (p.vg d f) then p.gwg d f else 0
def dwu (d : Fin 4096) (f : Fin 14336) : EReal := if p.vu d f = clip (p.vu d f) then p.gwu d f else 0
def dsg (f : Fin 14336) : EReal := K 1002538127#32 * ∑ d, p.gwg d f * res (p.vg d f)
def dsu (f : Fin 14336) : EReal := K 1002538127#32 * ∑ d, p.gwu d f * res (p.vu d f)
/-- The normed tokens' gradient, and what the quantiser's step takes of it. -/
def da1 (t : Fin 256) (d : Fin 4096) : EReal :=
  ∑ f, p.dg t f * (p.sg f * code (p.vg d f)) + ∑ f, p.du t f * (p.su f * code (p.vu d f))
def rnd1 (t : Fin 256) : EReal := K 943817871#32 * ∑ d, p.da1 t d * pr (p.v1 t d) (p.c1 t d)
def clp1 (t : Fin 256) : EReal := K 943817871#32 * ∑ d, p.da1 t d * pc (p.v1 t d)
def dsa1 : EReal := ∑ t, (p.rnd1 t + p.clp1 t)
/-- Back through the norm. -/
def dn (t : Fin 256) (d : Fin 4096) : EReal := inA (p.v1 t d) (p.da1 t d)
def dnw (d : Fin 4096) : EReal := ∑ t, p.dn t d * p.x t d * p.r t
def dh (t : Fin 256) (d : Fin 4096) : EReal := p.dn t d * p.nw d
def dot (t : Fin 256) : EReal := p.r t * Ideal.div (∑ d, p.dh t d * p.x t d) (K 1166016512#32)
def dx (t : Fin 256) (d : Fin 4096) : EReal :=
  p.dy t d + (p.r t * p.dh t d - p.x t d * (p.r t * p.r t) * p.dot t)

end P

end Cert.Spec
-- ==== Proof.KerAt.lean ====
module

public import proofs.«01_k».proof.Proof.Gen.KernelIdeal.Skeleton
public import proofs.«01_k».proof.Proof.Spec

/-! What each step of the main call's body computes, index by index, for block `b` of 256 hidden features and block `k` of 512
features: from operands that hold the layer's quantities, the next quantity. -/

@[expose] public section

set_option maxRecDepth 16384

noncomputable section

namespace Cert.Spec

open Idealize.ShloMosaic

/-- Hidden feature `j` of block `b`, and feature `j` of block `k`. -/
abbrev fc (b : ℕ) (j : Fin 256) : Fin 14336 := Fin.ofNat 14336 (256 * b + j.val)
abbrev dc (k : ℕ) (j : Fin 512) : Fin 4096 := Fin.ofNat 4096 (512 * k + j.val)

/-- No weight's step is zero. -/
structure NZ (p : P) : Prop where
  g : ∀ f, p.sg f ≠ 0
  u : ∀ f, p.su f ≠ 0
  d : ∀ d, p.sd d ≠ 0

/-- One hidden feature's share of the second activation step's gradient: through rounding and through clipping. -/
def pR (p : P) (t : Fin 256) (f : Fin 14336) : EReal := p.da2 t f * pr (p.v2 t f) (p.c2 t f)
def pC (p : P) (t : Fin 256) (f : Fin 14336) : EReal := p.da2 t f * pc (p.v2 t f)

/-- Multiplying by the reciprocal of a gate step is dividing by the step. -/
theorem NZ.mg {p : P} (h : NZ p) (w : EReal) (f : Fin 14336) : w * Ideal.div 1 (p.sg f) = Ideal.div w (p.sg f) := mul_recip _ _ (h.g f)
/-- Multiplying by the reciprocal of an up step is dividing by the step. -/
theorem NZ.mu {p : P} (h : NZ p) (w : EReal) (f : Fin 14336) : w * Ideal.div 1 (p.su f) = Ideal.div w (p.su f) := mul_recip _ _ (h.u f)
/-- Multiplying by the reciprocal of a down step is dividing by the step. -/
theorem NZ.md {p : P} (h : NZ p) (w : EReal) (f : Fin 4096) : w * Ideal.div 1 (p.sd f) = Ideal.div w (p.sd f) := mul_recip _ _ (h.d f)

/-- The mask as a choice. -/
theorem sel_mask (v a : EReal) : Scalar.select (BitVec.ofBool (decide (mag v ≤ K 1138753536#32))) a 0 = if mag v ≤ K 1138753536#32 then a else 0 := by
  unfold Scalar.select
  by_cases h : mag v ≤ K 1138753536#32 <;> simp [h]

/-- Indices of halves and of rows, in one spelling. -/
theorem fin_of_mk {n x : ℕ} [NeZero n] (h : x < n) : (⟨x, h⟩ : Fin n) = Fin.ofNat n x := Fin.ext (Nat.mod_eq_of_lt h).symm
/-- An index made from its own value is itself. -/
theorem ofNat_val {n : ℕ} [NeZero n] (x : Fin n) : Fin.ofNat n x.val = x := Fin.ext (Nat.mod_eq_of_lt x.isLt)

end Cert.Spec

namespace Cert.KernelIdeal.At

open Idealize.ShloMosaic Idealize.ShloMosaic.TcCoe Idealize.ShloMosaic.Tactic
open Cert.KernelIdeal Cert.KernelIdeal.Gen Cert.Spec

variable (p : P) (nz : NZ p) (b k : ℕ)

/-- This step of the body gives the gate's gradient. -/
theorem pay1 (v40 : FVec Ideal S256x256 .f32) (v45 : FVec Ideal S256x256 .f32) (v109 : FVec Ideal S256x256 .f32) (hv40 : ∀ (i : Fin 256) (j : Fin 256), v40 (ix2 i j) = p.g i (fc b j)) (hv45 : ∀ (i : Fin 256) (j : Fin 256), v45 (ix2 i j) = p.σ i (fc b j)) (hv109 : ∀ (i : Fin 256) (j : Fin 256), v109 (ix2 i j) = p.dau i (fc b j)) (i : Fin 256) (j : Fin 256) :
    (k1_pay1 v40 v45 v109 : FVec Ideal S256x256 .bf16) (ix2 i j) = p.dg i (fc b j) := by
  unfold k1_pay1; unfold_payloads; pointwise
  try simp only [hv40, hv45, hv109]
  try simp only [fin_of_mk]
  try simp only [ite_res, sel_mask]
  try simp only [res, code, clip, codeI, P.r, P.v1, P.c1, P.vg, P.vu, P.vd, P.gr, P.ur, P.u, P.v2, P.c2, P.o, P.y, P.da2, P.rnd2, P.abs2, P.clp2, P.dsa2, P.gwd, P.dwd, P.dsd, P.da, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the up projection's gradient. -/
theorem pay2 (v40 : FVec Ideal S256x256 .f32) (v45 : FVec Ideal S256x256 .f32) (v64 : FVec Ideal S256x256 .f32) (hv40 : ∀ (i : Fin 256) (j : Fin 256), v40 (ix2 i j) = p.g i (fc b j)) (hv45 : ∀ (i : Fin 256) (j : Fin 256), v45 (ix2 i j) = p.σ i (fc b j)) (hv64 : ∀ (i : Fin 256) (j : Fin 256), v64 (ix2 i j) = p.da i (fc b j)) (i : Fin 256) (j : Fin 256) :
    (k1_pay2 v40 v45 v64 : FVec Ideal S256x256 .bf16) (ix2 i j) = p.du i (fc b j) := by
  unfold k1_pay2; unfold_payloads; pointwise
  try simp only [hv40, hv45, hv64]
  try simp only [fin_of_mk]
  try simp only [ite_res, sel_mask]
  try simp only [res, code, clip, codeI, P.r, P.v1, P.c1, P.vg, P.vu, P.vd, P.gr, P.ur, P.u, P.v2, P.c2, P.o, P.y, P.da2, P.rnd2, P.abs2, P.clp2, P.dsa2, P.gwd, P.dwd, P.dsd, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the running value plus a sum made of the gate's gradient, the gate's steps, the gate's weights over their steps, the up projection's gradient, the up projection's steps and the up projection's weights over their steps. -/
theorem pay4 (v40 : FVec Ideal S256x256 .f32) (v45 : FVec Ideal S256x256 .f32) (v64 : FVec Ideal S256x256 .f32) (v109 : FVec Ideal S256x256 .f32) (v176 : FVec Ideal S512x256 .f32) (O : Fin 512 → Fin 256 → EReal) (v178 : Vec Ideal S512x512 .bf16) (hv40 : ∀ (i : Fin 256) (j : Fin 256), v40 (ix2 i j) = p.g i (fc b j)) (hv45 : ∀ (i : Fin 256) (j : Fin 256), v45 (ix2 i j) = p.σ i (fc b j)) (hv64 : ∀ (i : Fin 256) (j : Fin 256), v64 (ix2 i j) = p.da i (fc b j)) (hv109 : ∀ (i : Fin 256) (j : Fin 256), v109 (ix2 i j) = p.dau i (fc b j)) (hv176 : ∀ (i : Fin 512) (j : Fin 256), v176 (ix2 i j) = O i j) (hv178 : ∀ (i : Fin 512) (j : Fin 512), v178 (ix2 i j) = if j.val < 256 then p.sg (fc b (Fin.ofNat 256 j.val)) * code (p.vg (dc k i) (fc b (Fin.ofNat 256 j.val))) else p.su (fc b (Fin.ofNat 256 (j.val - 256))) * code (p.vu (dc k i) (fc b (Fin.ofNat 256 (j.val - 256))))) (i : Fin 512) (j : Fin 256) :
    (k1_pay4 v40 v45 v64 v109 v176 v178 : FVec Ideal S512x256 .f32) (ix2 i j) = O i j + (∑ x, p.dg j (fc b x) * (p.sg (fc b x) * code (p.vg (dc k i) (fc b x))) + ∑ x, p.du j (fc b x) * (p.su (fc b x) * code (p.vu (dc k i) (fc b x)))) := by
  unfold k1_pay4; unfold_payloads; pointwise
  simp only [hv40, hv45, hv64, hv109, hv176, hv178]
  refine congrArg (O i j + ·) (congrArg₂ (· + ·) (Finset.sum_congr rfl fun x _ => ?_) (Finset.sum_congr rfl fun x _ => ?_))
  · rw [if_pos (show x.val < 256 from x.isLt), ofNat_val, mul_comm]; rfl
  · rw [if_neg (show ¬ 256 + x.val < 256 by omega), show 256 + x.val - 256 = x.val by omega, ofNat_val, mul_comm]; rfl

include nz in
/-- This step of the body gives the step's factor of the gate's weights over their steps. -/
theorem pay10 (v10 : FVec Ideal S1x256 .f32) (v138 : Vec Ideal S512x256 .bf16) (hv10 : ∀ (i : Fin 1) (j : Fin 256), v10 (ix2 i j) = Ideal.div 1 (p.sg (fc b j))) (hv138 : ∀ (i : Fin 512) (j : Fin 256), v138 (ix2 i j) = p.wg (dc k i) (fc b j)) (i : Fin 512) (j : Fin 256) :
    (k1_pay10 v10 v138 : FVec Ideal S512x256 .f32) (ix2 i j) = res (p.vg (dc k i) (fc b j)) := by
  unfold k1_pay10; unfold_payloads; pointwise
  try simp only [hv10, hv138]
  try simp only [nz.mg, nz.mu, nz.md, fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]
  rfl

include nz in
/-- This step of the body gives a combination of the gate's steps and the gate's weights over their steps. -/
theorem pay11 (v6 : FVec Ideal S1x256 .f32) (v10 : FVec Ideal S1x256 .f32) (v138 : Vec Ideal S512x256 .bf16) (hv6 : ∀ (i : Fin 1) (j : Fin 256), v6 (ix2 i j) = p.sg (fc b j)) (hv10 : ∀ (i : Fin 1) (j : Fin 256), v10 (ix2 i j) = Ideal.div 1 (p.sg (fc b j))) (hv138 : ∀ (i : Fin 512) (j : Fin 256), v138 (ix2 i j) = p.wg (dc k i) (fc b j)) (i : Fin 512) (j : Fin 256) :
    (k1_pay11 v6 v10 v138 : FVec Ideal S512x256 .bf16) (ix2 i j) = p.sg (fc b j) * code (p.vg (dc k i) (fc b j)) := by
  unfold k1_pay11; unfold_payloads; pointwise
  try simp only [hv6, hv10, hv138]
  try simp only [nz.mg, nz.mu, nz.md, fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

include nz in
/-- This step of the body gives the integer codes of the gate's weights over their steps. -/
theorem pay12 (v10 : FVec Ideal S1x256 .f32) (v138 : Vec Ideal S512x256 .bf16) (hv10 : ∀ (i : Fin 1) (j : Fin 256), v10 (ix2 i j) = Ideal.div 1 (p.sg (fc b j))) (hv138 : ∀ (i : Fin 512) (j : Fin 256), v138 (ix2 i j) = p.wg (dc k i) (fc b j)) (i : Fin 512) (j : Fin 256) :
    (k1_pay12 v10 v138 : IVec S512x256 8) (ix2 i j) = codeI (p.vg (dc k i) (fc b j)) := by
  unfold k1_pay12; unfold_payloads; pointwise
  try simp only [hv10, hv138]
  try simp only [nz.mg, nz.mu, nz.md, fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]
  rfl

include nz in
/-- This step of the body gives the codes of the gate's weights over their steps. -/
theorem pay13 (v10 : FVec Ideal S1x256 .f32) (v138 : Vec Ideal S512x256 .bf16) (hv10 : ∀ (i : Fin 1) (j : Fin 256), v10 (ix2 i j) = Ideal.div 1 (p.sg (fc b j))) (hv138 : ∀ (i : Fin 512) (j : Fin 256), v138 (ix2 i j) = p.wg (dc k i) (fc b j)) (i : Fin 512) (j : Fin 256) :
    (k1_pay13 v10 v138 : FVec Ideal S512x256 .fp8e4m3) (ix2 i j) = code (p.vg (dc k i) (fc b j)) := by
  unfold k1_pay13; unfold_payloads; pointwise
  try simp only [hv10, hv138]
  try simp only [nz.mg, nz.mu, nz.md, fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

include nz in
/-- This step of the body gives the up projection's weights over their steps. -/
theorem pay14 (v12 : FVec Ideal S1x256 .f32) (v172 : Vec Ideal S512x256 .bf16) (hv12 : ∀ (i : Fin 1) (j : Fin 256), v12 (ix2 i j) = Ideal.div 1 (p.su (fc b j))) (hv172 : ∀ (i : Fin 512) (j : Fin 256), v172 (ix2 i j) = p.wu (dc k i) (fc b j)) (i : Fin 512) (j : Fin 256) :
    (k1_pay14 v12 v172 : FVec Ideal S512x256 .f32) (ix2 i j) = p.vu (dc k i) (fc b j) := by
  unfold k1_pay14; unfold_payloads; pointwise
  try simp only [hv12, hv172]
  try simp only [nz.mg, nz.mu, nz.md, fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

include nz in
/-- This step of the body gives the up projection's weights over their steps, bounded from below. -/
theorem pay15 (v12 : FVec Ideal S1x256 .f32) (v172 : Vec Ideal S512x256 .bf16) (hv12 : ∀ (i : Fin 1) (j : Fin 256), v12 (ix2 i j) = Ideal.div 1 (p.su (fc b j))) (hv172 : ∀ (i : Fin 512) (j : Fin 256), v172 (ix2 i j) = p.wu (dc k i) (fc b j)) (i : Fin 512) (j : Fin 256) :
    (k1_pay15 v12 v172 : FVec Ideal S512x256 .f32) (ix2 i j) = max (K 3238002688#32) (p.vu (dc k i) (fc b j)) := by
  unfold k1_pay15; unfold_payloads; pointwise
  try simp only [hv12, hv172]
  try simp only [nz.mg, nz.mu, nz.md, fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the down projection's steps. -/
theorem pay16 (v138 : Vec Ideal S1x512 .f32) (hv138 : ∀ (i : Fin 1) (j : Fin 512), v138 (ix2 i j) = p.sd (dc k j)) (i : Fin 1) (j : Fin 512) :
    (k1_pay16 v138 : FVec Ideal S1x512 .f32) (ix2 i j) = p.sd (dc k j) := by
  unfold k1_pay16; unfold_payloads; pointwise
  try simp only [hv138]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

include nz in
/-- This step of the body gives the codes of the down projection's weights over their steps. -/
theorem pay19 (v138 : Vec Ideal S1x512 .f32) (v141 : Vec Ideal S256x512 .bf16) (hv138 : ∀ (i : Fin 1) (j : Fin 512), v138 (ix2 i j) = p.sd (dc k j)) (hv141 : ∀ (i : Fin 256) (j : Fin 512), v141 (ix2 i j) = p.wd (fc b i) (dc k j)) (i : Fin 256) (j : Fin 512) :
    (k1_pay19 v138 v141 : FVec Ideal S256x512 .f32) (ix2 i j) = code (p.vd (fc b i) (dc k j)) := by
  unfold k1_pay19; unfold_payloads; pointwise
  try simp only [hv138, hv141]
  try simp only [nz.mg, nz.mu, nz.md, fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

include nz in
/-- This step of the body gives the step's factor of the down projection's weights over their steps. -/
theorem pay21 (v138 : Vec Ideal S1x512 .f32) (v141 : Vec Ideal S256x512 .bf16) (hv138 : ∀ (i : Fin 1) (j : Fin 512), v138 (ix2 i j) = p.sd (dc k j)) (hv141 : ∀ (i : Fin 256) (j : Fin 512), v141 (ix2 i j) = p.wd (fc b i) (dc k j)) (i : Fin 256) (j : Fin 512) :
    (k1_pay21 v138 v141 : FVec Ideal S256x512 .f32) (ix2 i j) = res (p.vd (fc b i) (dc k j)) := by
  unfold k1_pay21; unfold_payloads; pointwise
  try simp only [hv138, hv141]
  try simp only [nz.mg, nz.mu, nz.md, fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]
  rfl

include nz in
/-- This step of the body gives the integer codes of the down projection's weights over their steps. -/
theorem pay22 (v138 : Vec Ideal S1x512 .f32) (v141 : Vec Ideal S256x512 .bf16) (hv138 : ∀ (i : Fin 1) (j : Fin 512), v138 (ix2 i j) = p.sd (dc k j)) (hv141 : ∀ (i : Fin 256) (j : Fin 512), v141 (ix2 i j) = p.wd (fc b i) (dc k j)) (i : Fin 256) (j : Fin 512) :
    (k1_pay22 v138 v141 : IVec S256x512 8) (ix2 i j) = codeI (p.vd (fc b i) (dc k j)) := by
  unfold k1_pay22; unfold_payloads; pointwise
  try simp only [hv138, hv141]
  try simp only [nz.mg, nz.mu, nz.md, fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]
  rfl

include nz in
/-- This step of the body gives the running value plus a sum made of the hidden activation's codes and the down projection's weights over their steps. -/
theorem pay23 (v54 : FVec Ideal S256x256 .fp8e4m3) (v138 : Vec Ideal S1x512 .f32) (v141 : Vec Ideal S256x512 .bf16) (v160 : Vec Ideal S256x512 .f32) (O : Fin 256 → Fin 512 → EReal) (hv54 : ∀ (i : Fin 256) (j : Fin 256), v54 (ix2 i j) = p.c2 i (fc b j)) (hv138 : ∀ (i : Fin 1) (j : Fin 512), v138 (ix2 i j) = p.sd (dc k j)) (hv141 : ∀ (i : Fin 256) (j : Fin 512), v141 (ix2 i j) = p.wd (fc b i) (dc k j)) (hv160 : ∀ (i : Fin 256) (j : Fin 512), v160 (ix2 i j) = O i j) (i : Fin 256) (j : Fin 512) :
    (k1_pay23 v54 v138 v141 v160 : FVec Ideal S256x512 .f32) (ix2 i j) = O i j + ∑ x, p.c2 i (fc b x) * code (p.vd (fc b x) (dc k j)) := by
  unfold k1_pay23; unfold_payloads; pointwise
  try simp only [hv54, hv138, hv141, hv160]
  try simp only [nz.mg, nz.mu, nz.md, fin_of_mk]
  try simp only [ite_res, sel_mask]
  try simp only [res, code, clip, codeI, P.r, P.v1, P.c1, P.vg, P.vu, P.vd, P.gr, P.ur, P.g, P.u, P.σ, P.v2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the output's gradient. -/
theorem pay24 (v169 : Vec Ideal S256x512 .bf16) (hv169 : ∀ (i : Fin 256) (j : Fin 512), v169 (ix2 i j) = p.dy i (dc k j)) (i : Fin 256) (j : Fin 512) :
    (k1_pay24 v169 : FVec Ideal S256x512 .bf16) (ix2 i j) = p.dy i (dc k j) := by
  unfold k1_pay24; unfold_payloads; pointwise
  try simp only [hv169]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the gradient of the quantised down weights. -/
theorem pay25 (v1 : Elt Ideal .f32) (v57 : FVec Ideal S256x256 .bf16) (v169 : Vec Ideal S256x512 .bf16) (hv1 : v1 = p.s2) (hv57 : ∀ (i : Fin 256) (j : Fin 256), v57 (ix2 i j) = p.c2 j (fc b i)) (hv169 : ∀ (i : Fin 256) (j : Fin 512), v169 (ix2 i j) = p.dy i (dc k j)) (i : Fin 256) (j : Fin 512) :
    (k1_pay25 v1 v57 v169 : FVec Ideal S256x512 .f32) (ix2 i j) = p.gwd (fc b i) (dc k j) := by
  unfold k1_pay25; unfold_payloads; pointwise
  try simp only [hv1, hv57, hv169]
  try simp only [fin_of_mk]
  try simp only [ite_res, sel_mask]
  try simp only [res, code, clip, codeI, P.r, P.v1, P.c1, P.vg, P.vu, P.vd, P.gr, P.ur, P.g, P.u, P.σ, P.v2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

include nz in
/-- This step of the body gives the down weights' gradient. -/
theorem pay26 (v1 : Elt Ideal .f32) (v57 : FVec Ideal S256x256 .bf16) (v138 : Vec Ideal S1x512 .f32) (v141 : Vec Ideal S256x512 .bf16) (v169 : Vec Ideal S256x512 .bf16) (hv1 : v1 = p.s2) (hv57 : ∀ (i : Fin 256) (j : Fin 256), v57 (ix2 i j) = p.c2 j (fc b i)) (hv138 : ∀ (i : Fin 1) (j : Fin 512), v138 (ix2 i j) = p.sd (dc k j)) (hv141 : ∀ (i : Fin 256) (j : Fin 512), v141 (ix2 i j) = p.wd (fc b i) (dc k j)) (hv169 : ∀ (i : Fin 256) (j : Fin 512), v169 (ix2 i j) = p.dy i (dc k j)) (i : Fin 256) (j : Fin 512) :
    (k1_pay26 v1 v57 v138 v141 v169 : FVec Ideal S256x512 .bf16) (ix2 i j) = p.dwd (fc b i) (dc k j) := by
  unfold k1_pay26; unfold_payloads; pointwise
  try simp only [hv1, hv57, hv138, hv141, hv169]
  try simp only [nz.mg, nz.mu, nz.md, fin_of_mk]
  try simp only [ite_res, sel_mask]
  try simp only [res, code, clip, codeI, P.r, P.v1, P.c1, P.vg, P.vu, P.vd, P.gr, P.ur, P.g, P.u, P.σ, P.v2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]
  rfl

/-- This step of the body gives the gate weights' gradient. -/
theorem pay29 (v0 : Elt Ideal .f32) (v117 : FVec Ideal S256x256 .bf16) (v138 : Vec Ideal S512x256 .bf16) (v144 : Vec Ideal S512x256 .f32) (hv0 : v0 = p.s1) (hv117 : ∀ (i : Fin 256) (j : Fin 256), v117 (ix2 i j) = p.dg i (fc b j)) (hv138 : ∀ (i : Fin 512) (j : Fin 256), v138 (ix2 i j) = p.c1 j (dc k i)) (hv144 : ∀ (i : Fin 512) (j : Fin 256), v144 (ix2 i j) = res (p.vg (dc k i) (fc b j))) (i : Fin 512) (j : Fin 256) :
    (k1_pay29 v0 v117 v138 v144 : FVec Ideal S512x256 .bf16) (ix2 i j) = p.dwg (dc k i) (fc b j) := by
  unfold k1_pay29; unfold_payloads; pointwise
  try simp only [hv0, hv117, hv138, hv144]
  try simp only [fin_of_mk]
  try simp only [ite_res, sel_mask]
  try simp only [res, code, clip, codeI, P.r, P.v1, P.vg, P.vu, P.vd, P.gr, P.ur, P.g, P.u, P.σ, P.v2, P.c2, P.o, P.y, P.da2, P.rnd2, P.abs2, P.clp2, P.dsa2, P.gwd, P.dwd, P.dsd, P.da, P.dau, P.du, P.gwg, P.gwu, P.dwg, P.dwu, P.dsg, P.dsu, P.da1, P.rnd1, P.clp1, P.dsa1, P.dn, P.dnw, P.dh, P.dot, P.dx, pR, pC, pr, pc, inA, clipA]

/-- This step of the body gives the running value plus a sum made of the gradient of the quantised gate weights and the gate's weights over their steps. -/
theorem pay30 (v0 : Elt Ideal .f32) (v117 : FVec Ideal S256x256 .bf16) (arg31 : FVec Ideal S8x256 .f32) (O : Fin 8 → Fin 256 → EReal) (v138 : Vec Ideal S512x256 .bf16) (v144 : Vec Ideal S512x256 .f32) (hv0 : v0 = p.s1) (hv117 : ∀ (i : Fin 256) (j : Fin 256), v117 (ix2 i j) = p.dg i (fc b j)) (harg31 : ∀ (i : Fin 8) (j : Fin 256), arg31 (ix2 i j) = O i j) (hv138 : ∀ (i : Fin 512) (j : Fin 256), v138 (ix2 i j) = p.c1 j (dc k i)) (hv144 : ∀ (i : Fin 512) (j : Fin 256), v144 (ix2 i j) = res (p.vg (dc k i) (fc b j))) (i : Fin 8) (j : Fin 256) :
    (k1_pay30 v0 v117 arg31 v138 v144 : FVec Ideal S8x256 .f32) (ix2 i j) = O i j + ∑ x : Fin 64, p.gwg (dc k (Fin.ofNat 512 (x.val * 8 + i.val))) (fc b j) * res (p.vg (dc k (Fin.ofNat 512 (x.val * 8 + i.val))) (fc b j)) := by
  unfold k1_pay30; unfold_payloads; pointwise
  try simp only [hv0, hv117, harg31, hv138, hv144]
  try simp only [fin_of_mk]
  try simp only [ite_res, sel_mask]
  try simp only [res, code, clip, codeI, P.r, P.v1, P.vg, P.vu, P.vd, P.gr, P.ur, P.g, P.u, P.σ, P.v2, P.c2, P.o, P.y, P.da2, P.rnd2, P.abs2, P.clp2, P.dsa2, P.gwd, P.dwd, P.dsd, P.da, P.dau, P.du, P.gwg, P.gwu, P.dwg, P.dwu, P.dsg, P.dsu, P.da1, P.rnd1, P.clp1, P.dsa1, P.dn, P.dnw, P.dh, P.dot, P.dx, pR, pC, pr, pc, inA, clipA]

/-- This step of the body gives the up weights' gradient. -/
theorem pay32 (v0 : Elt Ideal .f32) (v120 : FVec Ideal S256x256 .bf16) (v138 : Vec Ideal S512x256 .bf16) (v161 : Vec Ideal S512x256 .f32) (hv0 : v0 = p.s1) (hv120 : ∀ (i : Fin 256) (j : Fin 256), v120 (ix2 i j) = p.du i (fc b j)) (hv138 : ∀ (i : Fin 512) (j : Fin 256), v138 (ix2 i j) = p.c1 j (dc k i)) (hv161 : ∀ (i : Fin 512) (j : Fin 256), v161 (ix2 i j) = res (p.vu (dc k i) (fc b j))) (i : Fin 512) (j : Fin 256) :
    (k1_pay32 v0 v120 v138 v161 : FVec Ideal S512x256 .bf16) (ix2 i j) = p.dwu (dc k i) (fc b j) := by
  unfold k1_pay32; unfold_payloads; pointwise
  try simp only [hv0, hv120, hv138, hv161]
  try simp only [fin_of_mk]
  try simp only [ite_res, sel_mask]
  try simp only [res, code, clip, codeI, P.r, P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.gwg, P.gwu, P.dwg, P.dwu, P.dsg, P.dsu, P.da1, P.rnd1, P.clp1, P.dsa1, P.dn, P.dnw, P.dh, P.dot, P.dx, pR, pC, pr, pc, inA, clipA]

/-- This step of the body gives the running value plus a sum made of the gradient of the quantised up weights and the up projection's weights over their steps. -/
theorem pay33 (v0 : Elt Ideal .f32) (v120 : FVec Ideal S256x256 .bf16) (arg32 : FVec Ideal S8x256 .f32) (O : Fin 8 → Fin 256 → EReal) (v138 : Vec Ideal S512x256 .bf16) (v161 : Vec Ideal S512x256 .f32) (hv0 : v0 = p.s1) (hv120 : ∀ (i : Fin 256) (j : Fin 256), v120 (ix2 i j) = p.du i (fc b j)) (harg32 : ∀ (i : Fin 8) (j : Fin 256), arg32 (ix2 i j) = O i j) (hv138 : ∀ (i : Fin 512) (j : Fin 256), v138 (ix2 i j) = p.c1 j (dc k i)) (hv161 : ∀ (i : Fin 512) (j : Fin 256), v161 (ix2 i j) = res (p.vu (dc k i) (fc b j))) (i : Fin 8) (j : Fin 256) :
    (k1_pay33 v0 v120 arg32 v138 v161 : FVec Ideal S8x256 .f32) (ix2 i j) = O i j + ∑ x : Fin 64, p.gwu (dc k (Fin.ofNat 512 (x.val * 8 + i.val))) (fc b j) * res (p.vu (dc k (Fin.ofNat 512 (x.val * 8 + i.val))) (fc b j)) := by
  unfold k1_pay33; unfold_payloads; pointwise
  try simp only [hv0, hv120, harg32, hv138, hv161]
  try simp only [fin_of_mk]
  try simp only [ite_res, sel_mask]
  try simp only [res, code, clip, codeI, P.r, P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.gwg, P.gwu, P.dwg, P.dwu, P.dsg, P.dsu, P.da1, P.rnd1, P.clp1, P.dsa1, P.dn, P.dnw, P.dh, P.dot, P.dx, pR, pC, pr, pc, inA, clipA]

/-- This step of the body gives the operand itself. -/
theorem pay34 (v175 : Vec Ideal S512x256 .f32) (O : Fin 512 → Fin 256 → EReal) (hv175 : ∀ (i : Fin 512) (j : Fin 256), v175 (ix2 i j) = O i j) (i : Fin 512) (j : Fin 256) :
    (k1_pay34 v175 : FVec Ideal S512x256 .f32) (ix2 i j) = O i j := by
  unfold k1_pay34; unfold_payloads; pointwise
  try simp only [hv175]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the gate's steps. -/
theorem pay41 (v5 : Vec Ideal S1x256 .f32) (hv5 : ∀ (i : Fin 1) (j : Fin 256), v5 (ix2 i j) = p.sg (fc b j)) (i : Fin 1) (j : Fin 256) :
    (k1_pay41 v5 : FVec Ideal S1x256 .f32) (ix2 i j) = p.sg (fc b j) := by
  unfold k1_pay41; unfold_payloads; pointwise
  try simp only [hv5]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the up projection's steps. -/
theorem pay42 (v7 : Vec Ideal S1x256 .f32) (hv7 : ∀ (i : Fin 1) (j : Fin 256), v7 (ix2 i j) = p.su (fc b j)) (i : Fin 1) (j : Fin 256) :
    (k1_pay42 v7 : FVec Ideal S1x256 .f32) (ix2 i j) = p.su (fc b j) := by
  unfold k1_pay42; unfold_payloads; pointwise
  try simp only [hv7]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the reciprocal of the gate's steps. -/
theorem pay43 (v5 : Vec Ideal S1x256 .f32) (hv5 : ∀ (i : Fin 1) (j : Fin 256), v5 (ix2 i j) = p.sg (fc b j)) (i : Fin 1) (j : Fin 256) :
    (k1_pay43 v5 : FVec Ideal S1x256 .f32) (ix2 i j) = Ideal.div 1 (p.sg (fc b j)) := by
  unfold k1_pay43; unfold_payloads; pointwise
  try simp only [hv5]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the reciprocal of the up projection's steps. -/
theorem pay44 (v7 : Vec Ideal S1x256 .f32) (hv7 : ∀ (i : Fin 1) (j : Fin 256), v7 (ix2 i j) = p.su (fc b j)) (i : Fin 1) (j : Fin 256) :
    (k1_pay44 v7 : FVec Ideal S1x256 .f32) (ix2 i j) = Ideal.div 1 (p.su (fc b j)) := by
  unfold k1_pay44; unfold_payloads; pointwise
  try simp only [hv7]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the step's factor of the up projection's weights over their steps. -/
theorem pay48 (v175 : FVec Ideal S512x256 .f32) (v177 : FVec Ideal S512x256 .f32) (hv175 : ∀ (i : Fin 512) (j : Fin 256), v175 (ix2 i j) = p.vu (dc k i) (fc b j)) (hv177 : ∀ (i : Fin 512) (j : Fin 256), v177 (ix2 i j) = max (K 3238002688#32) (p.vu (dc k i) (fc b j))) (i : Fin 512) (j : Fin 256) :
    (k1_pay48 v175 (Scalar.ofBits .f32 0x40E00000#32 : Ideal .f32) v177 : FVec Ideal S512x256 .f32) (ix2 i j) = res (p.vu (dc k i) (fc b j)) := by
  unfold k1_pay48; unfold_payloads; pointwise
  try simp only [hv175, hv177]
  try simp only [fin_of_mk]
  try simp only [ite_res, sel_mask]
  try simp only [res, code, clip, codeI, P.r, P.v1, P.c1, P.vg, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]
  rfl

/-- This step of the body gives a combination of the up projection's steps and the up projection's weights over their steps. -/
theorem pay49 (v7 : Vec Ideal S1x256 .f32) (v177 : FVec Ideal S512x256 .f32) (hv7 : ∀ (i : Fin 1) (j : Fin 256), v7 (ix2 i j) = p.su (fc b j)) (hv177 : ∀ (i : Fin 512) (j : Fin 256), v177 (ix2 i j) = max (K 3238002688#32) (p.vu (dc k i) (fc b j))) (i : Fin 512) (j : Fin 256) :
    (k1_pay49 v7 (Scalar.ofBits .f32 0x40E00000#32 : Ideal .f32) v177 : FVec Ideal S512x256 .bf16) (ix2 i j) = p.su (fc b j) * code (p.vu (dc k i) (fc b j)) := by
  unfold k1_pay49; unfold_payloads; pointwise
  try simp only [hv7, hv177]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the integer codes of the up projection's weights over their steps. -/
theorem pay50 (v177 : FVec Ideal S512x256 .f32) (hv177 : ∀ (i : Fin 512) (j : Fin 256), v177 (ix2 i j) = max (K 3238002688#32) (p.vu (dc k i) (fc b j))) (i : Fin 512) (j : Fin 256) :
    (k1_pay50 (Scalar.ofBits .f32 0x40E00000#32 : Ideal .f32) v177 : IVec S512x256 8) (ix2 i j) = codeI (p.vu (dc k i) (fc b j)) := by
  unfold k1_pay50; unfold_payloads; pointwise
  try simp only [hv177]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]
  rfl

/-- This step of the body gives the codes of the up projection's weights over their steps. -/
theorem pay51 (v177 : FVec Ideal S512x256 .f32) (hv177 : ∀ (i : Fin 512) (j : Fin 256), v177 (ix2 i j) = max (K 3238002688#32) (p.vu (dc k i) (fc b j))) (i : Fin 512) (j : Fin 256) :
    (k1_pay51 (Scalar.ofBits .f32 0x40E00000#32 : Ideal .f32) v177 : FVec Ideal S512x256 .fp8e4m3) (ix2 i j) = code (p.vu (dc k i) (fc b j)) := by
  unfold k1_pay51; unfold_payloads; pointwise
  try simp only [hv177]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the gate's product of codes. -/
theorem pay53 (v15 : Vec Ideal S256x4096 .fp8e4m3) (v17 : Vec Ideal S4096x512 .fp8e4m3) (hv15 : ∀ (i : Fin 256) (j : Fin 4096), v15 (ix2 i j) = p.c1 i j) (hv17 : ∀ (i : Fin 4096) (j : Fin 512), v17 (ix2 i j) = if j.val < 256 then code (p.vg i (fc b (Fin.ofNat 256 j.val))) else code (p.vu i (fc b (Fin.ofNat 256 (j.val - 256))))) (i : Fin 256) (j : Fin 256) :
    (k1_pay53 v15 v17 : FVec Ideal S256x256 .f32) (ix2 i j) = p.gr i (fc b j) := by
  unfold k1_pay53; unfold_payloads; pointwise
  simp only [hv15, hv17]
  refine Finset.sum_congr rfl fun x _ => ?_
  rw [if_pos (show j.val < 256 from j.isLt), ofNat_val]

/-- This step of the body gives the up projection's product of codes. -/
theorem pay54 (v15 : Vec Ideal S256x4096 .fp8e4m3) (v17 : Vec Ideal S4096x512 .fp8e4m3) (hv15 : ∀ (i : Fin 256) (j : Fin 4096), v15 (ix2 i j) = p.c1 i j) (hv17 : ∀ (i : Fin 4096) (j : Fin 512), v17 (ix2 i j) = if j.val < 256 then code (p.vg i (fc b (Fin.ofNat 256 j.val))) else code (p.vu i (fc b (Fin.ofNat 256 (j.val - 256))))) (i : Fin 256) (j : Fin 256) :
    (k1_pay54 v15 v17 : FVec Ideal S256x256 .f32) (ix2 i j) = p.ur i (fc b j) := by
  unfold k1_pay54; unfold_payloads; pointwise
  simp only [hv15, hv17]
  refine Finset.sum_congr rfl fun x _ => ?_
  rw [if_neg (show ¬ 256 + j.val < 256 by omega), show 256 + j.val - 256 = j.val by omega, ofNat_val]

/-- This step of the body gives the gate's product of codes. -/
theorem pay55 (v135 : Vec Ideal S256x4096 .fp8e4m3) (v137 : Vec Ideal S4096x128 .fp8e4m3) (hv135 : ∀ (i : Fin 256) (j : Fin 4096), v135 (ix2 i j) = p.c1 i j) (hv137 : ∀ (i : Fin 4096) (j : Fin 128), v137 (ix2 i j) = code (p.vg i (fc b (Fin.ofNat 256 j.val)))) (i : Fin 256) (j : Fin 128) :
    (k1_pay55 v135 v137 : FVec Ideal S256x128 .f32) (ix2 i j) = p.gr i (fc b (Fin.ofNat 256 j.val)) := by
  unfold k1_pay55; unfold_payloads; pointwise
  try simp only [hv135, hv137]
  try simp only [fin_of_mk]
  try simp only [ite_res, sel_mask]
  try simp only [res, code, clip, codeI, P.r, P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the gate's product of codes. -/
theorem pay56 (v135 : Vec Ideal S256x4096 .fp8e4m3) (v137 : Vec Ideal S4096x128 .fp8e4m3) (hv135 : ∀ (i : Fin 256) (j : Fin 4096), v135 (ix2 i j) = p.c1 i j) (hv137 : ∀ (i : Fin 4096) (j : Fin 128), v137 (ix2 i j) = code (p.vg i (fc b (Fin.ofNat 256 (128 + j.val))))) (i : Fin 256) (j : Fin 128) :
    (k1_pay56 v135 v137 : FVec Ideal S256x128 .f32) (ix2 i j) = p.gr i (fc b (Fin.ofNat 256 (128 + j.val))) := by
  unfold k1_pay56; unfold_payloads; pointwise
  try simp only [hv135, hv137]
  try simp only [fin_of_mk]
  try simp only [ite_res, sel_mask]
  try simp only [res, code, clip, codeI, P.r, P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the gate. -/
theorem pay57 (v0 : Elt Ideal .f32) (v6 : FVec Ideal S1x256 .f32) (v36 : Vec Ideal S256x256 .f32) (hv0 : v0 = p.s1) (hv6 : ∀ (i : Fin 1) (j : Fin 256), v6 (ix2 i j) = p.sg (fc b j)) (hv36 : ∀ (i : Fin 256) (j : Fin 256), v36 (ix2 i j) = p.gr i (fc b j)) (i : Fin 256) (j : Fin 256) :
    (k1_pay57 v0 v6 v36 : FVec Ideal S256x256 .f32) (ix2 i j) = p.g i (fc b j) := by
  unfold k1_pay57; unfold_payloads; pointwise
  try simp only [hv0, hv6, hv36]
  try simp only [fin_of_mk]
  try simp only [ite_res, sel_mask]
  try simp only [res, code, clip, codeI, P.r, P.v1, P.c1, P.vg, P.vu, P.vd, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the up projection. -/
theorem pay58 (v0 : Elt Ideal .f32) (v8 : FVec Ideal S1x256 .f32) (v23 : FVec Ideal S256x256 .f32) (hv0 : v0 = p.s1) (hv8 : ∀ (i : Fin 1) (j : Fin 256), v8 (ix2 i j) = p.su (fc b j)) (hv23 : ∀ (i : Fin 256) (j : Fin 256), v23 (ix2 i j) = p.ur i (fc b j)) (i : Fin 256) (j : Fin 256) :
    (k1_pay58 v0 v8 v23 : FVec Ideal S256x256 .f32) (ix2 i j) = p.u i (fc b j) := by
  unfold k1_pay58; unfold_payloads; pointwise
  try simp only [hv0, hv8, hv23]
  try simp only [fin_of_mk]
  try simp only [ite_res, sel_mask]
  try simp only [res, code, clip, codeI, P.r, P.v1, P.c1, P.vg, P.vu, P.vd, P.gr, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the gate's logistic. -/
theorem pay59 (v0 : Elt Ideal .f32) (v6 : FVec Ideal S1x256 .f32) (v36 : Vec Ideal S256x256 .f32) (hv0 : v0 = p.s1) (hv6 : ∀ (i : Fin 1) (j : Fin 256), v6 (ix2 i j) = p.sg (fc b j)) (hv36 : ∀ (i : Fin 256) (j : Fin 256), v36 (ix2 i j) = p.gr i (fc b j)) (i : Fin 256) (j : Fin 256) :
    (k1_pay59 v0 v6 v36 : FVec Ideal S256x256 .f32) (ix2 i j) = p.σ i (fc b j) := by
  unfold k1_pay59; unfold_payloads; pointwise
  try simp only [hv0, hv6, hv36]
  try simp only [fin_of_mk]
  try simp only [ite_res, sel_mask]
  try simp only [res, code, clip, codeI, P.r, P.v1, P.c1, P.vg, P.vu, P.vd, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the hidden activation over its step. -/
theorem pay60 (v0 : Elt Ideal .f32) (v1 : Elt Ideal .f32) (v6 : FVec Ideal S1x256 .f32) (v8 : FVec Ideal S1x256 .f32) (v23 : FVec Ideal S256x256 .f32) (v36 : Vec Ideal S256x256 .f32) (hv0 : v0 = p.s1) (hv1 : v1 = p.s2) (hv6 : ∀ (i : Fin 1) (j : Fin 256), v6 (ix2 i j) = p.sg (fc b j)) (hv8 : ∀ (i : Fin 1) (j : Fin 256), v8 (ix2 i j) = p.su (fc b j)) (hv23 : ∀ (i : Fin 256) (j : Fin 256), v23 (ix2 i j) = p.ur i (fc b j)) (hv36 : ∀ (i : Fin 256) (j : Fin 256), v36 (ix2 i j) = p.gr i (fc b j)) (i : Fin 256) (j : Fin 256) :
    (k1_pay60 v0 v1 v6 v8 v23 v36 : FVec Ideal S256x256 .f32) (ix2 i j) = p.v2 i (fc b j) := by
  unfold k1_pay60; unfold_payloads; pointwise
  try simp only [hv0, hv1, hv6, hv8, hv23, hv36]
  try simp only [fin_of_mk]
  try simp only [ite_res, sel_mask]
  try simp only [res, code, clip, codeI, P.r, P.v1, P.c1, P.vg, P.vu, P.vd, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the hidden activation's codes. -/
theorem pay61 (v0 : Elt Ideal .f32) (v1 : Elt Ideal .f32) (v6 : FVec Ideal S1x256 .f32) (v8 : FVec Ideal S1x256 .f32) (v23 : FVec Ideal S256x256 .f32) (v36 : Vec Ideal S256x256 .f32) (hv0 : v0 = p.s1) (hv1 : v1 = p.s2) (hv6 : ∀ (i : Fin 1) (j : Fin 256), v6 (ix2 i j) = p.sg (fc b j)) (hv8 : ∀ (i : Fin 1) (j : Fin 256), v8 (ix2 i j) = p.su (fc b j)) (hv23 : ∀ (i : Fin 256) (j : Fin 256), v23 (ix2 i j) = p.ur i (fc b j)) (hv36 : ∀ (i : Fin 256) (j : Fin 256), v36 (ix2 i j) = p.gr i (fc b j)) (i : Fin 256) (j : Fin 256) :
    (k1_pay61 v0 v1 v6 v8 v23 v36 : FVec Ideal S256x256 .fp8e4m3) (ix2 i j) = p.c2 i (fc b j) := by
  unfold k1_pay61; unfold_payloads; pointwise
  try simp only [hv0, hv1, hv6, hv8, hv23, hv36]
  try simp only [fin_of_mk]
  try simp only [ite_res, sel_mask]
  try simp only [res, code, clip, codeI, P.r, P.v1, P.c1, P.vg, P.vu, P.vd, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the hidden activation's codes. -/
theorem pay62 (v0 : Elt Ideal .f32) (v1 : Elt Ideal .f32) (v6 : FVec Ideal S1x256 .f32) (v8 : FVec Ideal S1x256 .f32) (v23 : FVec Ideal S256x256 .f32) (v36 : Vec Ideal S256x256 .f32) (hv0 : v0 = p.s1) (hv1 : v1 = p.s2) (hv6 : ∀ (i : Fin 1) (j : Fin 256), v6 (ix2 i j) = p.sg (fc b j)) (hv8 : ∀ (i : Fin 1) (j : Fin 256), v8 (ix2 i j) = p.su (fc b j)) (hv23 : ∀ (i : Fin 256) (j : Fin 256), v23 (ix2 i j) = p.ur i (fc b j)) (hv36 : ∀ (i : Fin 256) (j : Fin 256), v36 (ix2 i j) = p.gr i (fc b j)) (i : Fin 256) (j : Fin 256) :
    (k1_pay62 v0 v1 v6 v8 v23 v36 : FVec Ideal S256x256 .bf16) (ix2 i j) = p.c2 j (fc b i) := by
  unfold k1_pay62; unfold_payloads; pointwise
  try simp only [hv0, hv1, hv6, hv8, hv23, hv36]
  try simp only [fin_of_mk]
  try simp only [ite_res, sel_mask]
  try simp only [res, code, clip, codeI, P.r, P.v1, P.c1, P.vg, P.vu, P.vd, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the running value plus a sum made of the gradient of the quantised down weights and the down projection's weights over their steps. -/
theorem pay63 (v155 : FVec Ideal S256x512 .f32) (v173 : FVec Ideal S256x512 .f32) (v180 : Vec Ideal S8x512 .f32) (O : Fin 8 → Fin 512 → EReal) (hv155 : ∀ (i : Fin 256) (j : Fin 512), v155 (ix2 i j) = res (p.vd (fc b i) (dc k j))) (hv173 : ∀ (i : Fin 256) (j : Fin 512), v173 (ix2 i j) = p.gwd (fc b i) (dc k j)) (hv180 : ∀ (i : Fin 8) (j : Fin 512), v180 (ix2 i j) = O i j) (i : Fin 8) (j : Fin 512) :
    (k1_pay63 v155 v173 v180 : FVec Ideal S8x512 .f32) (ix2 i j) = O i j + ∑ x : Fin 32, p.gwd (fc b (Fin.ofNat 256 (x.val * 8 + i.val))) (dc k j) * res (p.vd (fc b (Fin.ofNat 256 (x.val * 8 + i.val))) (dc k j)) := by
  unfold k1_pay63; unfold_payloads; pointwise
  try simp only [hv155, hv173, hv180]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the running value plus a sum made of the output's gradient, the down projection's steps and the down projection's weights over their steps. -/
theorem pay64 (arg31 : FVec Ideal S256x256 .f32) (O : Fin 256 → Fin 256 → EReal) (v139 : FVec Ideal S1x512 .f32) (v151 : FVec Ideal S256x512 .f32) (v170 : FVec Ideal S256x512 .bf16) (harg31 : ∀ (i : Fin 256) (j : Fin 256), arg31 (ix2 i j) = O i j) (hv139 : ∀ (i : Fin 1) (j : Fin 512), v139 (ix2 i j) = p.sd (dc k j)) (hv151 : ∀ (i : Fin 256) (j : Fin 512), v151 (ix2 i j) = code (p.vd (fc b i) (dc k j))) (hv170 : ∀ (i : Fin 256) (j : Fin 512), v170 (ix2 i j) = p.dy i (dc k j)) (i : Fin 256) (j : Fin 256) :
    (k1_pay64 arg31 v139 v151 v170 : FVec Ideal S256x256 .f32) (ix2 i j) = O i j + ∑ x : Fin 512, p.dy i (dc k x) * (p.sd (dc k x) * code (p.vd (fc b j) (dc k x))) := by
  unfold k1_pay64; unfold_payloads; pointwise
  try simp only [harg31, hv139, hv151, hv170]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the magnitude of the hidden activation over its step. -/
theorem pay65 (v0 : Elt Ideal .f32) (v1 : Elt Ideal .f32) (v6 : FVec Ideal S1x256 .f32) (v8 : FVec Ideal S1x256 .f32) (v23 : FVec Ideal S256x256 .f32) (v36 : Vec Ideal S256x256 .f32) (hv0 : v0 = p.s1) (hv1 : v1 = p.s2) (hv6 : ∀ (i : Fin 1) (j : Fin 256), v6 (ix2 i j) = p.sg (fc b j)) (hv8 : ∀ (i : Fin 1) (j : Fin 256), v8 (ix2 i j) = p.su (fc b j)) (hv23 : ∀ (i : Fin 256) (j : Fin 256), v23 (ix2 i j) = p.ur i (fc b j)) (hv36 : ∀ (i : Fin 256) (j : Fin 256), v36 (ix2 i j) = p.gr i (fc b j)) (i : Fin 256) (j : Fin 256) :
    (k1_pay65 v0 v1 v6 v8 v23 v36 : FVec Ideal S256x256 .f32) (ix2 i j) = mag (p.v2 i (fc b j)) := by
  unfold k1_pay65; unfold_payloads; pointwise
  try simp only [hv0, hv1, hv6, hv8, hv23, hv36]
  try simp only [fin_of_mk]
  try simp only [ite_res, sel_mask]
  try simp only [res, code, clip, codeI, P.r, P.v1, P.c1, P.vg, P.vu, P.vd, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the test of the hidden activation over its step for lying in the range. -/
theorem pay66 (v0 : Elt Ideal .f32) (v1 : Elt Ideal .f32) (v6 : FVec Ideal S1x256 .f32) (v8 : FVec Ideal S1x256 .f32) (v23 : FVec Ideal S256x256 .f32) (v36 : Vec Ideal S256x256 .f32) (hv0 : v0 = p.s1) (hv1 : v1 = p.s2) (hv6 : ∀ (i : Fin 1) (j : Fin 256), v6 (ix2 i j) = p.sg (fc b j)) (hv8 : ∀ (i : Fin 1) (j : Fin 256), v8 (ix2 i j) = p.su (fc b j)) (hv23 : ∀ (i : Fin 256) (j : Fin 256), v23 (ix2 i j) = p.ur i (fc b j)) (hv36 : ∀ (i : Fin 256) (j : Fin 256), v36 (ix2 i j) = p.gr i (fc b j)) (i : Fin 256) (j : Fin 256) :
    (k1_pay66 v0 v1 v6 v8 v23 v36 : IVec S256x256 1) (ix2 i j) = BitVec.ofBool (decide (mag (p.v2 i (fc b j)) ≤ K 1138753536#32)) := by
  unfold k1_pay66; unfold_payloads; pointwise
  try simp only [hv0, hv1, hv6, hv8, hv23, hv36]
  try simp only [fin_of_mk]
  try simp only [ite_res, sel_mask]
  try simp only [res, code, clip, codeI, P.r, P.v1, P.c1, P.vg, P.vu, P.vd, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]
  rfl

/-- This step of the body gives the hidden activation's gradient let through inside the range. -/
theorem pay67 (v0 : Elt Ideal .f32) (v1 : Elt Ideal .f32) (v6 : FVec Ideal S1x256 .f32) (v8 : FVec Ideal S1x256 .f32) (v23 : FVec Ideal S256x256 .f32) (v36 : Vec Ideal S256x256 .f32) (v59 : FVec Ideal S256x256 .f32) (hv0 : v0 = p.s1) (hv1 : v1 = p.s2) (hv6 : ∀ (i : Fin 1) (j : Fin 256), v6 (ix2 i j) = p.sg (fc b j)) (hv8 : ∀ (i : Fin 1) (j : Fin 256), v8 (ix2 i j) = p.su (fc b j)) (hv23 : ∀ (i : Fin 256) (j : Fin 256), v23 (ix2 i j) = p.ur i (fc b j)) (hv36 : ∀ (i : Fin 256) (j : Fin 256), v36 (ix2 i j) = p.gr i (fc b j)) (hv59 : ∀ (i : Fin 256) (j : Fin 256), v59 (ix2 i j) = p.da2 i (fc b j)) (i : Fin 256) (j : Fin 256) :
    (k1_pay67 v0 v1 v6 v8 v23 v36 v59 : FVec Ideal S256x256 .f32) (ix2 i j) = p.da i (fc b j) := by
  unfold k1_pay67; unfold_payloads; pointwise
  try simp only [hv0, hv1, hv6, hv8, hv23, hv36, hv59]
  try simp only [fin_of_mk]
  try simp only [ite_res, sel_mask]
  try simp only [res, code, clip, codeI, P.r, P.v1, P.c1, P.vg, P.vu, P.vd, P.g, P.u, P.σ, P.v2, P.c2, P.o, P.y, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]
  rfl

/-- This step of the body gives a combination of the hidden activation's codes and the hidden activation over its step. -/
theorem pay68 (v0 : Elt Ideal .f32) (v1 : Elt Ideal .f32) (v6 : FVec Ideal S1x256 .f32) (v8 : FVec Ideal S1x256 .f32) (v23 : FVec Ideal S256x256 .f32) (v36 : Vec Ideal S256x256 .f32) (hv0 : v0 = p.s1) (hv1 : v1 = p.s2) (hv6 : ∀ (i : Fin 1) (j : Fin 256), v6 (ix2 i j) = p.sg (fc b j)) (hv8 : ∀ (i : Fin 1) (j : Fin 256), v8 (ix2 i j) = p.su (fc b j)) (hv23 : ∀ (i : Fin 256) (j : Fin 256), v23 (ix2 i j) = p.ur i (fc b j)) (hv36 : ∀ (i : Fin 256) (j : Fin 256), v36 (ix2 i j) = p.gr i (fc b j)) (i : Fin 256) (j : Fin 256) :
    (k1_pay68 v0 v1 v6 v8 v23 v36 : FVec Ideal S256x256 .f32) (ix2 i j) = p.c2 i (fc b j) - p.v2 i (fc b j) := by
  unfold k1_pay68; unfold_payloads; pointwise
  try simp only [hv0, hv1, hv6, hv8, hv23, hv36]
  try simp only [fin_of_mk]
  try simp only [ite_res, sel_mask]
  try simp only [res, code, clip, codeI, P.r, P.v1, P.c1, P.vg, P.vu, P.vd, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body, entry by entry, from its operands' entries. -/
theorem pay71 (v59 : FVec Ideal S256x256 .f32) (v62 : IVec S256x256 1) (v66 : FVec Ideal S256x256 .f32) (v67 : FVec Ideal S256x256 .f32) (v87 : Vec Ideal S256x128 .f32) (O : Fin 256 → Fin 128 → EReal) (hv59 : ∀ (i : Fin 256) (j : Fin 256), v59 (ix2 i j) = p.da2 i (fc b j)) (hv62 : ∀ (i : Fin 256) (j : Fin 256), v62 (ix2 i j) = BitVec.ofBool (decide (mag (p.v2 i (fc b j)) ≤ K 1138753536#32))) (hv66 : ∀ (i : Fin 256) (j : Fin 256), v66 (ix2 i j) = p.c2 i (fc b j) - p.v2 i (fc b j)) (hv67 : ∀ (i : Fin 256) (j : Fin 256), v67 (ix2 i j) = 0) (hv87 : ∀ (i : Fin 256) (j : Fin 128), v87 (ix2 i j) = O i j) (i : Fin 256) (j : Fin 128) :
    (k1_pay71 v59 v62 v66 v67 v87 : FVec Ideal S256x128 .f32) (ix2 i j) = O i j + (pR p i (fc b (Fin.ofNat 256 j.val)) + pR p i (fc b (Fin.ofNat 256 (128 + j.val)))) := by
  unfold k1_pay71; unfold_payloads; pointwise
  try simp only [hv59, hv62, hv66, hv67, hv87]
  try simp only [fin_of_mk]
  try simp only [ite_res, sel_mask]
  try simp only [res, code, clip, codeI, P.r, P.v1, P.c1, P.vg, P.vu, P.vd, P.gr, P.ur, P.g, P.u, P.σ, P.o, P.y, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body, entry by entry, from its operands' entries. -/
theorem pay72 (v59 : FVec Ideal S256x256 .f32) (v62 : IVec S256x256 1) (v66 : FVec Ideal S256x256 .f32) (v67 : FVec Ideal S256x256 .f32) (v94 : Vec Ideal S256x128 .f32) (O : Fin 256 → Fin 128 → EReal) (hv59 : ∀ (i : Fin 256) (j : Fin 256), v59 (ix2 i j) = p.da2 i (fc b j)) (hv62 : ∀ (i : Fin 256) (j : Fin 256), v62 (ix2 i j) = BitVec.ofBool (decide (mag (p.v2 i (fc b j)) ≤ K 1138753536#32))) (hv66 : ∀ (i : Fin 256) (j : Fin 256), v66 (ix2 i j) = p.c2 i (fc b j) - p.v2 i (fc b j)) (hv67 : ∀ (i : Fin 256) (j : Fin 256), v67 (ix2 i j) = 0) (hv94 : ∀ (i : Fin 256) (j : Fin 128), v94 (ix2 i j) = O i j) (i : Fin 256) (j : Fin 128) :
    (k1_pay72 v59 v62 v66 v67 v94 : FVec Ideal S256x128 .f32) (ix2 i j) = O i j + (mag (pR p i (fc b (Fin.ofNat 256 j.val))) + mag (pR p i (fc b (Fin.ofNat 256 (128 + j.val))))) := by
  unfold k1_pay72; unfold_payloads; pointwise
  try simp only [hv59, hv62, hv66, hv67, hv94]
  try simp only [fin_of_mk]
  try simp only [ite_res, sel_mask]
  try simp only [res, code, clip, codeI, P.r, P.v1, P.c1, P.vg, P.vu, P.vd, P.gr, P.ur, P.g, P.u, P.σ, P.o, P.y, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body, entry by entry, from its operands' entries. -/
theorem pay73 (v49 : FVec Ideal S256x256 .f32) (v59 : FVec Ideal S256x256 .f32) (v60 : FVec Ideal S256x256 .f32) (v102 : Vec Ideal S256x128 .f32) (O : Fin 256 → Fin 128 → EReal) (hv49 : ∀ (i : Fin 256) (j : Fin 256), v49 (ix2 i j) = p.v2 i (fc b j)) (hv59 : ∀ (i : Fin 256) (j : Fin 256), v59 (ix2 i j) = p.da2 i (fc b j)) (hv60 : ∀ (i : Fin 256) (j : Fin 256), v60 (ix2 i j) = mag (p.v2 i (fc b j))) (hv102 : ∀ (i : Fin 256) (j : Fin 128), v102 (ix2 i j) = O i j) (i : Fin 256) (j : Fin 128) :
    (k1_pay73 v49 v59 v60 v102 : FVec Ideal S256x128 .f32) (ix2 i j) = O i j + (pC p i (fc b (Fin.ofNat 256 j.val)) + pC p i (fc b (Fin.ofNat 256 (128 + j.val)))) := by
  unfold k1_pay73; unfold_payloads; pointwise
  try simp only [hv49, hv59, hv60, hv102]
  try simp only [fin_of_mk]
  try simp only [ite_res, sel_mask]
  try simp only [res, code, clip, codeI, P.r, P.v1, P.c1, P.vg, P.vu, P.vd, P.gr, P.ur, P.g, P.u, P.σ, P.o, P.y, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the let-through gradient of the hidden activation times the up projection. -/
theorem pay74 (v44 : FVec Ideal S256x256 .f32) (v64 : FVec Ideal S256x256 .f32) (hv44 : ∀ (i : Fin 256) (j : Fin 256), v44 (ix2 i j) = p.u i (fc b j)) (hv64 : ∀ (i : Fin 256) (j : Fin 256), v64 (ix2 i j) = p.da i (fc b j)) (i : Fin 256) (j : Fin 256) :
    (k1_pay74 v44 v64 : FVec Ideal S256x256 .f32) (ix2 i j) = p.dau i (fc b j) := by
  unfold k1_pay74; unfold_payloads; pointwise
  rw [hv44, hv64]
  unfold P.da P.dau inA
  split
  · rfl
  · exact zero_mul _

/-- This step of the body gives the sum of the operand's entries. -/
theorem pay5 (v124_0 : FVec Ideal S8x256 .f32) (O : Fin 8 → Fin 256 → EReal) (hv124_0 : ∀ (i : Fin 8) (j : Fin 256), v124_0 (ix2 i j) = O i j) (i : Fin 1) (j : Fin 256) :
    (k1_pay5 v124_0 : FVec Ideal S1x256 .f32) (ix2 i j) = K 1002538127#32 * ∑ x, O x j := by
  unfold k1_pay5; unfold_payloads; pointwise
  try simp only [hv124_0]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

/-- This step of the body gives the sum of the operand's entries. -/
theorem pay6 (v124_1 : FVec Ideal S8x256 .f32) (O : Fin 8 → Fin 256 → EReal) (hv124_1 : ∀ (i : Fin 8) (j : Fin 256), v124_1 (ix2 i j) = O i j) (i : Fin 1) (j : Fin 256) :
    (k1_pay6 v124_1 : FVec Ideal S1x256 .f32) (ix2 i j) = K 1002538127#32 * ∑ x, O x j := by
  unfold k1_pay6; unfold_payloads; pointwise
  try simp only [hv124_1]
  try simp only [fin_of_mk]
  try simp only [ite_res, sel_mask]
  try simp only [res, code, clip, codeI, P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA]

end Cert.KernelIdeal.At
-- ==== Proof.Sums.lean ====
module

public import proofs.«01_k».proof.Proof.Tiles
public import Mathlib.Data.EReal.Basic

/-! Sums taken block by block, sublane by sublane and lane by lane, and matrices put together from their blocks. -/

@[expose] public section

noncomputable section

namespace Cert.Sums

open Idealize.ShloMosaic Cert.Tiles

variable {M : Type} [AddCommMonoid M]

/-- A sum over blocks of equal length is the sum over all their members. -/
theorem range_blocks (A B : ℕ) (F : ℕ → M) :
    ∑ k ∈ Finset.range A, ∑ x ∈ Finset.range B, F (B * k + x) = ∑ n ∈ Finset.range (A * B), F n := by
  induction A with
  | zero => simp
  | succ A ih => rw [Finset.sum_range_succ, ih, Nat.succ_mul, Finset.sum_range_add, mul_comm A B]

/-- A sum over a finite type is the sum over its numbers. -/
theorem univ_range {n : ℕ} [NeZero n] (G : Fin n → M) : ∑ d, G d = ∑ m ∈ Finset.range n, G (Fin.ofNat n m) := by
  rw [← Fin.sum_univ_eq_sum_range fun m => G (Fin.ofNat n m)]
  exact Finset.sum_congr rfl fun d _ => congrArg G (Fin.ext (Nat.mod_eq_of_lt d.isLt).symm)

/-- A sum over `A` blocks of `B` is the whole sum. -/
theorem blocks (A B : ℕ) {n : ℕ} [NeZero n] (h : A * B = n) (G : Fin n → M) :
    ∑ k ∈ Finset.range A, ∑ x : Fin B, G (Fin.ofNat n (B * k + x.val)) = ∑ d, G d := by
  subst h
  rw [univ_range G, ← range_blocks A B]
  refine Finset.sum_congr rfl fun k _ => ?_
  exact Fin.sum_univ_eq_sum_range (fun x => G (Fin.ofNat (A * B) (B * k + x))) B

/-- A sum over eight sublanes of `C` rows each is the sum over the rows. -/
theorem sublanes (C : ℕ) {n : ℕ} [NeZero n] (h : C * 8 = n) (G : Fin n → M) :
    ∑ i : Fin 8, ∑ x : Fin C, G (Fin.ofNat n (x.val * 8 + i.val)) = ∑ d, G d := by
  subst h
  rw [univ_range G, ← range_blocks C 8, Finset.sum_comm]
  rw [← Fin.sum_univ_eq_sum_range fun k => ∑ x ∈ Finset.range 8, G (Fin.ofNat (C * 8) (8 * k + x))]
  refine Finset.sum_congr rfl fun k _ => ?_
  rw [← Fin.sum_univ_eq_sum_range fun x => G (Fin.ofNat (C * 8) (8 * k.val + x))]
  refine Finset.sum_congr rfl fun x _ => ?_
  exact congrArg (fun y => G (Fin.ofNat (C * 8) (y + x.val))) (mul_comm k.val 8)

/-- A sum over 128 lanes of two or of four columns each is the sum over the columns. -/
theorem lanes2' {n : ℕ} [NeZero n] (h : 2 * 128 = n) (G : Fin n → M) :
    ∑ j : Fin 128, (G (Fin.ofNat n j.val) + G (Fin.ofNat n (128 + j.val))) = ∑ d, G d := by
  subst h
  rw [univ_range G, ← range_blocks 2 128]
  rw [Finset.sum_range, Fin.sum_univ_two]
  simp only [Finset.sum_range, Finset.sum_add_distrib]
  rfl
/-- Two lane groups of 128 make 256. -/
theorem lanes2 (G : Fin 256 → M) :
    ∑ j : Fin 128, (G (Fin.ofNat 256 j.val) + G (Fin.ofNat 256 (128 + j.val))) = ∑ d, G d := lanes2' rfl G
/-- Four lane groups of 128 make 512, for any index type of that size. -/
theorem lanes4' {n : ℕ} [NeZero n] (h : 4 * 128 = n) (G : Fin n → M) :
    ∑ j : Fin 128, (G (Fin.ofNat n j.val) + G (Fin.ofNat n (128 + j.val)) + G (Fin.ofNat n (256 + j.val)) + G (Fin.ofNat n (384 + j.val))) = ∑ d, G d := by
  subst h
  rw [univ_range G, ← range_blocks 4 128]
  rw [Finset.sum_range, Fin.sum_univ_four]
  simp only [Finset.sum_range, Finset.sum_add_distrib]
  rfl
/-- Four lane groups of 128 make 512. -/
theorem lanes4 (G : Fin 512 → M) :
    ∑ j : Fin 128, (G (Fin.ofNat 512 j.val) + G (Fin.ofNat 512 (128 + j.val)) + G (Fin.ofNat 512 (256 + j.val)) + G (Fin.ofNat 512 (384 + j.val))) = ∑ d, G d := lanes4' rfl G

/-- What is added step by step is a sum over the steps. -/
theorem steps (f : ℕ → M) (g : ℕ → M) (h0 : f 0 = 0) (hs : ∀ k, f (k + 1) = f k + g k) (k : ℕ) : f k = ∑ i ∈ Finset.range k, g i := by
  induction k with
  | zero => simpa using h0
  | succ k ih => rw [Finset.sum_range_succ, hs, ih]

variable {α : Type}

/-- An index is its block and its place in the block. -/
theorem ofNat_div_mod {n : ℕ} [NeZero n] (B : ℕ) [NeZero B] (d : Fin n) : Fin.ofNat n (B * (d.val / B) + (Fin.ofNat B d.val).val) = d :=
  Fin.ext (by show (B * (d.val / B) + d.val % B) % n = d.val; rw [Nat.div_add_mod, Nat.mod_eq_of_lt d.isLt])

/-- A matrix put together from blocks, where each block is cut from `G`. -/
theorem colTiles_at {r c : ℕ} [NeZero c] (P : ℕ → (Sh r 512).Idx → α) (G : Fin r → Fin c → α)
    (h : ∀ k i (j : Fin 512), P k (ix2 i j) = G i (Fin.ofNat c (512 * k + j.val))) (i : Fin r) (j : Fin c) : colTiles P (ix2 i j) = G i j :=
  (h _ _ _).trans (congrArg (G i) (ofNat_div_mod 512 j))
/-- An array put together from row blocks, at an index. -/
theorem rowTiles_at {r c : ℕ} [NeZero r] (P : ℕ → (Sh 512 c).Idx → α) (G : Fin r → Fin c → α)
    (h : ∀ k (i : Fin 512) j, P k (ix2 i j) = G (Fin.ofNat r (512 * k + i.val)) j) (i : Fin r) (j : Fin c) : rowTiles P (ix2 i j) = G i j :=
  (h _ _ _).trans (congrArg (G · j) (ofNat_div_mod 512 i))
/-- An array put together from pairs of row blocks side by side, at an index. -/
theorem rowTiles2_at {r : ℕ} [NeZero r] (P Q : ℕ → (Sh 512 256).Idx → α) (G H : Fin r → Fin 256 → α)
    (h : ∀ k (i : Fin 512) j, P k (ix2 i j) = G (Fin.ofNat r (512 * k + i.val)) j)
    (h' : ∀ k (i : Fin 512) j, Q k (ix2 i j) = H (Fin.ofNat r (512 * k + i.val)) j) (i : Fin r) (j : Fin 512) :
    rowTiles2 P Q (ix2 i j) = if j.val < 256 then G i (Fin.ofNat 256 j.val) else H i (Fin.ofNat 256 (j.val - 256)) := by
  show (if j.val < 256 then _ else _) = _
  split
  · exact (h _ _ _).trans (congrArg (G · _) (ofNat_div_mod 512 i))
  · exact (h' _ _ _).trans (congrArg (H · _) (ofNat_div_mod 512 i))

/-- Every index of a matrix is a row and a column. -/
theorem ext2 {r c : ℕ} {f g : (Sh r c).Idx → α} (h : ∀ i j, f (ix2 i j) = g (ix2 i j)) : f = g :=
  funext fun y => by
    have e : y = ix2 (n0 := r) (n1 := c) (y 0) (y 1) := by funext a; fin_cases a <;> rfl
    rw [e]; exact h _ _

end Cert.Sums
-- ==== Proof.Ker1.lean ====
module

public import proofs.«01_k».proof.Proof.KerAt
public import proofs.«01_k».proof.Proof.Values1
public import proofs.«01_k».proof.Proof.Sums

/-! What one step of the main call computes, index by index: from blocks that hold the layer's quantities for block `b` of 256
hidden features, the layer's results for those features and the additions to the accumulators. -/

@[expose] public section

set_option maxRecDepth 16384

noncomputable section

namespace Cert.KernelIdeal.At

open Idealize.ShloMosaic Idealize.ShloMosaic.TcCoe Idealize.ShloMosaic.Tactic
open Cert.KernelIdeal Cert.KernelIdeal.Gen Cert.Spec Cert.Tiles Cert.Sums Cert.KernelIdeal.Body

/-- The buffers start from zero. -/
theorem zero3 (i : Fin 8) (j : Fin 256) : (k1_pay3 : FVec Ideal S8x256 .f32) (ix2 i j) = 0 := by unfold k1_pay3; unfold_payloads; pointwise
/-- This starting value is zero everywhere. -/
theorem zero35 (i : Fin 256) (j : Fin 4096) : (k1_pay35 : FVec Ideal S256x4096 .f32) (ix2 i j) = 0 := by unfold k1_pay35; unfold_payloads; pointwise
/-- This starting value is zero everywhere. -/
theorem zero36 (i : Fin 4096) (j : Fin 256) : (k1_pay36 : FVec Ideal S4096x256 .f32) (ix2 i j) = 0 := by unfold k1_pay36; unfold_payloads; pointwise
/-- This starting value is zero everywhere. -/
theorem zero37 (i : Fin 8) (j : Fin 4096) : (k1_pay37 : FVec Ideal S8x4096 .f32) (ix2 i j) = 0 := by unfold k1_pay37; unfold_payloads; pointwise
/-- This starting value is zero everywhere. -/
theorem zero38 (i : Fin 256) (j : Fin 128) : (k1_pay38 : FVec Ideal S256x128 .f32) (ix2 i j) = 0 := by unfold k1_pay38; unfold_payloads; pointwise
/-- This starting value is zero everywhere. -/
theorem zero39 (i : Fin 256) (j : Fin 128) : (k1_pay39 : FVec Ideal S256x128 .f32) (ix2 i j) = 0 := by unfold k1_pay39; unfold_payloads; pointwise
/-- This starting value is zero everywhere. -/
theorem zero40 (i : Fin 256) (j : Fin 128) : (k1_pay40 : FVec Ideal S256x128 .f32) (ix2 i j) = 0 := by unfold k1_pay40; unfold_payloads; pointwise
/-- This starting value is zero everywhere. -/
theorem zero45 (i : Fin 256) (j : Fin 256) : (k1_pay45 : FVec Ideal S256x256 .f32) (ix2 i j) = 0 := by unfold k1_pay45; unfold_payloads; pointwise
/-- This starting value is zero everywhere. -/
theorem zero69 (i : Fin 256) (j : Fin 256) : (k1_pay69 : FVec Ideal S256x256 .f32) (ix2 i j) = 0 := by unfold k1_pay69; unfold_payloads; pointwise

/-- The blocks that a step reads hold the layer's quantities. -/
structure At1 (p : P) (b : ℕ) (X : In Ideal) : Prop where
  s1 : X.s1 = p.s1
  s2 : X.s2 = p.s2
  c1 : ∀ (t : Fin 256) (d : Fin 4096), X.c1 (ix2 t d) = p.c1 t d
  ct : ∀ (d : Fin 4096) (t : Fin 256), X.ct (ix2 d t) = p.c1 t d
  dy : ∀ (t : Fin 256) (d : Fin 4096), X.dy (ix2 t d) = p.dy t d
  wg : ∀ (d : Fin 4096) (j : Fin 256), X.wg (ix2 d j) = p.wg d (fc b j)
  wu : ∀ (d : Fin 4096) (j : Fin 256), X.wu (ix2 d j) = p.wu d (fc b j)
  wd : ∀ (j : Fin 256) (d : Fin 4096), X.wd (ix2 j d) = p.wd (fc b j) d
  sg : ∀ (i : Fin 1) (j : Fin 256), X.sg (ix2 i j) = p.sg (fc b j)
  su : ∀ (i : Fin 1) (j : Fin 256), X.su (ix2 i j) = p.su (fc b j)
  sd : ∀ (i : Fin 1) (d : Fin 4096), X.sd (ix2 i d) = p.sd d

/-- A row block over all columns reads the array at the block's rows. -/
theorem rowBlk_full {α : Type} {r c : ℕ} [NeZero r] [NeZero c] (x : (Sh r c).Idx → α) (k : ℕ) (i : Fin 512) (j : Fin c) :
    rowBlk c 0 x k (ix2 i j) = x (ix2 (Fin.ofNat r (512 * k + i.val)) j) := by
  show x (ix2 _ (Fin.ofNat c (0 + j.val))) = _
  rw [zero_add, ofNat_val]; rfl
/-- An index in the left half stays itself. -/
theorem left512 (j : Fin 256) : (Fin.ofNat 512 (0 + j.val)).val = j.val := by show (0 + j.val) % 512 = _; omega
/-- An index in the right half is moved by 256. -/
theorem right512 (j : Fin 256) : (Fin.ofNat 512 (256 + j.val)).val = 256 + j.val := by show (256 + j.val) % 512 = _; omega

namespace At1

variable {p : P} {b : ℕ} {X : In Ideal} (h : At1 p b X) (nz : NZ p)
include h

/-- This value of the body is the gate's weights. -/
theorem bg (k : ℕ) (i : Fin 512) (j : Fin 256) : X.bg k (ix2 i j) = p.wg (dc k i) (fc b j) := (rowBlk_full _ _ _ _).trans (h.wg _ _)
/-- This value of the body is the up projection's weights. -/
theorem bu (k : ℕ) (i : Fin 512) (j : Fin 256) : X.bu k (ix2 i j) = p.wu (dc k i) (fc b j) := (rowBlk_full _ _ _ _).trans (h.wu _ _)
/-- This value of the body is the normed tokens' codes. -/
theorem bct (k : ℕ) (i : Fin 512) (j : Fin 256) : X.bct k (ix2 i j) = p.c1 j (dc k i) := (rowBlk_full _ _ _ _).trans (h.ct _ _)
/-- This value of the body is the down projection's steps. -/
theorem bsd (k : ℕ) (i : Fin 1) (j : Fin 512) : X.bsd k (ix2 i j) = p.sd (dc k j) := h.sd _ _
/-- This value of the body is the down projection's weights. -/
theorem bwd (k : ℕ) (i : Fin 256) (j : Fin 512) : X.bwd k (ix2 i j) = p.wd (fc b i) (dc k j) := h.wd _ _
/-- This value of the body is the output's gradient. -/
theorem bdy (k : ℕ) (i : Fin 256) (j : Fin 512) : X.bdy k (ix2 i j) = p.dy i (dc k j) := h.dy _ _
/-- This value of the body is the gate's steps. -/
theorem v6 (i : Fin 1) (j : Fin 256) : X.v6 (ix2 i j) = p.sg (fc b j) := pay41 p b X.sg h.sg i j
/-- This value of the body is the up projection's steps. -/
theorem v8 (i : Fin 1) (j : Fin 256) : X.v8 (ix2 i j) = p.su (fc b j) := pay42 p b X.su h.su i j
/-- This value of the body is the reciprocal of the gate's steps. -/
theorem rg (i : Fin 1) (j : Fin 256) : k1_pay43 X.sg (ix2 i j) = Ideal.div 1 (p.sg (fc b j)) := pay43 p b X.sg h.sg i j
/-- This value of the body is the reciprocal of the up projection's steps. -/
theorem ru (i : Fin 1) (j : Fin 256) : k1_pay44 X.su (ix2 i j) = Ideal.div 1 (p.su (fc b j)) := pay44 p b X.su h.su i j

include nz

/-- This value of the body is the up projection's weights over their steps. -/
theorem u14 (k : ℕ) (i : Fin 512) (j : Fin 256) : k1_pay14 (k1_pay44 X.su) (X.bu k) (ix2 i j) = p.vu (dc k i) (fc b j) :=
  pay14 p nz b k _ _ h.ru (h.bu k) i j
/-- This value of the body is the up projection's weights over their steps, bounded from below. -/
theorem u15 (k : ℕ) (i : Fin 512) (j : Fin 256) : k1_pay15 (k1_pay44 X.su) (X.bu k) (ix2 i j) = max (K 3238002688#32) (p.vu (dc k i) (fc b j)) :=
  pay15 p nz b k _ _ h.ru (h.bu k) i j

/-- The weights' codes, -/
theorem cg (d : Fin 4096) (j : Fin 256) : X.cg (ix2 d j) = codeI (p.vg d (fc b j)) :=
  rowTiles_at _ (fun d j => codeI (p.vg d (fc b j))) (fun k => pay12 p nz b k _ _ h.rg (h.bg k)) d j
/-- This value of the body is the integer codes of the up projection's weights over their steps. -/
theorem cu (d : Fin 4096) (j : Fin 256) : X.cu (ix2 d j) = codeI (p.vu d (fc b j)) :=
  rowTiles_at _ (fun d j => codeI (p.vu d (fc b j))) (fun k => pay50 p b k _ (h.u15 nz k)) d j
/-- This value of the body is the integer codes of the down projection's weights over their steps. -/
theorem cd (j : Fin 256) (d : Fin 4096) : X.cd (ix2 j d) = codeI (p.vd (fc b j) d) :=
  colTiles_at _ (fun j d => codeI (p.vd (fc b j) d)) (fun k => pay22 p nz b k _ _ (h.bsd k) (h.bwd k)) j d
/-- their residues, the dequantised weights, and the codes as floats, of both weights side by side. -/
theorem m27 (d : Fin 4096) (j : Fin 512) : X.m27 (ix2 d j) =
    if j.val < 256 then res (p.vg d (fc b (Fin.ofNat 256 j.val))) else res (p.vu d (fc b (Fin.ofNat 256 (j.val - 256)))) :=
  rowTiles2_at _ _ (fun d j => res (p.vg d (fc b j))) (fun d j => res (p.vu d (fc b j)))
    (fun k => pay10 p nz b k _ _ h.rg (h.bg k)) (fun k => pay48 p b k _ _ (h.u14 nz k) (h.u15 nz k)) d j
/-- The scratch of scaled weights: the gate's in its left half, the up projection's in its right half. -/
theorem w26 (d : Fin 4096) (j : Fin 512) : X.w26 (ix2 d j) =
    if j.val < 256 then p.sg (fc b (Fin.ofNat 256 j.val)) * code (p.vg d (fc b (Fin.ofNat 256 j.val)))
    else p.su (fc b (Fin.ofNat 256 (j.val - 256))) * code (p.vu d (fc b (Fin.ofNat 256 (j.val - 256)))) :=
  rowTiles2_at _ _ (fun d j => p.sg (fc b j) * code (p.vg d (fc b j))) (fun d j => p.su (fc b j) * code (p.vu d (fc b j)))
    (fun k => pay11 p nz b k _ _ _ h.v6 h.rg (h.bg k)) (fun k => pay49 p b k _ _ h.su (h.u15 nz k)) d j
/-- The scratch of codes: the gate's in its left half, the up projection's in its right half. -/
theorem q28 (d : Fin 4096) (j : Fin 512) : X.q28 (ix2 d j) =
    if j.val < 256 then code (p.vg d (fc b (Fin.ofNat 256 j.val))) else code (p.vu d (fc b (Fin.ofNat 256 (j.val - 256)))) :=
  rowTiles2_at _ _ (fun d j => code (p.vg d (fc b j))) (fun d j => code (p.vu d (fc b j)))
    (fun k => pay13 p nz b k _ _ h.rg (h.bg k)) (fun k => pay51 p b k _ (h.u15 nz k)) d j
/-- The left half of the scratch of step factors is the gate's. -/
theorem mg (k : ℕ) (i : Fin 512) (j : Fin 256) : rowBlk 256 0 X.m27 k (ix2 i j) = res (p.vg (dc k i) (fc b j)) := by
  refine (h.m27 nz (dc k i) (Fin.ofNat 512 (0 + j.val))).trans ?_
  rw [left512, if_pos j.isLt, ofNat_val]
/-- The right half of the scratch of step factors is the up projection's. -/
theorem mu (k : ℕ) (i : Fin 512) (j : Fin 256) : rowBlk 256 256 X.m27 k (ix2 i j) = res (p.vu (dc k i) (fc b j)) := by
  refine (h.m27 nz (dc k i) (Fin.ofNat 512 (256 + j.val))).trans ?_
  rw [right512, if_neg (by omega), Nat.add_sub_cancel_left, ofNat_val]
/-- A row block of the scaled weights, both halves. -/
theorem ww (k : ℕ) (i : Fin 512) (j : Fin 512) : rowBlk 512 0 X.w26 k (ix2 i j) =
    if j.val < 256 then p.sg (fc b (Fin.ofNat 256 j.val)) * code (p.vg (dc k i) (fc b (Fin.ofNat 256 j.val)))
    else p.su (fc b (Fin.ofNat 256 (j.val - 256))) * code (p.vu (dc k i) (fc b (Fin.ofNat 256 (j.val - 256)))) :=
  (rowBlk_full _ _ _ _).trans (h.w26 nz _ _)

/-- The products. -/
theorem v23 (t : Fin 256) (j : Fin 256) : X.v23 (ix2 t j) = p.ur t (fc b j) := pay54 p b _ _ h.c1 (h.q28 nz) t j
/-- This value of the body is the gate's product of codes. -/
theorem raw0 (t : Fin 256) (j : Fin 256) : X.raw0 (ix2 t j) = p.gr t (fc b j) := pay53 p b _ _ h.c1 (h.q28 nz) t j
/-- The first 128 columns of the gate's codes. -/
theorem half0 (d : Fin 4096) (j : Fin 128) : X.half 0 inb_S4096x512_S4096x128_0_0 (ix2 d j) = code (p.vg d (fc b (Fin.ofNat 256 j.val))) := by
  have e : (Rect.unit (s := S4096x512) ![0, 0] S4096x128.size inb_S4096x512_S4096x128_0_0).emb (ix2 d j) = ix2 d (Fin.ofNat 512 j.val) := by
    funext a; apply Fin.ext; match a with
    | ⟨0, _⟩ => exact (Rect.emb_apply _ _ _).trans (show 0 + 1 * d.val = d.val by omega)
    | ⟨1, _⟩ => exact (Rect.emb_apply _ _ _).trans (show 0 + 1 * j.val = j.val % 512 by omega)
  refine (congrArg X.q28 e).trans ((h.q28 nz _ _).trans ?_)
  have e' : (Fin.ofNat 512 j.val).val = j.val := by show j.val % 512 = _; omega
  rw [e', if_pos (by omega)]
/-- The next 128 columns of the gate's codes. -/
theorem half1 (d : Fin 4096) (j : Fin 128) : X.half 128 inb_S4096x512_S4096x128_0_128 (ix2 d j) = code (p.vg d (fc b (Fin.ofNat 256 (128 + j.val)))) := by
  have e : (Rect.unit (s := S4096x512) ![0, 128] S4096x128.size inb_S4096x512_S4096x128_0_128).emb (ix2 d j) = ix2 d (Fin.ofNat 512 (128 + j.val)) := by
    funext a; apply Fin.ext; match a with
    | ⟨0, _⟩ => exact (Rect.emb_apply _ _ _).trans (show 0 + 1 * d.val = d.val by omega)
    | ⟨1, _⟩ => exact (Rect.emb_apply _ _ _).trans (show 128 + 1 * j.val = (128 + j.val) % 512 by omega)
  refine (congrArg X.q28 e).trans ((h.q28 nz _ _).trans ?_)
  have e' : (Fin.ofNat 512 (128 + j.val)).val = 128 + j.val := by show (128 + j.val) % 512 = _; omega
  rw [e', if_pos (by omega)]
/-- Computing a half of the gate's product again changes nothing. -/
theorem rawL (c : grid1.Coords) (t : Fin 256) (j : Fin 256) : X.rawL c (ix2 t j) = p.gr t (fc b j) := by
  unfold In.rawL
  split
  · show (if 0 ≤ j.val ∧ j.val < 0 + 128 then k1_pay55 X.c1 (X.half 0 inb_S4096x512_S4096x128_0_0) (ix2 t (Fin.ofNat 128 (j.val - 0))) else X.raw0 (ix2 t j)) = _
    split
    · rename_i hj
      refine (pay55 p b _ _ h.c1 (h.half0 nz) _ _).trans ?_
      have e : Fin.ofNat 256 (Fin.ofNat 128 (j.val - 0)).val = j := Fin.ext (by show (j.val - 0) % 128 % 256 = _; omega)
      rw [e]
    · exact h.raw0 nz t j
  · exact h.raw0 nz t j
/-- This value of the body is the gate's product of codes. -/
theorem raw (c : grid1.Coords) (t : Fin 256) (j : Fin 256) : X.raw c (ix2 t j) = p.gr t (fc b j) := by
  unfold In.raw
  split
  · show (if 128 ≤ j.val ∧ j.val < 128 + 128 then k1_pay56 X.c1 (X.half 128 inb_S4096x512_S4096x128_0_128) (ix2 t (Fin.ofNat 128 (j.val - 128))) else X.rawL c (ix2 t j)) = _
    split
    · rename_i hj
      refine (pay56 p b _ _ h.c1 (h.half1 nz) _ _).trans ?_
      have e : Fin.ofNat 256 (128 + (Fin.ofNat 128 (j.val - 128)).val) = j := Fin.ext (by show (128 + (j.val - 128) % 128) % 256 = _; omega)
      rw [e]
    · exact h.rawL nz c t j
  · exact h.rawL nz c t j

variable (c : grid1.Coords)

/-- The hidden activation: the gate, its sigmoid, the up projection, the activation over its step and its codes. -/
theorem v40 (t : Fin 256) (j : Fin 256) : X.v40 c (ix2 t j) = p.g t (fc b j) := pay57 p b _ _ _ h.s1 h.v6 (h.raw nz c) t j
/-- This value of the body is the up projection. -/
theorem v44 (t : Fin 256) (j : Fin 256) : X.v44 (ix2 t j) = p.u t (fc b j) := pay58 p b _ _ _ h.s1 h.v8 (h.v23 nz) t j
/-- This value of the body is the gate's logistic. -/
theorem v45 (t : Fin 256) (j : Fin 256) : X.v45 c (ix2 t j) = p.σ t (fc b j) := pay59 p b _ _ _ h.s1 h.v6 (h.raw nz c) t j
/-- This value of the body is the hidden activation over its step. -/
theorem v49 (t : Fin 256) (j : Fin 256) : X.v49 c (ix2 t j) = p.v2 t (fc b j) := pay60 p b _ _ _ _ _ _ h.s1 h.s2 h.v6 h.v8 (h.v23 nz) (h.raw nz c) t j
/-- This value of the body is the hidden activation's codes. -/
theorem c2 (t : Fin 256) (j : Fin 256) : X.c2 c (ix2 t j) = p.c2 t (fc b j) := pay61 p b _ _ _ _ _ _ h.s1 h.s2 h.v6 h.v8 (h.v23 nz) (h.raw nz c) t j
/-- This value of the body is the hidden activation's codes. -/
theorem a2 (j : Fin 256) (t : Fin 256) : X.a2 c (ix2 j t) = p.c2 t (fc b j) := pay62 p b _ _ _ _ _ _ h.s1 h.s2 h.v6 h.v8 (h.v23 nz) (h.raw nz c) j t
/-- This value of the body is the magnitude of the hidden activation over its step. -/
theorem v60 (t : Fin 256) (j : Fin 256) : X.v60 c (ix2 t j) = mag (p.v2 t (fc b j)) := pay65 p b _ _ _ _ _ _ h.s1 h.s2 h.v6 h.v8 (h.v23 nz) (h.raw nz c) t j
/-- This value of the body is the test of the hidden activation over its step for lying in the range. -/
theorem v62 (t : Fin 256) (j : Fin 256) : X.v62 c (ix2 t j) = BitVec.ofBool (decide (mag (p.v2 t (fc b j)) ≤ K 1138753536#32)) :=
  pay66 p b _ _ _ _ _ _ h.s1 h.s2 h.v6 h.v8 (h.v23 nz) (h.raw nz c) t j
/-- This value of the body is a combination of the hidden activation's codes and the hidden activation over its step. -/
theorem v66 (t : Fin 256) (j : Fin 256) : X.v66 c (ix2 t j) = p.c2 t (fc b j) - p.v2 t (fc b j) :=
  pay68 p b _ _ _ _ _ _ h.s1 h.s2 h.v6 h.v8 (h.v23 nz) (h.raw nz c) t j
/-- Its gradient, a sum over eight blocks of features. -/
theorem acc59 (k : ℕ) (t : Fin 256) (j : Fin 256) : X.acc59 k (ix2 t j) =
    ∑ k' ∈ Finset.range k, ∑ x : Fin 512, p.dy t (dc k' x) * (p.sd (dc k' x) * code (p.vd (fc b j) (dc k' x))) := by
  induction k generalizing t j with
  | zero => exact (zero45 t j).trans (Finset.sum_range_zero _).symm
  | succ k ih =>
    rw [Finset.sum_range_succ]
    exact pay64 p b k _ (fun t j => ∑ k' ∈ Finset.range k, ∑ x : Fin 512, p.dy t (dc k' x) * (p.sd (dc k' x) * code (p.vd (fc b j) (dc k' x))))
      _ _ _ ih (pay16 p k _ (h.bsd k)) (pay19 p nz b k _ _ (h.bsd k) (h.bwd k)) (pay24 p k _ (h.bdy k)) t j
/-- This value of the body is the hidden activation's gradient. -/
theorem v59 (t : Fin 256) (j : Fin 256) : X.v59 (ix2 t j) = p.da2 t (fc b j) :=
  (h.acc59 nz 8 t j).trans (blocks 8 512 rfl fun d => p.dy t d * (p.sd d * code (p.vd (fc b j) d)))
/-- This value of the body is the hidden activation's gradient let through inside the range. -/
theorem v64 (t : Fin 256) (j : Fin 256) : X.v64 c (ix2 t j) = p.da t (fc b j) :=
  pay67 p b _ _ _ _ _ _ _ h.s1 h.s2 h.v6 h.v8 (h.v23 nz) (h.raw nz c) (h.v59 nz) t j
/-- This value of the body is the let-through gradient of the hidden activation times the up projection. -/
theorem v109 (t : Fin 256) (j : Fin 256) : X.v109 c (ix2 t j) = p.dau t (fc b j) := pay74 p b _ _ (h.v44 nz) (h.v64 nz c) t j
/-- This value of the body is the gate's gradient. -/
theorem dg (t : Fin 256) (j : Fin 256) : X.dg c (ix2 t j) = p.dg t (fc b j) := pay1 p b _ _ _ (h.v40 nz c) (h.v45 nz c) (h.v109 nz c) t j
/-- This value of the body is the up projection's gradient. -/
theorem du (t : Fin 256) (j : Fin 256) : X.du c (ix2 t j) = p.du t (fc b j) := pay2 p b _ _ _ (h.v40 nz c) (h.v45 nz c) (h.v64 nz c) t j

/-- The gradients of the three weights and of the two row steps. -/
theorem dwd (j : Fin 256) (d : Fin 4096) : X.dwd c (ix2 j d) = p.dwd (fc b j) d :=
  colTiles_at _ (fun j d => p.dwd (fc b j) d) (fun k => pay26 p nz b k _ _ _ _ _ h.s2 (h.a2 nz c) (h.bsd k) (h.bwd k) (h.bdy k)) j d
/-- This value of the body is the gate weights' gradient. -/
theorem dwg (d : Fin 4096) (j : Fin 256) : X.dwg c (ix2 d j) = p.dwg d (fc b j) :=
  rowTiles_at _ (fun d j => p.dwg d (fc b j)) (fun k => pay29 p b k _ _ _ _ h.s1 (h.dg nz c) (h.bct k) (h.mg nz k)) d j
/-- This value of the body is the up weights' gradient. -/
theorem dwu (d : Fin 4096) (j : Fin 256) : X.dwu c (ix2 d j) = p.dwu d (fc b j) :=
  rowTiles_at _ (fun d j => p.dwu d (fc b j)) (fun k => pay32 p b k _ _ _ _ h.s1 (h.du nz c) (h.bct k) (h.mu nz k)) d j
/-- After some chunks, the running sum of the gate steps' gradient is the sum over those chunks. -/
theorem accg (k : ℕ) (i : Fin 8) (j : Fin 256) : X.accg c k (ix2 i j) = ∑ k' ∈ Finset.range k, ∑ x : Fin 64,
    p.gwg (dc k' (Fin.ofNat 512 (x.val * 8 + i.val))) (fc b j) * res (p.vg (dc k' (Fin.ofNat 512 (x.val * 8 + i.val))) (fc b j)) := by
  induction k generalizing i j with
  | zero => exact (zero3 i j).trans (Finset.sum_range_zero _).symm
  | succ k ih =>
    rw [Finset.sum_range_succ]
    exact pay30 p b k _ _ _ (fun i j => ∑ k' ∈ Finset.range k, ∑ x : Fin 64,
      p.gwg (dc k' (Fin.ofNat 512 (x.val * 8 + i.val))) (fc b j) * res (p.vg (dc k' (Fin.ofNat 512 (x.val * 8 + i.val))) (fc b j)))
      _ _ h.s1 (h.dg nz c) ih (h.bct k) (h.mg nz k) i j
/-- After some chunks, the running sum of the up steps' gradient is the sum over those chunks. -/
theorem accu (k : ℕ) (i : Fin 8) (j : Fin 256) : X.accu c k (ix2 i j) = ∑ k' ∈ Finset.range k, ∑ x : Fin 64,
    p.gwu (dc k' (Fin.ofNat 512 (x.val * 8 + i.val))) (fc b j) * res (p.vu (dc k' (Fin.ofNat 512 (x.val * 8 + i.val))) (fc b j)) := by
  induction k generalizing i j with
  | zero => exact (zero3 i j).trans (Finset.sum_range_zero _).symm
  | succ k ih =>
    rw [Finset.sum_range_succ]
    exact pay33 p b k _ _ _ (fun i j => ∑ k' ∈ Finset.range k, ∑ x : Fin 64,
      p.gwu (dc k' (Fin.ofNat 512 (x.val * 8 + i.val))) (fc b j) * res (p.vu (dc k' (Fin.ofNat 512 (x.val * 8 + i.val))) (fc b j)))
      _ _ h.s1 (h.du nz c) ih (h.bct k) (h.mu nz k) i j
omit h nz in
/-- Eight sublanes of eight blocks are all the features. -/
theorem feats (G : Fin 4096 → EReal) :
    ∑ i : Fin 8, ∑ k' ∈ Finset.range 8, ∑ x : Fin 64, G (dc k' (Fin.ofNat 512 (x.val * 8 + i.val))) = ∑ d, G d := by
  rw [Finset.sum_comm]
  refine (Finset.sum_congr rfl fun k' _ => ?_).trans (blocks 8 512 rfl G)
  exact sublanes 64 rfl fun y : Fin 512 => G (dc k' y)
/-- This value of the body is the gate steps' gradient. -/
theorem dsg (i : Fin 1) (j : Fin 256) : X.dsg c (ix2 i j) = p.dsg (fc b j) := by
  refine (pay5 _ _ (h.accg nz c 8) i j).trans ?_
  exact congrArg (K 1002538127#32 * ·) (feats fun d => p.gwg d (fc b j) * res (p.vg d (fc b j)))
/-- This value of the body is the up steps' gradient. -/
theorem dsu (i : Fin 1) (j : Fin 256) : X.dsu c (ix2 i j) = p.dsu (fc b j) := by
  refine (pay6 _ _ (h.accu nz c 8) i j).trans ?_
  exact congrArg (K 1002538127#32 * ·) (feats fun d => p.gwu d (fc b j) * res (p.vu d (fc b j)))

/-- The accumulators after the step: what they held, and this block's share. -/
theorem o20 (O : Vec Ideal S256x4096 .f32) (t : Fin 256) (d : Fin 4096) :
    X.o20 c O (ix2 t d) = O (ix2 t d) + ∑ x, p.c2 t (fc b x) * code (p.vd (fc b x) d) :=
  colTiles_at _ (fun t d => O (ix2 t d) + ∑ x, p.c2 t (fc b x) * code (p.vd (fc b x) d))
    (fun k => pay23 p nz b k _ _ _ _ (fun t j => O (ix2 t (dc k j))) (h.c2 nz c) (h.bsd k) (h.bwd k) (fun _ _ => rfl)) t d
/-- A grid step adds its share to the down steps' gradient. -/
theorem d22 (O : Vec Ideal S8x4096 .f32) (i : Fin 8) (d : Fin 4096) : X.d22 c O (ix2 i d) = O (ix2 i d) + ∑ x : Fin 32,
    p.gwd (fc b (Fin.ofNat 256 (x.val * 8 + i.val))) d * res (p.vd (fc b (Fin.ofNat 256 (x.val * 8 + i.val))) d) :=
  colTiles_at _ (fun i d => O (ix2 i d) + ∑ x : Fin 32,
      p.gwd (fc b (Fin.ofNat 256 (x.val * 8 + i.val))) d * res (p.vd (fc b (Fin.ofNat 256 (x.val * 8 + i.val))) d))
    (fun k => pay63 p b k _ _ _ (fun i j => O (ix2 i (dc k j))) (pay21 p nz b k _ _ (h.bsd k) (h.bwd k))
      (pay25 p b k _ _ _ h.s2 (h.a2 nz c) (h.bdy k)) (fun _ _ => rfl)) i d
/-- A grid step adds its share to the normed tokens' gradient. -/
theorem d21 (O : Vec Ideal S4096x256 .f32) (d : Fin 4096) (t : Fin 256) : X.d21 c O (ix2 d t) = O (ix2 d t) +
    (∑ x, p.dg t (fc b x) * (p.sg (fc b x) * code (p.vg d (fc b x))) + ∑ x, p.du t (fc b x) * (p.su (fc b x) * code (p.vu d (fc b x)))) :=
  rowTiles_at _ (fun d t => O (ix2 d t) +
      (∑ x, p.dg t (fc b x) * (p.sg (fc b x) * code (p.vg d (fc b x))) + ∑ x, p.du t (fc b x) * (p.su (fc b x) * code (p.vu d (fc b x)))))
    (fun k => pay4 p b k _ _ _ _ _ (fun i j => O (ix2 (dc k i) j)) _ (h.v40 nz c) (h.v45 nz c) (h.v64 nz c) (h.v109 nz c)
      (pay34 _ _ fun i j => rowBlk_full O k i j) (h.ww nz k)) d t
/-- A grid step adds its share to the rounding part. -/
theorem p25 (O : Vec Ideal S256x128 .f32) (t : Fin 256) (j : Fin 128) : X.p25 c O (ix2 t j) =
    O (ix2 t j) + (pR p t (fc b (Fin.ofNat 256 j.val)) + pR p t (fc b (Fin.ofNat 256 (128 + j.val)))) :=
  pay71 p b _ _ _ _ _ (fun t j => O (ix2 t j)) (h.v59 nz) (h.v62 nz c) (h.v66 nz c) zero69 (fun _ _ => rfl) t j
/-- A grid step adds its share to the magnitudes of the rounding part. -/
theorem p23 (O : Vec Ideal S256x128 .f32) (t : Fin 256) (j : Fin 128) : X.p23 c O (ix2 t j) =
    O (ix2 t j) + (mag (pR p t (fc b (Fin.ofNat 256 j.val))) + mag (pR p t (fc b (Fin.ofNat 256 (128 + j.val))))) :=
  pay72 p b _ _ _ _ _ (fun t j => O (ix2 t j)) (h.v59 nz) (h.v62 nz c) (h.v66 nz c) zero69 (fun _ _ => rfl) t j
/-- A grid step adds its share to the clipping part. -/
theorem p24 (O : Vec Ideal S256x128 .f32) (t : Fin 256) (j : Fin 128) : X.p24 c O (ix2 t j) =
    O (ix2 t j) + (pC p t (fc b (Fin.ofNat 256 j.val)) + pC p t (fc b (Fin.ofNat 256 (128 + j.val)))) :=
  pay73 p b _ _ _ _ (fun t j => O (ix2 t j)) (h.v49 nz c) (h.v59 nz) (h.v60 nz c) (fun _ _ => rfl) t j

end At1

end Cert.KernelIdeal.At
-- ==== Proof.KerSum.lean ====
module

public import proofs.«01_k».proof.Proof.Ker1
public import proofs.«01_k».proof.Proof.Region1

/-! What the six accumulators of the main call hold after each step, and after the last one. -/

@[expose] public section

set_option maxRecDepth 16384

noncomputable section

namespace Cert.KernelIdeal.At

open Idealize.ShloMosaic Idealize.ShloMosaic.TcCoe Idealize.ShloMosaic.Tactic
open Cert.KernelIdeal Cert.KernelIdeal.Gen Cert.Spec Cert.Tiles Cert.Sums Cert.KernelIdeal.Body Cert.KernelIdeal.Run

variable {p : P} {V : (c : Dev nD) → (b : Ref sig .tc) → Buf (Elt Ideal) ((c : Thread nD τ).loc b)} {c : Dev nD}

/-- A later grid step is not the first. -/
theorem first_not (n : ℕ) (hn : n + 1 < cfg1.N) : ¬ In.first (grid1.coords ⟨n + 1, hn⟩) := fun hf => by
  have h := (hcond1_0 ⟨n + 1, hn⟩).mp hf
  have hN : n + 1 < 56 := lt_of_lt_of_eq hn (show cfg1.N = 56 from N_1)
  dsimp only at h; omega

/-- After step `n`: the shares of the blocks up to `n`. -/
theorem a20_step (h : ∀ t : Fin cfg1.N, At1 p t.val (in1 V c t)) (nz : NZ p) (n : ℕ) (hn : n < cfg1.N) (t : Fin 256) (d : Fin 4096) :
    (accAt V c n hn).a20 (ix2 t d) = ∑ b ∈ Finset.range (n + 1), ∑ x, p.c2 t (fc b x) * code (p.vd (fc b x) d) := by
  induction n with
  | zero =>
    have z : In.z20 (F := Ideal) (grid1.coords ⟨0, hn⟩) (k1_pay35 (F := Ideal)) = k1_pay35 (F := Ideal) := ite_self _
    rw [Finset.sum_range_succ, Finset.sum_range_zero]
    refine ((h ⟨0, hn⟩).o20 nz (grid1.coords ⟨0, hn⟩) (In.z20 (F := Ideal) (grid1.coords ⟨0, hn⟩) (k1_pay35 (F := Ideal))) t d).trans ?_
    rw [z, zero35]
  | succ n ih =>
    have z : In.z20 (grid1.coords ⟨n + 1, hn⟩) (accAt V c n (Nat.lt_of_succ_lt hn)).a20 = (accAt V c n (Nat.lt_of_succ_lt hn)).a20 := if_neg (first_not n hn)
    rw [Finset.sum_range_succ, ← ih]
    refine ((h ⟨n + 1, hn⟩).o20 nz (grid1.coords ⟨n + 1, hn⟩) (In.z20 (grid1.coords ⟨n + 1, hn⟩) (accAt V c n (Nat.lt_of_succ_lt hn)).a20) t d).trans ?_
    rw [z]
/-- One grid step's share is added to the accumulator of the normed tokens' gradient. -/
theorem a21_step (h : ∀ t : Fin cfg1.N, At1 p t.val (in1 V c t)) (nz : NZ p) (n : ℕ) (hn : n < cfg1.N) (d : Fin 4096) (t : Fin 256) :
    (accAt V c n hn).a21 (ix2 d t) = ∑ b ∈ Finset.range (n + 1), (∑ x, p.dg t (fc b x) * (p.sg (fc b x) * code (p.vg d (fc b x))) + ∑ x, p.du t (fc b x) * (p.su (fc b x) * code (p.vu d (fc b x)))) := by
  induction n with
  | zero =>
    have z : In.z21 (F := Ideal) (grid1.coords ⟨0, hn⟩) (k1_pay36 (F := Ideal)) = k1_pay36 (F := Ideal) := ite_self _
    rw [Finset.sum_range_succ, Finset.sum_range_zero]
    refine ((h ⟨0, hn⟩).d21 nz (grid1.coords ⟨0, hn⟩) (In.z21 (F := Ideal) (grid1.coords ⟨0, hn⟩) (k1_pay36 (F := Ideal))) d t).trans ?_
    rw [z, zero36]
  | succ n ih =>
    have z : In.z21 (grid1.coords ⟨n + 1, hn⟩) (accAt V c n (Nat.lt_of_succ_lt hn)).a21 = (accAt V c n (Nat.lt_of_succ_lt hn)).a21 := if_neg (first_not n hn)
    rw [Finset.sum_range_succ, ← ih]
    refine ((h ⟨n + 1, hn⟩).d21 nz (grid1.coords ⟨n + 1, hn⟩) (In.z21 (grid1.coords ⟨n + 1, hn⟩) (accAt V c n (Nat.lt_of_succ_lt hn)).a21) d t).trans ?_
    rw [z]
/-- One grid step's share is added to the accumulator of the down steps' gradient. -/
theorem a22_step (h : ∀ t : Fin cfg1.N, At1 p t.val (in1 V c t)) (nz : NZ p) (n : ℕ) (hn : n < cfg1.N) (i : Fin 8) (d : Fin 4096) :
    (accAt V c n hn).a22 (ix2 i d) = ∑ b ∈ Finset.range (n + 1), ∑ x : Fin 32, p.gwd (fc b (Fin.ofNat 256 (x.val * 8 + i.val))) d * res (p.vd (fc b (Fin.ofNat 256 (x.val * 8 + i.val))) d) := by
  induction n with
  | zero =>
    have z : In.z22 (F := Ideal) (grid1.coords ⟨0, hn⟩) (k1_pay37 (F := Ideal)) = k1_pay37 (F := Ideal) := ite_self _
    rw [Finset.sum_range_succ, Finset.sum_range_zero]
    refine ((h ⟨0, hn⟩).d22 nz (grid1.coords ⟨0, hn⟩) (In.z22 (F := Ideal) (grid1.coords ⟨0, hn⟩) (k1_pay37 (F := Ideal))) i d).trans ?_
    rw [z, zero37]
  | succ n ih =>
    have z : In.z22 (grid1.coords ⟨n + 1, hn⟩) (accAt V c n (Nat.lt_of_succ_lt hn)).a22 = (accAt V c n (Nat.lt_of_succ_lt hn)).a22 := if_neg (first_not n hn)
    rw [Finset.sum_range_succ, ← ih]
    refine ((h ⟨n + 1, hn⟩).d22 nz (grid1.coords ⟨n + 1, hn⟩) (In.z22 (grid1.coords ⟨n + 1, hn⟩) (accAt V c n (Nat.lt_of_succ_lt hn)).a22) i d).trans ?_
    rw [z]
/-- One grid step's share is added to the accumulator of the sum of the magnitudes of the rounding part. -/
theorem a23_step (h : ∀ t : Fin cfg1.N, At1 p t.val (in1 V c t)) (nz : NZ p) (n : ℕ) (hn : n < cfg1.N) (t : Fin 256) (j : Fin 128) :
    (accAt V c n hn).a23 (ix2 t j) = ∑ b ∈ Finset.range (n + 1), (mag (pR p t (fc b (Fin.ofNat 256 j.val))) + mag (pR p t (fc b (Fin.ofNat 256 (128 + j.val))))) := by
  induction n with
  | zero =>
    have z : In.z23 (F := Ideal) (grid1.coords ⟨0, hn⟩) (k1_pay38 (F := Ideal)) = k1_pay38 (F := Ideal) := ite_self _
    rw [Finset.sum_range_succ, Finset.sum_range_zero]
    refine ((h ⟨0, hn⟩).p23 nz (grid1.coords ⟨0, hn⟩) (In.z23 (F := Ideal) (grid1.coords ⟨0, hn⟩) (k1_pay38 (F := Ideal))) t j).trans ?_
    rw [z, zero38]
  | succ n ih =>
    have z : In.z23 (grid1.coords ⟨n + 1, hn⟩) (accAt V c n (Nat.lt_of_succ_lt hn)).a23 = (accAt V c n (Nat.lt_of_succ_lt hn)).a23 := if_neg (first_not n hn)
    rw [Finset.sum_range_succ, ← ih]
    refine ((h ⟨n + 1, hn⟩).p23 nz (grid1.coords ⟨n + 1, hn⟩) (In.z23 (grid1.coords ⟨n + 1, hn⟩) (accAt V c n (Nat.lt_of_succ_lt hn)).a23) t j).trans ?_
    rw [z]
/-- One grid step's share is added to the accumulator of the clipping part. -/
theorem a24_step (h : ∀ t : Fin cfg1.N, At1 p t.val (in1 V c t)) (nz : NZ p) (n : ℕ) (hn : n < cfg1.N) (t : Fin 256) (j : Fin 128) :
    (accAt V c n hn).a24 (ix2 t j) = ∑ b ∈ Finset.range (n + 1), (pC p t (fc b (Fin.ofNat 256 j.val)) + pC p t (fc b (Fin.ofNat 256 (128 + j.val)))) := by
  induction n with
  | zero =>
    have z : In.z24 (F := Ideal) (grid1.coords ⟨0, hn⟩) (k1_pay39 (F := Ideal)) = k1_pay39 (F := Ideal) := ite_self _
    rw [Finset.sum_range_succ, Finset.sum_range_zero]
    refine ((h ⟨0, hn⟩).p24 nz (grid1.coords ⟨0, hn⟩) (In.z24 (F := Ideal) (grid1.coords ⟨0, hn⟩) (k1_pay39 (F := Ideal))) t j).trans ?_
    rw [z, zero39]
  | succ n ih =>
    have z : In.z24 (grid1.coords ⟨n + 1, hn⟩) (accAt V c n (Nat.lt_of_succ_lt hn)).a24 = (accAt V c n (Nat.lt_of_succ_lt hn)).a24 := if_neg (first_not n hn)
    rw [Finset.sum_range_succ, ← ih]
    refine ((h ⟨n + 1, hn⟩).p24 nz (grid1.coords ⟨n + 1, hn⟩) (In.z24 (grid1.coords ⟨n + 1, hn⟩) (accAt V c n (Nat.lt_of_succ_lt hn)).a24) t j).trans ?_
    rw [z]
/-- One grid step's share is added to the accumulator of the rounding part. -/
theorem a25_step (h : ∀ t : Fin cfg1.N, At1 p t.val (in1 V c t)) (nz : NZ p) (n : ℕ) (hn : n < cfg1.N) (t : Fin 256) (j : Fin 128) :
    (accAt V c n hn).a25 (ix2 t j) = ∑ b ∈ Finset.range (n + 1), (pR p t (fc b (Fin.ofNat 256 j.val)) + pR p t (fc b (Fin.ofNat 256 (128 + j.val)))) := by
  induction n with
  | zero =>
    have z : In.z25 (F := Ideal) (grid1.coords ⟨0, hn⟩) (k1_pay40 (F := Ideal)) = k1_pay40 (F := Ideal) := ite_self _
    rw [Finset.sum_range_succ, Finset.sum_range_zero]
    refine ((h ⟨0, hn⟩).p25 nz (grid1.coords ⟨0, hn⟩) (In.z25 (F := Ideal) (grid1.coords ⟨0, hn⟩) (k1_pay40 (F := Ideal))) t j).trans ?_
    rw [z, zero40]
  | succ n ih =>
    have z : In.z25 (grid1.coords ⟨n + 1, hn⟩) (accAt V c n (Nat.lt_of_succ_lt hn)).a25 = (accAt V c n (Nat.lt_of_succ_lt hn)).a25 := if_neg (first_not n hn)
    rw [Finset.sum_range_succ, ← ih]
    refine ((h ⟨n + 1, hn⟩).p25 nz (grid1.coords ⟨n + 1, hn⟩) (In.z25 (grid1.coords ⟨n + 1, hn⟩) (accAt V c n (Nat.lt_of_succ_lt hn)).a25) t j).trans ?_
    rw [z]

/-- After the last step: the sums over all hidden features. -/
theorem a20_end (h : ∀ t : Fin cfg1.N, At1 p t.val (in1 V c t)) (nz : NZ p) (hn : 55 < cfg1.N) (t : Fin 256) (d : Fin 4096) :
    (accAt V c 55 hn).a20 (ix2 t d) = p.o t d :=
  (a20_step h nz 55 hn t d).trans (blocks 56 256 rfl fun f => p.c2 t f * code (p.vd f d))
/-- After the last grid step, the accumulator of the normed tokens' gradient holds the whole sum. -/
theorem a21_end (h : ∀ t : Fin cfg1.N, At1 p t.val (in1 V c t)) (nz : NZ p) (hn : 55 < cfg1.N) (d : Fin 4096) (t : Fin 256) :
    (accAt V c 55 hn).a21 (ix2 d t) = p.da1 t d := by
  refine (a21_step h nz 55 hn d t).trans ?_
  rw [Finset.sum_add_distrib]
  exact congrArg₂ (· + ·) (blocks 56 256 rfl fun f => p.dg t f * (p.sg f * code (p.vg d f))) (blocks 56 256 rfl fun f => p.du t f * (p.su f * code (p.vu d f)))
/-- After the last grid step, the accumulator of the down steps' gradient holds the whole sum. -/
theorem a22_end (h : ∀ t : Fin cfg1.N, At1 p t.val (in1 V c t)) (nz : NZ p) (hn : 55 < cfg1.N) (d : Fin 4096) :
    ∑ i : Fin 8, (accAt V c 55 hn).a22 (ix2 i d) = ∑ f, p.gwd f d * res (p.vd f d) := by
  refine (Finset.sum_congr rfl fun i _ => a22_step h nz 55 hn i d).trans ?_
  rw [Finset.sum_comm]
  refine (Finset.sum_congr rfl fun b _ => sublanes 32 rfl fun y : Fin 256 => p.gwd (fc b y) d * res (p.vd (fc b y) d)).trans ?_
  exact blocks 56 256 rfl fun f => p.gwd f d * res (p.vd f d)
/-- After the last grid step, the accumulator of the sum of the magnitudes of the rounding part holds the whole sum. -/
theorem a23_end (h : ∀ t : Fin cfg1.N, At1 p t.val (in1 V c t)) (nz : NZ p) (hn : 55 < cfg1.N) (t : Fin 256) :
    ∑ j : Fin 128, (accAt V c 55 hn).a23 (ix2 t j) = ∑ f, mag (pR p t f) := by
  refine (Finset.sum_congr rfl fun j _ => a23_step h nz 55 hn t j).trans ?_
  rw [Finset.sum_comm]
  refine (Finset.sum_congr rfl fun b _ => lanes2 fun y : Fin 256 => mag (pR p t (fc b y))).trans ?_
  exact blocks 56 256 rfl fun f => mag (pR p t f)
/-- After the last grid step, the accumulator of the clipping part holds the whole sum. -/
theorem a24_end (h : ∀ t : Fin cfg1.N, At1 p t.val (in1 V c t)) (nz : NZ p) (hn : 55 < cfg1.N) (t : Fin 256) :
    ∑ j : Fin 128, (accAt V c 55 hn).a24 (ix2 t j) = ∑ f, pC p t f := by
  refine (Finset.sum_congr rfl fun j _ => a24_step h nz 55 hn t j).trans ?_
  rw [Finset.sum_comm]
  refine (Finset.sum_congr rfl fun b _ => lanes2 fun y : Fin 256 => pC p t (fc b y)).trans ?_
  exact blocks 56 256 rfl fun f => pC p t f
/-- After the last grid step, the accumulator of the rounding part holds the whole sum. -/
theorem a25_end (h : ∀ t : Fin cfg1.N, At1 p t.val (in1 V c t)) (nz : NZ p) (hn : 55 < cfg1.N) (t : Fin 256) :
    ∑ j : Fin 128, (accAt V c 55 hn).a25 (ix2 t j) = ∑ f, pR p t f := by
  refine (Finset.sum_congr rfl fun j _ => a25_step h nz 55 hn t j).trans ?_
  rw [Finset.sum_comm]
  refine (Finset.sum_congr rfl fun b _ => lanes2 fun y : Fin 256 => pR p t (fc b y)).trans ?_
  exact blocks 56 256 rfl fun f => pR p t f

end Cert.KernelIdeal.At

end
-- ==== Proof.KerAt2.lean ====
module

public import proofs.«01_k».proof.Proof.KerAt

/-! What each step of the first and of the last call computes, index by index, for block `k` of 512 features: from operands that
hold the layer's quantities, the next quantity. -/

@[expose] public section

set_option maxRecDepth 16384

noncomputable section

namespace Cert.Spec

open Idealize.ShloMosaic

/-- One feature's share of the first activation step's gradient through rounding and through clipping, and of the norm's product. -/
def R1 (p : P) (t : Fin 256) (d : Fin 4096) : EReal := p.da1 t d * pr (p.v1 t d) (p.c1 t d)
def C1 (p : P) (t : Fin 256) (d : Fin 4096) : EReal := p.da1 t d * pc (p.v1 t d)
def D1 (p : P) (t : Fin 256) (d : Fin 4096) : EReal := p.dh t d * p.x t d

end Cert.Spec

namespace Cert.KernelIdeal.At

open Idealize.ShloMosaic Idealize.ShloMosaic.TcCoe Idealize.ShloMosaic.Tactic
open Cert.KernelIdeal Cert.KernelIdeal.Gen Cert.Spec

variable (p : P) (k : ℕ)

/-- This step adds a chunk's squares of the tokens, by lane, to the running value. -/
theorem k0_2 (arg6 : FVec Ideal S256x128 .f32) (O : Fin 256 → Fin 128 → EReal) (v17 : Vec Ideal S256x512 .bf16) (harg6 : ∀ (i : Fin 256) (j : Fin 128), arg6 (ix2 i j) = O i j) (hv17 : ∀ (i : Fin 256) (j : Fin 512), v17 (ix2 i j) = p.x i (dc k j)) (i : Fin 256) (j : Fin 128) :
    (k0_pay2 arg6 v17 : FVec Ideal S256x128 .f32) (ix2 i j) = O i j + (p.x i (dc k (Fin.ofNat 512 j.val)) * p.x i (dc k (Fin.ofNat 512 j.val)) + p.x i (dc k (Fin.ofNat 512 (128 + j.val))) * p.x i (dc k (Fin.ofNat 512 (128 + j.val))) + p.x i (dc k (Fin.ofNat 512 (256 + j.val))) * p.x i (dc k (Fin.ofNat 512 (256 + j.val))) + p.x i (dc k (Fin.ofNat 512 (384 + j.val))) * p.x i (dc k (Fin.ofNat 512 (384 + j.val)))) := by
  unfold k0_pay2; unfold_payloads; pointwise
  try simp only [harg6, hv17]
  try simp only [fin_of_mk]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives a sum made of the tokens, the norm's weight and the first activation step. -/
theorem k0_3 (v0 : Elt Ideal .f32) (v3 : FVec Ideal S256x128 .f32) (O : Fin 256 → Fin 128 → EReal) (v17 : Vec Ideal S256x512 .bf16) (v23 : Vec Ideal S1x512 .f32) (hv0 : v0 = p.s1) (hv3 : ∀ (i : Fin 256) (j : Fin 128), v3 (ix2 i j) = O i j) (hv17 : ∀ (i : Fin 256) (j : Fin 512), v17 (ix2 i j) = p.x i (dc k j)) (hv23 : ∀ (i : Fin 1) (j : Fin 512), v23 (ix2 i j) = p.nw (dc k j)) (i : Fin 256) (j : Fin 512) :
    (k0_pay3 v0 v3 v17 v23 : FVec Ideal S256x512 .fp8e4m3) (ix2 i j) = clipA (Ideal.div (p.x i (dc k j) * Ideal.div 1 (Ideal.sqrt (Ideal.div (∑ x, O i x) (K 1166016512#32) + K 925353388#32)) * p.nw (dc k j)) p.s1) := by
  unfold k0_pay3; unfold_payloads; pointwise
  try simp only [hv0, hv3, hv17, hv23]
  try simp only [fin_of_mk]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives a sum made of the tokens, the norm's weight and the first activation step. -/
theorem k0_4 (v0 : Elt Ideal .f32) (v3 : FVec Ideal S256x128 .f32) (O : Fin 256 → Fin 128 → EReal) (v17 : Vec Ideal S256x512 .bf16) (v23 : Vec Ideal S1x512 .f32) (hv0 : v0 = p.s1) (hv3 : ∀ (i : Fin 256) (j : Fin 128), v3 (ix2 i j) = O i j) (hv17 : ∀ (i : Fin 256) (j : Fin 512), v17 (ix2 i j) = p.x i (dc k j)) (hv23 : ∀ (i : Fin 1) (j : Fin 512), v23 (ix2 i j) = p.nw (dc k j)) (i : Fin 512) (j : Fin 256) :
    (k0_pay4 v0 v3 v17 v23 : FVec Ideal S512x256 .bf16) (ix2 i j) = clipA (Ideal.div (p.x j (dc k i) * Ideal.div 1 (Ideal.sqrt (Ideal.div (∑ x, O j x) (K 1166016512#32) + K 925353388#32)) * p.nw (dc k i)) p.s1) := by
  unfold k0_pay4; unfold_payloads; pointwise
  try simp only [hv0, hv3, hv17, hv23]
  try simp only [fin_of_mk]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step gives each token's mean product with the norm's gradient from its sums by lane. -/
theorem k2_1 (v44 : FVec Ideal S256x1 .f32) (v47_2 : FVec Ideal S256x128 .f32) (O : Fin 256 → Fin 128 → EReal) (hv44 : ∀ (i : Fin 256) (j : Fin 1), v44 (ix2 i j) = p.r i) (hv47_2 : ∀ (i : Fin 256) (j : Fin 128), v47_2 (ix2 i j) = O i j) (i : Fin 256) (j : Fin 1) :
    (k2_pay1 v44 v47_2 : FVec Ideal S256x1 .f32) (ix2 i j) = p.r i * Ideal.div (∑ x, O i x) (K 1166016512#32) := by
  unfold k2_pay1; unfold_payloads; pointwise
  try simp only [hv44, hv47_2]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives a sum made of the output's gradient, the reciprocal root of the mean square, the gradient times the norm's weight and the tokens. -/
theorem k2_2 (v44 : FVec Ideal S256x1 .f32) (v47_2 : FVec Ideal S256x128 .f32) (O : Fin 256 → Fin 128 → EReal) (v72 : Vec Ideal S256x512 .bf16) (v76 : Vec Ideal S256x512 .f32) (v86 : Vec Ideal S256x512 .bf16) (hv44 : ∀ (i : Fin 256) (j : Fin 1), v44 (ix2 i j) = p.r i) (hv47_2 : ∀ (i : Fin 256) (j : Fin 128), v47_2 (ix2 i j) = O i j) (hv72 : ∀ (i : Fin 256) (j : Fin 512), v72 (ix2 i j) = p.x i (dc k j)) (hv76 : ∀ (i : Fin 256) (j : Fin 512), v76 (ix2 i j) = p.dh i (dc k j)) (hv86 : ∀ (i : Fin 256) (j : Fin 512), v86 (ix2 i j) = p.dy i (dc k j)) (i : Fin 256) (j : Fin 512) :
    (k2_pay2 v44 v47_2 v72 v76 v86 : FVec Ideal S256x512 .bf16) (ix2 i j) = p.dy i (dc k j) + (p.r i * p.dh i (dc k j) - p.x i (dc k j) * (p.r i * p.r i) * (p.r i * Ideal.div (∑ x, O i x) (K 1166016512#32))) := by
  unfold k2_pay2; unfold_payloads; pointwise
  try simp only [hv44, hv47_2, hv72, hv76, hv86]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dot, P.dx, pR, pC, pr, pc, inA, clipA, D1]

/-- This step of the body gives the tokens. -/
theorem k2_3 (v72 : Vec Ideal S256x512 .bf16) (hv72 : ∀ (i : Fin 256) (j : Fin 512), v72 (ix2 i j) = p.x i (dc k j)) (i : Fin 256) (j : Fin 512) :
    (k2_pay3 v72 : FVec Ideal S256x512 .f32) (ix2 i j) = p.x i (dc k j) := by
  unfold k2_pay3; unfold_payloads; pointwise
  try simp only [hv72]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives the norm's weight. -/
theorem k2_4 (v76 : Vec Ideal S1x512 .f32) (hv76 : ∀ (i : Fin 1) (j : Fin 512), v76 (ix2 i j) = p.nw (dc k j)) (i : Fin 1) (j : Fin 512) :
    (k2_pay4 v76 : FVec Ideal S1x512 .f32) (ix2 i j) = p.nw (dc k j) := by
  unfold k2_pay4; unfold_payloads; pointwise
  try simp only [hv76]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives the output. -/
theorem k2_5 (v1 : Elt Ideal .f32) (v72 : Vec Ideal S256x512 .bf16) (v79 : Vec Ideal S256x512 .f32) (v84 : Vec Ideal S1x512 .f32) (hv1 : v1 = p.s2) (hv72 : ∀ (i : Fin 256) (j : Fin 512), v72 (ix2 i j) = p.x i (dc k j)) (hv79 : ∀ (i : Fin 256) (j : Fin 512), v79 (ix2 i j) = p.o i (dc k j)) (hv84 : ∀ (i : Fin 1) (j : Fin 512), v84 (ix2 i j) = p.sd (dc k j)) (i : Fin 256) (j : Fin 512) :
    (k2_pay5 v1 v72 v79 v84 : FVec Ideal S256x512 .bf16) (ix2 i j) = p.y i (dc k j) := by
  unfold k2_pay5; unfold_payloads; pointwise
  try simp only [hv1, hv72, hv79, hv84]
  try simp only [fin_of_mk]
  try simp only [P.v1, P.vg, P.vu, P.vd, P.gr, P.ur, P.g, P.u, P.σ, P.v2, P.c2, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives the normed tokens' gradient. -/
theorem k2_6 (v93 : Vec Ideal S512x256 .f32) (hv93 : ∀ (i : Fin 512) (j : Fin 256), v93 (ix2 i j) = p.da1 j (dc k i)) (i : Fin 256) (j : Fin 512) :
    (k2_pay6 v93 : FVec Ideal S256x512 .f32) (ix2 i j) = p.da1 i (dc k j) := by
  unfold k2_pay6; unfold_payloads; pointwise
  try simp only [hv93]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.rnd1, P.clp1, P.dsa1, P.dn, P.dnw, P.dh, P.dot, P.dx, pR, pC, pr, pc, inA, clipA, D1]

/-- This step of the body gives the normed tokens over their step. -/
theorem k2_7 (v0 : Elt Ideal .f32) (v44 : FVec Ideal S256x1 .f32) (v72 : Vec Ideal S256x512 .bf16) (v76 : Vec Ideal S1x512 .f32) (hv0 : v0 = p.s1) (hv44 : ∀ (i : Fin 256) (j : Fin 1), v44 (ix2 i j) = p.r i) (hv72 : ∀ (i : Fin 256) (j : Fin 512), v72 (ix2 i j) = p.x i (dc k j)) (hv76 : ∀ (i : Fin 1) (j : Fin 512), v76 (ix2 i j) = p.nw (dc k j)) (i : Fin 256) (j : Fin 512) :
    (k2_pay7 v0 v44 v72 v76 : FVec Ideal S256x512 .f32) (ix2 i j) = p.v1 i (dc k j) := by
  unfold k2_pay7; unfold_payloads; pointwise
  try simp only [hv0, hv44, hv72, hv76]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives the magnitude of the normed tokens over their step. -/
theorem k2_8 (v0 : Elt Ideal .f32) (v44 : FVec Ideal S256x1 .f32) (v72 : Vec Ideal S256x512 .bf16) (v76 : Vec Ideal S1x512 .f32) (hv0 : v0 = p.s1) (hv44 : ∀ (i : Fin 256) (j : Fin 1), v44 (ix2 i j) = p.r i) (hv72 : ∀ (i : Fin 256) (j : Fin 512), v72 (ix2 i j) = p.x i (dc k j)) (hv76 : ∀ (i : Fin 1) (j : Fin 512), v76 (ix2 i j) = p.nw (dc k j)) (i : Fin 256) (j : Fin 512) :
    (k2_pay8 v0 v44 v72 v76 : FVec Ideal S256x512 .f32) (ix2 i j) = mag (p.v1 i (dc k j)) := by
  unfold k2_pay8; unfold_payloads; pointwise
  try simp only [hv0, hv44, hv72, hv76]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives the normed tokens' gradient let through inside the range. -/
theorem k2_10 (v0 : Elt Ideal .f32) (v44 : FVec Ideal S256x1 .f32) (v72 : Vec Ideal S256x512 .bf16) (v76 : Vec Ideal S1x512 .f32) (v93 : Vec Ideal S512x256 .f32) (hv0 : v0 = p.s1) (hv44 : ∀ (i : Fin 256) (j : Fin 1), v44 (ix2 i j) = p.r i) (hv72 : ∀ (i : Fin 256) (j : Fin 512), v72 (ix2 i j) = p.x i (dc k j)) (hv76 : ∀ (i : Fin 1) (j : Fin 512), v76 (ix2 i j) = p.nw (dc k j)) (hv93 : ∀ (i : Fin 512) (j : Fin 256), v93 (ix2 i j) = p.da1 j (dc k i)) (i : Fin 256) (j : Fin 512) :
    (k2_pay10 v0 v44 v72 v76 v93 : FVec Ideal S256x512 .f32) (ix2 i j) = p.dn i (dc k j) := by
  unfold k2_pay10; unfold_payloads; pointwise
  try simp only [hv0, hv44, hv72, hv76, hv93]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.rnd1, P.clp1, P.dsa1, P.dn, P.dnw, P.dh, P.dot, P.dx, pR, pC, pr, pc, inA, clipA, D1]
  rfl

/-- This step of the body, entry by entry, from its operands' entries. -/
theorem k2_11 (v0 : Elt Ideal .f32) (v44 : FVec Ideal S256x1 .f32) (v72 : Vec Ideal S256x512 .bf16) (v76 : Vec Ideal S1x512 .f32) (v93 : Vec Ideal S512x256 .f32) (v108 : Vec Ideal S256x512 .fp8e4m3) (hv0 : v0 = p.s1) (hv44 : ∀ (i : Fin 256) (j : Fin 1), v44 (ix2 i j) = p.r i) (hv72 : ∀ (i : Fin 256) (j : Fin 512), v72 (ix2 i j) = p.x i (dc k j)) (hv76 : ∀ (i : Fin 1) (j : Fin 512), v76 (ix2 i j) = p.nw (dc k j)) (hv93 : ∀ (i : Fin 512) (j : Fin 256), v93 (ix2 i j) = p.da1 j (dc k i)) (hv108 : ∀ (i : Fin 256) (j : Fin 512), v108 (ix2 i j) = p.c1 i (dc k j)) (i : Fin 256) (j : Fin 512) :
    (k2_pay11 v0 v44 v72 v76 v93 v108 : FVec Ideal S256x512 .f32) (ix2 i j) = R1 p i (dc k j) := by
  unfold k2_pay11; unfold_payloads; pointwise
  try simp only [hv0, hv44, hv72, hv76, hv93, hv108]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.rnd1, P.clp1, P.dsa1, P.dn, P.dnw, P.dh, P.dot, P.dx, pR, pC, pr, pc, inA, clipA, R1, C1, D1]
  rfl

/-- This step of the body, entry by entry, from its operands' entries. -/
theorem k2_12 (v0 : Elt Ideal .f32) (v44 : FVec Ideal S256x1 .f32) (v72 : Vec Ideal S256x512 .bf16) (v76 : Vec Ideal S1x512 .f32) (v93 : Vec Ideal S512x256 .f32) (v108 : Vec Ideal S256x512 .fp8e4m3) (hv0 : v0 = p.s1) (hv44 : ∀ (i : Fin 256) (j : Fin 1), v44 (ix2 i j) = p.r i) (hv72 : ∀ (i : Fin 256) (j : Fin 512), v72 (ix2 i j) = p.x i (dc k j)) (hv76 : ∀ (i : Fin 1) (j : Fin 512), v76 (ix2 i j) = p.nw (dc k j)) (hv93 : ∀ (i : Fin 512) (j : Fin 256), v93 (ix2 i j) = p.da1 j (dc k i)) (hv108 : ∀ (i : Fin 256) (j : Fin 512), v108 (ix2 i j) = p.c1 i (dc k j)) (i : Fin 256) (j : Fin 128) :
    (k2_pay12 v0 v44 v72 v76 v93 v108 : FVec Ideal S256x128 .f32) (ix2 i j) = R1 p i (dc k (Fin.ofNat 512 j.val)) := by
  unfold k2_pay12; unfold_payloads; pointwise
  try simp only [hv0, hv44, hv72, hv76, hv93, hv108]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.rnd1, P.clp1, P.dsa1, P.dn, P.dnw, P.dh, P.dot, P.dx, pR, pC, pr, pc, inA, clipA, R1, C1, D1]
  rfl

/-- This step of the body, entry by entry, from its operands' entries. -/
theorem k2_13 (arg25 : FVec Ideal S256x128 .f32) (O : Fin 256 → Fin 128 → EReal) (v114 : FVec Ideal S256x512 .f32) (v115 : FVec Ideal S256x128 .f32) (harg25 : ∀ (i : Fin 256) (j : Fin 128), arg25 (ix2 i j) = O i j) (hv114 : ∀ (i : Fin 256) (j : Fin 512), v114 (ix2 i j) = R1 p i (dc k j)) (hv115 : ∀ (i : Fin 256) (j : Fin 128), v115 (ix2 i j) = R1 p i (dc k (Fin.ofNat 512 j.val))) (i : Fin 256) (j : Fin 128) :
    (k2_pay13 arg25 v114 v115 : FVec Ideal S256x128 .f32) (ix2 i j) = O i j + (R1 p i (dc k (Fin.ofNat 512 j.val)) + R1 p i (dc k (Fin.ofNat 512 (128 + j.val))) + R1 p i (dc k (Fin.ofNat 512 (256 + j.val))) + R1 p i (dc k (Fin.ofNat 512 (384 + j.val)))) := by
  unfold k2_pay13; unfold_payloads; pointwise
  try simp only [harg25, hv114, hv115]
  try simp only [fin_of_mk]

/-- This step of the body, entry by entry, from its operands' entries. -/
theorem k2_14 (arg26 : FVec Ideal S256x128 .f32) (O : Fin 256 → Fin 128 → EReal) (v95 : FVec Ideal S256x512 .f32) (v101 : FVec Ideal S256x512 .f32) (v102 : FVec Ideal S256x512 .f32) (harg26 : ∀ (i : Fin 256) (j : Fin 128), arg26 (ix2 i j) = O i j) (hv95 : ∀ (i : Fin 256) (j : Fin 512), v95 (ix2 i j) = p.da1 i (dc k j)) (hv101 : ∀ (i : Fin 256) (j : Fin 512), v101 (ix2 i j) = p.v1 i (dc k j)) (hv102 : ∀ (i : Fin 256) (j : Fin 512), v102 (ix2 i j) = mag (p.v1 i (dc k j))) (i : Fin 256) (j : Fin 128) :
    (k2_pay14 arg26 v95 v101 v102 : FVec Ideal S256x128 .f32) (ix2 i j) = O i j + (C1 p i (dc k (Fin.ofNat 512 j.val)) + C1 p i (dc k (Fin.ofNat 512 (128 + j.val))) + C1 p i (dc k (Fin.ofNat 512 (256 + j.val))) + C1 p i (dc k (Fin.ofNat 512 (384 + j.val)))) := by
  unfold k2_pay14; unfold_payloads; pointwise
  try simp only [harg26, hv95, hv101, hv102]
  try simp only [fin_of_mk]
  try simp only [P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.rnd1, P.clp1, P.dsa1, P.dn, P.dnw, P.dh, P.dot, P.dx, pR, pC, pr, pc, inA, clipA, R1, C1, D1]

/-- This step of the body gives the norm weight's gradient. -/
theorem k2_15 (v44 : FVec Ideal S256x1 .f32) (v74 : FVec Ideal S256x512 .f32) (v106 : FVec Ideal S256x512 .f32) (hv44 : ∀ (i : Fin 256) (j : Fin 1), v44 (ix2 i j) = p.r i) (hv74 : ∀ (i : Fin 256) (j : Fin 512), v74 (ix2 i j) = p.x i (dc k j)) (hv106 : ∀ (i : Fin 256) (j : Fin 512), v106 (ix2 i j) = p.dn i (dc k j)) (i : Fin 1) (j : Fin 512) :
    (k2_pay15 v44 v74 v106 : FVec Ideal S1x512 .f32) (ix2 i j) = p.dnw (dc k j) := by
  unfold k2_pay15; unfold_payloads; pointwise
  try simp only [hv44, hv74, hv106]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dnw, P.dh, P.dot, P.dx, pR, pC, pr, pc, inA, clipA, D1]

/-- This step of the body gives the gradient times the norm's weight. -/
theorem k2_17 (v77 : FVec Ideal S1x512 .f32) (v106 : FVec Ideal S256x512 .f32) (hv77 : ∀ (i : Fin 1) (j : Fin 512), v77 (ix2 i j) = p.nw (dc k j)) (hv106 : ∀ (i : Fin 256) (j : Fin 512), v106 (ix2 i j) = p.dn i (dc k j)) (i : Fin 256) (j : Fin 512) :
    (k2_pay17 v77 v106 : FVec Ideal S256x512 .f32) (ix2 i j) = p.dh i (dc k j) := by
  unfold k2_pay17; unfold_payloads; pointwise
  try simp only [hv77, hv106]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dnw, P.dh, P.dot, P.dx, pR, pC, pr, pc, inA, clipA, D1]

/-- This step of the body, entry by entry, from its operands' entries. -/
theorem k2_19 (v74 : FVec Ideal S256x512 .f32) (v77 : FVec Ideal S1x512 .f32) (v106 : FVec Ideal S256x512 .f32) (hv74 : ∀ (i : Fin 256) (j : Fin 512), v74 (ix2 i j) = p.x i (dc k j)) (hv77 : ∀ (i : Fin 1) (j : Fin 512), v77 (ix2 i j) = p.nw (dc k j)) (hv106 : ∀ (i : Fin 256) (j : Fin 512), v106 (ix2 i j) = p.dn i (dc k j)) (i : Fin 256) (j : Fin 128) :
    (k2_pay19 v74 v77 v106 : FVec Ideal S256x128 .f32) (ix2 i j) = D1 p i (dc k (Fin.ofNat 512 j.val)) + D1 p i (dc k (Fin.ofNat 512 (128 + j.val))) + D1 p i (dc k (Fin.ofNat 512 (256 + j.val))) := by
  unfold k2_pay19; unfold_payloads; pointwise
  try simp only [hv74, hv77, hv106]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dnw, P.dh, P.dot, P.dx, pR, pC, pr, pc, inA, clipA, D1]

/-- This step of the body, entry by entry, from its operands' entries. -/
theorem k2_20 (v74 : FVec Ideal S256x512 .f32) (v77 : FVec Ideal S1x512 .f32) (v106 : FVec Ideal S256x512 .f32) (hv74 : ∀ (i : Fin 256) (j : Fin 512), v74 (ix2 i j) = p.x i (dc k j)) (hv77 : ∀ (i : Fin 1) (j : Fin 512), v77 (ix2 i j) = p.nw (dc k j)) (hv106 : ∀ (i : Fin 256) (j : Fin 512), v106 (ix2 i j) = p.dn i (dc k j)) (i : Fin 256) (j : Fin 128) :
    (k2_pay20 v74 v77 v106 : FVec Ideal S256x128 .f32) (ix2 i j) = D1 p i (dc k (Fin.ofNat 512 (384 + j.val))) := by
  unfold k2_pay20; unfold_payloads; pointwise
  try simp only [hv74, hv77, hv106]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dnw, P.dh, P.dot, P.dx, pR, pC, pr, pc, inA, clipA, D1]

/-- This step of the body gives the sum of the operand's entries. -/
theorem k2_21 (v2 : Vec Ideal S8x4096 .f32) (O : Fin 8 → Fin 4096 → EReal) (hv2 : ∀ (i : Fin 8) (j : Fin 4096), v2 (ix2 i j) = O i j) (i : Fin 1) (j : Fin 4096) :
    (k2_pay21 v2 : FVec Ideal S1x4096 .f32) (ix2 i j) = K 995025174#32 * ∑ x, O x j := by
  unfold k2_pay21; unfold_payloads; pointwise
  try simp only [hv2]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives the sum of the operand's entries. -/
theorem k2_22 (v15 : Vec Ideal S256x128 .f32) (O : Fin 256 → Fin 128 → EReal) (hv15 : ∀ (i : Fin 256) (j : Fin 128), v15 (ix2 i j) = O i j) (i : Fin 256) (j : Fin 1) :
    (k2_pay22 v15 : FVec Ideal S256x1 .f32) (ix2 i j) = K 936304918#32 * ∑ x, O i x := by
  unfold k2_pay22; unfold_payloads; pointwise
  try simp only [hv15]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives the sum of the operand's entries. -/
theorem k2_23 (v21 : Vec Ideal S256x128 .f32) (O : Fin 256 → Fin 128 → EReal) (hv21 : ∀ (i : Fin 256) (j : Fin 128), v21 (ix2 i j) = O i j) (i : Fin 256) (j : Fin 1) :
    (k2_pay23 v21 : FVec Ideal S256x1 .f32) (ix2 i j) = K 936304918#32 * ∑ x, O i x := by
  unfold k2_pay23; unfold_payloads; pointwise
  try simp only [hv21]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step adds a chunk's squares of the tokens, by lane, to the running value. -/
theorem k2_26 (arg25 : FVec Ideal S256x128 .f32) (O : Fin 256 → Fin 128 → EReal) (v72 : Vec Ideal S256x512 .bf16) (harg25 : ∀ (i : Fin 256) (j : Fin 128), arg25 (ix2 i j) = O i j) (hv72 : ∀ (i : Fin 256) (j : Fin 512), v72 (ix2 i j) = p.x i (dc k j)) (i : Fin 256) (j : Fin 128) :
    (k2_pay26 arg25 v72 : FVec Ideal S256x128 .f32) (ix2 i j) = O i j + (p.x i (dc k (Fin.ofNat 512 j.val)) * p.x i (dc k (Fin.ofNat 512 j.val)) + p.x i (dc k (Fin.ofNat 512 (128 + j.val))) * p.x i (dc k (Fin.ofNat 512 (128 + j.val))) + p.x i (dc k (Fin.ofNat 512 (256 + j.val))) * p.x i (dc k (Fin.ofNat 512 (256 + j.val))) + p.x i (dc k (Fin.ofNat 512 (384 + j.val))) * p.x i (dc k (Fin.ofNat 512 (384 + j.val)))) := by
  unfold k2_pay26; unfold_payloads; pointwise
  try simp only [harg25, hv72]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives the sum of the operand's entries. -/
theorem k2_27 (v35 : FVec Ideal S256x128 .f32) (O : Fin 256 → Fin 128 → EReal) (hv35 : ∀ (i : Fin 256) (j : Fin 128), v35 (ix2 i j) = O i j) (i : Fin 256) (j : Fin 1) :
    (k2_pay27 v35 : FVec Ideal S256x1 .f32) (ix2 i j) = Ideal.div 1 (Ideal.sqrt (Ideal.div (∑ x, O i x) (K 1166016512#32) + K 925353388#32)) := by
  unfold k2_pay27; unfold_payloads; pointwise
  try simp only [hv35]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body, entry by entry, from its operands' entries. -/
theorem k2_29 (arg27 : FVec Ideal S256x128 .f32) (O : Fin 256 → Fin 128 → EReal) (v166 : FVec Ideal S256x128 .f32) (v167 : FVec Ideal S256x128 .f32) (harg27 : ∀ (i : Fin 256) (j : Fin 128), arg27 (ix2 i j) = O i j) (hv166 : ∀ (i : Fin 256) (j : Fin 128), v166 (ix2 i j) = D1 p i (dc k (Fin.ofNat 512 j.val)) + D1 p i (dc k (Fin.ofNat 512 (128 + j.val))) + D1 p i (dc k (Fin.ofNat 512 (256 + j.val)))) (hv167 : ∀ (i : Fin 256) (j : Fin 128), v167 (ix2 i j) = D1 p i (dc k (Fin.ofNat 512 (384 + j.val)))) (i : Fin 256) (j : Fin 128) :
    (k2_pay29 arg27 v166 v167 : FVec Ideal S256x128 .f32) (ix2 i j) = O i j + (D1 p i (dc k (Fin.ofNat 512 j.val)) + D1 p i (dc k (Fin.ofNat 512 (128 + j.val))) + D1 p i (dc k (Fin.ofNat 512 (256 + j.val))) + D1 p i (dc k (Fin.ofNat 512 (384 + j.val)))) := by
  unfold k2_pay29; unfold_payloads; pointwise
  try simp only [harg27, hv166, hv167]
  try simp only [fin_of_mk]

/-- This step of the body gives the sum of the operand's entries. -/
theorem k2_30 (v47_0 : FVec Ideal S256x128 .f32) (O : Fin 256 → Fin 128 → EReal) (hv47_0 : ∀ (i : Fin 256) (j : Fin 128), v47_0 (ix2 i j) = O i j) (i : Fin 256) (j : Fin 1) :
    (k2_pay30 v47_0 : FVec Ideal S256x1 .f32) (ix2 i j) = K 943817871#32 * ∑ x, O i x := by
  unfold k2_pay30; unfold_payloads; pointwise
  try simp only [hv47_0]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives the sum of the operand's entries. -/
theorem k2_31 (v47_1 : FVec Ideal S256x128 .f32) (O : Fin 256 → Fin 128 → EReal) (hv47_1 : ∀ (i : Fin 256) (j : Fin 128), v47_1 (ix2 i j) = O i j) (i : Fin 256) (j : Fin 1) :
    (k2_pay31 v47_1 : FVec Ideal S256x1 .f32) (ix2 i j) = K 943817871#32 * ∑ x, O i x := by
  unfold k2_pay31; unfold_payloads; pointwise
  try simp only [hv47_1]
  try simp only [fin_of_mk]
  try simp only [P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pR, pC, pr, pc, inA, clipA, D1]

/-- This step of the body gives the sum of the operand's entries. -/
theorem k2_24 (v9 : Vec Ideal S256x128 .f32) (v15 : Vec Ideal S256x128 .f32) (i j : Fin 1) :
    (k2_pay24 v9 v15 : FVec Ideal S1x1 .f32) (ix2 i j) = ∑ t : Fin 256, (K 936304918#32 * ∑ x : Fin 128, v9 (ix2 t x) + K 936304918#32 * ∑ x : Fin 128, v15 (ix2 t x)) := by
  unfold k2_pay24; unfold_payloads; pointwise

/-- This step of the body gives the sum of the operand's entries. -/
theorem k2_32 (v47_0 : FVec Ideal S256x128 .f32) (v47_1 : FVec Ideal S256x128 .f32) (i j : Fin 1) :
    (k2_pay32 v47_0 v47_1 : FVec Ideal S1x1 .f32) (ix2 i j) = ∑ t : Fin 256, (K 943817871#32 * ∑ x : Fin 128, v47_0 (ix2 t x) + K 943817871#32 * ∑ x : Fin 128, v47_1 (ix2 t x)) := by
  unfold k2_pay32; unfold_payloads; pointwise

end Cert.KernelIdeal.At
-- ==== Proof.Ker2.lean ====
module

public import proofs.«01_k».proof.Proof.KerAt2
public import proofs.«01_k».proof.Proof.Ker1
public import proofs.«01_k».proof.Proof.Body0
public import proofs.«01_k».proof.Proof.Values2

/-! What the first and the last call compute, index by index: from buffers that hold the layer's quantities, the layer's results. -/

@[expose] public section

set_option maxRecDepth 16384

noncomputable section

namespace Cert.KernelIdeal.At

open Idealize.ShloMosaic Idealize.ShloMosaic.TcCoe Idealize.ShloMosaic.Tactic
open Cert.KernelIdeal Cert.KernelIdeal.Gen Cert.Spec Cert.Tiles Cert.Sums Cert.KernelIdeal.Body

/-- This starting value is zero everywhere. -/
theorem zero01 (i : Fin 256) (j : Fin 128) : (k0_pay1 : FVec Ideal S256x128 .f32) (ix2 i j) = 0 := by unfold k0_pay1; unfold_payloads; pointwise
/-- This starting value is zero everywhere. -/
theorem zero25 (i : Fin 256) (j : Fin 128) : (k2_pay25 : FVec Ideal S256x128 .f32) (ix2 i j) = 0 := by unfold k2_pay25; unfold_payloads; pointwise
/-- This starting value is zero everywhere. -/
theorem zero28 (i : Fin 256) (j : Fin 128) : (k2_pay28 : FVec Ideal S256x128 .f32) (ix2 i j) = 0 := by unfold k2_pay28; unfold_payloads; pointwise

/-- A block's four groups of 128 columns, and the sum over all of them. -/
def four (G : Fin 4096 → EReal) (k : ℕ) (j : Fin 128) : EReal :=
  G (dc k (Fin.ofNat 512 j.val)) + G (dc k (Fin.ofNat 512 (128 + j.val))) + G (dc k (Fin.ofNat 512 (256 + j.val))) + G (dc k (Fin.ofNat 512 (384 + j.val)))
/-- Eight chunks of four lane groups, summed over lanes, make the whole sum. -/
theorem sum_four (G : Fin 4096 → EReal) : ∑ j : Fin 128, ∑ k ∈ Finset.range 8, four G k j = ∑ d, G d := by
  rw [Finset.sum_comm]
  refine (Finset.sum_congr rfl fun k _ => ?_).trans (blocks 8 512 rfl G)
  exact lanes4 fun y : Fin 512 => G (dc k y)

/-- The first call: the activation's codes and their transpose. -/
theorem ssq_at (p : P) (x : Vec Ideal S256x4096 .bf16) (hx : ∀ (t : Fin 256) (d : Fin 4096), x (ix2 t d) = p.x t d) (k : ℕ) (t : Fin 256) (j : Fin 128) :
    ssq x k (ix2 t j) = ∑ k' ∈ Finset.range k, four (fun d => p.x t d * p.x t d) k' j := by
  induction k generalizing t j with
  | zero => exact (zero01 t j).trans (Finset.sum_range_zero _).symm
  | succ k ih =>
    rw [Finset.sum_range_succ]
    exact k0_2 p k _ (fun t j => ∑ k' ∈ Finset.range k, four (fun d => p.x t d * p.x t d) k' j) _ ih (fun _ _ => hx _ _) t j
/-- The norm call's codes are the normed tokens' codes. -/
theorem c1_at (p : P) (s : Elt Ideal .f32) (x : Vec Ideal S256x4096 .bf16) (w : Vec Ideal S1x4096 .f32) (hs : s = p.s1)
    (hx : ∀ (t : Fin 256) (d : Fin 4096), x (ix2 t d) = p.x t d) (hw : ∀ (i : Fin 1) (d : Fin 4096), w (ix2 i d) = p.nw d) (t : Fin 256) (d : Fin 4096) :
    (colTiles (qBlk s (ssq x 8) x w) : Vec Ideal S256x4096 .fp8e4m3) (ix2 t d) = p.c1 t d := by
  refine colTiles_at _ p.c1 (fun k t j => ?_) t d
  refine (k0_3 p k _ _ _ _ _ hs (ssq_at p x hx 8) (fun _ _ => hx _ _) (fun _ _ => hw _ _) t j).trans ?_
  rw [sum_four]; rfl
/-- The norm call's second result is the codes transposed. -/
theorem ct_at (p : P) (s : Elt Ideal .f32) (x : Vec Ideal S256x4096 .bf16) (w : Vec Ideal S1x4096 .f32) (hs : s = p.s1)
    (hx : ∀ (t : Fin 256) (d : Fin 4096), x (ix2 t d) = p.x t d) (hw : ∀ (i : Fin 1) (d : Fin 4096), w (ix2 i d) = p.nw d) (d : Fin 4096) (t : Fin 256) :
    (rowTiles (qtBlk s (ssq x 8) x w) : Vec Ideal S4096x256 .bf16) (ix2 d t) = p.c1 t d := by
  refine rowTiles_at _ (fun d t => p.c1 t d) (fun k j t => ?_) d t
  refine (k0_4 p k _ _ _ _ _ hs (ssq_at p x hx 8) (fun _ _ => hx _ _) (fun _ _ => hw _ _) j t).trans ?_
  rw [sum_four]; rfl

/-- What the last call reads holds the layer's quantities, the partial sums among them. -/
structure At2 (p : P) (X : In2 Ideal) : Prop where
  s1 : X.s1 = p.s1
  s2 : X.s2 = p.s2
  o : ∀ (t : Fin 256) (d : Fin 4096), X.o (ix2 t d) = p.o t d
  t : ∀ (d : Fin 4096) (t : Fin 256), X.t (ix2 d t) = p.da1 t d
  x : ∀ (t : Fin 256) (d : Fin 4096), X.x (ix2 t d) = p.x t d
  dy : ∀ (t : Fin 256) (d : Fin 4096), X.dy (ix2 t d) = p.dy t d
  g : ∀ (i : Fin 1) (d : Fin 4096), X.g (ix2 i d) = p.nw d
  c1 : ∀ (t : Fin 256) (d : Fin 4096), X.c1 (ix2 t d) = p.c1 t d
  sd : ∀ (i : Fin 1) (d : Fin 4096), X.sd (ix2 i d) = p.sd d
  d8 : ∀ d : Fin 4096, ∑ i : Fin 8, X.d8 (ix2 i d) = ∑ f, p.gwd f d * res (p.vd f d)
  p9 : ∀ t : Fin 256, ∑ j : Fin 128, X.p9 (ix2 t j) = ∑ f, mag (pR p t f)
  p10 : ∀ t : Fin 256, ∑ j : Fin 128, X.p10 (ix2 t j) = ∑ f, pC p t f
  p11 : ∀ t : Fin 256, ∑ j : Fin 128, X.p11 (ix2 t j) = ∑ f, pR p t f

namespace At2

variable {p : P} {X : In2 Ideal} (h : At2 p X)
include h

/-- This value of the body is the tokens. -/
theorem bx (k : ℕ) (i : Fin 256) (j : Fin 512) : X.bx k (ix2 i j) = p.x i (dc k j) := h.x _ _
/-- This value of the body is the output's gradient. -/
theorem bdy (k : ℕ) (i : Fin 256) (j : Fin 512) : X.bdy k (ix2 i j) = p.dy i (dc k j) := h.dy _ _
/-- This value of the body is the down projection's product of codes. -/
theorem bo (k : ℕ) (i : Fin 256) (j : Fin 512) : X.bo k (ix2 i j) = p.o i (dc k j) := h.o _ _
/-- This value of the body is the normed tokens' codes. -/
theorem bc (k : ℕ) (i : Fin 256) (j : Fin 512) : X.bc k (ix2 i j) = p.c1 i (dc k j) := h.c1 _ _
/-- This value of the body is the norm's weight. -/
theorem bg (k : ℕ) (i : Fin 1) (j : Fin 512) : X.bg k (ix2 i j) = p.nw (dc k j) := h.g _ _
/-- This value of the body is the down projection's steps. -/
theorem bsd (k : ℕ) (i : Fin 1) (j : Fin 512) : X.bsd k (ix2 i j) = p.sd (dc k j) := h.sd _ _
/-- This value of the body is the normed tokens' gradient. -/
theorem bt (k : ℕ) (i : Fin 512) (j : Fin 256) : X.bt k (ix2 i j) = p.da1 j (dc k i) := (rowBlk_full _ _ _ _).trans (h.t _ _)

/-- The reciprocal root of the mean square. -/
theorem sq (k : ℕ) (t : Fin 256) (j : Fin 128) : X.sq k (ix2 t j) = ∑ k' ∈ Finset.range k, four (fun d => p.x t d * p.x t d) k' j := by
  induction k generalizing t j with
  | zero => exact (zero25 t j).trans (Finset.sum_range_zero _).symm
  | succ k ih =>
    rw [Finset.sum_range_succ]
    exact k2_26 p k _ (fun t j => ∑ k' ∈ Finset.range k, four (fun d => p.x t d * p.x t d) k' j) _ ih (h.bx k) t j
/-- This value of the body is the reciprocal root of the mean square. -/
theorem v44 (t : Fin 256) (i : Fin 1) : X.v44 (ix2 t i) = p.r t := by
  refine (k2_27 _ _ (h.sq 8) t i).trans ?_
  rw [sum_four]; rfl
/-- This value of the body is the normed tokens' gradient let through inside the range. -/
theorem v106 (k : ℕ) (t : Fin 256) (j : Fin 512) : X.v106 k (ix2 t j) = p.dn t (dc k j) :=
  k2_10 p k _ _ _ _ _ h.s1 h.v44 (h.bx k) (h.bg k) (h.bt k) t j
/-- The output, the norm weight's gradient, and the gradient before the norm. -/
theorem y (t : Fin 256) (d : Fin 4096) : X.y (ix2 t d) = p.y t d :=
  colTiles_at _ p.y (fun k => k2_5 p k _ _ _ _ h.s2 (h.bx k) (h.bo k) (h.bsd k)) t d
/-- This value of the body is the norm weight's gradient. -/
theorem dg (i : Fin 1) (d : Fin 4096) : X.dg (ix2 i d) = p.dnw d :=
  colTiles_at _ (fun _ d => p.dnw d) (fun k => k2_15 p k _ _ _ h.v44 (k2_3 p k _ (h.bx k)) (h.v106 k)) i d
/-- This value of the body is the gradient times the norm's weight. -/
theorem dh (t : Fin 256) (d : Fin 4096) : X.dh (ix2 t d) = p.dh t d :=
  colTiles_at _ p.dh (fun k => k2_17 p k _ _ (k2_4 p k _ (h.bg k)) (h.v106 k)) t d
/-- The three partial sums. -/
theorem acc (k : ℕ) : (∀ (t : Fin 256) (j : Fin 128), (X.acc k).1 (ix2 t j) = ∑ k' ∈ Finset.range k, four (R1 p t) k' j) ∧
    (∀ (t : Fin 256) (j : Fin 128), (X.acc k).2.1 (ix2 t j) = ∑ k' ∈ Finset.range k, four (C1 p t) k' j) ∧
    ∀ (t : Fin 256) (j : Fin 128), (X.acc k).2.2 (ix2 t j) = ∑ k' ∈ Finset.range k, four (D1 p t) k' j := by
  induction k with
  | zero => exact ⟨fun t j => (zero28 t j).trans (Finset.sum_range_zero _).symm, fun t j => (zero28 t j).trans (Finset.sum_range_zero _).symm,
      fun t j => (zero28 t j).trans (Finset.sum_range_zero _).symm⟩
  | succ k ih =>
    obtain ⟨h1, h2, h3⟩ := ih
    refine ⟨fun t j => ?_, fun t j => ?_, fun t j => ?_⟩ <;> rw [Finset.sum_range_succ]
    · exact k2_13 p k _ (fun t j => ∑ k' ∈ Finset.range k, four (R1 p t) k' j) _ _ h1
        (k2_11 p k _ _ _ _ _ _ h.s1 h.v44 (h.bx k) (h.bg k) (h.bt k) (h.bc k)) (k2_12 p k _ _ _ _ _ _ h.s1 h.v44 (h.bx k) (h.bg k) (h.bt k) (h.bc k)) t j
    · exact k2_14 p k _ (fun t j => ∑ k' ∈ Finset.range k, four (C1 p t) k' j) _ _ _ h2
        (k2_6 p k _ (h.bt k)) (k2_7 p k _ _ _ _ h.s1 h.v44 (h.bx k) (h.bg k)) (k2_8 p k _ _ _ _ h.s1 h.v44 (h.bx k) (h.bg k)) t j
    · exact k2_29 p k _ (fun t j => ∑ k' ∈ Finset.range k, four (D1 p t) k' j) _ _ h3
        (k2_19 p k _ _ _ (k2_3 p k _ (h.bx k)) (k2_4 p k _ (h.bg k)) (h.v106 k)) (k2_20 p k _ _ _ (k2_3 p k _ (h.bx k)) (k2_4 p k _ (h.bg k)) (h.v106 k)) t j
/-- The rounding accumulator summed over lanes is the whole rounding sum. -/
theorem sR (t : Fin 256) : ∑ j : Fin 128, (X.acc 8).1 (ix2 t j) = ∑ d, R1 p t d := (Finset.sum_congr rfl fun j _ => (h.acc 8).1 t j).trans (sum_four _)
/-- The clipping accumulator summed over lanes is the whole clipping sum. -/
theorem sC (t : Fin 256) : ∑ j : Fin 128, (X.acc 8).2.1 (ix2 t j) = ∑ d, C1 p t d := (Finset.sum_congr rfl fun j _ => (h.acc 8).2.1 t j).trans (sum_four _)
/-- The steps' gradients. -/
theorem o16 (t : Fin 256) (i : Fin 1) : X.o16 (ix2 t i) = p.rnd1 t := by
  refine (k2_30 _ _ (h.acc 8).1 t i).trans ?_
  rw [sum_four]; rfl
/-- This value of the body is each token's clipping part of the first step's gradient. -/
theorem o17 (t : Fin 256) (i : Fin 1) : X.o17 (ix2 t i) = p.clp1 t := by
  refine (k2_31 _ _ (h.acc 8).2.1 t i).trans ?_
  rw [sum_four]; rfl
/-- This value of the body is the first activation step's gradient. -/
theorem ds (i j : Fin 1) : X.ds (ix2 i j) = p.dsa1 := by
  refine (k2_32 _ _ i j).trans ?_
  simp only [h.sR, h.sC]; rfl
/-- This value of the body is the second activation step's gradient. -/
theorem v31 (i j : Fin 1) : X.v31 (ix2 i j) = p.dsa2 := by
  refine (k2_24 _ _ i j).trans ?_
  simp only [h.p11, h.p10]; rfl
/-- This value of the body is the down steps' gradient. -/
theorem o14 (i : Fin 1) (d : Fin 4096) : X.o14 (ix2 i d) = p.dsd d := by
  refine (k2_21 _ (fun i d => X.d8 (ix2 i d)) (fun _ _ => rfl) i d).trans ?_
  rw [h.d8]; rfl
/-- This value of the body is each token's sum of magnitudes of the second step's rounding part. -/
theorem o19 (t : Fin 256) (i : Fin 1) : X.o19 (ix2 t i) = p.abs2 t := by
  refine (k2_23 _ (fun t j => X.p9 (ix2 t j)) (fun _ _ => rfl) t i).trans ?_
  rw [h.p9]; rfl
/-- This value of the body is each token's clipping part of the second step's gradient. -/
theorem o20 (t : Fin 256) (i : Fin 1) : X.o20 (ix2 t i) = p.clp2 t := by
  refine (k2_22 _ (fun t j => X.p10 (ix2 t j)) (fun _ _ => rfl) t i).trans ?_
  rw [h.p10]; rfl
/-- The norm's product and the input's gradient. -/
theorem o22 (t : Fin 256) (i : Fin 1) : X.o22 (ix2 t i) = p.dot t := by
  refine (k2_1 p _ _ _ h.v44 (h.acc 8).2.2 t i).trans ?_
  rw [sum_four]; rfl
/-- This value of the body is the tokens' gradient. -/
theorem dx (t : Fin 256) (d : Fin 4096) : X.dx (ix2 t d) = p.dx t d := by
  refine colTiles_at _ p.dx (fun k t j => ?_) t d
  refine (k2_2 p k _ _ _ _ _ _ h.v44 (h.acc 8).2.2 (h.bx k) (fun _ _ => h.dh _ _) (h.bdy k) t j).trans ?_
  rw [sum_four]; rfl

end At2

end Cert.KernelIdeal.At
-- ==== Proof.KerArr.lean ====
module

public import proofs.«01_k».proof.Proof.KerSum
public import proofs.«01_k».proof.Proof.Ker2
public import proofs.«01_k».proof.Proof.Region0
public import proofs.«01_k».proof.Proof.Region2
public import Idealize.ShloMosaic.Lib.Pipeline.ValueKit

/-! From arrays that hold the layer's quantities to the blocks that the three calls read, and from what the calls leave in
their blocks to their result arrays. -/

@[expose] public section

set_option maxRecDepth 16384

noncomputable section

namespace Cert.KernelIdeal.At

open Idealize.ShloMosaic Idealize.ShloMosaic.TcCoe Idealize.ShloMosaic.Tactic
open Cert.KernelIdeal Cert.KernelIdeal.Gen Cert.Spec Cert.Tiles Cert.Sums Cert.KernelIdeal.Body Cert.KernelIdeal.Run

variable {p : P} {V : (c : Dev nD) → (b : Ref sig .tc) → Buf (Elt Ideal) ((c : Thread nD τ).loc b)} {c : Dev nD}

/-- An array of numbers, as a vector. -/
abbrev vw (s : Shape) (x : Vec Ideal s .f32) : Vec Ideal s .f32 := x

/-- Sums of equal numbers. -/
theorem vsum {n : ℕ} {a b : Fin n → EReal} (h : ∀ i, a i = b i) : ∑ i, a i = ∑ i, b i := Finset.sum_congr rfl fun i _ => h i

/-- The main call has 56 grid steps. -/
theorem pt1 (t : Fin cfg1.N) : t.val < 56 := lt_of_lt_of_eq t.isLt (show cfg1.N = 56 from N_1)
/-- An index of a matrix is its two parts. -/
theorem ixEta {r c : ℕ} (y : (Sh r c).Idx) : y = ix2 (n0 := r) (n1 := c) (y 0) (y 1) := by
  funext a; match a with | ⟨0, _⟩ => rfl | ⟨1, _⟩ => rfl

/-- The blocks that the calls read, index by index. -/
theorem idx0_0 : ∀ t : Fin cfg0.N, win0_0.index t 0 = 0 := (by decide +kernel : ∀ t : Fin grid0.N, _)
/-- The block that window 0 of the norm call reads, as entries of its array. -/
theorem rd0_0 (t : Fin cfg0.N) (i : Fin 2) : (iblk0 V c 0 t : Vec Ideal S2 .f32) (ix1 i) = (V c main_v5 : Vec Ideal S2 .f32) (ix1 i) := by
  unfold iblk0
  rw [View.read_apply]
  refine congrArg (V c main_v5 : Vec Ideal S2 .f32) ?_
  funext a; apply Fin.ext
  match a with
  | ⟨0, _⟩ => show win0_0.index t 0 * 2 + 1 * i.val = i.val; rw [idx0_0]; omega
/-- Where the block of window 1 of the norm call begins at each grid step. -/
theorem idx0_1 : ∀ t : Fin cfg0.N, win0_1.index t = ![0, 0] := (by decide +kernel : ∀ t : Fin grid0.N, _)
/-- The block that window 1 of the norm call reads, as entries of its array. -/
theorem rd0_1 (t : Fin cfg0.N) (i : Fin 256) (j : Fin 4096) :
    (iblk0 V c 1 t : Vec Ideal S256x4096 .bf16) (ix2 i j) = (V c main_v0 : Vec Ideal S256x4096 .bf16) (ix2 i j) := by
  unfold iblk0
  rw [View.read_apply]
  refine congrArg (V c main_v0 : Vec Ideal S256x4096 .bf16) ?_
  funext a; apply Fin.ext
  match a with
  | ⟨0, _⟩ => show win0_1.index t 0 * 256 + 1 * i.val = i.val; rw [idx0_1]; show 0 * 256 + _ = _; omega
  | ⟨1, _⟩ => show win0_1.index t 1 * 4096 + 1 * j.val = j.val; rw [idx0_1]; show 0 * 4096 + _ = _; omega
/-- Where the block of window 2 of the norm call begins at each grid step. -/
theorem idx0_2 : ∀ t : Fin cfg0.N, win0_2.index t = ![0, 0] := (by decide +kernel : ∀ t : Fin grid0.N, _)
/-- The block that window 2 of the norm call reads, as entries of its array. -/
theorem rd0_2 (t : Fin cfg0.N) (i : Fin 1) (j : Fin 4096) :
    (iblk0 V c 2 t : Vec Ideal S1x4096 .f32) (ix2 i j) = (V c main_v2 : Vec Ideal S1x4096 .f32) (ix2 i j) := by
  unfold iblk0
  rw [View.read_apply]
  refine congrArg (V c main_v2 : Vec Ideal S1x4096 .f32) ?_
  funext a; apply Fin.ext
  match a with
  | ⟨0, _⟩ => show win0_2.index t 0 * 1 + 1 * i.val = i.val; rw [idx0_2]; show 0 * 1 + _ = _; omega
  | ⟨1, _⟩ => show win0_2.index t 1 * 4096 + 1 * j.val = j.val; rw [idx0_2]; show 0 * 4096 + _ = _; omega
/-- Where the block of window 0 of the main call begins at each grid step. -/
theorem idx1_0 : ∀ t : Fin cfg1.N, win1_0.index t 0 = 0 := (by decide +kernel : ∀ t : Fin grid1.N, _)
/-- The block that window 0 of the main call reads, as entries of its array. -/
theorem rd1_0 (t : Fin cfg1.N) (i : Fin 2) : (iblk1 V c 0 t : Vec Ideal S2 .f32) (ix1 i) = (V c main_v5 : Vec Ideal S2 .f32) (ix1 i) := by
  unfold iblk1
  rw [View.read_apply]
  refine congrArg (V c main_v5 : Vec Ideal S2 .f32) ?_
  funext a; apply Fin.ext
  match a with
  | ⟨0, _⟩ => show win1_0.index t 0 * 2 + 1 * i.val = i.val; rw [idx1_0]; omega
/-- Where the block of window 1 of the main call begins at each grid step. -/
theorem idx1_1 : ∀ t : Fin cfg1.N, win1_1.index t = ![0, 0] := (by decide +kernel : ∀ t : Fin grid1.N, _)
/-- The block that window 1 of the main call reads, as entries of its array. -/
theorem rd1_1 (t : Fin cfg1.N) (i : Fin 256) (j : Fin 4096) :
    (iblk1 V c 1 t : Vec Ideal S256x4096 .fp8e4m3) (ix2 i j) = (V c main_v9_0 : Vec Ideal S256x4096 .fp8e4m3) (ix2 i j) := by
  have hN := pt1 t
  unfold iblk1
  rw [View.read_apply]
  refine congrArg (V c main_v9_0 : Vec Ideal S256x4096 .fp8e4m3) ?_
  funext a; apply Fin.ext
  match a with
  | ⟨0, _⟩ => show win1_1.index t 0 * 256 + 1 * i.val = i.val; rw [idx1_1]; show 0 * 256 + _ = _; omega
  | ⟨1, _⟩ => show win1_1.index t 1 * 4096 + 1 * j.val = j.val; rw [idx1_1]; show 0 * 4096 + _ = _; omega
/-- Where the block of window 2 of the main call begins at each grid step. -/
theorem idx1_2 : ∀ t : Fin cfg1.N, win1_2.index t = ![0, 0] := (by decide +kernel : ∀ t : Fin grid1.N, _)
/-- The block that window 2 of the main call reads, as entries of its array. -/
theorem rd1_2 (t : Fin cfg1.N) (i : Fin 4096) (j : Fin 256) :
    (iblk1 V c 2 t : Vec Ideal S4096x256 .bf16) (ix2 i j) = (V c main_v9_1 : Vec Ideal S4096x256 .bf16) (ix2 i j) := by
  have hN := pt1 t
  unfold iblk1
  rw [View.read_apply]
  refine congrArg (V c main_v9_1 : Vec Ideal S4096x256 .bf16) ?_
  funext a; apply Fin.ext
  match a with
  | ⟨0, _⟩ => show win1_2.index t 0 * 4096 + 1 * i.val = i.val; rw [idx1_2]; show 0 * 4096 + _ = _; omega
  | ⟨1, _⟩ => show win1_2.index t 1 * 256 + 1 * j.val = j.val; rw [idx1_2]; show 0 * 256 + _ = _; omega
/-- Where the block of window 3 of the main call begins at each grid step. -/
theorem idx1_3 : ∀ t : Fin cfg1.N, win1_3.index t = ![0, 0] := (by decide +kernel : ∀ t : Fin grid1.N, _)
/-- The block that window 3 of the main call reads, as entries of its array. -/
theorem rd1_3 (t : Fin cfg1.N) (i : Fin 256) (j : Fin 4096) :
    (iblk1 V c 3 t : Vec Ideal S256x4096 .bf16) (ix2 i j) = (V c main_v1 : Vec Ideal S256x4096 .bf16) (ix2 i j) := by
  have hN := pt1 t
  unfold iblk1
  rw [View.read_apply]
  refine congrArg (V c main_v1 : Vec Ideal S256x4096 .bf16) ?_
  funext a; apply Fin.ext
  match a with
  | ⟨0, _⟩ => show win1_3.index t 0 * 256 + 1 * i.val = i.val; rw [idx1_3]; show 0 * 256 + _ = _; omega
  | ⟨1, _⟩ => show win1_3.index t 1 * 4096 + 1 * j.val = j.val; rw [idx1_3]; show 0 * 4096 + _ = _; omega
/-- Where the block of window 4 of the main call begins at each grid step. -/
theorem idx1_4 : ∀ t : Fin cfg1.N, win1_4.index t = ![0, t.val] := (by decide +kernel : ∀ t : Fin grid1.N, _)
/-- The block that window 4 of the main call reads, as entries of its array. -/
theorem rd1_4 (t : Fin cfg1.N) (i : Fin 4096) (j : Fin 256) :
    (iblk1 V c 4 t : Vec Ideal S4096x256 .bf16) (ix2 i j) = (V c main_arg3 : Vec Ideal S4096x14336 .bf16) (ix2 i (fc t.val j)) := by
  have hN := pt1 t
  unfold iblk1
  rw [View.read_apply]
  refine congrArg (V c main_arg3 : Vec Ideal S4096x14336 .bf16) ?_
  funext a; apply Fin.ext
  match a with
  | ⟨0, _⟩ => show win1_4.index t 0 * 4096 + 1 * i.val = i.val; rw [idx1_4]; show 0 * 4096 + _ = _; omega
  | ⟨1, _⟩ => show win1_4.index t 1 * 256 + 1 * j.val = (256 * t.val + j.val) % 14336; rw [idx1_4]; show t.val * 256 + _ = _; omega
/-- Where the block of window 5 of the main call begins at each grid step. -/
theorem idx1_5 : ∀ t : Fin cfg1.N, win1_5.index t = ![0, t.val] := (by decide +kernel : ∀ t : Fin grid1.N, _)
/-- The block that window 5 of the main call reads, as entries of its array. -/
theorem rd1_5 (t : Fin cfg1.N) (i : Fin 4096) (j : Fin 256) :
    (iblk1 V c 5 t : Vec Ideal S4096x256 .bf16) (ix2 i j) = (V c main_arg4 : Vec Ideal S4096x14336 .bf16) (ix2 i (fc t.val j)) := by
  have hN := pt1 t
  unfold iblk1
  rw [View.read_apply]
  refine congrArg (V c main_arg4 : Vec Ideal S4096x14336 .bf16) ?_
  funext a; apply Fin.ext
  match a with
  | ⟨0, _⟩ => show win1_5.index t 0 * 4096 + 1 * i.val = i.val; rw [idx1_5]; show 0 * 4096 + _ = _; omega
  | ⟨1, _⟩ => show win1_5.index t 1 * 256 + 1 * j.val = (256 * t.val + j.val) % 14336; rw [idx1_5]; show t.val * 256 + _ = _; omega
/-- Where the block of window 6 of the main call begins at each grid step. -/
theorem idx1_6 : ∀ t : Fin cfg1.N, win1_6.index t = ![t.val, 0] := (by decide +kernel : ∀ t : Fin grid1.N, _)
/-- The block that window 6 of the main call reads, as entries of its array. -/
theorem rd1_6 (t : Fin cfg1.N) (i : Fin 256) (j : Fin 4096) :
    (iblk1 V c 6 t : Vec Ideal S256x4096 .bf16) (ix2 i j) = (V c main_arg5 : Vec Ideal S14336x4096 .bf16) (ix2 (fc t.val i) j) := by
  have hN := pt1 t
  unfold iblk1
  rw [View.read_apply]
  refine congrArg (V c main_arg5 : Vec Ideal S14336x4096 .bf16) ?_
  funext a; apply Fin.ext
  match a with
  | ⟨0, _⟩ => show win1_6.index t 0 * 256 + 1 * i.val = (256 * t.val + i.val) % 14336; rw [idx1_6]; show t.val * 256 + _ = _; omega
  | ⟨1, _⟩ => show win1_6.index t 1 * 4096 + 1 * j.val = j.val; rw [idx1_6]; show 0 * 4096 + _ = _; omega
/-- Where the block of window 7 of the main call begins at each grid step. -/
theorem idx1_7 : ∀ t : Fin cfg1.N, win1_7.index t = ![0, t.val] := (by decide +kernel : ∀ t : Fin grid1.N, _)
/-- The block that window 7 of the main call reads, as entries of its array. -/
theorem rd1_7 (t : Fin cfg1.N) (i : Fin 1) (j : Fin 256) :
    (iblk1 V c 7 t : Vec Ideal S1x256 .f32) (ix2 i j) = (V c main_v6 : Vec Ideal S1x14336 .f32) (ix2 i (fc t.val j)) := by
  have hN := pt1 t
  unfold iblk1
  rw [View.read_apply]
  refine congrArg (V c main_v6 : Vec Ideal S1x14336 .f32) ?_
  funext a; apply Fin.ext
  match a with
  | ⟨0, _⟩ => show win1_7.index t 0 * 1 + 1 * i.val = i.val; rw [idx1_7]; show 0 * 1 + _ = _; omega
  | ⟨1, _⟩ => show win1_7.index t 1 * 256 + 1 * j.val = (256 * t.val + j.val) % 14336; rw [idx1_7]; show t.val * 256 + _ = _; omega
/-- Where the block of window 8 of the main call begins at each grid step. -/
theorem idx1_8 : ∀ t : Fin cfg1.N, win1_8.index t = ![0, t.val] := (by decide +kernel : ∀ t : Fin grid1.N, _)
/-- The block that window 8 of the main call reads, as entries of its array. -/
theorem rd1_8 (t : Fin cfg1.N) (i : Fin 1) (j : Fin 256) :
    (iblk1 V c 8 t : Vec Ideal S1x256 .f32) (ix2 i j) = (V c main_v7 : Vec Ideal S1x14336 .f32) (ix2 i (fc t.val j)) := by
  have hN := pt1 t
  unfold iblk1
  rw [View.read_apply]
  refine congrArg (V c main_v7 : Vec Ideal S1x14336 .f32) ?_
  funext a; apply Fin.ext
  match a with
  | ⟨0, _⟩ => show win1_8.index t 0 * 1 + 1 * i.val = i.val; rw [idx1_8]; show 0 * 1 + _ = _; omega
  | ⟨1, _⟩ => show win1_8.index t 1 * 256 + 1 * j.val = (256 * t.val + j.val) % 14336; rw [idx1_8]; show t.val * 256 + _ = _; omega
/-- Where the block of window 9 of the main call begins at each grid step. -/
theorem idx1_9 : ∀ t : Fin cfg1.N, win1_9.index t = ![0, 0] := (by decide +kernel : ∀ t : Fin grid1.N, _)
/-- The block that window 9 of the main call reads, as entries of its array. -/
theorem rd1_9 (t : Fin cfg1.N) (i : Fin 1) (j : Fin 4096) :
    (iblk1 V c 9 t : Vec Ideal S1x4096 .f32) (ix2 i j) = (V c main_v8 : Vec Ideal S1x4096 .f32) (ix2 i j) := by
  have hN := pt1 t
  unfold iblk1
  rw [View.read_apply]
  refine congrArg (V c main_v8 : Vec Ideal S1x4096 .f32) ?_
  funext a; apply Fin.ext
  match a with
  | ⟨0, _⟩ => show win1_9.index t 0 * 1 + 1 * i.val = i.val; rw [idx1_9]; show 0 * 1 + _ = _; omega
  | ⟨1, _⟩ => show win1_9.index t 1 * 4096 + 1 * j.val = j.val; rw [idx1_9]; show 0 * 4096 + _ = _; omega
/-- Where the block of window 0 of the last call begins at each grid step. -/
theorem idx2_0 : ∀ t : Fin cfg2.N, win2_0.index t 0 = 0 := (by decide +kernel : ∀ t : Fin grid2.N, _)
/-- The block that window 0 of the last call reads, as entries of its array. -/
theorem rd2_0 (t : Fin cfg2.N) (i : Fin 2) : (iblk2 V c 0 t : Vec Ideal S2 .f32) (ix1 i) = (V c main_v5 : Vec Ideal S2 .f32) (ix1 i) := by
  unfold iblk2
  rw [View.read_apply]
  refine congrArg (V c main_v5 : Vec Ideal S2 .f32) ?_
  funext a; apply Fin.ext
  match a with
  | ⟨0, _⟩ => show win2_0.index t 0 * 2 + 1 * i.val = i.val; rw [idx2_0]; omega
/-- Where the block of window 1 of the last call begins at each grid step. -/
theorem idx2_1 : ∀ t : Fin cfg2.N, win2_1.index t = ![0, 0] := (by decide +kernel : ∀ t : Fin grid2.N, _)
/-- The block that window 1 of the last call reads, as entries of its array. -/
theorem rd2_1 (t : Fin cfg2.N) (i : Fin 256) (j : Fin 4096) :
    (iblk2 V c 1 t : Vec Ideal S256x4096 .f32) (ix2 i j) = (V c main_v10_9 : Vec Ideal S256x4096 .f32) (ix2 i j) := by
  unfold iblk2
  rw [View.read_apply]
  refine congrArg (V c main_v10_9 : Vec Ideal S256x4096 .f32) ?_
  funext a; apply Fin.ext
  match a with
  | ⟨0, _⟩ => show win2_1.index t 0 * 256 + 1 * i.val = i.val; rw [idx2_1]; show 0 * 256 + _ = _; omega
  | ⟨1, _⟩ => show win2_1.index t 1 * 4096 + 1 * j.val = j.val; rw [idx2_1]; show 0 * 4096 + _ = _; omega
/-- Where the block of window 2 of the last call begins at each grid step. -/
theorem idx2_2 : ∀ t : Fin cfg2.N, win2_2.index t = ![0, 0] := (by decide +kernel : ∀ t : Fin grid2.N, _)
/-- The block that window 2 of the last call reads, as entries of its array. -/
theorem rd2_2 (t : Fin cfg2.N) (i : Fin 4096) (j : Fin 256) :
    (iblk2 V c 2 t : Vec Ideal S4096x256 .f32) (ix2 i j) = (V c main_v10_10 : Vec Ideal S4096x256 .f32) (ix2 i j) := by
  unfold iblk2
  rw [View.read_apply]
  refine congrArg (V c main_v10_10 : Vec Ideal S4096x256 .f32) ?_
  funext a; apply Fin.ext
  match a with
  | ⟨0, _⟩ => show win2_2.index t 0 * 4096 + 1 * i.val = i.val; rw [idx2_2]; show 0 * 4096 + _ = _; omega
  | ⟨1, _⟩ => show win2_2.index t 1 * 256 + 1 * j.val = j.val; rw [idx2_2]; show 0 * 256 + _ = _; omega
/-- Where the block of window 3 of the last call begins at each grid step. -/
theorem idx2_3 : ∀ t : Fin cfg2.N, win2_3.index t = ![0, 0] := (by decide +kernel : ∀ t : Fin grid2.N, _)
/-- The block that window 3 of the last call reads, as entries of its array. -/
theorem rd2_3 (t : Fin cfg2.N) (i : Fin 256) (j : Fin 4096) :
    (iblk2 V c 3 t : Vec Ideal S256x4096 .bf16) (ix2 i j) = (V c main_v0 : Vec Ideal S256x4096 .bf16) (ix2 i j) := by
  unfold iblk2
  rw [View.read_apply]
  refine congrArg (V c main_v0 : Vec Ideal S256x4096 .bf16) ?_
  funext a; apply Fin.ext
  match a with
  | ⟨0, _⟩ => show win2_3.index t 0 * 256 + 1 * i.val = i.val; rw [idx2_3]; show 0 * 256 + _ = _; omega
  | ⟨1, _⟩ => show win2_3.index t 1 * 4096 + 1 * j.val = j.val; rw [idx2_3]; show 0 * 4096 + _ = _; omega
/-- Where the block of window 4 of the last call begins at each grid step. -/
theorem idx2_4 : ∀ t : Fin cfg2.N, win2_4.index t = ![0, 0] := (by decide +kernel : ∀ t : Fin grid2.N, _)
/-- The block that window 4 of the last call reads, as entries of its array. -/
theorem rd2_4 (t : Fin cfg2.N) (i : Fin 256) (j : Fin 4096) :
    (iblk2 V c 4 t : Vec Ideal S256x4096 .bf16) (ix2 i j) = (V c main_v1 : Vec Ideal S256x4096 .bf16) (ix2 i j) := by
  unfold iblk2
  rw [View.read_apply]
  refine congrArg (V c main_v1 : Vec Ideal S256x4096 .bf16) ?_
  funext a; apply Fin.ext
  match a with
  | ⟨0, _⟩ => show win2_4.index t 0 * 256 + 1 * i.val = i.val; rw [idx2_4]; show 0 * 256 + _ = _; omega
  | ⟨1, _⟩ => show win2_4.index t 1 * 4096 + 1 * j.val = j.val; rw [idx2_4]; show 0 * 4096 + _ = _; omega
/-- Where the block of window 5 of the last call begins at each grid step. -/
theorem idx2_5 : ∀ t : Fin cfg2.N, win2_5.index t = ![0, 0] := (by decide +kernel : ∀ t : Fin grid2.N, _)
/-- The block that window 5 of the last call reads, as entries of its array. -/
theorem rd2_5 (t : Fin cfg2.N) (i : Fin 1) (j : Fin 4096) :
    (iblk2 V c 5 t : Vec Ideal S1x4096 .f32) (ix2 i j) = (V c main_v2 : Vec Ideal S1x4096 .f32) (ix2 i j) := by
  unfold iblk2
  rw [View.read_apply]
  refine congrArg (V c main_v2 : Vec Ideal S1x4096 .f32) ?_
  funext a; apply Fin.ext
  match a with
  | ⟨0, _⟩ => show win2_5.index t 0 * 1 + 1 * i.val = i.val; rw [idx2_5]; show 0 * 1 + _ = _; omega
  | ⟨1, _⟩ => show win2_5.index t 1 * 4096 + 1 * j.val = j.val; rw [idx2_5]; show 0 * 4096 + _ = _; omega
/-- Where the block of window 6 of the last call begins at each grid step. -/
theorem idx2_6 : ∀ t : Fin cfg2.N, win2_6.index t = ![0, 0] := (by decide +kernel : ∀ t : Fin grid2.N, _)
/-- The block that window 6 of the last call reads, as entries of its array. -/
theorem rd2_6 (t : Fin cfg2.N) (i : Fin 256) (j : Fin 4096) :
    (iblk2 V c 6 t : Vec Ideal S256x4096 .fp8e4m3) (ix2 i j) = (V c main_v9_0 : Vec Ideal S256x4096 .fp8e4m3) (ix2 i j) := by
  unfold iblk2
  rw [View.read_apply]
  refine congrArg (V c main_v9_0 : Vec Ideal S256x4096 .fp8e4m3) ?_
  funext a; apply Fin.ext
  match a with
  | ⟨0, _⟩ => show win2_6.index t 0 * 256 + 1 * i.val = i.val; rw [idx2_6]; show 0 * 256 + _ = _; omega
  | ⟨1, _⟩ => show win2_6.index t 1 * 4096 + 1 * j.val = j.val; rw [idx2_6]; show 0 * 4096 + _ = _; omega
/-- Where the block of window 7 of the last call begins at each grid step. -/
theorem idx2_7 : ∀ t : Fin cfg2.N, win2_7.index t = ![0, 0] := (by decide +kernel : ∀ t : Fin grid2.N, _)
/-- The block that window 7 of the last call reads, as entries of its array. -/
theorem rd2_7 (t : Fin cfg2.N) (i : Fin 1) (j : Fin 4096) :
    (iblk2 V c 7 t : Vec Ideal S1x4096 .f32) (ix2 i j) = (V c main_v8 : Vec Ideal S1x4096 .f32) (ix2 i j) := by
  unfold iblk2
  rw [View.read_apply]
  refine congrArg (V c main_v8 : Vec Ideal S1x4096 .f32) ?_
  funext a; apply Fin.ext
  match a with
  | ⟨0, _⟩ => show win2_7.index t 0 * 1 + 1 * i.val = i.val; rw [idx2_7]; show 0 * 1 + _ = _; omega
  | ⟨1, _⟩ => show win2_7.index t 1 * 4096 + 1 * j.val = j.val; rw [idx2_7]; show 0 * 4096 + _ = _; omega
/-- Where the block of window 8 of the last call begins at each grid step. -/
theorem idx2_8 : ∀ t : Fin cfg2.N, win2_8.index t = ![0, 0] := (by decide +kernel : ∀ t : Fin grid2.N, _)
/-- The block that window 8 of the last call reads, as entries of its array. -/
theorem rd2_8 (t : Fin cfg2.N) (i : Fin 8) (j : Fin 4096) :
    (iblk2 V c 8 t : Vec Ideal S8x4096 .f32) (ix2 i j) = (V c main_v10_11 : Vec Ideal S8x4096 .f32) (ix2 i j) := by
  unfold iblk2
  rw [View.read_apply]
  refine congrArg (V c main_v10_11 : Vec Ideal S8x4096 .f32) ?_
  funext a; apply Fin.ext
  match a with
  | ⟨0, _⟩ => show win2_8.index t 0 * 8 + 1 * i.val = i.val; rw [idx2_8]; show 0 * 8 + _ = _; omega
  | ⟨1, _⟩ => show win2_8.index t 1 * 4096 + 1 * j.val = j.val; rw [idx2_8]; show 0 * 4096 + _ = _; omega
/-- Where the block of window 9 of the last call begins at each grid step. -/
theorem idx2_9 : ∀ t : Fin cfg2.N, win2_9.index t = ![0, 0] := (by decide +kernel : ∀ t : Fin grid2.N, _)
/-- The block that window 9 of the last call reads, as entries of its array. -/
theorem rd2_9 (t : Fin cfg2.N) (i : Fin 256) (j : Fin 128) :
    (iblk2 V c 9 t : Vec Ideal S256x128 .f32) (ix2 i j) = (V c main_v10_12 : Vec Ideal S256x128 .f32) (ix2 i j) := by
  unfold iblk2
  rw [View.read_apply]
  refine congrArg (V c main_v10_12 : Vec Ideal S256x128 .f32) ?_
  funext a; apply Fin.ext
  match a with
  | ⟨0, _⟩ => show win2_9.index t 0 * 256 + 1 * i.val = i.val; rw [idx2_9]; show 0 * 256 + _ = _; omega
  | ⟨1, _⟩ => show win2_9.index t 1 * 128 + 1 * j.val = j.val; rw [idx2_9]; show 0 * 128 + _ = _; omega
/-- Where the block of window 10 of the last call begins at each grid step. -/
theorem idx2_10 : ∀ t : Fin cfg2.N, win2_10.index t = ![0, 0] := (by decide +kernel : ∀ t : Fin grid2.N, _)
/-- The block that window 10 of the last call reads, as entries of its array. -/
theorem rd2_10 (t : Fin cfg2.N) (i : Fin 256) (j : Fin 128) :
    (iblk2 V c 10 t : Vec Ideal S256x128 .f32) (ix2 i j) = (V c main_v10_13 : Vec Ideal S256x128 .f32) (ix2 i j) := by
  unfold iblk2
  rw [View.read_apply]
  refine congrArg (V c main_v10_13 : Vec Ideal S256x128 .f32) ?_
  funext a; apply Fin.ext
  match a with
  | ⟨0, _⟩ => show win2_10.index t 0 * 256 + 1 * i.val = i.val; rw [idx2_10]; show 0 * 256 + _ = _; omega
  | ⟨1, _⟩ => show win2_10.index t 1 * 128 + 1 * j.val = j.val; rw [idx2_10]; show 0 * 128 + _ = _; omega
/-- Where the block of window 11 of the last call begins at each grid step. -/
theorem idx2_11 : ∀ t : Fin cfg2.N, win2_11.index t = ![0, 0] := (by decide +kernel : ∀ t : Fin grid2.N, _)
/-- The block that window 11 of the last call reads, as entries of its array. -/
theorem rd2_11 (t : Fin cfg2.N) (i : Fin 256) (j : Fin 128) :
    (iblk2 V c 11 t : Vec Ideal S256x128 .f32) (ix2 i j) = (V c main_v10_14 : Vec Ideal S256x128 .f32) (ix2 i j) := by
  unfold iblk2
  rw [View.read_apply]
  refine congrArg (V c main_v10_14 : Vec Ideal S256x128 .f32) ?_
  funext a; apply Fin.ext
  match a with
  | ⟨0, _⟩ => show win2_11.index t 0 * 256 + 1 * i.val = i.val; rw [idx2_11]; show 0 * 256 + _ = _; omega
  | ⟨1, _⟩ => show win2_11.index t 1 * 128 + 1 * j.val = j.val; rw [idx2_11]; show 0 * 128 + _ = _; omega

/-- The arrays that the main call reads hold the layer's quantities. -/
structure Src1 (p : P) (V : (c : Dev nD) → (b : Ref sig .tc) → Buf (Elt Ideal) ((c : Thread nD τ).loc b)) (c : Dev nD) : Prop where
  s1 : (V c main_v5 : Vec Ideal S2 .f32) (ix1 0) = p.s1
  s2 : (V c main_v5 : Vec Ideal S2 .f32) (ix1 1) = p.s2
  c1 : ∀ (t : Fin 256) (d : Fin 4096), (V c main_v9_0 : Vec Ideal S256x4096 .fp8e4m3) (ix2 t d) = p.c1 t d
  ct : ∀ (d : Fin 4096) (t : Fin 256), (V c main_v9_1 : Vec Ideal S4096x256 .bf16) (ix2 d t) = p.c1 t d
  dy : ∀ (t : Fin 256) (d : Fin 4096), (V c main_v1 : Vec Ideal S256x4096 .bf16) (ix2 t d) = p.dy t d
  wg : ∀ (d : Fin 4096) (f : Fin 14336), (V c main_arg3 : Vec Ideal S4096x14336 .bf16) (ix2 d f) = p.wg d f
  wu : ∀ (d : Fin 4096) (f : Fin 14336), (V c main_arg4 : Vec Ideal S4096x14336 .bf16) (ix2 d f) = p.wu d f
  wd : ∀ (f : Fin 14336) (d : Fin 4096), (V c main_arg5 : Vec Ideal S14336x4096 .bf16) (ix2 f d) = p.wd f d
  sg : ∀ (i : Fin 1) (f : Fin 14336), (V c main_v6 : Vec Ideal S1x14336 .f32) (ix2 i f) = p.sg f
  su : ∀ (i : Fin 1) (f : Fin 14336), (V c main_v7 : Vec Ideal S1x14336 .f32) (ix2 i f) = p.su f
  sd : ∀ (i : Fin 1) (d : Fin 4096), (V c main_v8 : Vec Ideal S1x4096 .f32) (ix2 i d) = p.sd d

/-- So do its blocks. -/
theorem Src1.at1 (h : Src1 p V c) (t : Fin cfg1.N) : At1 p t.val (in1 V c t) where
  s1 := (rd1_0 t 0).trans h.s1
  s2 := (rd1_0 t 1).trans h.s2
  c1 i j := (rd1_1 t i j).trans (h.c1 i j)
  ct i j := (rd1_2 t i j).trans (h.ct i j)
  dy i j := (rd1_3 t i j).trans (h.dy i j)
  wg i j := (rd1_4 t i j).trans (h.wg i _)
  wu i j := (rd1_5 t i j).trans (h.wu i _)
  wd i j := (rd1_6 t i j).trans (h.wd _ j)
  sg i j := (rd1_7 t i j).trans (h.sg i _)
  su i j := (rd1_8 t i j).trans (h.su i _)
  sd i j := (rd1_9 t i j).trans (h.sd i j)

/-- The arrays that the last call reads hold the layer's quantities. -/
structure Src2 (p : P) (V : (c : Dev nD) → (b : Ref sig .tc) → Buf (Elt Ideal) ((c : Thread nD τ).loc b)) (c : Dev nD) : Prop where
  s1 : (V c main_v5 : Vec Ideal S2 .f32) (ix1 0) = p.s1
  s2 : (V c main_v5 : Vec Ideal S2 .f32) (ix1 1) = p.s2
  o : ∀ (t : Fin 256) (d : Fin 4096), (V c main_v10_9 : Vec Ideal S256x4096 .f32) (ix2 t d) = p.o t d
  t : ∀ (d : Fin 4096) (t : Fin 256), (V c main_v10_10 : Vec Ideal S4096x256 .f32) (ix2 d t) = p.da1 t d
  x : ∀ (t : Fin 256) (d : Fin 4096), (V c main_v0 : Vec Ideal S256x4096 .bf16) (ix2 t d) = p.x t d
  dy : ∀ (t : Fin 256) (d : Fin 4096), (V c main_v1 : Vec Ideal S256x4096 .bf16) (ix2 t d) = p.dy t d
  g : ∀ (i : Fin 1) (d : Fin 4096), (V c main_v2 : Vec Ideal S1x4096 .f32) (ix2 i d) = p.nw d
  c1 : ∀ (t : Fin 256) (d : Fin 4096), (V c main_v9_0 : Vec Ideal S256x4096 .fp8e4m3) (ix2 t d) = p.c1 t d
  sd : ∀ (i : Fin 1) (d : Fin 4096), (V c main_v8 : Vec Ideal S1x4096 .f32) (ix2 i d) = p.sd d
  d8 : ∀ d : Fin 4096, ∑ i : Fin 8, vw S8x4096 (V c main_v10_11) (ix2 i d) = ∑ f, p.gwd f d * res (p.vd f d)
  p9 : ∀ t : Fin 256, ∑ j : Fin 128, vw S256x128 (V c main_v10_12) (ix2 t j) = ∑ f, mag (pR p t f)
  p10 : ∀ t : Fin 256, ∑ j : Fin 128, vw S256x128 (V c main_v10_13) (ix2 t j) = ∑ f, pC p t f
  p11 : ∀ t : Fin 256, ∑ j : Fin 128, vw S256x128 (V c main_v10_14) (ix2 t j) = ∑ f, pR p t f

set_option maxHeartbeats 1000000 in
/-- So do its blocks. -/
theorem Src2.at2 (h : Src2 p V c) (t : Fin cfg2.N) : At2 p (in2 V c t) where
  s1 := (rd2_0 t 0).trans h.s1
  s2 := (rd2_0 t 1).trans h.s2
  o i j := (rd2_1 t i j).trans (h.o i j)
  t i j := (rd2_2 t i j).trans (h.t i j)
  x i j := (rd2_3 t i j).trans (h.x i j)
  dy i j := (rd2_4 t i j).trans (h.dy i j)
  g i j := (rd2_5 t i j).trans (h.g i j)
  c1 i j := (rd2_6 t i j).trans (h.c1 i j)
  sd i j := (rd2_7 t i j).trans (h.sd i j)
  d8 d := (vsum fun i => rd2_8 t i d).trans (h.d8 d)
  p9 i := (vsum fun j => rd2_9 t i j).trans (h.p9 i)
  p10 i := (vsum fun j => rd2_10 t i j).trans (h.p10 i)
  p11 i := (vsum fun j => rd2_11 t i j).trans (h.p11 i)

/-- The first call's results: the tokens' codes, and the same transposed. -/
theorem arr0_3 (h1 : (V c main_v5 : Vec Ideal S2 .f32) (ix1 0) = p.s1)
    (hx : ∀ (t : Fin 256) (d : Fin 4096), (V c main_v0 : Vec Ideal S256x4096 .bf16) (ix2 t d) = p.x t d)
    (hw : ∀ (i : Fin 1) (d : Fin 4096), (V c main_v2 : Vec Ideal S1x4096 .f32) (ix2 i d) = p.nw d) (t : Fin 256) (d : Fin 4096) :
    ((dat0 V c).arrAt 3 cfg0.N : Vec Ideal S256x4096 .fp8e4m3) (ix2 t d) = p.c1 t d := by
  refine (congrFun ((dat0 V c).arrAt_eq_of_after_last 3 t0_0 (by decide +kernel)
    (colTiles (qBlk (sc0 (iblk0 V c 0 t0_0)) (ssq (iblk0 V c 1 t0_0) 8) (iblk0 V c 1 t0_0) (iblk0 V c 2 t0_0))) fun j => by rw [after0_3]; rfl) (ix2 t d)).trans ?_
  exact c1_at p _ _ _ ((rd0_0 t0_0 0).trans h1) (fun i j => (rd0_1 t0_0 i j).trans (hx i j)) (fun i j => (rd0_2 t0_0 i j).trans (hw i j)) t d
/-- After the norm call, the array of window 4 holds the normed tokens' codes. -/
theorem arr0_4 (h1 : (V c main_v5 : Vec Ideal S2 .f32) (ix1 0) = p.s1)
    (hx : ∀ (t : Fin 256) (d : Fin 4096), (V c main_v0 : Vec Ideal S256x4096 .bf16) (ix2 t d) = p.x t d)
    (hw : ∀ (i : Fin 1) (d : Fin 4096), (V c main_v2 : Vec Ideal S1x4096 .f32) (ix2 i d) = p.nw d) (d : Fin 4096) (t : Fin 256) :
    ((dat0 V c).arrAt 4 cfg0.N : Vec Ideal S4096x256 .bf16) (ix2 d t) = p.c1 t d := by
  refine (congrFun ((dat0 V c).arrAt_eq_of_after_last 4 t0_0 (by decide +kernel)
    (rowTiles (qtBlk (sc0 (iblk0 V c 0 t0_0)) (ssq (iblk0 V c 1 t0_0) 8) (iblk0 V c 1 t0_0) (iblk0 V c 2 t0_0))) fun j => by rw [after0_4]; rfl) (ix2 d t)).trans ?_
  exact ct_at p _ _ _ ((rd0_0 t0_0 0).trans h1) (fun i j => (rd0_1 t0_0 i j).trans (hx i j)) (fun i j => (rd0_2 t0_0 i j).trans (hw i j)) d t

/-- The main call's results that are written block by block: the gradients of the weights and of their steps, the codes. -/
theorem idx1_10 : ∀ t : Fin cfg1.N, win1_10.index t = ![0, t.val] := (by decide +kernel : ∀ t : Fin grid1.N, _)
/-- After the main call, the array of window 10 holds the gate weights' gradient. -/
theorem arr1_10 (h : ∀ t : Fin cfg1.N, At1 p t.val (in1 V c t)) (nz : NZ p) :
    ((dat1 V c).arrAt 10 cfg1.N : Vec Ideal S4096x14336 .bf16) = fun y => p.dwg (y 0) (y 1) := by
  refine (dat1 V c).arrAt_eq_of_covers 10 (fun y => p.dwg (y 0) (y 1)) (by decide +kernel) fun t _ y => ?_
  have hN := pt1 t
  rw [after1_10]
  have e : ∀ (i : Fin 4096) (j : Fin 256), (in1 V c t).dwg (grid1.coords t) (ix2 i j) = p.dwg i (fc t.val j) := (h t).dwg nz (grid1.coords t)
  show (in1 V c t).dwg (grid1.coords t) y = _
  have y0 : (y 0).val < 4096 := (y 0).isLt
  have y1 : (y 1).val < 256 := (y 1).isLt
  refine (congrArg ((in1 V c t).dwg (grid1.coords t)) (ixEta y)).trans ((e _ _).trans ?_)
  exact congrArg₂ (p.dwg) (Fin.ext (by show (y 0).val = win1_10.index t 0 * 4096 + 1 * (y 0).val; rw [idx1_10]; show _ = 0 * 4096 + _; omega)) (Fin.ext (by show (256 * t.val + (y 1).val) % 14336 = win1_10.index t 1 * 256 + 1 * (y 1).val; rw [idx1_10]; show _ = t.val * 256 + _; omega))
/-- Where the block of window 11 of the main call begins at each grid step. -/
theorem idx1_11 : ∀ t : Fin cfg1.N, win1_11.index t = ![0, t.val] := (by decide +kernel : ∀ t : Fin grid1.N, _)
/-- After the main call, the array of window 11 holds the up weights' gradient. -/
theorem arr1_11 (h : ∀ t : Fin cfg1.N, At1 p t.val (in1 V c t)) (nz : NZ p) :
    ((dat1 V c).arrAt 11 cfg1.N : Vec Ideal S4096x14336 .bf16) = fun y => p.dwu (y 0) (y 1) := by
  refine (dat1 V c).arrAt_eq_of_covers 11 (fun y => p.dwu (y 0) (y 1)) (by decide +kernel) fun t _ y => ?_
  have hN := pt1 t
  rw [after1_11]
  have e : ∀ (i : Fin 4096) (j : Fin 256), (in1 V c t).dwu (grid1.coords t) (ix2 i j) = p.dwu i (fc t.val j) := (h t).dwu nz (grid1.coords t)
  show (in1 V c t).dwu (grid1.coords t) y = _
  have y0 : (y 0).val < 4096 := (y 0).isLt
  have y1 : (y 1).val < 256 := (y 1).isLt
  refine (congrArg ((in1 V c t).dwu (grid1.coords t)) (ixEta y)).trans ((e _ _).trans ?_)
  exact congrArg₂ (p.dwu) (Fin.ext (by show (y 0).val = win1_11.index t 0 * 4096 + 1 * (y 0).val; rw [idx1_11]; show _ = 0 * 4096 + _; omega)) (Fin.ext (by show (256 * t.val + (y 1).val) % 14336 = win1_11.index t 1 * 256 + 1 * (y 1).val; rw [idx1_11]; show _ = t.val * 256 + _; omega))
/-- Where the block of window 12 of the main call begins at each grid step. -/
theorem idx1_12 : ∀ t : Fin cfg1.N, win1_12.index t = ![t.val, 0] := (by decide +kernel : ∀ t : Fin grid1.N, _)
/-- After the main call, the array of window 12 holds the down weights' gradient. -/
theorem arr1_12 (h : ∀ t : Fin cfg1.N, At1 p t.val (in1 V c t)) (nz : NZ p) :
    ((dat1 V c).arrAt 12 cfg1.N : Vec Ideal S14336x4096 .bf16) = fun y => p.dwd (y 0) (y 1) := by
  refine (dat1 V c).arrAt_eq_of_covers 12 (fun y => p.dwd (y 0) (y 1)) (by decide +kernel) fun t _ y => ?_
  have hN := pt1 t
  rw [after1_12]
  have e : ∀ (i : Fin 256) (j : Fin 4096), (in1 V c t).dwd (grid1.coords t) (ix2 i j) = p.dwd (fc t.val i) j := (h t).dwd nz (grid1.coords t)
  show (in1 V c t).dwd (grid1.coords t) y = _
  have y0 : (y 0).val < 256 := (y 0).isLt
  have y1 : (y 1).val < 4096 := (y 1).isLt
  refine (congrArg ((in1 V c t).dwd (grid1.coords t)) (ixEta y)).trans ((e _ _).trans ?_)
  exact congrArg₂ (p.dwd) (Fin.ext (by show (256 * t.val + (y 0).val) % 14336 = win1_12.index t 0 * 256 + 1 * (y 0).val; rw [idx1_12]; show _ = t.val * 256 + _; omega)) (Fin.ext (by show (y 1).val = win1_12.index t 1 * 4096 + 1 * (y 1).val; rw [idx1_12]; show _ = 0 * 4096 + _; omega))
/-- Where the block of window 13 of the main call begins at each grid step. -/
theorem idx1_13 : ∀ t : Fin cfg1.N, win1_13.index t = ![0, t.val] := (by decide +kernel : ∀ t : Fin grid1.N, _)
/-- After the main call, the array of window 13 holds the integer codes of the gate's weights over their steps. -/
theorem arr1_13 (h : ∀ t : Fin cfg1.N, At1 p t.val (in1 V c t)) (nz : NZ p) :
    ((dat1 V c).arrAt 13 cfg1.N : Vec Ideal S4096x14336 .i8) = fun y => codeI (p.vg (y 0) (y 1)) := by
  refine (dat1 V c).arrAt_eq_of_covers 13 (fun y => codeI (p.vg (y 0) (y 1))) (by decide +kernel) fun t _ y => ?_
  have hN := pt1 t
  rw [after1_13]
  have e : ∀ (i : Fin 4096) (j : Fin 256), (in1 V c t).cg (ix2 i j) = codeI (p.vg i (fc t.val j)) := (h t).cg nz
  show (in1 V c t).cg y = _
  have y0 : (y 0).val < 4096 := (y 0).isLt
  have y1 : (y 1).val < 256 := (y 1).isLt
  refine (congrArg ((in1 V c t).cg) (ixEta y)).trans ((e _ _).trans ?_)
  exact congrArg₂ (fun i j => codeI (p.vg i j)) (Fin.ext (by show (y 0).val = win1_13.index t 0 * 4096 + 1 * (y 0).val; rw [idx1_13]; show _ = 0 * 4096 + _; omega)) (Fin.ext (by show (256 * t.val + (y 1).val) % 14336 = win1_13.index t 1 * 256 + 1 * (y 1).val; rw [idx1_13]; show _ = t.val * 256 + _; omega))
/-- Where the block of window 14 of the main call begins at each grid step. -/
theorem idx1_14 : ∀ t : Fin cfg1.N, win1_14.index t = ![0, t.val] := (by decide +kernel : ∀ t : Fin grid1.N, _)
/-- After the main call, the array of window 14 holds the integer codes of the up projection's weights over their steps. -/
theorem arr1_14 (h : ∀ t : Fin cfg1.N, At1 p t.val (in1 V c t)) (nz : NZ p) :
    ((dat1 V c).arrAt 14 cfg1.N : Vec Ideal S4096x14336 .i8) = fun y => codeI (p.vu (y 0) (y 1)) := by
  refine (dat1 V c).arrAt_eq_of_covers 14 (fun y => codeI (p.vu (y 0) (y 1))) (by decide +kernel) fun t _ y => ?_
  have hN := pt1 t
  rw [after1_14]
  have e : ∀ (i : Fin 4096) (j : Fin 256), (in1 V c t).cu (ix2 i j) = codeI (p.vu i (fc t.val j)) := (h t).cu nz
  show (in1 V c t).cu y = _
  have y0 : (y 0).val < 4096 := (y 0).isLt
  have y1 : (y 1).val < 256 := (y 1).isLt
  refine (congrArg ((in1 V c t).cu) (ixEta y)).trans ((e _ _).trans ?_)
  exact congrArg₂ (fun i j => codeI (p.vu i j)) (Fin.ext (by show (y 0).val = win1_14.index t 0 * 4096 + 1 * (y 0).val; rw [idx1_14]; show _ = 0 * 4096 + _; omega)) (Fin.ext (by show (256 * t.val + (y 1).val) % 14336 = win1_14.index t 1 * 256 + 1 * (y 1).val; rw [idx1_14]; show _ = t.val * 256 + _; omega))
/-- Where the block of window 15 of the main call begins at each grid step. -/
theorem idx1_15 : ∀ t : Fin cfg1.N, win1_15.index t = ![t.val, 0] := (by decide +kernel : ∀ t : Fin grid1.N, _)
/-- After the main call, the array of window 15 holds the integer codes of the down projection's weights over their steps. -/
theorem arr1_15 (h : ∀ t : Fin cfg1.N, At1 p t.val (in1 V c t)) (nz : NZ p) :
    ((dat1 V c).arrAt 15 cfg1.N : Vec Ideal S14336x4096 .i8) = fun y => codeI (p.vd (y 0) (y 1)) := by
  refine (dat1 V c).arrAt_eq_of_covers 15 (fun y => codeI (p.vd (y 0) (y 1))) (by decide +kernel) fun t _ y => ?_
  have hN := pt1 t
  rw [after1_15]
  have e : ∀ (i : Fin 256) (j : Fin 4096), (in1 V c t).cd (ix2 i j) = codeI (p.vd (fc t.val i) j) := (h t).cd nz
  show (in1 V c t).cd y = _
  have y0 : (y 0).val < 256 := (y 0).isLt
  have y1 : (y 1).val < 4096 := (y 1).isLt
  refine (congrArg ((in1 V c t).cd) (ixEta y)).trans ((e _ _).trans ?_)
  exact congrArg₂ (fun i j => codeI (p.vd i j)) (Fin.ext (by show (256 * t.val + (y 0).val) % 14336 = win1_15.index t 0 * 256 + 1 * (y 0).val; rw [idx1_15]; show _ = t.val * 256 + _; omega)) (Fin.ext (by show (y 1).val = win1_15.index t 1 * 4096 + 1 * (y 1).val; rw [idx1_15]; show _ = 0 * 4096 + _; omega))
/-- Where the block of window 16 of the main call begins at each grid step. -/
theorem idx1_16 : ∀ t : Fin cfg1.N, win1_16.index t = ![0, t.val] := (by decide +kernel : ∀ t : Fin grid1.N, _)
/-- After the main call, the array of window 16 holds the hidden activation's codes. -/
theorem arr1_16 (h : ∀ t : Fin cfg1.N, At1 p t.val (in1 V c t)) (nz : NZ p) :
    ((dat1 V c).arrAt 16 cfg1.N : Vec Ideal S256x14336 .fp8e4m3) = fun y => p.c2 (y 0) (y 1) := by
  refine (dat1 V c).arrAt_eq_of_covers 16 (fun y => p.c2 (y 0) (y 1)) (by decide +kernel) fun t _ y => ?_
  have hN := pt1 t
  rw [after1_16]
  have e : ∀ (i : Fin 256) (j : Fin 256), (in1 V c t).c2 (grid1.coords t) (ix2 i j) = p.c2 i (fc t.val j) := (h t).c2 nz (grid1.coords t)
  show (in1 V c t).c2 (grid1.coords t) y = _
  have y0 : (y 0).val < 256 := (y 0).isLt
  have y1 : (y 1).val < 256 := (y 1).isLt
  refine (congrArg ((in1 V c t).c2 (grid1.coords t)) (ixEta y)).trans ((e _ _).trans ?_)
  exact congrArg₂ (p.c2) (Fin.ext (by show (y 0).val = win1_16.index t 0 * 256 + 1 * (y 0).val; rw [idx1_16]; show _ = 0 * 256 + _; omega)) (Fin.ext (by show (256 * t.val + (y 1).val) % 14336 = win1_16.index t 1 * 256 + 1 * (y 1).val; rw [idx1_16]; show _ = t.val * 256 + _; omega))
/-- Where the block of window 17 of the main call begins at each grid step. -/
theorem idx1_17 : ∀ t : Fin cfg1.N, win1_17.index t = ![0, t.val] := (by decide +kernel : ∀ t : Fin grid1.N, _)
/-- After the main call, the array of window 17 holds the gate steps' gradient. -/
theorem arr1_17 (h : ∀ t : Fin cfg1.N, At1 p t.val (in1 V c t)) (nz : NZ p) :
    ((dat1 V c).arrAt 17 cfg1.N : Vec Ideal S1x14336 .f32) = fun y => p.dsg (y 1) := by
  refine (dat1 V c).arrAt_eq_of_covers 17 (fun y => p.dsg (y 1)) (by decide +kernel) fun t _ y => ?_
  have hN := pt1 t
  rw [after1_17]
  have e : ∀ (i : Fin 1) (j : Fin 256), (in1 V c t).dsg (grid1.coords t) (ix2 i j) = p.dsg (fc t.val j) := (h t).dsg nz (grid1.coords t)
  show (in1 V c t).dsg (grid1.coords t) y = _
  have y0 : (y 0).val < 1 := (y 0).isLt
  have y1 : (y 1).val < 256 := (y 1).isLt
  refine (congrArg ((in1 V c t).dsg (grid1.coords t)) (ixEta y)).trans ((e _ _).trans ?_)
  exact congrArg p.dsg (Fin.ext (by show (256 * t.val + (y 1).val) % 14336 = win1_17.index t 1 * 256 + 1 * (y 1).val; rw [idx1_17]; show _ = t.val * 256 + _; omega))
/-- Where the block of window 18 of the main call begins at each grid step. -/
theorem idx1_18 : ∀ t : Fin cfg1.N, win1_18.index t = ![0, t.val] := (by decide +kernel : ∀ t : Fin grid1.N, _)
/-- After the main call, the array of window 18 holds the up steps' gradient. -/
theorem arr1_18 (h : ∀ t : Fin cfg1.N, At1 p t.val (in1 V c t)) (nz : NZ p) :
    ((dat1 V c).arrAt 18 cfg1.N : Vec Ideal S1x14336 .f32) = fun y => p.dsu (y 1) := by
  refine (dat1 V c).arrAt_eq_of_covers 18 (fun y => p.dsu (y 1)) (by decide +kernel) fun t _ y => ?_
  have hN := pt1 t
  rw [after1_18]
  have e : ∀ (i : Fin 1) (j : Fin 256), (in1 V c t).dsu (grid1.coords t) (ix2 i j) = p.dsu (fc t.val j) := (h t).dsu nz (grid1.coords t)
  show (in1 V c t).dsu (grid1.coords t) y = _
  have y0 : (y 0).val < 1 := (y 0).isLt
  have y1 : (y 1).val < 256 := (y 1).isLt
  refine (congrArg ((in1 V c t).dsu (grid1.coords t)) (ixEta y)).trans ((e _ _).trans ?_)
  exact congrArg p.dsu (Fin.ext (by show (256 * t.val + (y 1).val) % 14336 = win1_18.index t 1 * 256 + 1 * (y 1).val; rw [idx1_18]; show _ = t.val * 256 + _; omega))

/-- The main call's accumulators, written at the end. -/
theorem last1 : 55 < cfg1.N := by rw [show cfg1.N = 56 from N_1]; decide
/-- After the main call, the array of window 19 is its last accumulator, that of the down projection's product. -/
theorem arr1_19 : ((dat1 V c).arrAt 19 cfg1.N : Vec Ideal S256x4096 .f32) = (accAt V c 55 last1).a20 :=
  (dat1 V c).arrAt_eq_of_after_last 19 ⟨55, last1⟩ (by decide +kernel) (accAt V c 55 last1).a20 fun j => by rw [after1_19]; rfl
/-- After the main call, the array of window 20 is its last accumulator, that of the normed tokens' gradient. -/
theorem arr1_20 : ((dat1 V c).arrAt 20 cfg1.N : Vec Ideal S4096x256 .f32) = (accAt V c 55 last1).a21 :=
  (dat1 V c).arrAt_eq_of_after_last 20 ⟨55, last1⟩ (by decide +kernel) (accAt V c 55 last1).a21 fun j => by rw [after1_20]; rfl
/-- After the main call, the array of window 21 is its last accumulator, that of the down steps' gradient. -/
theorem arr1_21 : ((dat1 V c).arrAt 21 cfg1.N : Vec Ideal S8x4096 .f32) = (accAt V c 55 last1).a22 :=
  (dat1 V c).arrAt_eq_of_after_last 21 ⟨55, last1⟩ (by decide +kernel) (accAt V c 55 last1).a22 fun j => by rw [after1_21]; rfl
/-- After the main call, the array of window 22 is its last accumulator, that of the sum of the magnitudes of the rounding part. -/
theorem arr1_22 : ((dat1 V c).arrAt 22 cfg1.N : Vec Ideal S256x128 .f32) = (accAt V c 55 last1).a23 :=
  (dat1 V c).arrAt_eq_of_after_last 22 ⟨55, last1⟩ (by decide +kernel) (accAt V c 55 last1).a23 fun j => by rw [after1_22]; rfl
/-- After the main call, the array of window 23 is its last accumulator, that of the clipping part. -/
theorem arr1_23 : ((dat1 V c).arrAt 23 cfg1.N : Vec Ideal S256x128 .f32) = (accAt V c 55 last1).a24 :=
  (dat1 V c).arrAt_eq_of_after_last 23 ⟨55, last1⟩ (by decide +kernel) (accAt V c 55 last1).a24 fun j => by rw [after1_23]; rfl
/-- After the main call, the array of window 24 is its last accumulator, that of the rounding part. -/
theorem arr1_24 : ((dat1 V c).arrAt 24 cfg1.N : Vec Ideal S256x128 .f32) = (accAt V c 55 last1).a25 :=
  (dat1 V c).arrAt_eq_of_after_last 24 ⟨55, last1⟩ (by decide +kernel) (accAt V c 55 last1).a25 fun j => by rw [after1_24]; rfl

/-- The last call's results. -/
theorem arr2_12 (h : ∀ t : Fin cfg2.N, At2 p (in2 V c t)) : ((dat2 V c).arrAt 12 cfg2.N : Vec Ideal S256x4096 .bf16) = fun y => p.y (y 0) (y 1) := by
  refine ((dat2 V c).arrAt_eq_of_after_last 12 t2_0 (by decide +kernel) (in2 V c t2_0).y fun j => by rw [after2_12]; rfl).trans ?_
  exact ext2 fun i j => (h t2_0).y i j
/-- After the last call, the array of window 13 holds the tokens' gradient. -/
theorem arr2_13 (h : ∀ t : Fin cfg2.N, At2 p (in2 V c t)) : ((dat2 V c).arrAt 13 cfg2.N : Vec Ideal S256x4096 .bf16) = fun y => p.dx (y 0) (y 1) := by
  refine ((dat2 V c).arrAt_eq_of_after_last 13 t2_0 (by decide +kernel) (in2 V c t2_0).dx fun j => by rw [after2_13]; rfl).trans ?_
  exact ext2 fun i j => (h t2_0).dx i j
/-- After the last call, the array of window 14 holds the down steps' gradient. -/
theorem arr2_14 (h : ∀ t : Fin cfg2.N, At2 p (in2 V c t)) : ((dat2 V c).arrAt 14 cfg2.N : Vec Ideal S1x4096 .f32) = fun y => p.dsd (y 1) := by
  refine ((dat2 V c).arrAt_eq_of_after_last 14 t2_0 (by decide +kernel) (in2 V c t2_0).o14 fun j => by rw [after2_14]; rfl).trans ?_
  exact ext2 fun i j => (h t2_0).o14 i j
/-- After the last call, the array of window 15 holds the first activation step's gradient. -/
theorem arr2_15 (h : ∀ t : Fin cfg2.N, At2 p (in2 V c t)) : ((dat2 V c).arrAt 15 cfg2.N : Vec Ideal S1x1 .f32) = fun y => p.dsa1 := by
  refine ((dat2 V c).arrAt_eq_of_after_last 15 t2_0 (by decide +kernel) (in2 V c t2_0).ds fun j => by rw [after2_15]; rfl).trans ?_
  exact ext2 fun i j => (h t2_0).ds i j
/-- After the last call, the array of window 16 holds each token's rounding part of the first step's gradient. -/
theorem arr2_16 (h : ∀ t : Fin cfg2.N, At2 p (in2 V c t)) : ((dat2 V c).arrAt 16 cfg2.N : Vec Ideal S256x1 .f32) = fun y => p.rnd1 (y 0) := by
  refine ((dat2 V c).arrAt_eq_of_after_last 16 t2_0 (by decide +kernel) (in2 V c t2_0).o16 fun j => by rw [after2_16]; rfl).trans ?_
  exact ext2 fun i j => (h t2_0).o16 i j
/-- After the last call, the array of window 17 holds each token's clipping part of the first step's gradient. -/
theorem arr2_17 (h : ∀ t : Fin cfg2.N, At2 p (in2 V c t)) : ((dat2 V c).arrAt 17 cfg2.N : Vec Ideal S256x1 .f32) = fun y => p.clp1 (y 0) := by
  refine ((dat2 V c).arrAt_eq_of_after_last 17 t2_0 (by decide +kernel) (in2 V c t2_0).o17 fun j => by rw [after2_17]; rfl).trans ?_
  exact ext2 fun i j => (h t2_0).o17 i j
/-- After the last call, the array of window 18 holds the second activation step's gradient. -/
theorem arr2_18 (h : ∀ t : Fin cfg2.N, At2 p (in2 V c t)) : ((dat2 V c).arrAt 18 cfg2.N : Vec Ideal S1x1 .f32) = fun y => p.dsa2 := by
  refine ((dat2 V c).arrAt_eq_of_after_last 18 t2_0 (by decide +kernel) (in2 V c t2_0).v31 fun j => by rw [after2_18]; rfl).trans ?_
  exact ext2 fun i j => (h t2_0).v31 i j
/-- After the last call, the array of window 19 holds each token's sum of magnitudes of the second step's rounding part. -/
theorem arr2_19 (h : ∀ t : Fin cfg2.N, At2 p (in2 V c t)) : ((dat2 V c).arrAt 19 cfg2.N : Vec Ideal S256x1 .f32) = fun y => p.abs2 (y 0) := by
  refine ((dat2 V c).arrAt_eq_of_after_last 19 t2_0 (by decide +kernel) (in2 V c t2_0).o19 fun j => by rw [after2_19]; rfl).trans ?_
  exact ext2 fun i j => (h t2_0).o19 i j
/-- After the last call, the array of window 20 holds each token's clipping part of the second step's gradient. -/
theorem arr2_20 (h : ∀ t : Fin cfg2.N, At2 p (in2 V c t)) : ((dat2 V c).arrAt 20 cfg2.N : Vec Ideal S256x1 .f32) = fun y => p.clp2 (y 0) := by
  refine ((dat2 V c).arrAt_eq_of_after_last 20 t2_0 (by decide +kernel) (in2 V c t2_0).o20 fun j => by rw [after2_20]; rfl).trans ?_
  exact ext2 fun i j => (h t2_0).o20 i j
/-- After the last call, the array of window 21 holds the norm weight's gradient. -/
theorem arr2_21 (h : ∀ t : Fin cfg2.N, At2 p (in2 V c t)) : ((dat2 V c).arrAt 21 cfg2.N : Vec Ideal S1x4096 .f32) = fun y => p.dnw (y 1) := by
  refine ((dat2 V c).arrAt_eq_of_after_last 21 t2_0 (by decide +kernel) (in2 V c t2_0).dg fun j => by rw [after2_21]; rfl).trans ?_
  exact ext2 fun i j => (h t2_0).dg i j
/-- After the last call, the array of window 22 holds each token's mean product with the norm's gradient. -/
theorem arr2_22 (h : ∀ t : Fin cfg2.N, At2 p (in2 V c t)) : ((dat2 V c).arrAt 22 cfg2.N : Vec Ideal S256x1 .f32) = fun y => p.dot (y 0) := by
  refine ((dat2 V c).arrAt_eq_of_after_last 22 t2_0 (by decide +kernel) (in2 V c t2_0).o22 fun j => by rw [after2_22]; rfl).trans ?_
  exact ext2 fun i j => (h t2_0).o22 i j

end Cert.KernelIdeal.At

end
-- ==== Proof.Args.lean ====
module

public import proofs.«01_k».proof.Pre_scales_nonzero
public import proofs.«01_k».proof.Proof.Spec
public import proofs.«01_k».proof.Proof.KerAt

/-! The layer's parameters as the eleven argument arrays hold them, and what the precondition says of them. -/

@[expose] public section

set_option maxRecDepth 16384

noncomputable section

namespace Cert.Args

open Idealize.ShloMosaic Cert.Spec Cert.Spec

abbrev A3 : Shape := ⟨3, ![2, 128, 4096]⟩
abbrev A2 (r c : ℕ) : Shape := ⟨2, ![r, c]⟩
abbrev A1 (n : ℕ) : Shape := ⟨1, ![n]⟩
abbrev A0 : Shape := ⟨0, ![]⟩

/-- Tokens of two batches, flattened to rows, are as many numbers. -/
theorem casts3 : A3.ShapeCasts (A2 256 4096) := by decide
/-- A vector over the hidden dimension as a row is as many numbers. -/
theorem castsF : (A1 14336).ShapeCasts (A2 1 14336) := by decide
/-- A vector over the model dimension as a row is as many numbers. -/
theorem castsD : (A1 4096).ShapeCasts (A2 1 4096) := by decide
/-- A scalar as a one by one array is one number. -/
theorem casts0 : A0.ShapeCasts (A2 1 1) := by decide

/-- The layer's parameters from the argument arrays: the tokens of the two sequences counted through, the vectors as rows. -/
def argP (a0 a1 : Vec Ideal A3 .bf16) (a2 : Vec Ideal (A1 4096) .f32) (a3 a4 : Vec Ideal (A2 4096 14336) .bf16) (a5 : Vec Ideal (A2 14336 4096) .bf16)
    (a6 a7 : Vec Ideal (A1 14336) .f32) (a8 : Vec Ideal (A1 4096) .f32) (a9 a10 : Vec Ideal A0 .f32) : P where
  x t d := shapeCast (A2 256 4096) a0 casts3 (ix2 t d)
  dy t d := shapeCast (A2 256 4096) a1 casts3 (ix2 t d)
  nw d := shapeCast (A2 1 4096) a2 castsD (ix2 0 d)
  wg d f := a3 (ix2 d f)
  wu d f := a4 (ix2 d f)
  wd f d := a5 (ix2 f d)
  sg f := shapeCast (A2 1 14336) a6 castsF (ix2 0 f)
  su f := shapeCast (A2 1 14336) a7 castsF (ix2 0 f)
  sd d := shapeCast (A2 1 4096) a8 castsD (ix2 0 d)
  s1 := shapeCast (A2 1 1) a9 casts0 (ix2 0 0)
  s2 := shapeCast (A2 1 1) a10 casts0 (ix2 0 0)

/-- A vector as a one-row matrix, read in the row. -/
theorem row {n : ℕ} {α : Type} (x : (A1 n).Idx → α) (h : (A1 n).ShapeCasts (A2 1 n)) (j : Fin n) : shapeCast (A2 1 n) x h (ix2 0 j) = x (ix1 j) :=
  shapeCast_apply x h (ix2 0 j) (ix1 j) (by
    rw [Shape.rowMajor_val_two, Shape.rowMajor_val_one]; show j.val = 0 * n + j.val; omega)

/-- The one index of an array of no dimension. -/
theorem noIdx (i j : A0.Idx) : i = j := by funext a; exact a.elim0

/-- A number as a matrix of one entry. -/
theorem one {α : Type} (x : A0.Idx → α) (h : A0.ShapeCasts (A2 1 1)) (i j : Fin 1) (k : A0.Idx) : shapeCast (A2 1 1) x h (ix2 i j) = x k := by
  unfold shapeCast; exact congrArg x (noIdx _ _)

/-- The shape relations that the precondition's text takes. -/
theorem facts : Cert.Pre_scales_nonzero.Facts := ⟨by decide, by decide⟩

/-- The precondition's statement: every weight step is nonzero. -/
theorem nz_of [Cert.Pre_scales_nonzero.Facts] (a0 a1 : Vec Ideal A3 .bf16) (a2 : Vec Ideal (A1 4096) .f32) (a3 a4 : Vec Ideal (A2 4096 14336) .bf16) (a5 : Vec Ideal (A2 14336 4096) .bf16)
    (a6 a7 : Vec Ideal (A1 14336) .f32) (a8 : Vec Ideal (A1 4096) .f32) (a9 a10 : Vec Ideal A0 .f32)
    (h : Cert.Pre_scales_nonzero.fn (F := Ideal) a0 a1 a2 a3 a4 a5 a6 a7 a8 a9 a10 = fun _ => 1#1) :
    NZ (argP a0 a1 a2 a3 a4 a5 a6 a7 a8 a9 a10) := by
  have key : ∀ j : (A1 32768).Idx, concatenate (α := EReal) (A1 32768) 0 [⟨A1 14336, a6⟩, ⟨A1 14336, a7⟩, ⟨A1 4096, a8⟩]
      Cert.Pre_scales_nonzero.Facts.concatenates_S14336_S14336_S4096_S32768_d0 j ≠ 0 := by
    intro j e
    have h1 := congrFun h j
    have h2 : BitVec.ofBool (decide (concatenate (α := EReal) (A1 32768) 0 [⟨A1 14336, a6⟩, ⟨A1 14336, a7⟩, ⟨A1 4096, a8⟩]
      Cert.Pre_scales_nonzero.Facts.concatenates_S14336_S14336_S4096_S32768_d0 j ≠ Ideal.ofBits .f32 0x00000000#32)) = 1#1 := h1
    rw [e, show Ideal.ofBits .f32 0x00000000#32 = (0 : EReal) from by simp [Ideal.ofBits, Ideal.ieee]] at h2
    simp at h2
  refine ⟨fun f e => ?_, fun f e => ?_, fun d e => ?_⟩
  · have e' : a6 (ix1 f) = (0 : EReal) := (row a6 castsF f).symm.trans e
    refine key (ix1 ⟨f.val, by omega⟩) ((concatenate_apply_piece (α := EReal) (t := A1 32768) 0 [⟨A1 14336, a6⟩, ⟨A1 14336, a7⟩, ⟨A1 4096, a8⟩]
      Cert.Pre_scales_nonzero.Facts.concatenates_S14336_S14336_S4096_S32768_d0 _ 0 (show 0 < 3 by decide) (A1 14336) a6 rfl rfl 0 rfl (ix1 f) (fun b hb => ?_) ?_).trans e')
    · match b with | ⟨0, _⟩ => exact absurd rfl hb
    · show 0 + f.val = f.val; omega
  · have e' : a7 (ix1 f) = (0 : EReal) := (row a7 castsF f).symm.trans e
    refine key (ix1 ⟨14336 + f.val, by omega⟩) ((concatenate_apply_piece (α := EReal) (t := A1 32768) 0 [⟨A1 14336, a6⟩, ⟨A1 14336, a7⟩, ⟨A1 4096, a8⟩]
      Cert.Pre_scales_nonzero.Facts.concatenates_S14336_S14336_S4096_S32768_d0 _ 1 (show 1 < 3 by decide) (A1 14336) a7 rfl rfl 14336 rfl (ix1 f) (fun b hb => ?_) ?_).trans e')
    · match b with | ⟨0, _⟩ => exact absurd rfl hb
    · rfl
  · have e' : a8 (ix1 d) = (0 : EReal) := (row a8 castsD d).symm.trans e
    refine key (ix1 ⟨28672 + d.val, by omega⟩) ((concatenate_apply_piece (α := EReal) (t := A1 32768) 0 [⟨A1 14336, a6⟩, ⟨A1 14336, a7⟩, ⟨A1 4096, a8⟩]
      Cert.Pre_scales_nonzero.Facts.concatenates_S14336_S14336_S4096_S32768_d0 _ 2 (show 2 < 3 by decide) (A1 4096) a8 rfl rfl 28672 rfl (ix1 d) (fun b hb => ?_) ?_).trans e')
    · match b with | ⟨0, _⟩ => exact absurd rfl hb
    · rfl

end Cert.Args

end
-- ==== Proof.KerFin.lean ====
module

public import proofs.«01_k».proof.Proof.KerArr
public import proofs.«01_k».proof.Proof.Args
public import proofs.«01_k».proof.Proof.Fold

/-! The kernel's final contents: each result holds the layer's quantity. -/

@[expose] public section

set_option maxRecDepth 16384

noncomputable section

namespace Cert.KernelIdeal.At

open Idealize.ShloMosaic Idealize.ShloMosaic.TcCoe Idealize.ShloMosaic.Tactic Idealize.ShloMosaic.StableHlo
open Cert.KernelIdeal Cert.KernelIdeal.Gen Cert.Spec Cert.Tiles Cert.Sums Cert.KernelIdeal.Body Cert.KernelIdeal.Run Cert.Args

variable (m : (ℓ : Loc nD τ sig) → Buf (Elt Ideal) ℓ) (ρ : Dev nD → PrngReg) (c : Dev nD)

/-- The layer's parameters at launch. -/
def argK : P := argP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The host's operations before the first call: the arguments as matrices, and the two activation steps side by side. -/
theorem w1_v0 : (W1 m ρ c (Proc.devRef .tc main_v0) : Vec Ideal S256x4096 .bf16) = shapeCast S256x4096 (m ((c.tc : Thread nD τ).loc main_arg0) : Vec Ideal S2x128x4096 .bf16) (show S2x128x4096.ShapeCasts S256x4096 by decide) := by
  show StableHlo.after hostOps0 (W0 m ρ c) (Proc.devRef .tc main_v0) = _
  after_results <;> rfl
/-- The host's operand is an argument in another shape. -/
theorem w1_v1 : (W1 m ρ c (Proc.devRef .tc main_v1) : Vec Ideal S256x4096 .bf16) = shapeCast S256x4096 (m ((c.tc : Thread nD τ).loc main_arg1) : Vec Ideal S2x128x4096 .bf16) (show S2x128x4096.ShapeCasts S256x4096 by decide) := by
  show StableHlo.after hostOps0 (W0 m ρ c) (Proc.devRef .tc main_v1) = _
  after_results <;> rfl
/-- The host's operand is an argument in another shape. -/
theorem w1_v2 : (W1 m ρ c (Proc.devRef .tc main_v2) : Vec Ideal S1x4096 .f32) = shapeCast S1x4096 (m ((c.tc : Thread nD τ).loc main_arg2) : Vec Ideal S4096 .f32) (show S4096.ShapeCasts S1x4096 by decide) := by
  show StableHlo.after hostOps0 (W0 m ρ c) (Proc.devRef .tc main_v2) = _
  after_results <;> rfl
/-- The host's operand is an argument in another shape. -/
theorem w1_v6 : (W1 m ρ c (Proc.devRef .tc main_v6) : Vec Ideal S1x14336 .f32) = shapeCast S1x14336 (m ((c.tc : Thread nD τ).loc main_arg6) : Vec Ideal S14336 .f32) (show S14336.ShapeCasts S1x14336 by decide) := by
  show StableHlo.after hostOps0 (W0 m ρ c) (Proc.devRef .tc main_v6) = _
  after_results <;> rfl
/-- The host's operand is an argument in another shape. -/
theorem w1_v7 : (W1 m ρ c (Proc.devRef .tc main_v7) : Vec Ideal S1x14336 .f32) = shapeCast S1x14336 (m ((c.tc : Thread nD τ).loc main_arg7) : Vec Ideal S14336 .f32) (show S14336.ShapeCasts S1x14336 by decide) := by
  show StableHlo.after hostOps0 (W0 m ρ c) (Proc.devRef .tc main_v7) = _
  after_results <;> rfl
/-- The host's operand is an argument in another shape. -/
theorem w1_v8 : (W1 m ρ c (Proc.devRef .tc main_v8) : Vec Ideal S1x4096 .f32) = shapeCast S1x4096 (m ((c.tc : Thread nD τ).loc main_arg8) : Vec Ideal S4096 .f32) (show S4096.ShapeCasts S1x4096 by decide) := by
  show StableHlo.after hostOps0 (W0 m ρ c) (Proc.devRef .tc main_v8) = _
  after_results <;> rfl
/-- Before the calls, the two activation steps stand joined in one array. -/
theorem w1_v5 : (W1 m ρ c (Proc.devRef .tc main_v5) : Vec Ideal S2 .f32)
    = concatenate S2 0 [⟨S1, broadcastInDim S1 ![] bcast_S_S1 (m ((c.tc : Thread nD τ).loc main_arg9) : Vec Ideal S_ .f32)⟩,
        ⟨S1, broadcastInDim S1 ![] bcast_S_S1 (m ((c.tc : Thread nD τ).loc main_arg10) : Vec Ideal S_ .f32)⟩] concatenates_S1_S1_S2_d0 := by
  show StableHlo.after hostOps0 (W0 m ρ c) (Proc.devRef .tc main_v5) = _
  after_results <;> rfl

/-- Two numbers side by side, read. -/
theorem cat0 (x y : S1.Idx → EReal) (h : Shape.Concatenates [S1, S1] S2 0) : concatenate S2 0 [⟨S1, x⟩, ⟨S1, y⟩] h (ix1 0) = x (ix1 0) :=
  concatenate_apply_piece (t := S2) 0 [⟨S1, x⟩, ⟨S1, y⟩] h (ix1 0) 0 (show 0 < 2 by decide) S1 x rfl rfl 0 rfl (ix1 0)
    (fun b hb => match b with | ⟨0, _⟩ => absurd rfl hb) rfl
/-- The second entry of two joined one-entry arrays. -/
theorem cat1 (x y : S1.Idx → EReal) (h : Shape.Concatenates [S1, S1] S2 0) : concatenate S2 0 [⟨S1, x⟩, ⟨S1, y⟩] h (ix1 1) = y (ix1 0) :=
  concatenate_apply_piece (t := S2) 0 [⟨S1, x⟩, ⟨S1, y⟩] h (ix1 1) 1 (show 1 < 2 by decide) S1 y rfl rfl 1 rfl (ix1 0)
    (fun b hb => match b with | ⟨0, _⟩ => absurd rfl hb) rfl

/-- The host leaves the layer's parameters where the calls read them. -/
theorem a_s1 : (W1 m ρ c (Proc.devRef .tc main_v5) : Vec Ideal S2 .f32) (ix1 0) = (argK m c).s1 := by
  rw [w1_v5]
  exact (cat0 _ _ _).trans (one _ casts0 0 0 _).symm
/-- Before the calls, this array holds the second activation step. -/
theorem a_s2 : (W1 m ρ c (Proc.devRef .tc main_v5) : Vec Ideal S2 .f32) (ix1 1) = (argK m c).s2 := by
  rw [w1_v5]
  exact (cat1 _ _ _).trans (one _ casts0 0 0 _).symm
/-- Before the calls, this array holds the tokens. -/
theorem a_x (t : Fin 256) (d : Fin 4096) : (W1 m ρ c (Proc.devRef .tc main_v0) : Vec Ideal S256x4096 .bf16) (ix2 t d) = (argK m c).x t d := by
  rw [w1_v0]; rfl
/-- Before the calls, this array holds the output's gradient. -/
theorem a_dy (t : Fin 256) (d : Fin 4096) : (W1 m ρ c (Proc.devRef .tc main_v1) : Vec Ideal S256x4096 .bf16) (ix2 t d) = (argK m c).dy t d := by
  rw [w1_v1]; rfl
/-- Before the calls, this array holds the norm's weight. -/
theorem a_nw (i : Fin 1) (d : Fin 4096) : (W1 m ρ c (Proc.devRef .tc main_v2) : Vec Ideal S1x4096 .f32) (ix2 i d) = (argK m c).nw d := by
  rw [w1_v2, Subsingleton.elim i 0]; rfl
/-- Before the calls, this array holds the gate's steps. -/
theorem a_sg (i : Fin 1) (f : Fin 14336) : (W1 m ρ c (Proc.devRef .tc main_v6) : Vec Ideal S1x14336 .f32) (ix2 i f) = (argK m c).sg f := by
  rw [w1_v6, Subsingleton.elim i 0]; rfl
/-- Before the calls, this array holds the up projection's steps. -/
theorem a_su (i : Fin 1) (f : Fin 14336) : (W1 m ρ c (Proc.devRef .tc main_v7) : Vec Ideal S1x14336 .f32) (ix2 i f) = (argK m c).su f := by
  rw [w1_v7, Subsingleton.elim i 0]; rfl
/-- Before the calls, this array holds the down projection's steps. -/
theorem a_sd (i : Fin 1) (d : Fin 4096) : (W1 m ρ c (Proc.devRef .tc main_v8) : Vec Ideal S1x4096 .f32) (ix2 i d) = (argK m c).sd d := by
  rw [w1_v8, Subsingleton.elim i 0]; rfl

/-- What the first call writes. -/
theorem w2_c1 (t : Fin 256) (d : Fin 4096) : (W2 m ρ c (Proc.devRef .tc main_v9_0) : Vec Ideal S256x4096 .fp8e4m3) (ix2 t d) = (argK m c).c1 t d :=
  (congrFun (W2_arr m ρ c 3) _).trans (arr0_3 (V := V1 m ρ) (a_s1 m ρ c) (a_x m ρ c) (a_nw m ρ c) t d)
/-- After the norm call, its second array holds the codes transposed. -/
theorem w2_ct (d : Fin 4096) (t : Fin 256) : (W2 m ρ c (Proc.devRef .tc main_v9_1) : Vec Ideal S4096x256 .bf16) (ix2 d t) = (argK m c).c1 t d :=
  (congrFun (W2_arr m ρ c 4) _).trans (arr0_4 (V := V1 m ρ) (a_s1 m ρ c) (a_x m ρ c) (a_nw m ρ c) d t)

/-- What the main call reads. -/
theorem src1 : Src1 (argK m c) (V2 m ρ) c where
  s1 := (congrFun (W2_of m ρ c main_v5 (by decide)) _).trans (a_s1 m ρ c)
  s2 := (congrFun (W2_of m ρ c main_v5 (by decide)) _).trans (a_s2 m ρ c)
  c1 := w2_c1 m ρ c
  ct := w2_ct m ρ c
  dy t d := (congrFun (W2_of m ρ c main_v1 (by decide)) _).trans (a_dy m ρ c t d)
  wg d f := congrFun (W2_args m ρ c main_arg3 (by decide)) (ix2 d f)
  wu d f := congrFun (W2_args m ρ c main_arg4 (by decide)) (ix2 d f)
  wd f d := congrFun (W2_args m ρ c main_arg5 (by decide)) (ix2 f d)
  sg i f := (congrFun (W2_of m ρ c main_v6 (by decide)) _).trans (a_sg m ρ c i f)
  su i f := (congrFun (W2_of m ρ c main_v7 (by decide)) _).trans (a_su m ρ c i f)
  sd i d := (congrFun (W2_of m ρ c main_v8 (by decide)) _).trans (a_sd m ρ c i d)

/-- What the last call reads. -/
theorem src2 (nz : NZ (argK m c)) : Src2 (argK m c) (V3 m ρ) c where
  s1 := (congrFun ((W3_of m ρ c main_v5 (by decide)).trans (W2_of m ρ c main_v5 (by decide))) _).trans (a_s1 m ρ c)
  s2 := (congrFun ((W3_of m ρ c main_v5 (by decide)).trans (W2_of m ρ c main_v5 (by decide))) _).trans (a_s2 m ρ c)
  o t d := (congrFun ((W3_arr m ρ c 19).trans arr1_19) (ix2 t d)).trans (a20_end (src1 m ρ c).at1 nz last1 t d)
  t d t := (congrFun ((W3_arr m ρ c 20).trans arr1_20) (ix2 d t)).trans (a21_end (src1 m ρ c).at1 nz last1 d t)
  x t d := (congrFun ((W3_of m ρ c main_v0 (by decide)).trans (W2_of m ρ c main_v0 (by decide))) _).trans (a_x m ρ c t d)
  dy t d := (congrFun ((W3_of m ρ c main_v1 (by decide)).trans (W2_of m ρ c main_v1 (by decide))) _).trans (a_dy m ρ c t d)
  g i d := (congrFun ((W3_of m ρ c main_v2 (by decide)).trans (W2_of m ρ c main_v2 (by decide))) _).trans (a_nw m ρ c i d)
  c1 t d := (congrFun (W3_of m ρ c main_v9_0 (by decide)) _).trans (w2_c1 m ρ c t d)
  sd i d := (congrFun ((W3_of m ρ c main_v8 (by decide)).trans (W2_of m ρ c main_v8 (by decide))) _).trans (a_sd m ρ c i d)
  d8 d := (vsum fun i => congrFun ((W3_arr m ρ c 21).trans arr1_21) (ix2 i d)).trans (a22_end (src1 m ρ c).at1 nz last1 d)
  p9 t := (vsum fun j => congrFun ((W3_arr m ρ c 22).trans arr1_22) (ix2 t j)).trans (a23_end (src1 m ρ c).at1 nz last1 t)
  p10 t := (vsum fun j => congrFun ((W3_arr m ρ c 23).trans arr1_23) (ix2 t j)).trans (a24_end (src1 m ρ c).at1 nz last1 t)
  p11 t := (vsum fun j => congrFun ((W3_arr m ρ c 24).trans arr1_24) (ix2 t j)).trans (a25_end (src1 m ρ c).at1 nz last1 t)

/-- The results at the end. -/
theorem w5_v12 : (W5 m ρ c (Proc.devRef .tc main_v12) : Vec Ideal S2x128x4096 .bf16) = shapeCast S2x128x4096 (W4 m ρ c (Proc.devRef .tc main_v11_0) : Vec Ideal S256x4096 .bf16) (by decide) := by
  show StableHlo.after hostOps3 (W4 m ρ c) (Proc.devRef .tc main_v12) = _
  after_results <;> rfl
/-- The program's result holds the output. -/
theorem res_v12 (nz : NZ (argK m c)) : (W5 m ρ c (Proc.devRef .tc main_v12) : Vec Ideal S2x128x4096 .bf16) = shapeCast S2x128x4096 (fun y : S256x4096.Idx => (argK m c).y (y 0) (y 1)) (by decide) := by
  have e : (W4 m ρ c (Proc.devRef .tc main_v11_0) : Vec Ideal S256x4096 .bf16) = fun y => (argK m c).y (y 0) (y 1) := (W4_arr m ρ c 12).trans (arr2_12 (src2 m ρ c nz).at2)
  exact (w5_v12 m ρ c).trans (congrArg (fun z => shapeCast S2x128x4096 z (show S256x4096.ShapeCasts S2x128x4096 by decide)) e)
/-- This result is a call's array in another shape. -/
theorem w5_v13 : (W5 m ρ c (Proc.devRef .tc main_v13) : Vec Ideal S2x128x4096 .bf16) = shapeCast S2x128x4096 (W4 m ρ c (Proc.devRef .tc main_v11_1) : Vec Ideal S256x4096 .bf16) (by decide) := by
  show StableHlo.after hostOps3 (W4 m ρ c) (Proc.devRef .tc main_v13) = _
  after_results <;> rfl
/-- The program's result holds the tokens' gradient. -/
theorem res_v13 (nz : NZ (argK m c)) : (W5 m ρ c (Proc.devRef .tc main_v13) : Vec Ideal S2x128x4096 .bf16) = shapeCast S2x128x4096 (fun y : S256x4096.Idx => (argK m c).dx (y 0) (y 1)) (by decide) := by
  have e : (W4 m ρ c (Proc.devRef .tc main_v11_1) : Vec Ideal S256x4096 .bf16) = fun y => (argK m c).dx (y 0) (y 1) := (W4_arr m ρ c 13).trans (arr2_13 (src2 m ρ c nz).at2)
  exact (w5_v13 m ρ c).trans (congrArg (fun z => shapeCast S2x128x4096 z (show S256x4096.ShapeCasts S2x128x4096 by decide)) e)
/-- The program's result holds the gate weights' gradient. -/
theorem res_v10_0 (nz : NZ (argK m c)) : (W5 m ρ c (Proc.devRef .tc main_v10_0) : Vec Ideal S4096x14336 .bf16) = fun y => (argK m c).dwg (y 0) (y 1) :=
  (W5_of m ρ c main_v10_0 (by decide)).trans ((W4_of m ρ c main_v10_0 (by decide)).trans ((W3_arr m ρ c 10).trans (arr1_10 (src1 m ρ c).at1 nz)))
/-- The program's result holds the up weights' gradient. -/
theorem res_v10_1 (nz : NZ (argK m c)) : (W5 m ρ c (Proc.devRef .tc main_v10_1) : Vec Ideal S4096x14336 .bf16) = fun y => (argK m c).dwu (y 0) (y 1) :=
  (W5_of m ρ c main_v10_1 (by decide)).trans ((W4_of m ρ c main_v10_1 (by decide)).trans ((W3_arr m ρ c 11).trans (arr1_11 (src1 m ρ c).at1 nz)))
/-- The program's result holds the down weights' gradient. -/
theorem res_v10_2 (nz : NZ (argK m c)) : (W5 m ρ c (Proc.devRef .tc main_v10_2) : Vec Ideal S14336x4096 .bf16) = fun y => (argK m c).dwd (y 0) (y 1) :=
  (W5_of m ρ c main_v10_2 (by decide)).trans ((W4_of m ρ c main_v10_2 (by decide)).trans ((W3_arr m ρ c 12).trans (arr1_12 (src1 m ρ c).at1 nz)))
/-- This result is a call's array in another shape. -/
theorem w5_v14 : (W5 m ρ c (Proc.devRef .tc main_v14) : Vec Ideal S14336 .f32) = shapeCast S14336 (W4 m ρ c (Proc.devRef .tc main_v10_7) : Vec Ideal S1x14336 .f32) (by decide) := by
  show StableHlo.after hostOps3 (W4 m ρ c) (Proc.devRef .tc main_v14) = _
  after_results <;> rfl
/-- The program's result holds the gate steps' gradient. -/
theorem res_v14 (nz : NZ (argK m c)) : (W5 m ρ c (Proc.devRef .tc main_v14) : Vec Ideal S14336 .f32) = shapeCast S14336 (fun y : S1x14336.Idx => (argK m c).dsg (y 1)) (by decide) := by
  have e : (W4 m ρ c (Proc.devRef .tc main_v10_7) : Vec Ideal S1x14336 .f32) = fun y => (argK m c).dsg (y 1) := (W4_of m ρ c main_v10_7 (by decide)).trans ((W3_arr m ρ c 17).trans (arr1_17 (src1 m ρ c).at1 nz))
  exact (w5_v14 m ρ c).trans (congrArg (fun z => shapeCast S14336 z (show S1x14336.ShapeCasts S14336 by decide)) e)
/-- This result is a call's array in another shape. -/
theorem w5_v15 : (W5 m ρ c (Proc.devRef .tc main_v15) : Vec Ideal S14336 .f32) = shapeCast S14336 (W4 m ρ c (Proc.devRef .tc main_v10_8) : Vec Ideal S1x14336 .f32) (by decide) := by
  show StableHlo.after hostOps3 (W4 m ρ c) (Proc.devRef .tc main_v15) = _
  after_results <;> rfl
/-- The program's result holds the up steps' gradient. -/
theorem res_v15 (nz : NZ (argK m c)) : (W5 m ρ c (Proc.devRef .tc main_v15) : Vec Ideal S14336 .f32) = shapeCast S14336 (fun y : S1x14336.Idx => (argK m c).dsu (y 1)) (by decide) := by
  have e : (W4 m ρ c (Proc.devRef .tc main_v10_8) : Vec Ideal S1x14336 .f32) = fun y => (argK m c).dsu (y 1) := (W4_of m ρ c main_v10_8 (by decide)).trans ((W3_arr m ρ c 18).trans (arr1_18 (src1 m ρ c).at1 nz))
  exact (w5_v15 m ρ c).trans (congrArg (fun z => shapeCast S14336 z (show S1x14336.ShapeCasts S14336 by decide)) e)
/-- This result is a call's array in another shape. -/
theorem w5_v16 : (W5 m ρ c (Proc.devRef .tc main_v16) : Vec Ideal S4096 .f32) = shapeCast S4096 (W4 m ρ c (Proc.devRef .tc main_v11_2) : Vec Ideal S1x4096 .f32) (by decide) := by
  show StableHlo.after hostOps3 (W4 m ρ c) (Proc.devRef .tc main_v16) = _
  after_results <;> rfl
/-- The program's result holds the down steps' gradient. -/
theorem res_v16 (nz : NZ (argK m c)) : (W5 m ρ c (Proc.devRef .tc main_v16) : Vec Ideal S4096 .f32) = shapeCast S4096 (fun y : S1x4096.Idx => (argK m c).dsd (y 1)) (by decide) := by
  have e : (W4 m ρ c (Proc.devRef .tc main_v11_2) : Vec Ideal S1x4096 .f32) = fun y => (argK m c).dsd (y 1) := (W4_arr m ρ c 14).trans (arr2_14 (src2 m ρ c nz).at2)
  exact (w5_v16 m ρ c).trans (congrArg (fun z => shapeCast S4096 z (show S1x4096.ShapeCasts S4096 by decide)) e)
/-- This result is a call's array in another shape. -/
theorem w5_v17 : (W5 m ρ c (Proc.devRef .tc main_v17) : Vec Ideal S_ .f32) = shapeCast S_ (W4 m ρ c (Proc.devRef .tc main_v11_3) : Vec Ideal S1x1 .f32) (by decide) := by
  show StableHlo.after hostOps3 (W4 m ρ c) (Proc.devRef .tc main_v17) = _
  after_results <;> rfl
/-- The program's result holds the first activation step's gradient. -/
theorem res_v17 (nz : NZ (argK m c)) : (W5 m ρ c (Proc.devRef .tc main_v17) : Vec Ideal S_ .f32) = shapeCast S_ (fun y : S1x1.Idx => (argK m c).dsa1) (by decide) := by
  have e : (W4 m ρ c (Proc.devRef .tc main_v11_3) : Vec Ideal S1x1 .f32) = fun y => (argK m c).dsa1 := (W4_arr m ρ c 15).trans (arr2_15 (src2 m ρ c nz).at2)
  exact (w5_v17 m ρ c).trans (congrArg (fun z => shapeCast S_ z (show S1x1.ShapeCasts S_ by decide)) e)
/-- This result is a call's array in another shape. -/
theorem w5_v18 : (W5 m ρ c (Proc.devRef .tc main_v18) : Vec Ideal S2x128 .f32) = shapeCast S2x128 (W4 m ρ c (Proc.devRef .tc main_v11_4) : Vec Ideal S256x1 .f32) (by decide) := by
  show StableHlo.after hostOps3 (W4 m ρ c) (Proc.devRef .tc main_v18) = _
  after_results <;> rfl
/-- The program's result holds each token's rounding part of the first step's gradient. -/
theorem res_v18 (nz : NZ (argK m c)) : (W5 m ρ c (Proc.devRef .tc main_v18) : Vec Ideal S2x128 .f32) = shapeCast S2x128 (fun y : S256x1.Idx => (argK m c).rnd1 (y 0)) (by decide) := by
  have e : (W4 m ρ c (Proc.devRef .tc main_v11_4) : Vec Ideal S256x1 .f32) = fun y => (argK m c).rnd1 (y 0) := (W4_arr m ρ c 16).trans (arr2_16 (src2 m ρ c nz).at2)
  exact (w5_v18 m ρ c).trans (congrArg (fun z => shapeCast S2x128 z (show S256x1.ShapeCasts S2x128 by decide)) e)
/-- This result is a call's array in another shape. -/
theorem w5_v19 : (W5 m ρ c (Proc.devRef .tc main_v19) : Vec Ideal S2x128 .f32) = shapeCast S2x128 (W4 m ρ c (Proc.devRef .tc main_v11_5) : Vec Ideal S256x1 .f32) (by decide) := by
  show StableHlo.after hostOps3 (W4 m ρ c) (Proc.devRef .tc main_v19) = _
  after_results <;> rfl
/-- The program's result holds each token's clipping part of the first step's gradient. -/
theorem res_v19 (nz : NZ (argK m c)) : (W5 m ρ c (Proc.devRef .tc main_v19) : Vec Ideal S2x128 .f32) = shapeCast S2x128 (fun y : S256x1.Idx => (argK m c).clp1 (y 0)) (by decide) := by
  have e : (W4 m ρ c (Proc.devRef .tc main_v11_5) : Vec Ideal S256x1 .f32) = fun y => (argK m c).clp1 (y 0) := (W4_arr m ρ c 17).trans (arr2_17 (src2 m ρ c nz).at2)
  exact (w5_v19 m ρ c).trans (congrArg (fun z => shapeCast S2x128 z (show S256x1.ShapeCasts S2x128 by decide)) e)
/-- This result is a call's array in another shape. -/
theorem w5_v20 : (W5 m ρ c (Proc.devRef .tc main_v20) : Vec Ideal S_ .f32) = shapeCast S_ (W4 m ρ c (Proc.devRef .tc main_v11_6) : Vec Ideal S1x1 .f32) (by decide) := by
  show StableHlo.after hostOps3 (W4 m ρ c) (Proc.devRef .tc main_v20) = _
  after_results <;> rfl
/-- The program's result holds the second activation step's gradient. -/
theorem res_v20 (nz : NZ (argK m c)) : (W5 m ρ c (Proc.devRef .tc main_v20) : Vec Ideal S_ .f32) = shapeCast S_ (fun y : S1x1.Idx => (argK m c).dsa2) (by decide) := by
  have e : (W4 m ρ c (Proc.devRef .tc main_v11_6) : Vec Ideal S1x1 .f32) = fun y => (argK m c).dsa2 := (W4_arr m ρ c 18).trans (arr2_18 (src2 m ρ c nz).at2)
  exact (w5_v20 m ρ c).trans (congrArg (fun z => shapeCast S_ z (show S1x1.ShapeCasts S_ by decide)) e)
/-- This result is a call's array in another shape. -/
theorem w5_v21 : (W5 m ρ c (Proc.devRef .tc main_v21) : Vec Ideal S2x128 .f32) = shapeCast S2x128 (W4 m ρ c (Proc.devRef .tc main_v11_7) : Vec Ideal S256x1 .f32) (by decide) := by
  show StableHlo.after hostOps3 (W4 m ρ c) (Proc.devRef .tc main_v21) = _
  after_results <;> rfl
/-- The program's result holds each token's sum of magnitudes of the second step's rounding part. -/
theorem res_v21 (nz : NZ (argK m c)) : (W5 m ρ c (Proc.devRef .tc main_v21) : Vec Ideal S2x128 .f32) = shapeCast S2x128 (fun y : S256x1.Idx => (argK m c).abs2 (y 0)) (by decide) := by
  have e : (W4 m ρ c (Proc.devRef .tc main_v11_7) : Vec Ideal S256x1 .f32) = fun y => (argK m c).abs2 (y 0) := (W4_arr m ρ c 19).trans (arr2_19 (src2 m ρ c nz).at2)
  exact (w5_v21 m ρ c).trans (congrArg (fun z => shapeCast S2x128 z (show S256x1.ShapeCasts S2x128 by decide)) e)
/-- This result is a call's array in another shape. -/
theorem w5_v22 : (W5 m ρ c (Proc.devRef .tc main_v22) : Vec Ideal S2x128 .f32) = shapeCast S2x128 (W4 m ρ c (Proc.devRef .tc main_v11_8) : Vec Ideal S256x1 .f32) (by decide) := by
  show StableHlo.after hostOps3 (W4 m ρ c) (Proc.devRef .tc main_v22) = _
  after_results <;> rfl
/-- The program's result holds each token's clipping part of the second step's gradient. -/
theorem res_v22 (nz : NZ (argK m c)) : (W5 m ρ c (Proc.devRef .tc main_v22) : Vec Ideal S2x128 .f32) = shapeCast S2x128 (fun y : S256x1.Idx => (argK m c).clp2 (y 0)) (by decide) := by
  have e : (W4 m ρ c (Proc.devRef .tc main_v11_8) : Vec Ideal S256x1 .f32) = fun y => (argK m c).clp2 (y 0) := (W4_arr m ρ c 20).trans (arr2_20 (src2 m ρ c nz).at2)
  exact (w5_v22 m ρ c).trans (congrArg (fun z => shapeCast S2x128 z (show S256x1.ShapeCasts S2x128 by decide)) e)
/-- This result is a call's array in another shape. -/
theorem w5_v23 : (W5 m ρ c (Proc.devRef .tc main_v23) : Vec Ideal S4096 .f32) = shapeCast S4096 (W4 m ρ c (Proc.devRef .tc main_v11_9) : Vec Ideal S1x4096 .f32) (by decide) := by
  show StableHlo.after hostOps3 (W4 m ρ c) (Proc.devRef .tc main_v23) = _
  after_results <;> rfl
/-- The program's result holds the norm weight's gradient. -/
theorem res_v23 (nz : NZ (argK m c)) : (W5 m ρ c (Proc.devRef .tc main_v23) : Vec Ideal S4096 .f32) = shapeCast S4096 (fun y : S1x4096.Idx => (argK m c).dnw (y 1)) (by decide) := by
  have e : (W4 m ρ c (Proc.devRef .tc main_v11_9) : Vec Ideal S1x4096 .f32) = fun y => (argK m c).dnw (y 1) := (W4_arr m ρ c 21).trans (arr2_21 (src2 m ρ c nz).at2)
  exact (w5_v23 m ρ c).trans (congrArg (fun z => shapeCast S4096 z (show S1x4096.ShapeCasts S4096 by decide)) e)
/-- This result is a call's array in another shape. -/
theorem w5_v24 : (W5 m ρ c (Proc.devRef .tc main_v24) : Vec Ideal S2x128 .f32) = shapeCast S2x128 (W4 m ρ c (Proc.devRef .tc main_v11_10) : Vec Ideal S256x1 .f32) (by decide) := by
  show StableHlo.after hostOps3 (W4 m ρ c) (Proc.devRef .tc main_v24) = _
  after_results <;> rfl
/-- The program's result holds each token's mean product with the norm's gradient. -/
theorem res_v24 (nz : NZ (argK m c)) : (W5 m ρ c (Proc.devRef .tc main_v24) : Vec Ideal S2x128 .f32) = shapeCast S2x128 (fun y : S256x1.Idx => (argK m c).dot (y 0)) (by decide) := by
  have e : (W4 m ρ c (Proc.devRef .tc main_v11_10) : Vec Ideal S256x1 .f32) = fun y => (argK m c).dot (y 0) := (W4_arr m ρ c 22).trans (arr2_22 (src2 m ρ c nz).at2)
  exact (w5_v24 m ρ c).trans (congrArg (fun z => shapeCast S2x128 z (show S256x1.ShapeCasts S2x128 by decide)) e)
/-- This result is a call's array in another shape. -/
theorem w5_v25 : (W5 m ρ c (Proc.devRef .tc main_v25) : Vec Ideal S2x128x4096 .fp8e4m3) = shapeCast S2x128x4096 (W4 m ρ c (Proc.devRef .tc main_v9_0) : Vec Ideal S256x4096 .fp8e4m3) (by decide) := by
  show StableHlo.after hostOps3 (W4 m ρ c) (Proc.devRef .tc main_v25) = _
  after_results <;> rfl
/-- The program's result holds the normed tokens' codes. -/
theorem res_v25 (nz : NZ (argK m c)) : (W5 m ρ c (Proc.devRef .tc main_v25) : Vec Ideal S2x128x4096 .fp8e4m3) = shapeCast S2x128x4096 (fun y : S256x4096.Idx => (argK m c).c1 (y 0) (y 1)) (by decide) := by
  have e : (W4 m ρ c (Proc.devRef .tc main_v9_0) : Vec Ideal S256x4096 .fp8e4m3) = fun y => (argK m c).c1 (y 0) (y 1) := (W4_of m ρ c main_v9_0 (by decide)).trans ((W3_of m ρ c main_v9_0 (by decide)).trans (ext2 fun i j => w2_c1 m ρ c i j))
  exact (w5_v25 m ρ c).trans (congrArg (fun z => shapeCast S2x128x4096 z (show S256x4096.ShapeCasts S2x128x4096 by decide)) e)
/-- The program's result holds the integer codes of the gate's weights over their steps. -/
theorem res_v10_3 (nz : NZ (argK m c)) : (W5 m ρ c (Proc.devRef .tc main_v10_3) : Vec Ideal S4096x14336 .i8) = fun y => codeI ((argK m c).vg (y 0) (y 1)) :=
  (W5_of m ρ c main_v10_3 (by decide)).trans ((W4_of m ρ c main_v10_3 (by decide)).trans ((W3_arr m ρ c 13).trans (arr1_13 (src1 m ρ c).at1 nz)))
/-- The program's result holds the integer codes of the up projection's weights over their steps. -/
theorem res_v10_4 (nz : NZ (argK m c)) : (W5 m ρ c (Proc.devRef .tc main_v10_4) : Vec Ideal S4096x14336 .i8) = fun y => codeI ((argK m c).vu (y 0) (y 1)) :=
  (W5_of m ρ c main_v10_4 (by decide)).trans ((W4_of m ρ c main_v10_4 (by decide)).trans ((W3_arr m ρ c 14).trans (arr1_14 (src1 m ρ c).at1 nz)))
/-- This result is a call's array in another shape. -/
theorem w5_v26 : (W5 m ρ c (Proc.devRef .tc main_v26) : Vec Ideal S2x128x14336 .fp8e4m3) = shapeCast S2x128x14336 (W4 m ρ c (Proc.devRef .tc main_v10_6) : Vec Ideal S256x14336 .fp8e4m3) (by decide) := by
  show StableHlo.after hostOps3 (W4 m ρ c) (Proc.devRef .tc main_v26) = _
  after_results <;> rfl
/-- The program's result holds the hidden activation's codes. -/
theorem res_v26 (nz : NZ (argK m c)) : (W5 m ρ c (Proc.devRef .tc main_v26) : Vec Ideal S2x128x14336 .fp8e4m3) = shapeCast S2x128x14336 (fun y : S256x14336.Idx => (argK m c).c2 (y 0) (y 1)) (by decide) := by
  have e : (W4 m ρ c (Proc.devRef .tc main_v10_6) : Vec Ideal S256x14336 .fp8e4m3) = fun y => (argK m c).c2 (y 0) (y 1) := (W4_of m ρ c main_v10_6 (by decide)).trans ((W3_arr m ρ c 16).trans (arr1_16 (src1 m ρ c).at1 nz))
  exact (w5_v26 m ρ c).trans (congrArg (fun z => shapeCast S2x128x14336 z (show S256x14336.ShapeCasts S2x128x14336 by decide)) e)
/-- The program's result holds the integer codes of the down projection's weights over their steps. -/
theorem res_v10_5 (nz : NZ (argK m c)) : (W5 m ρ c (Proc.devRef .tc main_v10_5) : Vec Ideal S14336x4096 .i8) = fun y => codeI ((argK m c).vd (y 0) (y 1)) :=
  (W5_of m ρ c main_v10_5 (by decide)).trans ((W4_of m ρ c main_v10_5 (by decide)).trans ((W3_arr m ρ c 15).trans (arr1_15 (src1 m ρ c).at1 nz)))

end Cert.KernelIdeal.At

end
-- ==== Proof.RefAt.lean ====
module

public import proofs.«01_k».proof.Proof.Gen.ReferenceIdeal.Skeleton
public import proofs.«01_k».proof.Proof.Spec

/-! What each step of the reference's body computes, index by index: from operands that hold the layer's quantities, the next quantity. -/

@[expose] public section

set_option maxRecDepth 16384

noncomputable section

namespace Cert.ReferenceIdeal.At

open Idealize.ShloMosaic Idealize.ShloMosaic.TcCoe Idealize.ShloMosaic.Tactic
open Cert.ReferenceIdeal Cert.ReferenceIdeal.Gen Cert.Spec

variable (p : P)

/-- The mask as a choice. -/
theorem sel_mag (v a : EReal) : Scalar.select (BitVec.ofBool (decide (mag v ≤ K 1138753536#32))) a 0 = inA v a := by
  unfold inA Scalar.select
  by_cases h : mag v ≤ K 1138753536#32 <;> simp [h]

/-- An integer code denotes its code. -/
theorem codeI_at (φ : FTy) (v : EReal) : (FloatOps.sitofp (F := Ideal) φ (codeI v) : EReal) = code v := codeI_toInt v

/-- This step of the body gives the norm weight's gradient. -/
theorem pay1 (v14 : FVec Ideal S256x4096 .f32) (v24 : FVec Ideal S256x1 .f32) (v307 : FVec Ideal S256x4096 .f32) (hv14 : ∀ (i : Fin 256) (j : Fin 4096), v14 (ix2 i j) = p.x i j) (hv24 : ∀ (i : Fin 256) (j : Fin 1), v24 (ix2 i j) = p.r i) (hv307 : ∀ (i : Fin 256) (j : Fin 4096), v307 (ix2 i j) = p.dn i j) (i : Fin 1) (j : Fin 4096) :
    (k0_pay1 v14 v24 v307 : FVec Ideal S1x4096 .f32) (ix2 i j) = p.dnw j := by
  unfold k0_pay1; unfold_payloads; pointwise
  try simp only [hv14, hv24, hv307]
  try simp only [clip_round, sitofp_code, codeI_at, res_eq]
  try simp only [sel, sel_mag]
  try simp only [P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dnw, P.dh, P.dot, P.dx, pr, pc, inA, clipA, codeI]

/-- This step of the body gives each token's mean product with the norm's gradient. -/
theorem pay3 (v5 : FVec Ideal S1x4096 .f32) (v14 : FVec Ideal S256x4096 .f32) (v24 : FVec Ideal S256x1 .f32) (v307 : FVec Ideal S256x4096 .f32) (hv5 : ∀ (i : Fin 1) (j : Fin 4096), v5 (ix2 i j) = p.nw j) (hv14 : ∀ (i : Fin 256) (j : Fin 4096), v14 (ix2 i j) = p.x i j) (hv24 : ∀ (i : Fin 256) (j : Fin 1), v24 (ix2 i j) = p.r i) (hv307 : ∀ (i : Fin 256) (j : Fin 4096), v307 (ix2 i j) = p.dn i j) (i : Fin 256) (j : Fin 1) :
    (k0_pay3 v5 v14 v24 v307 : FVec Ideal S256x1 .f32) (ix2 i j) = p.dot i := by
  unfold k0_pay3; unfold_payloads; pointwise
  try simp only [hv5, hv14, hv24, hv307]
  try simp only [clip_round, sitofp_code, codeI_at, res_eq]
  try simp only [sel, sel_mag]
  try simp only [P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dnw, P.dh, P.dot, P.dx, pr, pc, inA, clipA, codeI]

/-- This step of the body gives the tokens' gradient. -/
theorem pay4 (v5 : FVec Ideal S1x4096 .f32) (v14 : FVec Ideal S256x4096 .f32) (v24 : FVec Ideal S256x1 .f32) (v107 : FVec Ideal S256x4096 .f32) (v307 : FVec Ideal S256x4096 .f32) (hv5 : ∀ (i : Fin 1) (j : Fin 4096), v5 (ix2 i j) = p.nw j) (hv14 : ∀ (i : Fin 256) (j : Fin 4096), v14 (ix2 i j) = p.x i j) (hv24 : ∀ (i : Fin 256) (j : Fin 1), v24 (ix2 i j) = p.r i) (hv107 : ∀ (i : Fin 256) (j : Fin 4096), v107 (ix2 i j) = p.dy i j) (hv307 : ∀ (i : Fin 256) (j : Fin 4096), v307 (ix2 i j) = p.dn i j) (i : Fin 256) (j : Fin 4096) :
    (k0_pay4 v5 v14 v24 v107 v307 : FVec Ideal S256x4096 .bf16) (ix2 i j) = p.dx i j := by
  unfold k0_pay4; unfold_payloads; pointwise
  try simp only [hv5, hv14, hv24, hv107, hv307]
  try simp only [clip_round, sitofp_code, codeI_at, res_eq]
  try simp only [sel, sel_mag]
  try simp only [P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dnw, P.dh, P.dot, P.dx, pr, pc, inA, clipA, codeI]

/-- This step of the body gives the first activation step. -/
theorem pay5 (v0 : Vec Ideal S1x1 .f32) (hv0 : ∀ (i : Fin 1) (j : Fin 1), v0 (ix2 i j) = p.s1) (i : Fin 1) (j : Fin 1) :
    (k0_pay5 v0 : FVec Ideal S1x1 .f32) (ix2 i j) = p.s1 := by
  unfold k0_pay5; unfold_payloads; pointwise
  try simp only [hv0]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the second activation step. -/
theorem pay6 (v2 : Vec Ideal S1x1 .f32) (hv2 : ∀ (i : Fin 1) (j : Fin 1), v2 (ix2 i j) = p.s2) (i : Fin 1) (j : Fin 1) :
    (k0_pay6 v2 : FVec Ideal S1x1 .f32) (ix2 i j) = p.s2 := by
  unfold k0_pay6; unfold_payloads; pointwise
  try simp only [hv2]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the norm's weight. -/
theorem pay7 (v4 : Vec Ideal S1x4096 .f32) (hv4 : ∀ (i : Fin 1) (j : Fin 4096), v4 (ix2 i j) = p.nw j) (i : Fin 1) (j : Fin 4096) :
    (k0_pay7 v4 : FVec Ideal S1x4096 .f32) (ix2 i j) = p.nw j := by
  unfold k0_pay7; unfold_payloads; pointwise
  try simp only [hv4]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the gate's steps. -/
theorem pay8 (v6 : Vec Ideal S1x14336 .f32) (hv6 : ∀ (i : Fin 1) (j : Fin 14336), v6 (ix2 i j) = p.sg j) (i : Fin 1) (j : Fin 14336) :
    (k0_pay8 v6 : FVec Ideal S1x14336 .f32) (ix2 i j) = p.sg j := by
  unfold k0_pay8; unfold_payloads; pointwise
  try simp only [hv6]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the up projection's steps. -/
theorem pay9 (v8 : Vec Ideal S1x14336 .f32) (hv8 : ∀ (i : Fin 1) (j : Fin 14336), v8 (ix2 i j) = p.su j) (i : Fin 1) (j : Fin 14336) :
    (k0_pay9 v8 : FVec Ideal S1x14336 .f32) (ix2 i j) = p.su j := by
  unfold k0_pay9; unfold_payloads; pointwise
  try simp only [hv8]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the down projection's steps. -/
theorem pay10 (v10 : Vec Ideal S1x4096 .f32) (hv10 : ∀ (i : Fin 1) (j : Fin 4096), v10 (ix2 i j) = p.sd j) (i : Fin 1) (j : Fin 4096) :
    (k0_pay10 v10 : FVec Ideal S1x4096 .f32) (ix2 i j) = p.sd j := by
  unfold k0_pay10; unfold_payloads; pointwise
  try simp only [hv10]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the tokens. -/
theorem pay11 (v12 : Vec Ideal S256x4096 .bf16) (hv12 : ∀ (i : Fin 256) (j : Fin 4096), v12 (ix2 i j) = p.x i j) (i : Fin 256) (j : Fin 4096) :
    (k0_pay11 v12 : FVec Ideal S256x4096 .f32) (ix2 i j) = p.x i j := by
  unfold k0_pay11; unfold_payloads; pointwise
  try simp only [hv12]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the reciprocal root of the mean square. -/
theorem pay12 (v12 : Vec Ideal S256x4096 .bf16) (hv12 : ∀ (i : Fin 256) (j : Fin 4096), v12 (ix2 i j) = p.x i j) (i : Fin 256) (j : Fin 1) :
    (k0_pay12 v12 : FVec Ideal S256x1 .f32) (ix2 i j) = p.r i := by
  unfold k0_pay12; unfold_payloads; pointwise
  try simp only [hv12]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the normed tokens over their step. -/
theorem pay13 (v0 : Vec Ideal S1x1 .f32) (v4 : Vec Ideal S1x4096 .f32) (v12 : Vec Ideal S256x4096 .bf16) (hv0 : ∀ (i : Fin 1) (j : Fin 1), v0 (ix2 i j) = p.s1) (hv4 : ∀ (i : Fin 1) (j : Fin 4096), v4 (ix2 i j) = p.nw j) (hv12 : ∀ (i : Fin 256) (j : Fin 4096), v12 (ix2 i j) = p.x i j) (i : Fin 256) (j : Fin 4096) :
    (k0_pay13 v0 v4 v12 : FVec Ideal S256x4096 .f32) (ix2 i j) = p.v1 i j := by
  unfold k0_pay13; unfold_payloads; pointwise
  try simp only [hv0, hv4, hv12]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the normed tokens' codes. -/
theorem pay14 (v0 : Vec Ideal S1x1 .f32) (v4 : Vec Ideal S1x4096 .f32) (v12 : Vec Ideal S256x4096 .bf16) (hv0 : ∀ (i : Fin 1) (j : Fin 1), v0 (ix2 i j) = p.s1) (hv4 : ∀ (i : Fin 1) (j : Fin 4096), v4 (ix2 i j) = p.nw j) (hv12 : ∀ (i : Fin 256) (j : Fin 4096), v12 (ix2 i j) = p.x i j) (i : Fin 256) (j : Fin 4096) :
    (k0_pay14 v0 v4 v12 : FVec Ideal S256x4096 .fp8e4m3) (ix2 i j) = p.c1 i j := by
  unfold k0_pay14; unfold_payloads; pointwise
  try simp only [hv0, hv4, hv12]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the gate's weights. -/
theorem pay15 (v36 : Vec Ideal S4096x14336 .bf16) (hv36 : ∀ (i : Fin 4096) (j : Fin 14336), v36 (ix2 i j) = p.wg i j) (i : Fin 4096) (j : Fin 14336) :
    (k0_pay15 v36 : FVec Ideal S4096x14336 .f32) (ix2 i j) = p.wg i j := by
  unfold k0_pay15; unfold_payloads; pointwise
  try simp only [hv36]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the gate's weights over their steps. -/
theorem pay16 (v7 : FVec Ideal S1x14336 .f32) (v37 : FVec Ideal S4096x14336 .f32) (hv7 : ∀ (i : Fin 1) (j : Fin 14336), v7 (ix2 i j) = p.sg j) (hv37 : ∀ (i : Fin 4096) (j : Fin 14336), v37 (ix2 i j) = p.wg i j) (i : Fin 4096) (j : Fin 14336) :
    (k0_pay16 v7 v37 : FVec Ideal S4096x14336 .f32) (ix2 i j) = p.vg i j := by
  unfold k0_pay16; unfold_payloads; pointwise
  try simp only [hv7, hv37]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the integer codes of the gate's weights over their steps. -/
theorem pay17 (v7 : FVec Ideal S1x14336 .f32) (v37 : FVec Ideal S4096x14336 .f32) (hv7 : ∀ (i : Fin 1) (j : Fin 14336), v7 (ix2 i j) = p.sg j) (hv37 : ∀ (i : Fin 4096) (j : Fin 14336), v37 (ix2 i j) = p.wg i j) (i : Fin 4096) (j : Fin 14336) :
    (k0_pay17 v7 v37 : IVec S4096x14336 8) (ix2 i j) = codeI (p.vg i j) := by
  unfold k0_pay17; unfold_payloads; pointwise
  try simp only [hv7, hv37]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]
  rfl

/-- This step of the body gives the up projection's weights over their steps. -/
theorem pay18 (v9 : FVec Ideal S1x14336 .f32) (v46 : Vec Ideal S4096x14336 .bf16) (hv9 : ∀ (i : Fin 1) (j : Fin 14336), v9 (ix2 i j) = p.su j) (hv46 : ∀ (i : Fin 4096) (j : Fin 14336), v46 (ix2 i j) = p.wu i j) (i : Fin 4096) (j : Fin 14336) :
    (k0_pay18 v9 v46 : FVec Ideal S4096x14336 .f32) (ix2 i j) = p.vu i j := by
  unfold k0_pay18; unfold_payloads; pointwise
  try simp only [hv9, hv46]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the integer codes of the up projection's weights over their steps. -/
theorem pay19 (v9 : FVec Ideal S1x14336 .f32) (v46 : Vec Ideal S4096x14336 .bf16) (hv9 : ∀ (i : Fin 1) (j : Fin 14336), v9 (ix2 i j) = p.su j) (hv46 : ∀ (i : Fin 4096) (j : Fin 14336), v46 (ix2 i j) = p.wu i j) (i : Fin 4096) (j : Fin 14336) :
    (k0_pay19 v9 v46 : IVec S4096x14336 8) (ix2 i j) = codeI (p.vu i j) := by
  unfold k0_pay19; unfold_payloads; pointwise
  try simp only [hv9, hv46]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]
  rfl

/-- This step of the body gives the gate. -/
theorem pay20 (v1 : FVec Ideal S1x1 .f32) (v7 : FVec Ideal S1x14336 .f32) (v35 : FVec Ideal S256x4096 .fp8e4m3) (v37 : FVec Ideal S4096x14336 .f32) (hv1 : ∀ (i : Fin 1) (j : Fin 1), v1 (ix2 i j) = p.s1) (hv7 : ∀ (i : Fin 1) (j : Fin 14336), v7 (ix2 i j) = p.sg j) (hv35 : ∀ (i : Fin 256) (j : Fin 4096), v35 (ix2 i j) = p.c1 i j) (hv37 : ∀ (i : Fin 4096) (j : Fin 14336), v37 (ix2 i j) = p.wg i j) (i : Fin 256) (j : Fin 14336) :
    (k0_pay20 v1 v7 v35 v37 : FVec Ideal S256x14336 .f32) (ix2 i j) = p.g i j := by
  unfold k0_pay20; unfold_payloads; pointwise
  try simp only [hv1, hv7, hv35, hv37]
  try simp only [clip_round, sitofp_code, codeI_at, res_eq]
  try simp only [sel, sel_mag]
  try simp only [P.r, P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the up projection. -/
theorem pay21 (v1 : FVec Ideal S1x1 .f32) (v9 : FVec Ideal S1x14336 .f32) (v35 : FVec Ideal S256x4096 .fp8e4m3) (v46 : Vec Ideal S4096x14336 .bf16) (hv1 : ∀ (i : Fin 1) (j : Fin 1), v1 (ix2 i j) = p.s1) (hv9 : ∀ (i : Fin 1) (j : Fin 14336), v9 (ix2 i j) = p.su j) (hv35 : ∀ (i : Fin 256) (j : Fin 4096), v35 (ix2 i j) = p.c1 i j) (hv46 : ∀ (i : Fin 4096) (j : Fin 14336), v46 (ix2 i j) = p.wu i j) (i : Fin 256) (j : Fin 14336) :
    (k0_pay21 v1 v9 v35 v46 : FVec Ideal S256x14336 .f32) (ix2 i j) = p.u i j := by
  unfold k0_pay21; unfold_payloads; pointwise
  try simp only [hv1, hv9, hv35, hv46]
  try simp only [clip_round, sitofp_code, codeI_at, res_eq]
  try simp only [sel, sel_mag]
  try simp only [P.r, P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the gate's logistic. -/
theorem pay22 (v1 : FVec Ideal S1x1 .f32) (v7 : FVec Ideal S1x14336 .f32) (v35 : FVec Ideal S256x4096 .fp8e4m3) (v37 : FVec Ideal S4096x14336 .f32) (hv1 : ∀ (i : Fin 1) (j : Fin 1), v1 (ix2 i j) = p.s1) (hv7 : ∀ (i : Fin 1) (j : Fin 14336), v7 (ix2 i j) = p.sg j) (hv35 : ∀ (i : Fin 256) (j : Fin 4096), v35 (ix2 i j) = p.c1 i j) (hv37 : ∀ (i : Fin 4096) (j : Fin 14336), v37 (ix2 i j) = p.wg i j) (i : Fin 256) (j : Fin 14336) :
    (k0_pay22 v1 v7 v35 v37 : FVec Ideal S256x14336 .f32) (ix2 i j) = p.σ i j := by
  unfold k0_pay22; unfold_payloads; pointwise
  try simp only [hv1, hv7, hv35, hv37]
  try simp only [clip_round, sitofp_code, codeI_at, res_eq]
  try simp only [sel, sel_mag]
  try simp only [P.r, P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the hidden activation over its step. -/
theorem pay23 (v1 : FVec Ideal S1x1 .f32) (v3 : FVec Ideal S1x1 .f32) (v7 : FVec Ideal S1x14336 .f32) (v9 : FVec Ideal S1x14336 .f32) (v35 : FVec Ideal S256x4096 .fp8e4m3) (v37 : FVec Ideal S4096x14336 .f32) (v46 : Vec Ideal S4096x14336 .bf16) (hv1 : ∀ (i : Fin 1) (j : Fin 1), v1 (ix2 i j) = p.s1) (hv3 : ∀ (i : Fin 1) (j : Fin 1), v3 (ix2 i j) = p.s2) (hv7 : ∀ (i : Fin 1) (j : Fin 14336), v7 (ix2 i j) = p.sg j) (hv9 : ∀ (i : Fin 1) (j : Fin 14336), v9 (ix2 i j) = p.su j) (hv35 : ∀ (i : Fin 256) (j : Fin 4096), v35 (ix2 i j) = p.c1 i j) (hv37 : ∀ (i : Fin 4096) (j : Fin 14336), v37 (ix2 i j) = p.wg i j) (hv46 : ∀ (i : Fin 4096) (j : Fin 14336), v46 (ix2 i j) = p.wu i j) (i : Fin 256) (j : Fin 14336) :
    (k0_pay23 v1 v3 v7 v9 v35 v37 v46 : FVec Ideal S256x14336 .f32) (ix2 i j) = p.v2 i j := by
  unfold k0_pay23; unfold_payloads; pointwise
  try simp only [hv1, hv3, hv7, hv9, hv35, hv37, hv46]
  try simp only [clip_round, sitofp_code, codeI_at, res_eq]
  try simp only [sel, sel_mag]
  try simp only [P.r, P.v1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the hidden activation's codes. -/
theorem pay25 (v77 : FVec Ideal S256x14336 .f32) (v78 : FVec Ideal S256x14336 .f32) (hv77 : ∀ (i : Fin 256) (j : Fin 14336), v77 (ix2 i j) = p.v2 i j) (hv78 : ∀ (i : Fin 256) (j : Fin 14336), v78 (ix2 i j) = K 3286237184#32) (i : Fin 256) (j : Fin 14336) :
    (k0_pay25 v77 (Scalar.ofBits .f32 0x43E00000#32 : Ideal .f32) v78 : FVec Ideal S256x14336 .fp8e4m3) (ix2 i j) = p.c2 i j := by
  unfold k0_pay25; unfold_payloads; pointwise
  try simp only [hv77, hv78]
  try simp only [clip_round, sitofp_code, codeI_at, res_eq]
  try simp only [sel, sel_mag]
  try simp only [P.r, P.v1, P.c1, P.vg, P.vu, P.vd, P.gr, P.ur, P.g, P.u, P.σ, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the down projection's weights over their steps. -/
theorem pay26 (v11 : FVec Ideal S1x4096 .f32) (v83 : Vec Ideal S14336x4096 .bf16) (hv11 : ∀ (i : Fin 1) (j : Fin 4096), v11 (ix2 i j) = p.sd j) (hv83 : ∀ (i : Fin 14336) (j : Fin 4096), v83 (ix2 i j) = p.wd i j) (i : Fin 14336) (j : Fin 4096) :
    (k0_pay26 v11 v83 : FVec Ideal S14336x4096 .f32) (ix2 i j) = p.vd i j := by
  unfold k0_pay26; unfold_payloads; pointwise
  try simp only [hv11, hv83]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the integer codes of the down projection's weights over their steps. -/
theorem pay27 (v11 : FVec Ideal S1x4096 .f32) (v83 : Vec Ideal S14336x4096 .bf16) (hv11 : ∀ (i : Fin 1) (j : Fin 4096), v11 (ix2 i j) = p.sd j) (hv83 : ∀ (i : Fin 14336) (j : Fin 4096), v83 (ix2 i j) = p.wd i j) (i : Fin 14336) (j : Fin 4096) :
    (k0_pay27 v11 v83 : IVec S14336x4096 8) (ix2 i j) = codeI (p.vd i j) := by
  unfold k0_pay27; unfold_payloads; pointwise
  try simp only [hv11, hv83]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]
  rfl

/-- This step of the body gives the output. -/
theorem pay28 (v3 : FVec Ideal S1x1 .f32) (v11 : FVec Ideal S1x4096 .f32) (v14 : FVec Ideal S256x4096 .f32) (v77 : FVec Ideal S256x14336 .f32) (v78 : FVec Ideal S256x14336 .f32) (v83 : Vec Ideal S14336x4096 .bf16) (hv3 : ∀ (i : Fin 1) (j : Fin 1), v3 (ix2 i j) = p.s2) (hv11 : ∀ (i : Fin 1) (j : Fin 4096), v11 (ix2 i j) = p.sd j) (hv14 : ∀ (i : Fin 256) (j : Fin 4096), v14 (ix2 i j) = p.x i j) (hv77 : ∀ (i : Fin 256) (j : Fin 14336), v77 (ix2 i j) = p.v2 i j) (hv78 : ∀ (i : Fin 256) (j : Fin 14336), v78 (ix2 i j) = K 3286237184#32) (hv83 : ∀ (i : Fin 14336) (j : Fin 4096), v83 (ix2 i j) = p.wd i j) (i : Fin 256) (j : Fin 4096) :
    (k0_pay28 v3 v11 v14 v77 (Scalar.ofBits .f32 0x43E00000#32 : Ideal .f32) v78 v83 : FVec Ideal S256x4096 .bf16) (ix2 i j) = p.y i j := by
  unfold k0_pay28; unfold_payloads; pointwise
  try simp only [hv3, hv11, hv14, hv77, hv78, hv83]
  try simp only [clip_round, sitofp_code, codeI_at, res_eq]
  try simp only [sel, sel_mag]
  try simp only [P.r, P.v1, P.c1, P.vg, P.vu, P.vd, P.gr, P.ur, P.g, P.u, P.σ, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the output's gradient. -/
theorem pay29 (v105 : Vec Ideal S256x4096 .bf16) (hv105 : ∀ (i : Fin 256) (j : Fin 4096), v105 (ix2 i j) = p.dy i j) (i : Fin 256) (j : Fin 4096) :
    (k0_pay29 v105 : FVec Ideal S256x4096 .bf16) (ix2 i j) = p.dy i j := by
  unfold k0_pay29; unfold_payloads; pointwise
  try simp only [hv105]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the output's gradient. -/
theorem pay30 (v105 : Vec Ideal S256x4096 .bf16) (hv105 : ∀ (i : Fin 256) (j : Fin 4096), v105 (ix2 i j) = p.dy i j) (i : Fin 256) (j : Fin 4096) :
    (k0_pay30 v105 : FVec Ideal S256x4096 .f32) (ix2 i j) = p.dy i j := by
  unfold k0_pay30; unfold_payloads; pointwise
  try simp only [hv105]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives a combination of the gate's steps and the gate's weights over their steps. -/
theorem pay31 (v7 : FVec Ideal S1x14336 .f32) (v45 : IVec S4096x14336 8) (hv7 : ∀ (i : Fin 1) (j : Fin 14336), v7 (ix2 i j) = p.sg j) (hv45 : ∀ (i : Fin 4096) (j : Fin 14336), v45 (ix2 i j) = codeI (p.vg i j)) (i : Fin 4096) (j : Fin 14336) :
    (k0_pay31 v7 v45 : FVec Ideal S4096x14336 .bf16) (ix2 i j) = p.sg j * code (p.vg i j) := by
  unfold k0_pay31; unfold_payloads; pointwise
  try simp only [hv7, hv45]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA]

/-- This step of the body gives a combination of the up projection's steps and the up projection's weights over their steps. -/
theorem pay32 (v9 : FVec Ideal S1x14336 .f32) (v55 : IVec S4096x14336 8) (hv9 : ∀ (i : Fin 1) (j : Fin 14336), v9 (ix2 i j) = p.su j) (hv55 : ∀ (i : Fin 4096) (j : Fin 14336), v55 (ix2 i j) = codeI (p.vu i j)) (i : Fin 4096) (j : Fin 14336) :
    (k0_pay32 v9 v55 : FVec Ideal S4096x14336 .bf16) (ix2 i j) = p.su j * code (p.vu i j) := by
  unfold k0_pay32; unfold_payloads; pointwise
  try simp only [hv9, hv55]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA]

/-- This step of the body gives the hidden activation's gradient. -/
theorem pay33 (v11 : FVec Ideal S1x4096 .f32) (v83 : Vec Ideal S14336x4096 .bf16) (v105 : Vec Ideal S256x4096 .bf16) (hv11 : ∀ (i : Fin 1) (j : Fin 4096), v11 (ix2 i j) = p.sd j) (hv83 : ∀ (i : Fin 14336) (j : Fin 4096), v83 (ix2 i j) = p.wd i j) (hv105 : ∀ (i : Fin 256) (j : Fin 4096), v105 (ix2 i j) = p.dy i j) (i : Fin 256) (j : Fin 14336) :
    (k0_pay33 v11 v83 v105 : FVec Ideal S256x14336 .f32) (ix2 i j) = p.da2 i j := by
  unfold k0_pay33; unfold_payloads; pointwise
  try simp only [hv11, hv83, hv105]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the hidden activation's codes. -/
theorem pay34 (v77 : FVec Ideal S256x14336 .f32) (v78 : FVec Ideal S256x14336 .f32) (hv77 : ∀ (i : Fin 256) (j : Fin 14336), v77 (ix2 i j) = p.v2 i j) (hv78 : ∀ (i : Fin 256) (j : Fin 14336), v78 (ix2 i j) = K 3286237184#32) (i : Fin 256) (j : Fin 14336) :
    (k0_pay34 v77 (Scalar.ofBits .f32 0x43E00000#32 : Ideal .f32) v78 : FVec Ideal S256x14336 .bf16) (ix2 i j) = p.c2 i j := by
  unfold k0_pay34; unfold_payloads; pointwise
  try simp only [hv77, hv78]
  try simp only [clip_round, sitofp_code, codeI_at, res_eq]
  try simp only [sel, sel_mag]
  try simp only [P.r, P.v1, P.c1, P.vg, P.vu, P.vd, P.gr, P.ur, P.g, P.u, P.σ, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the down steps' gradient. -/
theorem pay37 (v3 : FVec Ideal S1x1 .f32) (v86 : FVec Ideal S14336x4096 .f32) (v106 : FVec Ideal S256x4096 .bf16) (v121 : FVec Ideal S256x14336 .bf16) (hv3 : ∀ (i : Fin 1) (j : Fin 1), v3 (ix2 i j) = p.s2) (hv86 : ∀ (i : Fin 14336) (j : Fin 4096), v86 (ix2 i j) = p.vd i j) (hv106 : ∀ (i : Fin 256) (j : Fin 4096), v106 (ix2 i j) = p.dy i j) (hv121 : ∀ (i : Fin 256) (j : Fin 14336), v121 (ix2 i j) = p.c2 i j) (i : Fin 1) (j : Fin 4096) :
    (k0_pay37 v3 v86 v106 v121 : FVec Ideal S1x4096 .f32) (ix2 i j) = p.dsd j := by
  unfold k0_pay37; unfold_payloads; pointwise
  try simp only [hv3, hv86, hv106, hv121]
  try simp only [clip_round, sitofp_code, codeI_at, res_eq]
  try simp only [sel, sel_mag]
  try simp only [P.r, P.v1, P.c1, P.vg, P.vu, P.gr, P.ur, P.g, P.u, P.σ, P.v2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the down weights' gradient. -/
theorem pay38 (v3 : FVec Ideal S1x1 .f32) (v86 : FVec Ideal S14336x4096 .f32) (v106 : FVec Ideal S256x4096 .bf16) (v121 : FVec Ideal S256x14336 .bf16) (hv3 : ∀ (i : Fin 1) (j : Fin 1), v3 (ix2 i j) = p.s2) (hv86 : ∀ (i : Fin 14336) (j : Fin 4096), v86 (ix2 i j) = p.vd i j) (hv106 : ∀ (i : Fin 256) (j : Fin 4096), v106 (ix2 i j) = p.dy i j) (hv121 : ∀ (i : Fin 256) (j : Fin 14336), v121 (ix2 i j) = p.c2 i j) (i : Fin 14336) (j : Fin 4096) :
    (k0_pay38 v3 v86 v106 v121 : FVec Ideal S14336x4096 .bf16) (ix2 i j) = p.dwd i j := by
  unfold k0_pay38; unfold_payloads; pointwise
  try simp only [hv3, hv86, hv106, hv121]
  try simp only [clip_round, sitofp_code, codeI_at, res_eq]
  try simp only [sel, sel_mag]
  try simp only [P.r, P.v1, P.c1, P.vg, P.vu, P.gr, P.ur, P.g, P.u, P.σ, P.v2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the magnitude of the hidden activation over its step. -/
theorem pay39 (v77 : FVec Ideal S256x14336 .f32) (hv77 : ∀ (i : Fin 256) (j : Fin 14336), v77 (ix2 i j) = p.v2 i j) (i : Fin 256) (j : Fin 14336) :
    (k0_pay39 v77 : FVec Ideal S256x14336 .f32) (ix2 i j) = mag (p.v2 i j) := by
  unfold k0_pay39; unfold_payloads; pointwise
  try simp only [hv77]
  try simp only [clip_round, sitofp_code, codeI_at, res_eq]
  try simp only [sel, sel_mag]
  try simp only [P.r, P.v1, P.c1, P.vg, P.vu, P.vd, P.gr, P.ur, P.g, P.u, P.σ, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the test of the hidden activation over its step for lying in the range. -/
theorem pay40 (v77 : FVec Ideal S256x14336 .f32) (hv77 : ∀ (i : Fin 256) (j : Fin 14336), v77 (ix2 i j) = p.v2 i j) (i : Fin 256) (j : Fin 14336) :
    (k0_pay40 v77 : IVec S256x14336 1) (ix2 i j) = BitVec.ofBool (decide (mag (p.v2 i j) ≤ K 1138753536#32)) := by
  unfold k0_pay40; unfold_payloads; pointwise
  try simp only [hv77]
  try simp only [clip_round, sitofp_code, codeI_at, res_eq]
  try simp only [sel, sel_mag]
  try simp only [P.r, P.v1, P.c1, P.vg, P.vu, P.vd, P.gr, P.ur, P.g, P.u, P.σ, P.c2, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives a combination of the hidden activation over its step and the hidden activation's codes. -/
theorem pay41 (v77 : FVec Ideal S256x14336 .f32) (v82 : FVec Ideal S256x14336 .fp8e4m3) (hv77 : ∀ (i : Fin 256) (j : Fin 14336), v77 (ix2 i j) = p.v2 i j) (hv82 : ∀ (i : Fin 256) (j : Fin 14336), v82 (ix2 i j) = p.c2 i j) (i : Fin 256) (j : Fin 14336) :
    (k0_pay41 v77 v82 : FVec Ideal S256x14336 .f32) (ix2 i j) = pr (p.v2 i j) (p.c2 i j) := by
  unfold k0_pay41; unfold_payloads; pointwise
  try simp only [hv77, hv82]
  try simp only [clip_round, sitofp_code, codeI_at, res_eq]
  try simp only [sel, sel_mag]
  try simp only [P.r, P.v1, P.c1, P.vg, P.vu, P.vd, P.gr, P.ur, P.g, P.u, P.σ, P.o, P.y, P.da2, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the hidden activation's gradient let through inside the range. -/
theorem pay42 (v120 : FVec Ideal S256x14336 .f32) (v157 : IVec S256x14336 1) (hv120 : ∀ (i : Fin 256) (j : Fin 14336), v120 (ix2 i j) = p.da2 i j) (hv157 : ∀ (i : Fin 256) (j : Fin 14336), v157 (ix2 i j) = BitVec.ofBool (decide (mag (p.v2 i j) ≤ K 1138753536#32))) (i : Fin 256) (j : Fin 14336) :
    (k0_pay42 v120 v157 : FVec Ideal S256x14336 .f32) (ix2 i j) = p.da i j := by
  unfold k0_pay42; unfold_payloads; pointwise
  try simp only [hv120, hv157]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives each token's clipping part of the second step's gradient. -/
theorem pay43 (v77 : FVec Ideal S256x14336 .f32) (v120 : FVec Ideal S256x14336 .f32) (v155 : FVec Ideal S256x14336 .f32) (hv77 : ∀ (i : Fin 256) (j : Fin 14336), v77 (ix2 i j) = p.v2 i j) (hv120 : ∀ (i : Fin 256) (j : Fin 14336), v120 (ix2 i j) = p.da2 i j) (hv155 : ∀ (i : Fin 256) (j : Fin 14336), v155 (ix2 i j) = mag (p.v2 i j)) (i : Fin 256) (j : Fin 1) :
    (k0_pay43 v77 v120 v155 : FVec Ideal S256x1 .f32) (ix2 i j) = p.clp2 i := by
  unfold k0_pay43; unfold_payloads; pointwise
  try simp only [hv77, hv120, hv155]
  try simp only [clip_round, sitofp_code, codeI_at, res_eq]
  try simp only [sel, sel_mag]
  try simp only [P.r, P.v1, P.c1, P.vg, P.vu, P.vd, P.gr, P.ur, P.g, P.u, P.σ, P.c2, P.o, P.y, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives each token's sum of magnitudes of the second step's rounding part. -/
theorem pay45 (v120 : FVec Ideal S256x14336 .f32) (v161 : FVec Ideal S256x14336 .f32) (hv120 : ∀ (i : Fin 256) (j : Fin 14336), v120 (ix2 i j) = p.da2 i j) (hv161 : ∀ (i : Fin 256) (j : Fin 14336), v161 (ix2 i j) = pr (p.v2 i j) (p.c2 i j)) (i : Fin 256) (j : Fin 1) :
    (k0_pay45 v120 v161 : FVec Ideal S256x1 .f32) (ix2 i j) = p.abs2 i := by
  unfold k0_pay45; unfold_payloads; pointwise
  try simp only [hv120, hv161]
  try simp only [clip_round, sitofp_code, codeI_at, res_eq]
  try simp only [sel, sel_mag]
  try simp only [P.r, P.v1, P.c1, P.vg, P.vu, P.vd, P.gr, P.ur, P.g, P.u, P.σ, P.v2, P.c2, P.o, P.y, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pc, inA, clipA, codeI]

/-- This step of the body gives the second activation step's gradient. -/
theorem pay46 (v77 : FVec Ideal S256x14336 .f32) (v120 : FVec Ideal S256x14336 .f32) (v155 : FVec Ideal S256x14336 .f32) (v161 : FVec Ideal S256x14336 .f32) (hv77 : ∀ (i : Fin 256) (j : Fin 14336), v77 (ix2 i j) = p.v2 i j) (hv120 : ∀ (i : Fin 256) (j : Fin 14336), v120 (ix2 i j) = p.da2 i j) (hv155 : ∀ (i : Fin 256) (j : Fin 14336), v155 (ix2 i j) = mag (p.v2 i j)) (hv161 : ∀ (i : Fin 256) (j : Fin 14336), v161 (ix2 i j) = pr (p.v2 i j) (p.c2 i j)) (i : Fin 1) (j : Fin 1) :
    (k0_pay46 v77 v120 v155 v161 : FVec Ideal S1x1 .f32) (ix2 i j) = p.dsa2 := by
  unfold k0_pay46; unfold_payloads; pointwise
  try simp only [hv77, hv120, hv155, hv161]
  try simp only [clip_round, sitofp_code, codeI_at, res_eq]
  try simp only [sel, sel_mag]
  try simp only [P.r, P.v1, P.c1, P.vg, P.vu, P.vd, P.gr, P.ur, P.g, P.u, P.σ, P.c2, P.o, P.y, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pc, inA, clipA, codeI]

/-- This step of the body gives the let-through gradient of the hidden activation times the up projection. -/
theorem pay47 (v72 : FVec Ideal S256x14336 .f32) (v120 : FVec Ideal S256x14336 .f32) (v157 : IVec S256x14336 1) (hv72 : ∀ (i : Fin 256) (j : Fin 14336), v72 (ix2 i j) = p.u i j) (hv120 : ∀ (i : Fin 256) (j : Fin 14336), v120 (ix2 i j) = p.da2 i j) (hv157 : ∀ (i : Fin 256) (j : Fin 14336), v157 (ix2 i j) = BitVec.ofBool (decide (mag (p.v2 i j) ≤ K 1138753536#32))) (i : Fin 256) (j : Fin 14336) :
    (k0_pay47 v72 v120 v157 : FVec Ideal S256x14336 .f32) (ix2 i j) = p.dau i j := by
  unfold k0_pay47; unfold_payloads; pointwise
  try simp only [hv72, hv120, hv157]
  try simp only [clip_round, sitofp_code, codeI_at, res_eq]
  try simp only [sel, sel_mag]
  try simp only [P.r, P.v1, P.c1, P.vg, P.vu, P.vd, P.gr, P.ur, P.g, P.σ, P.v2, P.c2, P.o, P.y, P.rnd2, P.abs2, P.clp2, P.dsa2, P.gwd, P.dwd, P.dsd, P.da, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the normed tokens' gradient. -/
theorem pay50 (v65 : FVec Ideal S256x14336 .f32) (v73 : FVec Ideal S256x14336 .f32) (v111 : FVec Ideal S4096x14336 .bf16) (v115 : FVec Ideal S4096x14336 .bf16) (v179 : FVec Ideal S256x14336 .f32) (v201 : FVec Ideal S256x14336 .f32) (hv65 : ∀ (i : Fin 256) (j : Fin 14336), v65 (ix2 i j) = p.g i j) (hv73 : ∀ (i : Fin 256) (j : Fin 14336), v73 (ix2 i j) = p.σ i j) (hv111 : ∀ (i : Fin 4096) (j : Fin 14336), v111 (ix2 i j) = p.sg j * code (p.vg i j)) (hv115 : ∀ (i : Fin 4096) (j : Fin 14336), v115 (ix2 i j) = p.su j * code (p.vu i j)) (hv179 : ∀ (i : Fin 256) (j : Fin 14336), v179 (ix2 i j) = p.da i j) (hv201 : ∀ (i : Fin 256) (j : Fin 14336), v201 (ix2 i j) = p.dau i j) (i : Fin 256) (j : Fin 4096) :
    (k0_pay50 v65 v73 v111 v115 v179 v201 : FVec Ideal S256x4096 .f32) (ix2 i j) = p.da1 i j := by
  unfold k0_pay50; unfold_payloads; pointwise
  try simp only [hv65, hv73, hv111, hv115, hv179, hv201]
  try simp only [clip_round, sitofp_code, codeI_at, res_eq]
  try simp only [sel, sel_mag]
  try simp only [P.r, P.v1, P.c1, P.vg, P.vu, P.vd, P.gr, P.ur, P.v2, P.c2, P.o, P.y, P.da2, P.rnd2, P.abs2, P.clp2, P.dsa2, P.gwd, P.dwd, P.dsd, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the gradient of the quantised up weights. -/
theorem pay53 (v1 : FVec Ideal S1x1 .f32) (v35 : FVec Ideal S256x4096 .fp8e4m3) (v65 : FVec Ideal S256x14336 .f32) (v73 : FVec Ideal S256x14336 .f32) (v179 : FVec Ideal S256x14336 .f32) (hv1 : ∀ (i : Fin 1) (j : Fin 1), v1 (ix2 i j) = p.s1) (hv35 : ∀ (i : Fin 256) (j : Fin 4096), v35 (ix2 i j) = p.c1 i j) (hv65 : ∀ (i : Fin 256) (j : Fin 14336), v65 (ix2 i j) = p.g i j) (hv73 : ∀ (i : Fin 256) (j : Fin 14336), v73 (ix2 i j) = p.σ i j) (hv179 : ∀ (i : Fin 256) (j : Fin 14336), v179 (ix2 i j) = p.da i j) (i : Fin 4096) (j : Fin 14336) :
    (k0_pay53 v1 v35 v65 v73 v179 : FVec Ideal S4096x14336 .f32) (ix2 i j) = p.gwu i j := by
  unfold k0_pay53; unfold_payloads; pointwise
  try simp only [hv1, hv35, hv65, hv73, hv179]
  try simp only [clip_round, sitofp_code, codeI_at, res_eq]
  try simp only [sel, sel_mag]
  try simp only [P.r, P.v1, P.vg, P.vu, P.vd, P.gr, P.ur, P.u, P.v2, P.c2, P.o, P.y, P.da2, P.rnd2, P.abs2, P.clp2, P.dsa2, P.gwd, P.dwd, P.dsd, P.dau, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the gate weights' gradient. -/
theorem pay55 (v1 : FVec Ideal S1x1 .f32) (v35 : FVec Ideal S256x4096 .fp8e4m3) (v39 : FVec Ideal S4096x14336 .f32) (v65 : FVec Ideal S256x14336 .f32) (v73 : FVec Ideal S256x14336 .f32) (v201 : FVec Ideal S256x14336 .f32) (hv1 : ∀ (i : Fin 1) (j : Fin 1), v1 (ix2 i j) = p.s1) (hv35 : ∀ (i : Fin 256) (j : Fin 4096), v35 (ix2 i j) = p.c1 i j) (hv39 : ∀ (i : Fin 4096) (j : Fin 14336), v39 (ix2 i j) = p.vg i j) (hv65 : ∀ (i : Fin 256) (j : Fin 14336), v65 (ix2 i j) = p.g i j) (hv73 : ∀ (i : Fin 256) (j : Fin 14336), v73 (ix2 i j) = p.σ i j) (hv201 : ∀ (i : Fin 256) (j : Fin 14336), v201 (ix2 i j) = p.dau i j) (i : Fin 4096) (j : Fin 14336) :
    (k0_pay55 v1 v35 v39 v65 v73 v201 : FVec Ideal S4096x14336 .f32) (ix2 i j) = p.dwg i j := by
  unfold k0_pay55; unfold_payloads; pointwise
  try simp only [hv1, hv35, hv39, hv65, hv73, hv201]
  try simp only [clip_round, sitofp_code, codeI_at, res_eq]
  try simp only [sel, sel_mag]
  try simp only [P.r, P.v1, P.vu, P.vd, P.gr, P.ur, P.u, P.v2, P.c2, P.o, P.y, P.da2, P.rnd2, P.abs2, P.clp2, P.dsa2, P.gwd, P.dwd, P.dsd, P.da, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives a combination of the gradient of the quantised gate weights and the gate's weights over their steps. -/
theorem pay56 (v1 : FVec Ideal S1x1 .f32) (v35 : FVec Ideal S256x4096 .fp8e4m3) (v39 : FVec Ideal S4096x14336 .f32) (v65 : FVec Ideal S256x14336 .f32) (v73 : FVec Ideal S256x14336 .f32) (v201 : FVec Ideal S256x14336 .f32) (hv1 : ∀ (i : Fin 1) (j : Fin 1), v1 (ix2 i j) = p.s1) (hv35 : ∀ (i : Fin 256) (j : Fin 4096), v35 (ix2 i j) = p.c1 i j) (hv39 : ∀ (i : Fin 4096) (j : Fin 14336), v39 (ix2 i j) = p.vg i j) (hv65 : ∀ (i : Fin 256) (j : Fin 14336), v65 (ix2 i j) = p.g i j) (hv73 : ∀ (i : Fin 256) (j : Fin 14336), v73 (ix2 i j) = p.σ i j) (hv201 : ∀ (i : Fin 256) (j : Fin 14336), v201 (ix2 i j) = p.dau i j) (i : Fin 4096) (j : Fin 14336) :
    (k0_pay56 v1 v35 v39 v65 v73 v201 : FVec Ideal S4096x14336 .f32) (ix2 i j) = p.gwg i j * res (p.vg i j) := by
  unfold k0_pay56; unfold_payloads; pointwise
  try simp only [hv1, hv35, hv39, hv65, hv73, hv201]
  try simp only [clip_round, sitofp_code, codeI_at, res_eq]
  try simp only [sel, sel_mag]
  try simp only [P.r, P.v1, P.vu, P.vd, P.gr, P.ur, P.u, P.v2, P.c2, P.o, P.y, P.da2, P.rnd2, P.abs2, P.clp2, P.dsa2, P.gwd, P.dwd, P.dsd, P.da, P.dg, P.du, P.gwg, P.gwu, P.dwg, P.dwu, P.dsg, P.dsu, P.da1, P.rnd1, P.clp1, P.dsa1, P.dn, P.dnw, P.dh, P.dot, P.dx, pr, pc, inA, clipA, codeI]

/-- This step of the body gives the gate steps' gradient. -/
theorem pay57 (v246 : FVec Ideal S4096x14336 .f32) (hv246 : ∀ (i : Fin 4096) (j : Fin 14336), v246 (ix2 i j) = p.gwg i j * res (p.vg i j)) (i : Fin 1) (j : Fin 14336) :
    (k0_pay57 v246 : FVec Ideal S1x14336 .f32) (ix2 i j) = p.dsg j := by
  unfold k0_pay57; unfold_payloads; pointwise
  try simp only [hv246]
  try simp only [clip_round, sitofp_code, codeI_at, res_eq]
  try simp only [sel, sel_mag]
  try simp only [P.r, P.v1, P.c1, P.vd, P.gr, P.ur, P.g, P.u, P.σ, P.v2, P.c2, P.o, P.y, P.da2, P.rnd2, P.abs2, P.clp2, P.dsa2, P.gwd, P.dwd, P.dsd, P.da, P.dau, P.dg, P.du, P.dwg, P.dwu, P.dsg, P.dsu, P.da1, P.rnd1, P.clp1, P.dsa1, P.dn, P.dnw, P.dh, P.dot, P.dx, pr, pc, inA, clipA, codeI]

/-- This step of the body gives the up steps' gradient. -/
theorem pay59 (v49 : FVec Ideal S4096x14336 .f32) (v224 : FVec Ideal S4096x14336 .f32) (hv49 : ∀ (i : Fin 4096) (j : Fin 14336), v49 (ix2 i j) = p.vu i j) (hv224 : ∀ (i : Fin 4096) (j : Fin 14336), v224 (ix2 i j) = p.gwu i j) (i : Fin 1) (j : Fin 14336) :
    (k0_pay59 v49 v224 : FVec Ideal S1x14336 .f32) (ix2 i j) = p.dsu j := by
  unfold k0_pay59; unfold_payloads; pointwise
  try simp only [hv49, hv224]
  try simp only [clip_round, sitofp_code, codeI_at, res_eq]
  try simp only [sel, sel_mag]
  try simp only [P.r, P.v1, P.c1, P.vd, P.gr, P.ur, P.g, P.u, P.σ, P.v2, P.c2, P.o, P.y, P.da2, P.rnd2, P.abs2, P.clp2, P.dsa2, P.gwd, P.dwd, P.dsd, P.da, P.dau, P.dg, P.du, P.dwg, P.dwu, P.dsg, P.dsu, P.da1, P.rnd1, P.clp1, P.dsa1, P.dn, P.dnw, P.dh, P.dot, P.dx, pr, pc, inA, clipA, codeI]

/-- This step of the body gives the gate weights' gradient. -/
theorem pay60 (v244 : FVec Ideal S4096x14336 .f32) (hv244 : ∀ (i : Fin 4096) (j : Fin 14336), v244 (ix2 i j) = p.dwg i j) (i : Fin 4096) (j : Fin 14336) :
    (k0_pay60 v244 : FVec Ideal S4096x14336 .bf16) (ix2 i j) = p.dwg i j := by
  unfold k0_pay60; unfold_payloads; pointwise
  try simp only [hv244]
  try simp only [clip_round, sitofp_code, codeI_at, res_eq]
  try simp only [sel, sel_mag]
  try simp only [P.r, P.v1, P.c1, P.vd, P.gr, P.ur, P.g, P.u, P.σ, P.v2, P.c2, P.o, P.y, P.da2, P.rnd2, P.abs2, P.clp2, P.dsa2, P.gwd, P.dwd, P.dsd, P.da, P.dau, P.dg, P.du, P.dwu, P.dsg, P.dsu, P.da1, P.rnd1, P.clp1, P.dsa1, P.dn, P.dnw, P.dh, P.dot, P.dx, pr, pc, inA, clipA, codeI]

/-- This step of the body gives the up weights' gradient. -/
theorem pay61 (v49 : FVec Ideal S4096x14336 .f32) (v224 : FVec Ideal S4096x14336 .f32) (hv49 : ∀ (i : Fin 4096) (j : Fin 14336), v49 (ix2 i j) = p.vu i j) (hv224 : ∀ (i : Fin 4096) (j : Fin 14336), v224 (ix2 i j) = p.gwu i j) (i : Fin 4096) (j : Fin 14336) :
    (k0_pay61 v49 v224 : FVec Ideal S4096x14336 .bf16) (ix2 i j) = p.dwu i j := by
  unfold k0_pay61; unfold_payloads; pointwise
  try simp only [hv49, hv224]
  try simp only [clip_round, sitofp_code, codeI_at, res_eq]
  try simp only [sel, sel_mag]
  try simp only [P.r, P.v1, P.c1, P.vd, P.gr, P.ur, P.g, P.u, P.σ, P.v2, P.c2, P.o, P.y, P.da2, P.rnd2, P.abs2, P.clp2, P.dsa2, P.gwd, P.dwd, P.dsd, P.da, P.dau, P.dg, P.du, P.dwg, P.dwu, P.dsg, P.dsu, P.da1, P.rnd1, P.clp1, P.dsa1, P.dn, P.dnw, P.dh, P.dot, P.dx, pr, pc, inA, clipA, codeI]

/-- This step of the body gives the normed tokens' gradient let through inside the range. -/
theorem pay64 (v30 : FVec Ideal S256x4096 .f32) (v215 : FVec Ideal S256x4096 .f32) (hv30 : ∀ (i : Fin 256) (j : Fin 4096), v30 (ix2 i j) = p.v1 i j) (hv215 : ∀ (i : Fin 256) (j : Fin 4096), v215 (ix2 i j) = p.da1 i j) (i : Fin 256) (j : Fin 4096) :
    (k0_pay64 v30 v215 : FVec Ideal S256x4096 .f32) (ix2 i j) = p.dn i j := by
  unfold k0_pay64; unfold_payloads; pointwise
  try simp only [hv30, hv215]
  try simp only [clip_round, sitofp_code, codeI_at, res_eq]
  try simp only [sel, sel_mag]
  try simp only [P.r, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.rnd1, P.clp1, P.dsa1, P.dn, P.dnw, P.dh, P.dot, P.dx, pr, pc, inA, clipA, codeI]

/-- This step of the body gives each token's clipping part of the first step's gradient. -/
theorem pay65 (v30 : FVec Ideal S256x4096 .f32) (v215 : FVec Ideal S256x4096 .f32) (hv30 : ∀ (i : Fin 256) (j : Fin 4096), v30 (ix2 i j) = p.v1 i j) (hv215 : ∀ (i : Fin 256) (j : Fin 4096), v215 (ix2 i j) = p.da1 i j) (i : Fin 256) (j : Fin 1) :
    (k0_pay65 v30 v215 : FVec Ideal S256x1 .f32) (ix2 i j) = p.clp1 i := by
  unfold k0_pay65; unfold_payloads; pointwise
  try simp only [hv30, hv215]
  try simp only [clip_round, sitofp_code, codeI_at, res_eq]
  try simp only [sel, sel_mag]
  try simp only [P.r, P.c1, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.rnd1, P.clp1, P.dsa1, P.dn, P.dnw, P.dh, P.dot, P.dx, pr, pc, inA, clipA, codeI]

/-- This step of the body gives each token's rounding part of the first step's gradient. -/
theorem pay66 (v30 : FVec Ideal S256x4096 .f32) (v35 : FVec Ideal S256x4096 .fp8e4m3) (v215 : FVec Ideal S256x4096 .f32) (hv30 : ∀ (i : Fin 256) (j : Fin 4096), v30 (ix2 i j) = p.v1 i j) (hv35 : ∀ (i : Fin 256) (j : Fin 4096), v35 (ix2 i j) = p.c1 i j) (hv215 : ∀ (i : Fin 256) (j : Fin 4096), v215 (ix2 i j) = p.da1 i j) (i : Fin 256) (j : Fin 1) :
    (k0_pay66 v30 v35 v215 : FVec Ideal S256x1 .f32) (ix2 i j) = p.rnd1 i := by
  unfold k0_pay66; unfold_payloads; pointwise
  try simp only [hv30, hv35, hv215]
  try simp only [clip_round, sitofp_code, codeI_at, res_eq]
  try simp only [sel, sel_mag]
  try simp only [P.r, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.rnd1, P.clp1, P.dsa1, P.dn, P.dnw, P.dh, P.dot, P.dx, pr, pc, inA, clipA, codeI]

/-- This step of the body gives the first activation step's gradient. -/
theorem pay67 (v30 : FVec Ideal S256x4096 .f32) (v35 : FVec Ideal S256x4096 .fp8e4m3) (v215 : FVec Ideal S256x4096 .f32) (hv30 : ∀ (i : Fin 256) (j : Fin 4096), v30 (ix2 i j) = p.v1 i j) (hv35 : ∀ (i : Fin 256) (j : Fin 4096), v35 (ix2 i j) = p.c1 i j) (hv215 : ∀ (i : Fin 256) (j : Fin 4096), v215 (ix2 i j) = p.da1 i j) (i : Fin 1) (j : Fin 1) :
    (k0_pay67 v30 v35 v215 : FVec Ideal S1x1 .f32) (ix2 i j) = p.dsa1 := by
  unfold k0_pay67; unfold_payloads; pointwise
  try simp only [hv30, hv35, hv215]
  try simp only [clip_round, sitofp_code, codeI_at, res_eq]
  try simp only [sel, sel_mag]
  try simp only [P.r, P.vg, P.vu, P.vd, P.gr, P.ur, P.g, P.u, P.σ, P.v2, P.c2, P.o, P.y, P.da2, P.rnd2, P.abs2, P.clp2, P.dsa2, P.gwd, P.dwd, P.dsd, P.da, P.dau, P.dg, P.du, P.gwg, P.gwu, P.dwg, P.dwu, P.dsg, P.dsu, P.rnd1, P.clp1, P.dsa1, P.dn, P.dnw, P.dh, P.dot, P.dx, pr, pc, inA, clipA, codeI]

end Cert.ReferenceIdeal.At
-- ==== Proof.RefSpec.lean ====
module

public import proofs.«01_k».proof.Proof.Ref
public import proofs.«01_k».proof.Proof.RefAt

/-! The reference's body on blocks that hold the layer's arguments: every window holds the layer's result. -/

@[expose] public section

set_option maxRecDepth 16384

noncomputable section

namespace Cert.ReferenceIdeal.At

open Idealize.ShloMosaic Idealize.ShloMosaic.TcCoe Idealize.ShloMosaic.Tactic
open Cert.ReferenceIdeal Cert.ReferenceIdeal.Gen Cert.ReferenceIdeal.Run Cert.Spec

/-- The start of a whole block is zero in both axes. -/
theorem hz : (![0, 0] : Fin 2 → ℕ) = fun _ => 0 := by funext a; fin_cases a <;> rfl

/-- The eleven blocks hold the layer's arguments. -/
structure Holds (p : P) (x0 : Vec Ideal S1x1 .f32) (x1 : Vec Ideal S1x1 .f32) (x2 : Vec Ideal S256x4096 .bf16) (x3 : Vec Ideal S256x4096 .bf16) (x4 : Vec Ideal S1x4096 .f32) (x5 : Vec Ideal S4096x14336 .bf16) (x6 : Vec Ideal S4096x14336 .bf16) (x7 : Vec Ideal S14336x4096 .bf16) (x8 : Vec Ideal S1x14336 .f32) (x9 : Vec Ideal S1x14336 .f32) (x10 : Vec Ideal S1x4096 .f32) : Prop where
  h0 : ∀ (i : Fin 1) (j : Fin 1), View.ld x0 r0_0 (ix2 i j) = p.s1
  h1 : ∀ (i : Fin 1) (j : Fin 1), View.ld x1 r0_0 (ix2 i j) = p.s2
  h2 : ∀ (i : Fin 256) (j : Fin 4096), View.ld x2 r0_3 (ix2 i j) = p.x i j
  h3 : ∀ (i : Fin 256) (j : Fin 4096), View.ld x3 r0_3 (ix2 i j) = p.dy i j
  h4 : ∀ (i : Fin 1) (j : Fin 4096), View.ld x4 r0_1 (ix2 i j) = p.nw j
  h5 : ∀ (i : Fin 4096) (j : Fin 14336), View.ld x5 r0_4 (ix2 i j) = p.wg i j
  h6 : ∀ (i : Fin 4096) (j : Fin 14336), View.ld x6 r0_4 (ix2 i j) = p.wu i j
  h7 : ∀ (i : Fin 14336) (j : Fin 4096), View.ld x7 r0_5 (ix2 i j) = p.wd i j
  h8 : ∀ (i : Fin 1) (j : Fin 14336), View.ld x8 r0_2 (ix2 i j) = p.sg j
  h9 : ∀ (i : Fin 1) (j : Fin 14336), View.ld x9 r0_2 (ix2 i j) = p.su j
  h10 : ∀ (i : Fin 1) (j : Fin 4096), View.ld x10 r0_1 (ix2 i j) = p.sd j

variable {p : P} {x0 : Vec Ideal S1x1 .f32} {x1 : Vec Ideal S1x1 .f32} {x2 : Vec Ideal S256x4096 .bf16} {x3 : Vec Ideal S256x4096 .bf16} {x4 : Vec Ideal S1x4096 .f32} {x5 : Vec Ideal S4096x14336 .bf16} {x6 : Vec Ideal S4096x14336 .bf16} {x7 : Vec Ideal S14336x4096 .bf16} {x8 : Vec Ideal S1x14336 .f32} {x9 : Vec Ideal S1x14336 .f32} {x10 : Vec Ideal S1x4096 .f32} (H : Holds p x0 x1 x2 x3 x4 x5 x6 x7 x8 x9 x10)
include H

/-- This intermediate value of the reference is the first activation step. -/
theorem at68 (i : Fin 1) (j : Fin 1) : (k0_pay68 x0 x1 x2 x3 x4 x5 x6 x7 x8 x9 x10 : FVec Ideal S1x1 .f32) (ix2 i j) = p.s1 :=
  pay5 p _ H.h0 i j

/-- This intermediate value of the reference is the second activation step. -/
theorem at69 (i : Fin 1) (j : Fin 1) : (k0_pay69 x0 x1 x2 x3 x4 x5 x6 x7 x8 x9 x10 : FVec Ideal S1x1 .f32) (ix2 i j) = p.s2 :=
  pay6 p _ H.h1 i j

/-- This intermediate value of the reference is the norm's weight. -/
theorem at70 (i : Fin 1) (j : Fin 4096) : (k0_pay70 x0 x1 x2 x3 x4 x5 x6 x7 x8 x9 x10 : FVec Ideal S1x4096 .f32) (ix2 i j) = p.nw j :=
  pay7 p _ H.h4 i j

/-- This intermediate value of the reference is the gate's steps. -/
theorem at71 (i : Fin 1) (j : Fin 14336) : (k0_pay71 x0 x1 x2 x3 x4 x5 x6 x7 x8 x9 x10 : FVec Ideal S1x14336 .f32) (ix2 i j) = p.sg j :=
  pay8 p _ H.h8 i j

/-- This intermediate value of the reference is the up projection's steps. -/
theorem at72 (i : Fin 1) (j : Fin 14336) : (k0_pay72 x0 x1 x2 x3 x4 x5 x6 x7 x8 x9 x10 : FVec Ideal S1x14336 .f32) (ix2 i j) = p.su j :=
  pay9 p _ H.h9 i j

/-- This intermediate value of the reference is the down projection's steps. -/
theorem at73 (i : Fin 1) (j : Fin 4096) : (k0_pay73 x0 x1 x2 x3 x4 x5 x6 x7 x8 x9 x10 : FVec Ideal S1x4096 .f32) (ix2 i j) = p.sd j :=
  pay10 p _ H.h10 i j

/-- This intermediate value of the reference is the tokens. -/
theorem at74 (i : Fin 256) (j : Fin 4096) : (k0_pay74 x0 x1 x2 x3 x4 x5 x6 x7 x8 x9 x10 : FVec Ideal S256x4096 .f32) (ix2 i j) = p.x i j :=
  pay11 p _ H.h2 i j

/-- This intermediate value of the reference is the reciprocal root of the mean square. -/
theorem at75 (i : Fin 256) (j : Fin 1) : (k0_pay75 x0 x1 x2 x3 x4 x5 x6 x7 x8 x9 x10 : FVec Ideal S256x1 .f32) (ix2 i j) = p.r i :=
  pay12 p _ H.h2 i j

/-- This intermediate value of the reference is the normed tokens over their step. -/
theorem at76 (i : Fin 256) (j : Fin 4096) : (k0_pay76 x0 x1 x2 x3 x4 x5 x6 x7 x8 x9 x10 : FVec Ideal S256x4096 .f32) (ix2 i j) = p.v1 i j :=
  pay13 p _ _ _ H.h0 H.h4 H.h2 i j

/-- This intermediate value of the reference is the normed tokens' codes. -/
theorem at77 (i : Fin 256) (j : Fin 4096) : (k0_pay77 x0 x1 x2 x3 x4 x5 x6 x7 x8 x9 x10 : FVec Ideal S256x4096 .fp8e4m3) (ix2 i j) = p.c1 i j :=
  pay14 p _ _ _ H.h0 H.h4 H.h2 i j

/-- This intermediate value of the reference is the gate's weights. -/
theorem at78 (i : Fin 4096) (j : Fin 14336) : (k0_pay78 x0 x1 x2 x3 x4 x5 x6 x7 x8 x9 x10 : FVec Ideal S4096x14336 .f32) (ix2 i j) = p.wg i j :=
  pay15 p _ H.h5 i j

/-- This intermediate value of the reference is the gate's weights over their steps. -/
theorem at79 (i : Fin 4096) (j : Fin 14336) : (k0_pay79 x0 x1 x2 x3 x4 x5 x6 x7 x8 x9 x10 : FVec Ideal S4096x14336 .f32) (ix2 i j) = p.vg i j :=
  pay16 p _ _ (at71 H) (at78 H) i j

/-- This intermediate value of the reference is the up projection's weights over their steps. -/
theorem at80 (i : Fin 4096) (j : Fin 14336) : (k0_pay80 x0 x1 x2 x3 x4 x5 x6 x7 x8 x9 x10 : FVec Ideal S4096x14336 .f32) (ix2 i j) = p.vu i j :=
  pay18 p _ _ (at72 H) H.h6 i j

/-- This intermediate value of the reference is the gate. -/
theorem at81 (i : Fin 256) (j : Fin 14336) : (k0_pay81 x0 x1 x2 x3 x4 x5 x6 x7 x8 x9 x10 : FVec Ideal S256x14336 .f32) (ix2 i j) = p.g i j :=
  pay20 p _ _ _ _ (at68 H) (at71 H) (at77 H) (at78 H) i j

/-- This intermediate value of the reference is the gate's logistic. -/
theorem at82 (i : Fin 256) (j : Fin 14336) : (k0_pay82 x0 x1 x2 x3 x4 x5 x6 x7 x8 x9 x10 : FVec Ideal S256x14336 .f32) (ix2 i j) = p.σ i j :=
  pay22 p _ _ _ _ (at68 H) (at71 H) (at77 H) (at78 H) i j

/-- This intermediate value of the reference is the hidden activation over its step. -/
theorem at83 (i : Fin 256) (j : Fin 14336) : (k0_pay83 x0 x1 x2 x3 x4 x5 x6 x7 x8 x9 x10 : FVec Ideal S256x14336 .f32) (ix2 i j) = p.v2 i j :=
  pay23 p _ _ _ _ _ _ _ (at68 H) (at69 H) (at71 H) (at72 H) (at77 H) (at78 H) H.h6 i j

/-- This intermediate value of the reference, entry by entry. -/
theorem at84 (i : Fin 256) (j : Fin 14336) : (k0_pay84 x0 x1 x2 x3 x4 x5 x6 x7 x8 x9 x10 : FVec Ideal S256x14336 .f32) (ix2 i j) = K 3286237184#32 :=
  by unfold k0_pay84 k0_pay24; unfold_payloads; pointwise

/-- This intermediate value of the reference is the down projection's weights over their steps. -/
theorem at85 (i : Fin 14336) (j : Fin 4096) : (k0_pay85 x0 x1 x2 x3 x4 x5 x6 x7 x8 x9 x10 : FVec Ideal S14336x4096 .f32) (ix2 i j) = p.vd i j :=
  pay26 p _ _ (at73 H) H.h7 i j

/-- This intermediate value of the reference is the output's gradient. -/
theorem at86 (i : Fin 256) (j : Fin 4096) : (k0_pay86 x0 x1 x2 x3 x4 x5 x6 x7 x8 x9 x10 : FVec Ideal S256x4096 .bf16) (ix2 i j) = p.dy i j :=
  pay29 p _ H.h3 i j

/-- This intermediate value of the reference is the hidden activation's gradient. -/
theorem at87 (i : Fin 256) (j : Fin 14336) : (k0_pay87 x0 x1 x2 x3 x4 x5 x6 x7 x8 x9 x10 : FVec Ideal S256x14336 .f32) (ix2 i j) = p.da2 i j :=
  pay33 p _ _ _ (at73 H) H.h7 H.h3 i j

/-- This intermediate value of the reference is the hidden activation's codes. -/
theorem at88 (i : Fin 256) (j : Fin 14336) : (k0_pay88 x0 x1 x2 x3 x4 x5 x6 x7 x8 x9 x10 : FVec Ideal S256x14336 .bf16) (ix2 i j) = p.c2 i j :=
  pay34 p _ _ (at83 H) (at84 H) i j

/-- This intermediate value of the reference is the magnitude of the hidden activation over its step. -/
theorem at89 (i : Fin 256) (j : Fin 14336) : (k0_pay89 x0 x1 x2 x3 x4 x5 x6 x7 x8 x9 x10 : FVec Ideal S256x14336 .f32) (ix2 i j) = mag (p.v2 i j) :=
  pay39 p _ (at83 H) i j

/-- This intermediate value of the reference is the test of the hidden activation over its step for lying in the range. -/
theorem at90 (i : Fin 256) (j : Fin 14336) : (k0_pay90 x0 x1 x2 x3 x4 x5 x6 x7 x8 x9 x10 : IVec S256x14336 1) (ix2 i j) = BitVec.ofBool (decide (mag (p.v2 i j) ≤ K 1138753536#32)) :=
  pay40 p _ (at83 H) i j

/-- This intermediate value of the reference is a combination of the hidden activation over its step and the hidden activation's codes. -/
theorem at91 (i : Fin 256) (j : Fin 14336) : (k0_pay91 x0 x1 x2 x3 x4 x5 x6 x7 x8 x9 x10 : FVec Ideal S256x14336 .f32) (ix2 i j) = pr (p.v2 i j) (p.c2 i j) :=
  pay41 p _ _ (at83 H) (pay25 p _ _ (at83 H) (at84 H)) i j

/-- This intermediate value of the reference is the hidden activation's gradient let through inside the range. -/
theorem at92 (i : Fin 256) (j : Fin 14336) : (k0_pay92 x0 x1 x2 x3 x4 x5 x6 x7 x8 x9 x10 : FVec Ideal S256x14336 .f32) (ix2 i j) = p.da i j :=
  pay42 p _ _ (at87 H) (at90 H) i j

/-- This intermediate value of the reference is the let-through gradient of the hidden activation times the up projection. -/
theorem at93 (i : Fin 256) (j : Fin 14336) : (k0_pay93 x0 x1 x2 x3 x4 x5 x6 x7 x8 x9 x10 : FVec Ideal S256x14336 .f32) (ix2 i j) = p.dau i j :=
  pay47 p _ _ _ (pay21 p _ _ _ _ (at68 H) (at72 H) (at77 H) H.h6) (at87 H) (at90 H) i j

/-- This intermediate value of the reference is the normed tokens' gradient. -/
theorem at94 (i : Fin 256) (j : Fin 4096) : (k0_pay94 x0 x1 x2 x3 x4 x5 x6 x7 x8 x9 x10 : FVec Ideal S256x4096 .f32) (ix2 i j) = p.da1 i j :=
  pay50 p _ _ _ _ _ _ (at81 H) (at82 H) (pay31 p _ _ (at71 H) (pay17 p _ _ (at71 H) (at78 H))) (pay32 p _ _ (at72 H) (pay19 p _ _ (at72 H) H.h6)) (at92 H) (at93 H) i j

/-- This intermediate value of the reference is the gradient of the quantised up weights. -/
theorem at95 (i : Fin 4096) (j : Fin 14336) : (k0_pay95 x0 x1 x2 x3 x4 x5 x6 x7 x8 x9 x10 : FVec Ideal S4096x14336 .f32) (ix2 i j) = p.gwu i j :=
  pay53 p _ _ _ _ _ (at68 H) (at77 H) (at81 H) (at82 H) (at92 H) i j

/-- This intermediate value of the reference is the normed tokens' gradient let through inside the range. -/
theorem at96 (i : Fin 256) (j : Fin 4096) : (k0_pay96 x0 x1 x2 x3 x4 x5 x6 x7 x8 x9 x10 : FVec Ideal S256x4096 .f32) (ix2 i j) = p.dn i j :=
  pay64 p _ _ (at76 H) (at94 H) i j

/-- This result of the reference's body is the output. -/
theorem out11 (i : Fin 256) (j : Fin 4096) : (out0_11 x0 x1 x2 x3 x4 x5 x6 x7 x8 x9 x10 : Vec Ideal S256x4096 .bf16) (ix2 i j) = p.y i j :=
  (congrFun (View.canon_unit_zero hz _ _) (ix2 i j)).trans (pay28 p _ _ _ _ _ _ (at69 H) (at73 H) (at74 H) (at83 H) (at84 H) H.h7 i j)

/-- This result of the reference's body is the tokens' gradient. -/
theorem out12 (i : Fin 256) (j : Fin 4096) : (out0_12 x0 x1 x2 x3 x4 x5 x6 x7 x8 x9 x10 : Vec Ideal S256x4096 .bf16) (ix2 i j) = p.dx i j :=
  (congrFun (View.canon_unit_zero hz _ _) (ix2 i j)).trans (pay4 p _ _ _ _ _ (at70 H) (at74 H) (at75 H) (pay30 p _ H.h3) (at96 H) i j)

/-- This result of the reference's body is the gate weights' gradient. -/
theorem out13 (i : Fin 4096) (j : Fin 14336) : (out0_13 x0 x1 x2 x3 x4 x5 x6 x7 x8 x9 x10 : Vec Ideal S4096x14336 .bf16) (ix2 i j) = p.dwg i j :=
  (congrFun (View.canon_unit_zero hz _ _) (ix2 i j)).trans (pay60 p _ (pay55 p _ _ _ _ _ _ (at68 H) (at77 H) (at79 H) (at81 H) (at82 H) (at93 H)) i j)

/-- This result of the reference's body is the up weights' gradient. -/
theorem out14 (i : Fin 4096) (j : Fin 14336) : (out0_14 x0 x1 x2 x3 x4 x5 x6 x7 x8 x9 x10 : Vec Ideal S4096x14336 .bf16) (ix2 i j) = p.dwu i j :=
  (congrFun (View.canon_unit_zero hz _ _) (ix2 i j)).trans (pay61 p _ _ (at80 H) (at95 H) i j)

/-- This result of the reference's body is the down weights' gradient. -/
theorem out15 (i : Fin 14336) (j : Fin 4096) : (out0_15 x0 x1 x2 x3 x4 x5 x6 x7 x8 x9 x10 : Vec Ideal S14336x4096 .bf16) (ix2 i j) = p.dwd i j :=
  (congrFun (View.canon_unit_zero hz _ _) (ix2 i j)).trans (pay38 p _ _ _ _ (at69 H) (at85 H) (at86 H) (at88 H) i j)

/-- This result of the reference's body is the gate steps' gradient. -/
theorem out16 (i : Fin 1) (j : Fin 14336) : (out0_16 x0 x1 x2 x3 x4 x5 x6 x7 x8 x9 x10 : Vec Ideal S1x14336 .f32) (ix2 i j) = p.dsg j :=
  (congrFun (View.canon_unit_zero hz _ _) (ix2 i j)).trans (pay57 p _ (pay56 p _ _ _ _ _ _ (at68 H) (at77 H) (at79 H) (at81 H) (at82 H) (at93 H)) i j)

/-- This result of the reference's body is the up steps' gradient. -/
theorem out17 (i : Fin 1) (j : Fin 14336) : (out0_17 x0 x1 x2 x3 x4 x5 x6 x7 x8 x9 x10 : Vec Ideal S1x14336 .f32) (ix2 i j) = p.dsu j :=
  (congrFun (View.canon_unit_zero hz _ _) (ix2 i j)).trans (pay59 p _ _ (at80 H) (at95 H) i j)

/-- This result of the reference's body is the down steps' gradient. -/
theorem out18 (i : Fin 1) (j : Fin 4096) : (out0_18 x0 x1 x2 x3 x4 x5 x6 x7 x8 x9 x10 : Vec Ideal S1x4096 .f32) (ix2 i j) = p.dsd j :=
  (congrFun (View.canon_unit_zero hz _ _) (ix2 i j)).trans (pay37 p _ _ _ _ (at69 H) (at85 H) (at86 H) (at88 H) i j)

/-- This result of the reference's body is the first activation step's gradient. -/
theorem out19 (i : Fin 1) (j : Fin 1) : (out0_19 x0 x1 x2 x3 x4 x5 x6 x7 x8 x9 x10 : Vec Ideal S1x1 .f32) (ix2 i j) = p.dsa1 :=
  (congrFun (View.canon_unit_zero hz _ _) (ix2 i j)).trans (pay67 p _ _ _ (at76 H) (at77 H) (at94 H) i j)

/-- This result of the reference's body is each token's rounding part of the first step's gradient. -/
theorem out20 (i : Fin 256) (j : Fin 1) : (out0_20 x0 x1 x2 x3 x4 x5 x6 x7 x8 x9 x10 : Vec Ideal S256x1 .f32) (ix2 i j) = p.rnd1 i :=
  (congrFun (View.canon_unit_zero hz _ _) (ix2 i j)).trans (pay66 p _ _ _ (at76 H) (at77 H) (at94 H) i j)

/-- This result of the reference's body is each token's clipping part of the first step's gradient. -/
theorem out21 (i : Fin 256) (j : Fin 1) : (out0_21 x0 x1 x2 x3 x4 x5 x6 x7 x8 x9 x10 : Vec Ideal S256x1 .f32) (ix2 i j) = p.clp1 i :=
  (congrFun (View.canon_unit_zero hz _ _) (ix2 i j)).trans (pay65 p _ _ (at76 H) (at94 H) i j)

/-- This result of the reference's body is the second activation step's gradient. -/
theorem out22 (i : Fin 1) (j : Fin 1) : (out0_22 x0 x1 x2 x3 x4 x5 x6 x7 x8 x9 x10 : Vec Ideal S1x1 .f32) (ix2 i j) = p.dsa2 :=
  (congrFun (View.canon_unit_zero hz _ _) (ix2 i j)).trans (pay46 p _ _ _ _ (at83 H) (at87 H) (at89 H) (at91 H) i j)

/-- This result of the reference's body is each token's sum of magnitudes of the second step's rounding part. -/
theorem out23 (i : Fin 256) (j : Fin 1) : (out0_23 x0 x1 x2 x3 x4 x5 x6 x7 x8 x9 x10 : Vec Ideal S256x1 .f32) (ix2 i j) = p.abs2 i :=
  (congrFun (View.canon_unit_zero hz _ _) (ix2 i j)).trans (pay45 p _ _ (at87 H) (at91 H) i j)

/-- This result of the reference's body is each token's clipping part of the second step's gradient. -/
theorem out24 (i : Fin 256) (j : Fin 1) : (out0_24 x0 x1 x2 x3 x4 x5 x6 x7 x8 x9 x10 : Vec Ideal S256x1 .f32) (ix2 i j) = p.clp2 i :=
  (congrFun (View.canon_unit_zero hz _ _) (ix2 i j)).trans (pay43 p _ _ _ (at83 H) (at87 H) (at89 H) i j)

/-- This result of the reference's body is the norm weight's gradient. -/
theorem out25 (i : Fin 1) (j : Fin 4096) : (out0_25 x0 x1 x2 x3 x4 x5 x6 x7 x8 x9 x10 : Vec Ideal S1x4096 .f32) (ix2 i j) = p.dnw j :=
  (congrFun (View.canon_unit_zero hz _ _) (ix2 i j)).trans (pay1 p _ _ _ (at74 H) (at75 H) (at96 H) i j)

/-- This result of the reference's body is each token's mean product with the norm's gradient. -/
theorem out26 (i : Fin 256) (j : Fin 1) : (out0_26 x0 x1 x2 x3 x4 x5 x6 x7 x8 x9 x10 : Vec Ideal S256x1 .f32) (ix2 i j) = p.dot i :=
  (congrFun (View.canon_unit_zero hz _ _) (ix2 i j)).trans (pay3 p _ _ _ _ (at70 H) (at74 H) (at75 H) (at96 H) i j)

/-- This result of the reference's body is the normed tokens' codes. -/
theorem out27 (i : Fin 256) (j : Fin 4096) : (out0_27 x0 x1 x2 x3 x4 x5 x6 x7 x8 x9 x10 : Vec Ideal S256x4096 .fp8e4m3) (ix2 i j) = p.c1 i j :=
  (congrFun (View.canon_unit_zero hz _ _) (ix2 i j)).trans (at77 H i j)

/-- This result of the reference's body is the integer codes of the gate's weights over their steps. -/
theorem out28 (i : Fin 4096) (j : Fin 14336) : (out0_28 x0 x1 x2 x3 x4 x5 x6 x7 x8 x9 x10 : Vec Ideal S4096x14336 .i8) (ix2 i j) = codeI (p.vg i j) :=
  (congrFun (View.canon_unit_zero hz _ _) (ix2 i j)).trans (pay17 p _ _ (at71 H) (at78 H) i j)

/-- This result of the reference's body is the integer codes of the up projection's weights over their steps. -/
theorem out29 (i : Fin 4096) (j : Fin 14336) : (out0_29 x0 x1 x2 x3 x4 x5 x6 x7 x8 x9 x10 : Vec Ideal S4096x14336 .i8) (ix2 i j) = codeI (p.vu i j) :=
  (congrFun (View.canon_unit_zero hz _ _) (ix2 i j)).trans (pay19 p _ _ (at72 H) H.h6 i j)

/-- This result of the reference's body is the hidden activation's codes. -/
theorem out30 (i : Fin 256) (j : Fin 14336) : (out0_30 x0 x1 x2 x3 x4 x5 x6 x7 x8 x9 x10 : Vec Ideal S256x14336 .fp8e4m3) (ix2 i j) = p.c2 i j :=
  (congrFun (View.canon_unit_zero hz _ _) (ix2 i j)).trans (pay25 p _ _ (at83 H) (at84 H) i j)

/-- This result of the reference's body is the integer codes of the down projection's weights over their steps. -/
theorem out31 (i : Fin 14336) (j : Fin 4096) : (out0_31 x0 x1 x2 x3 x4 x5 x6 x7 x8 x9 x10 : Vec Ideal S14336x4096 .i8) (ix2 i j) = codeI (p.vd i j) :=
  (congrFun (View.canon_unit_zero hz _ _) (ix2 i j)).trans (pay27 p _ _ (at73 H) H.h7 i j)

end Cert.ReferenceIdeal.At
-- ==== Proof.RefIn.lean ====
module

public import proofs.«01_k».proof.Proof.RefSpec
public import proofs.«01_k».proof.Proof.Args
public import proofs.«01_k».proof.Proof.Tiles
public import Idealize.ShloMosaic.Lib.Pipeline.ValueKit

/-! What the reference's call reads: the layer's arguments. -/

@[expose] public section

set_option maxRecDepth 16384

noncomputable section

namespace Cert.ReferenceIdeal.At

open Idealize.ShloMosaic Idealize.ShloMosaic.TcCoe Idealize.ShloMosaic.Tactic Idealize.ShloMosaic.StableHlo
open Cert.ReferenceIdeal Cert.ReferenceIdeal.Gen Cert.ReferenceIdeal.Run Cert.Spec Cert.Args

variable (m : (ℓ : Loc nD τ sig) → Buf (Elt Ideal) ℓ) (c : Dev nD)

/-- Two matrices with the same entries. -/
theorem extM {a b : ℕ} {α : Type} {x : (A2 a b).Idx → α} {y : (A2 a b).Idx → α} (h : ∀ i j, x (ix2 i j) = y (ix2 i j)) : x = y :=
  funext fun k => by rw [show k = ix2 (k 0) (k 1) by funext q; match q with | ⟨0, _⟩ => rfl | ⟨1, _⟩ => rfl]; exact h _ _

/-- The layer's parameters at launch. -/
def argR : P := argP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The host's operations before the call: the arguments as matrices. -/
theorem v_v0 : (V m c main_v0 : Vec Ideal S1x1 .f32) = shapeCast S1x1 (m ((c.tc : Thread nD τ).loc main_arg9) : Vec Ideal S_ .f32) (show S_.ShapeCasts S1x1 by decide) := by
  show StableHlo.after hostOps0 (fun b => m (c, b)) (Proc.devRef .tc main_v0) = _
  after_results <;> rfl
/-- The host's operand is an argument in another shape. -/
theorem v_v1 : (V m c main_v1 : Vec Ideal S1x1 .f32) = shapeCast S1x1 (m ((c.tc : Thread nD τ).loc main_arg10) : Vec Ideal S_ .f32) (show S_.ShapeCasts S1x1 by decide) := by
  show StableHlo.after hostOps0 (fun b => m (c, b)) (Proc.devRef .tc main_v1) = _
  after_results <;> rfl
/-- The host's operand is an argument in another shape. -/
theorem v_v2 : (V m c main_v2 : Vec Ideal S256x4096 .bf16) = shapeCast S256x4096 (m ((c.tc : Thread nD τ).loc main_arg0) : Vec Ideal S2x128x4096 .bf16) (show S2x128x4096.ShapeCasts S256x4096 by decide) := by
  show StableHlo.after hostOps0 (fun b => m (c, b)) (Proc.devRef .tc main_v2) = _
  after_results <;> rfl
/-- The host's operand is an argument in another shape. -/
theorem v_v3 : (V m c main_v3 : Vec Ideal S256x4096 .bf16) = shapeCast S256x4096 (m ((c.tc : Thread nD τ).loc main_arg1) : Vec Ideal S2x128x4096 .bf16) (show S2x128x4096.ShapeCasts S256x4096 by decide) := by
  show StableHlo.after hostOps0 (fun b => m (c, b)) (Proc.devRef .tc main_v3) = _
  after_results <;> rfl
/-- The host's operand is an argument in another shape. -/
theorem v_v4 : (V m c main_v4 : Vec Ideal S1x4096 .f32) = shapeCast S1x4096 (m ((c.tc : Thread nD τ).loc main_arg2) : Vec Ideal S4096 .f32) (show S4096.ShapeCasts S1x4096 by decide) := by
  show StableHlo.after hostOps0 (fun b => m (c, b)) (Proc.devRef .tc main_v4) = _
  after_results <;> rfl
/-- The host's operand is an argument in another shape. -/
theorem v_v5 : (V m c main_v5 : Vec Ideal S1x14336 .f32) = shapeCast S1x14336 (m ((c.tc : Thread nD τ).loc main_arg6) : Vec Ideal S14336 .f32) (show S14336.ShapeCasts S1x14336 by decide) := by
  show StableHlo.after hostOps0 (fun b => m (c, b)) (Proc.devRef .tc main_v5) = _
  after_results <;> rfl
/-- The host's operand is an argument in another shape. -/
theorem v_v6 : (V m c main_v6 : Vec Ideal S1x14336 .f32) = shapeCast S1x14336 (m ((c.tc : Thread nD τ).loc main_arg7) : Vec Ideal S14336 .f32) (show S14336.ShapeCasts S1x14336 by decide) := by
  show StableHlo.after hostOps0 (fun b => m (c, b)) (Proc.devRef .tc main_v6) = _
  after_results <;> rfl
/-- The host's operand is an argument in another shape. -/
theorem v_v7 : (V m c main_v7 : Vec Ideal S1x4096 .f32) = shapeCast S1x4096 (m ((c.tc : Thread nD τ).loc main_arg8) : Vec Ideal S4096 .f32) (show S4096.ShapeCasts S1x4096 by decide) := by
  show StableHlo.after hostOps0 (fun b => m (c, b)) (Proc.devRef .tc main_v7) = _
  after_results <;> rfl

/-- The blocks that the call reads are the whole arrays. -/
theorem rd0 (i : Fin 1) (j : Fin 1) : View.ld (iblk m c 0 t0_0 : Vec Ideal S1x1 .f32) r0_0 (ix2 i j) = (V m c main_v0 : Vec Ideal S1x1 .f32) (ix2 i j) := by
  refine (congrFun (show View.ld (iblk m c 0 t0_0 : Vec Ideal S1x1 .f32) r0_0 = (iblk m c 0 t0_0 : Vec Ideal S1x1 .f32) from View.ld_unit_zero hz _ _) (ix2 i j)).trans ?_
  unfold iblk
  rw [View.read_apply]
  refine congrArg (V m c main_v0 : Vec Ideal S1x1 .f32) ?_
  funext a; apply Fin.ext
  match a with
  | ⟨0, _⟩ => show 0 * 1 + 1 * i.val = i.val; omega
  | ⟨1, _⟩ => show 0 * 1 + 1 * j.val = j.val; omega
/-- What the reference reads of its operand 1 is the operand. -/
theorem rd1 (i : Fin 1) (j : Fin 1) : View.ld (iblk m c 1 t0_0 : Vec Ideal S1x1 .f32) r0_0 (ix2 i j) = (V m c main_v1 : Vec Ideal S1x1 .f32) (ix2 i j) := by
  refine (congrFun (show View.ld (iblk m c 1 t0_0 : Vec Ideal S1x1 .f32) r0_0 = (iblk m c 1 t0_0 : Vec Ideal S1x1 .f32) from View.ld_unit_zero hz _ _) (ix2 i j)).trans ?_
  unfold iblk
  rw [View.read_apply]
  refine congrArg (V m c main_v1 : Vec Ideal S1x1 .f32) ?_
  funext a; apply Fin.ext
  match a with
  | ⟨0, _⟩ => show 0 * 1 + 1 * i.val = i.val; omega
  | ⟨1, _⟩ => show 0 * 1 + 1 * j.val = j.val; omega
/-- What the reference reads of its operand 2 is the operand. -/
theorem rd2 (i : Fin 256) (j : Fin 4096) : View.ld (iblk m c 2 t0_0 : Vec Ideal S256x4096 .bf16) r0_3 (ix2 i j) = (V m c main_v2 : Vec Ideal S256x4096 .bf16) (ix2 i j) := by
  refine (congrFun (show View.ld (iblk m c 2 t0_0 : Vec Ideal S256x4096 .bf16) r0_3 = (iblk m c 2 t0_0 : Vec Ideal S256x4096 .bf16) from View.ld_unit_zero hz _ _) (ix2 i j)).trans ?_
  unfold iblk
  rw [View.read_apply]
  refine congrArg (V m c main_v2 : Vec Ideal S256x4096 .bf16) ?_
  funext a; apply Fin.ext
  match a with
  | ⟨0, _⟩ => show 0 * 256 + 1 * i.val = i.val; omega
  | ⟨1, _⟩ => show 0 * 4096 + 1 * j.val = j.val; omega
/-- What the reference reads of its operand 3 is the operand. -/
theorem rd3 (i : Fin 256) (j : Fin 4096) : View.ld (iblk m c 3 t0_0 : Vec Ideal S256x4096 .bf16) r0_3 (ix2 i j) = (V m c main_v3 : Vec Ideal S256x4096 .bf16) (ix2 i j) := by
  refine (congrFun (show View.ld (iblk m c 3 t0_0 : Vec Ideal S256x4096 .bf16) r0_3 = (iblk m c 3 t0_0 : Vec Ideal S256x4096 .bf16) from View.ld_unit_zero hz _ _) (ix2 i j)).trans ?_
  unfold iblk
  rw [View.read_apply]
  refine congrArg (V m c main_v3 : Vec Ideal S256x4096 .bf16) ?_
  funext a; apply Fin.ext
  match a with
  | ⟨0, _⟩ => show 0 * 256 + 1 * i.val = i.val; omega
  | ⟨1, _⟩ => show 0 * 4096 + 1 * j.val = j.val; omega
/-- What the reference reads of its operand 4 is the operand. -/
theorem rd4 (i : Fin 1) (j : Fin 4096) : View.ld (iblk m c 4 t0_0 : Vec Ideal S1x4096 .f32) r0_1 (ix2 i j) = (V m c main_v4 : Vec Ideal S1x4096 .f32) (ix2 i j) := by
  refine (congrFun (show View.ld (iblk m c 4 t0_0 : Vec Ideal S1x4096 .f32) r0_1 = (iblk m c 4 t0_0 : Vec Ideal S1x4096 .f32) from View.ld_unit_zero hz _ _) (ix2 i j)).trans ?_
  unfold iblk
  rw [View.read_apply]
  refine congrArg (V m c main_v4 : Vec Ideal S1x4096 .f32) ?_
  funext a; apply Fin.ext
  match a with
  | ⟨0, _⟩ => show 0 * 1 + 1 * i.val = i.val; omega
  | ⟨1, _⟩ => show 0 * 4096 + 1 * j.val = j.val; omega
/-- What the reference reads of its operand 5 is the operand. -/
theorem rd5 (i : Fin 4096) (j : Fin 14336) : View.ld (iblk m c 5 t0_0 : Vec Ideal S4096x14336 .bf16) r0_4 (ix2 i j) = (V m c main_arg3 : Vec Ideal S4096x14336 .bf16) (ix2 i j) := by
  refine (congrFun (show View.ld (iblk m c 5 t0_0 : Vec Ideal S4096x14336 .bf16) r0_4 = (iblk m c 5 t0_0 : Vec Ideal S4096x14336 .bf16) from View.ld_unit_zero hz _ _) (ix2 i j)).trans ?_
  unfold iblk
  rw [View.read_apply]
  refine congrArg (V m c main_arg3 : Vec Ideal S4096x14336 .bf16) ?_
  funext a; apply Fin.ext
  match a with
  | ⟨0, _⟩ => show 0 * 4096 + 1 * i.val = i.val; omega
  | ⟨1, _⟩ => show 0 * 14336 + 1 * j.val = j.val; omega
/-- What the reference reads of its operand 6 is the operand. -/
theorem rd6 (i : Fin 4096) (j : Fin 14336) : View.ld (iblk m c 6 t0_0 : Vec Ideal S4096x14336 .bf16) r0_4 (ix2 i j) = (V m c main_arg4 : Vec Ideal S4096x14336 .bf16) (ix2 i j) := by
  refine (congrFun (show View.ld (iblk m c 6 t0_0 : Vec Ideal S4096x14336 .bf16) r0_4 = (iblk m c 6 t0_0 : Vec Ideal S4096x14336 .bf16) from View.ld_unit_zero hz _ _) (ix2 i j)).trans ?_
  unfold iblk
  rw [View.read_apply]
  refine congrArg (V m c main_arg4 : Vec Ideal S4096x14336 .bf16) ?_
  funext a; apply Fin.ext
  match a with
  | ⟨0, _⟩ => show 0 * 4096 + 1 * i.val = i.val; omega
  | ⟨1, _⟩ => show 0 * 14336 + 1 * j.val = j.val; omega
/-- What the reference reads of its operand 7 is the operand. -/
theorem rd7 (i : Fin 14336) (j : Fin 4096) : View.ld (iblk m c 7 t0_0 : Vec Ideal S14336x4096 .bf16) r0_5 (ix2 i j) = (V m c main_arg5 : Vec Ideal S14336x4096 .bf16) (ix2 i j) := by
  refine (congrFun (show View.ld (iblk m c 7 t0_0 : Vec Ideal S14336x4096 .bf16) r0_5 = (iblk m c 7 t0_0 : Vec Ideal S14336x4096 .bf16) from View.ld_unit_zero hz _ _) (ix2 i j)).trans ?_
  unfold iblk
  rw [View.read_apply]
  refine congrArg (V m c main_arg5 : Vec Ideal S14336x4096 .bf16) ?_
  funext a; apply Fin.ext
  match a with
  | ⟨0, _⟩ => show 0 * 14336 + 1 * i.val = i.val; omega
  | ⟨1, _⟩ => show 0 * 4096 + 1 * j.val = j.val; omega
/-- What the reference reads of its operand 8 is the operand. -/
theorem rd8 (i : Fin 1) (j : Fin 14336) : View.ld (iblk m c 8 t0_0 : Vec Ideal S1x14336 .f32) r0_2 (ix2 i j) = (V m c main_v5 : Vec Ideal S1x14336 .f32) (ix2 i j) := by
  refine (congrFun (show View.ld (iblk m c 8 t0_0 : Vec Ideal S1x14336 .f32) r0_2 = (iblk m c 8 t0_0 : Vec Ideal S1x14336 .f32) from View.ld_unit_zero hz _ _) (ix2 i j)).trans ?_
  unfold iblk
  rw [View.read_apply]
  refine congrArg (V m c main_v5 : Vec Ideal S1x14336 .f32) ?_
  funext a; apply Fin.ext
  match a with
  | ⟨0, _⟩ => show 0 * 1 + 1 * i.val = i.val; omega
  | ⟨1, _⟩ => show 0 * 14336 + 1 * j.val = j.val; omega
/-- What the reference reads of its operand 9 is the operand. -/
theorem rd9 (i : Fin 1) (j : Fin 14336) : View.ld (iblk m c 9 t0_0 : Vec Ideal S1x14336 .f32) r0_2 (ix2 i j) = (V m c main_v6 : Vec Ideal S1x14336 .f32) (ix2 i j) := by
  refine (congrFun (show View.ld (iblk m c 9 t0_0 : Vec Ideal S1x14336 .f32) r0_2 = (iblk m c 9 t0_0 : Vec Ideal S1x14336 .f32) from View.ld_unit_zero hz _ _) (ix2 i j)).trans ?_
  unfold iblk
  rw [View.read_apply]
  refine congrArg (V m c main_v6 : Vec Ideal S1x14336 .f32) ?_
  funext a; apply Fin.ext
  match a with
  | ⟨0, _⟩ => show 0 * 1 + 1 * i.val = i.val; omega
  | ⟨1, _⟩ => show 0 * 14336 + 1 * j.val = j.val; omega
/-- What the reference reads of its operand 10 is the operand. -/
theorem rd10 (i : Fin 1) (j : Fin 4096) : View.ld (iblk m c 10 t0_0 : Vec Ideal S1x4096 .f32) r0_1 (ix2 i j) = (V m c main_v7 : Vec Ideal S1x4096 .f32) (ix2 i j) := by
  refine (congrFun (show View.ld (iblk m c 10 t0_0 : Vec Ideal S1x4096 .f32) r0_1 = (iblk m c 10 t0_0 : Vec Ideal S1x4096 .f32) from View.ld_unit_zero hz _ _) (ix2 i j)).trans ?_
  unfold iblk
  rw [View.read_apply]
  refine congrArg (V m c main_v7 : Vec Ideal S1x4096 .f32) ?_
  funext a; apply Fin.ext
  match a with
  | ⟨0, _⟩ => show 0 * 1 + 1 * i.val = i.val; omega
  | ⟨1, _⟩ => show 0 * 4096 + 1 * j.val = j.val; omega

/-- They hold the layer's arguments. -/
theorem holds : Holds (argR m c) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) where
  h0 i j := by rw [rd0, v_v0, Subsingleton.elim i 0, Subsingleton.elim j 0]; rfl
  h1 i j := by rw [rd1, v_v1, Subsingleton.elim i 0, Subsingleton.elim j 0]; rfl
  h2 i j := by rw [rd2, v_v2]; rfl
  h3 i j := by rw [rd3, v_v3]; rfl
  h4 i j := by rw [rd4, v_v4, Subsingleton.elim i 0]; rfl
  h5 i j := (rd5 m c i j).trans (congrFun (V_main_arg3 m c) (ix2 i j))
  h6 i j := (rd6 m c i j).trans (congrFun (V_main_arg4 m c) (ix2 i j))
  h7 i j := (rd7 m c i j).trans (congrFun (V_main_arg5 m c) (ix2 i j))
  h8 i j := by rw [rd8, v_v5, Subsingleton.elim i 0]; rfl
  h9 i j := by rw [rd9, v_v6, Subsingleton.elim i 0]; rfl
  h10 i j := by rw [rd10, v_v7, Subsingleton.elim i 0]; rfl

end Cert.ReferenceIdeal.At

end
-- ==== Proof.RefFin.lean ====
module

public import proofs.«01_k».proof.Proof.RefIn
public import proofs.«01_k».proof.Proof.Args
public import proofs.«01_k».proof.Proof.Tiles
public import Idealize.ShloMosaic.Lib.Pipeline.ValueKit

/-! The reference's final contents: each result holds the layer's quantity. -/

@[expose] public section

set_option maxRecDepth 16384

noncomputable section

namespace Cert.ReferenceIdeal.At

open Idealize.ShloMosaic Idealize.ShloMosaic.TcCoe Idealize.ShloMosaic.Tactic Idealize.ShloMosaic.StableHlo
open Cert.ReferenceIdeal Cert.ReferenceIdeal.Gen Cert.ReferenceIdeal.Run Cert.Spec Cert.Args

variable (m : (ℓ : Loc nD τ sig) → Buf (Elt Ideal) ℓ) (c : Dev nD)

/-- The call's result arrays, and the results at the end. -/
theorem arr11 : ((dats m 0 c).arrAt 11 cfg0.N : Vec Ideal S256x4096 .bf16) = fun y => (argR m c).y (y 0) (y 1) := by
  have key : ∀ o : Vec Ideal S256x4096 .bf16, (dats m 0 c).after 11 t0_0 = o → ((dats m 0 c).arrAt 11 cfg0.N : Vec Ideal S256x4096 .bf16) = o := fun o ho =>
    (dats m 0 c).arrAt_eq_of_after_last 11 t0_0 (by decide +kernel) o fun j => by rw [ho]; rfl
  refine (key _ (after0_11 m c t0_0)).trans ?_
  exact extM fun i j => out11 (holds m c) i j
/-- The program's result holds the output. -/
theorem res_v9 : (Pipeline.afterTail₀ cfgs (dats m) 0 (V0 m) [hostOps1] c main_v9 : Vec Ideal S2x128x4096 .bf16) = shapeCast S2x128x4096 (fun y : S256x4096.Idx => (argR m c).y (y 0) (y 1)) (by decide) := by
  have e : (Pipeline.withArrays spec0 c (V0 m c) (fun w => (dats m 0 c).arrAt w cfg0.N) (Proc.devRef .tc main_v8_0) : Vec Ideal S256x4096 .bf16) = fun y => (argR m c).y (y 0) (y 1) :=
    (Pipeline.withArrays_arr spec0 launch0.win.arr_inj c (V0 m c) (fun w => (dats m 0 c).arrAt w cfg0.N) 11).trans (arr11 m c)
  have e2 : (Pipeline.afterTail₀ cfgs (dats m) 0 (V0 m) [hostOps1] c main_v9 : Vec Ideal S2x128x4096 .bf16)
      = shapeCast S2x128x4096 (Pipeline.withArrays spec0 c (V0 m c) (fun w => (dats m 0 c).arrAt w cfg0.N) (Proc.devRef .tc main_v8_0) : Vec Ideal S256x4096 .bf16) (by decide) := by
    show StableHlo.after hostOps1 (Pipeline.withArrays spec0 c (V0 m c) fun w => (dats m 0 c).arrAt w cfg0.N) (Proc.devRef .tc main_v9) = _
    after_results <;> rfl
  exact e2.trans (congrArg (fun z => shapeCast S2x128x4096 z (show S256x4096.ShapeCasts S2x128x4096 by decide)) e)
/-- After the reference's call, the array of window 12 holds the tokens' gradient. -/
theorem arr12 : ((dats m 0 c).arrAt 12 cfg0.N : Vec Ideal S256x4096 .bf16) = fun y => (argR m c).dx (y 0) (y 1) := by
  have key : ∀ o : Vec Ideal S256x4096 .bf16, (dats m 0 c).after 12 t0_0 = o → ((dats m 0 c).arrAt 12 cfg0.N : Vec Ideal S256x4096 .bf16) = o := fun o ho =>
    (dats m 0 c).arrAt_eq_of_after_last 12 t0_0 (by decide +kernel) o fun j => by rw [ho]; rfl
  refine (key _ (after0_12 m c t0_0)).trans ?_
  exact extM fun i j => out12 (holds m c) i j
/-- The program's result holds the tokens' gradient. -/
theorem res_v10 : (Pipeline.afterTail₀ cfgs (dats m) 0 (V0 m) [hostOps1] c main_v10 : Vec Ideal S2x128x4096 .bf16) = shapeCast S2x128x4096 (fun y : S256x4096.Idx => (argR m c).dx (y 0) (y 1)) (by decide) := by
  have e : (Pipeline.withArrays spec0 c (V0 m c) (fun w => (dats m 0 c).arrAt w cfg0.N) (Proc.devRef .tc main_v8_1) : Vec Ideal S256x4096 .bf16) = fun y => (argR m c).dx (y 0) (y 1) :=
    (Pipeline.withArrays_arr spec0 launch0.win.arr_inj c (V0 m c) (fun w => (dats m 0 c).arrAt w cfg0.N) 12).trans (arr12 m c)
  have e2 : (Pipeline.afterTail₀ cfgs (dats m) 0 (V0 m) [hostOps1] c main_v10 : Vec Ideal S2x128x4096 .bf16)
      = shapeCast S2x128x4096 (Pipeline.withArrays spec0 c (V0 m c) (fun w => (dats m 0 c).arrAt w cfg0.N) (Proc.devRef .tc main_v8_1) : Vec Ideal S256x4096 .bf16) (by decide) := by
    show StableHlo.after hostOps1 (Pipeline.withArrays spec0 c (V0 m c) fun w => (dats m 0 c).arrAt w cfg0.N) (Proc.devRef .tc main_v10) = _
    after_results <;> rfl
  exact e2.trans (congrArg (fun z => shapeCast S2x128x4096 z (show S256x4096.ShapeCasts S2x128x4096 by decide)) e)
/-- After the reference's call, the array of window 13 holds the gate weights' gradient. -/
theorem arr13 : ((dats m 0 c).arrAt 13 cfg0.N : Vec Ideal S4096x14336 .bf16) = fun y => (argR m c).dwg (y 0) (y 1) := by
  have key : ∀ o : Vec Ideal S4096x14336 .bf16, (dats m 0 c).after 13 t0_0 = o → ((dats m 0 c).arrAt 13 cfg0.N : Vec Ideal S4096x14336 .bf16) = o := fun o ho =>
    (dats m 0 c).arrAt_eq_of_after_last 13 t0_0 (by decide +kernel) o fun j => by rw [ho]; rfl
  refine (key _ (after0_13 m c t0_0)).trans ?_
  exact extM fun i j => out13 (holds m c) i j
/-- After the reference's call, the array of window 14 holds the up weights' gradient. -/
theorem arr14 : ((dats m 0 c).arrAt 14 cfg0.N : Vec Ideal S4096x14336 .bf16) = fun y => (argR m c).dwu (y 0) (y 1) := by
  have key : ∀ o : Vec Ideal S4096x14336 .bf16, (dats m 0 c).after 14 t0_0 = o → ((dats m 0 c).arrAt 14 cfg0.N : Vec Ideal S4096x14336 .bf16) = o := fun o ho =>
    (dats m 0 c).arrAt_eq_of_after_last 14 t0_0 (by decide +kernel) o fun j => by rw [ho]; rfl
  refine (key _ (after0_14 m c t0_0)).trans ?_
  exact extM fun i j => out14 (holds m c) i j
/-- After the reference's call, the array of window 15 holds the down weights' gradient. -/
theorem arr15 : ((dats m 0 c).arrAt 15 cfg0.N : Vec Ideal S14336x4096 .bf16) = fun y => (argR m c).dwd (y 0) (y 1) := by
  have key : ∀ o : Vec Ideal S14336x4096 .bf16, (dats m 0 c).after 15 t0_0 = o → ((dats m 0 c).arrAt 15 cfg0.N : Vec Ideal S14336x4096 .bf16) = o := fun o ho =>
    (dats m 0 c).arrAt_eq_of_after_last 15 t0_0 (by decide +kernel) o fun j => by rw [ho]; rfl
  refine (key _ (after0_15 m c t0_0)).trans ?_
  exact extM fun i j => out15 (holds m c) i j
/-- After the reference's call, the array of window 16 holds the gate steps' gradient. -/
theorem arr16 : ((dats m 0 c).arrAt 16 cfg0.N : Vec Ideal S1x14336 .f32) = fun y => (argR m c).dsg (y 1) := by
  have key : ∀ o : Vec Ideal S1x14336 .f32, (dats m 0 c).after 16 t0_0 = o → ((dats m 0 c).arrAt 16 cfg0.N : Vec Ideal S1x14336 .f32) = o := fun o ho =>
    (dats m 0 c).arrAt_eq_of_after_last 16 t0_0 (by decide +kernel) o fun j => by rw [ho]; rfl
  refine (key _ (after0_16 m c t0_0)).trans ?_
  exact extM fun i j => out16 (holds m c) i j
/-- The program's result holds the gate steps' gradient. -/
theorem res_v11 : (Pipeline.afterTail₀ cfgs (dats m) 0 (V0 m) [hostOps1] c main_v11 : Vec Ideal S14336 .f32) = shapeCast S14336 (fun y : S1x14336.Idx => (argR m c).dsg (y 1)) (by decide) := by
  have e : (Pipeline.withArrays spec0 c (V0 m c) (fun w => (dats m 0 c).arrAt w cfg0.N) (Proc.devRef .tc main_v8_5) : Vec Ideal S1x14336 .f32) = fun y => (argR m c).dsg (y 1) :=
    (Pipeline.withArrays_arr spec0 launch0.win.arr_inj c (V0 m c) (fun w => (dats m 0 c).arrAt w cfg0.N) 16).trans (arr16 m c)
  have e2 : (Pipeline.afterTail₀ cfgs (dats m) 0 (V0 m) [hostOps1] c main_v11 : Vec Ideal S14336 .f32)
      = shapeCast S14336 (Pipeline.withArrays spec0 c (V0 m c) (fun w => (dats m 0 c).arrAt w cfg0.N) (Proc.devRef .tc main_v8_5) : Vec Ideal S1x14336 .f32) (by decide) := by
    show StableHlo.after hostOps1 (Pipeline.withArrays spec0 c (V0 m c) fun w => (dats m 0 c).arrAt w cfg0.N) (Proc.devRef .tc main_v11) = _
    after_results <;> rfl
  exact e2.trans (congrArg (fun z => shapeCast S14336 z (show S1x14336.ShapeCasts S14336 by decide)) e)
/-- After the reference's call, the array of window 17 holds the up steps' gradient. -/
theorem arr17 : ((dats m 0 c).arrAt 17 cfg0.N : Vec Ideal S1x14336 .f32) = fun y => (argR m c).dsu (y 1) := by
  have key : ∀ o : Vec Ideal S1x14336 .f32, (dats m 0 c).after 17 t0_0 = o → ((dats m 0 c).arrAt 17 cfg0.N : Vec Ideal S1x14336 .f32) = o := fun o ho =>
    (dats m 0 c).arrAt_eq_of_after_last 17 t0_0 (by decide +kernel) o fun j => by rw [ho]; rfl
  refine (key _ (after0_17 m c t0_0)).trans ?_
  exact extM fun i j => out17 (holds m c) i j
/-- The program's result holds the up steps' gradient. -/
theorem res_v12 : (Pipeline.afterTail₀ cfgs (dats m) 0 (V0 m) [hostOps1] c main_v12 : Vec Ideal S14336 .f32) = shapeCast S14336 (fun y : S1x14336.Idx => (argR m c).dsu (y 1)) (by decide) := by
  have e : (Pipeline.withArrays spec0 c (V0 m c) (fun w => (dats m 0 c).arrAt w cfg0.N) (Proc.devRef .tc main_v8_6) : Vec Ideal S1x14336 .f32) = fun y => (argR m c).dsu (y 1) :=
    (Pipeline.withArrays_arr spec0 launch0.win.arr_inj c (V0 m c) (fun w => (dats m 0 c).arrAt w cfg0.N) 17).trans (arr17 m c)
  have e2 : (Pipeline.afterTail₀ cfgs (dats m) 0 (V0 m) [hostOps1] c main_v12 : Vec Ideal S14336 .f32)
      = shapeCast S14336 (Pipeline.withArrays spec0 c (V0 m c) (fun w => (dats m 0 c).arrAt w cfg0.N) (Proc.devRef .tc main_v8_6) : Vec Ideal S1x14336 .f32) (by decide) := by
    show StableHlo.after hostOps1 (Pipeline.withArrays spec0 c (V0 m c) fun w => (dats m 0 c).arrAt w cfg0.N) (Proc.devRef .tc main_v12) = _
    after_results <;> rfl
  exact e2.trans (congrArg (fun z => shapeCast S14336 z (show S1x14336.ShapeCasts S14336 by decide)) e)
/-- After the reference's call, the array of window 18 holds the down steps' gradient. -/
theorem arr18 : ((dats m 0 c).arrAt 18 cfg0.N : Vec Ideal S1x4096 .f32) = fun y => (argR m c).dsd (y 1) := by
  have key : ∀ o : Vec Ideal S1x4096 .f32, (dats m 0 c).after 18 t0_0 = o → ((dats m 0 c).arrAt 18 cfg0.N : Vec Ideal S1x4096 .f32) = o := fun o ho =>
    (dats m 0 c).arrAt_eq_of_after_last 18 t0_0 (by decide +kernel) o fun j => by rw [ho]; rfl
  refine (key _ (after0_18 m c t0_0)).trans ?_
  exact extM fun i j => out18 (holds m c) i j
/-- The program's result holds the down steps' gradient. -/
theorem res_v13 : (Pipeline.afterTail₀ cfgs (dats m) 0 (V0 m) [hostOps1] c main_v13 : Vec Ideal S4096 .f32) = shapeCast S4096 (fun y : S1x4096.Idx => (argR m c).dsd (y 1)) (by decide) := by
  have e : (Pipeline.withArrays spec0 c (V0 m c) (fun w => (dats m 0 c).arrAt w cfg0.N) (Proc.devRef .tc main_v8_7) : Vec Ideal S1x4096 .f32) = fun y => (argR m c).dsd (y 1) :=
    (Pipeline.withArrays_arr spec0 launch0.win.arr_inj c (V0 m c) (fun w => (dats m 0 c).arrAt w cfg0.N) 18).trans (arr18 m c)
  have e2 : (Pipeline.afterTail₀ cfgs (dats m) 0 (V0 m) [hostOps1] c main_v13 : Vec Ideal S4096 .f32)
      = shapeCast S4096 (Pipeline.withArrays spec0 c (V0 m c) (fun w => (dats m 0 c).arrAt w cfg0.N) (Proc.devRef .tc main_v8_7) : Vec Ideal S1x4096 .f32) (by decide) := by
    show StableHlo.after hostOps1 (Pipeline.withArrays spec0 c (V0 m c) fun w => (dats m 0 c).arrAt w cfg0.N) (Proc.devRef .tc main_v13) = _
    after_results <;> rfl
  exact e2.trans (congrArg (fun z => shapeCast S4096 z (show S1x4096.ShapeCasts S4096 by decide)) e)
/-- After the reference's call, the array of window 19 holds the first activation step's gradient. -/
theorem arr19 : ((dats m 0 c).arrAt 19 cfg0.N : Vec Ideal S1x1 .f32) = fun y => (argR m c).dsa1 := by
  have key : ∀ o : Vec Ideal S1x1 .f32, (dats m 0 c).after 19 t0_0 = o → ((dats m 0 c).arrAt 19 cfg0.N : Vec Ideal S1x1 .f32) = o := fun o ho =>
    (dats m 0 c).arrAt_eq_of_after_last 19 t0_0 (by decide +kernel) o fun j => by rw [ho]; rfl
  refine (key _ (after0_19 m c t0_0)).trans ?_
  exact extM fun i j => out19 (holds m c) i j
/-- The program's result holds the first activation step's gradient. -/
theorem res_v14 : (Pipeline.afterTail₀ cfgs (dats m) 0 (V0 m) [hostOps1] c main_v14 : Vec Ideal S_ .f32) = shapeCast S_ (fun y : S1x1.Idx => (argR m c).dsa1) (by decide) := by
  have e : (Pipeline.withArrays spec0 c (V0 m c) (fun w => (dats m 0 c).arrAt w cfg0.N) (Proc.devRef .tc main_v8_8) : Vec Ideal S1x1 .f32) = fun y => (argR m c).dsa1 :=
    (Pipeline.withArrays_arr spec0 launch0.win.arr_inj c (V0 m c) (fun w => (dats m 0 c).arrAt w cfg0.N) 19).trans (arr19 m c)
  have e2 : (Pipeline.afterTail₀ cfgs (dats m) 0 (V0 m) [hostOps1] c main_v14 : Vec Ideal S_ .f32)
      = shapeCast S_ (Pipeline.withArrays spec0 c (V0 m c) (fun w => (dats m 0 c).arrAt w cfg0.N) (Proc.devRef .tc main_v8_8) : Vec Ideal S1x1 .f32) (by decide) := by
    show StableHlo.after hostOps1 (Pipeline.withArrays spec0 c (V0 m c) fun w => (dats m 0 c).arrAt w cfg0.N) (Proc.devRef .tc main_v14) = _
    after_results <;> rfl
  exact e2.trans (congrArg (fun z => shapeCast S_ z (show S1x1.ShapeCasts S_ by decide)) e)
/-- After the reference's call, the array of window 20 holds each token's rounding part of the first step's gradient. -/
theorem arr20 : ((dats m 0 c).arrAt 20 cfg0.N : Vec Ideal S256x1 .f32) = fun y => (argR m c).rnd1 (y 0) := by
  have key : ∀ o : Vec Ideal S256x1 .f32, (dats m 0 c).after 20 t0_0 = o → ((dats m 0 c).arrAt 20 cfg0.N : Vec Ideal S256x1 .f32) = o := fun o ho =>
    (dats m 0 c).arrAt_eq_of_after_last 20 t0_0 (by decide +kernel) o fun j => by rw [ho]; rfl
  refine (key _ (after0_20 m c t0_0)).trans ?_
  exact extM fun i j => out20 (holds m c) i j
/-- The program's result holds each token's rounding part of the first step's gradient. -/
theorem res_v15 : (Pipeline.afterTail₀ cfgs (dats m) 0 (V0 m) [hostOps1] c main_v15 : Vec Ideal S2x128 .f32) = shapeCast S2x128 (fun y : S256x1.Idx => (argR m c).rnd1 (y 0)) (by decide) := by
  have e : (Pipeline.withArrays spec0 c (V0 m c) (fun w => (dats m 0 c).arrAt w cfg0.N) (Proc.devRef .tc main_v8_9) : Vec Ideal S256x1 .f32) = fun y => (argR m c).rnd1 (y 0) :=
    (Pipeline.withArrays_arr spec0 launch0.win.arr_inj c (V0 m c) (fun w => (dats m 0 c).arrAt w cfg0.N) 20).trans (arr20 m c)
  have e2 : (Pipeline.afterTail₀ cfgs (dats m) 0 (V0 m) [hostOps1] c main_v15 : Vec Ideal S2x128 .f32)
      = shapeCast S2x128 (Pipeline.withArrays spec0 c (V0 m c) (fun w => (dats m 0 c).arrAt w cfg0.N) (Proc.devRef .tc main_v8_9) : Vec Ideal S256x1 .f32) (by decide) := by
    show StableHlo.after hostOps1 (Pipeline.withArrays spec0 c (V0 m c) fun w => (dats m 0 c).arrAt w cfg0.N) (Proc.devRef .tc main_v15) = _
    after_results <;> rfl
  exact e2.trans (congrArg (fun z => shapeCast S2x128 z (show S256x1.ShapeCasts S2x128 by decide)) e)
/-- After the reference's call, the array of window 21 holds each token's clipping part of the first step's gradient. -/
theorem arr21 : ((dats m 0 c).arrAt 21 cfg0.N : Vec Ideal S256x1 .f32) = fun y => (argR m c).clp1 (y 0) := by
  have key : ∀ o : Vec Ideal S256x1 .f32, (dats m 0 c).after 21 t0_0 = o → ((dats m 0 c).arrAt 21 cfg0.N : Vec Ideal S256x1 .f32) = o := fun o ho =>
    (dats m 0 c).arrAt_eq_of_after_last 21 t0_0 (by decide +kernel) o fun j => by rw [ho]; rfl
  refine (key _ (after0_21 m c t0_0)).trans ?_
  exact extM fun i j => out21 (holds m c) i j
/-- The program's result holds each token's clipping part of the first step's gradient. -/
theorem res_v16 : (Pipeline.afterTail₀ cfgs (dats m) 0 (V0 m) [hostOps1] c main_v16 : Vec Ideal S2x128 .f32) = shapeCast S2x128 (fun y : S256x1.Idx => (argR m c).clp1 (y 0)) (by decide) := by
  have e : (Pipeline.withArrays spec0 c (V0 m c) (fun w => (dats m 0 c).arrAt w cfg0.N) (Proc.devRef .tc main_v8_10) : Vec Ideal S256x1 .f32) = fun y => (argR m c).clp1 (y 0) :=
    (Pipeline.withArrays_arr spec0 launch0.win.arr_inj c (V0 m c) (fun w => (dats m 0 c).arrAt w cfg0.N) 21).trans (arr21 m c)
  have e2 : (Pipeline.afterTail₀ cfgs (dats m) 0 (V0 m) [hostOps1] c main_v16 : Vec Ideal S2x128 .f32)
      = shapeCast S2x128 (Pipeline.withArrays spec0 c (V0 m c) (fun w => (dats m 0 c).arrAt w cfg0.N) (Proc.devRef .tc main_v8_10) : Vec Ideal S256x1 .f32) (by decide) := by
    show StableHlo.after hostOps1 (Pipeline.withArrays spec0 c (V0 m c) fun w => (dats m 0 c).arrAt w cfg0.N) (Proc.devRef .tc main_v16) = _
    after_results <;> rfl
  exact e2.trans (congrArg (fun z => shapeCast S2x128 z (show S256x1.ShapeCasts S2x128 by decide)) e)
/-- After the reference's call, the array of window 22 holds the second activation step's gradient. -/
theorem arr22 : ((dats m 0 c).arrAt 22 cfg0.N : Vec Ideal S1x1 .f32) = fun y => (argR m c).dsa2 := by
  have key : ∀ o : Vec Ideal S1x1 .f32, (dats m 0 c).after 22 t0_0 = o → ((dats m 0 c).arrAt 22 cfg0.N : Vec Ideal S1x1 .f32) = o := fun o ho =>
    (dats m 0 c).arrAt_eq_of_after_last 22 t0_0 (by decide +kernel) o fun j => by rw [ho]; rfl
  refine (key _ (after0_22 m c t0_0)).trans ?_
  exact extM fun i j => out22 (holds m c) i j
/-- The program's result holds the second activation step's gradient. -/
theorem res_v17 : (Pipeline.afterTail₀ cfgs (dats m) 0 (V0 m) [hostOps1] c main_v17 : Vec Ideal S_ .f32) = shapeCast S_ (fun y : S1x1.Idx => (argR m c).dsa2) (by decide) := by
  have e : (Pipeline.withArrays spec0 c (V0 m c) (fun w => (dats m 0 c).arrAt w cfg0.N) (Proc.devRef .tc main_v8_11) : Vec Ideal S1x1 .f32) = fun y => (argR m c).dsa2 :=
    (Pipeline.withArrays_arr spec0 launch0.win.arr_inj c (V0 m c) (fun w => (dats m 0 c).arrAt w cfg0.N) 22).trans (arr22 m c)
  have e2 : (Pipeline.afterTail₀ cfgs (dats m) 0 (V0 m) [hostOps1] c main_v17 : Vec Ideal S_ .f32)
      = shapeCast S_ (Pipeline.withArrays spec0 c (V0 m c) (fun w => (dats m 0 c).arrAt w cfg0.N) (Proc.devRef .tc main_v8_11) : Vec Ideal S1x1 .f32) (by decide) := by
    show StableHlo.after hostOps1 (Pipeline.withArrays spec0 c (V0 m c) fun w => (dats m 0 c).arrAt w cfg0.N) (Proc.devRef .tc main_v17) = _
    after_results <;> rfl
  exact e2.trans (congrArg (fun z => shapeCast S_ z (show S1x1.ShapeCasts S_ by decide)) e)
/-- After the reference's call, the array of window 23 holds each token's sum of magnitudes of the second step's rounding part. -/
theorem arr23 : ((dats m 0 c).arrAt 23 cfg0.N : Vec Ideal S256x1 .f32) = fun y => (argR m c).abs2 (y 0) := by
  have key : ∀ o : Vec Ideal S256x1 .f32, (dats m 0 c).after 23 t0_0 = o → ((dats m 0 c).arrAt 23 cfg0.N : Vec Ideal S256x1 .f32) = o := fun o ho =>
    (dats m 0 c).arrAt_eq_of_after_last 23 t0_0 (by decide +kernel) o fun j => by rw [ho]; rfl
  refine (key _ (after0_23 m c t0_0)).trans ?_
  exact extM fun i j => out23 (holds m c) i j
/-- The program's result holds each token's sum of magnitudes of the second step's rounding part. -/
theorem res_v18 : (Pipeline.afterTail₀ cfgs (dats m) 0 (V0 m) [hostOps1] c main_v18 : Vec Ideal S2x128 .f32) = shapeCast S2x128 (fun y : S256x1.Idx => (argR m c).abs2 (y 0)) (by decide) := by
  have e : (Pipeline.withArrays spec0 c (V0 m c) (fun w => (dats m 0 c).arrAt w cfg0.N) (Proc.devRef .tc main_v8_12) : Vec Ideal S256x1 .f32) = fun y => (argR m c).abs2 (y 0) :=
    (Pipeline.withArrays_arr spec0 launch0.win.arr_inj c (V0 m c) (fun w => (dats m 0 c).arrAt w cfg0.N) 23).trans (arr23 m c)
  have e2 : (Pipeline.afterTail₀ cfgs (dats m) 0 (V0 m) [hostOps1] c main_v18 : Vec Ideal S2x128 .f32)
      = shapeCast S2x128 (Pipeline.withArrays spec0 c (V0 m c) (fun w => (dats m 0 c).arrAt w cfg0.N) (Proc.devRef .tc main_v8_12) : Vec Ideal S256x1 .f32) (by decide) := by
    show StableHlo.after hostOps1 (Pipeline.withArrays spec0 c (V0 m c) fun w => (dats m 0 c).arrAt w cfg0.N) (Proc.devRef .tc main_v18) = _
    after_results <;> rfl
  exact e2.trans (congrArg (fun z => shapeCast S2x128 z (show S256x1.ShapeCasts S2x128 by decide)) e)
/-- After the reference's call, the array of window 24 holds each token's clipping part of the second step's gradient. -/
theorem arr24 : ((dats m 0 c).arrAt 24 cfg0.N : Vec Ideal S256x1 .f32) = fun y => (argR m c).clp2 (y 0) := by
  have key : ∀ o : Vec Ideal S256x1 .f32, (dats m 0 c).after 24 t0_0 = o → ((dats m 0 c).arrAt 24 cfg0.N : Vec Ideal S256x1 .f32) = o := fun o ho =>
    (dats m 0 c).arrAt_eq_of_after_last 24 t0_0 (by decide +kernel) o fun j => by rw [ho]; rfl
  refine (key _ (after0_24 m c t0_0)).trans ?_
  exact extM fun i j => out24 (holds m c) i j
/-- The program's result holds each token's clipping part of the second step's gradient. -/
theorem res_v19 : (Pipeline.afterTail₀ cfgs (dats m) 0 (V0 m) [hostOps1] c main_v19 : Vec Ideal S2x128 .f32) = shapeCast S2x128 (fun y : S256x1.Idx => (argR m c).clp2 (y 0)) (by decide) := by
  have e : (Pipeline.withArrays spec0 c (V0 m c) (fun w => (dats m 0 c).arrAt w cfg0.N) (Proc.devRef .tc main_v8_13) : Vec Ideal S256x1 .f32) = fun y => (argR m c).clp2 (y 0) :=
    (Pipeline.withArrays_arr spec0 launch0.win.arr_inj c (V0 m c) (fun w => (dats m 0 c).arrAt w cfg0.N) 24).trans (arr24 m c)
  have e2 : (Pipeline.afterTail₀ cfgs (dats m) 0 (V0 m) [hostOps1] c main_v19 : Vec Ideal S2x128 .f32)
      = shapeCast S2x128 (Pipeline.withArrays spec0 c (V0 m c) (fun w => (dats m 0 c).arrAt w cfg0.N) (Proc.devRef .tc main_v8_13) : Vec Ideal S256x1 .f32) (by decide) := by
    show StableHlo.after hostOps1 (Pipeline.withArrays spec0 c (V0 m c) fun w => (dats m 0 c).arrAt w cfg0.N) (Proc.devRef .tc main_v19) = _
    after_results <;> rfl
  exact e2.trans (congrArg (fun z => shapeCast S2x128 z (show S256x1.ShapeCasts S2x128 by decide)) e)
/-- After the reference's call, the array of window 25 holds the norm weight's gradient. -/
theorem arr25 : ((dats m 0 c).arrAt 25 cfg0.N : Vec Ideal S1x4096 .f32) = fun y => (argR m c).dnw (y 1) := by
  have key : ∀ o : Vec Ideal S1x4096 .f32, (dats m 0 c).after 25 t0_0 = o → ((dats m 0 c).arrAt 25 cfg0.N : Vec Ideal S1x4096 .f32) = o := fun o ho =>
    (dats m 0 c).arrAt_eq_of_after_last 25 t0_0 (by decide +kernel) o fun j => by rw [ho]; rfl
  refine (key _ (after0_25 m c t0_0)).trans ?_
  exact extM fun i j => out25 (holds m c) i j
/-- The program's result holds the norm weight's gradient. -/
theorem res_v20 : (Pipeline.afterTail₀ cfgs (dats m) 0 (V0 m) [hostOps1] c main_v20 : Vec Ideal S4096 .f32) = shapeCast S4096 (fun y : S1x4096.Idx => (argR m c).dnw (y 1)) (by decide) := by
  have e : (Pipeline.withArrays spec0 c (V0 m c) (fun w => (dats m 0 c).arrAt w cfg0.N) (Proc.devRef .tc main_v8_14) : Vec Ideal S1x4096 .f32) = fun y => (argR m c).dnw (y 1) :=
    (Pipeline.withArrays_arr spec0 launch0.win.arr_inj c (V0 m c) (fun w => (dats m 0 c).arrAt w cfg0.N) 25).trans (arr25 m c)
  have e2 : (Pipeline.afterTail₀ cfgs (dats m) 0 (V0 m) [hostOps1] c main_v20 : Vec Ideal S4096 .f32)
      = shapeCast S4096 (Pipeline.withArrays spec0 c (V0 m c) (fun w => (dats m 0 c).arrAt w cfg0.N) (Proc.devRef .tc main_v8_14) : Vec Ideal S1x4096 .f32) (by decide) := by
    show StableHlo.after hostOps1 (Pipeline.withArrays spec0 c (V0 m c) fun w => (dats m 0 c).arrAt w cfg0.N) (Proc.devRef .tc main_v20) = _
    after_results <;> rfl
  exact e2.trans (congrArg (fun z => shapeCast S4096 z (show S1x4096.ShapeCasts S4096 by decide)) e)
/-- After the reference's call, the array of window 26 holds each token's mean product with the norm's gradient. -/
theorem arr26 : ((dats m 0 c).arrAt 26 cfg0.N : Vec Ideal S256x1 .f32) = fun y => (argR m c).dot (y 0) := by
  have key : ∀ o : Vec Ideal S256x1 .f32, (dats m 0 c).after 26 t0_0 = o → ((dats m 0 c).arrAt 26 cfg0.N : Vec Ideal S256x1 .f32) = o := fun o ho =>
    (dats m 0 c).arrAt_eq_of_after_last 26 t0_0 (by decide +kernel) o fun j => by rw [ho]; rfl
  refine (key _ (after0_26 m c t0_0)).trans ?_
  exact extM fun i j => out26 (holds m c) i j
/-- The program's result holds each token's mean product with the norm's gradient. -/
theorem res_v21 : (Pipeline.afterTail₀ cfgs (dats m) 0 (V0 m) [hostOps1] c main_v21 : Vec Ideal S2x128 .f32) = shapeCast S2x128 (fun y : S256x1.Idx => (argR m c).dot (y 0)) (by decide) := by
  have e : (Pipeline.withArrays spec0 c (V0 m c) (fun w => (dats m 0 c).arrAt w cfg0.N) (Proc.devRef .tc main_v8_15) : Vec Ideal S256x1 .f32) = fun y => (argR m c).dot (y 0) :=
    (Pipeline.withArrays_arr spec0 launch0.win.arr_inj c (V0 m c) (fun w => (dats m 0 c).arrAt w cfg0.N) 26).trans (arr26 m c)
  have e2 : (Pipeline.afterTail₀ cfgs (dats m) 0 (V0 m) [hostOps1] c main_v21 : Vec Ideal S2x128 .f32)
      = shapeCast S2x128 (Pipeline.withArrays spec0 c (V0 m c) (fun w => (dats m 0 c).arrAt w cfg0.N) (Proc.devRef .tc main_v8_15) : Vec Ideal S256x1 .f32) (by decide) := by
    show StableHlo.after hostOps1 (Pipeline.withArrays spec0 c (V0 m c) fun w => (dats m 0 c).arrAt w cfg0.N) (Proc.devRef .tc main_v21) = _
    after_results <;> rfl
  exact e2.trans (congrArg (fun z => shapeCast S2x128 z (show S256x1.ShapeCasts S2x128 by decide)) e)
/-- After the reference's call, the array of window 27 holds the normed tokens' codes. -/
theorem arr27 : ((dats m 0 c).arrAt 27 cfg0.N : Vec Ideal S256x4096 .fp8e4m3) = fun y => (argR m c).c1 (y 0) (y 1) := by
  have key : ∀ o : Vec Ideal S256x4096 .fp8e4m3, (dats m 0 c).after 27 t0_0 = o → ((dats m 0 c).arrAt 27 cfg0.N : Vec Ideal S256x4096 .fp8e4m3) = o := fun o ho =>
    (dats m 0 c).arrAt_eq_of_after_last 27 t0_0 (by decide +kernel) o fun j => by rw [ho]; rfl
  refine (key _ (after0_27 m c t0_0)).trans ?_
  exact extM fun i j => out27 (holds m c) i j
/-- The program's result holds the normed tokens' codes. -/
theorem res_v22 : (Pipeline.afterTail₀ cfgs (dats m) 0 (V0 m) [hostOps1] c main_v22 : Vec Ideal S2x128x4096 .fp8e4m3) = shapeCast S2x128x4096 (fun y : S256x4096.Idx => (argR m c).c1 (y 0) (y 1)) (by decide) := by
  have e : (Pipeline.withArrays spec0 c (V0 m c) (fun w => (dats m 0 c).arrAt w cfg0.N) (Proc.devRef .tc main_v8_16) : Vec Ideal S256x4096 .fp8e4m3) = fun y => (argR m c).c1 (y 0) (y 1) :=
    (Pipeline.withArrays_arr spec0 launch0.win.arr_inj c (V0 m c) (fun w => (dats m 0 c).arrAt w cfg0.N) 27).trans (arr27 m c)
  have e2 : (Pipeline.afterTail₀ cfgs (dats m) 0 (V0 m) [hostOps1] c main_v22 : Vec Ideal S2x128x4096 .fp8e4m3)
      = shapeCast S2x128x4096 (Pipeline.withArrays spec0 c (V0 m c) (fun w => (dats m 0 c).arrAt w cfg0.N) (Proc.devRef .tc main_v8_16) : Vec Ideal S256x4096 .fp8e4m3) (by decide) := by
    show StableHlo.after hostOps1 (Pipeline.withArrays spec0 c (V0 m c) fun w => (dats m 0 c).arrAt w cfg0.N) (Proc.devRef .tc main_v22) = _
    after_results <;> rfl
  exact e2.trans (congrArg (fun z => shapeCast S2x128x4096 z (show S256x4096.ShapeCasts S2x128x4096 by decide)) e)
/-- After the reference's call, the array of window 28 holds the integer codes of the gate's weights over their steps. -/
theorem arr28 : ((dats m 0 c).arrAt 28 cfg0.N : Vec Ideal S4096x14336 .i8) = fun y => codeI ((argR m c).vg (y 0) (y 1)) := by
  have key : ∀ o : Vec Ideal S4096x14336 .i8, (dats m 0 c).after 28 t0_0 = o → ((dats m 0 c).arrAt 28 cfg0.N : Vec Ideal S4096x14336 .i8) = o := fun o ho =>
    (dats m 0 c).arrAt_eq_of_after_last 28 t0_0 (by decide +kernel) o fun j => by rw [ho]; rfl
  refine (key _ (after0_28 m c t0_0)).trans ?_
  exact extM fun i j => out28 (holds m c) i j
/-- After the reference's call, the array of window 29 holds the integer codes of the up projection's weights over their steps. -/
theorem arr29 : ((dats m 0 c).arrAt 29 cfg0.N : Vec Ideal S4096x14336 .i8) = fun y => codeI ((argR m c).vu (y 0) (y 1)) := by
  have key : ∀ o : Vec Ideal S4096x14336 .i8, (dats m 0 c).after 29 t0_0 = o → ((dats m 0 c).arrAt 29 cfg0.N : Vec Ideal S4096x14336 .i8) = o := fun o ho =>
    (dats m 0 c).arrAt_eq_of_after_last 29 t0_0 (by decide +kernel) o fun j => by rw [ho]; rfl
  refine (key _ (after0_29 m c t0_0)).trans ?_
  exact extM fun i j => out29 (holds m c) i j
/-- After the reference's call, the array of window 30 holds the hidden activation's codes. -/
theorem arr30 : ((dats m 0 c).arrAt 30 cfg0.N : Vec Ideal S256x14336 .fp8e4m3) = fun y => (argR m c).c2 (y 0) (y 1) := by
  have key : ∀ o : Vec Ideal S256x14336 .fp8e4m3, (dats m 0 c).after 30 t0_0 = o → ((dats m 0 c).arrAt 30 cfg0.N : Vec Ideal S256x14336 .fp8e4m3) = o := fun o ho =>
    (dats m 0 c).arrAt_eq_of_after_last 30 t0_0 (by decide +kernel) o fun j => by rw [ho]; rfl
  refine (key _ (after0_30 m c t0_0)).trans ?_
  exact extM fun i j => out30 (holds m c) i j
/-- The program's result holds the hidden activation's codes. -/
theorem res_v23 : (Pipeline.afterTail₀ cfgs (dats m) 0 (V0 m) [hostOps1] c main_v23 : Vec Ideal S2x128x14336 .fp8e4m3) = shapeCast S2x128x14336 (fun y : S256x14336.Idx => (argR m c).c2 (y 0) (y 1)) (by decide) := by
  have e : (Pipeline.withArrays spec0 c (V0 m c) (fun w => (dats m 0 c).arrAt w cfg0.N) (Proc.devRef .tc main_v8_19) : Vec Ideal S256x14336 .fp8e4m3) = fun y => (argR m c).c2 (y 0) (y 1) :=
    (Pipeline.withArrays_arr spec0 launch0.win.arr_inj c (V0 m c) (fun w => (dats m 0 c).arrAt w cfg0.N) 30).trans (arr30 m c)
  have e2 : (Pipeline.afterTail₀ cfgs (dats m) 0 (V0 m) [hostOps1] c main_v23 : Vec Ideal S2x128x14336 .fp8e4m3)
      = shapeCast S2x128x14336 (Pipeline.withArrays spec0 c (V0 m c) (fun w => (dats m 0 c).arrAt w cfg0.N) (Proc.devRef .tc main_v8_19) : Vec Ideal S256x14336 .fp8e4m3) (by decide) := by
    show StableHlo.after hostOps1 (Pipeline.withArrays spec0 c (V0 m c) fun w => (dats m 0 c).arrAt w cfg0.N) (Proc.devRef .tc main_v23) = _
    after_results <;> rfl
  exact e2.trans (congrArg (fun z => shapeCast S2x128x14336 z (show S256x14336.ShapeCasts S2x128x14336 by decide)) e)
/-- After the reference's call, the array of window 31 holds the integer codes of the down projection's weights over their steps. -/
theorem arr31 : ((dats m 0 c).arrAt 31 cfg0.N : Vec Ideal S14336x4096 .i8) = fun y => codeI ((argR m c).vd (y 0) (y 1)) := by
  have key : ∀ o : Vec Ideal S14336x4096 .i8, (dats m 0 c).after 31 t0_0 = o → ((dats m 0 c).arrAt 31 cfg0.N : Vec Ideal S14336x4096 .i8) = o := fun o ho =>
    (dats m 0 c).arrAt_eq_of_after_last 31 t0_0 (by decide +kernel) o fun j => by rw [ho]; rfl
  refine (key _ (after0_31 m c t0_0)).trans ?_
  exact extM fun i j => out31 (holds m c) i j

end Cert.ReferenceIdeal.At

end
-- ==== Proof.Value.lean ====
module

public import proofs.«01_k».proof.Defs
public import proofs.«01_k».proof.Proof.KerFin
public import proofs.«01_k».proof.Proof.RefFin
public import proofs.«01_k».proof.Proof.Frame

/-! Kernel and reference agree: from memories with the same arguments, all weight steps nonzero, the two end with the same results. -/

@[expose] public section

set_option maxRecDepth 16384

noncomputable section

namespace Cert.Value

open Idealize.ShloMosaic Idealize.ShloMosaic.TcCoe Idealize.SL.Sem Cert.Spec Cert.Args

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (g' : Dev Cert.ReferenceIdeal.nD → PrngReg)

/-- The two programs' arguments are the same. -/
def Agree : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

/-- So the layer has the same parameters in both. -/
theorem argR_eq (hargs : Agree m m') (c : Dev Cert.KernelIdeal.nD) : Cert.ReferenceIdeal.At.argR m' c = Cert.KernelIdeal.At.argK m c := by
  obtain ⟨e0, e1, e2, e3, e4, e5, e6, e7, e8, e9, e10⟩ := hargs c
  unfold Cert.ReferenceIdeal.At.argR Cert.KernelIdeal.At.argK
  rw [e0, e1, e2, e3, e4, e5, e6, e7, e8, e9, e10]

/-- The precondition, read: every weight step is nonzero. -/
theorem nz [Cert.Pre_scales_nonzero.Facts] (h : Cert.Pre_KernelIdeal_scales_nonzero m) (c : Dev Cert.KernelIdeal.nD) : NZ (Cert.KernelIdeal.At.argK m c) :=
  nz_of _ _ _ _ _ _ _ _ _ _ _ (h c)

section
open Cert.KernelIdeal Cert.KernelIdeal.Gen Cert.KernelIdeal.Run
set_option maxHeartbeats 2000000 in
/-- The kernel's run: its results are the contents followed through the calls, its arguments unchanged. -/
theorem kernel : θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Cert.KernelIdeal.Run.W5 m g c (Proc.devRef .tc Cert.KernelIdeal.main_v12)
          ∧ r.2.mem ((c.tc : Thread Cert.KernelIdeal.nD Cert.KernelIdeal.τ).loc Cert.KernelIdeal.main_v13) = Cert.KernelIdeal.Run.W5 m g c (Proc.devRef .tc Cert.KernelIdeal.main_v13)
          ∧ r.2.mem ((c.tc : Thread Cert.KernelIdeal.nD Cert.KernelIdeal.τ).loc Cert.KernelIdeal.main_v10_0) = Cert.KernelIdeal.Run.W5 m g c (Proc.devRef .tc Cert.KernelIdeal.main_v10_0)
          ∧ r.2.mem ((c.tc : Thread Cert.KernelIdeal.nD Cert.KernelIdeal.τ).loc Cert.KernelIdeal.main_v10_1) = Cert.KernelIdeal.Run.W5 m g c (Proc.devRef .tc Cert.KernelIdeal.main_v10_1)
          ∧ r.2.mem ((c.tc : Thread Cert.KernelIdeal.nD Cert.KernelIdeal.τ).loc Cert.KernelIdeal.main_v10_2) = Cert.KernelIdeal.Run.W5 m g c (Proc.devRef .tc Cert.KernelIdeal.main_v10_2)
          ∧ r.2.mem ((c.tc : Thread Cert.KernelIdeal.nD Cert.KernelIdeal.τ).loc Cert.KernelIdeal.main_v14) = Cert.KernelIdeal.Run.W5 m g c (Proc.devRef .tc Cert.KernelIdeal.main_v14)
          ∧ r.2.mem ((c.tc : Thread Cert.KernelIdeal.nD Cert.KernelIdeal.τ).loc Cert.KernelIdeal.main_v15) = Cert.KernelIdeal.Run.W5 m g c (Proc.devRef .tc Cert.KernelIdeal.main_v15)
          ∧ r.2.mem ((c.tc : Thread Cert.KernelIdeal.nD Cert.KernelIdeal.τ).loc Cert.KernelIdeal.main_v16) = Cert.KernelIdeal.Run.W5 m g c (Proc.devRef .tc Cert.KernelIdeal.main_v16)
          ∧ r.2.mem ((c.tc : Thread Cert.KernelIdeal.nD Cert.KernelIdeal.τ).loc Cert.KernelIdeal.main_v17) = Cert.KernelIdeal.Run.W5 m g c (Proc.devRef .tc Cert.KernelIdeal.main_v17)
          ∧ r.2.mem ((c.tc : Thread Cert.KernelIdeal.nD Cert.KernelIdeal.τ).loc Cert.KernelIdeal.main_v18) = Cert.KernelIdeal.Run.W5 m g c (Proc.devRef .tc Cert.KernelIdeal.main_v18)
          ∧ r.2.mem ((c.tc : Thread Cert.KernelIdeal.nD Cert.KernelIdeal.τ).loc Cert.KernelIdeal.main_v19) = Cert.KernelIdeal.Run.W5 m g c (Proc.devRef .tc Cert.KernelIdeal.main_v19)
          ∧ r.2.mem ((c.tc : Thread Cert.KernelIdeal.nD Cert.KernelIdeal.τ).loc Cert.KernelIdeal.main_v20) = Cert.KernelIdeal.Run.W5 m g c (Proc.devRef .tc Cert.KernelIdeal.main_v20)
          ∧ r.2.mem ((c.tc : Thread Cert.KernelIdeal.nD Cert.KernelIdeal.τ).loc Cert.KernelIdeal.main_v21) = Cert.KernelIdeal.Run.W5 m g c (Proc.devRef .tc Cert.KernelIdeal.main_v21)
          ∧ r.2.mem ((c.tc : Thread Cert.KernelIdeal.nD Cert.KernelIdeal.τ).loc Cert.KernelIdeal.main_v22) = Cert.KernelIdeal.Run.W5 m g c (Proc.devRef .tc Cert.KernelIdeal.main_v22)
          ∧ r.2.mem ((c.tc : Thread Cert.KernelIdeal.nD Cert.KernelIdeal.τ).loc Cert.KernelIdeal.main_v23) = Cert.KernelIdeal.Run.W5 m g c (Proc.devRef .tc Cert.KernelIdeal.main_v23)
          ∧ r.2.mem ((c.tc : Thread Cert.KernelIdeal.nD Cert.KernelIdeal.τ).loc Cert.KernelIdeal.main_v24) = Cert.KernelIdeal.Run.W5 m g c (Proc.devRef .tc Cert.KernelIdeal.main_v24)
          ∧ r.2.mem ((c.tc : Thread Cert.KernelIdeal.nD Cert.KernelIdeal.τ).loc Cert.KernelIdeal.main_v25) = Cert.KernelIdeal.Run.W5 m g c (Proc.devRef .tc Cert.KernelIdeal.main_v25)
          ∧ r.2.mem ((c.tc : Thread Cert.KernelIdeal.nD Cert.KernelIdeal.τ).loc Cert.KernelIdeal.main_v10_3) = Cert.KernelIdeal.Run.W5 m g c (Proc.devRef .tc Cert.KernelIdeal.main_v10_3)
          ∧ r.2.mem ((c.tc : Thread Cert.KernelIdeal.nD Cert.KernelIdeal.τ).loc Cert.KernelIdeal.main_v10_4) = Cert.KernelIdeal.Run.W5 m g c (Proc.devRef .tc Cert.KernelIdeal.main_v10_4)
          ∧ r.2.mem ((c.tc : Thread Cert.KernelIdeal.nD Cert.KernelIdeal.τ).loc Cert.KernelIdeal.main_v26) = Cert.KernelIdeal.Run.W5 m g c (Proc.devRef .tc Cert.KernelIdeal.main_v26)
          ∧ r.2.mem ((c.tc : Thread Cert.KernelIdeal.nD Cert.KernelIdeal.τ).loc Cert.KernelIdeal.main_v10_5) = Cert.KernelIdeal.Run.W5 m g c (Proc.devRef .tc Cert.KernelIdeal.main_v10_5)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono (fun _ h c => ⟨
      h.1 c _ (mem_uc main_v12 (by decide)),
      h.1 c _ (mem_uc main_v13 (by decide)),
      h.1 c _ (mem_uc main_v10_0 (by decide)),
      h.1 c _ (mem_uc main_v10_1 (by decide)),
      h.1 c _ (mem_uc main_v10_2 (by decide)),
      h.1 c _ (mem_uc main_v14 (by decide)),
      h.1 c _ (mem_uc main_v15 (by decide)),
      h.1 c _ (mem_uc main_v16 (by decide)),
      h.1 c _ (mem_uc main_v17 (by decide)),
      h.1 c _ (mem_uc main_v18 (by decide)),
      h.1 c _ (mem_uc main_v19 (by decide)),
      h.1 c _ (mem_uc main_v20 (by decide)),
      h.1 c _ (mem_uc main_v21 (by decide)),
      h.1 c _ (mem_uc main_v22 (by decide)),
      h.1 c _ (mem_uc main_v23 (by decide)),
      h.1 c _ (mem_uc main_v24 (by decide)),
      h.1 c _ (mem_uc main_v25 (by decide)),
      h.1 c _ (mem_uc main_v10_3 (by decide)),
      h.1 c _ (mem_uc main_v10_4 (by decide)),
      h.1 c _ (mem_uc main_v26 (by decide)),
      h.1 c _ (mem_uc main_v10_5 (by decide)),
      (h.1 c _ (mem_uc main_arg0 (by decide))).trans (W5_main_arg0 m g c),
      (h.1 c _ (mem_uc main_arg1 (by decide))).trans (W5_main_arg1 m g c),
      (h.1 c _ (mem_uc main_arg2 (by decide))).trans (W5_main_arg2 m g c),
      (h.1 c _ (mem_uc main_arg3 (by decide))).trans (W5_main_arg3 m g c),
      (h.1 c _ (mem_uc main_arg4 (by decide))).trans (W5_main_arg4 m g c),
      (h.1 c _ (mem_uc main_arg5 (by decide))).trans (W5_main_arg5 m g c),
      (h.1 c _ (mem_uc main_arg6 (by decide))).trans (W5_main_arg6 m g c),
      (h.1 c _ (mem_uc main_arg7 (by decide))).trans (W5_main_arg7 m g c),
      (h.1 c _ (mem_uc main_arg8 (by decide))).trans (W5_main_arg8 m g c),
      (h.1 c _ (mem_uc main_arg9 (by decide))).trans (W5_main_arg9 m g c),
      (h.1 c _ (mem_uc main_arg10 (by decide))).trans (W5_main_arg10 m g c)⟩) (final m g)
end

section
open Cert.ReferenceIdeal Cert.ReferenceIdeal.Gen Cert.ReferenceIdeal.Run Cert.ReferenceIdeal.At
/-- The two programs agree on result 1, the output y. -/
theorem same1 (hargs : Agree m m') (c : Dev Cert.KernelIdeal.nD) (nz : NZ (Cert.KernelIdeal.At.argK m c)) :
    (Pipeline.afterTail₀ cfgs (dats m') 0 (V0 m') [hostOps1] c main_v9 : Vec Ideal S2x128x4096 .bf16) = (Cert.KernelIdeal.Run.W5 m g c (Proc.devRef .tc Cert.KernelIdeal.main_v12) : Vec Ideal S2x128x4096 .bf16) := by
  have e := res_v9 m' c
  rw [argR_eq m m' hargs c] at e
  exact e.trans (Cert.KernelIdeal.At.res_v12 m g c nz).symm
/-- The two programs agree on result 2, the tokens' gradient dx. -/
theorem same2 (hargs : Agree m m') (c : Dev Cert.KernelIdeal.nD) (nz : NZ (Cert.KernelIdeal.At.argK m c)) :
    (Pipeline.afterTail₀ cfgs (dats m') 0 (V0 m') [hostOps1] c main_v10 : Vec Ideal S2x128x4096 .bf16) = (Cert.KernelIdeal.Run.W5 m g c (Proc.devRef .tc Cert.KernelIdeal.main_v13) : Vec Ideal S2x128x4096 .bf16) := by
  have e := res_v10 m' c
  rw [argR_eq m m' hargs c] at e
  exact e.trans (Cert.KernelIdeal.At.res_v13 m g c nz).symm
/-- The two programs agree on result 3, the gate weights' gradient. -/
theorem same3 (hargs : Agree m m') (c : Dev Cert.KernelIdeal.nD) (nz : NZ (Cert.KernelIdeal.At.argK m c)) :
    ((dats m' 0 c).arrAt 13 cfg0.N : Vec Ideal S4096x14336 .bf16) = (Cert.KernelIdeal.Run.W5 m g c (Proc.devRef .tc Cert.KernelIdeal.main_v10_0) : Vec Ideal S4096x14336 .bf16) := by
  have e := arr13 m' c
  rw [argR_eq m m' hargs c] at e
  exact e.trans (Cert.KernelIdeal.At.res_v10_0 m g c nz).symm
/-- The two programs agree on result 4, the up weights' gradient. -/
theorem same4 (hargs : Agree m m') (c : Dev Cert.KernelIdeal.nD) (nz : NZ (Cert.KernelIdeal.At.argK m c)) :
    ((dats m' 0 c).arrAt 14 cfg0.N : Vec Ideal S4096x14336 .bf16) = (Cert.KernelIdeal.Run.W5 m g c (Proc.devRef .tc Cert.KernelIdeal.main_v10_1) : Vec Ideal S4096x14336 .bf16) := by
  have e := arr14 m' c
  rw [argR_eq m m' hargs c] at e
  exact e.trans (Cert.KernelIdeal.At.res_v10_1 m g c nz).symm
/-- The two programs agree on result 5, the down weights' gradient. -/
theorem same5 (hargs : Agree m m') (c : Dev Cert.KernelIdeal.nD) (nz : NZ (Cert.KernelIdeal.At.argK m c)) :
    ((dats m' 0 c).arrAt 15 cfg0.N : Vec Ideal S14336x4096 .bf16) = (Cert.KernelIdeal.Run.W5 m g c (Proc.devRef .tc Cert.KernelIdeal.main_v10_2) : Vec Ideal S14336x4096 .bf16) := by
  have e := arr15 m' c
  rw [argR_eq m m' hargs c] at e
  exact e.trans (Cert.KernelIdeal.At.res_v10_2 m g c nz).symm
/-- The two programs agree on result 6, the gate steps' gradient. -/
theorem same6 (hargs : Agree m m') (c : Dev Cert.KernelIdeal.nD) (nz : NZ (Cert.KernelIdeal.At.argK m c)) :
    (Pipeline.afterTail₀ cfgs (dats m') 0 (V0 m') [hostOps1] c main_v11 : Vec Ideal S14336 .f32) = (Cert.KernelIdeal.Run.W5 m g c (Proc.devRef .tc Cert.KernelIdeal.main_v14) : Vec Ideal S14336 .f32) := by
  have e := res_v11 m' c
  rw [argR_eq m m' hargs c] at e
  exact e.trans (Cert.KernelIdeal.At.res_v14 m g c nz).symm
/-- The two programs agree on result 7, the up steps' gradient. -/
theorem same7 (hargs : Agree m m') (c : Dev Cert.KernelIdeal.nD) (nz : NZ (Cert.KernelIdeal.At.argK m c)) :
    (Pipeline.afterTail₀ cfgs (dats m') 0 (V0 m') [hostOps1] c main_v12 : Vec Ideal S14336 .f32) = (Cert.KernelIdeal.Run.W5 m g c (Proc.devRef .tc Cert.KernelIdeal.main_v15) : Vec Ideal S14336 .f32) := by
  have e := res_v12 m' c
  rw [argR_eq m m' hargs c] at e
  exact e.trans (Cert.KernelIdeal.At.res_v15 m g c nz).symm
/-- The two programs agree on result 8, the down steps' gradient. -/
theorem same8 (hargs : Agree m m') (c : Dev Cert.KernelIdeal.nD) (nz : NZ (Cert.KernelIdeal.At.argK m c)) :
    (Pipeline.afterTail₀ cfgs (dats m') 0 (V0 m') [hostOps1] c main_v13 : Vec Ideal S4096 .f32) = (Cert.KernelIdeal.Run.W5 m g c (Proc.devRef .tc Cert.KernelIdeal.main_v16) : Vec Ideal S4096 .f32) := by
  have e := res_v13 m' c
  rw [argR_eq m m' hargs c] at e
  exact e.trans (Cert.KernelIdeal.At.res_v16 m g c nz).symm
/-- The two programs agree on result 9, the first activation step's gradient. -/
theorem same9 (hargs : Agree m m') (c : Dev Cert.KernelIdeal.nD) (nz : NZ (Cert.KernelIdeal.At.argK m c)) :
    (Pipeline.afterTail₀ cfgs (dats m') 0 (V0 m') [hostOps1] c main_v14 : Vec Ideal S_ .f32) = (Cert.KernelIdeal.Run.W5 m g c (Proc.devRef .tc Cert.KernelIdeal.main_v17) : Vec Ideal S_ .f32) := by
  have e := res_v14 m' c
  rw [argR_eq m m' hargs c] at e
  exact e.trans (Cert.KernelIdeal.At.res_v17 m g c nz).symm
/-- The two programs agree on result 10, its rounding part, by token. -/
theorem same10 (hargs : Agree m m') (c : Dev Cert.KernelIdeal.nD) (nz : NZ (Cert.KernelIdeal.At.argK m c)) :
    (Pipeline.afterTail₀ cfgs (dats m') 0 (V0 m') [hostOps1] c main_v15 : Vec Ideal S2x128 .f32) = (Cert.KernelIdeal.Run.W5 m g c (Proc.devRef .tc Cert.KernelIdeal.main_v18) : Vec Ideal S2x128 .f32) := by
  have e := res_v15 m' c
  rw [argR_eq m m' hargs c] at e
  exact e.trans (Cert.KernelIdeal.At.res_v18 m g c nz).symm
/-- The two programs agree on result 11, its clipping part, by token. -/
theorem same11 (hargs : Agree m m') (c : Dev Cert.KernelIdeal.nD) (nz : NZ (Cert.KernelIdeal.At.argK m c)) :
    (Pipeline.afterTail₀ cfgs (dats m') 0 (V0 m') [hostOps1] c main_v16 : Vec Ideal S2x128 .f32) = (Cert.KernelIdeal.Run.W5 m g c (Proc.devRef .tc Cert.KernelIdeal.main_v19) : Vec Ideal S2x128 .f32) := by
  have e := res_v16 m' c
  rw [argR_eq m m' hargs c] at e
  exact e.trans (Cert.KernelIdeal.At.res_v19 m g c nz).symm
/-- The two programs agree on result 12, the second activation step's gradient. -/
theorem same12 (hargs : Agree m m') (c : Dev Cert.KernelIdeal.nD) (nz : NZ (Cert.KernelIdeal.At.argK m c)) :
    (Pipeline.afterTail₀ cfgs (dats m') 0 (V0 m') [hostOps1] c main_v17 : Vec Ideal S_ .f32) = (Cert.KernelIdeal.Run.W5 m g c (Proc.devRef .tc Cert.KernelIdeal.main_v20) : Vec Ideal S_ .f32) := by
  have e := res_v17 m' c
  rw [argR_eq m m' hargs c] at e
  exact e.trans (Cert.KernelIdeal.At.res_v20 m g c nz).symm
/-- The two programs agree on result 13, the magnitude of its rounding part, by token. -/
theorem same13 (hargs : Agree m m') (c : Dev Cert.KernelIdeal.nD) (nz : NZ (Cert.KernelIdeal.At.argK m c)) :
    (Pipeline.afterTail₀ cfgs (dats m') 0 (V0 m') [hostOps1] c main_v18 : Vec Ideal S2x128 .f32) = (Cert.KernelIdeal.Run.W5 m g c (Proc.devRef .tc Cert.KernelIdeal.main_v21) : Vec Ideal S2x128 .f32) := by
  have e := res_v18 m' c
  rw [argR_eq m m' hargs c] at e
  exact e.trans (Cert.KernelIdeal.At.res_v21 m g c nz).symm
/-- The two programs agree on result 14, its clipping part, by token. -/
theorem same14 (hargs : Agree m m') (c : Dev Cert.KernelIdeal.nD) (nz : NZ (Cert.KernelIdeal.At.argK m c)) :
    (Pipeline.afterTail₀ cfgs (dats m') 0 (V0 m') [hostOps1] c main_v19 : Vec Ideal S2x128 .f32) = (Cert.KernelIdeal.Run.W5 m g c (Proc.devRef .tc Cert.KernelIdeal.main_v22) : Vec Ideal S2x128 .f32) := by
  have e := res_v19 m' c
  rw [argR_eq m m' hargs c] at e
  exact e.trans (Cert.KernelIdeal.At.res_v22 m g c nz).symm
/-- The two programs agree on result 15, the norm weight's gradient. -/
theorem same15 (hargs : Agree m m') (c : Dev Cert.KernelIdeal.nD) (nz : NZ (Cert.KernelIdeal.At.argK m c)) :
    (Pipeline.afterTail₀ cfgs (dats m') 0 (V0 m') [hostOps1] c main_v20 : Vec Ideal S4096 .f32) = (Cert.KernelIdeal.Run.W5 m g c (Proc.devRef .tc Cert.KernelIdeal.main_v23) : Vec Ideal S4096 .f32) := by
  have e := res_v20 m' c
  rw [argR_eq m m' hargs c] at e
  exact e.trans (Cert.KernelIdeal.At.res_v23 m g c nz).symm
/-- The two programs agree on result 16, the mean product of the norm's backward pass. -/
theorem same16 (hargs : Agree m m') (c : Dev Cert.KernelIdeal.nD) (nz : NZ (Cert.KernelIdeal.At.argK m c)) :
    (Pipeline.afterTail₀ cfgs (dats m') 0 (V0 m') [hostOps1] c main_v21 : Vec Ideal S2x128 .f32) = (Cert.KernelIdeal.Run.W5 m g c (Proc.devRef .tc Cert.KernelIdeal.main_v24) : Vec Ideal S2x128 .f32) := by
  have e := res_v21 m' c
  rw [argR_eq m m' hargs c] at e
  exact e.trans (Cert.KernelIdeal.At.res_v24 m g c nz).symm
/-- The two programs agree on result 17, the normed tokens' codes. -/
theorem same17 (hargs : Agree m m') (c : Dev Cert.KernelIdeal.nD) (nz : NZ (Cert.KernelIdeal.At.argK m c)) :
    (Pipeline.afterTail₀ cfgs (dats m') 0 (V0 m') [hostOps1] c main_v22 : Vec Ideal S2x128x4096 .fp8e4m3) = (Cert.KernelIdeal.Run.W5 m g c (Proc.devRef .tc Cert.KernelIdeal.main_v25) : Vec Ideal S2x128x4096 .fp8e4m3) := by
  have e := res_v22 m' c
  rw [argR_eq m m' hargs c] at e
  exact e.trans (Cert.KernelIdeal.At.res_v25 m g c nz).symm
/-- The two programs agree on result 18, the gate's codes. -/
theorem same18 (hargs : Agree m m') (c : Dev Cert.KernelIdeal.nD) (nz : NZ (Cert.KernelIdeal.At.argK m c)) :
    ((dats m' 0 c).arrAt 28 cfg0.N : Vec Ideal S4096x14336 .i8) = (Cert.KernelIdeal.Run.W5 m g c (Proc.devRef .tc Cert.KernelIdeal.main_v10_3) : Vec Ideal S4096x14336 .i8) := by
  have e := arr28 m' c
  rw [argR_eq m m' hargs c] at e
  exact e.trans (Cert.KernelIdeal.At.res_v10_3 m g c nz).symm
/-- The two programs agree on result 19, the up projection's codes. -/
theorem same19 (hargs : Agree m m') (c : Dev Cert.KernelIdeal.nD) (nz : NZ (Cert.KernelIdeal.At.argK m c)) :
    ((dats m' 0 c).arrAt 29 cfg0.N : Vec Ideal S4096x14336 .i8) = (Cert.KernelIdeal.Run.W5 m g c (Proc.devRef .tc Cert.KernelIdeal.main_v10_4) : Vec Ideal S4096x14336 .i8) := by
  have e := arr29 m' c
  rw [argR_eq m m' hargs c] at e
  exact e.trans (Cert.KernelIdeal.At.res_v10_4 m g c nz).symm
/-- The two programs agree on result 20, the hidden activation's codes. -/
theorem same20 (hargs : Agree m m') (c : Dev Cert.KernelIdeal.nD) (nz : NZ (Cert.KernelIdeal.At.argK m c)) :
    (Pipeline.afterTail₀ cfgs (dats m') 0 (V0 m') [hostOps1] c main_v23 : Vec Ideal S2x128x14336 .fp8e4m3) = (Cert.KernelIdeal.Run.W5 m g c (Proc.devRef .tc Cert.KernelIdeal.main_v26) : Vec Ideal S2x128x14336 .fp8e4m3) := by
  have e := res_v23 m' c
  rw [argR_eq m m' hargs c] at e
  exact e.trans (Cert.KernelIdeal.At.res_v26 m g c nz).symm
/-- The two programs agree on result 21, the down projection's codes. -/
theorem same21 (hargs : Agree m m') (c : Dev Cert.KernelIdeal.nD) (nz : NZ (Cert.KernelIdeal.At.argK m c)) :
    ((dats m' 0 c).arrAt 31 cfg0.N : Vec Ideal S14336x4096 .i8) = (Cert.KernelIdeal.Run.W5 m g c (Proc.devRef .tc Cert.KernelIdeal.main_v10_5) : Vec Ideal S14336x4096 .i8) := by
  have e := arr31 m' c
  rw [argR_eq m m' hargs c] at e
  exact e.trans (Cert.KernelIdeal.At.res_v10_5 m g c nz).symm

set_option maxHeartbeats 2000000 in
/-- The reference's run: its results are the kernel's, its arguments unchanged. -/
theorem reference (hargs : Agree m m') (nz : ∀ c, NZ (Cert.KernelIdeal.At.argK m c)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = Cert.KernelIdeal.Run.W5 m g c (Proc.devRef .tc Cert.KernelIdeal.main_v12)
          ∧ r.2.mem ((c.tc : Thread Cert.ReferenceIdeal.nD Cert.ReferenceIdeal.τ).loc Cert.ReferenceIdeal.main_v10) = Cert.KernelIdeal.Run.W5 m g c (Proc.devRef .tc Cert.KernelIdeal.main_v13)
          ∧ r.2.mem ((c.tc : Thread Cert.ReferenceIdeal.nD Cert.ReferenceIdeal.τ).loc Cert.ReferenceIdeal.main_v8_2) = Cert.KernelIdeal.Run.W5 m g c (Proc.devRef .tc Cert.KernelIdeal.main_v10_0)
          ∧ r.2.mem ((c.tc : Thread Cert.ReferenceIdeal.nD Cert.ReferenceIdeal.τ).loc Cert.ReferenceIdeal.main_v8_3) = Cert.KernelIdeal.Run.W5 m g c (Proc.devRef .tc Cert.KernelIdeal.main_v10_1)
          ∧ r.2.mem ((c.tc : Thread Cert.ReferenceIdeal.nD Cert.ReferenceIdeal.τ).loc Cert.ReferenceIdeal.main_v8_4) = Cert.KernelIdeal.Run.W5 m g c (Proc.devRef .tc Cert.KernelIdeal.main_v10_2)
          ∧ r.2.mem ((c.tc : Thread Cert.ReferenceIdeal.nD Cert.ReferenceIdeal.τ).loc Cert.ReferenceIdeal.main_v11) = Cert.KernelIdeal.Run.W5 m g c (Proc.devRef .tc Cert.KernelIdeal.main_v14)
          ∧ r.2.mem ((c.tc : Thread Cert.ReferenceIdeal.nD Cert.ReferenceIdeal.τ).loc Cert.ReferenceIdeal.main_v12) = Cert.KernelIdeal.Run.W5 m g c (Proc.devRef .tc Cert.KernelIdeal.main_v15)
          ∧ r.2.mem ((c.tc : Thread Cert.ReferenceIdeal.nD Cert.ReferenceIdeal.τ).loc Cert.ReferenceIdeal.main_v13) = Cert.KernelIdeal.Run.W5 m g c (Proc.devRef .tc Cert.KernelIdeal.main_v16)
          ∧ r.2.mem ((c.tc : Thread Cert.ReferenceIdeal.nD Cert.ReferenceIdeal.τ).loc Cert.ReferenceIdeal.main_v14) = Cert.KernelIdeal.Run.W5 m g c (Proc.devRef .tc Cert.KernelIdeal.main_v17)
          ∧ r.2.mem ((c.tc : Thread Cert.ReferenceIdeal.nD Cert.ReferenceIdeal.τ).loc Cert.ReferenceIdeal.main_v15) = Cert.KernelIdeal.Run.W5 m g c (Proc.devRef .tc Cert.KernelIdeal.main_v18)
          ∧ r.2.mem ((c.tc : Thread Cert.ReferenceIdeal.nD Cert.ReferenceIdeal.τ).loc Cert.ReferenceIdeal.main_v16) = Cert.KernelIdeal.Run.W5 m g c (Proc.devRef .tc Cert.KernelIdeal.main_v19)
          ∧ r.2.mem ((c.tc : Thread Cert.ReferenceIdeal.nD Cert.ReferenceIdeal.τ).loc Cert.ReferenceIdeal.main_v17) = Cert.KernelIdeal.Run.W5 m g c (Proc.devRef .tc Cert.KernelIdeal.main_v20)
          ∧ r.2.mem ((c.tc : Thread Cert.ReferenceIdeal.nD Cert.ReferenceIdeal.τ).loc Cert.ReferenceIdeal.main_v18) = Cert.KernelIdeal.Run.W5 m g c (Proc.devRef .tc Cert.KernelIdeal.main_v21)
          ∧ r.2.mem ((c.tc : Thread Cert.ReferenceIdeal.nD Cert.ReferenceIdeal.τ).loc Cert.ReferenceIdeal.main_v19) = Cert.KernelIdeal.Run.W5 m g c (Proc.devRef .tc Cert.KernelIdeal.main_v22)
          ∧ r.2.mem ((c.tc : Thread Cert.ReferenceIdeal.nD Cert.ReferenceIdeal.τ).loc Cert.ReferenceIdeal.main_v20) = Cert.KernelIdeal.Run.W5 m g c (Proc.devRef .tc Cert.KernelIdeal.main_v23)
          ∧ r.2.mem ((c.tc : Thread Cert.ReferenceIdeal.nD Cert.ReferenceIdeal.τ).loc Cert.ReferenceIdeal.main_v21) = Cert.KernelIdeal.Run.W5 m g c (Proc.devRef .tc Cert.KernelIdeal.main_v24)
          ∧ r.2.mem ((c.tc : Thread Cert.ReferenceIdeal.nD Cert.ReferenceIdeal.τ).loc Cert.ReferenceIdeal.main_v22) = Cert.KernelIdeal.Run.W5 m g c (Proc.devRef .tc Cert.KernelIdeal.main_v25)
          ∧ r.2.mem ((c.tc : Thread Cert.ReferenceIdeal.nD Cert.ReferenceIdeal.τ).loc Cert.ReferenceIdeal.main_v8_17) = Cert.KernelIdeal.Run.W5 m g c (Proc.devRef .tc Cert.KernelIdeal.main_v10_3)
          ∧ r.2.mem ((c.tc : Thread Cert.ReferenceIdeal.nD Cert.ReferenceIdeal.τ).loc Cert.ReferenceIdeal.main_v8_18) = Cert.KernelIdeal.Run.W5 m g c (Proc.devRef .tc Cert.KernelIdeal.main_v10_4)
          ∧ r.2.mem ((c.tc : Thread Cert.ReferenceIdeal.nD Cert.ReferenceIdeal.τ).loc Cert.ReferenceIdeal.main_v23) = Cert.KernelIdeal.Run.W5 m g c (Proc.devRef .tc Cert.KernelIdeal.main_v26)
          ∧ r.2.mem ((c.tc : Thread Cert.ReferenceIdeal.nD Cert.ReferenceIdeal.τ).loc Cert.ReferenceIdeal.main_v8_20) = Cert.KernelIdeal.Run.W5 m g c (Proc.devRef .tc Cert.KernelIdeal.main_v10_5)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)) :=
  (θ_run Cert.ReferenceIdeal.defs _ _).mono (fun _ h c => ⟨
      ((h c).2 main_v9 (Pipeline.mem_restRefs_of main_v9 (by decide) (by decide))).trans (same1 m g m' hargs c (nz c)),
      ((h c).2 main_v10 (Pipeline.mem_restRefs_of main_v10 (by decide) (by decide))).trans (same2 m g m' hargs c (nz c)),
      ((h c).1 13).trans (same3 m g m' hargs c (nz c)),
      ((h c).1 14).trans (same4 m g m' hargs c (nz c)),
      ((h c).1 15).trans (same5 m g m' hargs c (nz c)),
      ((h c).2 main_v11 (Pipeline.mem_restRefs_of main_v11 (by decide) (by decide))).trans (same6 m g m' hargs c (nz c)),
      ((h c).2 main_v12 (Pipeline.mem_restRefs_of main_v12 (by decide) (by decide))).trans (same7 m g m' hargs c (nz c)),
      ((h c).2 main_v13 (Pipeline.mem_restRefs_of main_v13 (by decide) (by decide))).trans (same8 m g m' hargs c (nz c)),
      ((h c).2 main_v14 (Pipeline.mem_restRefs_of main_v14 (by decide) (by decide))).trans (same9 m g m' hargs c (nz c)),
      ((h c).2 main_v15 (Pipeline.mem_restRefs_of main_v15 (by decide) (by decide))).trans (same10 m g m' hargs c (nz c)),
      ((h c).2 main_v16 (Pipeline.mem_restRefs_of main_v16 (by decide) (by decide))).trans (same11 m g m' hargs c (nz c)),
      ((h c).2 main_v17 (Pipeline.mem_restRefs_of main_v17 (by decide) (by decide))).trans (same12 m g m' hargs c (nz c)),
      ((h c).2 main_v18 (Pipeline.mem_restRefs_of main_v18 (by decide) (by decide))).trans (same13 m g m' hargs c (nz c)),
      ((h c).2 main_v19 (Pipeline.mem_restRefs_of main_v19 (by decide) (by decide))).trans (same14 m g m' hargs c (nz c)),
      ((h c).2 main_v20 (Pipeline.mem_restRefs_of main_v20 (by decide) (by decide))).trans (same15 m g m' hargs c (nz c)),
      ((h c).2 main_v21 (Pipeline.mem_restRefs_of main_v21 (by decide) (by decide))).trans (same16 m g m' hargs c (nz c)),
      ((h c).2 main_v22 (Pipeline.mem_restRefs_of main_v22 (by decide) (by decide))).trans (same17 m g m' hargs c (nz c)),
      ((h c).1 28).trans (same18 m g m' hargs c (nz c)),
      ((h c).1 29).trans (same19 m g m' hargs c (nz c)),
      ((h c).2 main_v23 (Pipeline.mem_restRefs_of main_v23 (by decide) (by decide))).trans (same20 m g m' hargs c (nz c)),
      ((h c).1 31).trans (same21 m g m' hargs c (nz c)),
      ((h c).2 main_arg0 (Pipeline.mem_restRefs_of main_arg0 (by decide) (by decide))).trans (W_main_arg0 m' (dats m') c),
      ((h c).2 main_arg1 (Pipeline.mem_restRefs_of main_arg1 (by decide) (by decide))).trans (W_main_arg1 m' (dats m') c),
      ((h c).2 main_arg2 (Pipeline.mem_restRefs_of main_arg2 (by decide) (by decide))).trans (W_main_arg2 m' (dats m') c),
      ((h c).1 5).trans (((dats m' 0 c).arrAt_in 5 rfl _).trans ((A_eq m' c 5).trans (V_main_arg3 m' c))),
      ((h c).1 6).trans (((dats m' 0 c).arrAt_in 6 rfl _).trans ((A_eq m' c 6).trans (V_main_arg4 m' c))),
      ((h c).1 7).trans (((dats m' 0 c).arrAt_in 7 rfl _).trans ((A_eq m' c 7).trans (V_main_arg5 m' c))),
      ((h c).2 main_arg6 (Pipeline.mem_restRefs_of main_arg6 (by decide) (by decide))).trans (W_main_arg6 m' (dats m') c),
      ((h c).2 main_arg7 (Pipeline.mem_restRefs_of main_arg7 (by decide) (by decide))).trans (W_main_arg7 m' (dats m') c),
      ((h c).2 main_arg8 (Pipeline.mem_restRefs_of main_arg8 (by decide) (by decide))).trans (W_main_arg8 m' (dats m') c),
      ((h c).2 main_arg9 (Pipeline.mem_restRefs_of main_arg9 (by decide) (by decide))).trans (W_main_arg9 m' (dats m') c),
      ((h c).2 main_arg10 (Pipeline.mem_restRefs_of main_arg10 (by decide) (by decide))).trans (W_main_arg10 m' (dats m') c)⟩) (run_main m' g')
end

/-- The two programs, over the extended reals, end with equal results. -/
theorem algebraic [Cert.Pre_scales_nonzero.Facts] : Cert.algebraic_KernelIdeal_ReferenceIdeal_pre_scales_nonzero (hKernelIdeal := Cert.KernelIdeal.Gen.facts) (hReferenceIdeal := Cert.ReferenceIdeal.Gen.facts) :=
  fun m g m' g' hpre hargs => ⟨fun c => Cert.KernelIdeal.Run.W5 m g c (Proc.devRef .tc Cert.KernelIdeal.main_v12), fun c => Cert.KernelIdeal.Run.W5 m g c (Proc.devRef .tc Cert.KernelIdeal.main_v13), fun c => Cert.KernelIdeal.Run.W5 m g c (Proc.devRef .tc Cert.KernelIdeal.main_v10_0), fun c => Cert.KernelIdeal.Run.W5 m g c (Proc.devRef .tc Cert.KernelIdeal.main_v10_1), fun c => Cert.KernelIdeal.Run.W5 m g c (Proc.devRef .tc Cert.KernelIdeal.main_v10_2), fun c => Cert.KernelIdeal.Run.W5 m g c (Proc.devRef .tc Cert.KernelIdeal.main_v14), fun c => Cert.KernelIdeal.Run.W5 m g c (Proc.devRef .tc Cert.KernelIdeal.main_v15), fun c => Cert.KernelIdeal.Run.W5 m g c (Proc.devRef .tc Cert.KernelIdeal.main_v16), fun c => Cert.KernelIdeal.Run.W5 m g c (Proc.devRef .tc Cert.KernelIdeal.main_v17), fun c => Cert.KernelIdeal.Run.W5 m g c (Proc.devRef .tc Cert.KernelIdeal.main_v18), fun c => Cert.KernelIdeal.Run.W5 m g c (Proc.devRef .tc Cert.KernelIdeal.main_v19), fun c => Cert.KernelIdeal.Run.W5 m g c (Proc.devRef .tc Cert.KernelIdeal.main_v20), fun c => Cert.KernelIdeal.Run.W5 m g c (Proc.devRef .tc Cert.KernelIdeal.main_v21), fun c => Cert.KernelIdeal.Run.W5 m g c (Proc.devRef .tc Cert.KernelIdeal.main_v22), fun c => Cert.KernelIdeal.Run.W5 m g c (Proc.devRef .tc Cert.KernelIdeal.main_v23), fun c => Cert.KernelIdeal.Run.W5 m g c (Proc.devRef .tc Cert.KernelIdeal.main_v24), fun c => Cert.KernelIdeal.Run.W5 m g c (Proc.devRef .tc Cert.KernelIdeal.main_v25), fun c => Cert.KernelIdeal.Run.W5 m g c (Proc.devRef .tc Cert.KernelIdeal.main_v10_3), fun c => Cert.KernelIdeal.Run.W5 m g c (Proc.devRef .tc Cert.KernelIdeal.main_v10_4), fun c => Cert.KernelIdeal.Run.W5 m g c (Proc.devRef .tc Cert.KernelIdeal.main_v26), fun c => Cert.KernelIdeal.Run.W5 m g c (Proc.devRef .tc Cert.KernelIdeal.main_v10_5),
    kernel m g, reference m g m' g' hargs (nz m hpre)⟩

end Cert.Value

end
-- ==== Proof.lean ====
/- The proof of the certificate: the three programs run to the end, change no argument and leave every
   semaphore counter at zero; the idealized kernel is the kernel with one rule applied; and over the extended reals
   the kernel's results are the reference's wherever no weight step is zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frame
public import proofs.«01_k».proof.Proof.K.Frame
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Args.facts,
  fun m g _ => Cert.Kernel.Run.frame m g,
  fun m g _ => Cert.KernelIdeal.Run.frame m g,
  fun m g _ => Cert.KernelIdeal.Run.frame m g,
  fun m g _ => Cert.ReferenceIdeal.Run.frame m g,
  fun m g _ => Cert.ReferenceIdeal.Run.frame m g,
  ⟨IdealRules.sign_bit.statement _ _, IdealRules.sign_bit.statement _ _⟩,
  haveI := Cert.Args.facts
  Cert.Value.algebraic⟩

end Cert.Proof

end
